-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRIdeal (m : (ℓ : Loc Cert.InDwRIdeal.nD Cert.InDwRIdeal.τ Cert.InDwRIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRIdeal (m : (ℓ : Loc Cert.DownDwRIdeal.nD Cert.DownDwRIdeal.τ Cert.DownDwRIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRIdeal (m : (ℓ : Loc Cert.GateDxRIdeal.nD Cert.GateDxRIdeal.τ Cert.GateDxRIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRIdeal (m : (ℓ : Loc Cert.UpDxRIdeal.nD Cert.UpDxRIdeal.τ Cert.UpDxRIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_finite [hPre_finite : Cert.Pre_finite.Facts] (m : (ℓ : Loc Cert.GluIdeal.nD Cert.GluIdeal.τ Cert.GluIdeal.sig) → Buf (Elt Ideal) ℓ) : Prop :=
  ∀ c : Dev Cert.GluIdeal.nD,
    (Cert.Pre_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4))) = (fun _ => 1#1)

def Pre_GluRIdeal (m : (ℓ : Loc Cert.GluRIdeal.nD Cert.GluRIdeal.τ Cert.GluRIdeal.sig) → Buf (Elt Ideal) ℓ) : Prop :=
  True

def Pre_GluRIdeal_finite [hPre_finite : Cert.Pre_finite.Facts] (m : (ℓ : Loc Cert.GluRIdeal.nD Cert.GluRIdeal.τ Cert.GluRIdeal.sig) → Buf (Elt Ideal) ℓ) : Prop :=
  ∀ c : Dev Cert.GluRIdeal.nD,
    (Cert.Pre_finite.fn (F := Ideal) (m ((c.tc : Thread Cert.GluRIdeal.nD Cert.GluRIdeal.τ).loc Cert.GluRIdeal.main_arg0)) (m ((c.tc : Thread Cert.GluRIdeal.nD Cert.GluRIdeal.τ).loc Cert.GluRIdeal.main_arg1)) (m ((c.tc : Thread Cert.GluRIdeal.nD Cert.GluRIdeal.τ).loc Cert.GluRIdeal.main_arg2)) (m ((c.tc : Thread Cert.GluRIdeal.nD Cert.GluRIdeal.τ).loc Cert.GluRIdeal.main_arg3)) (m ((c.tc : Thread Cert.GluRIdeal.nD Cert.GluRIdeal.τ).loc Cert.GluRIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRIdeal (m : (ℓ : Loc Cert.ProjRIdeal.nD Cert.ProjRIdeal.τ Cert.ProjRIdeal.sig) → Buf (Elt Ideal) ℓ) : Prop :=
  True

def Pre_ProjInDw (m : (ℓ : Loc Cert.ProjInDw.nD Cert.ProjInDw.τ Cert.ProjInDw.sig) → Buf (Elt Bits) ℓ) : Prop :=
  True

def Pre_ProjInDwIdeal (m : (ℓ : Loc Cert.ProjInDwIdeal.nD Cert.ProjInDwIdeal.τ Cert.ProjInDwIdeal.sig) → Buf (Elt Ideal) ℓ) : Prop :=
  True

def Pre_ProjInDwRIdeal (m : (ℓ : Loc Cert.ProjInDwRIdeal.nD Cert.ProjInDwRIdeal.τ Cert.ProjInDwRIdeal.sig) → Buf (Elt Ideal) ℓ) : Prop :=
  True

def Pre_ProjInDx (m : (ℓ : Loc Cert.ProjInDx.nD Cert.ProjInDx.τ Cert.ProjInDx.sig) → Buf (Elt Bits) ℓ) : Prop :=
  True

def Pre_ProjInDxIdeal (m : (ℓ : Loc Cert.ProjInDxIdeal.nD Cert.ProjInDxIdeal.τ Cert.ProjInDxIdeal.sig) → Buf (Elt Ideal) ℓ) : Prop :=
  True

def Pre_ProjInDxRIdeal (m : (ℓ : Loc Cert.ProjInDxRIdeal.nD Cert.ProjInDxRIdeal.τ Cert.ProjInDxRIdeal.sig) → Buf (Elt Ideal) ℓ) : Prop :=
  True

def Pre_ProjOutDw (m : (ℓ : Loc Cert.ProjOutDw.nD Cert.ProjOutDw.τ Cert.ProjOutDw.sig) → Buf (Elt Bits) ℓ) : Prop :=
  True

def Pre_ProjOutDwIdeal (m : (ℓ : Loc Cert.ProjOutDwIdeal.nD Cert.ProjOutDwIdeal.τ Cert.ProjOutDwIdeal.sig) → Buf (Elt Ideal) ℓ) : Prop :=
  True

def Pre_ProjOutDwRIdeal (m : (ℓ : Loc Cert.ProjOutDwRIdeal.nD Cert.ProjOutDwRIdeal.τ Cert.ProjOutDwRIdeal.sig) → Buf (Elt Ideal) ℓ) : Prop :=
  True

def Pre_ProjGluDw (m : (ℓ : Loc Cert.ProjGluDw.nD Cert.ProjGluDw.τ Cert.ProjGluDw.sig) → Buf (Elt Bits) ℓ) : Prop :=
  True

def Pre_ProjGluDwIdeal (m : (ℓ : Loc Cert.ProjGluDwIdeal.nD Cert.ProjGluDwIdeal.τ Cert.ProjGluDwIdeal.sig) → Buf (Elt Ideal) ℓ) : Prop :=
  True

def Pre_ProjGluDwRIdeal (m : (ℓ : Loc Cert.ProjGluDwRIdeal.nD Cert.ProjGluDwRIdeal.τ Cert.ProjGluDwRIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRIdeal (m : (ℓ : Loc Cert.LossRIdeal.nD Cert.LossRIdeal.τ Cert.LossRIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRIdeal (m : (ℓ : Loc Cert.NormBwdRIdeal.nD Cert.NormBwdRIdeal.τ Cert.NormBwdRIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRIdeal (m : (ℓ : Loc Cert.MixBwdRIdeal.nD Cert.MixBwdRIdeal.τ Cert.MixBwdRIdeal.sig) → Buf (Elt Ideal) ℓ) : Prop :=
  True

def Pre_S5Mm (m : (ℓ : Loc Cert.S5Mm.nD Cert.S5Mm.τ Cert.S5Mm.sig) → Buf (Elt Bits) ℓ) : Prop :=
  True

def Pre_S5MmIdeal (m : (ℓ : Loc Cert.S5MmIdeal.nD Cert.S5MmIdeal.τ Cert.S5MmIdeal.sig) → Buf (Elt Ideal) ℓ) : Prop :=
  True

def Pre_S5MmRIdeal (m : (ℓ : Loc Cert.S5MmRIdeal.nD Cert.S5MmRIdeal.τ Cert.S5MmRIdeal.sig) → Buf (Elt Ideal) ℓ) : Prop :=
  True

def Pre_S5Fwd (m : (ℓ : Loc Cert.S5Fwd.nD Cert.S5Fwd.τ Cert.S5Fwd.sig) → Buf (Elt Bits) ℓ) : Prop :=
  True

def Pre_S5FwdIdeal (m : (ℓ : Loc Cert.S5FwdIdeal.nD Cert.S5FwdIdeal.τ Cert.S5FwdIdeal.sig) → Buf (Elt Ideal) ℓ) : Prop :=
  True

def Pre_S5FwdRIdeal (m : (ℓ : Loc Cert.S5FwdRIdeal.nD Cert.S5FwdRIdeal.τ Cert.S5FwdRIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRIdeal [hInDwRIdeal : Cert.InDwRIdeal.Facts] : Prop :=
  ∀ (m : (ℓ : Loc Cert.InDwRIdeal.nD Cert.InDwRIdeal.τ Cert.InDwRIdeal.sig) → Buf (Elt Ideal) ℓ) (g : Dev Cert.InDwRIdeal.nD → PrngReg), Pre_InDwRIdeal m →
    θ_run (Cert.InDwRIdeal.defs (F := Ideal)) (onTc (τ := Cert.InDwRIdeal.τ) (Cert.InDwRIdeal.main (F := Ideal))) ⟨m, fun _ => 0, g⟩ (fun r => (∀ c : Dev Cert.InDwRIdeal.nD,
      r.2.mem ((c.tc : Thread Cert.InDwRIdeal.nD Cert.InDwRIdeal.τ).loc Cert.InDwRIdeal.main_arg0) = m ((c.tc : Thread Cert.InDwRIdeal.nD Cert.InDwRIdeal.τ).loc Cert.InDwRIdeal.main_arg0)
      ∧ r.2.mem ((c.tc : Thread Cert.InDwRIdeal.nD Cert.InDwRIdeal.τ).loc Cert.InDwRIdeal.main_arg1) = m ((c.tc : Thread Cert.InDwRIdeal.nD Cert.InDwRIdeal.τ).loc Cert.InDwRIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRIdeal [hDownDwRIdeal : Cert.DownDwRIdeal.Facts] : Prop :=
  ∀ (m : (ℓ : Loc Cert.DownDwRIdeal.nD Cert.DownDwRIdeal.τ Cert.DownDwRIdeal.sig) → Buf (Elt Ideal) ℓ) (g : Dev Cert.DownDwRIdeal.nD → PrngReg), Pre_DownDwRIdeal m →
    θ_run (Cert.DownDwRIdeal.defs (F := Ideal)) (onTc (τ := Cert.DownDwRIdeal.τ) (Cert.DownDwRIdeal.main (F := Ideal))) ⟨m, fun _ => 0, g⟩ (fun r => (∀ c : Dev Cert.DownDwRIdeal.nD,
      r.2.mem ((c.tc : Thread Cert.DownDwRIdeal.nD Cert.DownDwRIdeal.τ).loc Cert.DownDwRIdeal.main_arg0) = m ((c.tc : Thread Cert.DownDwRIdeal.nD Cert.DownDwRIdeal.τ).loc Cert.DownDwRIdeal.main_arg0)
      ∧ r.2.mem ((c.tc : Thread Cert.DownDwRIdeal.nD Cert.DownDwRIdeal.τ).loc Cert.DownDwRIdeal.main_arg1) = m ((c.tc : Thread Cert.DownDwRIdeal.nD Cert.DownDwRIdeal.τ).loc Cert.DownDwRIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRIdeal [hGateDxRIdeal : Cert.GateDxRIdeal.Facts] : Prop :=
  ∀ (m : (ℓ : Loc Cert.GateDxRIdeal.nD Cert.GateDxRIdeal.τ Cert.GateDxRIdeal.sig) → Buf (Elt Ideal) ℓ) (g : Dev Cert.GateDxRIdeal.nD → PrngReg), Pre_GateDxRIdeal m →
    θ_run (Cert.GateDxRIdeal.defs (F := Ideal)) (onTc (τ := Cert.GateDxRIdeal.τ) (Cert.GateDxRIdeal.main (F := Ideal))) ⟨m, fun _ => 0, g⟩ (fun r => (∀ c : Dev Cert.GateDxRIdeal.nD,
      r.2.mem ((c.tc : Thread Cert.GateDxRIdeal.nD Cert.GateDxRIdeal.τ).loc Cert.GateDxRIdeal.main_arg0) = m ((c.tc : Thread Cert.GateDxRIdeal.nD Cert.GateDxRIdeal.τ).loc Cert.GateDxRIdeal.main_arg0)
      ∧ r.2.mem ((c.tc : Thread Cert.GateDxRIdeal.nD Cert.GateDxRIdeal.τ).loc Cert.GateDxRIdeal.main_arg1) = m ((c.tc : Thread Cert.GateDxRIdeal.nD Cert.GateDxRIdeal.τ).loc Cert.GateDxRIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRIdeal [hUpDxRIdeal : Cert.UpDxRIdeal.Facts] : Prop :=
  ∀ (m : (ℓ : Loc Cert.UpDxRIdeal.nD Cert.UpDxRIdeal.τ Cert.UpDxRIdeal.sig) → Buf (Elt Ideal) ℓ) (g : Dev Cert.UpDxRIdeal.nD → PrngReg), Pre_UpDxRIdeal m →
    θ_run (Cert.UpDxRIdeal.defs (F := Ideal)) (onTc (τ := Cert.UpDxRIdeal.τ) (Cert.UpDxRIdeal.main (F := Ideal))) ⟨m, fun _ => 0, g⟩ (fun r => (∀ c : Dev Cert.UpDxRIdeal.nD,
      r.2.mem ((c.tc : Thread Cert.UpDxRIdeal.nD Cert.UpDxRIdeal.τ).loc Cert.UpDxRIdeal.main_arg0) = m ((c.tc : Thread Cert.UpDxRIdeal.nD Cert.UpDxRIdeal.τ).loc Cert.UpDxRIdeal.main_arg0)
      ∧ r.2.mem ((c.tc : Thread Cert.UpDxRIdeal.nD Cert.UpDxRIdeal.τ).loc Cert.UpDxRIdeal.main_arg1) = m ((c.tc : Thread Cert.UpDxRIdeal.nD Cert.UpDxRIdeal.τ).loc Cert.UpDxRIdeal.main_arg1)
      ∧ r.2.mem ((c.tc : Thread Cert.UpDxRIdeal.nD Cert.UpDxRIdeal.τ).loc Cert.UpDxRIdeal.main_arg2) = m ((c.tc : Thread Cert.UpDxRIdeal.nD Cert.UpDxRIdeal.τ).loc Cert.UpDxRIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluIdeal_pre_finite [hGluIdeal : Cert.GluIdeal.Facts] [hPre_finite : Cert.Pre_finite.Facts] : Prop :=
  ∀ (m : (ℓ : Loc Cert.GluIdeal.nD Cert.GluIdeal.τ Cert.GluIdeal.sig) → Buf (Elt Ideal) ℓ) (g : Dev Cert.GluIdeal.nD → PrngReg), Pre_GluIdeal_finite m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRIdeal [hGluRIdeal : Cert.GluRIdeal.Facts] : Prop :=
  ∀ (m : (ℓ : Loc Cert.GluRIdeal.nD Cert.GluRIdeal.τ Cert.GluRIdeal.sig) → Buf (Elt Ideal) ℓ) (g : Dev Cert.GluRIdeal.nD → PrngReg), Pre_GluRIdeal m →
    θ_run (Cert.GluRIdeal.defs (F := Ideal)) (onTc (τ := Cert.GluRIdeal.τ) (Cert.GluRIdeal.main (F := Ideal))) ⟨m, fun _ => 0, g⟩ (fun r => (∀ c : Dev Cert.GluRIdeal.nD,
      r.2.mem ((c.tc : Thread Cert.GluRIdeal.nD Cert.GluRIdeal.τ).loc Cert.GluRIdeal.main_arg0) = m ((c.tc : Thread Cert.GluRIdeal.nD Cert.GluRIdeal.τ).loc Cert.GluRIdeal.main_arg0)
      ∧ r.2.mem ((c.tc : Thread Cert.GluRIdeal.nD Cert.GluRIdeal.τ).loc Cert.GluRIdeal.main_arg1) = m ((c.tc : Thread Cert.GluRIdeal.nD Cert.GluRIdeal.τ).loc Cert.GluRIdeal.main_arg1)
      ∧ r.2.mem ((c.tc : Thread Cert.GluRIdeal.nD Cert.GluRIdeal.τ).loc Cert.GluRIdeal.main_arg2) = m ((c.tc : Thread Cert.GluRIdeal.nD Cert.GluRIdeal.τ).loc Cert.GluRIdeal.main_arg2)
      ∧ r.2.mem ((c.tc : Thread Cert.GluRIdeal.nD Cert.GluRIdeal.τ).loc Cert.GluRIdeal.main_arg3) = m ((c.tc : Thread Cert.GluRIdeal.nD Cert.GluRIdeal.τ).loc Cert.GluRIdeal.main_arg3)
      ∧ r.2.mem ((c.tc : Thread Cert.GluRIdeal.nD Cert.GluRIdeal.τ).loc Cert.GluRIdeal.main_arg4) = m ((c.tc : Thread Cert.GluRIdeal.nD Cert.GluRIdeal.τ).loc Cert.GluRIdeal.main_arg4))
      ∧ r.2.sem = fun _ => 0)

def quiescent_GluRIdeal_pre_finite [hGluRIdeal : Cert.GluRIdeal.Facts] [hPre_finite : Cert.Pre_finite.Facts] : Prop :=
  ∀ (m : (ℓ : Loc Cert.GluRIdeal.nD Cert.GluRIdeal.τ Cert.GluRIdeal.sig) → Buf (Elt Ideal) ℓ) (g : Dev Cert.GluRIdeal.nD → PrngReg), Pre_GluRIdeal_finite m →
    θ_run (Cert.GluRIdeal.defs (F := Ideal)) (onTc (τ := Cert.GluRIdeal.τ) (Cert.GluRIdeal.main (F := Ideal))) ⟨m, fun _ => 0, g⟩ (fun r => (∀ c : Dev Cert.GluRIdeal.nD,
      r.2.mem ((c.tc : Thread Cert.GluRIdeal.nD Cert.GluRIdeal.τ).loc Cert.GluRIdeal.main_arg0) = m ((c.tc : Thread Cert.GluRIdeal.nD Cert.GluRIdeal.τ).loc Cert.GluRIdeal.main_arg0)
      ∧ r.2.mem ((c.tc : Thread Cert.GluRIdeal.nD Cert.GluRIdeal.τ).loc Cert.GluRIdeal.main_arg1) = m ((c.tc : Thread Cert.GluRIdeal.nD Cert.GluRIdeal.τ).loc Cert.GluRIdeal.main_arg1)
      ∧ r.2.mem ((c.tc : Thread Cert.GluRIdeal.nD Cert.GluRIdeal.τ).loc Cert.GluRIdeal.main_arg2) = m ((c.tc : Thread Cert.GluRIdeal.nD Cert.GluRIdeal.τ).loc Cert.GluRIdeal.main_arg2)
      ∧ r.2.mem ((c.tc : Thread Cert.GluRIdeal.nD Cert.GluRIdeal.τ).loc Cert.GluRIdeal.main_arg3) = m ((c.tc : Thread Cert.GluRIdeal.nD Cert.GluRIdeal.τ).loc Cert.GluRIdeal.main_arg3)
      ∧ r.2.mem ((c.tc : Thread Cert.GluRIdeal.nD Cert.GluRIdeal.τ).loc Cert.GluRIdeal.main_arg4) = m ((c.tc : Thread Cert.GluRIdeal.nD Cert.GluRIdeal.τ).loc Cert.GluRIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRIdeal [hProjRIdeal : Cert.ProjRIdeal.Facts] : Prop :=
  ∀ (m : (ℓ : Loc Cert.ProjRIdeal.nD Cert.ProjRIdeal.τ Cert.ProjRIdeal.sig) → Buf (Elt Ideal) ℓ) (g : Dev Cert.ProjRIdeal.nD → PrngReg), Pre_ProjRIdeal m →
    θ_run (Cert.ProjRIdeal.defs (F := Ideal)) (onTc (τ := Cert.ProjRIdeal.τ) (Cert.ProjRIdeal.main (F := Ideal))) ⟨m, fun _ => 0, g⟩ (fun r => (∀ c : Dev Cert.ProjRIdeal.nD,
      r.2.mem ((c.tc : Thread Cert.ProjRIdeal.nD Cert.ProjRIdeal.τ).loc Cert.ProjRIdeal.main_arg0) = m ((c.tc : Thread Cert.ProjRIdeal.nD Cert.ProjRIdeal.τ).loc Cert.ProjRIdeal.main_arg0)
      ∧ r.2.mem ((c.tc : Thread Cert.ProjRIdeal.nD Cert.ProjRIdeal.τ).loc Cert.ProjRIdeal.main_arg1) = m ((c.tc : Thread Cert.ProjRIdeal.nD Cert.ProjRIdeal.τ).loc Cert.ProjRIdeal.main_arg1)
      ∧ r.2.mem ((c.tc : Thread Cert.ProjRIdeal.nD Cert.ProjRIdeal.τ).loc Cert.ProjRIdeal.main_arg2) = m ((c.tc : Thread Cert.ProjRIdeal.nD Cert.ProjRIdeal.τ).loc Cert.ProjRIdeal.main_arg2)
      ∧ r.2.mem ((c.tc : Thread Cert.ProjRIdeal.nD Cert.ProjRIdeal.τ).loc Cert.ProjRIdeal.main_arg3) = m ((c.tc : Thread Cert.ProjRIdeal.nD Cert.ProjRIdeal.τ).loc Cert.ProjRIdeal.main_arg3)
      ∧ r.2.mem ((c.tc : Thread Cert.ProjRIdeal.nD Cert.ProjRIdeal.τ).loc Cert.ProjRIdeal.main_arg4) = m ((c.tc : Thread Cert.ProjRIdeal.nD Cert.ProjRIdeal.τ).loc Cert.ProjRIdeal.main_arg4)
      ∧ r.2.mem ((c.tc : Thread Cert.ProjRIdeal.nD Cert.ProjRIdeal.τ).loc Cert.ProjRIdeal.main_arg5) = m ((c.tc : Thread Cert.ProjRIdeal.nD Cert.ProjRIdeal.τ).loc Cert.ProjRIdeal.main_arg5)
      ∧ r.2.mem ((c.tc : Thread Cert.ProjRIdeal.nD Cert.ProjRIdeal.τ).loc Cert.ProjRIdeal.main_arg6) = m ((c.tc : Thread Cert.ProjRIdeal.nD Cert.ProjRIdeal.τ).loc Cert.ProjRIdeal.main_arg6)
      ∧ r.2.mem ((c.tc : Thread Cert.ProjRIdeal.nD Cert.ProjRIdeal.τ).loc Cert.ProjRIdeal.main_arg7) = m ((c.tc : Thread Cert.ProjRIdeal.nD Cert.ProjRIdeal.τ).loc Cert.ProjRIdeal.main_arg7)
      ∧ r.2.mem ((c.tc : Thread Cert.ProjRIdeal.nD Cert.ProjRIdeal.τ).loc Cert.ProjRIdeal.main_arg8) = m ((c.tc : Thread Cert.ProjRIdeal.nD Cert.ProjRIdeal.τ).loc Cert.ProjRIdeal.main_arg8)
      ∧ r.2.mem ((c.tc : Thread Cert.ProjRIdeal.nD Cert.ProjRIdeal.τ).loc Cert.ProjRIdeal.main_arg9) = m ((c.tc : Thread Cert.ProjRIdeal.nD Cert.ProjRIdeal.τ).loc Cert.ProjRIdeal.main_arg9))
      ∧ r.2.sem = fun _ => 0)

def quiescent_ProjInDw [hProjInDw : Cert.ProjInDw.Facts] : Prop :=
  ∀ (m : (ℓ : Loc Cert.ProjInDw.nD Cert.ProjInDw.τ Cert.ProjInDw.sig) → Buf (Elt Bits) ℓ) (g : Dev Cert.ProjInDw.nD → PrngReg), Pre_ProjInDw m →
    θ_run (Cert.ProjInDw.defs (F := Bits)) (onTc (τ := Cert.ProjInDw.τ) (Cert.ProjInDw.main (F := Bits))) ⟨m, fun _ => 0, g⟩ (fun r => (∀ c : Dev Cert.ProjInDw.nD,
      r.2.mem ((c.tc : Thread Cert.ProjInDw.nD Cert.ProjInDw.τ).loc Cert.ProjInDw.main_arg0) = m ((c.tc : Thread Cert.ProjInDw.nD Cert.ProjInDw.τ).loc Cert.ProjInDw.main_arg0)
      ∧ r.2.mem ((c.tc : Thread Cert.ProjInDw.nD Cert.ProjInDw.τ).loc Cert.ProjInDw.main_arg1) = m ((c.tc : Thread Cert.ProjInDw.nD Cert.ProjInDw.τ).loc Cert.ProjInDw.main_arg1))
      ∧ r.2.sem = fun _ => 0)

def quiescent_ProjInDwIdeal [hProjInDwIdeal : Cert.ProjInDwIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg), Pre_ProjInDwIdeal m →
    θ_run (Cert.ProjInDwIdeal.defs (F := Ideal)) (onTc (τ := Cert.ProjInDwIdeal.τ) (Cert.ProjInDwIdeal.main (F := Ideal))) ⟨m, fun _ => 0, g⟩ (fun r => (∀ c : Dev Cert.ProjInDwIdeal.nD,
      r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
      ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ r.2.sem = fun _ => 0)

def quiescent_ProjInDwRIdeal [hProjInDwRIdeal : Cert.ProjInDwRIdeal.Facts] : Prop :=
  ∀ (m : (ℓ : Loc Cert.ProjInDwRIdeal.nD Cert.ProjInDwRIdeal.τ Cert.ProjInDwRIdeal.sig) → Buf (Elt Ideal) ℓ) (g : Dev Cert.ProjInDwRIdeal.nD → PrngReg), Pre_ProjInDwRIdeal m →
    θ_run (Cert.ProjInDwRIdeal.defs (F := Ideal)) (onTc (τ := Cert.ProjInDwRIdeal.τ) (Cert.ProjInDwRIdeal.main (F := Ideal))) ⟨m, fun _ => 0, g⟩ (fun r => (∀ c : Dev Cert.ProjInDwRIdeal.nD,
      r.2.mem ((c.tc : Thread Cert.ProjInDwRIdeal.nD Cert.ProjInDwRIdeal.τ).loc Cert.ProjInDwRIdeal.main_arg0) = m ((c.tc : Thread Cert.ProjInDwRIdeal.nD Cert.ProjInDwRIdeal.τ).loc Cert.ProjInDwRIdeal.main_arg0)
      ∧ r.2.mem ((c.tc : Thread Cert.ProjInDwRIdeal.nD Cert.ProjInDwRIdeal.τ).loc Cert.ProjInDwRIdeal.main_arg1) = m ((c.tc : Thread Cert.ProjInDwRIdeal.nD Cert.ProjInDwRIdeal.τ).loc Cert.ProjInDwRIdeal.main_arg1))
      ∧ r.2.sem = fun _ => 0)

def quiescent_ProjInDx [hProjInDx : Cert.ProjInDx.Facts] : Prop :=
  ∀ (m : (ℓ : Loc Cert.ProjInDx.nD Cert.ProjInDx.τ Cert.ProjInDx.sig) → Buf (Elt Bits) ℓ) (g : Dev Cert.ProjInDx.nD → PrngReg), Pre_ProjInDx m →
    θ_run (Cert.ProjInDx.defs (F := Bits)) (onTc (τ := Cert.ProjInDx.τ) (Cert.ProjInDx.main (F := Bits))) ⟨m, fun _ => 0, g⟩ (fun r => (∀ c : Dev Cert.ProjInDx.nD,
      r.2.mem ((c.tc : Thread Cert.ProjInDx.nD Cert.ProjInDx.τ).loc Cert.ProjInDx.main_arg0) = m ((c.tc : Thread Cert.ProjInDx.nD Cert.ProjInDx.τ).loc Cert.ProjInDx.main_arg0)
      ∧ r.2.mem ((c.tc : Thread Cert.ProjInDx.nD Cert.ProjInDx.τ).loc Cert.ProjInDx.main_arg1) = m ((c.tc : Thread Cert.ProjInDx.nD Cert.ProjInDx.τ).loc Cert.ProjInDx.main_arg1))
      ∧ r.2.sem = fun _ => 0)

def quiescent_ProjInDxIdeal [hProjInDxIdeal : Cert.ProjInDxIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1))
      ∧ r.2.sem = fun _ => 0)

def quiescent_ProjInDxRIdeal [hProjInDxRIdeal : Cert.ProjInDxRIdeal.Facts] : Prop :=
  ∀ (m : (ℓ : Loc Cert.ProjInDxRIdeal.nD Cert.ProjInDxRIdeal.τ Cert.ProjInDxRIdeal.sig) → Buf (Elt Ideal) ℓ) (g : Dev Cert.ProjInDxRIdeal.nD → PrngReg), Pre_ProjInDxRIdeal m →
    θ_run (Cert.ProjInDxRIdeal.defs (F := Ideal)) (onTc (τ := Cert.ProjInDxRIdeal.τ) (Cert.ProjInDxRIdeal.main (F := Ideal))) ⟨m, fun _ => 0, g⟩ (fun r => (∀ c : Dev Cert.ProjInDxRIdeal.nD,
      r.2.mem ((c.tc : Thread Cert.ProjInDxRIdeal.nD Cert.ProjInDxRIdeal.τ).loc Cert.ProjInDxRIdeal.main_arg0) = m ((c.tc : Thread Cert.ProjInDxRIdeal.nD Cert.ProjInDxRIdeal.τ).loc Cert.ProjInDxRIdeal.main_arg0)
      ∧ r.2.mem ((c.tc : Thread Cert.ProjInDxRIdeal.nD Cert.ProjInDxRIdeal.τ).loc Cert.ProjInDxRIdeal.main_arg1) = m ((c.tc : Thread Cert.ProjInDxRIdeal.nD Cert.ProjInDxRIdeal.τ).loc Cert.ProjInDxRIdeal.main_arg1))
      ∧ r.2.sem = fun _ => 0)

def quiescent_ProjOutDw [hProjOutDw : Cert.ProjOutDw.Facts] : Prop :=
  ∀ (m : (ℓ : Loc Cert.ProjOutDw.nD Cert.ProjOutDw.τ Cert.ProjOutDw.sig) → Buf (Elt Bits) ℓ) (g : Dev Cert.ProjOutDw.nD → PrngReg), Pre_ProjOutDw m →
    θ_run (Cert.ProjOutDw.defs (F := Bits)) (onTc (τ := Cert.ProjOutDw.τ) (Cert.ProjOutDw.main (F := Bits))) ⟨m, fun _ => 0, g⟩ (fun r => (∀ c : Dev Cert.ProjOutDw.nD,
      r.2.mem ((c.tc : Thread Cert.ProjOutDw.nD Cert.ProjOutDw.τ).loc Cert.ProjOutDw.main_arg0) = m ((c.tc : Thread Cert.ProjOutDw.nD Cert.ProjOutDw.τ).loc Cert.ProjOutDw.main_arg0)
      ∧ r.2.mem ((c.tc : Thread Cert.ProjOutDw.nD Cert.ProjOutDw.τ).loc Cert.ProjOutDw.main_arg1) = m ((c.tc : Thread Cert.ProjOutDw.nD Cert.ProjOutDw.τ).loc Cert.ProjOutDw.main_arg1))
      ∧ r.2.sem = fun _ => 0)

def quiescent_ProjOutDwIdeal [hProjOutDwIdeal : Cert.ProjOutDwIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg), Pre_ProjOutDwIdeal m →
    θ_run (Cert.ProjOutDwIdeal.defs (F := Ideal)) (onTc (τ := Cert.ProjOutDwIdeal.τ) (Cert.ProjOutDwIdeal.main (F := Ideal))) ⟨m, fun _ => 0, g⟩ (fun r => (∀ c : Dev Cert.ProjOutDwIdeal.nD,
      r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
      ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1))
      ∧ r.2.sem = fun _ => 0)

def quiescent_ProjOutDwRIdeal [hProjOutDwRIdeal : Cert.ProjOutDwRIdeal.Facts] : Prop :=
  ∀ (m : (ℓ : Loc Cert.ProjOutDwRIdeal.nD Cert.ProjOutDwRIdeal.τ Cert.ProjOutDwRIdeal.sig) → Buf (Elt Ideal) ℓ) (g : Dev Cert.ProjOutDwRIdeal.nD → PrngReg), Pre_ProjOutDwRIdeal m →
    θ_run (Cert.ProjOutDwRIdeal.defs (F := Ideal)) (onTc (τ := Cert.ProjOutDwRIdeal.τ) (Cert.ProjOutDwRIdeal.main (F := Ideal))) ⟨m, fun _ => 0, g⟩ (fun r => (∀ c : Dev Cert.ProjOutDwRIdeal.nD,
      r.2.mem ((c.tc : Thread Cert.ProjOutDwRIdeal.nD Cert.ProjOutDwRIdeal.τ).loc Cert.ProjOutDwRIdeal.main_arg0) = m ((c.tc : Thread Cert.ProjOutDwRIdeal.nD Cert.ProjOutDwRIdeal.τ).loc Cert.ProjOutDwRIdeal.main_arg0)
      ∧ r.2.mem ((c.tc : Thread Cert.ProjOutDwRIdeal.nD Cert.ProjOutDwRIdeal.τ).loc Cert.ProjOutDwRIdeal.main_arg1) = m ((c.tc : Thread Cert.ProjOutDwRIdeal.nD Cert.ProjOutDwRIdeal.τ).loc Cert.ProjOutDwRIdeal.main_arg1))
      ∧ r.2.sem = fun _ => 0)

def quiescent_ProjGluDw [hProjGluDw : Cert.ProjGluDw.Facts] : Prop :=
  ∀ (m : (ℓ : Loc Cert.ProjGluDw.nD Cert.ProjGluDw.τ Cert.ProjGluDw.sig) → Buf (Elt Bits) ℓ) (g : Dev Cert.ProjGluDw.nD → PrngReg), Pre_ProjGluDw m →
    θ_run (Cert.ProjGluDw.defs (F := Bits)) (onTc (τ := Cert.ProjGluDw.τ) (Cert.ProjGluDw.main (F := Bits))) ⟨m, fun _ => 0, g⟩ (fun r => (∀ c : Dev Cert.ProjGluDw.nD,
      r.2.mem ((c.tc : Thread Cert.ProjGluDw.nD Cert.ProjGluDw.τ).loc Cert.ProjGluDw.main_arg0) = m ((c.tc : Thread Cert.ProjGluDw.nD Cert.ProjGluDw.τ).loc Cert.ProjGluDw.main_arg0)
      ∧ r.2.mem ((c.tc : Thread Cert.ProjGluDw.nD Cert.ProjGluDw.τ).loc Cert.ProjGluDw.main_arg1) = m ((c.tc : Thread Cert.ProjGluDw.nD Cert.ProjGluDw.τ).loc Cert.ProjGluDw.main_arg1))
      ∧ r.2.sem = fun _ => 0)

def quiescent_ProjGluDwIdeal [hProjGluDwIdeal : Cert.ProjGluDwIdeal.Facts] : Prop :=
  ∀ (m : (ℓ : Loc Cert.ProjGluDwIdeal.nD Cert.ProjGluDwIdeal.τ Cert.ProjGluDwIdeal.sig) → Buf (Elt Ideal) ℓ) (g : Dev Cert.ProjGluDwIdeal.nD → PrngReg), Pre_ProjGluDwIdeal m →
    θ_run (Cert.ProjGluDwIdeal.defs (F := Ideal)) (onTc (τ := Cert.ProjGluDwIdeal.τ) (Cert.ProjGluDwIdeal.main (F := Ideal))) ⟨m, fun _ => 0, g⟩ (fun r => (∀ c : Dev Cert.ProjGluDwIdeal.nD,
      r.2.mem ((c.tc : Thread Cert.ProjGluDwIdeal.nD Cert.ProjGluDwIdeal.τ).loc Cert.ProjGluDwIdeal.main_arg0) = m ((c.tc : Thread Cert.ProjGluDwIdeal.nD Cert.ProjGluDwIdeal.τ).loc Cert.ProjGluDwIdeal.main_arg0)
      ∧ r.2.mem ((c.tc : Thread Cert.ProjGluDwIdeal.nD Cert.ProjGluDwIdeal.τ).loc Cert.ProjGluDwIdeal.main_arg1) = m ((c.tc : Thread Cert.ProjGluDwIdeal.nD Cert.ProjGluDwIdeal.τ).loc Cert.ProjGluDwIdeal.main_arg1))
      ∧ r.2.sem = fun _ => 0)

def quiescent_ProjGluDwRIdeal [hProjGluDwRIdeal : Cert.ProjGluDwRIdeal.Facts] : Prop :=
  ∀ (m : (ℓ : Loc Cert.ProjGluDwRIdeal.nD Cert.ProjGluDwRIdeal.τ Cert.ProjGluDwRIdeal.sig) → Buf (Elt Ideal) ℓ) (g : Dev Cert.ProjGluDwRIdeal.nD → PrngReg), Pre_ProjGluDwRIdeal m →
    θ_run (Cert.ProjGluDwRIdeal.defs (F := Ideal)) (onTc (τ := Cert.ProjGluDwRIdeal.τ) (Cert.ProjGluDwRIdeal.main (F := Ideal))) ⟨m, fun _ => 0, g⟩ (fun r => (∀ c : Dev Cert.ProjGluDwRIdeal.nD,
      r.2.mem ((c.tc : Thread Cert.ProjGluDwRIdeal.nD Cert.ProjGluDwRIdeal.τ).loc Cert.ProjGluDwRIdeal.main_arg0) = m ((c.tc : Thread Cert.ProjGluDwRIdeal.nD Cert.ProjGluDwRIdeal.τ).loc Cert.ProjGluDwRIdeal.main_arg0)
      ∧ r.2.mem ((c.tc : Thread Cert.ProjGluDwRIdeal.nD Cert.ProjGluDwRIdeal.τ).loc Cert.ProjGluDwRIdeal.main_arg1) = m ((c.tc : Thread Cert.ProjGluDwRIdeal.nD Cert.ProjGluDwRIdeal.τ).loc Cert.ProjGluDwRIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRIdeal [hNormBwdRIdeal : Cert.NormBwdRIdeal.Facts] : Prop :=
  ∀ (m : (ℓ : Loc Cert.NormBwdRIdeal.nD Cert.NormBwdRIdeal.τ Cert.NormBwdRIdeal.sig) → Buf (Elt Ideal) ℓ) (g : Dev Cert.NormBwdRIdeal.nD → PrngReg), Pre_NormBwdRIdeal m →
    θ_run (Cert.NormBwdRIdeal.defs (F := Ideal)) (onTc (τ := Cert.NormBwdRIdeal.τ) (Cert.NormBwdRIdeal.main (F := Ideal))) ⟨m, fun _ => 0, g⟩ (fun r => (∀ c : Dev Cert.NormBwdRIdeal.nD,
      r.2.mem ((c.tc : Thread Cert.NormBwdRIdeal.nD Cert.NormBwdRIdeal.τ).loc Cert.NormBwdRIdeal.main_arg0) = m ((c.tc : Thread Cert.NormBwdRIdeal.nD Cert.NormBwdRIdeal.τ).loc Cert.NormBwdRIdeal.main_arg0)
      ∧ r.2.mem ((c.tc : Thread Cert.NormBwdRIdeal.nD Cert.NormBwdRIdeal.τ).loc Cert.NormBwdRIdeal.main_arg1) = m ((c.tc : Thread Cert.NormBwdRIdeal.nD Cert.NormBwdRIdeal.τ).loc Cert.NormBwdRIdeal.main_arg1)
      ∧ r.2.mem ((c.tc : Thread Cert.NormBwdRIdeal.nD Cert.NormBwdRIdeal.τ).loc Cert.NormBwdRIdeal.main_arg2) = m ((c.tc : Thread Cert.NormBwdRIdeal.nD Cert.NormBwdRIdeal.τ).loc Cert.NormBwdRIdeal.main_arg2)
      ∧ r.2.mem ((c.tc : Thread Cert.NormBwdRIdeal.nD Cert.NormBwdRIdeal.τ).loc Cert.NormBwdRIdeal.main_arg3) = m ((c.tc : Thread Cert.NormBwdRIdeal.nD Cert.NormBwdRIdeal.τ).loc Cert.NormBwdRIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixBwdRIdeal [hMixBwdRIdeal : Cert.MixBwdRIdeal.Facts] : Prop :=
  ∀ (m : (ℓ : Loc Cert.MixBwdRIdeal.nD Cert.MixBwdRIdeal.τ Cert.MixBwdRIdeal.sig) → Buf (Elt Ideal) ℓ) (g : Dev Cert.MixBwdRIdeal.nD → PrngReg), Pre_MixBwdRIdeal m →
    θ_run (Cert.MixBwdRIdeal.defs (F := Ideal)) (onTc (τ := Cert.MixBwdRIdeal.τ) (Cert.MixBwdRIdeal.main (F := Ideal))) ⟨m, fun _ => 0, g⟩ (fun r => (∀ c : Dev Cert.MixBwdRIdeal.nD,
      r.2.mem ((c.tc : Thread Cert.MixBwdRIdeal.nD Cert.MixBwdRIdeal.τ).loc Cert.MixBwdRIdeal.main_arg0) = m ((c.tc : Thread Cert.MixBwdRIdeal.nD Cert.MixBwdRIdeal.τ).loc Cert.MixBwdRIdeal.main_arg0)
      ∧ r.2.mem ((c.tc : Thread Cert.MixBwdRIdeal.nD Cert.MixBwdRIdeal.τ).loc Cert.MixBwdRIdeal.main_arg1) = m ((c.tc : Thread Cert.MixBwdRIdeal.nD Cert.MixBwdRIdeal.τ).loc Cert.MixBwdRIdeal.main_arg1)
      ∧ r.2.mem ((c.tc : Thread Cert.MixBwdRIdeal.nD Cert.MixBwdRIdeal.τ).loc Cert.MixBwdRIdeal.main_arg2) = m ((c.tc : Thread Cert.MixBwdRIdeal.nD Cert.MixBwdRIdeal.τ).loc Cert.MixBwdRIdeal.main_arg2)
      ∧ r.2.mem ((c.tc : Thread Cert.MixBwdRIdeal.nD Cert.MixBwdRIdeal.τ).loc Cert.MixBwdRIdeal.main_arg3) = m ((c.tc : Thread Cert.MixBwdRIdeal.nD Cert.MixBwdRIdeal.τ).loc Cert.MixBwdRIdeal.main_arg3)
      ∧ r.2.mem ((c.tc : Thread Cert.MixBwdRIdeal.nD Cert.MixBwdRIdeal.τ).loc Cert.MixBwdRIdeal.main_arg4) = m ((c.tc : Thread Cert.MixBwdRIdeal.nD Cert.MixBwdRIdeal.τ).loc Cert.MixBwdRIdeal.main_arg4)
      ∧ r.2.mem ((c.tc : Thread Cert.MixBwdRIdeal.nD Cert.MixBwdRIdeal.τ).loc Cert.MixBwdRIdeal.main_arg5) = m ((c.tc : Thread Cert.MixBwdRIdeal.nD Cert.MixBwdRIdeal.τ).loc Cert.MixBwdRIdeal.main_arg5)
      ∧ r.2.mem ((c.tc : Thread Cert.MixBwdRIdeal.nD Cert.MixBwdRIdeal.τ).loc Cert.MixBwdRIdeal.main_arg6) = m ((c.tc : Thread Cert.MixBwdRIdeal.nD Cert.MixBwdRIdeal.τ).loc Cert.MixBwdRIdeal.main_arg6))
      ∧ r.2.sem = fun _ => 0)

def quiescent_S5Mm [hS5Mm : Cert.S5Mm.Facts] : Prop :=
  ∀ (m : (ℓ : Loc Cert.S5Mm.nD Cert.S5Mm.τ Cert.S5Mm.sig) → Buf (Elt Bits) ℓ) (g : Dev Cert.S5Mm.nD → PrngReg), Pre_S5Mm m →
    θ_run (Cert.S5Mm.defs (F := Bits)) (onTc (τ := Cert.S5Mm.τ) (Cert.S5Mm.main (F := Bits))) ⟨m, fun _ => 0, g⟩ (fun r => (∀ c : Dev Cert.S5Mm.nD,
      r.2.mem ((c.tc : Thread Cert.S5Mm.nD Cert.S5Mm.τ).loc Cert.S5Mm.main_arg0) = m ((c.tc : Thread Cert.S5Mm.nD Cert.S5Mm.τ).loc Cert.S5Mm.main_arg0)
      ∧ r.2.mem ((c.tc : Thread Cert.S5Mm.nD Cert.S5Mm.τ).loc Cert.S5Mm.main_arg1) = m ((c.tc : Thread Cert.S5Mm.nD Cert.S5Mm.τ).loc Cert.S5Mm.main_arg1)
      ∧ r.2.mem ((c.tc : Thread Cert.S5Mm.nD Cert.S5Mm.τ).loc Cert.S5Mm.main_arg2) = m ((c.tc : Thread Cert.S5Mm.nD Cert.S5Mm.τ).loc Cert.S5Mm.main_arg2)
      ∧ r.2.mem ((c.tc : Thread Cert.S5Mm.nD Cert.S5Mm.τ).loc Cert.S5Mm.main_arg3) = m ((c.tc : Thread Cert.S5Mm.nD Cert.S5Mm.τ).loc Cert.S5Mm.main_arg3)
      ∧ r.2.mem ((c.tc : Thread Cert.S5Mm.nD Cert.S5Mm.τ).loc Cert.S5Mm.main_arg4) = m ((c.tc : Thread Cert.S5Mm.nD Cert.S5Mm.τ).loc Cert.S5Mm.main_arg4)
      ∧ r.2.mem ((c.tc : Thread Cert.S5Mm.nD Cert.S5Mm.τ).loc Cert.S5Mm.main_arg5) = m ((c.tc : Thread Cert.S5Mm.nD Cert.S5Mm.τ).loc Cert.S5Mm.main_arg5)
      ∧ r.2.mem ((c.tc : Thread Cert.S5Mm.nD Cert.S5Mm.τ).loc Cert.S5Mm.main_arg6) = m ((c.tc : Thread Cert.S5Mm.nD Cert.S5Mm.τ).loc Cert.S5Mm.main_arg6))
      ∧ r.2.sem = fun _ => 0)

def quiescent_S5MmIdeal [hS5MmIdeal : Cert.S5MmIdeal.Facts] : Prop :=
  ∀ (m : (ℓ : Loc Cert.S5MmIdeal.nD Cert.S5MmIdeal.τ Cert.S5MmIdeal.sig) → Buf (Elt Ideal) ℓ) (g : Dev Cert.S5MmIdeal.nD → PrngReg), Pre_S5MmIdeal m →
    θ_run (Cert.S5MmIdeal.defs (F := Ideal)) (onTc (τ := Cert.S5MmIdeal.τ) (Cert.S5MmIdeal.main (F := Ideal))) ⟨m, fun _ => 0, g⟩ (fun r => (∀ c : Dev Cert.S5MmIdeal.nD,
      r.2.mem ((c.tc : Thread Cert.S5MmIdeal.nD Cert.S5MmIdeal.τ).loc Cert.S5MmIdeal.main_arg0) = m ((c.tc : Thread Cert.S5MmIdeal.nD Cert.S5MmIdeal.τ).loc Cert.S5MmIdeal.main_arg0)
      ∧ r.2.mem ((c.tc : Thread Cert.S5MmIdeal.nD Cert.S5MmIdeal.τ).loc Cert.S5MmIdeal.main_arg1) = m ((c.tc : Thread Cert.S5MmIdeal.nD Cert.S5MmIdeal.τ).loc Cert.S5MmIdeal.main_arg1)
      ∧ r.2.mem ((c.tc : Thread Cert.S5MmIdeal.nD Cert.S5MmIdeal.τ).loc Cert.S5MmIdeal.main_arg2) = m ((c.tc : Thread Cert.S5MmIdeal.nD Cert.S5MmIdeal.τ).loc Cert.S5MmIdeal.main_arg2)
      ∧ r.2.mem ((c.tc : Thread Cert.S5MmIdeal.nD Cert.S5MmIdeal.τ).loc Cert.S5MmIdeal.main_arg3) = m ((c.tc : Thread Cert.S5MmIdeal.nD Cert.S5MmIdeal.τ).loc Cert.S5MmIdeal.main_arg3)
      ∧ r.2.mem ((c.tc : Thread Cert.S5MmIdeal.nD Cert.S5MmIdeal.τ).loc Cert.S5MmIdeal.main_arg4) = m ((c.tc : Thread Cert.S5MmIdeal.nD Cert.S5MmIdeal.τ).loc Cert.S5MmIdeal.main_arg4)
      ∧ r.2.mem ((c.tc : Thread Cert.S5MmIdeal.nD Cert.S5MmIdeal.τ).loc Cert.S5MmIdeal.main_arg5) = m ((c.tc : Thread Cert.S5MmIdeal.nD Cert.S5MmIdeal.τ).loc Cert.S5MmIdeal.main_arg5)
      ∧ r.2.mem ((c.tc : Thread Cert.S5MmIdeal.nD Cert.S5MmIdeal.τ).loc Cert.S5MmIdeal.main_arg6) = m ((c.tc : Thread Cert.S5MmIdeal.nD Cert.S5MmIdeal.τ).loc Cert.S5MmIdeal.main_arg6))
      ∧ r.2.sem = fun _ => 0)

def quiescent_S5MmRIdeal [hS5MmRIdeal : Cert.S5MmRIdeal.Facts] : Prop :=
  ∀ (m : (ℓ : Loc Cert.S5MmRIdeal.nD Cert.S5MmRIdeal.τ Cert.S5MmRIdeal.sig) → Buf (Elt Ideal) ℓ) (g : Dev Cert.S5MmRIdeal.nD → PrngReg), Pre_S5MmRIdeal m →
    θ_run (Cert.S5MmRIdeal.defs (F := Ideal)) (onTc (τ := Cert.S5MmRIdeal.τ) (Cert.S5MmRIdeal.main (F := Ideal))) ⟨m, fun _ => 0, g⟩ (fun r => (∀ c : Dev Cert.S5MmRIdeal.nD,
      r.2.mem ((c.tc : Thread Cert.S5MmRIdeal.nD Cert.S5MmRIdeal.τ).loc Cert.S5MmRIdeal.main_arg0) = m ((c.tc : Thread Cert.S5MmRIdeal.nD Cert.S5MmRIdeal.τ).loc Cert.S5MmRIdeal.main_arg0)
      ∧ r.2.mem ((c.tc : Thread Cert.S5MmRIdeal.nD Cert.S5MmRIdeal.τ).loc Cert.S5MmRIdeal.main_arg1) = m ((c.tc : Thread Cert.S5MmRIdeal.nD Cert.S5MmRIdeal.τ).loc Cert.S5MmRIdeal.main_arg1)
      ∧ r.2.mem ((c.tc : Thread Cert.S5MmRIdeal.nD Cert.S5MmRIdeal.τ).loc Cert.S5MmRIdeal.main_arg2) = m ((c.tc : Thread Cert.S5MmRIdeal.nD Cert.S5MmRIdeal.τ).loc Cert.S5MmRIdeal.main_arg2)
      ∧ r.2.mem ((c.tc : Thread Cert.S5MmRIdeal.nD Cert.S5MmRIdeal.τ).loc Cert.S5MmRIdeal.main_arg3) = m ((c.tc : Thread Cert.S5MmRIdeal.nD Cert.S5MmRIdeal.τ).loc Cert.S5MmRIdeal.main_arg3)
      ∧ r.2.mem ((c.tc : Thread Cert.S5MmRIdeal.nD Cert.S5MmRIdeal.τ).loc Cert.S5MmRIdeal.main_arg4) = m ((c.tc : Thread Cert.S5MmRIdeal.nD Cert.S5MmRIdeal.τ).loc Cert.S5MmRIdeal.main_arg4)
      ∧ r.2.mem ((c.tc : Thread Cert.S5MmRIdeal.nD Cert.S5MmRIdeal.τ).loc Cert.S5MmRIdeal.main_arg5) = m ((c.tc : Thread Cert.S5MmRIdeal.nD Cert.S5MmRIdeal.τ).loc Cert.S5MmRIdeal.main_arg5)
      ∧ r.2.mem ((c.tc : Thread Cert.S5MmRIdeal.nD Cert.S5MmRIdeal.τ).loc Cert.S5MmRIdeal.main_arg6) = m ((c.tc : Thread Cert.S5MmRIdeal.nD Cert.S5MmRIdeal.τ).loc Cert.S5MmRIdeal.main_arg6))
      ∧ r.2.sem = fun _ => 0)

def quiescent_S5Fwd [hS5Fwd : Cert.S5Fwd.Facts] : Prop :=
  ∀ (m : (ℓ : Loc Cert.S5Fwd.nD Cert.S5Fwd.τ Cert.S5Fwd.sig) → Buf (Elt Bits) ℓ) (g : Dev Cert.S5Fwd.nD → PrngReg), Pre_S5Fwd m →
    θ_run (Cert.S5Fwd.defs (F := Bits)) (onTc (τ := Cert.S5Fwd.τ) (Cert.S5Fwd.main (F := Bits))) ⟨m, fun _ => 0, g⟩ (fun r => (∀ c : Dev Cert.S5Fwd.nD,
      r.2.mem ((c.tc : Thread Cert.S5Fwd.nD Cert.S5Fwd.τ).loc Cert.S5Fwd.main_arg0) = m ((c.tc : Thread Cert.S5Fwd.nD Cert.S5Fwd.τ).loc Cert.S5Fwd.main_arg0)
      ∧ r.2.mem ((c.tc : Thread Cert.S5Fwd.nD Cert.S5Fwd.τ).loc Cert.S5Fwd.main_arg1) = m ((c.tc : Thread Cert.S5Fwd.nD Cert.S5Fwd.τ).loc Cert.S5Fwd.main_arg1)
      ∧ r.2.mem ((c.tc : Thread Cert.S5Fwd.nD Cert.S5Fwd.τ).loc Cert.S5Fwd.main_arg2) = m ((c.tc : Thread Cert.S5Fwd.nD Cert.S5Fwd.τ).loc Cert.S5Fwd.main_arg2)
      ∧ r.2.mem ((c.tc : Thread Cert.S5Fwd.nD Cert.S5Fwd.τ).loc Cert.S5Fwd.main_arg3) = m ((c.tc : Thread Cert.S5Fwd.nD Cert.S5Fwd.τ).loc Cert.S5Fwd.main_arg3)
      ∧ r.2.mem ((c.tc : Thread Cert.S5Fwd.nD Cert.S5Fwd.τ).loc Cert.S5Fwd.main_arg4) = m ((c.tc : Thread Cert.S5Fwd.nD Cert.S5Fwd.τ).loc Cert.S5Fwd.main_arg4))
      ∧ r.2.sem = fun _ => 0)

def quiescent_S5FwdIdeal [hS5FwdIdeal : Cert.S5FwdIdeal.Facts] : Prop :=
  ∀ (m : (ℓ : Loc Cert.S5FwdIdeal.nD Cert.S5FwdIdeal.τ Cert.S5FwdIdeal.sig) → Buf (Elt Ideal) ℓ) (g : Dev Cert.S5FwdIdeal.nD → PrngReg), Pre_S5FwdIdeal m →
    θ_run (Cert.S5FwdIdeal.defs (F := Ideal)) (onTc (τ := Cert.S5FwdIdeal.τ) (Cert.S5FwdIdeal.main (F := Ideal))) ⟨m, fun _ => 0, g⟩ (fun r => (∀ c : Dev Cert.S5FwdIdeal.nD,
      r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
      ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
      ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
      ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
      ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4))
      ∧ r.2.sem = fun _ => 0)

def quiescent_S5FwdRIdeal [hS5FwdRIdeal : Cert.S5FwdRIdeal.Facts] : Prop :=
  ∀ (m : (ℓ : Loc Cert.S5FwdRIdeal.nD Cert.S5FwdRIdeal.τ Cert.S5FwdRIdeal.sig) → Buf (Elt Ideal) ℓ) (g : Dev Cert.S5FwdRIdeal.nD → PrngReg), Pre_S5FwdRIdeal m →
    θ_run (Cert.S5FwdRIdeal.defs (F := Ideal)) (onTc (τ := Cert.S5FwdRIdeal.τ) (Cert.S5FwdRIdeal.main (F := Ideal))) ⟨m, fun _ => 0, g⟩ (fun r => (∀ c : Dev Cert.S5FwdRIdeal.nD,
      r.2.mem ((c.tc : Thread Cert.S5FwdRIdeal.nD Cert.S5FwdRIdeal.τ).loc Cert.S5FwdRIdeal.main_arg0) = m ((c.tc : Thread Cert.S5FwdRIdeal.nD Cert.S5FwdRIdeal.τ).loc Cert.S5FwdRIdeal.main_arg0)
      ∧ r.2.mem ((c.tc : Thread Cert.S5FwdRIdeal.nD Cert.S5FwdRIdeal.τ).loc Cert.S5FwdRIdeal.main_arg1) = m ((c.tc : Thread Cert.S5FwdRIdeal.nD Cert.S5FwdRIdeal.τ).loc Cert.S5FwdRIdeal.main_arg1)
      ∧ r.2.mem ((c.tc : Thread Cert.S5FwdRIdeal.nD Cert.S5FwdRIdeal.τ).loc Cert.S5FwdRIdeal.main_arg2) = m ((c.tc : Thread Cert.S5FwdRIdeal.nD Cert.S5FwdRIdeal.τ).loc Cert.S5FwdRIdeal.main_arg2)
      ∧ r.2.mem ((c.tc : Thread Cert.S5FwdRIdeal.nD Cert.S5FwdRIdeal.τ).loc Cert.S5FwdRIdeal.main_arg3) = m ((c.tc : Thread Cert.S5FwdRIdeal.nD Cert.S5FwdRIdeal.τ).loc Cert.S5FwdRIdeal.main_arg3)
      ∧ r.2.mem ((c.tc : Thread Cert.S5FwdRIdeal.nD Cert.S5FwdRIdeal.τ).loc Cert.S5FwdRIdeal.main_arg4) = m ((c.tc : Thread Cert.S5FwdRIdeal.nD Cert.S5FwdRIdeal.τ).loc Cert.S5FwdRIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v80_8) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InDw_InDwIdeal : Prop :=
  True

def algebraic_InDwIdeal_InDwRIdeal [hInDwIdeal : Cert.InDwIdeal.Facts] [hInDwRIdeal : Cert.InDwRIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRIdeal.nD Cert.InDwRIdeal.τ Cert.InDwRIdeal.sig) → Buf (Elt Ideal) ℓ) (g' : Dev Cert.InDwRIdeal.nD → PrngReg), Pre_InDwIdeal m →
    (∀ c : Dev Cert.InDwIdeal.nD,
      m' ((c.tc : Thread Cert.InDwRIdeal.nD Cert.InDwRIdeal.τ).loc Cert.InDwRIdeal.main_arg0) = m ((c.tc : Thread Cert.InDwIdeal.nD Cert.InDwIdeal.τ).loc Cert.InDwIdeal.main_arg0)
      ∧ m' ((c.tc : Thread Cert.InDwRIdeal.nD Cert.InDwRIdeal.τ).loc Cert.InDwRIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRIdeal.defs (F := Ideal)) (onTc (τ := Cert.InDwRIdeal.τ) (Cert.InDwRIdeal.main (F := Ideal))) ⟨m', fun _ => 0, g'⟩ (fun r => ∀ c : Dev Cert.InDwRIdeal.nD,
          r.2.mem ((c.tc : Thread Cert.InDwRIdeal.nD Cert.InDwRIdeal.τ).loc Cert.InDwRIdeal.main_v6) = v0 c
          ∧ r.2.mem ((c.tc : Thread Cert.InDwRIdeal.nD Cert.InDwRIdeal.τ).loc Cert.InDwRIdeal.main_arg0) = m' ((c.tc : Thread Cert.InDwRIdeal.nD Cert.InDwRIdeal.τ).loc Cert.InDwRIdeal.main_arg0)
          ∧ r.2.mem ((c.tc : Thread Cert.InDwRIdeal.nD Cert.InDwRIdeal.τ).loc Cert.InDwRIdeal.main_arg1) = m' ((c.tc : Thread Cert.InDwRIdeal.nD Cert.InDwRIdeal.τ).loc Cert.InDwRIdeal.main_arg1))

def preserves_DownDw_DownDwIdeal : Prop :=
  True

def algebraic_DownDwIdeal_DownDwRIdeal [hDownDwIdeal : Cert.DownDwIdeal.Facts] [hDownDwRIdeal : Cert.DownDwRIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRIdeal.nD Cert.DownDwRIdeal.τ Cert.DownDwRIdeal.sig) → Buf (Elt Ideal) ℓ) (g' : Dev Cert.DownDwRIdeal.nD → PrngReg), Pre_DownDwIdeal m →
    (∀ c : Dev Cert.DownDwIdeal.nD,
      m' ((c.tc : Thread Cert.DownDwRIdeal.nD Cert.DownDwRIdeal.τ).loc Cert.DownDwRIdeal.main_arg0) = m ((c.tc : Thread Cert.DownDwIdeal.nD Cert.DownDwIdeal.τ).loc Cert.DownDwIdeal.main_arg0)
      ∧ m' ((c.tc : Thread Cert.DownDwRIdeal.nD Cert.DownDwRIdeal.τ).loc Cert.DownDwRIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRIdeal.defs (F := Ideal)) (onTc (τ := Cert.DownDwRIdeal.τ) (Cert.DownDwRIdeal.main (F := Ideal))) ⟨m', fun _ => 0, g'⟩ (fun r => ∀ c : Dev Cert.DownDwRIdeal.nD,
          r.2.mem ((c.tc : Thread Cert.DownDwRIdeal.nD Cert.DownDwRIdeal.τ).loc Cert.DownDwRIdeal.main_v4) = v0 c
          ∧ r.2.mem ((c.tc : Thread Cert.DownDwRIdeal.nD Cert.DownDwRIdeal.τ).loc Cert.DownDwRIdeal.main_arg0) = m' ((c.tc : Thread Cert.DownDwRIdeal.nD Cert.DownDwRIdeal.τ).loc Cert.DownDwRIdeal.main_arg0)
          ∧ r.2.mem ((c.tc : Thread Cert.DownDwRIdeal.nD Cert.DownDwRIdeal.τ).loc Cert.DownDwRIdeal.main_arg1) = m' ((c.tc : Thread Cert.DownDwRIdeal.nD Cert.DownDwRIdeal.τ).loc Cert.DownDwRIdeal.main_arg1))

def preserves_GateDx_GateDxIdeal : Prop :=
  True

def algebraic_GateDxIdeal_GateDxRIdeal [hGateDxIdeal : Cert.GateDxIdeal.Facts] [hGateDxRIdeal : Cert.GateDxRIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRIdeal.nD Cert.GateDxRIdeal.τ Cert.GateDxRIdeal.sig) → Buf (Elt Ideal) ℓ) (g' : Dev Cert.GateDxRIdeal.nD → PrngReg), Pre_GateDxIdeal m →
    (∀ c : Dev Cert.GateDxIdeal.nD,
      m' ((c.tc : Thread Cert.GateDxRIdeal.nD Cert.GateDxRIdeal.τ).loc Cert.GateDxRIdeal.main_arg0) = m ((c.tc : Thread Cert.GateDxIdeal.nD Cert.GateDxIdeal.τ).loc Cert.GateDxIdeal.main_arg0)
      ∧ m' ((c.tc : Thread Cert.GateDxRIdeal.nD Cert.GateDxRIdeal.τ).loc Cert.GateDxRIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v2)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v2) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRIdeal.defs (F := Ideal)) (onTc (τ := Cert.GateDxRIdeal.τ) (Cert.GateDxRIdeal.main (F := Ideal))) ⟨m', fun _ => 0, g'⟩ (fun r => ∀ c : Dev Cert.GateDxRIdeal.nD,
          r.2.mem ((c.tc : Thread Cert.GateDxRIdeal.nD Cert.GateDxRIdeal.τ).loc Cert.GateDxRIdeal.main_v4) = v0 c
          ∧ r.2.mem ((c.tc : Thread Cert.GateDxRIdeal.nD Cert.GateDxRIdeal.τ).loc Cert.GateDxRIdeal.main_arg0) = m' ((c.tc : Thread Cert.GateDxRIdeal.nD Cert.GateDxRIdeal.τ).loc Cert.GateDxRIdeal.main_arg0)
          ∧ r.2.mem ((c.tc : Thread Cert.GateDxRIdeal.nD Cert.GateDxRIdeal.τ).loc Cert.GateDxRIdeal.main_arg1) = m' ((c.tc : Thread Cert.GateDxRIdeal.nD Cert.GateDxRIdeal.τ).loc Cert.GateDxRIdeal.main_arg1))

def preserves_UpDx_UpDxIdeal : Prop :=
  True

def algebraic_UpDxIdeal_UpDxRIdeal [hUpDxIdeal : Cert.UpDxIdeal.Facts] [hUpDxRIdeal : Cert.UpDxRIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRIdeal.nD Cert.UpDxRIdeal.τ Cert.UpDxRIdeal.sig) → Buf (Elt Ideal) ℓ) (g' : Dev Cert.UpDxRIdeal.nD → PrngReg), Pre_UpDxIdeal m →
    (∀ c : Dev Cert.UpDxIdeal.nD,
      m' ((c.tc : Thread Cert.UpDxRIdeal.nD Cert.UpDxRIdeal.τ).loc Cert.UpDxRIdeal.main_arg0) = m ((c.tc : Thread Cert.UpDxIdeal.nD Cert.UpDxIdeal.τ).loc Cert.UpDxIdeal.main_arg0)
      ∧ m' ((c.tc : Thread Cert.UpDxRIdeal.nD Cert.UpDxRIdeal.τ).loc Cert.UpDxRIdeal.main_arg1) = m ((c.tc : Thread Cert.UpDxIdeal.nD Cert.UpDxIdeal.τ).loc Cert.UpDxIdeal.main_arg1)
      ∧ m' ((c.tc : Thread Cert.UpDxRIdeal.nD Cert.UpDxRIdeal.τ).loc Cert.UpDxRIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRIdeal.defs (F := Ideal)) (onTc (τ := Cert.UpDxRIdeal.τ) (Cert.UpDxRIdeal.main (F := Ideal))) ⟨m', fun _ => 0, g'⟩ (fun r => ∀ c : Dev Cert.UpDxRIdeal.nD,
          r.2.mem ((c.tc : Thread Cert.UpDxRIdeal.nD Cert.UpDxRIdeal.τ).loc Cert.UpDxRIdeal.main_v5) = v0 c
          ∧ r.2.mem ((c.tc : Thread Cert.UpDxRIdeal.nD Cert.UpDxRIdeal.τ).loc Cert.UpDxRIdeal.main_arg0) = m' ((c.tc : Thread Cert.UpDxRIdeal.nD Cert.UpDxRIdeal.τ).loc Cert.UpDxRIdeal.main_arg0)
          ∧ r.2.mem ((c.tc : Thread Cert.UpDxRIdeal.nD Cert.UpDxRIdeal.τ).loc Cert.UpDxRIdeal.main_arg1) = m' ((c.tc : Thread Cert.UpDxRIdeal.nD Cert.UpDxRIdeal.τ).loc Cert.UpDxRIdeal.main_arg1)
          ∧ r.2.mem ((c.tc : Thread Cert.UpDxRIdeal.nD Cert.UpDxRIdeal.τ).loc Cert.UpDxRIdeal.main_arg2) = m' ((c.tc : Thread Cert.UpDxRIdeal.nD Cert.UpDxRIdeal.τ).loc Cert.UpDxRIdeal.main_arg2))

def preserves_Glu_GluIdeal : Prop :=
  True

def algebraic_GluIdeal_GluRIdeal_pre_finite [hGluIdeal : Cert.GluIdeal.Facts] [hGluRIdeal : Cert.GluRIdeal.Facts] [hPre_finite : Cert.Pre_finite.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRIdeal.nD Cert.GluRIdeal.τ Cert.GluRIdeal.sig) → Buf (Elt Ideal) ℓ) (g' : Dev Cert.GluRIdeal.nD → PrngReg), Pre_GluIdeal_finite m →
    (∀ c : Dev Cert.GluIdeal.nD,
      m' ((c.tc : Thread Cert.GluRIdeal.nD Cert.GluRIdeal.τ).loc Cert.GluRIdeal.main_arg0) = m ((c.tc : Thread Cert.GluIdeal.nD Cert.GluIdeal.τ).loc Cert.GluIdeal.main_arg0)
      ∧ m' ((c.tc : Thread Cert.GluRIdeal.nD Cert.GluRIdeal.τ).loc Cert.GluRIdeal.main_arg1) = m ((c.tc : Thread Cert.GluIdeal.nD Cert.GluIdeal.τ).loc Cert.GluIdeal.main_arg1)
      ∧ m' ((c.tc : Thread Cert.GluRIdeal.nD Cert.GluRIdeal.τ).loc Cert.GluRIdeal.main_arg2) = m ((c.tc : Thread Cert.GluIdeal.nD Cert.GluIdeal.τ).loc Cert.GluIdeal.main_arg2)
      ∧ m' ((c.tc : Thread Cert.GluRIdeal.nD Cert.GluRIdeal.τ).loc Cert.GluRIdeal.main_arg3) = m ((c.tc : Thread Cert.GluIdeal.nD Cert.GluIdeal.τ).loc Cert.GluIdeal.main_arg3)
      ∧ m' ((c.tc : Thread Cert.GluRIdeal.nD Cert.GluRIdeal.τ).loc Cert.GluRIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v14)) (v1 : (c : Dev Cert.GluIdeal.nD) → Buf (Elt Ideal) ((c.tc : Thread Cert.GluIdeal.nD Cert.GluIdeal.τ).loc Cert.GluIdeal.main_v15)) (v2 : (c : Dev Cert.GluIdeal.nD) → Buf (Elt Ideal) ((c.tc : Thread Cert.GluIdeal.nD Cert.GluIdeal.τ).loc Cert.GluIdeal.main_v16)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v14) = v0 c
          ∧ r.2.mem ((c.tc : Thread Cert.GluIdeal.nD Cert.GluIdeal.τ).loc Cert.GluIdeal.main_v15) = v1 c
          ∧ r.2.mem ((c.tc : Thread Cert.GluIdeal.nD Cert.GluIdeal.τ).loc Cert.GluIdeal.main_v16) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRIdeal.defs (F := Ideal)) (onTc (τ := Cert.GluRIdeal.τ) (Cert.GluRIdeal.main (F := Ideal))) ⟨m', fun _ => 0, g'⟩ (fun r => ∀ c : Dev Cert.GluRIdeal.nD,
          r.2.mem ((c.tc : Thread Cert.GluRIdeal.nD Cert.GluRIdeal.τ).loc Cert.GluRIdeal.main_v5) = v0 c
          ∧ r.2.mem ((c.tc : Thread Cert.GluRIdeal.nD Cert.GluRIdeal.τ).loc Cert.GluRIdeal.main_v11) = v1 c
          ∧ r.2.mem ((c.tc : Thread Cert.GluRIdeal.nD Cert.GluRIdeal.τ).loc Cert.GluRIdeal.main_v9) = v2 c
          ∧ r.2.mem ((c.tc : Thread Cert.GluRIdeal.nD Cert.GluRIdeal.τ).loc Cert.GluRIdeal.main_arg0) = m' ((c.tc : Thread Cert.GluRIdeal.nD Cert.GluRIdeal.τ).loc Cert.GluRIdeal.main_arg0)
          ∧ r.2.mem ((c.tc : Thread Cert.GluRIdeal.nD Cert.GluRIdeal.τ).loc Cert.GluRIdeal.main_arg1) = m' ((c.tc : Thread Cert.GluRIdeal.nD Cert.GluRIdeal.τ).loc Cert.GluRIdeal.main_arg1)
          ∧ r.2.mem ((c.tc : Thread Cert.GluRIdeal.nD Cert.GluRIdeal.τ).loc Cert.GluRIdeal.main_arg2) = m' ((c.tc : Thread Cert.GluRIdeal.nD Cert.GluRIdeal.τ).loc Cert.GluRIdeal.main_arg2)
          ∧ r.2.mem ((c.tc : Thread Cert.GluRIdeal.nD Cert.GluRIdeal.τ).loc Cert.GluRIdeal.main_arg3) = m' ((c.tc : Thread Cert.GluRIdeal.nD Cert.GluRIdeal.τ).loc Cert.GluRIdeal.main_arg3)
          ∧ r.2.mem ((c.tc : Thread Cert.GluRIdeal.nD Cert.GluRIdeal.τ).loc Cert.GluRIdeal.main_arg4) = m' ((c.tc : Thread Cert.GluRIdeal.nD Cert.GluRIdeal.τ).loc Cert.GluRIdeal.main_arg4))

def preserves_Proj_ProjIdeal : Prop :=
  True

def algebraic_ProjIdeal_ProjRIdeal [hProjIdeal : Cert.ProjIdeal.Facts] [hProjRIdeal : Cert.ProjRIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRIdeal.nD Cert.ProjRIdeal.τ Cert.ProjRIdeal.sig) → Buf (Elt Ideal) ℓ) (g' : Dev Cert.ProjRIdeal.nD → PrngReg), Pre_ProjIdeal m →
    (∀ c : Dev Cert.ProjIdeal.nD,
      m' ((c.tc : Thread Cert.ProjRIdeal.nD Cert.ProjRIdeal.τ).loc Cert.ProjRIdeal.main_arg0) = m ((c.tc : Thread Cert.ProjIdeal.nD Cert.ProjIdeal.τ).loc Cert.ProjIdeal.main_arg0)
      ∧ m' ((c.tc : Thread Cert.ProjRIdeal.nD Cert.ProjRIdeal.τ).loc Cert.ProjRIdeal.main_arg1) = m ((c.tc : Thread Cert.ProjIdeal.nD Cert.ProjIdeal.τ).loc Cert.ProjIdeal.main_arg1)
      ∧ m' ((c.tc : Thread Cert.ProjRIdeal.nD Cert.ProjRIdeal.τ).loc Cert.ProjRIdeal.main_arg2) = m ((c.tc : Thread Cert.ProjIdeal.nD Cert.ProjIdeal.τ).loc Cert.ProjIdeal.main_arg2)
      ∧ m' ((c.tc : Thread Cert.ProjRIdeal.nD Cert.ProjRIdeal.τ).loc Cert.ProjRIdeal.main_arg3) = m ((c.tc : Thread Cert.ProjIdeal.nD Cert.ProjIdeal.τ).loc Cert.ProjIdeal.main_arg3)
      ∧ m' ((c.tc : Thread Cert.ProjRIdeal.nD Cert.ProjRIdeal.τ).loc Cert.ProjRIdeal.main_arg4) = m ((c.tc : Thread Cert.ProjIdeal.nD Cert.ProjIdeal.τ).loc Cert.ProjIdeal.main_arg4)
      ∧ m' ((c.tc : Thread Cert.ProjRIdeal.nD Cert.ProjRIdeal.τ).loc Cert.ProjRIdeal.main_arg5) = m ((c.tc : Thread Cert.ProjIdeal.nD Cert.ProjIdeal.τ).loc Cert.ProjIdeal.main_arg5)
      ∧ m' ((c.tc : Thread Cert.ProjRIdeal.nD Cert.ProjRIdeal.τ).loc Cert.ProjRIdeal.main_arg6) = m ((c.tc : Thread Cert.ProjIdeal.nD Cert.ProjIdeal.τ).loc Cert.ProjIdeal.main_arg6)
      ∧ m' ((c.tc : Thread Cert.ProjRIdeal.nD Cert.ProjRIdeal.τ).loc Cert.ProjRIdeal.main_arg7) = m ((c.tc : Thread Cert.ProjIdeal.nD Cert.ProjIdeal.τ).loc Cert.ProjIdeal.main_arg7)
      ∧ m' ((c.tc : Thread Cert.ProjRIdeal.nD Cert.ProjRIdeal.τ).loc Cert.ProjRIdeal.main_arg8) = m ((c.tc : Thread Cert.ProjIdeal.nD Cert.ProjIdeal.τ).loc Cert.ProjIdeal.main_arg8)
      ∧ m' ((c.tc : Thread Cert.ProjRIdeal.nD Cert.ProjRIdeal.τ).loc Cert.ProjRIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v7)) (v1 : (c : Dev Cert.ProjIdeal.nD) → Buf (Elt Ideal) ((c.tc : Thread Cert.ProjIdeal.nD Cert.ProjIdeal.τ).loc Cert.ProjIdeal.main_v8)) (v2 : (c : Dev Cert.ProjIdeal.nD) → Buf (Elt Ideal) ((c.tc : Thread Cert.ProjIdeal.nD Cert.ProjIdeal.τ).loc Cert.ProjIdeal.main_v9)) (v3 : (c : Dev Cert.ProjIdeal.nD) → Buf (Elt Ideal) ((c.tc : Thread Cert.ProjIdeal.nD Cert.ProjIdeal.τ).loc Cert.ProjIdeal.main_v10)) (v4 : (c : Dev Cert.ProjIdeal.nD) → Buf (Elt Ideal) ((c.tc : Thread Cert.ProjIdeal.nD Cert.ProjIdeal.τ).loc Cert.ProjIdeal.main_v11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_v8) = v1 c
          ∧ r.2.mem ((c.tc : Thread Cert.ProjIdeal.nD Cert.ProjIdeal.τ).loc Cert.ProjIdeal.main_v9) = v2 c
          ∧ r.2.mem ((c.tc : Thread Cert.ProjIdeal.nD Cert.ProjIdeal.τ).loc Cert.ProjIdeal.main_v10) = v3 c
          ∧ r.2.mem ((c.tc : Thread Cert.ProjIdeal.nD Cert.ProjIdeal.τ).loc Cert.ProjIdeal.main_v11) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRIdeal.defs (F := Ideal)) (onTc (τ := Cert.ProjRIdeal.τ) (Cert.ProjRIdeal.main (F := Ideal))) ⟨m', fun _ => 0, g'⟩ (fun r => ∀ c : Dev Cert.ProjRIdeal.nD,
          r.2.mem ((c.tc : Thread Cert.ProjRIdeal.nD Cert.ProjRIdeal.τ).loc Cert.ProjRIdeal.main_v1) = v0 c
          ∧ r.2.mem ((c.tc : Thread Cert.ProjRIdeal.nD Cert.ProjRIdeal.τ).loc Cert.ProjRIdeal.main_v4) = v1 c
          ∧ r.2.mem ((c.tc : Thread Cert.ProjRIdeal.nD Cert.ProjRIdeal.τ).loc Cert.ProjRIdeal.main_v3) = v2 c
          ∧ r.2.mem ((c.tc : Thread Cert.ProjRIdeal.nD Cert.ProjRIdeal.τ).loc Cert.ProjRIdeal.main_v8) = v3 c
          ∧ r.2.mem ((c.tc : Thread Cert.ProjRIdeal.nD Cert.ProjRIdeal.τ).loc Cert.ProjRIdeal.main_v7) = v4 c
          ∧ r.2.mem ((c.tc : Thread Cert.ProjRIdeal.nD Cert.ProjRIdeal.τ).loc Cert.ProjRIdeal.main_arg0) = m' ((c.tc : Thread Cert.ProjRIdeal.nD Cert.ProjRIdeal.τ).loc Cert.ProjRIdeal.main_arg0)
          ∧ r.2.mem ((c.tc : Thread Cert.ProjRIdeal.nD Cert.ProjRIdeal.τ).loc Cert.ProjRIdeal.main_arg1) = m' ((c.tc : Thread Cert.ProjRIdeal.nD Cert.ProjRIdeal.τ).loc Cert.ProjRIdeal.main_arg1)
          ∧ r.2.mem ((c.tc : Thread Cert.ProjRIdeal.nD Cert.ProjRIdeal.τ).loc Cert.ProjRIdeal.main_arg2) = m' ((c.tc : Thread Cert.ProjRIdeal.nD Cert.ProjRIdeal.τ).loc Cert.ProjRIdeal.main_arg2)
          ∧ r.2.mem ((c.tc : Thread Cert.ProjRIdeal.nD Cert.ProjRIdeal.τ).loc Cert.ProjRIdeal.main_arg3) = m' ((c.tc : Thread Cert.ProjRIdeal.nD Cert.ProjRIdeal.τ).loc Cert.ProjRIdeal.main_arg3)
          ∧ r.2.mem ((c.tc : Thread Cert.ProjRIdeal.nD Cert.ProjRIdeal.τ).loc Cert.ProjRIdeal.main_arg4) = m' ((c.tc : Thread Cert.ProjRIdeal.nD Cert.ProjRIdeal.τ).loc Cert.ProjRIdeal.main_arg4)
          ∧ r.2.mem ((c.tc : Thread Cert.ProjRIdeal.nD Cert.ProjRIdeal.τ).loc Cert.ProjRIdeal.main_arg5) = m' ((c.tc : Thread Cert.ProjRIdeal.nD Cert.ProjRIdeal.τ).loc Cert.ProjRIdeal.main_arg5)
          ∧ r.2.mem ((c.tc : Thread Cert.ProjRIdeal.nD Cert.ProjRIdeal.τ).loc Cert.ProjRIdeal.main_arg6) = m' ((c.tc : Thread Cert.ProjRIdeal.nD Cert.ProjRIdeal.τ).loc Cert.ProjRIdeal.main_arg6)
          ∧ r.2.mem ((c.tc : Thread Cert.ProjRIdeal.nD Cert.ProjRIdeal.τ).loc Cert.ProjRIdeal.main_arg7) = m' ((c.tc : Thread Cert.ProjRIdeal.nD Cert.ProjRIdeal.τ).loc Cert.ProjRIdeal.main_arg7)
          ∧ r.2.mem ((c.tc : Thread Cert.ProjRIdeal.nD Cert.ProjRIdeal.τ).loc Cert.ProjRIdeal.main_arg8) = m' ((c.tc : Thread Cert.ProjRIdeal.nD Cert.ProjRIdeal.τ).loc Cert.ProjRIdeal.main_arg8)
          ∧ r.2.mem ((c.tc : Thread Cert.ProjRIdeal.nD Cert.ProjRIdeal.τ).loc Cert.ProjRIdeal.main_arg9) = m' ((c.tc : Thread Cert.ProjRIdeal.nD Cert.ProjRIdeal.τ).loc Cert.ProjRIdeal.main_arg9))

def preserves_ProjInDw_ProjInDwIdeal : Prop :=
  True

def algebraic_ProjInDwIdeal_ProjInDwRIdeal [hProjInDwIdeal : Cert.ProjInDwIdeal.Facts] [hProjInDwRIdeal : Cert.ProjInDwRIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg)
    (m' : (ℓ : Loc Cert.ProjInDwRIdeal.nD Cert.ProjInDwRIdeal.τ Cert.ProjInDwRIdeal.sig) → Buf (Elt Ideal) ℓ) (g' : Dev Cert.ProjInDwRIdeal.nD → PrngReg), Pre_ProjInDwIdeal m →
    (∀ c : Dev Cert.ProjInDwIdeal.nD,
      m' ((c.tc : Thread Cert.ProjInDwRIdeal.nD Cert.ProjInDwRIdeal.τ).loc Cert.ProjInDwRIdeal.main_arg0) = m ((c.tc : Thread Cert.ProjInDwIdeal.nD Cert.ProjInDwIdeal.τ).loc Cert.ProjInDwIdeal.main_arg0)
      ∧ m' ((c.tc : Thread Cert.ProjInDwRIdeal.nD Cert.ProjInDwRIdeal.τ).loc Cert.ProjInDwRIdeal.main_arg1) = m ((c.tc : Thread Cert.ProjInDwIdeal.nD Cert.ProjInDwIdeal.τ).loc Cert.ProjInDwIdeal.main_arg1)) →
    ∃ (v0 : (c : Dev Cert.ProjInDwIdeal.nD) → Buf (Elt Ideal) ((c.tc : Thread Cert.ProjInDwIdeal.nD Cert.ProjInDwIdeal.τ).loc Cert.ProjInDwIdeal.main_v2)),
      θ_run (Cert.ProjInDwIdeal.defs (F := Ideal)) (onTc (τ := Cert.ProjInDwIdeal.τ) (Cert.ProjInDwIdeal.main (F := Ideal))) ⟨m, fun _ => 0, g⟩ (fun r => ∀ c : Dev Cert.ProjInDwIdeal.nD,
          r.2.mem ((c.tc : Thread Cert.ProjInDwIdeal.nD Cert.ProjInDwIdeal.τ).loc Cert.ProjInDwIdeal.main_v2) = v0 c
          ∧ r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
          ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ θ_run (Cert.ProjInDwRIdeal.defs (F := Ideal)) (onTc (τ := Cert.ProjInDwRIdeal.τ) (Cert.ProjInDwRIdeal.main (F := Ideal))) ⟨m', fun _ => 0, g'⟩ (fun r => ∀ c : Dev Cert.ProjInDwRIdeal.nD,
          r.2.mem ((c.tc : Thread Cert.ProjInDwRIdeal.nD Cert.ProjInDwRIdeal.τ).loc Cert.ProjInDwRIdeal.main_v6) = v0 c
          ∧ r.2.mem ((c.tc : Thread Cert.ProjInDwRIdeal.nD Cert.ProjInDwRIdeal.τ).loc Cert.ProjInDwRIdeal.main_arg0) = m' ((c.tc : Thread Cert.ProjInDwRIdeal.nD Cert.ProjInDwRIdeal.τ).loc Cert.ProjInDwRIdeal.main_arg0)
          ∧ r.2.mem ((c.tc : Thread Cert.ProjInDwRIdeal.nD Cert.ProjInDwRIdeal.τ).loc Cert.ProjInDwRIdeal.main_arg1) = m' ((c.tc : Thread Cert.ProjInDwRIdeal.nD Cert.ProjInDwRIdeal.τ).loc Cert.ProjInDwRIdeal.main_arg1))

def preserves_ProjInDx_ProjInDxIdeal : Prop :=
  True

def algebraic_ProjInDxIdeal_ProjInDxRIdeal [hProjInDxIdeal : Cert.ProjInDxIdeal.Facts] [hProjInDxRIdeal : Cert.ProjInDxRIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg)
    (m' : (ℓ : Loc Cert.ProjInDxRIdeal.nD Cert.ProjInDxRIdeal.τ Cert.ProjInDxRIdeal.sig) → Buf (Elt Ideal) ℓ) (g' : Dev Cert.ProjInDxRIdeal.nD → PrngReg), Pre_ProjInDxIdeal m →
    (∀ c : Dev Cert.ProjInDxIdeal.nD,
      m' ((c.tc : Thread Cert.ProjInDxRIdeal.nD Cert.ProjInDxRIdeal.τ).loc Cert.ProjInDxRIdeal.main_arg0) = m ((c.tc : Thread Cert.ProjInDxIdeal.nD Cert.ProjInDxIdeal.τ).loc Cert.ProjInDxIdeal.main_arg0)
      ∧ m' ((c.tc : Thread Cert.ProjInDxRIdeal.nD Cert.ProjInDxRIdeal.τ).loc Cert.ProjInDxRIdeal.main_arg1) = m ((c.tc : Thread Cert.ProjInDxIdeal.nD Cert.ProjInDxIdeal.τ).loc Cert.ProjInDxIdeal.main_arg1)) →
    ∃ (v0 : (c : Dev Cert.ProjInDxIdeal.nD) → Buf (Elt Ideal) ((c.tc : Thread Cert.ProjInDxIdeal.nD Cert.ProjInDxIdeal.τ).loc Cert.ProjInDxIdeal.main_v2)),
      θ_run (Cert.ProjInDxIdeal.defs (F := Ideal)) (onTc (τ := Cert.ProjInDxIdeal.τ) (Cert.ProjInDxIdeal.main (F := Ideal))) ⟨m, fun _ => 0, g⟩ (fun r => ∀ c : Dev Cert.ProjInDxIdeal.nD,
          r.2.mem ((c.tc : Thread Cert.ProjInDxIdeal.nD Cert.ProjInDxIdeal.τ).loc Cert.ProjInDxIdeal.main_v2) = v0 c
          ∧ r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
          ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1))
      ∧ θ_run (Cert.ProjInDxRIdeal.defs (F := Ideal)) (onTc (τ := Cert.ProjInDxRIdeal.τ) (Cert.ProjInDxRIdeal.main (F := Ideal))) ⟨m', fun _ => 0, g'⟩ (fun r => ∀ c : Dev Cert.ProjInDxRIdeal.nD,
          r.2.mem ((c.tc : Thread Cert.ProjInDxRIdeal.nD Cert.ProjInDxRIdeal.τ).loc Cert.ProjInDxRIdeal.main_v4) = v0 c
          ∧ r.2.mem ((c.tc : Thread Cert.ProjInDxRIdeal.nD Cert.ProjInDxRIdeal.τ).loc Cert.ProjInDxRIdeal.main_arg0) = m' ((c.tc : Thread Cert.ProjInDxRIdeal.nD Cert.ProjInDxRIdeal.τ).loc Cert.ProjInDxRIdeal.main_arg0)
          ∧ r.2.mem ((c.tc : Thread Cert.ProjInDxRIdeal.nD Cert.ProjInDxRIdeal.τ).loc Cert.ProjInDxRIdeal.main_arg1) = m' ((c.tc : Thread Cert.ProjInDxRIdeal.nD Cert.ProjInDxRIdeal.τ).loc Cert.ProjInDxRIdeal.main_arg1))

def preserves_ProjOutDw_ProjOutDwIdeal : Prop :=
  True

def algebraic_ProjOutDwIdeal_ProjOutDwRIdeal [hProjOutDwIdeal : Cert.ProjOutDwIdeal.Facts] [hProjOutDwRIdeal : Cert.ProjOutDwRIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg)
    (m' : (ℓ : Loc Cert.ProjOutDwRIdeal.nD Cert.ProjOutDwRIdeal.τ Cert.ProjOutDwRIdeal.sig) → Buf (Elt Ideal) ℓ) (g' : Dev Cert.ProjOutDwRIdeal.nD → PrngReg), Pre_ProjOutDwIdeal m →
    (∀ c : Dev Cert.ProjOutDwIdeal.nD,
      m' ((c.tc : Thread Cert.ProjOutDwRIdeal.nD Cert.ProjOutDwRIdeal.τ).loc Cert.ProjOutDwRIdeal.main_arg0) = m ((c.tc : Thread Cert.ProjOutDwIdeal.nD Cert.ProjOutDwIdeal.τ).loc Cert.ProjOutDwIdeal.main_arg0)
      ∧ m' ((c.tc : Thread Cert.ProjOutDwRIdeal.nD Cert.ProjOutDwRIdeal.τ).loc Cert.ProjOutDwRIdeal.main_arg1) = m ((c.tc : Thread Cert.ProjOutDwIdeal.nD Cert.ProjOutDwIdeal.τ).loc Cert.ProjOutDwIdeal.main_arg1)) →
    ∃ (v0 : (c : Dev Cert.ProjOutDwIdeal.nD) → Buf (Elt Ideal) ((c.tc : Thread Cert.ProjOutDwIdeal.nD Cert.ProjOutDwIdeal.τ).loc Cert.ProjOutDwIdeal.main_v1)),
      θ_run (Cert.ProjOutDwIdeal.defs (F := Ideal)) (onTc (τ := Cert.ProjOutDwIdeal.τ) (Cert.ProjOutDwIdeal.main (F := Ideal))) ⟨m, fun _ => 0, g⟩ (fun r => ∀ c : Dev Cert.ProjOutDwIdeal.nD,
          r.2.mem ((c.tc : Thread Cert.ProjOutDwIdeal.nD Cert.ProjOutDwIdeal.τ).loc Cert.ProjOutDwIdeal.main_v1) = v0 c
          ∧ r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
          ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1))
      ∧ θ_run (Cert.ProjOutDwRIdeal.defs (F := Ideal)) (onTc (τ := Cert.ProjOutDwRIdeal.τ) (Cert.ProjOutDwRIdeal.main (F := Ideal))) ⟨m', fun _ => 0, g'⟩ (fun r => ∀ c : Dev Cert.ProjOutDwRIdeal.nD,
          r.2.mem ((c.tc : Thread Cert.ProjOutDwRIdeal.nD Cert.ProjOutDwRIdeal.τ).loc Cert.ProjOutDwRIdeal.main_v4) = v0 c
          ∧ r.2.mem ((c.tc : Thread Cert.ProjOutDwRIdeal.nD Cert.ProjOutDwRIdeal.τ).loc Cert.ProjOutDwRIdeal.main_arg0) = m' ((c.tc : Thread Cert.ProjOutDwRIdeal.nD Cert.ProjOutDwRIdeal.τ).loc Cert.ProjOutDwRIdeal.main_arg0)
          ∧ r.2.mem ((c.tc : Thread Cert.ProjOutDwRIdeal.nD Cert.ProjOutDwRIdeal.τ).loc Cert.ProjOutDwRIdeal.main_arg1) = m' ((c.tc : Thread Cert.ProjOutDwRIdeal.nD Cert.ProjOutDwRIdeal.τ).loc Cert.ProjOutDwRIdeal.main_arg1))

def preserves_ProjGluDw_ProjGluDwIdeal : Prop :=
  True

def algebraic_ProjGluDwIdeal_ProjGluDwRIdeal [hProjGluDwIdeal : Cert.ProjGluDwIdeal.Facts] [hProjGluDwRIdeal : Cert.ProjGluDwRIdeal.Facts] : Prop :=
  ∀ (m : (ℓ : Loc Cert.ProjGluDwIdeal.nD Cert.ProjGluDwIdeal.τ Cert.ProjGluDwIdeal.sig) → Buf (Elt Ideal) ℓ) (g : Dev Cert.ProjGluDwIdeal.nD → PrngReg)
    (m' : (ℓ : Loc Cert.ProjGluDwRIdeal.nD Cert.ProjGluDwRIdeal.τ Cert.ProjGluDwRIdeal.sig) → Buf (Elt Ideal) ℓ) (g' : Dev Cert.ProjGluDwRIdeal.nD → PrngReg), Pre_ProjGluDwIdeal m →
    (∀ c : Dev Cert.ProjGluDwIdeal.nD,
      m' ((c.tc : Thread Cert.ProjGluDwRIdeal.nD Cert.ProjGluDwRIdeal.τ).loc Cert.ProjGluDwRIdeal.main_arg0) = m ((c.tc : Thread Cert.ProjGluDwIdeal.nD Cert.ProjGluDwIdeal.τ).loc Cert.ProjGluDwIdeal.main_arg0)
      ∧ m' ((c.tc : Thread Cert.ProjGluDwRIdeal.nD Cert.ProjGluDwRIdeal.τ).loc Cert.ProjGluDwRIdeal.main_arg1) = m ((c.tc : Thread Cert.ProjGluDwIdeal.nD Cert.ProjGluDwIdeal.τ).loc Cert.ProjGluDwIdeal.main_arg1)) →
    ∃ (v0 : (c : Dev Cert.ProjGluDwIdeal.nD) → Buf (Elt Ideal) ((c.tc : Thread Cert.ProjGluDwIdeal.nD Cert.ProjGluDwIdeal.τ).loc Cert.ProjGluDwIdeal.main_v2)),
      θ_run (Cert.ProjGluDwIdeal.defs (F := Ideal)) (onTc (τ := Cert.ProjGluDwIdeal.τ) (Cert.ProjGluDwIdeal.main (F := Ideal))) ⟨m, fun _ => 0, g⟩ (fun r => ∀ c : Dev Cert.ProjGluDwIdeal.nD,
          r.2.mem ((c.tc : Thread Cert.ProjGluDwIdeal.nD Cert.ProjGluDwIdeal.τ).loc Cert.ProjGluDwIdeal.main_v2) = v0 c
          ∧ r.2.mem ((c.tc : Thread Cert.ProjGluDwIdeal.nD Cert.ProjGluDwIdeal.τ).loc Cert.ProjGluDwIdeal.main_arg0) = m ((c.tc : Thread Cert.ProjGluDwIdeal.nD Cert.ProjGluDwIdeal.τ).loc Cert.ProjGluDwIdeal.main_arg0)
          ∧ r.2.mem ((c.tc : Thread Cert.ProjGluDwIdeal.nD Cert.ProjGluDwIdeal.τ).loc Cert.ProjGluDwIdeal.main_arg1) = m ((c.tc : Thread Cert.ProjGluDwIdeal.nD Cert.ProjGluDwIdeal.τ).loc Cert.ProjGluDwIdeal.main_arg1))
      ∧ θ_run (Cert.ProjGluDwRIdeal.defs (F := Ideal)) (onTc (τ := Cert.ProjGluDwRIdeal.τ) (Cert.ProjGluDwRIdeal.main (F := Ideal))) ⟨m', fun _ => 0, g'⟩ (fun r => ∀ c : Dev Cert.ProjGluDwRIdeal.nD,
          r.2.mem ((c.tc : Thread Cert.ProjGluDwRIdeal.nD Cert.ProjGluDwRIdeal.τ).loc Cert.ProjGluDwRIdeal.main_v4) = v0 c
          ∧ r.2.mem ((c.tc : Thread Cert.ProjGluDwRIdeal.nD Cert.ProjGluDwRIdeal.τ).loc Cert.ProjGluDwRIdeal.main_arg0) = m' ((c.tc : Thread Cert.ProjGluDwRIdeal.nD Cert.ProjGluDwRIdeal.τ).loc Cert.ProjGluDwRIdeal.main_arg0)
          ∧ r.2.mem ((c.tc : Thread Cert.ProjGluDwRIdeal.nD Cert.ProjGluDwRIdeal.τ).loc Cert.ProjGluDwRIdeal.main_arg1) = m' ((c.tc : Thread Cert.ProjGluDwRIdeal.nD Cert.ProjGluDwRIdeal.τ).loc Cert.ProjGluDwRIdeal.main_arg1))

def preserves_Loss_LossIdeal : Prop :=
  True

def algebraic_LossIdeal_LossRIdeal [hLossIdeal : Cert.LossIdeal.Facts] [hLossRIdeal : Cert.LossRIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRIdeal.nD Cert.LossRIdeal.τ Cert.LossRIdeal.sig) → Buf (Elt Ideal) ℓ) (g' : Dev Cert.LossRIdeal.nD → PrngReg), Pre_LossIdeal m →
    (∀ c : Dev Cert.LossIdeal.nD,
      m' ((c.tc : Thread Cert.LossRIdeal.nD Cert.LossRIdeal.τ).loc Cert.LossRIdeal.main_arg0) = m ((c.tc : Thread Cert.LossIdeal.nD Cert.LossIdeal.τ).loc Cert.LossIdeal.main_arg0)
      ∧ m' ((c.tc : Thread Cert.LossRIdeal.nD Cert.LossRIdeal.τ).loc Cert.LossRIdeal.main_arg1) = m ((c.tc : Thread Cert.LossIdeal.nD Cert.LossIdeal.τ).loc Cert.LossIdeal.main_arg1)
      ∧ m' ((c.tc : Thread Cert.LossRIdeal.nD Cert.LossRIdeal.τ).loc Cert.LossRIdeal.main_arg2) = m ((c.tc : Thread Cert.LossIdeal.nD Cert.LossIdeal.τ).loc Cert.LossIdeal.main_arg2)
      ∧ m' ((c.tc : Thread Cert.LossRIdeal.nD Cert.LossRIdeal.τ).loc Cert.LossRIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v5)) (v1 : (c : Dev Cert.LossIdeal.nD) → Buf (Elt Ideal) ((c.tc : Thread Cert.LossIdeal.nD Cert.LossIdeal.τ).loc Cert.LossIdeal.main_v2_0)) (v2 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5) = v0 c
          ∧ r.2.mem ((c.tc : Thread Cert.LossIdeal.nD Cert.LossIdeal.τ).loc Cert.LossIdeal.main_v2_0) = v1 c
          ∧ r.2.mem ((c.tc : Thread Cert.LossIdeal.nD Cert.LossIdeal.τ).loc Cert.LossIdeal.main_v2_1) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v10) = v0 c
          ∧ r.2.mem ((c.tc : Thread Cert.LossRIdeal.nD Cert.LossRIdeal.τ).loc Cert.LossRIdeal.main_v16) = v1 c
          ∧ r.2.mem ((c.tc : Thread Cert.LossRIdeal.nD Cert.LossRIdeal.τ).loc Cert.LossRIdeal.main_v17) = v2 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2)
          ∧ r.2.mem ((c.tc : Thread Cert.LossRIdeal.nD Cert.LossRIdeal.τ).loc Cert.LossRIdeal.main_arg3) = m' ((c.tc : Thread Cert.LossRIdeal.nD Cert.LossRIdeal.τ).loc Cert.LossRIdeal.main_arg3))

def preserves_NormBwd_NormBwdIdeal : Prop :=
  True

def algebraic_NormBwdIdeal_NormBwdRIdeal [hNormBwdIdeal : Cert.NormBwdIdeal.Facts] [hNormBwdRIdeal : Cert.NormBwdRIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRIdeal.nD Cert.NormBwdRIdeal.τ Cert.NormBwdRIdeal.sig) → Buf (Elt Ideal) ℓ) (g' : Dev Cert.NormBwdRIdeal.nD → PrngReg), Pre_NormBwdIdeal m →
    (∀ c : Dev Cert.NormBwdIdeal.nD,
      m' ((c.tc : Thread Cert.NormBwdRIdeal.nD Cert.NormBwdRIdeal.τ).loc Cert.NormBwdRIdeal.main_arg0) = m ((c.tc : Thread Cert.NormBwdIdeal.nD Cert.NormBwdIdeal.τ).loc Cert.NormBwdIdeal.main_arg0)
      ∧ m' ((c.tc : Thread Cert.NormBwdRIdeal.nD Cert.NormBwdRIdeal.τ).loc Cert.NormBwdRIdeal.main_arg1) = m ((c.tc : Thread Cert.NormBwdIdeal.nD Cert.NormBwdIdeal.τ).loc Cert.NormBwdIdeal.main_arg1)
      ∧ m' ((c.tc : Thread Cert.NormBwdRIdeal.nD Cert.NormBwdRIdeal.τ).loc Cert.NormBwdRIdeal.main_arg2) = m ((c.tc : Thread Cert.NormBwdIdeal.nD Cert.NormBwdIdeal.τ).loc Cert.NormBwdIdeal.main_arg2)
      ∧ m' ((c.tc : Thread Cert.NormBwdRIdeal.nD Cert.NormBwdRIdeal.τ).loc Cert.NormBwdRIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v2) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRIdeal.defs (F := Ideal)) (onTc (τ := Cert.NormBwdRIdeal.τ) (Cert.NormBwdRIdeal.main (F := Ideal))) ⟨m', fun _ => 0, g'⟩ (fun r => ∀ c : Dev Cert.NormBwdRIdeal.nD,
          r.2.mem ((c.tc : Thread Cert.NormBwdRIdeal.nD Cert.NormBwdRIdeal.τ).loc Cert.NormBwdRIdeal.main_v36) = v0 c
          ∧ r.2.mem ((c.tc : Thread Cert.NormBwdRIdeal.nD Cert.NormBwdRIdeal.τ).loc Cert.NormBwdRIdeal.main_v21) = v1 c
          ∧ r.2.mem ((c.tc : Thread Cert.NormBwdRIdeal.nD Cert.NormBwdRIdeal.τ).loc Cert.NormBwdRIdeal.main_arg0) = m' ((c.tc : Thread Cert.NormBwdRIdeal.nD Cert.NormBwdRIdeal.τ).loc Cert.NormBwdRIdeal.main_arg0)
          ∧ r.2.mem ((c.tc : Thread Cert.NormBwdRIdeal.nD Cert.NormBwdRIdeal.τ).loc Cert.NormBwdRIdeal.main_arg1) = m' ((c.tc : Thread Cert.NormBwdRIdeal.nD Cert.NormBwdRIdeal.τ).loc Cert.NormBwdRIdeal.main_arg1)
          ∧ r.2.mem ((c.tc : Thread Cert.NormBwdRIdeal.nD Cert.NormBwdRIdeal.τ).loc Cert.NormBwdRIdeal.main_arg2) = m' ((c.tc : Thread Cert.NormBwdRIdeal.nD Cert.NormBwdRIdeal.τ).loc Cert.NormBwdRIdeal.main_arg2)
          ∧ r.2.mem ((c.tc : Thread Cert.NormBwdRIdeal.nD Cert.NormBwdRIdeal.τ).loc Cert.NormBwdRIdeal.main_arg3) = m' ((c.tc : Thread Cert.NormBwdRIdeal.nD Cert.NormBwdRIdeal.τ).loc Cert.NormBwdRIdeal.main_arg3))

def preserves_MixBwd_MixBwdIdeal : Prop :=
  True

def algebraic_MixBwdIdeal_MixBwdRIdeal [hMixBwdIdeal : Cert.MixBwdIdeal.Facts] [hMixBwdRIdeal : Cert.MixBwdRIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRIdeal.nD Cert.MixBwdRIdeal.τ Cert.MixBwdRIdeal.sig) → Buf (Elt Ideal) ℓ) (g' : Dev Cert.MixBwdRIdeal.nD → PrngReg), Pre_MixBwdIdeal m →
    (∀ c : Dev Cert.MixBwdIdeal.nD,
      m' ((c.tc : Thread Cert.MixBwdRIdeal.nD Cert.MixBwdRIdeal.τ).loc Cert.MixBwdRIdeal.main_arg0) = m ((c.tc : Thread Cert.MixBwdIdeal.nD Cert.MixBwdIdeal.τ).loc Cert.MixBwdIdeal.main_arg0)
      ∧ m' ((c.tc : Thread Cert.MixBwdRIdeal.nD Cert.MixBwdRIdeal.τ).loc Cert.MixBwdRIdeal.main_arg1) = m ((c.tc : Thread Cert.MixBwdIdeal.nD Cert.MixBwdIdeal.τ).loc Cert.MixBwdIdeal.main_arg1)
      ∧ m' ((c.tc : Thread Cert.MixBwdRIdeal.nD Cert.MixBwdRIdeal.τ).loc Cert.MixBwdRIdeal.main_arg2) = m ((c.tc : Thread Cert.MixBwdIdeal.nD Cert.MixBwdIdeal.τ).loc Cert.MixBwdIdeal.main_arg2)
      ∧ m' ((c.tc : Thread Cert.MixBwdRIdeal.nD Cert.MixBwdRIdeal.τ).loc Cert.MixBwdRIdeal.main_arg3) = m ((c.tc : Thread Cert.MixBwdIdeal.nD Cert.MixBwdIdeal.τ).loc Cert.MixBwdIdeal.main_arg3)
      ∧ m' ((c.tc : Thread Cert.MixBwdRIdeal.nD Cert.MixBwdRIdeal.τ).loc Cert.MixBwdRIdeal.main_arg4) = m ((c.tc : Thread Cert.MixBwdIdeal.nD Cert.MixBwdIdeal.τ).loc Cert.MixBwdIdeal.main_arg4)
      ∧ m' ((c.tc : Thread Cert.MixBwdRIdeal.nD Cert.MixBwdRIdeal.τ).loc Cert.MixBwdRIdeal.main_arg5) = m ((c.tc : Thread Cert.MixBwdIdeal.nD Cert.MixBwdIdeal.τ).loc Cert.MixBwdIdeal.main_arg5)
      ∧ m' ((c.tc : Thread Cert.MixBwdRIdeal.nD Cert.MixBwdRIdeal.τ).loc Cert.MixBwdRIdeal.main_arg6) = m ((c.tc : Thread Cert.MixBwdIdeal.nD Cert.MixBwdIdeal.τ).loc Cert.MixBwdIdeal.main_arg6)) →
    ∃ (v0 : (c : Dev Cert.MixBwdIdeal.nD) → Buf (Elt Ideal) ((c.tc : Thread Cert.MixBwdIdeal.nD Cert.MixBwdIdeal.τ).loc Cert.MixBwdIdeal.main_v4_0)) (v1 : (c : Dev Cert.MixBwdIdeal.nD) → Buf (Elt Ideal) ((c.tc : Thread Cert.MixBwdIdeal.nD Cert.MixBwdIdeal.τ).loc Cert.MixBwdIdeal.main_v4_1)) (v2 : (c : Dev Cert.MixBwdIdeal.nD) → Buf (Elt Ideal) ((c.tc : Thread Cert.MixBwdIdeal.nD Cert.MixBwdIdeal.τ).loc Cert.MixBwdIdeal.main_v4_2)) (v3 : (c : Dev Cert.MixBwdIdeal.nD) → Buf (Elt Ideal) ((c.tc : Thread Cert.MixBwdIdeal.nD Cert.MixBwdIdeal.τ).loc Cert.MixBwdIdeal.main_v5)) (v4 : (c : Dev Cert.MixBwdIdeal.nD) → Buf (Elt Ideal) ((c.tc : Thread Cert.MixBwdIdeal.nD Cert.MixBwdIdeal.τ).loc Cert.MixBwdIdeal.main_v6)) (v5 : (c : Dev Cert.MixBwdIdeal.nD) → Buf (Elt Ideal) ((c.tc : Thread Cert.MixBwdIdeal.nD Cert.MixBwdIdeal.τ).loc Cert.MixBwdIdeal.main_v7)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v4_0) = v0 c
          ∧ r.2.mem ((c.tc : Thread Cert.MixBwdIdeal.nD Cert.MixBwdIdeal.τ).loc Cert.MixBwdIdeal.main_v4_1) = v1 c
          ∧ r.2.mem ((c.tc : Thread Cert.MixBwdIdeal.nD Cert.MixBwdIdeal.τ).loc Cert.MixBwdIdeal.main_v4_2) = v2 c
          ∧ r.2.mem ((c.tc : Thread Cert.MixBwdIdeal.nD Cert.MixBwdIdeal.τ).loc Cert.MixBwdIdeal.main_v5) = v3 c
          ∧ r.2.mem ((c.tc : Thread Cert.MixBwdIdeal.nD Cert.MixBwdIdeal.τ).loc Cert.MixBwdIdeal.main_v6) = v4 c
          ∧ r.2.mem ((c.tc : Thread Cert.MixBwdIdeal.nD Cert.MixBwdIdeal.τ).loc Cert.MixBwdIdeal.main_v7) = v5 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ θ_run (Cert.MixBwdRIdeal.defs (F := Ideal)) (onTc (τ := Cert.MixBwdRIdeal.τ) (Cert.MixBwdRIdeal.main (F := Ideal))) ⟨m', fun _ => 0, g'⟩ (fun r => ∀ c : Dev Cert.MixBwdRIdeal.nD,
          r.2.mem ((c.tc : Thread Cert.MixBwdRIdeal.nD Cert.MixBwdRIdeal.τ).loc Cert.MixBwdRIdeal.main_v106) = v0 c
          ∧ r.2.mem ((c.tc : Thread Cert.MixBwdRIdeal.nD Cert.MixBwdRIdeal.τ).loc Cert.MixBwdRIdeal.main_v107) = v1 c
          ∧ r.2.mem ((c.tc : Thread Cert.MixBwdRIdeal.nD Cert.MixBwdRIdeal.τ).loc Cert.MixBwdRIdeal.main_v82) = v2 c
          ∧ r.2.mem ((c.tc : Thread Cert.MixBwdRIdeal.nD Cert.MixBwdRIdeal.τ).loc Cert.MixBwdRIdeal.main_v92) = v3 c
          ∧ r.2.mem ((c.tc : Thread Cert.MixBwdRIdeal.nD Cert.MixBwdRIdeal.τ).loc Cert.MixBwdRIdeal.main_v66) = v4 c
          ∧ r.2.mem ((c.tc : Thread Cert.MixBwdRIdeal.nD Cert.MixBwdRIdeal.τ).loc Cert.MixBwdRIdeal.main_v86) = v5 c
          ∧ r.2.mem ((c.tc : Thread Cert.MixBwdRIdeal.nD Cert.MixBwdRIdeal.τ).loc Cert.MixBwdRIdeal.main_arg0) = m' ((c.tc : Thread Cert.MixBwdRIdeal.nD Cert.MixBwdRIdeal.τ).loc Cert.MixBwdRIdeal.main_arg0)
          ∧ r.2.mem ((c.tc : Thread Cert.MixBwdRIdeal.nD Cert.MixBwdRIdeal.τ).loc Cert.MixBwdRIdeal.main_arg1) = m' ((c.tc : Thread Cert.MixBwdRIdeal.nD Cert.MixBwdRIdeal.τ).loc Cert.MixBwdRIdeal.main_arg1)
          ∧ r.2.mem ((c.tc : Thread Cert.MixBwdRIdeal.nD Cert.MixBwdRIdeal.τ).loc Cert.MixBwdRIdeal.main_arg2) = m' ((c.tc : Thread Cert.MixBwdRIdeal.nD Cert.MixBwdRIdeal.τ).loc Cert.MixBwdRIdeal.main_arg2)
          ∧ r.2.mem ((c.tc : Thread Cert.MixBwdRIdeal.nD Cert.MixBwdRIdeal.τ).loc Cert.MixBwdRIdeal.main_arg3) = m' ((c.tc : Thread Cert.MixBwdRIdeal.nD Cert.MixBwdRIdeal.τ).loc Cert.MixBwdRIdeal.main_arg3)
          ∧ r.2.mem ((c.tc : Thread Cert.MixBwdRIdeal.nD Cert.MixBwdRIdeal.τ).loc Cert.MixBwdRIdeal.main_arg4) = m' ((c.tc : Thread Cert.MixBwdRIdeal.nD Cert.MixBwdRIdeal.τ).loc Cert.MixBwdRIdeal.main_arg4)
          ∧ r.2.mem ((c.tc : Thread Cert.MixBwdRIdeal.nD Cert.MixBwdRIdeal.τ).loc Cert.MixBwdRIdeal.main_arg5) = m' ((c.tc : Thread Cert.MixBwdRIdeal.nD Cert.MixBwdRIdeal.τ).loc Cert.MixBwdRIdeal.main_arg5)
          ∧ r.2.mem ((c.tc : Thread Cert.MixBwdRIdeal.nD Cert.MixBwdRIdeal.τ).loc Cert.MixBwdRIdeal.main_arg6) = m' ((c.tc : Thread Cert.MixBwdRIdeal.nD Cert.MixBwdRIdeal.τ).loc Cert.MixBwdRIdeal.main_arg6))

def preserves_S5Mm_S5MmIdeal : Prop :=
  True

def algebraic_S5MmIdeal_S5MmRIdeal [hS5MmIdeal : Cert.S5MmIdeal.Facts] [hS5MmRIdeal : Cert.S5MmRIdeal.Facts] : Prop :=
  ∀ (m : (ℓ : Loc Cert.S5MmIdeal.nD Cert.S5MmIdeal.τ Cert.S5MmIdeal.sig) → Buf (Elt Ideal) ℓ) (g : Dev Cert.S5MmIdeal.nD → PrngReg)
    (m' : (ℓ : Loc Cert.S5MmRIdeal.nD Cert.S5MmRIdeal.τ Cert.S5MmRIdeal.sig) → Buf (Elt Ideal) ℓ) (g' : Dev Cert.S5MmRIdeal.nD → PrngReg), Pre_S5MmIdeal m →
    (∀ c : Dev Cert.S5MmIdeal.nD,
      m' ((c.tc : Thread Cert.S5MmRIdeal.nD Cert.S5MmRIdeal.τ).loc Cert.S5MmRIdeal.main_arg0) = m ((c.tc : Thread Cert.S5MmIdeal.nD Cert.S5MmIdeal.τ).loc Cert.S5MmIdeal.main_arg0)
      ∧ m' ((c.tc : Thread Cert.S5MmRIdeal.nD Cert.S5MmRIdeal.τ).loc Cert.S5MmRIdeal.main_arg1) = m ((c.tc : Thread Cert.S5MmIdeal.nD Cert.S5MmIdeal.τ).loc Cert.S5MmIdeal.main_arg1)
      ∧ m' ((c.tc : Thread Cert.S5MmRIdeal.nD Cert.S5MmRIdeal.τ).loc Cert.S5MmRIdeal.main_arg2) = m ((c.tc : Thread Cert.S5MmIdeal.nD Cert.S5MmIdeal.τ).loc Cert.S5MmIdeal.main_arg2)
      ∧ m' ((c.tc : Thread Cert.S5MmRIdeal.nD Cert.S5MmRIdeal.τ).loc Cert.S5MmRIdeal.main_arg3) = m ((c.tc : Thread Cert.S5MmIdeal.nD Cert.S5MmIdeal.τ).loc Cert.S5MmIdeal.main_arg3)
      ∧ m' ((c.tc : Thread Cert.S5MmRIdeal.nD Cert.S5MmRIdeal.τ).loc Cert.S5MmRIdeal.main_arg4) = m ((c.tc : Thread Cert.S5MmIdeal.nD Cert.S5MmIdeal.τ).loc Cert.S5MmIdeal.main_arg4)
      ∧ m' ((c.tc : Thread Cert.S5MmRIdeal.nD Cert.S5MmRIdeal.τ).loc Cert.S5MmRIdeal.main_arg5) = m ((c.tc : Thread Cert.S5MmIdeal.nD Cert.S5MmIdeal.τ).loc Cert.S5MmIdeal.main_arg5)
      ∧ m' ((c.tc : Thread Cert.S5MmRIdeal.nD Cert.S5MmRIdeal.τ).loc Cert.S5MmRIdeal.main_arg6) = m ((c.tc : Thread Cert.S5MmIdeal.nD Cert.S5MmIdeal.τ).loc Cert.S5MmIdeal.main_arg6)) →
    ∃ (v0 : (c : Dev Cert.S5MmIdeal.nD) → Buf (Elt Ideal) ((c.tc : Thread Cert.S5MmIdeal.nD Cert.S5MmIdeal.τ).loc Cert.S5MmIdeal.main_v5)) (v1 : (c : Dev Cert.S5MmIdeal.nD) → Buf (Elt Ideal) ((c.tc : Thread Cert.S5MmIdeal.nD Cert.S5MmIdeal.τ).loc Cert.S5MmIdeal.main_v7)) (v2 : (c : Dev Cert.S5MmIdeal.nD) → Buf (Elt Ideal) ((c.tc : Thread Cert.S5MmIdeal.nD Cert.S5MmIdeal.τ).loc Cert.S5MmIdeal.main_v8)) (v3 : (c : Dev Cert.S5MmIdeal.nD) → Buf (Elt Ideal) ((c.tc : Thread Cert.S5MmIdeal.nD Cert.S5MmIdeal.τ).loc Cert.S5MmIdeal.main_v9)) (v4 : (c : Dev Cert.S5MmIdeal.nD) → Buf (Elt Ideal) ((c.tc : Thread Cert.S5MmIdeal.nD Cert.S5MmIdeal.τ).loc Cert.S5MmIdeal.main_v10)),
      θ_run (Cert.S5MmIdeal.defs (F := Ideal)) (onTc (τ := Cert.S5MmIdeal.τ) (Cert.S5MmIdeal.main (F := Ideal))) ⟨m, fun _ => 0, g⟩ (fun r => ∀ c : Dev Cert.S5MmIdeal.nD,
          r.2.mem ((c.tc : Thread Cert.S5MmIdeal.nD Cert.S5MmIdeal.τ).loc Cert.S5MmIdeal.main_v5) = v0 c
          ∧ r.2.mem ((c.tc : Thread Cert.S5MmIdeal.nD Cert.S5MmIdeal.τ).loc Cert.S5MmIdeal.main_v7) = v1 c
          ∧ r.2.mem ((c.tc : Thread Cert.S5MmIdeal.nD Cert.S5MmIdeal.τ).loc Cert.S5MmIdeal.main_v8) = v2 c
          ∧ r.2.mem ((c.tc : Thread Cert.S5MmIdeal.nD Cert.S5MmIdeal.τ).loc Cert.S5MmIdeal.main_v9) = v3 c
          ∧ r.2.mem ((c.tc : Thread Cert.S5MmIdeal.nD Cert.S5MmIdeal.τ).loc Cert.S5MmIdeal.main_v10) = v4 c
          ∧ r.2.mem ((c.tc : Thread Cert.S5MmIdeal.nD Cert.S5MmIdeal.τ).loc Cert.S5MmIdeal.main_arg0) = m ((c.tc : Thread Cert.S5MmIdeal.nD Cert.S5MmIdeal.τ).loc Cert.S5MmIdeal.main_arg0)
          ∧ r.2.mem ((c.tc : Thread Cert.S5MmIdeal.nD Cert.S5MmIdeal.τ).loc Cert.S5MmIdeal.main_arg1) = m ((c.tc : Thread Cert.S5MmIdeal.nD Cert.S5MmIdeal.τ).loc Cert.S5MmIdeal.main_arg1)
          ∧ r.2.mem ((c.tc : Thread Cert.S5MmIdeal.nD Cert.S5MmIdeal.τ).loc Cert.S5MmIdeal.main_arg2) = m ((c.tc : Thread Cert.S5MmIdeal.nD Cert.S5MmIdeal.τ).loc Cert.S5MmIdeal.main_arg2)
          ∧ r.2.mem ((c.tc : Thread Cert.S5MmIdeal.nD Cert.S5MmIdeal.τ).loc Cert.S5MmIdeal.main_arg3) = m ((c.tc : Thread Cert.S5MmIdeal.nD Cert.S5MmIdeal.τ).loc Cert.S5MmIdeal.main_arg3)
          ∧ r.2.mem ((c.tc : Thread Cert.S5MmIdeal.nD Cert.S5MmIdeal.τ).loc Cert.S5MmIdeal.main_arg4) = m ((c.tc : Thread Cert.S5MmIdeal.nD Cert.S5MmIdeal.τ).loc Cert.S5MmIdeal.main_arg4)
          ∧ r.2.mem ((c.tc : Thread Cert.S5MmIdeal.nD Cert.S5MmIdeal.τ).loc Cert.S5MmIdeal.main_arg5) = m ((c.tc : Thread Cert.S5MmIdeal.nD Cert.S5MmIdeal.τ).loc Cert.S5MmIdeal.main_arg5)
          ∧ r.2.mem ((c.tc : Thread Cert.S5MmIdeal.nD Cert.S5MmIdeal.τ).loc Cert.S5MmIdeal.main_arg6) = m ((c.tc : Thread Cert.S5MmIdeal.nD Cert.S5MmIdeal.τ).loc Cert.S5MmIdeal.main_arg6))
      ∧ θ_run (Cert.S5MmRIdeal.defs (F := Ideal)) (onTc (τ := Cert.S5MmRIdeal.τ) (Cert.S5MmRIdeal.main (F := Ideal))) ⟨m', fun _ => 0, g'⟩ (fun r => ∀ c : Dev Cert.S5MmRIdeal.nD,
          r.2.mem ((c.tc : Thread Cert.S5MmRIdeal.nD Cert.S5MmRIdeal.τ).loc Cert.S5MmRIdeal.main_v28) = v0 c
          ∧ r.2.mem ((c.tc : Thread Cert.S5MmRIdeal.nD Cert.S5MmRIdeal.τ).loc Cert.S5MmRIdeal.main_v30) = v1 c
          ∧ r.2.mem ((c.tc : Thread Cert.S5MmRIdeal.nD Cert.S5MmRIdeal.τ).loc Cert.S5MmRIdeal.main_v27) = v2 c
          ∧ r.2.mem ((c.tc : Thread Cert.S5MmRIdeal.nD Cert.S5MmRIdeal.τ).loc Cert.S5MmRIdeal.main_v16) = v3 c
          ∧ r.2.mem ((c.tc : Thread Cert.S5MmRIdeal.nD Cert.S5MmRIdeal.τ).loc Cert.S5MmRIdeal.main_v21) = v4 c
          ∧ r.2.mem ((c.tc : Thread Cert.S5MmRIdeal.nD Cert.S5MmRIdeal.τ).loc Cert.S5MmRIdeal.main_arg0) = m' ((c.tc : Thread Cert.S5MmRIdeal.nD Cert.S5MmRIdeal.τ).loc Cert.S5MmRIdeal.main_arg0)
          ∧ r.2.mem ((c.tc : Thread Cert.S5MmRIdeal.nD Cert.S5MmRIdeal.τ).loc Cert.S5MmRIdeal.main_arg1) = m' ((c.tc : Thread Cert.S5MmRIdeal.nD Cert.S5MmRIdeal.τ).loc Cert.S5MmRIdeal.main_arg1)
          ∧ r.2.mem ((c.tc : Thread Cert.S5MmRIdeal.nD Cert.S5MmRIdeal.τ).loc Cert.S5MmRIdeal.main_arg2) = m' ((c.tc : Thread Cert.S5MmRIdeal.nD Cert.S5MmRIdeal.τ).loc Cert.S5MmRIdeal.main_arg2)
          ∧ r.2.mem ((c.tc : Thread Cert.S5MmRIdeal.nD Cert.S5MmRIdeal.τ).loc Cert.S5MmRIdeal.main_arg3) = m' ((c.tc : Thread Cert.S5MmRIdeal.nD Cert.S5MmRIdeal.τ).loc Cert.S5MmRIdeal.main_arg3)
          ∧ r.2.mem ((c.tc : Thread Cert.S5MmRIdeal.nD Cert.S5MmRIdeal.τ).loc Cert.S5MmRIdeal.main_arg4) = m' ((c.tc : Thread Cert.S5MmRIdeal.nD Cert.S5MmRIdeal.τ).loc Cert.S5MmRIdeal.main_arg4)
          ∧ r.2.mem ((c.tc : Thread Cert.S5MmRIdeal.nD Cert.S5MmRIdeal.τ).loc Cert.S5MmRIdeal.main_arg5) = m' ((c.tc : Thread Cert.S5MmRIdeal.nD Cert.S5MmRIdeal.τ).loc Cert.S5MmRIdeal.main_arg5)
          ∧ r.2.mem ((c.tc : Thread Cert.S5MmRIdeal.nD Cert.S5MmRIdeal.τ).loc Cert.S5MmRIdeal.main_arg6) = m' ((c.tc : Thread Cert.S5MmRIdeal.nD Cert.S5MmRIdeal.τ).loc Cert.S5MmRIdeal.main_arg6))

def preserves_S5Fwd_S5FwdIdeal : Prop :=
  True

def algebraic_S5FwdIdeal_S5FwdRIdeal [hS5FwdIdeal : Cert.S5FwdIdeal.Facts] [hS5FwdRIdeal : Cert.S5FwdRIdeal.Facts] : Prop :=
  ∀ (m : (ℓ : Loc Cert.S5FwdIdeal.nD Cert.S5FwdIdeal.τ Cert.S5FwdIdeal.sig) → Buf (Elt Ideal) ℓ) (g : Dev Cert.S5FwdIdeal.nD → PrngReg)
    (m' : (ℓ : Loc Cert.S5FwdRIdeal.nD Cert.S5FwdRIdeal.τ Cert.S5FwdRIdeal.sig) → Buf (Elt Ideal) ℓ) (g' : Dev Cert.S5FwdRIdeal.nD → PrngReg), Pre_S5FwdIdeal m →
    (∀ c : Dev Cert.S5FwdIdeal.nD,
      m' ((c.tc : Thread Cert.S5FwdRIdeal.nD Cert.S5FwdRIdeal.τ).loc Cert.S5FwdRIdeal.main_arg0) = m ((c.tc : Thread Cert.S5FwdIdeal.nD Cert.S5FwdIdeal.τ).loc Cert.S5FwdIdeal.main_arg0)
      ∧ m' ((c.tc : Thread Cert.S5FwdRIdeal.nD Cert.S5FwdRIdeal.τ).loc Cert.S5FwdRIdeal.main_arg1) = m ((c.tc : Thread Cert.S5FwdIdeal.nD Cert.S5FwdIdeal.τ).loc Cert.S5FwdIdeal.main_arg1)
      ∧ m' ((c.tc : Thread Cert.S5FwdRIdeal.nD Cert.S5FwdRIdeal.τ).loc Cert.S5FwdRIdeal.main_arg2) = m ((c.tc : Thread Cert.S5FwdIdeal.nD Cert.S5FwdIdeal.τ).loc Cert.S5FwdIdeal.main_arg2)
      ∧ m' ((c.tc : Thread Cert.S5FwdRIdeal.nD Cert.S5FwdRIdeal.τ).loc Cert.S5FwdRIdeal.main_arg3) = m ((c.tc : Thread Cert.S5FwdIdeal.nD Cert.S5FwdIdeal.τ).loc Cert.S5FwdIdeal.main_arg3)
      ∧ m' ((c.tc : Thread Cert.S5FwdRIdeal.nD Cert.S5FwdRIdeal.τ).loc Cert.S5FwdRIdeal.main_arg4) = m ((c.tc : Thread Cert.S5FwdIdeal.nD Cert.S5FwdIdeal.τ).loc Cert.S5FwdIdeal.main_arg4)) →
    ∃ (v0 : (c : Dev Cert.S5FwdIdeal.nD) → Buf (Elt Ideal) ((c.tc : Thread Cert.S5FwdIdeal.nD Cert.S5FwdIdeal.τ).loc Cert.S5FwdIdeal.main_v6)) (v1 : (c : Dev Cert.S5FwdIdeal.nD) → Buf (Elt Ideal) ((c.tc : Thread Cert.S5FwdIdeal.nD Cert.S5FwdIdeal.τ).loc Cert.S5FwdIdeal.main_v5)),
      θ_run (Cert.S5FwdIdeal.defs (F := Ideal)) (onTc (τ := Cert.S5FwdIdeal.τ) (Cert.S5FwdIdeal.main (F := Ideal))) ⟨m, fun _ => 0, g⟩ (fun r => ∀ c : Dev Cert.S5FwdIdeal.nD,
          r.2.mem ((c.tc : Thread Cert.S5FwdIdeal.nD Cert.S5FwdIdeal.τ).loc Cert.S5FwdIdeal.main_v6) = v0 c
          ∧ r.2.mem ((c.tc : Thread Cert.S5FwdIdeal.nD Cert.S5FwdIdeal.τ).loc Cert.S5FwdIdeal.main_v5) = v1 c
          ∧ r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
          ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
          ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
          ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
          ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4))
      ∧ θ_run (Cert.S5FwdRIdeal.defs (F := Ideal)) (onTc (τ := Cert.S5FwdRIdeal.τ) (Cert.S5FwdRIdeal.main (F := Ideal))) ⟨m', fun _ => 0, g'⟩ (fun r => ∀ c : Dev Cert.S5FwdRIdeal.nD,
          r.2.mem ((c.tc : Thread Cert.S5FwdRIdeal.nD Cert.S5FwdRIdeal.τ).loc Cert.S5FwdRIdeal.main_v11) = v0 c
          ∧ r.2.mem ((c.tc : Thread Cert.S5FwdRIdeal.nD Cert.S5FwdRIdeal.τ).loc Cert.S5FwdRIdeal.main_v10) = v1 c
          ∧ r.2.mem ((c.tc : Thread Cert.S5FwdRIdeal.nD Cert.S5FwdRIdeal.τ).loc Cert.S5FwdRIdeal.main_arg0) = m' ((c.tc : Thread Cert.S5FwdRIdeal.nD Cert.S5FwdRIdeal.τ).loc Cert.S5FwdRIdeal.main_arg0)
          ∧ r.2.mem ((c.tc : Thread Cert.S5FwdRIdeal.nD Cert.S5FwdRIdeal.τ).loc Cert.S5FwdRIdeal.main_arg1) = m' ((c.tc : Thread Cert.S5FwdRIdeal.nD Cert.S5FwdRIdeal.τ).loc Cert.S5FwdRIdeal.main_arg1)
          ∧ r.2.mem ((c.tc : Thread Cert.S5FwdRIdeal.nD Cert.S5FwdRIdeal.τ).loc Cert.S5FwdRIdeal.main_arg2) = m' ((c.tc : Thread Cert.S5FwdRIdeal.nD Cert.S5FwdRIdeal.τ).loc Cert.S5FwdRIdeal.main_arg2)
          ∧ r.2.mem ((c.tc : Thread Cert.S5FwdRIdeal.nD Cert.S5FwdRIdeal.τ).loc Cert.S5FwdRIdeal.main_arg3) = m' ((c.tc : Thread Cert.S5FwdRIdeal.nD Cert.S5FwdRIdeal.τ).loc Cert.S5FwdRIdeal.main_arg3)
          ∧ r.2.mem ((c.tc : Thread Cert.S5FwdRIdeal.nD Cert.S5FwdRIdeal.τ).loc Cert.S5FwdRIdeal.main_arg4) = m' ((c.tc : Thread Cert.S5FwdRIdeal.nD Cert.S5FwdRIdeal.τ).loc Cert.S5FwdRIdeal.main_arg4))

def Claim : Prop :=
  ∃ (hKernel : Cert.Kernel.Facts) (hKernelIdeal : Cert.KernelIdeal.Facts) (hReferenceIdeal : Cert.ReferenceIdeal.Facts) (hInDw : Cert.InDw.Facts) (hInDwIdeal : Cert.InDwIdeal.Facts) (hInDwRIdeal : Cert.InDwRIdeal.Facts) (hDownDw : Cert.DownDw.Facts) (hDownDwIdeal : Cert.DownDwIdeal.Facts) (hDownDwRIdeal : Cert.DownDwRIdeal.Facts) (hGateDx : Cert.GateDx.Facts) (hGateDxIdeal : Cert.GateDxIdeal.Facts) (hGateDxRIdeal : Cert.GateDxRIdeal.Facts) (hUpDx : Cert.UpDx.Facts) (hUpDxIdeal : Cert.UpDxIdeal.Facts) (hUpDxRIdeal : Cert.UpDxRIdeal.Facts) (hGlu : Cert.Glu.Facts) (hGluIdeal : Cert.GluIdeal.Facts) (hGluRIdeal : Cert.GluRIdeal.Facts) (hProj : Cert.Proj.Facts) (hProjIdeal : Cert.ProjIdeal.Facts) (hProjRIdeal : Cert.ProjRIdeal.Facts) (hProjInDw : Cert.ProjInDw.Facts) (hProjInDwIdeal : Cert.ProjInDwIdeal.Facts) (hProjInDwRIdeal : Cert.ProjInDwRIdeal.Facts) (hProjInDx : Cert.ProjInDx.Facts) (hProjInDxIdeal : Cert.ProjInDxIdeal.Facts) (hProjInDxRIdeal : Cert.ProjInDxRIdeal.Facts) (hProjOutDw : Cert.ProjOutDw.Facts) (hProjOutDwIdeal : Cert.ProjOutDwIdeal.Facts) (hProjOutDwRIdeal : Cert.ProjOutDwRIdeal.Facts) (hProjGluDw : Cert.ProjGluDw.Facts) (hProjGluDwIdeal : Cert.ProjGluDwIdeal.Facts) (hProjGluDwRIdeal : Cert.ProjGluDwRIdeal.Facts) (hLoss : Cert.Loss.Facts) (hLossIdeal : Cert.LossIdeal.Facts) (hLossRIdeal : Cert.LossRIdeal.Facts) (hNormBwd : Cert.NormBwd.Facts) (hNormBwdIdeal : Cert.NormBwdIdeal.Facts) (hNormBwdRIdeal : Cert.NormBwdRIdeal.Facts) (hMixBwd : Cert.MixBwd.Facts) (hMixBwdIdeal : Cert.MixBwdIdeal.Facts) (hMixBwdRIdeal : Cert.MixBwdRIdeal.Facts) (hS5Mm : Cert.S5Mm.Facts) (hS5MmIdeal : Cert.S5MmIdeal.Facts) (hS5MmRIdeal : Cert.S5MmRIdeal.Facts) (hS5Fwd : Cert.S5Fwd.Facts) (hS5FwdIdeal : Cert.S5FwdIdeal.Facts) (hS5FwdRIdeal : Cert.S5FwdRIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_InDw (hInDw := hInDw)
    ∧ quiescent_InDwIdeal (hInDwIdeal := hInDwIdeal)
    ∧ quiescent_InDwRIdeal (hInDwRIdeal := hInDwRIdeal)
    ∧ quiescent_DownDw (hDownDw := hDownDw)
    ∧ quiescent_DownDwIdeal (hDownDwIdeal := hDownDwIdeal)
    ∧ quiescent_DownDwRIdeal (hDownDwRIdeal := hDownDwRIdeal)
    ∧ quiescent_GateDx (hGateDx := hGateDx)
    ∧ quiescent_GateDxIdeal (hGateDxIdeal := hGateDxIdeal)
    ∧ quiescent_GateDxRIdeal (hGateDxRIdeal := hGateDxRIdeal)
    ∧ quiescent_UpDx (hUpDx := hUpDx)
    ∧ quiescent_UpDxIdeal (hUpDxIdeal := hUpDxIdeal)
    ∧ quiescent_UpDxRIdeal (hUpDxRIdeal := hUpDxRIdeal)
    ∧ quiescent_Glu (hGlu := hGlu)
    ∧ quiescent_GluIdeal (hGluIdeal := hGluIdeal)
    ∧ quiescent_GluIdeal_pre_finite (hGluIdeal := hGluIdeal) (hPre_finite := hPre_finite)
    ∧ quiescent_GluRIdeal (hGluRIdeal := hGluRIdeal)
    ∧ quiescent_GluRIdeal_pre_finite (hGluRIdeal := hGluRIdeal) (hPre_finite := hPre_finite)
    ∧ quiescent_Proj (hProj := hProj)
    ∧ quiescent_ProjIdeal (hProjIdeal := hProjIdeal)
    ∧ quiescent_ProjRIdeal (hProjRIdeal := hProjRIdeal)
    ∧ quiescent_ProjInDw (hProjInDw := hProjInDw)
    ∧ quiescent_ProjInDwIdeal (hProjInDwIdeal := hProjInDwIdeal)
    ∧ quiescent_ProjInDwRIdeal (hProjInDwRIdeal := hProjInDwRIdeal)
    ∧ quiescent_ProjInDx (hProjInDx := hProjInDx)
    ∧ quiescent_ProjInDxIdeal (hProjInDxIdeal := hProjInDxIdeal)
    ∧ quiescent_ProjInDxRIdeal (hProjInDxRIdeal := hProjInDxRIdeal)
    ∧ quiescent_ProjOutDw (hProjOutDw := hProjOutDw)
    ∧ quiescent_ProjOutDwIdeal (hProjOutDwIdeal := hProjOutDwIdeal)
    ∧ quiescent_ProjOutDwRIdeal (hProjOutDwRIdeal := hProjOutDwRIdeal)
    ∧ quiescent_ProjGluDw (hProjGluDw := hProjGluDw)
    ∧ quiescent_ProjGluDwIdeal (hProjGluDwIdeal := hProjGluDwIdeal)
    ∧ quiescent_ProjGluDwRIdeal (hProjGluDwRIdeal := hProjGluDwRIdeal)
    ∧ quiescent_Loss (hLoss := hLoss)
    ∧ quiescent_LossIdeal (hLossIdeal := hLossIdeal)
    ∧ quiescent_LossRIdeal (hLossRIdeal := hLossRIdeal)
    ∧ quiescent_NormBwd (hNormBwd := hNormBwd)
    ∧ quiescent_NormBwdIdeal (hNormBwdIdeal := hNormBwdIdeal)
    ∧ quiescent_NormBwdRIdeal (hNormBwdRIdeal := hNormBwdRIdeal)
    ∧ quiescent_MixBwd (hMixBwd := hMixBwd)
    ∧ quiescent_MixBwdIdeal (hMixBwdIdeal := hMixBwdIdeal)
    ∧ quiescent_MixBwdRIdeal (hMixBwdRIdeal := hMixBwdRIdeal)
    ∧ quiescent_S5Mm (hS5Mm := hS5Mm)
    ∧ quiescent_S5MmIdeal (hS5MmIdeal := hS5MmIdeal)
    ∧ quiescent_S5MmRIdeal (hS5MmRIdeal := hS5MmRIdeal)
    ∧ quiescent_S5Fwd (hS5Fwd := hS5Fwd)
    ∧ quiescent_S5FwdIdeal (hS5FwdIdeal := hS5FwdIdeal)
    ∧ quiescent_S5FwdRIdeal (hS5FwdRIdeal := hS5FwdRIdeal)
    ∧ preserves_Kernel_KernelIdeal
    ∧ algebraic_KernelIdeal_ReferenceIdeal (hKernelIdeal := hKernelIdeal) (hReferenceIdeal := hReferenceIdeal)
    ∧ preserves_InDw_InDwIdeal
    ∧ algebraic_InDwIdeal_InDwRIdeal (hInDwIdeal := hInDwIdeal) (hInDwRIdeal := hInDwRIdeal)
    ∧ preserves_DownDw_DownDwIdeal
    ∧ algebraic_DownDwIdeal_DownDwRIdeal (hDownDwIdeal := hDownDwIdeal) (hDownDwRIdeal := hDownDwRIdeal)
    ∧ preserves_GateDx_GateDxIdeal
    ∧ algebraic_GateDxIdeal_GateDxRIdeal (hGateDxIdeal := hGateDxIdeal) (hGateDxRIdeal := hGateDxRIdeal)
    ∧ preserves_UpDx_UpDxIdeal
    ∧ algebraic_UpDxIdeal_UpDxRIdeal (hUpDxIdeal := hUpDxIdeal) (hUpDxRIdeal := hUpDxRIdeal)
    ∧ preserves_Glu_GluIdeal
    ∧ algebraic_GluIdeal_GluRIdeal_pre_finite (hGluIdeal := hGluIdeal) (hGluRIdeal := hGluRIdeal) (hPre_finite := hPre_finite)
    ∧ preserves_Proj_ProjIdeal
    ∧ algebraic_ProjIdeal_ProjRIdeal (hProjIdeal := hProjIdeal) (hProjRIdeal := hProjRIdeal)
    ∧ preserves_ProjInDw_ProjInDwIdeal
    ∧ algebraic_ProjInDwIdeal_ProjInDwRIdeal (hProjInDwIdeal := hProjInDwIdeal) (hProjInDwRIdeal := hProjInDwRIdeal)
    ∧ preserves_ProjInDx_ProjInDxIdeal
    ∧ algebraic_ProjInDxIdeal_ProjInDxRIdeal (hProjInDxIdeal := hProjInDxIdeal) (hProjInDxRIdeal := hProjInDxRIdeal)
    ∧ preserves_ProjOutDw_ProjOutDwIdeal
    ∧ algebraic_ProjOutDwIdeal_ProjOutDwRIdeal (hProjOutDwIdeal := hProjOutDwIdeal) (hProjOutDwRIdeal := hProjOutDwRIdeal)
    ∧ preserves_ProjGluDw_ProjGluDwIdeal
    ∧ algebraic_ProjGluDwIdeal_ProjGluDwRIdeal (hProjGluDwIdeal := hProjGluDwIdeal) (hProjGluDwRIdeal := hProjGluDwRIdeal)
    ∧ preserves_Loss_LossIdeal
    ∧ algebraic_LossIdeal_LossRIdeal (hLossIdeal := hLossIdeal) (hLossRIdeal := hLossRIdeal)
    ∧ preserves_NormBwd_NormBwdIdeal
    ∧ algebraic_NormBwdIdeal_NormBwdRIdeal (hNormBwdIdeal := hNormBwdIdeal) (hNormBwdRIdeal := hNormBwdRIdeal)
    ∧ preserves_MixBwd_MixBwdIdeal
    ∧ algebraic_MixBwdIdeal_MixBwdRIdeal (hMixBwdIdeal := hMixBwdIdeal) (hMixBwdRIdeal := hMixBwdRIdeal)
    ∧ preserves_S5Mm_S5MmIdeal
    ∧ algebraic_S5MmIdeal_S5MmRIdeal (hS5MmIdeal := hS5MmIdeal) (hS5MmRIdeal := hS5MmRIdeal)
    ∧ preserves_S5Fwd_S5FwdIdeal
    ∧ algebraic_S5FwdIdeal_S5FwdRIdeal (hS5FwdIdeal := hS5FwdIdeal) (hS5FwdRIdeal := hS5FwdRIdeal)
-- ==== Pre_finite.lean ====
abbrev S4096x2048 : Shape := ⟨2, ![4096, 2048]⟩
abbrev S4x2048x1408 : Shape := ⟨3, ![4, 2048, 1408]⟩
abbrev S4x1408x2048 : Shape := ⟨3, ![4, 1408, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x1408 : S_.BroadcastsInDim S4x2048x1408 (![] : Fin 0 → Fin S4x2048x1408.rank)
  reducesTo_S4x2048x1408_S_d0_1_2 : S4x2048x1408.ReducesTo [0, 1, 2] S_
  bcast_S_S4x1408x2048 : S_.BroadcastsInDim S4x1408x2048 (![] : Fin 0 → Fin S4x1408x2048.rank)
  reducesTo_S4x1408x2048_S_d0_1_2 : S4x1408x2048.ReducesTo [0, 1, 2] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .f32) (main_arg1 : FVec F S4x2048x1408 .f32) (main_arg2 : FVec F S4x2048x1408 .f32) (main_arg3 : FVec F S4x1408x2048 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4x2048x1408 .f32 := Host.absf main_arg2
  let main_cst_0 : FVec F S_ .f32 := constant S_ .f32 0x7F800000#32
  let main_v5 : FVec F S4x2048x1408 .f32 := broadcastInDim S4x2048x1408 ![] bcast_S_S4x2048x1408 main_cst_0
  let main_v6 : IVec S4x2048x1408 1 := cmpf .olt main_v4 main_v5
  let main_c_1 : IVec S_ 1 := constantI S_ 1 1#1
  let main_v7 : IVec S_ 1 := (fun x v => Host.reduce IntOp.andi x v reducesTo_S4x2048x1408_S_d0_1_2 h_S_) main_v6 main_c_1
  let main_v8 : IVec S_ 1 := andi main_v3 main_v7
  let main_v9 : FVec F S4x1408x2048 .f32 := Host.absf main_arg3
  let main_cst_2 : FVec F S_ .f32 := constant S_ .f32 0x7F800000#32
  let main_v10 : FVec F S4x1408x2048 .f32 := broadcastInDim S4x1408x2048 ![] bcast_S_S4x1408x2048 main_cst_2
  let main_v11 : IVec S4x1408x2048 1 := cmpf .olt main_v9 main_v10
  let main_c_3 : IVec S_ 1 := constantI S_ 1 1#1
  let main_v12 : IVec S_ 1 := (fun x v => Host.reduce IntOp.andi x v reducesTo_S4x1408x2048_S_d0_1_2 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Kernel.lean ====
abbrev S256x64x256 : Shape := ⟨3, ![256, 64, 256]⟩
abbrev S64x2x64 : Shape := ⟨3, ![64, 2, 64]⟩
abbrev S64x1x64 : Shape := ⟨3, ![64, 1, 64]⟩
abbrev S64x64 : Shape := ⟨2, ![64, 64]⟩
abbrev S64x256 : Shape := ⟨2, ![64, 256]⟩
abbrev S256x16x256 : Shape := ⟨3, ![256, 16, 256]⟩
abbrev S16x256 : Shape := ⟨2, ![16, 256]⟩
abbrev S16x64 : Shape := ⟨2, ![16, 64]⟩
abbrev S1x16x64 : Shape := ⟨3, ![1, 16, 64]⟩
abbrev S16x128 : Shape := ⟨2, ![16, 128]⟩
abbrev S1x16x256 : Shape := ⟨3, ![1, 16, 256]⟩
abbrev S_ : Shape := ⟨0, ![]⟩

abbrev nBuf : Space → Nat
  | .hbm => 69
  | .vmem => 22
  | .smem => 0
  | _ => 0

abbrev bufTy : (tb : Table) → Fin (tcTables nBuf tb) → BufTy
  | .hbm, ⟨0, _⟩ => ⟨S256x64x256, .f32⟩
  | .hbm, ⟨1, _⟩ => ⟨S64x2x64, .f32⟩
  | .hbm, ⟨2, _⟩ => ⟨S64x2x64, .f32⟩
  | .hbm, ⟨3, _⟩ => ⟨S256x64x256, .f32⟩
  | .hbm, ⟨4, _⟩ => ⟨S64x1x64, .f32⟩
  | .hbm, ⟨5, _⟩ => ⟨S64x64, .f32⟩
  | .hbm, ⟨6, _⟩ => ⟨S64x1x64, .f32⟩
  | .hbm, ⟨7, _⟩ => ⟨S64x64, .f32⟩
  | .hbm, ⟨8, _⟩ => ⟨S64x1x64, .f32⟩
  | .hbm, ⟨9, _⟩ => ⟨S64x64, .f32⟩
  | .hbm, ⟨10, _⟩ => ⟨S64x1x64, .f32⟩
  | .hbm, ⟨11, _⟩ => ⟨S64x64, .f32⟩
  | .hbm, ⟨12, _⟩ => ⟨S64x256, .f32⟩
  | .hbm, ⟨13, _⟩ => ⟨S64x1x64, .f32⟩
  | .hbm, ⟨14, _⟩ => ⟨S64x64, .f32⟩
  | .hbm, ⟨15, _⟩ => ⟨S64x64, .f32⟩
  | .hbm, ⟨16, _⟩ => ⟨S64x1x64, .f32⟩
  | .hbm, ⟨17, _⟩ => ⟨S64x64, .f32⟩
  | .hbm, ⟨18, _⟩ => ⟨S64x64, .f32⟩
  | .hbm, ⟨19, _⟩ => ⟨S64x1x64, .f32⟩
  | .hbm, ⟨20, _⟩ => ⟨S64x64, .f32⟩
  | .hbm, ⟨21, _⟩ => ⟨S64x1x64, .f32⟩
  | .hbm, ⟨22, _⟩ => ⟨S64x64, .f32⟩
  | .hbm, ⟨23, _⟩ => ⟨S64x256, .f32⟩
  | .hbm, ⟨24, _⟩ => ⟨S256x64x256, .f32⟩
  | .hbm, ⟨25, _⟩ => ⟨S64x256, .f32⟩
  | .hbm, ⟨26, _⟩ => ⟨S256x64x256, .f32⟩
  | .hbm, ⟨27, _⟩ => ⟨S64x256, .f32⟩
  | .hbm, ⟨28, _⟩ => ⟨S64x256, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x1x64, .f32⟩
  | .hbm, ⟨34, _⟩ => ⟨S_, .f32⟩
  | .hbm, ⟨35, _⟩ => ⟨S64x2x64, .f32⟩
  | .hbm, ⟨36, _⟩ => ⟨S64x1x64, .f32⟩
  | .hbm, ⟨37, _⟩ => ⟨S_, .f32⟩
  | .hbm, ⟨38, _⟩ => ⟨S64x2x64, .f32⟩
  | .hbm, ⟨39, _⟩ => ⟨S64x2x64, .f32⟩
  | .hbm, ⟨40, _⟩ => ⟨S64x64, .f32⟩
  | .hbm, ⟨41, _⟩ => ⟨S64x1x64, .f32⟩
  | .hbm, ⟨42, _⟩ => ⟨S_, .f32⟩
  | .hbm, ⟨43, _⟩ => ⟨S64x2x64, .f32⟩
  | .hbm, ⟨44, _⟩ => ⟨S64x2x64, .f32⟩
  | .hbm, ⟨45, _⟩ => ⟨S64x64, .f32⟩
  | .hbm, ⟨46, _⟩ => ⟨S64x1x64, .f32⟩
  | .hbm, ⟨47, _⟩ => ⟨S_, .f32⟩
  | .hbm, ⟨48, _⟩ => ⟨S64x2x64, .f32⟩
  | .hbm, ⟨49, _⟩ => ⟨S64x2x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x1x64, .f32⟩
  | .hbm, ⟨55, _⟩ => ⟨S_, .f32⟩
  | .hbm, ⟨56, _⟩ => ⟨S64x2x64, .f32⟩
  | .hbm, ⟨57, _⟩ => ⟨S64x1x64, .f32⟩
  | .hbm, ⟨58, _⟩ => ⟨S_, .f32⟩
  | .hbm, ⟨59, _⟩ => ⟨S64x2x64, .f32⟩
  | .hbm, ⟨60, _⟩ => ⟨S64x2x64, .f32⟩
  | .hbm, ⟨61, _⟩ => ⟨S64x1x64, .f32⟩
  | .hbm, ⟨62, _⟩ => ⟨S_, .f32⟩
  | .hbm, ⟨63, _⟩ => ⟨S64x2x64, .f32⟩
  | .hbm, ⟨64, _⟩ => ⟨S64x2x64, .f32⟩
  | .hbm, ⟨65, _⟩ => ⟨S64x1x64, .f32⟩
  | .hbm, ⟨66, _⟩ => ⟨S_, .f32⟩
  | .hbm, ⟨67, _⟩ => ⟨S64x2x64, .f32⟩
  | .hbm, ⟨68, _⟩ => ⟨S64x2x64, .f32⟩
  | .local _ .vmem, ⟨0, _⟩ => ⟨S256x16x256, .f32⟩
  | .local _ .vmem, ⟨1, _⟩ => ⟨S256x16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S256x16x256, .f32⟩
  | .local _ .vmem, ⟨7, _⟩ => ⟨S256x16x256, .f32⟩
  | .local _ .vmem, ⟨8, _⟩ => ⟨S256x16x256, .f32⟩
  | .local _ .vmem, ⟨9, _⟩ => ⟨S256x16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S256x16x256, .f32⟩
  | .local _ .vmem, ⟨15, _⟩ => ⟨S256x16x256, .f32⟩
  | .local _ .vmem, ⟨16, _⟩ => ⟨S256x16x256, .f32⟩
  | .local _ .vmem, ⟨17, _⟩ => ⟨S256x16x256, .f32⟩
  | .local _ .vmem, ⟨18, _⟩ => ⟨S16x256, .f32⟩
  | .local _ .vmem, ⟨19, _⟩ => ⟨S16x256, .f32⟩
  | .local _ .vmem, ⟨20, _⟩ => ⟨S16x256, .f32⟩
  | .local _ .vmem, ⟨21, _⟩ => ⟨S16x256, .f32⟩
  | _, _ => ⟨S256x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22_0 : Ref sig .tc := ⟨.hbm, 26, rfl⟩
abbrev main_v22_1 : Ref sig .tc := ⟨.hbm, 27, rfl⟩
abbrev main_v22_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_6 : BitVec 32 := 0#32
  let c256_i32 : BitVec 32 := 256#32
  let v24 : BitVec 32 := Scalar.addi c0_i32_6 c256_i32
  let c1_i32_7 : BitVec 32 := 1#32
  ⟨c0_i32_6, v24, c1_i32_7⟩
def k0_off1 (k0_t1 : Fin k0_t1_loop.trips) : Fin 3 → Nat :=
  let c0_i32_6 : BitVec 32 := 0#32
  let c1_i32_7 : BitVec 32 := 1#32
  let arg5 : BitVec 32 := Scf.iv c0_i32_6 c1_i32_7 k0_t1
  let v28 : Index := Scalar.indexCast arg5
  let c0_9 : Index := 0#32
  let c0_10 : Index := 0#32
  ![v28.toNat, 0, 0]
def k0_off2 (k0_t1 : Fin k0_t1_loop.trips) : Fin 3 → Nat :=
  let c255_i32 : BitVec 32 := 255#32
  let c0_i32_6 : BitVec 32 := 0#32
  let c1_i32_7 : BitVec 32 := 1#32
  let arg5 : BitVec 32 := Scf.iv c0_i32_6 c1_i32_7 k0_t1
  let v26 : BitVec 32 := Scalar.subi c255_i32 arg5
  let v33 : Index := Scalar.indexCast v26
  let c0_11 : Index := 0#32
  let c64 : Index := 64#32
  ![v33.toNat, 0, 64]
def k0_off3 (k0_t1 : Fin k0_t1_loop.trips) : Fin 3 → Nat :=
  let c0_i32_6 : BitVec 32 := 0#32
  let c1_i32_7 : BitVec 32 := 1#32
  let arg5 : BitVec 32 := Scf.iv c0_i32_6 c1_i32_7 k0_t1
  let v38 : Index := Scalar.indexCast arg5
  let c0_12 : Index := 0#32
  let c128 : Index := 128#32
  ![v38.toNat, 0, 128]
def k0_off4 (k0_t1 : Fin k0_t1_loop.trips) : Fin 3 → Nat :=
  let c255_i32 : BitVec 32 := 255#32
  let c0_i32_6 : BitVec 32 := 0#32
  let c1_i32_7 : BitVec 32 := 1#32
  let arg5 : BitVec 32 := Scf.iv c0_i32_6 c1_i32_7 k0_t1
  let v26 : BitVec 32 := Scalar.subi c255_i32 arg5
  let v43 : Index := Scalar.indexCast v26
  let c0_13 : Index := 0#32
  let c192 : Index := 192#32
  ![v43.toNat, 0, 192]
def k0_off5 (k0_t1 : Fin k0_t1_loop.trips) : Fin 3 → Nat :=
  let c0_i32_6 : BitVec 32 := 0#32
  let c1_i32_7 : BitVec 32 := 1#32
  let arg5 : BitVec 32 := Scf.iv c0_i32_6 c1_i32_7 k0_t1
  let v53 : Index := Scalar.indexCast arg5
  let c0_14 : Index := 0#32
  let c0_15 : Index := 0#32
  ![v53.toNat, 0, 0]
def k0_off6 (k0_t1 : Fin k0_t1_loop.trips) : Fin 3 → Nat :=
  let c255_i32 : BitVec 32 := 255#32
  let c0_i32_6 : BitVec 32 := 0#32
  let c1_i32_7 : BitVec 32 := 1#32
  let arg5 : BitVec 32 := Scf.iv c0_i32_6 c1_i32_7 k0_t1
  let v26 : BitVec 32 := Scalar.subi c255_i32 arg5
  let v56 : Index := Scalar.indexCast v26
  let c0_16 : Index := 0#32
  let c0_17 : Index := 0#32
  ![v56.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

@[reducible] def k1_t1_loop : Scf.Loop 32 :=
  let c0_i32_6 : BitVec 32 := 0#32
  let c256_i32 : BitVec 32 := 256#32
  let v24 : BitVec 32 := Scalar.addi c0_i32_6 c256_i32
  let c1_i32_7 : BitVec 32 := 1#32
  ⟨c0_i32_6, v24, c1_i32_7⟩
def k1_off1 (k1_t1 : Fin k1_t1_loop.trips) : Fin 3 → Nat :=
  let c255_i32 : BitVec 32 := 255#32
  let c0_i32_6 : BitVec 32 := 0#32
  let c1_i32_7 : BitVec 32 := 1#32
  let arg8 : BitVec 32 := Scf.iv c0_i32_6 c1_i32_7 k1_t1
  let v28 : BitVec 32 := Scalar.subi c255_i32 arg8
  let v30 : Index := Scalar.indexCast v28
  let c0_13 : Index := 0#32
  let c0_14 : Index := 0#32
  ![v30.toNat, 0, 0]
def k1_off2 (k1_t1 : Fin k1_t1_loop.trips) : Fin 3 → Nat :=
  let c0_i32_6 : BitVec 32 := 0#32
  let c1_i32_7 : BitVec 32 := 1#32
  let arg8 : BitVec 32 := Scf.iv c0_i32_6 c1_i32_7 k1_t1
  let v35 : Index := Scalar.indexCast arg8
  let c0_15 : Index := 0#32
  let c64 : Index := 64#32
  ![v35.toNat, 0, 64]
def k1_off3 (k1_t1 : Fin k1_t1_loop.trips) : Fin 3 → Nat :=
  let c255_i32 : BitVec 32 := 255#32
  let c0_i32_6 : BitVec 32 := 0#32
  let c1_i32_7 : BitVec 32 := 1#32
  let arg8 : BitVec 32 := Scf.iv c0_i32_6 c1_i32_7 k1_t1
  let v28 : BitVec 32 := Scalar.subi c255_i32 arg8
  let v40 : Index := Scalar.indexCast v28
  let c0_16 : Index := 0#32
  let c128 : Index := 128#32
  ![v40.toNat, 0, 128]
def k1_off4 (k1_t1 : Fin k1_t1_loop.trips) : Fin 3 → Nat :=
  let c0_i32_6 : BitVec 32 := 0#32
  let c1_i32_7 : BitVec 32 := 1#32
  let arg8 : BitVec 32 := Scf.iv c0_i32_6 c1_i32_7 k1_t1
  let v45 : Index := Scalar.indexCast arg8
  let c0_17 : Index := 0#32
  let c192 : Index := 192#32
  ![v45.toNat, 0, 192]
def k1_off5 (k1_t1 : Fin k1_t1_loop.trips) : Fin 3 → Nat :=
  let c255_i32 : BitVec 32 := 255#32
  let c0_i32_6 : BitVec 32 := 0#32
  let c1_i32_7 : BitVec 32 := 1#32
  let arg8 : BitVec 32 := Scf.iv c0_i32_6 c1_i32_7 k1_t1
  let v28 : BitVec 32 := Scalar.subi c255_i32 arg8
  let v49 : Index := Scalar.indexCast v28
  let c0_18 : Index := 0#32
  let c0_19 : Index := 0#32
  ![v49.toNat, 0, 0]
def k1_off6 (k1_t1 : Fin k1_t1_loop.trips) : Fin 3 → Nat :=
  let c0_i32_6 : BitVec 32 := 0#32
  let c1_i32_7 : BitVec 32 := 1#32
  let arg8 : BitVec 32 := Scf.iv c0_i32_6 c1_i32_7 k1_t1
  let v52 : Index := Scalar.indexCast arg8
  let c0_20 : Index := 0#32
  let c0_21 : Index := 0#32
  ![v52.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x16x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x16x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S256x64x256 : Shape := ⟨3, ![256, 64, 256]⟩
abbrev S64x2x64 : Shape := ⟨3, ![64, 2, 64]⟩
abbrev S256x64x2x2x64 : Shape := ⟨5, ![256, 64, 2, 2, 64]⟩
abbrev S_ : Shape := ⟨0, ![]⟩
abbrev S256x64x1x2x64 : Shape := ⟨5, ![256, 64, 1, 2, 64]⟩
abbrev S256x64x2x64 : Shape := ⟨4, ![256, 64, 2, 64]⟩
abbrev S256x64x1x64 : Shape := ⟨4, ![256, 64, 1, 64]⟩
abbrev S256x64x64 : Shape := ⟨3, ![256, 64, 64]⟩
abbrev S1x64x2x64 : Shape := ⟨4, ![1, 64, 2, 64]⟩

abbrev nBuf : Space → Nat
  | .hbm => 246
  | .vmem => 0
  | .smem => 0
  | _ => 0

abbrev hbmTy0_0 (i : Nat) : BufTy := match i % 128 with
  | 0 => ⟨S256x64x256, .f32⟩
  | 1 => ⟨S64x2x64, .f32⟩
  | 2 => ⟨S64x2x64, .f32⟩
  | 3 => ⟨S256x64x256, .f32⟩
  | 4 => ⟨S256x64x2x2x64, .f32⟩
  | 5 => ⟨S64x2x64, .f32⟩
  | 6 => ⟨S_, .f32⟩
  | 7 => ⟨S64x2x64, .f32⟩
  | 8 => ⟨S256x64x1x2x64, .f32⟩
  | 9 => ⟨S256x64x2x64, .f32⟩
  | 10 => ⟨S256x64x1x64, .f32⟩
  | 11 => ⟨S256x64x64, .f32⟩
  | 12 => ⟨S256x64x1x64, .f32⟩
  | 13 => ⟨S256x64x1x64, .f32⟩
  | 14 => ⟨S256x64x64, .f32⟩
  | 15 => ⟨S256x64x1x64, .f32⟩
  | 16 => ⟨S256x64x1x64, .f32⟩
  | 17 => ⟨S256x64x2x64, .f32⟩
  | 18 => ⟨S256x64x1x2x64, .f32⟩
  | 19 => ⟨S256x64x2x64, .f32⟩
  | 20 => ⟨S256x64x1x64, .f32⟩
  | 21 => ⟨S256x64x64, .f32⟩
  | 22 => ⟨S256x64x1x64, .f32⟩
  | 23 => ⟨S256x64x1x64, .f32⟩
  | 24 => ⟨S256x64x64, .f32⟩
  | 25 => ⟨S256x64x1x64, .f32⟩
  | 26 => ⟨S256x64x1x64, .f32⟩
  | 27 => ⟨S256x64x2x64, .f32⟩
  | 28 => ⟨S_, .f32⟩
  | 29 => ⟨S256x64x2x64, .f32⟩
  | 30 => ⟨S_, .f32⟩
  | 31 => ⟨S256x64x2x64, .f32⟩
  | 32 => ⟨S_, .i32⟩
  | 33 => ⟨S256x64x2x64, .f32⟩
  | 34 => ⟨S256x64x2x64, .f32⟩
  | 35 => ⟨S64x2x64, .f32⟩
  | 36 => ⟨S64x2x64, .f32⟩
  | 37 => ⟨S64x2x64, .f32⟩
  | 38 => ⟨S_, .i32⟩
  | 39 => ⟨S64x2x64, .f32⟩
  | 40 => ⟨S64x2x64, .f32⟩
  | 41 => ⟨S256x64x2x64, .f32⟩
  | 42 => ⟨S256x64x2x64, .f32⟩
  | 43 => ⟨S_, .i32⟩
  | 44 => ⟨S_, .i1⟩
  | 45 => ⟨S_, .i32⟩
  | 46 => ⟨S_, .i32⟩
  | 47 => ⟨S_, .i32⟩
  | 48 => ⟨S1x64x2x64, .f32⟩
  | 49 => ⟨S64x2x64, .f32⟩
  | 50 => ⟨S_, .i32⟩
  | 51 => ⟨S_, .i32⟩
  | 52 => ⟨S_, .i32⟩
  | 53 => ⟨S1x64x2x64, .f32⟩
  | 54 => ⟨S64x2x64, .f32⟩
  | 55 => ⟨S64x2x64, .f32⟩
  | 56 => ⟨S64x2x64, .f32⟩
  | 57 => ⟨S64x2x64, .f32⟩
  | 58 => ⟨S64x2x64, .f32⟩
  | 59 => ⟨S64x2x64, .f32⟩
  | 60 => ⟨S64x2x64, .f32⟩
  | 61 => ⟨S64x2x64, .f32⟩
  | 62 => ⟨S64x2x64, .f32⟩
  | 63 => ⟨S1x64x2x64, .f32⟩
  | 64 => ⟨S_, .i32⟩
  | 65 => ⟨S_, .i32⟩
  | 66 => ⟨S_, .i32⟩
  | 67 => ⟨S256x64x2x64, .f32⟩
  | 68 => ⟨S1x64x2x64, .f32⟩
  | 69 => ⟨S_, .i32⟩
  | 70 => ⟨S_, .i32⟩
  | 71 => ⟨S_, .i32⟩
  | 72 => ⟨S256x64x2x64, .f32⟩
  | 73 => ⟨S_, .i32⟩
  | 74 => ⟨S_, .i32⟩
  | 75 => ⟨S256x64x1x64, .f32⟩
  | 76 => ⟨S256x64x64, .f32⟩
  | 77 => ⟨S256x64x1x64, .f32⟩
  | 78 => ⟨S256x64x1x64, .f32⟩
  | 79 => ⟨S256x64x64, .f32⟩
  | 80 => ⟨S256x64x1x64, .f32⟩
  | 81 => ⟨S256x64x1x64, .f32⟩
  | 82 => ⟨S256x64x2x64, .f32⟩
  | 83 => ⟨S256x64x1x64, .f32⟩
  | 84 => ⟨S256x64x64, .f32⟩
  | 85 => ⟨S256x64x1x64, .f32⟩
  | 86 => ⟨S256x64x1x64, .f32⟩
  | 87 => ⟨S256x64x64, .f32⟩
  | 88 => ⟨S256x64x1x64, .f32⟩
  | 89 => ⟨S256x64x1x64, .f32⟩
  | 90 => ⟨S256x64x2x64, .f32⟩
  | 91 => ⟨S256x64x1x2x64, .f32⟩
  | 92 => ⟨S256x64x1x2x64, .f32⟩
  | 93 => ⟨S256x64x2x2x64, .f32⟩
  | 94 => ⟨S256x64x256, .f32⟩
  | 95 => ⟨S_, .f32⟩
  | 96 => ⟨S64x2x64, .f32⟩
  | 97 => ⟨S_, .f32⟩
  | 98 => ⟨S64x2x64, .f32⟩
  | 99 => ⟨S256x64x2x2x64, .f32⟩
  | 100 => ⟨S256x64x1x2x64, .f32⟩
  | 101 => ⟨S256x64x2x64, .f32⟩
  | 102 => ⟨S256x64x1x2x64, .f32⟩
  | 103 => ⟨S256x64x2x64, .f32⟩
  | 104 => ⟨S256x64x1x64, .f32⟩
  | 105 => ⟨S256x64x64, .f32⟩
  | 106 => ⟨S256x64x1x64, .f32⟩
  | 107 => ⟨S256x64x64, .f32⟩
  | 108 => ⟨S256x64x1x64, .f32⟩
  | 109 => ⟨S256x64x1x64, .f32⟩
  | 110 => ⟨S_, .f32⟩
  | 111 => ⟨S256x64x2x64, .f32⟩
  | 112 => ⟨S256x64x1x64, .f32⟩
  | 113 => ⟨S_, .f32⟩
  | 114 => ⟨S256x64x2x64, .f32⟩
  | 115 => ⟨S256x64x2x64, .f32⟩
  | 116 => ⟨S256x64x1x64, .f32⟩
  | 117 => ⟨S256x64x64, .f32⟩
  | 118 => ⟨S256x64x1x64, .f32⟩
  | 119 => ⟨S256x64x64, .f32⟩
  | 120 => ⟨S256x64x1x64, .f32⟩
  | 121 => ⟨S256x64x1x64, .f32⟩
  | 122 => ⟨S_, .f32⟩
  | 123 => ⟨S256x64x2x64, .f32⟩
  | 124 => ⟨S256x64x1x64, .f32⟩
  | 125 => ⟨S_, .f32⟩
  | 126 => ⟨S256x64x2x64, .f32⟩
  | 127 => ⟨S256x64x2x64, .f32⟩
  | _ => ⟨S256x64x256, .f32⟩

abbrev hbmTy0_1 (i : Nat) : BufTy := match i % 128 with
  | 0 => ⟨S_, .f32⟩
  | 1 => ⟨S64x2x64, .f32⟩
  | 2 => ⟨S_, .f32⟩
  | 3 => ⟨S64x2x64, .f32⟩
  | 4 => ⟨S_, .f32⟩
  | 5 => ⟨S64x2x64, .f32⟩
  | 6 => ⟨S_, .f32⟩
  | 7 => ⟨S64x2x64, .f32⟩
  | 8 => ⟨S_, .f32⟩
  | 9 => ⟨S64x2x64, .f32⟩
  | 10 => ⟨S_, .f32⟩
  | 11 => ⟨S256x64x2x64, .f32⟩
  | 12 => ⟨S_, .f32⟩
  | 13 => ⟨S256x64x2x64, .f32⟩
  | 14 => ⟨S_, .i32⟩
  | 15 => ⟨S256x64x2x64, .f32⟩
  | 16 => ⟨S256x64x2x64, .f32⟩
  | 17 => ⟨S256x64x2x64, .f32⟩
  | 18 => ⟨S256x64x2x64, .f32⟩
  | 19 => ⟨S64x2x64, .f32⟩
  | 20 => ⟨S64x2x64, .f32⟩
  | 21 => ⟨S64x2x64, .f32⟩
  | 22 => ⟨S_, .i32⟩
  | 23 => ⟨S64x2x64, .f32⟩
  | 24 => ⟨S64x2x64, .f32⟩
  | 25 => ⟨S64x2x64, .f32⟩
  | 26 => ⟨S64x2x64, .f32⟩
  | 27 => ⟨S64x2x64, .f32⟩
  | 28 => ⟨S256x64x2x64, .f32⟩
  | 29 => ⟨S256x64x2x64, .f32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S1x64x2x64, .f32⟩
  | 40 => ⟨S64x2x64, .f32⟩
  | 41 => ⟨S_, .i32⟩
  | 42 => ⟨S_, .i32⟩
  | 43 => ⟨S_, .i32⟩
  | 44 => ⟨S1x64x2x64, .f32⟩
  | 45 => ⟨S64x2x64, .f32⟩
  | 46 => ⟨S_, .i32⟩
  | 47 => ⟨S_, .i32⟩
  | 48 => ⟨S_, .i32⟩
  | 49 => ⟨S1x64x2x64, .f32⟩
  | 50 => ⟨S64x2x64, .f32⟩
  | 51 => ⟨S_, .i32⟩
  | 52 => ⟨S_, .i32⟩
  | 53 => ⟨S_, .i32⟩
  | 54 => ⟨S1x64x2x64, .f32⟩
  | 55 => ⟨S64x2x64, .f32⟩
  | 56 => ⟨S64x2x64, .f32⟩
  | 57 => ⟨S64x2x64, .f32⟩
  | 58 => ⟨S64x2x64, .f32⟩
  | 59 => ⟨S64x2x64, .f32⟩
  | 60 => ⟨S64x2x64, .f32⟩
  | 61 => ⟨S64x2x64, .f32⟩
  | 62 => ⟨S64x2x64, .f32⟩
  | 63 => ⟨S64x2x64, .f32⟩
  | 64 => ⟨S64x2x64, .f32⟩
  | 65 => ⟨S64x2x64, .f32⟩
  | 66 => ⟨S64x2x64, .f32⟩
  | 67 => ⟨S64x2x64, .f32⟩
  | 68 => ⟨S64x2x64, .f32⟩
  | 69 => ⟨S64x2x64, .f32⟩
  | 70 => ⟨S64x2x64, .f32⟩
  | 71 => ⟨S64x2x64, .f32⟩
  | 72 => ⟨S1x64x2x64, .f32⟩
  | 73 => ⟨S_, .i32⟩
  | 74 => ⟨S_, .i32⟩
  | 75 => ⟨S_, .i32⟩
  | 76 => ⟨S256x64x2x64, .f32⟩
  | 77 => ⟨S1x64x2x64, .f32⟩
  | 78 => ⟨S_, .i32⟩
  | 79 => ⟨S_, .i32⟩
  | 80 => ⟨S_, .i32⟩
  | 81 => ⟨S256x64x2x64, .f32⟩
  | 82 => ⟨S_, .i32⟩
  | 83 => ⟨S_, .i32⟩
  | 84 => ⟨S256x64x1x64, .f32⟩
  | 85 => ⟨S256x64x64, .f32⟩
  | 86 => ⟨S256x64x1x64, .f32⟩
  | 87 => ⟨S256x64x64, .f32⟩
  | 88 => ⟨S256x64x1x64, .f32⟩
  | 89 => ⟨S256x64x1x64, .f32⟩
  | 90 => ⟨S_, .f32⟩
  | 91 => ⟨S256x64x2x64, .f32⟩
  | 92 => ⟨S256x64x1x64, .f32⟩
  | 93 => ⟨S_, .f32⟩
  | 94 => ⟨S256x64x2x64, .f32⟩
  | 95 => ⟨S256x64x2x64, .f32⟩
  | 96 => ⟨S256x64x1x2x64, .f32⟩
  | 97 => ⟨S_, .f32⟩
  | 98 => ⟨S256x64x2x2x64, .f32⟩
  | 99 => ⟨S256x64x1x64, .f32⟩
  | 100 => ⟨S256x64x64, .f32⟩
  | 101 => ⟨S256x64x1x64, .f32⟩
  | 102 => ⟨S256x64x64, .f32⟩
  | 103 => ⟨S256x64x1x64, .f32⟩
  | 104 => ⟨S256x64x1x64, .f32⟩
  | 105 => ⟨S_, .f32⟩
  | 106 => ⟨S256x64x2x64, .f32⟩
  | 107 => ⟨S256x64x1x64, .f32⟩
  | 108 => ⟨S_, .f32⟩
  | 109 => ⟨S256x64x2x64, .f32⟩
  | 110 => ⟨S256x64x2x64, .f32⟩
  | 111 => ⟨S256x64x1x2x64, .f32⟩
  | 112 => ⟨S_, .f32⟩
  | 113 => ⟨S256x64x2x2x64, .f32⟩
  | 114 => ⟨S256x64x2x2x64, .f32⟩
  | 115 => ⟨S64x2x64, .f32⟩
  | 116 => ⟨S64x2x64, .f32⟩
  | 117 => ⟨S256x64x256, .f32⟩
  | _ => ⟨S256x64x256, .f32⟩

abbrev hbmTy (i : Nat) : BufTy := match i / 128 with
  | 0 => hbmTy0_0 i
  | 1 => hbmTy0_1 i
  | _ => ⟨S256x64x256, .f32⟩

abbrev bufTy : (tb : Table) → Fin (tcTables nBuf tb) → BufTy
  | .hbm, ⟨i, _⟩ => hbmTy i
  | _, _ => ⟨S256x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_c : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev main_v25_6 : Ref sig .tc := ⟨.hbm, 39, rfl⟩
abbrev main_v25_7 : Ref sig .tc := ⟨.hbm, 40, rfl⟩
abbrev main_v25_8 : Ref sig .tc := ⟨.hbm, 41, rfl⟩
abbrev main_v25_9 : Ref sig .tc := ⟨.hbm, 42, rfl⟩
abbrev main_while0c_c_31 : Ref sig .tc := ⟨.hbm, 43, rfl⟩
abbrev main_while0c_v109 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_c_1 : Ref sig .tc := ⟨.hbm, 47, rfl⟩
abbrev main_while0b_call0_v0 : Ref sig .tc := ⟨.hbm, 48, rfl⟩
abbrev main_while0b_v109 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v110 : Ref sig .tc := ⟨.hbm, 54, rfl⟩
abbrev main_while0b_v111 : Ref sig .tc := ⟨.hbm, 55, rfl⟩
abbrev main_while0b_v112 : Ref sig .tc := ⟨.hbm, 56, rfl⟩
abbrev main_while0b_v113 : Ref sig .tc := ⟨.hbm, 57, rfl⟩
abbrev main_while0b_v114 : Ref sig .tc := ⟨.hbm, 58, rfl⟩
abbrev main_while0b_v115 : Ref sig .tc := ⟨.hbm, 59, rfl⟩
abbrev main_while0b_v116 : Ref sig .tc := ⟨.hbm, 60, rfl⟩
abbrev main_while0b_v117 : Ref sig .tc := ⟨.hbm, 61, rfl⟩
abbrev main_while0b_v118 : Ref sig .tc := ⟨.hbm, 62, rfl⟩
abbrev main_while0b_call2_v0 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_c_1 : Ref sig .tc := ⟨.hbm, 66, rfl⟩
abbrev main_while0b_v119 : Ref sig .tc := ⟨.hbm, 67, rfl⟩
abbrev main_while0b_call3_v0 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_c_1 : Ref sig .tc := ⟨.hbm, 71, rfl⟩
abbrev main_while0b_v120 : Ref sig .tc := ⟨.hbm, 72, rfl⟩
abbrev main_while0b_c_31 : Ref sig .tc := ⟨.hbm, 73, rfl⟩
abbrev main_while0b_v121 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_2 : Ref sig .tc := ⟨.hbm, 95, rfl⟩
abbrev main_v46 : Ref sig .tc := ⟨.hbm, 96, rfl⟩
abbrev main_cst_3 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_4 : Ref sig .tc := ⟨.hbm, 110, rfl⟩
abbrev main_v59 : Ref sig .tc := ⟨.hbm, 111, rfl⟩
abbrev main_v60 : Ref sig .tc := ⟨.hbm, 112, rfl⟩
abbrev main_cst_5 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_6 : Ref sig .tc := ⟨.hbm, 122, rfl⟩
abbrev main_v69 : Ref sig .tc := ⟨.hbm, 123, rfl⟩
abbrev main_v70 : Ref sig .tc := ⟨.hbm, 124, rfl⟩
abbrev main_cst_7 : Ref sig .tc := ⟨.hbm, 125, rfl⟩
abbrev main_v71 : Ref sig .tc := ⟨.hbm, 126, rfl⟩
abbrev main_v72 : Ref sig .tc := ⟨.hbm, 127, rfl⟩
abbrev main_cst_8 : Ref sig .tc := ⟨.hbm, 128, rfl⟩
abbrev main_v73 : Ref sig .tc := ⟨.hbm, 129, rfl⟩
abbrev main_cst_9 : Ref sig .tc := ⟨.hbm, 130, rfl⟩
abbrev main_v74 : Ref sig .tc := ⟨.hbm, 131, rfl⟩
abbrev main_cst_10 : Ref sig .tc := ⟨.hbm, 132, rfl⟩
abbrev main_v75 : Ref sig .tc := ⟨.hbm, 133, rfl⟩
abbrev main_cst_11 : Ref sig .tc := ⟨.hbm, 134, rfl⟩
abbrev main_v76 : Ref sig .tc := ⟨.hbm, 135, rfl⟩
abbrev main_cst_12 : Ref sig .tc := ⟨.hbm, 136, rfl⟩
abbrev main_v77 : Ref sig .tc := ⟨.hbm, 137, rfl⟩
abbrev main_cst_13 : Ref sig .tc := ⟨.hbm, 138, rfl⟩
abbrev main_v78 : Ref sig .tc := ⟨.hbm, 139, rfl⟩
abbrev main_cst_14 : Ref sig .tc := ⟨.hbm, 140, rfl⟩
abbrev main_v79 : Ref sig .tc := ⟨.hbm, 141, rfl⟩
abbrev main_c_15 : Ref sig .tc := ⟨.hbm, 142, rfl⟩
abbrev main_v80_0 : Ref sig .tc := ⟨.hbm, 143, rfl⟩
abbrev main_v80_1 : Ref sig .tc := ⟨.hbm, 144, rfl⟩
abbrev main_v80_2 : Ref sig .tc := ⟨.hbm, 145, rfl⟩
abbrev main_v80_3 : Ref sig .tc := ⟨.hbm, 146, rfl⟩
abbrev main_v80_4 : Ref sig .tc := ⟨.hbm, 147, rfl⟩
abbrev main_v80_5 : Ref sig .tc := ⟨.hbm, 148, rfl⟩
abbrev main_v80_6 : Ref sig .tc := ⟨.hbm, 149, rfl⟩
abbrev main_v80_7 : Ref sig .tc := ⟨.hbm, 150, rfl⟩
abbrev main_v80_8 : Ref sig .tc := ⟨.hbm, 151, rfl⟩
abbrev main_v80_9 : Ref sig .tc := ⟨.hbm, 152, rfl⟩
abbrev main_v80_10 : Ref sig .tc := ⟨.hbm, 153, rfl⟩
abbrev main_v80_11 : Ref sig .tc := ⟨.hbm, 154, rfl⟩
abbrev main_v80_12 : Ref sig .tc := ⟨.hbm, 155, rfl⟩
abbrev main_v80_13 : Ref sig .tc := ⟨.hbm, 156, rfl⟩
abbrev main_v80_14 : Ref sig .tc := ⟨.hbm, 157, rfl⟩
abbrev main_while1c_c_36 : Ref sig .tc := ⟨.hbm, 158, rfl⟩
abbrev main_while1c_v109 : Ref sig .tc := ⟨.hbm, 159, rfl⟩
abbrev main_while1b_c_36 : Ref sig .tc := ⟨.hbm, 160, rfl⟩
abbrev main_while1b_v109 : Ref sig .tc := ⟨.hbm, 161, rfl⟩
abbrev main_while1b_c_37 : Ref sig .tc := ⟨.hbm, 162, rfl⟩
abbrev main_while1b_v110 : Ref sig .tc := ⟨.hbm, 163, rfl⟩
abbrev main_while1b_call4_c : Ref sig .tc := ⟨.hbm, 164, rfl⟩
abbrev main_while1b_call4_c_0 : Ref sig .tc := ⟨.hbm, 165, rfl⟩
abbrev main_while1b_call4_c_1 : Ref sig .tc := ⟨.hbm, 166, rfl⟩
abbrev main_while1b_call4_v0 : Ref sig .tc := ⟨.hbm, 167, rfl⟩
abbrev main_while1b_v111 : Ref sig .tc := ⟨.hbm, 168, rfl⟩
abbrev main_while1b_call5_c : Ref sig .tc := ⟨.hbm, 169, rfl⟩
abbrev main_while1b_call5_c_0 : Ref sig .tc := ⟨.hbm, 170, rfl⟩
abbrev main_while1b_call5_c_1 : Ref sig .tc := ⟨.hbm, 171, rfl⟩
abbrev main_while1b_call5_v0 : Ref sig .tc := ⟨.hbm, 172, rfl⟩
abbrev main_while1b_v112 : Ref sig .tc := ⟨.hbm, 173, rfl⟩
abbrev main_while1b_call6_c : Ref sig .tc := ⟨.hbm, 174, rfl⟩
abbrev main_while1b_call6_c_0 : Ref sig .tc := ⟨.hbm, 175, rfl⟩
abbrev main_while1b_call6_c_1 : Ref sig .tc := ⟨.hbm, 176, rfl⟩
abbrev main_while1b_call6_v0 : Ref sig .tc := ⟨.hbm, 177, rfl⟩
abbrev main_while1b_v113 : Ref sig .tc := ⟨.hbm, 178, rfl⟩
abbrev main_while1b_call7_c : Ref sig .tc := ⟨.hbm, 179, rfl⟩
abbrev main_while1b_call7_c_0 : Ref sig .tc := ⟨.hbm, 180, rfl⟩
abbrev main_while1b_call7_c_1 : Ref sig .tc := ⟨.hbm, 181, rfl⟩
abbrev main_while1b_call7_v0 : Ref sig .tc := ⟨.hbm, 182, rfl⟩
abbrev main_while1b_v114 : Ref sig .tc := ⟨.hbm, 183, rfl⟩
abbrev main_while1b_v115 : Ref sig .tc := ⟨.hbm, 184, rfl⟩
abbrev main_while1b_v116 : Ref sig .tc := ⟨.hbm, 185, rfl⟩
abbrev main_while1b_v117 : Ref sig .tc := ⟨.hbm, 186, rfl⟩
abbrev main_while1b_v118 : Ref sig .tc := ⟨.hbm, 187, rfl⟩
abbrev main_while1b_v119 : Ref sig .tc := ⟨.hbm, 188, rfl⟩
abbrev main_while1b_v120 : Ref sig .tc := ⟨.hbm, 189, rfl⟩
abbrev main_while1b_v121 : Ref sig .tc := ⟨.hbm, 190, rfl⟩
abbrev main_while1b_v122 : Ref sig .tc := ⟨.hbm, 191, rfl⟩
abbrev main_while1b_v123 : Ref sig .tc := ⟨.hbm, 192, rfl⟩
abbrev main_while1b_v124 : Ref sig .tc := ⟨.hbm, 193, rfl⟩
abbrev main_while1b_v125 : Ref sig .tc := ⟨.hbm, 194, rfl⟩
abbrev main_while1b_v126 : Ref sig .tc := ⟨.hbm, 195, rfl⟩
abbrev main_while1b_v127 : Ref sig .tc := ⟨.hbm, 196, rfl⟩
abbrev main_while1b_v128 : Ref sig .tc := ⟨.hbm, 197, rfl⟩
abbrev main_while1b_v129 : Ref sig .tc := ⟨.hbm, 198, rfl⟩
abbrev main_while1b_v130 : Ref sig .tc := ⟨.hbm, 199, rfl⟩
abbrev main_while1b_call8_v0 : Ref sig .tc := ⟨.hbm, 200, rfl⟩
abbrev main_while1b_call8_c : Ref sig .tc := ⟨.hbm, 201, rfl⟩
abbrev main_while1b_call8_c_0 : Ref sig .tc := ⟨.hbm, 202, rfl⟩
abbrev main_while1b_call8_c_1 : Ref sig .tc := ⟨.hbm, 203, rfl⟩
abbrev main_while1b_v131 : Ref sig .tc := ⟨.hbm, 204, rfl⟩
abbrev main_while1b_call9_v0 : Ref sig .tc := ⟨.hbm, 205, rfl⟩
abbrev main_while1b_call9_c : Ref sig .tc := ⟨.hbm, 206, rfl⟩
abbrev main_while1b_call9_c_0 : Ref sig .tc := ⟨.hbm, 207, rfl⟩
abbrev main_while1b_call9_c_1 : Ref sig .tc := ⟨.hbm, 208, rfl⟩
abbrev main_while1b_v132 : Ref sig .tc := ⟨.hbm, 209, rfl⟩
abbrev main_while1b_c_38 : Ref sig .tc := ⟨.hbm, 210, rfl⟩
abbrev main_while1b_v133 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_v85 : Ref sig .tc := ⟨.hbm, 216, rfl⟩
abbrev main_v86 : Ref sig .tc := ⟨.hbm, 217, rfl⟩
abbrev main_cst_16 : Ref sig .tc := ⟨.hbm, 218, rfl⟩
abbrev main_v87 : Ref sig .tc := ⟨.hbm, 219, rfl⟩
abbrev main_v88 : Ref sig .tc := ⟨.hbm, 220, rfl⟩
abbrev main_cst_17 : Ref sig .tc := ⟨.hbm, 221, rfl⟩
abbrev main_v89 : Ref sig .tc := ⟨.hbm, 222, rfl⟩
abbrev main_v90 : Ref sig .tc := ⟨.hbm, 223, rfl⟩
abbrev main_v91 : Ref sig .tc := ⟨.hbm, 224, rfl⟩
abbrev main_cst_18 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_cst_19 : Ref sig .tc := ⟨.hbm, 233, rfl⟩
abbrev main_v99 : Ref sig .tc := ⟨.hbm, 234, rfl⟩
abbrev main_v100 : Ref sig .tc := ⟨.hbm, 235, rfl⟩
abbrev main_cst_20 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_cst_21 : Ref sig .tc := ⟨.hbm, 240, rfl⟩
abbrev main_v104 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_v108 : Ref sig .tc := ⟨.hbm, 245, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== InDw.lean ====
abbrev S4096x2048 : Shape := ⟨2, ![4096, 2048]⟩
abbrev S4x4096x1408 : Shape := ⟨3, ![4, 4096, 1408]⟩
abbrev S4x2048x1408 : Shape := ⟨3, ![4, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4x4096x1408, .f32⟩
  | .hbm, ⟨2, _⟩ => ⟨S4096x2048, .bf16⟩
  | .hbm, ⟨3, _⟩ => ⟨S4x4096x1408, .bf16⟩
  | .hbm, ⟨4, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InDwRIdeal.lean ====
abbrev S4096x2048 : Shape := ⟨2, ![4096, 2048]⟩
abbrev S4x4096x1408 : Shape := ⟨3, ![4, 4096, 1408]⟩
abbrev S_ : Shape := ⟨0, ![]⟩
abbrev S4x2048x1408 : Shape := ⟨3, ![4, 2048, 1408]⟩
abbrev S4x1408x4096 : Shape := ⟨3, ![4, 1408, 4096]⟩
abbrev S4x1408x2048 : Shape := ⟨3, ![4, 1408, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x4096x1408, .f32⟩
  | .hbm, ⟨2, _⟩ => ⟨S_, .f32⟩
  | .hbm, ⟨3, _⟩ => ⟨S4x2048x1408, .f32⟩
  | .hbm, ⟨4, _⟩ => ⟨S4x1408x4096, .f32⟩
  | .hbm, ⟨5, _⟩ => ⟨S4x4096x1408, .f32⟩
  | .hbm, ⟨6, _⟩ => ⟨S4x1408x4096, .f32⟩
  | .hbm, ⟨7, _⟩ => ⟨S4x1408x2048, .f32⟩
  | .hbm, ⟨8, _⟩ => ⟨S4x2048x1408, .f32⟩
  | .hbm, ⟨9, _⟩ => ⟨S4x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4x4096x1408 : Shape := ⟨3, ![4, 4096, 1408]⟩
abbrev S4096x2048 : Shape := ⟨2, ![4096, 2048]⟩
abbrev S4x1408x2048 : Shape := ⟨3, ![4, 1408, 2048]⟩
abbrev S1x2048x1408 : Shape := ⟨3, ![1, 2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x1408, .f32⟩
  | .hbm, ⟨1, _⟩ => ⟨S4096x2048, .f32⟩
  | .hbm, ⟨2, _⟩ => ⟨S4x4096x1408, .bf16⟩
  | .hbm, ⟨3, _⟩ => ⟨S4096x2048, .bf16⟩
  | .hbm, ⟨4, _⟩ => ⟨S4x1408x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4x4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DownDwRIdeal.lean ====
abbrev S4x4096x1408 : Shape := ⟨3, ![4, 4096, 1408]⟩
abbrev S4096x2048 : Shape := ⟨2, ![4096, 2048]⟩
abbrev S_ : Shape := ⟨0, ![]⟩
abbrev S4x1408x2048 : Shape := ⟨3, ![4, 1408, 2048]⟩
abbrev S2048x4x1408 : Shape := ⟨3, ![2048, 4, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x1408, .f32⟩
  | .hbm, ⟨1, _⟩ => ⟨S4096x2048, .f32⟩
  | .hbm, ⟨2, _⟩ => ⟨S_, .f32⟩
  | .hbm, ⟨3, _⟩ => ⟨S4x1408x2048, .f32⟩
  | .hbm, ⟨4, _⟩ => ⟨S4096x2048, .f32⟩
  | .hbm, ⟨5, _⟩ => ⟨S2048x4x1408, .f32⟩
  | .hbm, ⟨6, _⟩ => ⟨S4x1408x2048, .f32⟩
  | .hbm, ⟨7, _⟩ => ⟨S4x1408x2048, .bf16⟩
  | _, _ => ⟨S4x4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateDx.lean ====
abbrev S4x4096x1408 : Shape := ⟨3, ![4, 4096, 1408]⟩
abbrev S4x2048x1408 : Shape := ⟨3, ![4, 2048, 1408]⟩
abbrev S4096x2048 : Shape := ⟨2, ![4096, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x1408, .f32⟩
  | .hbm, ⟨1, _⟩ => ⟨S4x2048x1408, .f32⟩
  | .hbm, ⟨2, _⟩ => ⟨S4x4096x1408, .bf16⟩
  | .hbm, ⟨3, _⟩ => ⟨S4x2048x1408, .bf16⟩
  | .hbm, ⟨4, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4x4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg2.toNat, c0_i32_5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== GateDxRIdeal.lean ====
abbrev S4x4096x1408 : Shape := ⟨3, ![4, 4096, 1408]⟩
abbrev S4x2048x1408 : Shape := ⟨3, ![4, 2048, 1408]⟩
abbrev S_ : Shape := ⟨0, ![]⟩
abbrev S4096x2048 : Shape := ⟨2, ![4096, 2048]⟩
abbrev S4x1408x4096 : Shape := ⟨3, ![4, 1408, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x1408, .f32⟩
  | .hbm, ⟨1, _⟩ => ⟨S4x2048x1408, .f32⟩
  | .hbm, ⟨2, _⟩ => ⟨S_, .f32⟩
  | .hbm, ⟨3, _⟩ => ⟨S4096x2048, .f32⟩
  | .hbm, ⟨4, _⟩ => ⟨S4x1408x4096, .f32⟩
  | .hbm, ⟨5, _⟩ => ⟨S4x4096x1408, .f32⟩
  | .hbm, ⟨6, _⟩ => ⟨S4x1408x4096, .f32⟩
  | .hbm, ⟨7, _⟩ => ⟨S4096x2048, .f32⟩
  | _, _ => ⟨S4x4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDx.lean ====
abbrev S4x4096x1408 : Shape := ⟨3, ![4, 4096, 1408]⟩
abbrev S4x2048x1408 : Shape := ⟨3, ![4, 2048, 1408]⟩
abbrev S4096x2048 : Shape := ⟨2, ![4096, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x1408, .f32⟩
  | .hbm, ⟨1, _⟩ => ⟨S4x2048x1408, .f32⟩
  | .hbm, ⟨2, _⟩ => ⟨S4096x2048, .f32⟩
  | .hbm, ⟨3, _⟩ => ⟨S4x4096x1408, .bf16⟩
  | .hbm, ⟨4, _⟩ => ⟨S4x2048x1408, .bf16⟩
  | .hbm, ⟨5, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg2.toNat, c0_i32_5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== UpDxRIdeal.lean ====
abbrev S4x4096x1408 : Shape := ⟨3, ![4, 4096, 1408]⟩
abbrev S4x2048x1408 : Shape := ⟨3, ![4, 2048, 1408]⟩
abbrev S4096x2048 : Shape := ⟨2, ![4096, 2048]⟩
abbrev S_ : Shape := ⟨0, ![]⟩
abbrev S4x1408x4096 : Shape := ⟨3, ![4, 1408, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x1408, .f32⟩
  | .hbm, ⟨1, _⟩ => ⟨S4x2048x1408, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4x1408x4096, .f32⟩
  | .hbm, ⟨6, _⟩ => ⟨S4x4096x1408, .f32⟩
  | .hbm, ⟨7, _⟩ => ⟨S4x1408x4096, .f32⟩
  | .hbm, ⟨8, _⟩ => ⟨S4096x2048, .f32⟩
  | .hbm, ⟨9, _⟩ => ⟨S4096x2048, .f32⟩
  | _, _ => ⟨S4x4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Glu.lean ====
abbrev S4096x2048 : Shape := ⟨2, ![4096, 2048]⟩
abbrev S4x2048x1408 : Shape := ⟨3, ![4, 2048, 1408]⟩
abbrev S4x1408x2048 : Shape := ⟨3, ![4, 1408, 2048]⟩
abbrev S4x4096x1408 : Shape := ⟨3, ![4, 4096, 1408]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩
abbrev S16384x1408 : Shape := ⟨2, ![16384, 1408]⟩
abbrev S1x1408x2048 : Shape := ⟨3, ![1, 1408, 2048]⟩
abbrev S1408x2048 : Shape := ⟨2, ![1408, 2048]⟩

abbrev nBuf : Space → Nat
  | .hbm => 24
  | .vmem => 32
  | .smem => 0
  | _ => 0

abbrev bufTy : (tb : Table) → Fin (tcTables nBuf tb) → BufTy
  | .hbm, ⟨0, _⟩ => ⟨S4096x2048, .f32⟩
  | .hbm, ⟨1, _⟩ => ⟨S4x2048x1408, .f32⟩
  | .hbm, ⟨2, _⟩ => ⟨S4x2048x1408, .f32⟩
  | .hbm, ⟨3, _⟩ => ⟨S4x1408x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4x2048x1408, .bf16⟩
  | .hbm, ⟨8, _⟩ => ⟨S4x2048x1408, .bf16⟩
  | .hbm, ⟨9, _⟩ => ⟨S4x1408x2048, .bf16⟩
  | .hbm, ⟨10, _⟩ => ⟨S4x4096x1408, .bf16⟩
  | .hbm, ⟨11, _⟩ => ⟨S4x4096x1408, .bf16⟩
  | .hbm, ⟨12, _⟩ => ⟨S4x4096x1408, .bf16⟩
  | .hbm, ⟨13, _⟩ => ⟨S16384x1408, .bf16⟩
  | .hbm, ⟨14, _⟩ => ⟨S16384x1408, .bf16⟩
  | .hbm, ⟨15, _⟩ => ⟨S4x4096x1408, .bf16⟩
  | .hbm, ⟨16, _⟩ => ⟨S16384x1408, .bf16⟩
  | .hbm, ⟨17, _⟩ => ⟨S16384x1408, .bf16⟩
  | .hbm, ⟨18, _⟩ => ⟨S16384x1408, .bf16⟩
  | .hbm, ⟨19, _⟩ => ⟨S4x4096x1408, .bf16⟩
  | .hbm, ⟨20, _⟩ => ⟨S4x4096x1408, .bf16⟩
  | .hbm, ⟨21, _⟩ => ⟨S4x4096x1408, .f32⟩
  | .hbm, ⟨22, _⟩ => ⟨S4x4096x1408, .f32⟩
  | .hbm, ⟨23, _⟩ => ⟨S4x4096x1408, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S1024x2048, .bf16⟩
  | .local _ .vmem, ⟨17, _⟩ => ⟨S1024x2048, .bf16⟩
  | .local _ .vmem, ⟨18, _⟩ => ⟨S1x1408x2048, .bf16⟩
  | .local _ .vmem, ⟨19, _⟩ => ⟨S1x1408x2048, .bf16⟩
  | .local _ .vmem, ⟨20, _⟩ => ⟨S1x1024x1408, .bf16⟩
  | .local _ .vmem, ⟨21, _⟩ => ⟨S1x1024x1408, .bf16⟩
  | .local _ .vmem, ⟨22, _⟩ => ⟨S1024x1408, .bf16⟩
  | .local _ .vmem, ⟨23, _⟩ => ⟨S1024x1408, .bf16⟩
  | .local _ .vmem, ⟨24, _⟩ => ⟨S1024x1408, .bf16⟩
  | .local _ .vmem, ⟨25, _⟩ => ⟨S1024x1408, .bf16⟩
  | .local _ .vmem, ⟨26, _⟩ => ⟨S1024x1408, .bf16⟩
  | .local _ .vmem, ⟨27, _⟩ => ⟨S1024x1408, .bf16⟩
  | .local _ .vmem, ⟨28, _⟩ => ⟨S1024x1408, .bf16⟩
  | .local _ .vmem, ⟨29, _⟩ => ⟨S1024x1408, .bf16⟩
  | .local _ .vmem, ⟨30, _⟩ => ⟨S1024x1408, .bf16⟩
  | .local _ .vmem, ⟨31, _⟩ => ⟨S1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![4, 4, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, false]

abbrev stage1_1 : Fin 2 → Memref sig .tc .vmem S1x2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, false]

abbrev stage1_2 : Fin 2 → Memref sig .tc .vmem S1x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev stage1_3 : Fin 2 → Memref sig .tc .vmem S1x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev stage1_4 : Fin 2 → Memref sig .tc .vmem S1x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true, false]

abbrev grid2 : Pipeline.Grid := ⟨4, ![4, 4, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, false]

abbrev stage2_1 : Fin 2 → Memref sig .tc .vmem S1x1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, false]

abbrev stage2_2 : Fin 2 → Memref sig .tc .vmem S1x1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== GluRIdeal.lean ====
abbrev S4096x2048 : Shape := ⟨2, ![4096, 2048]⟩
abbrev S4x2048x1408 : Shape := ⟨3, ![4, 2048, 1408]⟩
abbrev S4x1408x2048 : Shape := ⟨3, ![4, 1408, 2048]⟩
abbrev S4x1408x4096 : Shape := ⟨3, ![4, 1408, 4096]⟩
abbrev S4x4096x1408 : Shape := ⟨3, ![4, 4096, 1408]⟩
abbrev S_ : Shape := ⟨0, ![]⟩
abbrev S4096x4x1408 : Shape := ⟨3, ![4096, 4, 1408]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x1408, .f32⟩
  | .hbm, ⟨2, _⟩ => ⟨S4x2048x1408, .f32⟩
  | .hbm, ⟨3, _⟩ => ⟨S4x1408x2048, .f32⟩
  | .hbm, ⟨4, _⟩ => ⟨S4096x2048, .f32⟩
  | .hbm, ⟨5, _⟩ => ⟨S4x1408x4096, .f32⟩
  | .hbm, ⟨6, _⟩ => ⟨S4x4096x1408, .f32⟩
  | .hbm, ⟨7, _⟩ => ⟨S4x1408x4096, .f32⟩
  | .hbm, ⟨8, _⟩ => ⟨S4x4096x1408, .f32⟩
  | .hbm, ⟨9, _⟩ => ⟨S4x4096x1408, .f32⟩
  | .hbm, ⟨10, _⟩ => ⟨S4x4096x1408, .f32⟩
  | .hbm, ⟨11, _⟩ => ⟨S_, .f32⟩
  | .hbm, ⟨12, _⟩ => ⟨S4x4096x1408, .f32⟩
  | .hbm, ⟨13, _⟩ => ⟨S4x4096x1408, .f32⟩
  | .hbm, ⟨14, _⟩ => ⟨S_, .f32⟩
  | .hbm, ⟨15, _⟩ => ⟨S4x4096x1408, .f32⟩
  | .hbm, ⟨16, _⟩ => ⟨S4x4096x1408, .f32⟩
  | .hbm, ⟨17, _⟩ => ⟨S_, .f32⟩
  | .hbm, ⟨18, _⟩ => ⟨S4x4096x1408, .f32⟩
  | .hbm, ⟨19, _⟩ => ⟨S4x4096x1408, .f32⟩
  | .hbm, ⟨20, _⟩ => ⟨S4x4096x1408, .f32⟩
  | .hbm, ⟨21, _⟩ => ⟨S4x4096x1408, .f32⟩
  | .hbm, ⟨22, _⟩ => ⟨S4x4096x1408, .f32⟩
  | .hbm, ⟨23, _⟩ => ⟨S4096x2048, .f32⟩
  | .hbm, ⟨24, _⟩ => ⟨S4096x4x1408, .f32⟩
  | .hbm, ⟨25, _⟩ => ⟨S4x4096x1408, .f32⟩
  | .hbm, ⟨26, _⟩ => ⟨S4x4096x1408, .f32⟩
  | .hbm, ⟨27, _⟩ => ⟨S4x4096x1408, .f32⟩
  | .hbm, ⟨28, _⟩ => ⟨S4x4096x1408, .f32⟩
  | .hbm, ⟨29, _⟩ => ⟨S4x4096x1408, .f32⟩
  | .hbm, ⟨30, _⟩ => ⟨S4x4096x1408, .f32⟩
  | .hbm, ⟨31, _⟩ => ⟨S4x4096x1408, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Proj.lean ====
abbrev S4096x2048 : Shape := ⟨2, ![4096, 2048]⟩
abbrev S4x2048x1024 : Shape := ⟨3, ![4, 2048, 1024]⟩
abbrev S2048x2048 : Shape := ⟨2, ![2048, 2048]⟩
abbrev S4096x1024 : Shape := ⟨2, ![4096, 1024]⟩
abbrev S1024x1024 : Shape := ⟨2, ![1024, 1024]⟩
abbrev S4x4096x1024 : Shape := ⟨3, ![4, 4096, 1024]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩

abbrev nBuf : Space → Nat
  | .hbm => 22
  | .vmem => 32
  | .smem => 0
  | _ => 0

abbrev bufTy : (tb : Table) → Fin (tcTables nBuf tb) → BufTy
  | .hbm, ⟨0, _⟩ => ⟨S4096x2048, .f32⟩
  | .hbm, ⟨1, _⟩ => ⟨S4x2048x1024, .f32⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x2048, .bf16⟩
  | .hbm, ⟨11, _⟩ => ⟨S4x2048x1024, .bf16⟩
  | .hbm, ⟨12, _⟩ => ⟨S4096x2048, .bf16⟩
  | .hbm, ⟨13, _⟩ => ⟨S2048x2048, .bf16⟩
  | .hbm, ⟨14, _⟩ => ⟨S4096x1024, .bf16⟩
  | .hbm, ⟨15, _⟩ => ⟨S1024x1024, .bf16⟩
  | .hbm, ⟨16, _⟩ => ⟨S4096x1024, .bf16⟩
  | .hbm, ⟨17, _⟩ => ⟨S4x4096x1024, .f32⟩
  | .hbm, ⟨18, _⟩ => ⟨S4096x1024, .f32⟩
  | .hbm, ⟨19, _⟩ => ⟨S4096x2048, .f32⟩
  | .hbm, ⟨20, _⟩ => ⟨S4096x2048, .bf16⟩
  | .hbm, ⟨21, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x2048, .f32⟩
  | .local _ .vmem, ⟨20, _⟩ => ⟨S1024x2048, .f32⟩
  | .local _ .vmem, ⟨21, _⟩ => ⟨S1024x2048, .bf16⟩
  | .local _ .vmem, ⟨22, _⟩ => ⟨S1024x2048, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![1, 4, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false]

abbrev grid2 : Pipeline.Grid := ⟨4, ![1, 4, 2, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true, false]

abbrev grid3 : Pipeline.Grid := ⟨4, ![1, 4, 2, 1], ![false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, false]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true, false]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true, false]

abbrev grid4 : Pipeline.Grid := ⟨4, ![1, 4, 1, 1], ![false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, false]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, true, false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true, true, false]
-- ==== ProjRIdeal.lean ====
abbrev S4096x2048 : Shape := ⟨2, ![4096, 2048]⟩
abbrev S4x2048x1024 : Shape := ⟨3, ![4, 2048, 1024]⟩
abbrev S2048x2048 : Shape := ⟨2, ![2048, 2048]⟩
abbrev S4096x1024 : Shape := ⟨2, ![4096, 1024]⟩
abbrev S1024x1024 : Shape := ⟨2, ![1024, 1024]⟩
abbrev S4x1024x4096 : Shape := ⟨3, ![4, 1024, 4096]⟩
abbrev S4x4096x1024 : Shape := ⟨3, ![4, 4096, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x1024, .f32⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4x1024x4096, .f32⟩
  | .hbm, ⟨11, _⟩ => ⟨S4x4096x1024, .f32⟩
  | .hbm, ⟨12, _⟩ => ⟨S4096x2048, .f32⟩
  | .hbm, ⟨13, _⟩ => ⟨S4096x2048, .f32⟩
  | .hbm, ⟨14, _⟩ => ⟨S4096x1024, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== ProjInDw.lean ====
abbrev S4096x2048 : Shape := ⟨2, ![4096, 2048]⟩
abbrev S4x4096x1024 : Shape := ⟨3, ![4, 4096, 1024]⟩
abbrev S4x2048x1024 : Shape := ⟨3, ![4, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4x4096x1024, .f32⟩
  | .hbm, ⟨2, _⟩ => ⟨S4096x2048, .bf16⟩
  | .hbm, ⟨3, _⟩ => ⟨S4x4096x1024, .bf16⟩
  | .hbm, ⟨4, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjInDwRIdeal.lean ====
abbrev S4096x2048 : Shape := ⟨2, ![4096, 2048]⟩
abbrev S4x4096x1024 : Shape := ⟨3, ![4, 4096, 1024]⟩
abbrev S_ : Shape := ⟨0, ![]⟩
abbrev S4x2048x1024 : Shape := ⟨3, ![4, 2048, 1024]⟩
abbrev S4x1024x4096 : Shape := ⟨3, ![4, 1024, 4096]⟩
abbrev S4x1024x2048 : Shape := ⟨3, ![4, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x4096x1024, .f32⟩
  | .hbm, ⟨2, _⟩ => ⟨S_, .f32⟩
  | .hbm, ⟨3, _⟩ => ⟨S4x2048x1024, .f32⟩
  | .hbm, ⟨4, _⟩ => ⟨S4x1024x4096, .f32⟩
  | .hbm, ⟨5, _⟩ => ⟨S4x4096x1024, .f32⟩
  | .hbm, ⟨6, _⟩ => ⟨S4x1024x4096, .f32⟩
  | .hbm, ⟨7, _⟩ => ⟨S4x1024x2048, .f32⟩
  | .hbm, ⟨8, _⟩ => ⟨S4x2048x1024, .f32⟩
  | .hbm, ⟨9, _⟩ => ⟨S4x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjInDx.lean ====
abbrev S4x4096x1024 : Shape := ⟨3, ![4, 4096, 1024]⟩
abbrev S4x2048x1024 : Shape := ⟨3, ![4, 2048, 1024]⟩
abbrev S4096x2048 : Shape := ⟨2, ![4096, 2048]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S4x2048x1024, .f32⟩
  | .hbm, ⟨2, _⟩ => ⟨S4x4096x1024, .bf16⟩
  | .hbm, ⟨3, _⟩ => ⟨S4x2048x1024, .bf16⟩
  | .hbm, ⟨4, _⟩ => ⟨S4096x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg2.toNat, c0_i32_5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ProjInDxRIdeal.lean ====
abbrev S4x4096x1024 : Shape := ⟨3, ![4, 4096, 1024]⟩
abbrev S4x2048x1024 : Shape := ⟨3, ![4, 2048, 1024]⟩
abbrev S_ : Shape := ⟨0, ![]⟩
abbrev S4096x2048 : Shape := ⟨2, ![4096, 2048]⟩
abbrev S4x1024x4096 : Shape := ⟨3, ![4, 1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x2048x1024, .f32⟩
  | .hbm, ⟨2, _⟩ => ⟨S_, .f32⟩
  | .hbm, ⟨3, _⟩ => ⟨S4096x2048, .f32⟩
  | .hbm, ⟨4, _⟩ => ⟨S4x1024x4096, .f32⟩
  | .hbm, ⟨5, _⟩ => ⟨S4x4096x1024, .f32⟩
  | .hbm, ⟨6, _⟩ => ⟨S4x1024x4096, .f32⟩
  | .hbm, ⟨7, _⟩ => ⟨S4096x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjOutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== ProjOutDwRIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjGluDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== ProjGluDwRIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Loss.lean ====
abbrev S4x4096x1408 : Shape := ⟨3, ![4, 4096, 1408]⟩
abbrev S4x1408x2048 : Shape := ⟨3, ![4, 1408, 2048]⟩
abbrev S4096x2048 : Shape := ⟨2, ![4096, 2048]⟩
abbrev S32x2048 : Shape := ⟨2, ![32, 2048]⟩
abbrev S1x1024x1408 : Shape := ⟨3, ![1, 1024, 1408]⟩
abbrev S1x1408x1024 : Shape := ⟨3, ![1, 1408, 1024]⟩
abbrev S1024x1024 : Shape := ⟨2, ![1024, 1024]⟩
abbrev S8x1024 : Shape := ⟨2, ![8, 1024]⟩
abbrev S1024x1408 : Shape := ⟨2, ![1024, 1408]⟩
abbrev S1408x1024 : Shape := ⟨2, ![1408, 1024]⟩
abbrev S128x8x1024 : Shape := ⟨3, ![128, 8, 1024]⟩
abbrev S_ : Shape := ⟨0, ![]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x1408, .f32⟩
  | .hbm, ⟨1, _⟩ => ⟨S4x1408x2048, .f32⟩
  | .hbm, ⟨2, _⟩ => ⟨S4096x2048, .f32⟩
  | .hbm, ⟨3, _⟩ => ⟨S4096x2048, .f32⟩
  | .hbm, ⟨4, _⟩ => ⟨S4x4096x1408, .bf16⟩
  | .hbm, ⟨5, _⟩ => ⟨S4x1408x2048, .bf16⟩
  | .hbm, ⟨6, _⟩ => ⟨S4096x2048, .f32⟩
  | .hbm, ⟨7, _⟩ => ⟨S4096x2048, .bf16⟩
  | .hbm, ⟨8, _⟩ => ⟨S32x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x1024, .f32⟩
  | .local _ .vmem, ⟨13, _⟩ => ⟨S8x1024, .f32⟩
  | .local _ .vmem, ⟨14, _⟩ => ⟨S1024x1024, .f32⟩
  | _, _ => ⟨S4x4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== LossRIdeal.lean ====
abbrev S4x4096x1408 : Shape := ⟨3, ![4, 4096, 1408]⟩
abbrev S4x1408x2048 : Shape := ⟨3, ![4, 1408, 2048]⟩
abbrev S4096x2048 : Shape := ⟨2, ![4096, 2048]⟩
abbrev S_ : Shape := ⟨0, ![]⟩
abbrev S4096 : Shape := ⟨1, ![4096]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1408, .f32⟩
  | .hbm, ⟨1, _⟩ => ⟨S4x1408x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x2048, .f32⟩
  | .hbm, ⟨28, _⟩ => ⟨S4096x2048, .f32⟩
  | .hbm, ⟨29, _⟩ => ⟨S4096x2048, .bf16⟩
  | _, _ => ⟨S4x4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S64x8x2048 : Shape := ⟨3, ![64, 8, 2048]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S8x2048, .f32⟩
  | .hbm, ⟨7, _⟩ => ⟨S_, .f32⟩
  | .hbm, ⟨8, _⟩ => ⟨S2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== MixBwd.lean ====
abbrev S4096x1024 : Shape := ⟨2, ![4096, 1024]⟩
abbrev S1024 : Shape := ⟨1, ![1024]⟩
abbrev S4096x2048 : Shape := ⟨2, ![4096, 2048]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 23
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x2048, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x2048, .bf16⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v96 : BitVec 1 := Scalar.cmpi .eq arg0 c0_i32
  let v97 : BitVec 32 := Scalar.extui v96
  let c0_i32_39 : BitVec 32 := 0#32
  let v98 : BitVec 1 := Scalar.cmpi .ne v97 c0_i32_39
  v98

def k0_cond2 (i : grid0.Coords) : BitVec 1 :=
  let arg0 : BitVec 32 := BitVec.ofNat 32 (i 0).val
  let c0_i32_40 : BitVec 32 := 0#32
  let v99 : BitVec 1 := Scalar.cmpi .sgt arg0 c0_i32_40
  let v100 : BitVec 32 := Scalar.extui v99
  let c0_i32_41 : BitVec 32 := 0#32
  let v101 : BitVec 1 := Scalar.cmpi .ne v100 c0_i32_41
  v101

def k0_cond3 (i : grid0.Coords) : BitVec 1 :=
  let arg0 : BitVec 32 := BitVec.ofNat 32 (i 0).val
  let c0_i32_43 : BitVec 32 := 0#32
  let v104 : BitVec 1 := Scalar.cmpi .eq arg0 c0_i32_43
  let v105 : BitVec 32 := Scalar.extui v104
  let c0_i32_44 : BitVec 32 := 0#32
  let v106 : BitVec 1 := Scalar.cmpi .ne v105 c0_i32_44
  v106

def k0_cond4 (i : grid0.Coords) : BitVec 1 :=
  let arg0 : BitVec 32 := BitVec.ofNat 32 (i 0).val
  let c0_i32_45 : BitVec 32 := 0#32
  let v107 : BitVec 1 := Scalar.cmpi .sgt arg0 c0_i32_45
  let v108 : BitVec 32 := Scalar.extui v107
  let c0_i32_46 : BitVec 32 := 0#32
  let v109 : BitVec 1 := Scalar.cmpi .ne v108 c0_i32_46
  v109

def k0_cond5 (i : grid0.Coords) : BitVec 1 :=
  let arg0 : BitVec 32 := BitVec.ofNat 32 (i 0).val
  let c0_i32_48 : BitVec 32 := 0#32
  let v112 : BitVec 1 := Scalar.cmpi .eq arg0 c0_i32_48
  let v113 : BitVec 32 := Scalar.extui v112
  let c0_i32_49 : BitVec 32 := 0#32
  let v114 : BitVec 1 := Scalar.cmpi .ne v113 c0_i32_49
  v114

def k0_cond6 (i : grid0.Coords) : BitVec 1 :=
  let arg0 : BitVec 32 := BitVec.ofNat 32 (i 0).val
  let c0_i32_50 : BitVec 32 := 0#32
  let v115 : BitVec 1 := Scalar.cmpi .sgt arg0 c0_i32_50
  let v116 : BitVec 32 := Scalar.extui v115
  let c0_i32_51 : BitVec 32 := 0#32
  let v117 : BitVec 1 := Scalar.cmpi .ne v116 c0_i32_51
  v117

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixBwdRIdeal.lean ====
abbrev S4096x1024 : Shape := ⟨2, ![4096, 1024]⟩
abbrev S1024 : Shape := ⟨1, ![1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S1024, .f32⟩
  | 4 => ⟨S1024, .f32⟩
  | 5 => ⟨S1024, .f32⟩
  | 6 => ⟨S4096x2048, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S1x1024, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S1x1024, .f32⟩
  | 78 => ⟨S4096x1024, .f32⟩
  | 79 => ⟨S4096x1024, .f32⟩
  | 80 => ⟨S4096x2048, .f32⟩
  | 81 => ⟨S4096x1024, .f32⟩
  | 82 => ⟨S4096x1024, .f32⟩
  | 83 => ⟨S4096x1024, .f32⟩
  | 84 => ⟨S_, .f32⟩
  | 85 => ⟨S1024, .f32⟩
  | 86 => ⟨S1x1024, .f32⟩
  | 87 => ⟨S4096x1024, .f32⟩
  | 88 => ⟨S4096x1024, .f32⟩
  | 89 => ⟨S_, .f32⟩
  | 90 => ⟨S1024, .f32⟩
  | 91 => ⟨S4096x1024, .f32⟩
  | 92 => ⟨S_, .f32⟩
  | 93 => ⟨S4096, .f32⟩
  | 94 => ⟨S4096x1, .f32⟩
  | 95 => ⟨S4096x1024, .f32⟩
  | 96 => ⟨S4096x1024, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S_, .f32⟩
  | 123 => ⟨S1024, .f32⟩
  | 124 => ⟨S4096x1024, .f32⟩
  | 125 => ⟨S_, .f32⟩
  | 126 => ⟨S4096, .f32⟩
  | 127 => ⟨S4096x1, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_15 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_cst_20 : Ref sig .tc := ⟨.hbm, 114, rfl⟩
abbrev main_v86 : Ref sig .tc := ⟨.hbm, 115, rfl⟩
abbrev main_v87 : Ref sig .tc := ⟨.hbm, 116, rfl⟩
abbrev main_cst_21 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_22 : Ref sig .tc := ⟨.hbm, 122, rfl⟩
abbrev main_v92 : Ref sig .tc := ⟨.hbm, 123, rfl⟩
abbrev main_v93 : Ref sig .tc := ⟨.hbm, 124, rfl⟩
abbrev main_cst_23 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_24 : Ref sig .tc := ⟨.hbm, 131, rfl⟩
abbrev main_v99 : Ref sig .tc := ⟨.hbm, 132, rfl⟩
abbrev main_v100 : Ref sig .tc := ⟨.hbm, 133, rfl⟩
abbrev main_cst_25 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩

abbrev nD : Nat := 1
abbrev τ : Topo := Topo.v7x

variable {F : FTy → Type} [FloatOps F]
-- ==== S5Mm.lean ====
abbrev S256x16384 : Shape := ⟨2, ![256, 16384]⟩
abbrev S64x256x256 : Shape := ⟨3, ![64, 256, 256]⟩
abbrev S256x4096 : Shape := ⟨2, ![256, 4096]⟩
abbrev S16x256x256 : Shape := ⟨3, ![16, 256, 256]⟩
abbrev S256x256 : Shape := ⟨2, ![256, 256]⟩
abbrev S1x256x256 : Shape := ⟨3, ![1, 256, 256]⟩

abbrev nBuf : Space → Nat
  | .hbm => 18
  | .vmem => 38
  | .smem => 0
  | _ => 0

abbrev bufTy : (tb : Table) → Fin (tcTables nBuf tb) → BufTy
  | .hbm, ⟨0, _⟩ => ⟨S256x16384, .f32⟩
  | .hbm, ⟨1, _⟩ => ⟨S256x16384, .f32⟩
  | .hbm, ⟨2, _⟩ => ⟨S64x256x256, .f32⟩
  | .hbm, ⟨3, _⟩ => ⟨S64x256x256, .f32⟩
  | .hbm, ⟨4, _⟩ => ⟨S64x256x256, .f32⟩
  | .hbm, ⟨5, _⟩ => ⟨S256x16384, .f32⟩
  | .hbm, ⟨6, _⟩ => ⟨S256x16384, .f32⟩
  | .hbm, ⟨7, _⟩ => ⟨S256x16384, .bf16⟩
  | .hbm, ⟨8, _⟩ => ⟨S64x256x256, .bf16⟩
  | .hbm, ⟨9, _⟩ => ⟨S64x256x256, .bf16⟩
  | .hbm, ⟨10, _⟩ => ⟨S64x256x256, .bf16⟩
  | .hbm, ⟨11, _⟩ => ⟨S256x16384, .bf16⟩
  | .hbm, ⟨12, _⟩ => ⟨S256x16384, .f32⟩
  | .hbm, ⟨13, _⟩ => ⟨S256x16384, .f32⟩
  | .hbm, ⟨14, _⟩ => ⟨S256x16384, .bf16⟩
  | .hbm, ⟨15, _⟩ => ⟨S64x256x256, .f32⟩
  | .hbm, ⟨16, _⟩ => ⟨S64x256x256, .f32⟩
  | .hbm, ⟨17, _⟩ => ⟨S64x256x256, .f32⟩
  | .local _ .vmem, ⟨0, _⟩ => ⟨S256x4096, .bf16⟩
  | .local _ .vmem, ⟨1, _⟩ => ⟨S256x4096, .bf16⟩
  | .local _ .vmem, ⟨2, _⟩ => ⟨S16x256x256, .bf16⟩
  | .local _ .vmem, ⟨3, _⟩ => ⟨S16x256x256, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S16x256x256, .bf16⟩
  | .local _ .vmem, ⟨9, _⟩ => ⟨S16x256x256, .bf16⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S16x256x256, .bf16⟩
  | .local _ .vmem, ⟨15, _⟩ => ⟨S16x256x256, .bf16⟩
  | .local _ .vmem, ⟨16, _⟩ => ⟨S256x4096, .f32⟩
  | .local _ .vmem, ⟨17, _⟩ => ⟨S256x4096, .f32⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x4096, .bf16⟩
  | .local _ .vmem, ⟨24, _⟩ => ⟨S16x256x256, .f32⟩
  | .local _ .vmem, ⟨25, _⟩ => ⟨S16x256x256, .f32⟩
  | .local _ .vmem, ⟨26, _⟩ => ⟨S256x4096, .bf16⟩
  | .local _ .vmem, ⟨27, _⟩ => ⟨S256x4096, .bf16⟩
  | .local _ .vmem, ⟨28, _⟩ => ⟨S256x4096, .f32⟩
  | .local _ .vmem, ⟨29, _⟩ => ⟨S256x4096, .f32⟩
  | .local _ .vmem, ⟨30, _⟩ => ⟨S16x256x256, .f32⟩
  | .local _ .vmem, ⟨31, _⟩ => ⟨S16x256x256, .f32⟩
  | .local _ .vmem, ⟨32, _⟩ => ⟨S256x4096, .bf16⟩
  | .local _ .vmem, ⟨33, _⟩ => ⟨S256x4096, .bf16⟩
  | .local _ .vmem, ⟨34, _⟩ => ⟨S256x4096, .f32⟩
  | .local _ .vmem, ⟨35, _⟩ => ⟨S256x4096, .f32⟩
  | .local _ .vmem, ⟨36, _⟩ => ⟨S16x256x256, .f32⟩
  | .local _ .vmem, ⟨37, _⟩ => ⟨S16x256x256, .f32⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x256x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16x256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S256x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16x256x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S256x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S16x256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== S5MmRIdeal.lean ====
abbrev S256x16384 : Shape := ⟨2, ![256, 16384]⟩
abbrev S64x256x256 : Shape := ⟨3, ![64, 256, 256]⟩
abbrev S256x64x256 : Shape := ⟨3, ![256, 64, 256]⟩

abbrev nBuf : Space → Nat
  | .hbm => 38
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S256x16384, .f32⟩
  | .hbm, ⟨2, _⟩ => ⟨S64x256x256, .f32⟩
  | .hbm, ⟨3, _⟩ => ⟨S64x256x256, .f32⟩
  | .hbm, ⟨4, _⟩ => ⟨S64x256x256, .f32⟩
  | .hbm, ⟨5, _⟩ => ⟨S256x16384, .f32⟩
  | .hbm, ⟨6, _⟩ => ⟨S256x16384, .f32⟩
  | .hbm, ⟨7, _⟩ => ⟨S256x64x256, .f32⟩
  | .hbm, ⟨8, _⟩ => ⟨S256x64x256, .f32⟩
  | .hbm, ⟨9, _⟩ => ⟨S64x256x256, .f32⟩
  | .hbm, ⟨10, _⟩ => ⟨S256x64x256, .f32⟩
  | .hbm, ⟨11, _⟩ => ⟨S64x256x256, .f32⟩
  | .hbm, ⟨12, _⟩ => ⟨S256x64x256, .f32⟩
  | .hbm, ⟨13, _⟩ => ⟨S256x64x256, .f32⟩
  | .hbm, ⟨14, _⟩ => ⟨S256x16384, .f32⟩
  | .hbm, ⟨15, _⟩ => ⟨S64x256x256, .f32⟩
  | .hbm, ⟨16, _⟩ => ⟨S256x64x256, .f32⟩
  | .hbm, ⟨17, _⟩ => ⟨S256x16384, .f32⟩
  | .hbm, ⟨18, _⟩ => ⟨S256x64x256, .f32⟩
  | .hbm, ⟨19, _⟩ => ⟨S64x256x256, .f32⟩
  | .hbm, ⟨20, _⟩ => ⟨S64x256x256, .f32⟩
  | .hbm, ⟨21, _⟩ => ⟨S256x64x256, .f32⟩
  | .hbm, ⟨22, _⟩ => ⟨S64x256x256, .f32⟩
  | .hbm, ⟨23, _⟩ => ⟨S64x256x256, .f32⟩
  | .hbm, ⟨24, _⟩ => ⟨S256x64x256, .f32⟩
  | .hbm, ⟨25, _⟩ => ⟨S64x256x256, .f32⟩
  | .hbm, ⟨26, _⟩ => ⟨S64x256x256, .f32⟩
  | .hbm, ⟨27, _⟩ => ⟨S256x64x256, .f32⟩
  | .hbm, ⟨28, _⟩ => ⟨S64x256x256, .f32⟩
  | .hbm, ⟨29, _⟩ => ⟨S64x256x256, .f32⟩
  | .hbm, ⟨30, _⟩ => ⟨S64x256x256, .f32⟩
  | .hbm, ⟨31, _⟩ => ⟨S256x64x256, .f32⟩
  | .hbm, ⟨32, _⟩ => ⟨S256x64x256, .f32⟩
  | .hbm, ⟨33, _⟩ => ⟨S64x256x256, .f32⟩
  | .hbm, ⟨34, _⟩ => ⟨S64x256x256, .f32⟩
  | .hbm, ⟨35, _⟩ => ⟨S256x16384, .f32⟩
  | .hbm, ⟨36, _⟩ => ⟨S256x16384, .f32⟩
  | .hbm, ⟨37, _⟩ => ⟨S256x16384, .bf16⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== S5Fwd.lean ====
abbrev S256x16384 : Shape := ⟨2, ![256, 16384]⟩
abbrev S64x256x256 : Shape := ⟨3, ![64, 256, 256]⟩
abbrev S256x4096 : Shape := ⟨2, ![256, 4096]⟩
abbrev S16x256x256 : Shape := ⟨3, ![16, 256, 256]⟩
abbrev S256x256 : Shape := ⟨2, ![256, 256]⟩
abbrev S1x256x256 : Shape := ⟨3, ![1, 256, 256]⟩

abbrev nBuf : Space → Nat
  | .hbm => 12
  | .vmem => 20
  | .smem => 0
  | _ => 0

abbrev bufTy : (tb : Table) → Fin (tcTables nBuf tb) → BufTy
  | .hbm, ⟨0, _⟩ => ⟨S256x16384, .f32⟩
  | .hbm, ⟨1, _⟩ => ⟨S256x16384, .f32⟩
  | .hbm, ⟨2, _⟩ => ⟨S64x256x256, .f32⟩
  | .hbm, ⟨3, _⟩ => ⟨S64x256x256, .f32⟩
  | .hbm, ⟨4, _⟩ => ⟨S64x256x256, .f32⟩
  | .hbm, ⟨5, _⟩ => ⟨S256x16384, .bf16⟩
  | .hbm, ⟨6, _⟩ => ⟨S64x256x256, .bf16⟩
  | .hbm, ⟨7, _⟩ => ⟨S64x256x256, .bf16⟩
  | .hbm, ⟨8, _⟩ => ⟨S64x256x256, .bf16⟩
  | .hbm, ⟨9, _⟩ => ⟨S256x16384, .f32⟩
  | .hbm, ⟨10, _⟩ => ⟨S256x16384, .f32⟩
  | .hbm, ⟨11, _⟩ => ⟨S256x16384, .bf16⟩
  | .local _ .vmem, ⟨0, _⟩ => ⟨S256x4096, .bf16⟩
  | .local _ .vmem, ⟨1, _⟩ => ⟨S256x4096, .bf16⟩
  | .local _ .vmem, ⟨2, _⟩ => ⟨S16x256x256, .bf16⟩
  | .local _ .vmem, ⟨3, _⟩ => ⟨S16x256x256, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S16x256x256, .bf16⟩
  | .local _ .vmem, ⟨9, _⟩ => ⟨S16x256x256, .bf16⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S16x256x256, .bf16⟩
  | .local _ .vmem, ⟨15, _⟩ => ⟨S16x256x256, .bf16⟩
  | .local _ .vmem, ⟨16, _⟩ => ⟨S256x4096, .f32⟩
  | .local _ .vmem, ⟨17, _⟩ => ⟨S256x4096, .f32⟩
  | .local _ .vmem, ⟨18, _⟩ => ⟨S256x4096, .bf16⟩
  | .local _ .vmem, ⟨19, _⟩ => ⟨S256x4096, .bf16⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x256x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== S5FwdRIdeal.lean ====
abbrev S256x16384 : Shape := ⟨2, ![256, 16384]⟩
abbrev S64x256x256 : Shape := ⟨3, ![64, 256, 256]⟩
abbrev S256x64x256 : Shape := ⟨3, ![256, 64, 256]⟩

abbrev nBuf : Space → Nat
  | .hbm => 17
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S256x16384, .f32⟩
  | .hbm, ⟨2, _⟩ => ⟨S64x256x256, .f32⟩
  | .hbm, ⟨3, _⟩ => ⟨S64x256x256, .f32⟩
  | .hbm, ⟨4, _⟩ => ⟨S64x256x256, .f32⟩
  | .hbm, ⟨5, _⟩ => ⟨S256x64x256, .f32⟩
  | .hbm, ⟨6, _⟩ => ⟨S256x64x256, .f32⟩
  | .hbm, ⟨7, _⟩ => ⟨S64x256x256, .f32⟩
  | .hbm, ⟨8, _⟩ => ⟨S256x64x256, .f32⟩
  | .hbm, ⟨9, _⟩ => ⟨S64x256x256, .f32⟩
  | .hbm, ⟨10, _⟩ => ⟨S256x64x256, .f32⟩
  | .hbm, ⟨11, _⟩ => ⟨S256x64x256, .f32⟩
  | .hbm, ⟨12, _⟩ => ⟨S256x16384, .f32⟩
  | .hbm, ⟨13, _⟩ => ⟨S64x256x256, .f32⟩
  | .hbm, ⟨14, _⟩ => ⟨S256x64x256, .f32⟩
  | .hbm, ⟨15, _⟩ => ⟨S256x16384, .f32⟩
  | .hbm, ⟨16, _⟩ => ⟨S256x16384, .bf16⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.KRun.lean ====
/- The kernel's run with every buffer after it named: the launch set-up of the generated frame, its last thread state
   read against the final memory. -/
module

public import proofs.«01_k».proof.Proof.Gen.KernelIdeal.Frame

@[expose] public section

set_option maxRecDepth 16384

noncomputable section

namespace Cert.KernelIdeal.Scan

open Cert.KernelIdeal Cert.KernelIdeal.Gen Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every unscoped buffer holds what the last boundary's contents say. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W5 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end Cert.KernelIdeal.Scan
-- ==== Proof.Model.lean ====
/- The bidirectional linear recurrence, lane by lane, over the extended reals.

   A row of 256 lanes holds the real parts (lanes 0–127) and the imaginary parts (lanes 128–255) of 128 complex
   numbers; in each half lanes 0–63 belong to the direction that goes up through the positions and lanes 64–127 to
   the one that goes down. `swap` exchanges the two parts; `up` tells the direction. -/
module

public import Idealize.ShloMosaic.Lib.Pointwise

@[expose] public section

noncomputable section

namespace Cert.Scan

open Idealize.ShloMosaic

/-- The lane that holds the other part of the same complex number. -/
def swap (l : Fin 256) : Fin 256 := if h : l.val < 128 then ⟨128 + l.val, by omega⟩ else ⟨l.val - 128, by omega⟩

/-- The lane of part `p`, direction `d`, place `n`. -/
def lane (p d : Fin 2) (n : Fin 64) : Fin 256 := ⟨p.val * 128 + d.val * 64 + n.val, by omega⟩

/-- The lane belongs to the direction that goes up. -/
def up (l : Fin 256) : Bool := decide (l.val % 128 < 64)

/-- The position, of 256, that lane `l` of the forward scan reaches at step `k` (past the last step, a position
all the same). -/
def pos (l : Fin 256) (k : ℕ) : Fin 256 := if up l then Fin.ofNat 256 k else Fin.ofNat 256 (255 - k)

/-- The position the adjoint scan reaches: the directions change places. -/
def rpos (l : Fin 256) (k : ℕ) : Fin 256 := if up l then Fin.ofNat 256 (255 - k) else Fin.ofNat 256 k

/-- The step at which the forward scan is at position `p`. -/
def stepAt (l : Fin 256) (p : Fin 256) : ℕ := if up l then p.val else 255 - p.val

/-- The step at which the adjoint scan is at position `p`. -/
def rstepAt (l : Fin 256) (p : Fin 256) : ℕ := if up l then 255 - p.val else p.val

/-- The recurrence from zero: `a` and `b` are the two columns of the complex factor, `u k` the step's input. -/
def lscan (a b : Fin 256 → EReal) (u : ℕ → Fin 256 → EReal) : ℕ → Fin 256 → EReal
  | 0, _ => 0
  | k + 1, l => a l * lscan a b u k l + b l * lscan a b u k (swap l) + u k l

/-- The running sum, from zero, of `w k l`. -/
def total (w : ℕ → EReal) : ℕ → EReal
  | 0 => 0
  | k + 1 => total w k + w k

theorem up_swap (l : Fin 256) : up (swap l) = up l := by
  unfold up swap
  split <;> (congr 1; apply propext; constructor <;> intro h <;> simp only at h ⊢ <;> omega)

theorem pos_eq (l : Fin 256) {k : ℕ} (hk : k < 256) : pos l k = if up l then ⟨k, hk⟩ else ⟨255 - k, by omega⟩ := by
  unfold pos
  split <;> (apply Fin.ext; simp [Fin.ofNat]; try omega)

theorem rpos_eq' (l : Fin 256) {k : ℕ} (hk : k < 256) : rpos l k = if up l then ⟨255 - k, by omega⟩ else ⟨k, hk⟩ := by
  unfold rpos
  split <;> (apply Fin.ext; simp [Fin.ofNat]; try omega)

theorem pos_stepAt (l p : Fin 256) : pos l (stepAt l p) = p := by
  unfold pos stepAt
  split <;> (apply Fin.ext; simp [Fin.ofNat]; try omega)

theorem rpos_rstepAt (l p : Fin 256) : rpos l (rstepAt l p) = p := by
  unfold rpos rstepAt
  split <;> (apply Fin.ext; simp [Fin.ofNat]; try omega)

theorem stepAt_pos (l : Fin 256) {k : ℕ} (hk : k < 256) : stepAt l (pos l k) = k := by
  unfold pos stepAt
  split <;> (simp [Fin.ofNat]; try omega)

theorem rstepAt_rpos (l : Fin 256) {k : ℕ} (hk : k < 256) : rstepAt l (rpos l k) = k := by
  unfold rpos rstepAt
  split <;> (simp [Fin.ofNat]; try omega)

theorem rpos_eq (l : Fin 256) {k : ℕ} (hk : k < 256) : rpos l k = pos l (255 - k) := by
  unfold rpos pos
  split
  · rfl
  · congr 1; omega

theorem swap_lane0 (d : Fin 2) (n : Fin 64) : swap (lane 0 d n) = lane 1 d n := by
  unfold swap lane
  rw [dif_pos (by dsimp only; omega)]
  apply Fin.ext; simp only [Fin.val_zero, Fin.val_one]; omega

theorem swap_lane1 (d : Fin 2) (n : Fin 64) : swap (lane 1 d n) = lane 0 d n := by
  unfold swap lane
  rw [dif_neg (by simp only [Fin.val_one]; omega)]
  apply Fin.ext; simp only [Fin.val_zero, Fin.val_one]; omega

theorem up_lane (p d : Fin 2) (n : Fin 64) : up (lane p d n) = decide (d = 0) := by
  unfold up lane
  congr 1; apply propext
  constructor <;> intro h
  · apply Fin.ext; simp only [Fin.val_zero]; dsimp only at h; omega
  · subst h; simp only [Fin.val_zero]; omega

theorem pos_lane0 (p : Fin 2) (n : Fin 64) (k : Fin 256) : pos (lane p 0 n) k.val = k := by
  rw [pos_eq _ k.isLt, up_lane]; rfl

theorem pos_lane1 (p : Fin 2) (n : Fin 64) (k : Fin 256) : pos (lane p 1 n) k.val = k.rev := by
  rw [pos_eq _ k.isLt, up_lane]; apply Fin.ext; simp [Fin.rev]

end Cert.Scan
-- ==== Proof.KHost.lean ====
/- What the kernel's host lines hold: the columns before the regions, and the two factors' derivatives after. -/
module

public import proofs.«01_k».proof.Proof.Gen.KernelIdeal.Frame
public import proofs.«01_k».proof.Proof.Model
public import Idealize.ShloMosaic.Lib.StableHlo.ReadAt

@[expose] public section

set_option maxRecDepth 16384

noncomputable section

namespace Cert.KernelIdeal.Scan

open Cert.KernelIdeal Cert.KernelIdeal.Gen Cert.Scan
open Idealize.ShloMosaic Idealize.ShloMosaic.TcCoe Idealize.ShloMosaic.Tactic Idealize.SL.Sem

variable (V : Valuation τ sig (Elt Ideal))

/-- The two factors, and what the second region leaves, read as arrays. -/
abbrev lamRe (V : Valuation τ sig (Elt Ideal)) : S64x2x64.Idx → EReal := V (Proc.devRef .tc main_arg1)
abbrev lamIm (V : Valuation τ sig (Elt Ideal)) : S64x2x64.Idx → EReal := V (Proc.devRef .tc main_arg2)
abbrev colB (V : Valuation τ sig (Elt Ideal)) : S64x256.Idx → EReal := V (Proc.devRef .tc main_v19)
abbrev sumA' (V : Valuation τ sig (Elt Ideal)) : S64x256.Idx → EReal := V (Proc.devRef .tc main_v22_1)
abbrev sumB' (V : Valuation τ sig (Elt Ideal)) : S64x256.Idx → EReal := V (Proc.devRef .tc main_v22_2)

theorem host_fa (g : Fin 64) (p d : Fin 2) (n : Fin 64) :
    StableHlo.after hostOps0 V (Proc.devRef .tc main_v8) (ix2 g (lane p d n)) = lamRe V (ix3 g d n) := by
  after_reads_at
  fin_cases p <;> fin_cases d <;> simp [lane] <;> after_reads_at
  all_goals
    rw [dif_neg (by omega), dif_neg (by omega)]
    split_ifs <;> first | omega | exact congrArg (lamRe V) (congrArg (ix3 g _) (Fin.ext (by dsimp only; omega)))

theorem host_fb (g : Fin 64) (p d : Fin 2) (n : Fin 64) :
    StableHlo.after hostOps0 V (Proc.devRef .tc main_v19) (ix2 g (lane p d n))
      = if p = 0 then - lamIm V (ix3 g d n) else lamIm V (ix3 g d n) := by
  after_reads_at
  fin_cases p <;> fin_cases d <;> simp [lane] <;> after_reads_at
  all_goals
    rw [dif_neg (by omega), dif_neg (by omega)]
    split_ifs <;> first | omega | exact congrArg (lamIm V) (congrArg (ix3 g _) (Fin.ext (by dsimp only; omega)))

theorem host_nb (j : S64x256.Idx) :
    StableHlo.after hostOps1 V (Proc.devRef .tc main_v21) j = - colB V j := by
  idx_vars j
  after_reads_at

theorem host_dlr (g : Fin 64) (d : Fin 2) (n : Fin 64) :
    StableHlo.after hostOps2 V (Proc.devRef .tc main_v54) (ix3 g d n)
      = sumA' V (ix2 g (lane 0 d n)) + sumA' V (ix2 g (lane 1 d n)) := by
  after_reads_at
  fin_cases d <;> simp [lane]
  all_goals exact add_comm (G := EReal) _ _

theorem host_dli (g : Fin 64) (d : Fin 2) (n : Fin 64) :
    StableHlo.after hostOps2 V (Proc.devRef .tc main_v39) (ix3 g d n)
      = sumB' V (ix2 g (lane 1 d n)) + -sumB' V (ix2 g (lane 0 d n)) := by
  after_reads_at
  fin_cases d <;> simp [lane]

end Cert.KernelIdeal.Scan
-- ==== Proof.ROps.lean ====
/- The reference's host lines as lists of operations, cut at the loops: the stretches of the main function and of the two
   loops' bodies, what each writes, and the programs as chains of them. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 16384

noncomputable section

namespace Cert.ReferenceIdeal.Scan

open Cert.ReferenceIdeal Cert.ReferenceIdeal.Gen

open Idealize.ShloMosaic Idealize.ShloMosaic.TcCoe Idealize.SL.Sem

variable {F : FTy → Type} [FloatOps F]

local notation "Ops" => List (HloOp τ sig (Elt F))

abbrev p0_0 : Ops :=
  ( StableHlo.reshape main_arg0 main_v0 (rfl : (.f32 : EltTy) = .f32) shapeCasts_S256x64x256_S256x64x2x2x64
  :: StableHlo.unary main_arg2 main_v1 (Host.negf : (⟨S64x2x64, .f32⟩ : BufTy).Contents (Elt F) → (⟨S64x2x64, .f32⟩ : BufTy).Contents (Elt F))
  :: StableHlo.nullary main_cst (constant S_ .f32 0x00000000#32)
  :: StableHlo.unary main_cst main_v2 (broadcastInDim S64x2x64 ![] bcast_S_S64x2x64 : (⟨S_, .f32⟩ : BufTy).Contents (Elt F) → (⟨S64x2x64, .f32⟩ : BufTy).Contents (Elt F))
  :: StableHlo.unary main_v0 main_v3 ((extractStridedSlice S256x64x1x2x64 ![0, 0, 0, 0, 0] · slices_S256x64x2x2x64_S256x64x1x2x64_0_0_0_0_0) : (⟨S256x64x2x2x64, .f32⟩ : BufTy).Contents (Elt F) → (⟨S256x64x1x2x64, .f32⟩ : BufTy).Contents (Elt F))
  :: StableHlo.reshape main_v3 main_v4 (rfl : (.f32 : EltTy) = .f32) shapeCasts_S256x64x1x2x64_S256x64x2x64
  :: StableHlo.unary main_v4 main_v5 ((extractStridedSlice S256x64x1x64 ![0, 0, 0, 0] · slices_S256x64x2x64_S256x64x1x64_0_0_0_0) : (⟨S256x64x2x64, .f32⟩ : BufTy).Contents (Elt F) → (⟨S256x64x1x64, .f32⟩ : BufTy).Contents (Elt F))
  :: StableHlo.reshape main_v5 main_v6 (rfl : (.f32 : EltTy) = .f32) shapeCasts_S256x64x1x64_S256x64x64
  :: StableHlo.unary main_v4 main_v7 ((extractStridedSlice S256x64x1x64 ![0, 0, 1, 0] · slices_S256x64x2x64_S256x64x1x64_0_0_1_0) : (⟨S256x64x2x64, .f32⟩ : BufTy).Contents (Elt F) → (⟨S256x64x1x64, .f32⟩ : BufTy).Contents (Elt F))
  :: StableHlo.unary main_v7 main_v8 (Host.reverse [0] : (⟨S256x64x1x64, .f32⟩ : BufTy).Contents (Elt F) → (⟨S256x64x1x64, .f32⟩ : BufTy).Contents (Elt F))
  :: StableHlo.reshape main_v8 main_v9 (rfl : (.f32 : EltTy) = .f32) shapeCasts_S256x64x1x64_S256x64x64
  :: StableHlo.unary main_v6 main_v10 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.unary main_v9 main_v11 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.binary main_v10 main_v11 main_v12 ((fun a b => concatenate S256x64x2x64 2 [⟨S256x64x1x64, a⟩, ⟨S256x64x1x64, b⟩] concatenates_S256x64x1x64_S256x64x1x64_S256x64x2x64_d2) : (⟨S256x64x1x64, .f32⟩ : BufTy).Contents (Elt F) → (⟨S256x64x1x64, .f32⟩ : BufTy).Contents (Elt F) → (⟨S256x64x2x64, .f32⟩ : BufTy).Contents (Elt F))
  :: StableHlo.unary main_v0 main_v13 ((extractStridedSlice S256x64x1x2x64 ![0, 0, 1, 0, 0] · slices_S256x64x2x2x64_S256x64x1x2x64_0_0_1_0_0) : (⟨S256x64x2x2x64, .f32⟩ : BufTy).Contents (Elt F) → (⟨S256x64x1x2x64, .f32⟩ : BufTy).Contents (Elt F))
  :: StableHlo.reshape main_v13 main_v14 (rfl : (.f32 : EltTy) = .f32) shapeCasts_S256x64x1x2x64_S256x64x2x64
  :: StableHlo.unary main_v14 main_v15 ((extractStridedSlice S256x64x1x64 ![0, 0, 0, 0] · slices_S256x64x2x64_S256x64x1x64_0_0_0_0) : (⟨S256x64x2x64, .f32⟩ : BufTy).Contents (Elt F) → (⟨S256x64x1x64, .f32⟩ : BufTy).Contents (Elt F))
  :: StableHlo.reshape main_v15 main_v16 (rfl : (.f32 : EltTy) = .f32) shapeCasts_S256x64x1x64_S256x64x64
  :: StableHlo.unary main_v14 main_v17 ((extractStridedSlice S256x64x1x64 ![0, 0, 1, 0] · slices_S256x64x2x64_S256x64x1x64_0_0_1_0) : (⟨S256x64x2x64, .f32⟩ : BufTy).Contents (Elt F) → (⟨S256x64x1x64, .f32⟩ : BufTy).Contents (Elt F))
  :: StableHlo.unary main_v17 main_v18 (Host.reverse [0] : (⟨S256x64x1x64, .f32⟩ : BufTy).Contents (Elt F) → (⟨S256x64x1x64, .f32⟩ : BufTy).Contents (Elt F))
  :: StableHlo.reshape main_v18 main_v19 (rfl : (.f32 : EltTy) = .f32) shapeCasts_S256x64x1x64_S256x64x64
  :: StableHlo.unary main_v16 main_v20 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.unary main_v19 main_v21 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.binary main_v20 main_v21 main_v22 ((fun a b => concatenate S256x64x2x64 2 [⟨S256x64x1x64, a⟩, ⟨S256x64x1x64, b⟩] concatenates_S256x64x1x64_S256x64x1x64_S256x64x2x64_d2) : (⟨S256x64x1x64, .f32⟩ : BufTy).Contents (Elt F) → (⟨S256x64x1x64, .f32⟩ : BufTy).Contents (Elt F) → (⟨S256x64x2x64, .f32⟩ : BufTy).Contents (Elt F))
  :: StableHlo.nullary main_cst_0 (constant S_ .f32 0x00000000#32)
  :: StableHlo.unary main_cst_0 main_v23 (broadcastInDim S256x64x2x64 ![] bcast_S_S256x64x2x64 : (⟨S_, .f32⟩ : BufTy).Contents (Elt F) → (⟨S256x64x2x64, .f32⟩ : BufTy).Contents (Elt F))
  :: StableHlo.nullary main_cst_1 (constant S_ .f32 0x00000000#32)
  :: StableHlo.unary main_cst_1 main_v24 (broadcastInDim S256x64x2x64 ![] bcast_S_S256x64x2x64 : (⟨S_, .f32⟩ : BufTy).Contents (Elt F) → (⟨S256x64x2x64, .f32⟩ : BufTy).Contents (Elt F))
  :: StableHlo.nullary main_c (constantI S_ 32 0#32)
  :: StableHlo.unary main_v12 main_v25_0 id
  :: StableHlo.unary main_v22 main_v25_1 id
  :: StableHlo.unary main_arg1 main_v25_2 id
  :: StableHlo.unary main_v1 main_v25_3 id
  :: StableHlo.unary main_arg2 main_v25_4 id
  :: StableHlo.unary main_c main_v25_5 id
  :: StableHlo.unary main_v2 main_v25_6 id
  :: StableHlo.unary main_v2 main_v25_7 id
  :: StableHlo.unary main_v23 main_v25_8 id
  :: StableHlo.unary main_v24 main_v25_9 id
  :: [] )

theorem p0_0_sub : (p0_0 : Ops).Forall fun op => op.bufs ⊆ StableHlo.tcRefs τ sig :=
  ⟨StableHlo.reshape_bufs_sub .., StableHlo.unary_bufs_sub .., StableHlo.nullary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem p0_0_fresh : (p0_0 : Ops).Forall fun op => op.fresh = ∅ := StableHlo.forall_fresh_of_map rfl

abbrev p0_0_W : List (Ref sig .tc) := [main_v0, main_v1, main_cst, main_v2, main_v3, main_v4, main_v5, main_v6, main_v7, main_v8, main_v9, main_v10, main_v11, main_v12, main_v13, main_v14, main_v15, main_v16, main_v17, main_v18, main_v19, main_v20, main_v21, main_v22, main_cst_0, main_v23, main_cst_1, main_v24, main_c, main_v25_0, main_v25_1, main_v25_2, main_v25_3, main_v25_4, main_v25_5, main_v25_6, main_v25_7, main_v25_8, main_v25_9]

theorem p0_0_writes : (p0_0 : Ops).Forall fun op => op.writes ⊆ (p0_0_W.map (Proc.devRef (τ := τ) .tc)).toFinset :=
  StableHlo.forall_writes_sub_of_map rfl

abbrev p0_1 : Ops :=
  [ StableHlo.unary main_v25_8 main_v26 ((extractStridedSlice S256x64x1x64 ![0, 0, 0, 0] · slices_S256x64x2x64_S256x64x1x64_0_0_0_0) : (⟨S256x64x2x64, .f32⟩ : BufTy).Contents (Elt F) → (⟨S256x64x1x64, .f32⟩ : BufTy).Contents (Elt F)),
    StableHlo.reshape main_v26 main_v27 (rfl : (.f32 : EltTy) = .f32) shapeCasts_S256x64x1x64_S256x64x64,
    StableHlo.unary main_v25_8 main_v28 ((extractStridedSlice S256x64x1x64 ![0, 0, 1, 0] · slices_S256x64x2x64_S256x64x1x64_0_0_1_0) : (⟨S256x64x2x64, .f32⟩ : BufTy).Contents (Elt F) → (⟨S256x64x1x64, .f32⟩ : BufTy).Contents (Elt F)),
    StableHlo.unary main_v28 main_v29 (Host.reverse [0] : (⟨S256x64x1x64, .f32⟩ : BufTy).Contents (Elt F) → (⟨S256x64x1x64, .f32⟩ : BufTy).Contents (Elt F)),
    StableHlo.reshape main_v29 main_v30 (rfl : (.f32 : EltTy) = .f32) shapeCasts_S256x64x1x64_S256x64x64,
    StableHlo.unary main_v27 main_v31 (broadcastInDim S256x64x1x64 ![0, 1, 3] bcast_S256x64x64_S256x64x1x64_0_1_3 : (⟨S256x64x64, .f32⟩ : BufTy).Contents (Elt F) → (⟨S256x64x1x64, .f32⟩ : BufTy).Contents (Elt F)),
    StableHlo.unary main_v30 main_v32 (broadcastInDim S256x64x1x64 ![0, 1, 3] bcast_S256x64x64_S256x64x1x64_0_1_3 : (⟨S256x64x64, .f32⟩ : BufTy).Contents (Elt F) → (⟨S256x64x1x64, .f32⟩ : BufTy).Contents (Elt F)),
    StableHlo.binary main_v31 main_v32 main_v33 ((fun a b => concatenate S256x64x2x64 2 [⟨S256x64x1x64, a⟩, ⟨S256x64x1x64, b⟩] concatenates_S256x64x1x64_S256x64x1x64_S256x64x2x64_d2) : (⟨S256x64x1x64, .f32⟩ : BufTy).Contents (Elt F) → (⟨S256x64x1x64, .f32⟩ : BufTy).Contents (Elt F) → (⟨S256x64x2x64, .f32⟩ : BufTy).Contents (Elt F)),
    StableHlo.unary main_v25_9 main_v34 ((extractStridedSlice S256x64x1x64 ![0, 0, 0, 0] · slices_S256x64x2x64_S256x64x1x64_0_0_0_0) : (⟨S256x64x2x64, .f32⟩ : BufTy).Contents (Elt F) → (⟨S256x64x1x64, .f32⟩ : BufTy).Contents (Elt F)),
    StableHlo.reshape main_v34 main_v35 (rfl : (.f32 : EltTy) = .f32) shapeCasts_S256x64x1x64_S256x64x64,
    StableHlo.unary main_v25_9 main_v36 ((extractStridedSlice S256x64x1x64 ![0, 0, 1, 0] · slices_S256x64x2x64_S256x64x1x64_0_0_1_0) : (⟨S256x64x2x64, .f32⟩ : BufTy).Contents (Elt F) → (⟨S256x64x1x64, .f32⟩ : BufTy).Contents (Elt F)),
    StableHlo.unary main_v36 main_v37 (Host.reverse [0] : (⟨S256x64x1x64, .f32⟩ : BufTy).Contents (Elt F) → (⟨S256x64x1x64, .f32⟩ : BufTy).Contents (Elt F)),
    StableHlo.reshape main_v37 main_v38 (rfl : (.f32 : EltTy) = .f32) shapeCasts_S256x64x1x64_S256x64x64,
    StableHlo.unary main_v35 main_v39 (broadcastInDim S256x64x1x64 ![0, 1, 3] bcast_S256x64x64_S256x64x1x64_0_1_3 : (⟨S256x64x64, .f32⟩ : BufTy).Contents (Elt F) → (⟨S256x64x1x64, .f32⟩ : BufTy).Contents (Elt F)),
    StableHlo.unary main_v38 main_v40 (broadcastInDim S256x64x1x64 ![0, 1, 3] bcast_S256x64x64_S256x64x1x64_0_1_3 : (⟨S256x64x64, .f32⟩ : BufTy).Contents (Elt F) → (⟨S256x64x1x64, .f32⟩ : BufTy).Contents (Elt F)),
    StableHlo.binary main_v39 main_v40 main_v41 ((fun a b => concatenate S256x64x2x64 2 [⟨S256x64x1x64, a⟩, ⟨S256x64x1x64, b⟩] concatenates_S256x64x1x64_S256x64x1x64_S256x64x2x64_d2) : (⟨S256x64x1x64, .f32⟩ : BufTy).Contents (Elt F) → (⟨S256x64x1x64, .f32⟩ : BufTy).Contents (Elt F) → (⟨S256x64x2x64, .f32⟩ : BufTy).Contents (Elt F)),
    StableHlo.unary main_v33 main_v42 (broadcastInDim S256x64x1x2x64 ![0, 1, 3, 4] bcast_S256x64x2x64_S256x64x1x2x64_0_1_3_4 : (⟨S256x64x2x64, .f32⟩ : BufTy).Contents (Elt F) → (⟨S256x64x1x2x64, .f32⟩ : BufTy).Contents (Elt F)),
    StableHlo.unary main_v41 main_v43 (broadcastInDim S256x64x1x2x64 ![0, 1, 3, 4] bcast_S256x64x2x64_S256x64x1x2x64_0_1_3_4 : (⟨S256x64x2x64, .f32⟩ : BufTy).Contents (Elt F) → (⟨S256x64x1x2x64, .f32⟩ : BufTy).Contents (Elt F)),
    StableHlo.binary main_v42 main_v43 main_v44 ((fun a b => concatenate S256x64x2x2x64 2 [⟨S256x64x1x2x64, a⟩, ⟨S256x64x1x2x64, b⟩] concatenates_S256x64x1x2x64_S256x64x1x2x64_S256x64x2x2x64_d2) : (⟨S256x64x1x2x64, .f32⟩ : BufTy).Contents (Elt F) → (⟨S256x64x1x2x64, .f32⟩ : BufTy).Contents (Elt F) → (⟨S256x64x2x2x64, .f32⟩ : BufTy).Contents (Elt F)),
    StableHlo.reshape main_v44 main_v45 (rfl : (.f32 : EltTy) = .f32) shapeCasts_S256x64x2x2x64_S256x64x256 ]

theorem p0_1_sub : (p0_1 : Ops).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub ..⟩

theorem p0_1_fresh : (p0_1 : Ops).Forall fun op => op.fresh = ∅ := StableHlo.forall_fresh_of_map rfl

abbrev p0_1_W : List (Ref sig .tc) := [main_v26, main_v27, main_v28, main_v29, main_v30, main_v31, main_v32, main_v33, main_v34, main_v35, main_v36, main_v37, main_v38, main_v39, main_v40, main_v41, main_v42, main_v43, main_v44, main_v45]

theorem p0_1_writes : (p0_1 : Ops).Forall fun op => op.writes ⊆ (p0_1_W.map (Proc.devRef (τ := τ) .tc)).toFinset :=
  StableHlo.forall_writes_sub_of_map rfl

abbrev p1_0 : Ops :=
  ( StableHlo.nullary main_cst_2 (constant S_ .f32 0x00000000#32)
  :: StableHlo.unary main_cst_2 main_v46 (broadcastInDim S64x2x64 ![] bcast_S_S64x2x64 : (⟨S_, .f32⟩ : BufTy).Contents (Elt F) → (⟨S64x2x64, .f32⟩ : BufTy).Contents (Elt F))
  :: StableHlo.nullary main_cst_3 (constant S_ .f32 0x00000000#32)
  :: StableHlo.unary main_cst_3 main_v47 (broadcastInDim S64x2x64 ![] bcast_S_S64x2x64 : (⟨S_, .f32⟩ : BufTy).Contents (Elt F) → (⟨S64x2x64, .f32⟩ : BufTy).Contents (Elt F))
  :: StableHlo.reshape main_arg3 main_v48 (rfl : (.f32 : EltTy) = .f32) shapeCasts_S256x64x256_S256x64x2x2x64
  :: StableHlo.unary main_v48 main_v49 ((extractStridedSlice S256x64x1x2x64 ![0, 0, 0, 0, 0] · slices_S256x64x2x2x64_S256x64x1x2x64_0_0_0_0_0) : (⟨S256x64x2x2x64, .f32⟩ : BufTy).Contents (Elt F) → (⟨S256x64x1x2x64, .f32⟩ : BufTy).Contents (Elt F))
  :: StableHlo.reshape main_v49 main_v50 (rfl : (.f32 : EltTy) = .f32) shapeCasts_S256x64x1x2x64_S256x64x2x64
  :: StableHlo.unary main_v48 main_v51 ((extractStridedSlice S256x64x1x2x64 ![0, 0, 1, 0, 0] · slices_S256x64x2x2x64_S256x64x1x2x64_0_0_1_0_0) : (⟨S256x64x2x2x64, .f32⟩ : BufTy).Contents (Elt F) → (⟨S256x64x1x2x64, .f32⟩ : BufTy).Contents (Elt F))
  :: StableHlo.reshape main_v51 main_v52 (rfl : (.f32 : EltTy) = .f32) shapeCasts_S256x64x1x2x64_S256x64x2x64
  :: StableHlo.unary main_v52 main_v53 ((extractStridedSlice S256x64x1x64 ![0, 0, 0, 0] · slices_S256x64x2x64_S256x64x1x64_0_0_0_0) : (⟨S256x64x2x64, .f32⟩ : BufTy).Contents (Elt F) → (⟨S256x64x1x64, .f32⟩ : BufTy).Contents (Elt F))
  :: StableHlo.reshape main_v53 main_v54 (rfl : (.f32 : EltTy) = .f32) shapeCasts_S256x64x1x64_S256x64x64
  :: StableHlo.unary main_v52 main_v55 ((extractStridedSlice S256x64x1x64 ![0, 0, 1, 0] · slices_S256x64x2x64_S256x64x1x64_0_0_1_0) : (⟨S256x64x2x64, .f32⟩ : BufTy).Contents (Elt F) → (⟨S256x64x1x64, .f32⟩ : BufTy).Contents (Elt F))
  :: StableHlo.reshape main_v55 main_v56 (rfl : (.f32 : EltTy) = .f32) shapeCasts_S256x64x1x64_S256x64x64
  :: StableHlo.unary main_v56 main_v57 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.unary main_v57 main_v58 (Host.reverse [0] : (⟨S256x64x1x64, .f32⟩ : BufTy).Contents (Elt F) → (⟨S256x64x1x64, .f32⟩ : BufTy).Contents (Elt F))
  :: StableHlo.nullary main_cst_4 (constant S_ .f32 0x00000000#32)
  :: StableHlo.binary main_v58 main_cst_4 main_v59 ((fun x v => pad S256x64x2x64 ![0, 0, 1, 0] ![0, 0, 0, 0] ![0, 0, 0, 0] x v pads_S256x64x1x64_S256x64x2x64_000_000_100_000 h_S_) : (⟨S256x64x1x64, .f32⟩ : BufTy).Contents (Elt F) → (⟨S_, .f32⟩ : BufTy).Contents (Elt F) → (⟨S256x64x2x64, .f32⟩ : BufTy).Contents (Elt F))
  :: StableHlo.unary main_v54 main_v60 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.nullary main_cst_5 (constant S_ .f32 0x00000000#32)
  :: StableHlo.binary main_v60 main_cst_5 main_v61 ((fun x v => pad S256x64x2x64 ![0, 0, 0, 0] ![0, 0, 1, 0] ![0, 0, 0, 0] x v pads_S256x64x1x64_S256x64x2x64_000_000_010_000 h_S_) : (⟨S256x64x1x64, .f32⟩ : BufTy).Contents (Elt F) → (⟨S_, .f32⟩ : BufTy).Contents (Elt F) → (⟨S256x64x2x64, .f32⟩ : BufTy).Contents (Elt F))
  :: StableHlo.binary main_v59 main_v61 main_v62 (addf : (⟨S256x64x2x64, .f32⟩ : BufTy).Contents (Elt F) → (⟨S256x64x2x64, .f32⟩ : BufTy).Contents (Elt F) → (⟨S256x64x2x64, .f32⟩ : BufTy).Contents (Elt F))
  :: StableHlo.unary main_v50 main_v63 ((extractStridedSlice S256x64x1x64 ![0, 0, 0, 0] · slices_S256x64x2x64_S256x64x1x64_0_0_0_0) : (⟨S256x64x2x64, .f32⟩ : BufTy).Contents (Elt F) → (⟨S256x64x1x64, .f32⟩ : BufTy).Contents (Elt F))
  :: StableHlo.reshape main_v63 main_v64 (rfl : (.f32 : EltTy) = .f32) shapeCasts_S256x64x1x64_S256x64x64
  :: StableHlo.unary main_v50 main_v65 ((extractStridedSlice S256x64x1x64 ![0, 0, 1, 0] · slices_S256x64x2x64_S256x64x1x64_0_0_1_0) : (⟨S256x64x2x64, .f32⟩ : BufTy).Contents (Elt F) → (⟨S256x64x1x64, .f32⟩ : BufTy).Contents (Elt F))
  :: StableHlo.reshape main_v65 main_v66 (rfl : (.f32 : EltTy) = .f32) shapeCasts_S256x64x1x64_S256x64x64
  :: StableHlo.unary main_v66 main_v67 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.unary main_v67 main_v68 (Host.reverse [0] : (⟨S256x64x1x64, .f32⟩ : BufTy).Contents (Elt F) → (⟨S256x64x1x64, .f32⟩ : BufTy).Contents (Elt F))
  :: StableHlo.nullary main_cst_6 (constant S_ .f32 0x00000000#32)
  :: StableHlo.binary main_v68 main_cst_6 main_v69 ((fun x v => pad S256x64x2x64 ![0, 0, 1, 0] ![0, 0, 0, 0] ![0, 0, 0, 0] x v pads_S256x64x1x64_S256x64x2x64_000_000_100_000 h_S_) : (⟨S256x64x1x64, .f32⟩ : BufTy).Contents (Elt F) → (⟨S_, .f32⟩ : BufTy).Contents (Elt F) → (⟨S256x64x2x64, .f32⟩ : BufTy).Contents (Elt F))
  :: StableHlo.unary main_v64 main_v70 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.nullary main_cst_7 (constant S_ .f32 0x00000000#32)
  :: StableHlo.binary main_v70 main_cst_7 main_v71 ((fun x v => pad S256x64x2x64 ![0, 0, 0, 0] ![0, 0, 1, 0] ![0, 0, 0, 0] x v pads_S256x64x1x64_S256x64x2x64_000_000_010_000 h_S_) : (⟨S256x64x1x64, .f32⟩ : BufTy).Contents (Elt F) → (⟨S_, .f32⟩ : BufTy).Contents (Elt F) → (⟨S256x64x2x64, .f32⟩ : BufTy).Contents (Elt F))
  :: StableHlo.binary main_v69 main_v71 main_v72 (addf : (⟨S256x64x2x64, .f32⟩ : BufTy).Contents (Elt F) → (⟨S256x64x2x64, .f32⟩ : BufTy).Contents (Elt F) → (⟨S256x64x2x64, .f32⟩ : BufTy).Contents (Elt F))
  :: StableHlo.nullary main_cst_8 (constant S_ .f32 0x00000000#32)
  :: StableHlo.unary main_cst_8 main_v73 (broadcastInDim S64x2x64 ![] bcast_S_S64x2x64 : (⟨S_, .f32⟩ : BufTy).Contents (Elt F) → (⟨S64x2x64, .f32⟩ : BufTy).Contents (Elt F))
  :: StableHlo.nullary main_cst_9 (constant S_ .f32 0x00000000#32)
  :: StableHlo.unary main_cst_9 main_v74 (broadcastInDim S64x2x64 ![] bcast_S_S64x2x64 : (⟨S_, .f32⟩ : BufTy).Contents (Elt F) → (⟨S64x2x64, .f32⟩ : BufTy).Contents (Elt F))
  :: StableHlo.nullary main_cst_10 (constant S_ .f32 0x00000000#32)
  :: StableHlo.unary main_cst_10 main_v75 (broadcastInDim S64x2x64 ![] bcast_S_S64x2x64 : (⟨S_, .f32⟩ : BufTy).Contents (Elt F) → (⟨S64x2x64, .f32⟩ : BufTy).Contents (Elt F))
  :: StableHlo.nullary main_cst_11 (constant S_ .f32 0x00000000#32)
  :: StableHlo.unary main_cst_11 main_v76 (broadcastInDim S64x2x64 ![] bcast_S_S64x2x64 : (⟨S_, .f32⟩ : BufTy).Contents (Elt F) → (⟨S64x2x64, .f32⟩ : BufTy).Contents (Elt F))
  :: StableHlo.nullary main_cst_12 (constant S_ .f32 0x00000000#32)
  :: StableHlo.unary main_cst_12 main_v77 (broadcastInDim S64x2x64 ![] bcast_S_S64x2x64 : (⟨S_, .f32⟩ : BufTy).Contents (Elt F) → (⟨S64x2x64, .f32⟩ : BufTy).Contents (Elt F))
  :: StableHlo.nullary main_cst_13 (constant S_ .f32 0x00000000#32)
  :: StableHlo.unary main_cst_13 main_v78 (broadcastInDim S256x64x2x64 ![] bcast_S_S256x64x2x64 : (⟨S_, .f32⟩ : BufTy).Contents (Elt F) → (⟨S256x64x2x64, .f32⟩ : BufTy).Contents (Elt F))
  :: StableHlo.nullary main_cst_14 (constant S_ .f32 0x00000000#32)
  :: StableHlo.unary main_cst_14 main_v79 (broadcastInDim S256x64x2x64 ![] bcast_S_S256x64x2x64 : (⟨S_, .f32⟩ : BufTy).Contents (Elt F) → (⟨S256x64x2x64, .f32⟩ : BufTy).Contents (Elt F))
  :: StableHlo.nullary main_c_15 (constantI S_ 32 0#32)
  :: StableHlo.unary main_v72 main_v80_0 id
  :: StableHlo.unary main_v62 main_v80_1 id
  :: StableHlo.unary main_v25_8 main_v80_2 id
  :: StableHlo.unary main_v25_9 main_v80_3 id
  :: StableHlo.unary main_arg1 main_v80_4 id
  :: StableHlo.unary main_v1 main_v80_5 id
  :: StableHlo.unary main_arg2 main_v80_6 id
  :: StableHlo.unary main_c_15 main_v80_7 id
  :: StableHlo.unary main_v75 main_v80_8 id
  :: StableHlo.unary main_v76 main_v80_9 id
  :: StableHlo.unary main_v77 main_v80_10 id
  :: StableHlo.unary main_v73 main_v80_11 id
  :: [] )

theorem p1_0_sub : (p1_0 : Ops).Forall fun op => op.bufs ⊆ StableHlo.tcRefs τ sig :=
  ⟨StableHlo.nullary_bufs_sub .., StableHlo.unary_bufs_sub .., StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.binary_bufs_sub .., StableHlo.unary_bufs_sub .., StableHlo.nullary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.binary_bufs_sub .., StableHlo.unary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem p1_0_fresh : (p1_0 : Ops).Forall fun op => op.fresh = ∅ := StableHlo.forall_fresh_of_map rfl

abbrev p1_0_W : List (Ref sig .tc) := [main_cst_2, main_v46, main_cst_3, main_v47, main_v48, main_v49, main_v50, main_v51, main_v52, main_v53, main_v54, main_v55, main_v56, main_v57, main_v58, main_cst_4, main_v59, main_v60, main_cst_5, main_v61, main_v62, main_v63, main_v64, main_v65, main_v66, main_v67, main_v68, main_cst_6, main_v69, main_v70, main_cst_7, main_v71, main_v72, main_cst_8, main_v73, main_cst_9, main_v74, main_cst_10, main_v75, main_cst_11, main_v76, main_cst_12, main_v77, main_cst_13, main_v78, main_cst_14, main_v79, main_c_15, main_v80_0, main_v80_1, main_v80_2, main_v80_3, main_v80_4, main_v80_5, main_v80_6, main_v80_7, main_v80_8, main_v80_9, main_v80_10, main_v80_11]

theorem p1_0_writes : (p1_0 : Ops).Forall fun op => op.writes ⊆ (p1_0_W.map (Proc.devRef (τ := τ) .tc)).toFinset :=
  StableHlo.forall_writes_sub_of_map rfl

abbrev p2_0 : Ops :=
  [ StableHlo.unary main_v74 main_v80_12 id,
    StableHlo.unary main_v78 main_v80_13 id,
    StableHlo.unary main_v79 main_v80_14 id ]

theorem p2_0_sub : (p2_0 : Ops).Forall fun op => op.bufs ⊆ StableHlo.tcRefs τ sig :=
  ⟨StableHlo.unary_bufs_sub .., StableHlo.unary_bufs_sub .., StableHlo.unary_bufs_sub ..⟩

theorem p2_0_fresh : (p2_0 : Ops).Forall fun op => op.fresh = ∅ := StableHlo.forall_fresh_of_map rfl

abbrev p2_0_W : List (Ref sig .tc) := [main_v80_12, main_v80_13, main_v80_14]

theorem p2_0_writes : (p2_0 : Ops).Forall fun op => op.writes ⊆ (p2_0_W.map (Proc.devRef (τ := τ) .tc)).toFinset :=
  StableHlo.forall_writes_sub_of_map rfl

abbrev p2_1 : Ops :=
  ( StableHlo.unary main_v80_14 main_v81 ((extractStridedSlice S256x64x1x64 ![0, 0, 0, 0] · slices_S256x64x2x64_S256x64x1x64_0_0_0_0) : (⟨S256x64x2x64, .f32⟩ : BufTy).Contents (Elt F) → (⟨S256x64x1x64, .f32⟩ : BufTy).Contents (Elt F))
  :: StableHlo.reshape main_v81 main_v82 (rfl : (.f32 : EltTy) = .f32) shapeCasts_S256x64x1x64_S256x64x64
  :: StableHlo.unary main_v80_14 main_v83 ((extractStridedSlice S256x64x1x64 ![0, 0, 1, 0] · slices_S256x64x2x64_S256x64x1x64_0_0_1_0) : (⟨S256x64x2x64, .f32⟩ : BufTy).Contents (Elt F) → (⟨S256x64x1x64, .f32⟩ : BufTy).Contents (Elt F))
  :: StableHlo.reshape main_v83 main_v84 (rfl : (.f32 : EltTy) = .f32) shapeCasts_S256x64x1x64_S256x64x64
  :: StableHlo.unary main_v84 main_v85 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.unary main_v85 main_v86 (Host.reverse [0] : (⟨S256x64x1x64, .f32⟩ : BufTy).Contents (Elt F) → (⟨S256x64x1x64, .f32⟩ : BufTy).Contents (Elt F))
  :: StableHlo.nullary main_cst_16 (constant S_ .f32 0x00000000#32)
  :: StableHlo.binary main_v86 main_cst_16 main_v87 ((fun x v => pad S256x64x2x64 ![0, 0, 1, 0] ![0, 0, 0, 0] ![0, 0, 0, 0] x v pads_S256x64x1x64_S256x64x2x64_000_000_100_000 h_S_) : (⟨S256x64x1x64, .f32⟩ : BufTy).Contents (Elt F) → (⟨S_, .f32⟩ : BufTy).Contents (Elt F) → (⟨S256x64x2x64, .f32⟩ : BufTy).Contents (Elt F))
  :: StableHlo.unary main_v82 main_v88 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.nullary main_cst_17 (constant S_ .f32 0x00000000#32)
  :: StableHlo.binary main_v88 main_cst_17 main_v89 ((fun x v => pad S256x64x2x64 ![0, 0, 0, 0] ![0, 0, 1, 0] ![0, 0, 0, 0] x v pads_S256x64x1x64_S256x64x2x64_000_000_010_000 h_S_) : (⟨S256x64x1x64, .f32⟩ : BufTy).Contents (Elt F) → (⟨S_, .f32⟩ : BufTy).Contents (Elt F) → (⟨S256x64x2x64, .f32⟩ : BufTy).Contents (Elt F))
  :: StableHlo.binary main_v87 main_v89 main_v90 (addf : (⟨S256x64x2x64, .f32⟩ : BufTy).Contents (Elt F) → (⟨S256x64x2x64, .f32⟩ : BufTy).Contents (Elt F) → (⟨S256x64x2x64, .f32⟩ : BufTy).Contents (Elt F))
  :: StableHlo.unary main_v90 main_v91 (broadcastInDim S256x64x1x2x64 ![0, 1, 3, 4] bcast_S256x64x2x64_S256x64x1x2x64_0_1_3_4 : (⟨S256x64x2x64, .f32⟩ : BufTy).Contents (Elt F) → (⟨S256x64x1x2x64, .f32⟩ : BufTy).Contents (Elt F))
  :: StableHlo.nullary main_cst_18 (constant S_ .f32 0x00000000#32)
  :: StableHlo.binary main_v91 main_cst_18 main_v92 ((fun x v => pad S256x64x2x2x64 ![0, 0, 1, 0, 0] ![0, 0, 0, 0, 0] ![0, 0, 0, 0, 0] x v pads_S256x64x1x2x64_S256x64x2x2x64_000_000_100_000_000 h_S_) : (⟨S256x64x1x2x64, .f32⟩ : BufTy).Contents (Elt F) → (⟨S_, .f32⟩ : BufTy).Contents (Elt F) → (⟨S256x64x2x2x64, .f32⟩ : BufTy).Contents (Elt F))
  :: StableHlo.unary main_v80_13 main_v93 ((extractStridedSlice S256x64x1x64 ![0, 0, 0, 0] · slices_S256x64x2x64_S256x64x1x64_0_0_0_0) : (⟨S256x64x2x64, .f32⟩ : BufTy).Contents (Elt F) → (⟨S256x64x1x64, .f32⟩ : BufTy).Contents (Elt F))
  :: StableHlo.reshape main_v93 main_v94 (rfl : (.f32 : EltTy) = .f32) shapeCasts_S256x64x1x64_S256x64x64
  :: StableHlo.unary main_v80_13 main_v95 ((extractStridedSlice S256x64x1x64 ![0, 0, 1, 0] · slices_S256x64x2x64_S256x64x1x64_0_0_1_0) : (⟨S256x64x2x64, .f32⟩ : BufTy).Contents (Elt F) → (⟨S256x64x1x64, .f32⟩ : BufTy).Contents (Elt F))
  :: StableHlo.reshape main_v95 main_v96 (rfl : (.f32 : EltTy) = .f32) shapeCasts_S256x64x1x64_S256x64x64
  :: StableHlo.unary main_v96 main_v97 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.unary main_v97 main_v98 (Host.reverse [0] : (⟨S256x64x1x64, .f32⟩ : BufTy).Contents (Elt F) → (⟨S256x64x1x64, .f32⟩ : BufTy).Contents (Elt F))
  :: StableHlo.nullary main_cst_19 (constant S_ .f32 0x00000000#32)
  :: StableHlo.binary main_v98 main_cst_19 main_v99 ((fun x v => pad S256x64x2x64 ![0, 0, 1, 0] ![0, 0, 0, 0] ![0, 0, 0, 0] x v pads_S256x64x1x64_S256x64x2x64_000_000_100_000 h_S_) : (⟨S256x64x1x64, .f32⟩ : BufTy).Contents (Elt F) → (⟨S_, .f32⟩ : BufTy).Contents (Elt F) → (⟨S256x64x2x64, .f32⟩ : BufTy).Contents (Elt F))
  :: StableHlo.unary main_v94 main_v100 (broadcastInDim S256x64x1x64 ![0, 1, 3] bcast_S256x64x64_S256x64x1x64_0_1_3 : (⟨S256x64x64, .f32⟩ : BufTy).Contents (Elt F) → (⟨S256x64x1x64, .f32⟩ : BufTy).Contents (Elt F))
  :: StableHlo.nullary main_cst_20 (constant S_ .f32 0x00000000#32)
  :: StableHlo.binary main_v100 main_cst_20 main_v101 ((fun x v => pad S256x64x2x64 ![0, 0, 0, 0] ![0, 0, 1, 0] ![0, 0, 0, 0] x v pads_S256x64x1x64_S256x64x2x64_000_000_010_000 h_S_) : (⟨S256x64x1x64, .f32⟩ : BufTy).Contents (Elt F) → (⟨S_, .f32⟩ : BufTy).Contents (Elt F) → (⟨S256x64x2x64, .f32⟩ : BufTy).Contents (Elt F))
  :: StableHlo.binary main_v99 main_v101 main_v102 (addf : (⟨S256x64x2x64, .f32⟩ : BufTy).Contents (Elt F) → (⟨S256x64x2x64, .f32⟩ : BufTy).Contents (Elt F) → (⟨S256x64x2x64, .f32⟩ : BufTy).Contents (Elt F))
  :: StableHlo.unary main_v102 main_v103 (broadcastInDim S256x64x1x2x64 ![0, 1, 3, 4] bcast_S256x64x2x64_S256x64x1x2x64_0_1_3_4 : (⟨S256x64x2x64, .f32⟩ : BufTy).Contents (Elt F) → (⟨S256x64x1x2x64, .f32⟩ : BufTy).Contents (Elt F))
  :: StableHlo.nullary main_cst_21 (constant S_ .f32 0x00000000#32)
  :: StableHlo.binary main_v103 main_cst_21 main_v104 ((fun x v => pad S256x64x2x2x64 ![0, 0, 0, 0, 0] ![0, 0, 1, 0, 0] ![0, 0, 0, 0, 0] x v pads_S256x64x1x2x64_S256x64x2x2x64_000_000_010_000_000 h_S_) : (⟨S256x64x1x2x64, .f32⟩ : BufTy).Contents (Elt F) → (⟨S_, .f32⟩ : BufTy).Contents (Elt F) → (⟨S256x64x2x2x64, .f32⟩ : BufTy).Contents (Elt F))
  :: StableHlo.binary main_v92 main_v104 main_v105 (addf : (⟨S256x64x2x2x64, .f32⟩ : BufTy).Contents (Elt F) → (⟨S256x64x2x2x64, .f32⟩ : BufTy).Contents (Elt F) → (⟨S256x64x2x2x64, .f32⟩ : BufTy).Contents (Elt F))
  :: StableHlo.unary main_v80_9 main_v106 (Host.negf : (⟨S64x2x64, .f32⟩ : BufTy).Contents (Elt F) → (⟨S64x2x64, .f32⟩ : BufTy).Contents (Elt F))
  :: StableHlo.binary main_v80_10 main_v106 main_v107 (addf : (⟨S64x2x64, .f32⟩ : BufTy).Contents (Elt F) → (⟨S64x2x64, .f32⟩ : BufTy).Contents (Elt F) → (⟨S64x2x64, .f32⟩ : BufTy).Contents (Elt F))
  :: StableHlo.reshape main_v105 main_v108 (rfl : (.f32 : EltTy) = .f32) shapeCasts_S256x64x2x2x64_S256x64x256
  :: [] )

theorem p2_1_sub : (p2_1 : Ops).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.binary_bufs_sub .., StableHlo.unary_bufs_sub .., StableHlo.nullary_bufs_sub .., StableHlo.binary_bufs_sub .., StableHlo.binary_bufs_sub .., StableHlo.unary_bufs_sub .., StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.binary_bufs_sub .., StableHlo.unary_bufs_sub .., StableHlo.nullary_bufs_sub .., StableHlo.binary_bufs_sub .., StableHlo.binary_bufs_sub .., StableHlo.unary_bufs_sub .., StableHlo.nullary_bufs_sub .., StableHlo.binary_bufs_sub .., StableHlo.binary_bufs_sub .., StableHlo.unary_bufs_sub .., StableHlo.binary_bufs_sub .., StableHlo.reshape_bufs_sub ..⟩

theorem p2_1_fresh : (p2_1 : Ops).Forall fun op => op.fresh = ∅ := StableHlo.forall_fresh_of_map rfl

abbrev p2_1_W : List (Ref sig .tc) := [main_v81, main_v82, main_v83, main_v84, main_v85, main_v86, main_cst_16, main_v87, main_v88, main_cst_17, main_v89, main_v90, main_v91, main_cst_18, main_v92, main_v93, main_v94, main_v95, main_v96, main_v97, main_v98, main_cst_19, main_v99, main_v100, main_cst_20, main_v101, main_v102, main_v103, main_cst_21, main_v104, main_v105, main_v106, main_v107, main_v108]

theorem p2_1_writes : (p2_1 : Ops).Forall fun op => op.writes ⊆ (p2_1_W.map (Proc.devRef (τ := τ) .tc)).toFinset :=
  StableHlo.forall_writes_sub_of_map rfl

abbrev b0_0 : Ops :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v25_0 : StableHlo.TRef sig ⟨S256x64x2x64, .f32⟩) ![(.of main_v25_5 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x64x2x64, .f32⟩) (fun x i => Host.dynamicSlice S1x64x2x64 x (fun k => (i k (Shape.Idx.first h_S_)).toInt) sliceFits_S256x64x2x64_S1x64x2x64),
    StableHlo.TRef.reshape (.of main_while0b_call0_v0 : StableHlo.TRef sig ⟨S1x64x2x64, .f32⟩) (.of main_while0b_v109 : StableHlo.TRef sig ⟨S64x2x64, .f32⟩) (rfl : (.f32 : EltTy) = .f32) shapeCasts_S1x64x2x64_S64x2x64 ]

theorem b0_0_sub : (b0_0 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem b0_0_fresh : (b0_0 : Ops).Forall fun op => op.fresh = ∅ := StableHlo.forall_fresh_of_map rfl

abbrev b0_0_W : List (Ref sig .tc) := [main_while0b_call0_c, main_while0b_call0_c_0, main_while0b_call0_c_1, main_while0b_call0_v0, main_while0b_v109]

theorem b0_0_writes : (b0_0 : Ops).Forall fun op => op.writes ⊆ (b0_0_W.map (Proc.devRef (τ := τ) .tc)).toFinset :=
  StableHlo.forall_writes_sub_of_map rfl

abbrev b0_1 : Ops :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v25_1 : StableHlo.TRef sig ⟨S256x64x2x64, .f32⟩) ![(.of main_v25_5 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x64x2x64, .f32⟩) (fun x i => Host.dynamicSlice S1x64x2x64 x (fun k => (i k (Shape.Idx.first h_S_)).toInt) sliceFits_S256x64x2x64_S1x64x2x64),
    StableHlo.TRef.reshape (.of main_while0b_call1_v0 : StableHlo.TRef sig ⟨S1x64x2x64, .f32⟩) (.of main_while0b_v110 : StableHlo.TRef sig ⟨S64x2x64, .f32⟩) (rfl : (.f32 : EltTy) = .f32) shapeCasts_S1x64x2x64_S64x2x64 ]

theorem b0_1_sub : (b0_1 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem b0_1_fresh : (b0_1 : Ops).Forall fun op => op.fresh = ∅ := StableHlo.forall_fresh_of_map rfl

abbrev b0_1_W : List (Ref sig .tc) := [main_while0b_call1_c, main_while0b_call1_c_0, main_while0b_call1_c_1, main_while0b_call1_v0, main_while0b_v110]

theorem b0_1_writes : (b0_1 : Ops).Forall fun op => op.writes ⊆ (b0_1_W.map (Proc.devRef (τ := τ) .tc)).toFinset :=
  StableHlo.forall_writes_sub_of_map rfl

abbrev b0_2 : Ops :=
  [ StableHlo.binary main_v25_2 main_v25_6 main_while0b_v111 (mulf : (⟨S64x2x64, .f32⟩ : BufTy).Contents (Elt F) → (⟨S64x2x64, .f32⟩ : BufTy).Contents (Elt F) → (⟨S64x2x64, .f32⟩ : BufTy).Contents (Elt F)),
    StableHlo.binary main_v25_3 main_v25_7 main_while0b_v112 (mulf : (⟨S64x2x64, .f32⟩ : BufTy).Contents (Elt F) → (⟨S64x2x64, .f32⟩ : BufTy).Contents (Elt F) → (⟨S64x2x64, .f32⟩ : BufTy).Contents (Elt F)),
    StableHlo.binary main_while0b_v111 main_while0b_v112 main_while0b_v113 (addf : (⟨S64x2x64, .f32⟩ : BufTy).Contents (Elt F) → (⟨S64x2x64, .f32⟩ : BufTy).Contents (Elt F) → (⟨S64x2x64, .f32⟩ : BufTy).Contents (Elt F)),
    StableHlo.binary main_while0b_v113 main_while0b_v109 main_while0b_v114 (addf : (⟨S64x2x64, .f32⟩ : BufTy).Contents (Elt F) → (⟨S64x2x64, .f32⟩ : BufTy).Contents (Elt F) → (⟨S64x2x64, .f32⟩ : BufTy).Contents (Elt F)),
    StableHlo.binary main_v25_2 main_v25_7 main_while0b_v115 (mulf : (⟨S64x2x64, .f32⟩ : BufTy).Contents (Elt F) → (⟨S64x2x64, .f32⟩ : BufTy).Contents (Elt F) → (⟨S64x2x64, .f32⟩ : BufTy).Contents (Elt F)),
    StableHlo.binary main_v25_4 main_v25_6 main_while0b_v116 (mulf : (⟨S64x2x64, .f32⟩ : BufTy).Contents (Elt F) → (⟨S64x2x64, .f32⟩ : BufTy).Contents (Elt F) → (⟨S64x2x64, .f32⟩ : BufTy).Contents (Elt F)),
    StableHlo.binary main_while0b_v115 main_while0b_v116 main_while0b_v117 (addf : (⟨S64x2x64, .f32⟩ : BufTy).Contents (Elt F) → (⟨S64x2x64, .f32⟩ : BufTy).Contents (Elt F) → (⟨S64x2x64, .f32⟩ : BufTy).Contents (Elt F)),
    StableHlo.binary main_while0b_v117 main_while0b_v110 main_while0b_v118 (addf : (⟨S64x2x64, .f32⟩ : BufTy).Contents (Elt F) → (⟨S64x2x64, .f32⟩ : BufTy).Contents (Elt F) → (⟨S64x2x64, .f32⟩ : BufTy).Contents (Elt F)) ]

theorem b0_2_sub : (b0_2 : Ops).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩

theorem b0_2_fresh : (b0_2 : Ops).Forall fun op => op.fresh = ∅ := StableHlo.forall_fresh_of_map rfl

abbrev b0_2_W : List (Ref sig .tc) := [main_while0b_v111, main_while0b_v112, main_while0b_v113, main_while0b_v114, main_while0b_v115, main_while0b_v116, main_while0b_v117, main_while0b_v118]

theorem b0_2_writes : (b0_2 : Ops).Forall fun op => op.writes ⊆ (b0_2_W.map (Proc.devRef (τ := τ) .tc)).toFinset :=
  StableHlo.forall_writes_sub_of_map rfl

abbrev b0_3 : Ops :=
  [ StableHlo.TRef.unary (.of main_v25_6 : StableHlo.TRef sig ⟨S64x2x64, .f32⟩) (.of main_while0b_call2_v0 : StableHlo.TRef sig ⟨S1x64x2x64, .f32⟩) (broadcastInDim S1x64x2x64 ![1, 2, 3] bcast_S64x2x64_S1x64x2x64_1_2_3),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.binaryIndexed (.of main_v25_8 : StableHlo.TRef sig ⟨S256x64x2x64, .f32⟩) (.of main_while0b_call2_v0 : StableHlo.TRef sig ⟨S1x64x2x64, .f32⟩) ![(.of main_v25_5 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_v119 : StableHlo.TRef sig ⟨S256x64x2x64, .f32⟩) (fun x u i => Host.dynamicUpdateSlice x u (fun k => (i k (Shape.Idx.first h_S_)).toInt) updateFits_S256x64x2x64_S1x64x2x64) ]

theorem b0_3_sub : (b0_3 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem b0_3_fresh : (b0_3 : Ops).Forall fun op => op.fresh = ∅ := StableHlo.forall_fresh_of_map rfl

abbrev b0_3_W : List (Ref sig .tc) := [main_while0b_call2_v0, main_while0b_call2_c, main_while0b_call2_c_0, main_while0b_call2_c_1, main_while0b_v119]

theorem b0_3_writes : (b0_3 : Ops).Forall fun op => op.writes ⊆ (b0_3_W.map (Proc.devRef (τ := τ) .tc)).toFinset :=
  StableHlo.forall_writes_sub_of_map rfl

abbrev b0_4 : Ops :=
  [ StableHlo.TRef.unary (.of main_v25_7 : StableHlo.TRef sig ⟨S64x2x64, .f32⟩) (.of main_while0b_call3_v0 : StableHlo.TRef sig ⟨S1x64x2x64, .f32⟩) (broadcastInDim S1x64x2x64 ![1, 2, 3] bcast_S64x2x64_S1x64x2x64_1_2_3),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.binaryIndexed (.of main_v25_9 : StableHlo.TRef sig ⟨S256x64x2x64, .f32⟩) (.of main_while0b_call3_v0 : StableHlo.TRef sig ⟨S1x64x2x64, .f32⟩) ![(.of main_v25_5 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_v120 : StableHlo.TRef sig ⟨S256x64x2x64, .f32⟩) (fun x u i => Host.dynamicUpdateSlice x u (fun k => (i k (Shape.Idx.first h_S_)).toInt) updateFits_S256x64x2x64_S1x64x2x64) ]

theorem b0_4_sub : (b0_4 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem b0_4_fresh : (b0_4 : Ops).Forall fun op => op.fresh = ∅ := StableHlo.forall_fresh_of_map rfl

abbrev b0_4_W : List (Ref sig .tc) := [main_while0b_call3_v0, main_while0b_call3_c, main_while0b_call3_c_0, main_while0b_call3_c_1, main_while0b_v120]

theorem b0_4_writes : (b0_4 : Ops).Forall fun op => op.writes ⊆ (b0_4_W.map (Proc.devRef (τ := τ) .tc)).toFinset :=
  StableHlo.forall_writes_sub_of_map rfl

abbrev b0_5 : Ops :=
  [ StableHlo.nullary main_while0b_c_31 (constantI S_ 32 1#32),
    StableHlo.binary main_v25_5 main_while0b_c_31 main_while0b_v121 (addi : (⟨S_, .i32⟩ : BufTy).Contents (Elt F) → (⟨S_, .i32⟩ : BufTy).Contents (Elt F) → (⟨S_, .i32⟩ : BufTy).Contents (Elt F)),
    StableHlo.unary main_while0b_v121 main_v25_5 id,
    StableHlo.unary main_while0b_v114 main_v25_6 id,
    StableHlo.unary main_while0b_v118 main_v25_7 id,
    StableHlo.unary main_while0b_v119 main_v25_8 id,
    StableHlo.unary main_while0b_v120 main_v25_9 id ]

theorem b0_5_sub : (b0_5 : Ops).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

theorem b0_5_fresh : (b0_5 : Ops).Forall fun op => op.fresh = ∅ := StableHlo.forall_fresh_of_map rfl

abbrev b0_5_W : List (Ref sig .tc) := [main_while0b_c_31, main_while0b_v121, main_v25_5, main_v25_6, main_v25_7, main_v25_8, main_v25_9]

theorem b0_5_writes : (b0_5 : Ops).Forall fun op => op.writes ⊆ (b0_5_W.map (Proc.devRef (τ := τ) .tc)).toFinset :=
  StableHlo.forall_writes_sub_of_map rfl

abbrev b1_0 : Ops :=
  [ StableHlo.nullary main_while1b_c_36 (constantI S_ 32 256#32),
    StableHlo.binary main_while1b_c_36 main_v80_7 main_while1b_v109 (subi : (⟨S_, .i32⟩ : BufTy).Contents (Elt F) → (⟨S_, .i32⟩ : BufTy).Contents (Elt F) → (⟨S_, .i32⟩ : BufTy).Contents (Elt F)),
    StableHlo.nullary main_while1b_c_37 (constantI S_ 32 1#32),
    StableHlo.binary main_while1b_v109 main_while1b_c_37 main_while1b_v110 (subi : (⟨S_, .i32⟩ : BufTy).Contents (Elt F) → (⟨S_, .i32⟩ : BufTy).Contents (Elt F) → (⟨S_, .i32⟩ : BufTy).Contents (Elt F)) ]

theorem b1_0_sub : (b1_0 : Ops).Forall fun op => op.bufs ⊆ StableHlo.tcRefs τ sig :=
  ⟨StableHlo.nullary_bufs_sub .., StableHlo.binary_bufs_sub .., StableHlo.nullary_bufs_sub .., StableHlo.binary_bufs_sub ..⟩

theorem b1_0_fresh : (b1_0 : Ops).Forall fun op => op.fresh = ∅ := StableHlo.forall_fresh_of_map rfl

abbrev b1_0_W : List (Ref sig .tc) := [main_while1b_c_36, main_while1b_v109, main_while1b_c_37, main_while1b_v110]

theorem b1_0_writes : (b1_0 : Ops).Forall fun op => op.writes ⊆ (b1_0_W.map (Proc.devRef (τ := τ) .tc)).toFinset :=
  StableHlo.forall_writes_sub_of_map rfl

abbrev b1_1 : Ops :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.nullary (.of main_while1b_call4_c_1 : StableHlo.TRef sig ⟨S_, .i32⟩) (constantI S_ 32 0#32),
    StableHlo.TRef.unaryIndexed (.of main_v80_0 : StableHlo.TRef sig ⟨S256x64x2x64, .f32⟩) ![(.of main_while1b_v110 : StableHlo.TRef sig ⟨S_, .i32⟩), (.of main_while1b_call4_c : StableHlo.TRef sig ⟨S_, .i32⟩), (.of main_while1b_call4_c_0 : StableHlo.TRef sig ⟨S_, .i32⟩), (.of main_while1b_call4_c_1 : StableHlo.TRef sig ⟨S_, .i32⟩)] (.of main_while1b_call4_v0 : StableHlo.TRef sig ⟨S1x64x2x64, .f32⟩) (fun x i => Host.dynamicSlice S1x64x2x64 x (fun k => (i k (Shape.Idx.first h_S_)).toInt) sliceFits_S256x64x2x64_S1x64x2x64),
    StableHlo.TRef.reshape (.of main_while1b_call4_v0 : StableHlo.TRef sig ⟨S1x64x2x64, .f32⟩) (.of main_while1b_v111 : StableHlo.TRef sig ⟨S64x2x64, .f32⟩) (rfl : (.f32 : EltTy) = .f32) shapeCasts_S1x64x2x64_S64x2x64 ]

theorem b1_1_sub : (b1_1 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem b1_1_fresh : (b1_1 : Ops).Forall fun op => op.fresh = ∅ := StableHlo.forall_fresh_of_map rfl

abbrev b1_1_W : List (Ref sig .tc) := [main_while1b_call4_c, main_while1b_call4_c_0, main_while1b_call4_c_1, main_while1b_call4_v0, main_while1b_v111]

theorem b1_1_writes : (b1_1 : Ops).Forall fun op => op.writes ⊆ (b1_1_W.map (Proc.devRef (τ := τ) .tc)).toFinset :=
  StableHlo.forall_writes_sub_of_map rfl

abbrev b1_2 : Ops :=
  [ StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.nullary (.of main_while1b_call5_c_1 : StableHlo.TRef sig ⟨S_, .i32⟩) (constantI S_ 32 0#32),
    StableHlo.TRef.unaryIndexed (.of main_v80_1 : StableHlo.TRef sig ⟨S256x64x2x64, .f32⟩) ![(.of main_while1b_v110 : StableHlo.TRef sig ⟨S_, .i32⟩), (.of main_while1b_call5_c : StableHlo.TRef sig ⟨S_, .i32⟩), (.of main_while1b_call5_c_0 : StableHlo.TRef sig ⟨S_, .i32⟩), (.of main_while1b_call5_c_1 : StableHlo.TRef sig ⟨S_, .i32⟩)] (.of main_while1b_call5_v0 : StableHlo.TRef sig ⟨S1x64x2x64, .f32⟩) (fun x i => Host.dynamicSlice S1x64x2x64 x (fun k => (i k (Shape.Idx.first h_S_)).toInt) sliceFits_S256x64x2x64_S1x64x2x64),
    StableHlo.TRef.reshape (.of main_while1b_call5_v0 : StableHlo.TRef sig ⟨S1x64x2x64, .f32⟩) (.of main_while1b_v112 : StableHlo.TRef sig ⟨S64x2x64, .f32⟩) (rfl : (.f32 : EltTy) = .f32) shapeCasts_S1x64x2x64_S64x2x64 ]

theorem b1_2_sub : (b1_2 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem b1_2_fresh : (b1_2 : Ops).Forall fun op => op.fresh = ∅ := StableHlo.forall_fresh_of_map rfl

abbrev b1_2_W : List (Ref sig .tc) := [main_while1b_call5_c, main_while1b_call5_c_0, main_while1b_call5_c_1, main_while1b_call5_v0, main_while1b_v112]

theorem b1_2_writes : (b1_2 : Ops).Forall fun op => op.writes ⊆ (b1_2_W.map (Proc.devRef (τ := τ) .tc)).toFinset :=
  StableHlo.forall_writes_sub_of_map rfl

abbrev b1_3 : Ops :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.nullary (.of main_while1b_call6_c_1 : StableHlo.TRef sig ⟨S_, .i32⟩) (constantI S_ 32 0#32),
    StableHlo.TRef.unaryIndexed (.of main_v80_2 : StableHlo.TRef sig ⟨S256x64x2x64, .f32⟩) ![(.of main_while1b_v110 : StableHlo.TRef sig ⟨S_, .i32⟩), (.of main_while1b_call6_c : StableHlo.TRef sig ⟨S_, .i32⟩), (.of main_while1b_call6_c_0 : StableHlo.TRef sig ⟨S_, .i32⟩), (.of main_while1b_call6_c_1 : StableHlo.TRef sig ⟨S_, .i32⟩)] (.of main_while1b_call6_v0 : StableHlo.TRef sig ⟨S1x64x2x64, .f32⟩) (fun x i => Host.dynamicSlice S1x64x2x64 x (fun k => (i k (Shape.Idx.first h_S_)).toInt) sliceFits_S256x64x2x64_S1x64x2x64),
    StableHlo.TRef.reshape (.of main_while1b_call6_v0 : StableHlo.TRef sig ⟨S1x64x2x64, .f32⟩) (.of main_while1b_v113 : StableHlo.TRef sig ⟨S64x2x64, .f32⟩) (rfl : (.f32 : EltTy) = .f32) shapeCasts_S1x64x2x64_S64x2x64 ]

theorem b1_3_sub : (b1_3 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem b1_3_fresh : (b1_3 : Ops).Forall fun op => op.fresh = ∅ := StableHlo.forall_fresh_of_map rfl

abbrev b1_3_W : List (Ref sig .tc) := [main_while1b_call6_c, main_while1b_call6_c_0, main_while1b_call6_c_1, main_while1b_call6_v0, main_while1b_v113]

theorem b1_3_writes : (b1_3 : Ops).Forall fun op => op.writes ⊆ (b1_3_W.map (Proc.devRef (τ := τ) .tc)).toFinset :=
  StableHlo.forall_writes_sub_of_map rfl

abbrev b1_4 : Ops :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.nullary (.of main_while1b_call7_c_1 : StableHlo.TRef sig ⟨S_, .i32⟩) (constantI S_ 32 0#32),
    StableHlo.TRef.unaryIndexed (.of main_v80_3 : StableHlo.TRef sig ⟨S256x64x2x64, .f32⟩) ![(.of main_while1b_v110 : StableHlo.TRef sig ⟨S_, .i32⟩), (.of main_while1b_call7_c : StableHlo.TRef sig ⟨S_, .i32⟩), (.of main_while1b_call7_c_0 : StableHlo.TRef sig ⟨S_, .i32⟩), (.of main_while1b_call7_c_1 : StableHlo.TRef sig ⟨S_, .i32⟩)] (.of main_while1b_call7_v0 : StableHlo.TRef sig ⟨S1x64x2x64, .f32⟩) (fun x i => Host.dynamicSlice S1x64x2x64 x (fun k => (i k (Shape.Idx.first h_S_)).toInt) sliceFits_S256x64x2x64_S1x64x2x64),
    StableHlo.TRef.reshape (.of main_while1b_call7_v0 : StableHlo.TRef sig ⟨S1x64x2x64, .f32⟩) (.of main_while1b_v114 : StableHlo.TRef sig ⟨S64x2x64, .f32⟩) (rfl : (.f32 : EltTy) = .f32) shapeCasts_S1x64x2x64_S64x2x64 ]

theorem b1_4_sub : (b1_4 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem b1_4_fresh : (b1_4 : Ops).Forall fun op => op.fresh = ∅ := StableHlo.forall_fresh_of_map rfl

abbrev b1_4_W : List (Ref sig .tc) := [main_while1b_call7_c, main_while1b_call7_c_0, main_while1b_call7_c_1, main_while1b_call7_v0, main_while1b_v114]

theorem b1_4_writes : (b1_4 : Ops).Forall fun op => op.writes ⊆ (b1_4_W.map (Proc.devRef (τ := τ) .tc)).toFinset :=
  StableHlo.forall_writes_sub_of_map rfl

abbrev b1_5 : Ops :=
  [ StableHlo.binary main_v80_6 main_v80_12 main_while1b_v115 (mulf : (⟨S64x2x64, .f32⟩ : BufTy).Contents (Elt F) → (⟨S64x2x64, .f32⟩ : BufTy).Contents (Elt F) → (⟨S64x2x64, .f32⟩ : BufTy).Contents (Elt F)),
    StableHlo.binary main_while1b_v111 main_while1b_v115 main_while1b_v116 (addf : (⟨S64x2x64, .f32⟩ : BufTy).Contents (Elt F) → (⟨S64x2x64, .f32⟩ : BufTy).Contents (Elt F) → (⟨S64x2x64, .f32⟩ : BufTy).Contents (Elt F)),
    StableHlo.binary main_v80_12 main_while1b_v113 main_while1b_v117 (mulf : (⟨S64x2x64, .f32⟩ : BufTy).Contents (Elt F) → (⟨S64x2x64, .f32⟩ : BufTy).Contents (Elt F) → (⟨S64x2x64, .f32⟩ : BufTy).Contents (Elt F)),
    StableHlo.binary main_v80_10 main_while1b_v117 main_while1b_v118 (addf : (⟨S64x2x64, .f32⟩ : BufTy).Contents (Elt F) → (⟨S64x2x64, .f32⟩ : BufTy).Contents (Elt F) → (⟨S64x2x64, .f32⟩ : BufTy).Contents (Elt F)),
    StableHlo.binary main_v80_4 main_v80_12 main_while1b_v119 (mulf : (⟨S64x2x64, .f32⟩ : BufTy).Contents (Elt F) → (⟨S64x2x64, .f32⟩ : BufTy).Contents (Elt F) → (⟨S64x2x64, .f32⟩ : BufTy).Contents (Elt F)),
    StableHlo.binary main_while1b_v112 main_while1b_v119 main_while1b_v120 (addf : (⟨S64x2x64, .f32⟩ : BufTy).Contents (Elt F) → (⟨S64x2x64, .f32⟩ : BufTy).Contents (Elt F) → (⟨S64x2x64, .f32⟩ : BufTy).Contents (Elt F)),
    StableHlo.binary main_v80_12 main_while1b_v114 main_while1b_v121 (mulf : (⟨S64x2x64, .f32⟩ : BufTy).Contents (Elt F) → (⟨S64x2x64, .f32⟩ : BufTy).Contents (Elt F) → (⟨S64x2x64, .f32⟩ : BufTy).Contents (Elt F)),
    StableHlo.binary main_v80_8 main_while1b_v121 main_while1b_v122 (addf : (⟨S64x2x64, .f32⟩ : BufTy).Contents (Elt F) → (⟨S64x2x64, .f32⟩ : BufTy).Contents (Elt F) → (⟨S64x2x64, .f32⟩ : BufTy).Contents (Elt F)),
    StableHlo.binary main_v80_5 main_v80_11 main_while1b_v123 (mulf : (⟨S64x2x64, .f32⟩ : BufTy).Contents (Elt F) → (⟨S64x2x64, .f32⟩ : BufTy).Contents (Elt F) → (⟨S64x2x64, .f32⟩ : BufTy).Contents (Elt F)),
    StableHlo.binary main_while1b_v120 main_while1b_v123 main_while1b_v124 (addf : (⟨S64x2x64, .f32⟩ : BufTy).Contents (Elt F) → (⟨S64x2x64, .f32⟩ : BufTy).Contents (Elt F) → (⟨S64x2x64, .f32⟩ : BufTy).Contents (Elt F)),
    StableHlo.binary main_v80_11 main_while1b_v114 main_while1b_v125 (mulf : (⟨S64x2x64, .f32⟩ : BufTy).Contents (Elt F) → (⟨S64x2x64, .f32⟩ : BufTy).Contents (Elt F) → (⟨S64x2x64, .f32⟩ : BufTy).Contents (Elt F)),
    StableHlo.binary main_v80_9 main_while1b_v125 main_while1b_v126 (addf : (⟨S64x2x64, .f32⟩ : BufTy).Contents (Elt F) → (⟨S64x2x64, .f32⟩ : BufTy).Contents (Elt F) → (⟨S64x2x64, .f32⟩ : BufTy).Contents (Elt F)),
    StableHlo.binary main_v80_4 main_v80_11 main_while1b_v127 (mulf : (⟨S64x2x64, .f32⟩ : BufTy).Contents (Elt F) → (⟨S64x2x64, .f32⟩ : BufTy).Contents (Elt F) → (⟨S64x2x64, .f32⟩ : BufTy).Contents (Elt F)),
    StableHlo.binary main_while1b_v116 main_while1b_v127 main_while1b_v128 (addf : (⟨S64x2x64, .f32⟩ : BufTy).Contents (Elt F) → (⟨S64x2x64, .f32⟩ : BufTy).Contents (Elt F) → (⟨S64x2x64, .f32⟩ : BufTy).Contents (Elt F)),
    StableHlo.binary main_v80_11 main_while1b_v113 main_while1b_v129 (mulf : (⟨S64x2x64, .f32⟩ : BufTy).Contents (Elt F) → (⟨S64x2x64, .f32⟩ : BufTy).Contents (Elt F) → (⟨S64x2x64, .f32⟩ : BufTy).Contents (Elt F)),
    StableHlo.binary main_while1b_v122 main_while1b_v129 main_while1b_v130 (addf : (⟨S64x2x64, .f32⟩ : BufTy).Contents (Elt F) → (⟨S64x2x64, .f32⟩ : BufTy).Contents (Elt F) → (⟨S64x2x64, .f32⟩ : BufTy).Contents (Elt F)) ]

theorem b1_5_sub : (b1_5 : Ops).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩

theorem b1_5_fresh : (b1_5 : Ops).Forall fun op => op.fresh = ∅ := StableHlo.forall_fresh_of_map rfl

abbrev b1_5_W : List (Ref sig .tc) := [main_while1b_v115, main_while1b_v116, main_while1b_v117, main_while1b_v118, main_while1b_v119, main_while1b_v120, main_while1b_v121, main_while1b_v122, main_while1b_v123, main_while1b_v124, main_while1b_v125, main_while1b_v126, main_while1b_v127, main_while1b_v128, main_while1b_v129, main_while1b_v130]

theorem b1_5_writes : (b1_5 : Ops).Forall fun op => op.writes ⊆ (b1_5_W.map (Proc.devRef (τ := τ) .tc)).toFinset :=
  StableHlo.forall_writes_sub_of_map rfl

abbrev b1_6 : Ops :=
  [ StableHlo.TRef.unary (.of main_v80_11 : StableHlo.TRef sig ⟨S64x2x64, .f32⟩) (.of main_while1b_call8_v0 : StableHlo.TRef sig ⟨S1x64x2x64, .f32⟩) (broadcastInDim S1x64x2x64 ![1, 2, 3] bcast_S64x2x64_S1x64x2x64_1_2_3),
    StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.binaryIndexed (.of main_v80_13 : StableHlo.TRef sig ⟨S256x64x2x64, .f32⟩) (.of main_while1b_call8_v0 : StableHlo.TRef sig ⟨S1x64x2x64, .f32⟩) ![(.of main_while1b_v110 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩)] (.of main_while1b_v131 : StableHlo.TRef sig ⟨S256x64x2x64, .f32⟩) (fun x u i => Host.dynamicUpdateSlice x u (fun k => (i k (Shape.Idx.first h_S_)).toInt) updateFits_S256x64x2x64_S1x64x2x64) ]

theorem b1_6_sub : (b1_6 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem b1_6_fresh : (b1_6 : Ops).Forall fun op => op.fresh = ∅ := StableHlo.forall_fresh_of_map rfl

abbrev b1_6_W : List (Ref sig .tc) := [main_while1b_call8_v0, main_while1b_call8_c, main_while1b_call8_c_0, main_while1b_call8_c_1, main_while1b_v131]

theorem b1_6_writes : (b1_6 : Ops).Forall fun op => op.writes ⊆ (b1_6_W.map (Proc.devRef (τ := τ) .tc)).toFinset :=
  StableHlo.forall_writes_sub_of_map rfl

abbrev b1_7 : Ops :=
  [ StableHlo.TRef.unary (.of main_v80_12 : StableHlo.TRef sig ⟨S64x2x64, .f32⟩) (.of main_while1b_call9_v0 : StableHlo.TRef sig ⟨S1x64x2x64, .f32⟩) (broadcastInDim S1x64x2x64 ![1, 2, 3] bcast_S64x2x64_S1x64x2x64_1_2_3),
    StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.binaryIndexed (.of main_v80_14 : StableHlo.TRef sig ⟨S256x64x2x64, .f32⟩) (.of main_while1b_call9_v0 : StableHlo.TRef sig ⟨S1x64x2x64, .f32⟩) ![(.of main_while1b_v110 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩)] (.of main_while1b_v132 : StableHlo.TRef sig ⟨S256x64x2x64, .f32⟩) (fun x u i => Host.dynamicUpdateSlice x u (fun k => (i k (Shape.Idx.first h_S_)).toInt) updateFits_S256x64x2x64_S1x64x2x64) ]

theorem b1_7_sub : (b1_7 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem b1_7_fresh : (b1_7 : Ops).Forall fun op => op.fresh = ∅ := StableHlo.forall_fresh_of_map rfl

abbrev b1_7_W : List (Ref sig .tc) := [main_while1b_call9_v0, main_while1b_call9_c, main_while1b_call9_c_0, main_while1b_call9_c_1, main_while1b_v132]

theorem b1_7_writes : (b1_7 : Ops).Forall fun op => op.writes ⊆ (b1_7_W.map (Proc.devRef (τ := τ) .tc)).toFinset :=
  StableHlo.forall_writes_sub_of_map rfl

abbrev b1_8 : Ops :=
  [ StableHlo.nullary main_while1b_c_38 (constantI S_ 32 1#32),
    StableHlo.binary main_v80_7 main_while1b_c_38 main_while1b_v133 (addi : (⟨S_, .i32⟩ : BufTy).Contents (Elt F) → (⟨S_, .i32⟩ : BufTy).Contents (Elt F) → (⟨S_, .i32⟩ : BufTy).Contents (Elt F)),
    StableHlo.unary main_while1b_v133 main_v80_7 id,
    StableHlo.unary main_while1b_v130 main_v80_8 id,
    StableHlo.unary main_while1b_v126 main_v80_9 id,
    StableHlo.unary main_while1b_v118 main_v80_10 id,
    StableHlo.unary main_while1b_v128 main_v80_11 id,
    StableHlo.unary main_while1b_v124 main_v80_12 id,
    StableHlo.unary main_while1b_v131 main_v80_13 id,
    StableHlo.unary main_while1b_v132 main_v80_14 id ]

theorem b1_8_sub : (b1_8 : Ops).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem b1_8_fresh : (b1_8 : Ops).Forall fun op => op.fresh = ∅ := StableHlo.forall_fresh_of_map rfl

abbrev b1_8_W : List (Ref sig .tc) := [main_while1b_c_38, main_while1b_v133, main_v80_7, main_v80_8, main_v80_9, main_v80_10, main_v80_11, main_v80_12, main_v80_13, main_v80_14]

theorem b1_8_writes : (b1_8 : Ops).Forall fun op => op.writes ⊆ (b1_8_W.map (Proc.devRef (τ := τ) .tc)).toFinset :=
  StableHlo.forall_writes_sub_of_map rfl

theorem body0_chain : main_while0_body (F := F) = (Pipeline.chain
  [StableHlo.seq b0_0, StableHlo.seq b0_1, StableHlo.seq b0_2, StableHlo.seq b0_3, StableHlo.seq b0_4, StableHlo.seq b0_5] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons]
  chain_rfl

theorem body1_chain : main_while1_body (F := F) = (Pipeline.chain
  [StableHlo.seq b1_0, StableHlo.seq b1_1, StableHlo.seq b1_2, StableHlo.seq b1_3, StableHlo.seq b1_4, StableHlo.seq b1_5, StableHlo.seq b1_6, StableHlo.seq b1_7, StableHlo.seq b1_8] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, Pipeline.chain_cons]
  chain_rfl

theorem part0_chain (c : Dev nD) : main_part0 (F := F) c = (Pipeline.chainK
  [StableHlo.seq p0_0, HostLoop.enter 0]
  (StableHlo.seq p0_1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem part1_chain (c : Dev nD) : main_part1 (F := F) c = (Pipeline.chainK
  []
  (StableHlo.seq p1_0) : Prog (TpuEff nD τ sig (Elt F) (HostLoop.Sig (Pipeline.Sig Λ₀ (Fin 0) fun p => (pcfgs (F := F) p).Adm) 2) .tc) PUnit) := by
  chain_rfl

theorem part2_chain (c : Dev nD) : main_part2 (F := F) c = (Pipeline.chain
  [StableHlo.seq p2_0, HostLoop.enter 1, StableHlo.seq p2_1] : Prog (TpuEff nD τ sig (Elt F) (HostLoop.Sig (Pipeline.Sig Λ₀ (Fin 0) fun p => (pcfgs (F := F) p).Adm) 2) .tc) PUnit) := by
  rewrite [StableHlo.chain_seq_cons, Pipeline.chain_cons]
  chain_rfl

theorem main_items (c : Dev nD) : main (F := F) c = (Pipeline.chain
  [StableHlo.seq p0_0, HostLoop.enter 0, StableHlo.seq p0_1, StableHlo.seq p1_0, StableHlo.seq p2_0, HostLoop.enter 1, StableHlo.seq p2_1] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [part2_chain, part1_chain, part0_chain, Pipeline.chainK_bind_chain, Pipeline.chainK_bind_chain]
  chain_rfl

end Cert.ReferenceIdeal.Scan
-- ==== Proof.RRun.lean ====
/- The reference's run: host lines, the forward loop, host lines, the adjoint loop, host lines. Every execution ends with
   every buffer at the fold `final`. -/
module

public import proofs.«01_k».proof.Proof.ROps
public import Idealize.ShloMosaic.Lib.Scf.ExitTest
public import Idealize.ShloMosaic.Lib.Scf.Counter

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket ucRefs sub_ucRefs)

variable {F : FTy → Type} [FloatOps F]

local notation "Ops" => List (HloOp τ sig (Elt F))
local notation "Bufs" => Valuation τ sig (Elt F)

/-! ## The stretches around and inside the loops -/

abbrev preI : List Ops := [p0_0]
abbrev midI : List Ops := [p0_1, p1_0, p2_0]
abbrev postI : List Ops := [p2_1]
abbrev body0I : List Ops := [b0_0, b0_1, b0_2, b0_3, b0_4, b0_5]
abbrev body1I : List Ops := [b1_0, b1_1, b1_2, b1_3, b1_4, b1_5, b1_6, b1_7, b1_8]

theorem plain_cons {ops : Ops} {rest : List Ops} (hs : ops.Forall fun op => op.bufs ⊆ tcRefs τ sig)
    (hf : ops.Forall fun op => op.fresh = ∅) (h : Plain rest) : Plain (ops :: rest) :=
  .cons hs (hf := List.forall_iff_forall_mem.mp hf) h

theorem preI_plain : Plain (preI (F := F)) := plain_cons p0_0_sub p0_0_fresh .nil
theorem midI_plain : Plain (midI (F := F)) :=
  plain_cons p0_1_sub p0_1_fresh (plain_cons p1_0_sub p1_0_fresh (plain_cons p2_0_sub p2_0_fresh .nil))
theorem postI_plain : Plain (postI (F := F)) := plain_cons p2_1_sub p2_1_fresh .nil
theorem body0I_plain : Plain (body0I (F := F)) :=
  plain_cons b0_0_sub b0_0_fresh (plain_cons b0_1_sub b0_1_fresh (plain_cons b0_2_sub b0_2_fresh
    (plain_cons b0_3_sub b0_3_fresh (plain_cons b0_4_sub b0_4_fresh (plain_cons b0_5_sub b0_5_fresh .nil)))))
theorem body1I_plain : Plain (body1I (F := F)) :=
  plain_cons b1_0_sub b1_0_fresh (plain_cons b1_1_sub b1_1_fresh (plain_cons b1_2_sub b1_2_fresh
    (plain_cons b1_3_sub b1_3_fresh (plain_cons b1_4_sub b1_4_fresh (plain_cons b1_5_sub b1_5_fresh
      (plain_cons b1_6_sub b1_6_fresh (plain_cons b1_7_sub b1_7_fresh (plain_cons b1_8_sub b1_8_fresh .nil))))))))

/-- The two conditions: the bound, and the counter compared with it. -/
abbrev cond0 : Ops :=
  [ StableHlo.nullary main_while0c_c_31 (constantI S_ 32 256#32),
    StableHlo.binary main_v25_5 main_while0c_c_31 main_while0c_v109 (cmpi .slt) ]
abbrev cond1 : Ops :=
  [ StableHlo.nullary main_while1c_c_36 (constantI S_ 32 256#32),
    StableHlo.binary main_v80_7 main_while1c_c_36 main_while1c_v109 (cmpi .slt) ]
abbrev cond0_W : List (Ref sig .tc) := [main_while0c_c_31, main_while0c_v109]
abbrev cond1_W : List (Ref sig .tc) := [main_while1c_c_36, main_while1c_v109]
theorem cond0_writes : (cond0 : Ops).Forall fun op => op.writes ⊆ (cond0_W.map (Proc.devRef (τ := τ) .tc)).toFinset :=
  StableHlo.forall_writes_sub_of_map rfl
theorem cond1_writes : (cond1 : Ops).Forall fun op => op.writes ⊆ (cond1_W.map (Proc.devRef (τ := τ) .tc)).toFinset :=
  StableHlo.forall_writes_sub_of_map rfl

variable (m : (ℓ : Loc nD τ sig) → Buf (Elt F) ℓ) (ρ : Dev nD → PrngReg)

/-! ## The buffers along the run -/

/-- Before the forward loop, before its `k`-th condition, after it; the same of the adjoint loop; at the end. -/
def entry0 (c : Dev nD) : Bufs := afterL preI (launchContents m c)
def at0 (k : ℕ) (c : Dev nD) : Bufs := atTrip cond0 body0I (entry0 m) k c
def exit0 (c : Dev nD) : Bufs := after cond0 (at0 m 256 c)
def entry1 (c : Dev nD) : Bufs := afterL midI (exit0 m c)
def at1 (k : ℕ) (c : Dev nD) : Bufs := atTrip cond1 body1I (entry1 m) k c
def exit1 (c : Dev nD) : Bufs := after cond1 (at1 m 256 c)
def final (c : Dev nD) : Bufs := afterL postI (exit1 m c)

theorem at0_zero (c : Dev nD) : at0 m 0 c = entry0 m c := rfl
theorem at0_succ (k : ℕ) (c : Dev nD) : at0 m (k + 1) c = afterL body0I (after cond0 (at0 m k c)) := rfl
theorem at1_zero (c : Dev nD) : at1 m 0 c = entry1 m c := rfl
theorem at1_succ (k : ℕ) (c : Dev nD) : at1 m (k + 1) c = afterL body1I (after cond1 (at1 m k c)) := rfl

/-! ## The counters -/

theorem entry0_ctr (c : Dev nD) : entry0 m c (Proc.devRef .tc main_v25_5) = fun _ => (0#32 : BitVec 32) := by
  simp only [entry0, afterL_cons, afterL_nil]
  after_reads_simp
  rfl

theorem step0_ctr (V : Bufs) : after b0_5 V (Proc.devRef .tc main_v25_5) = addi (V (Proc.devRef .tc main_v25_5)) (constantI S_ 32 1#32) := by
  after_results
  rfl

theorem at0_ctr (c : Dev nD) : ∀ k, at0 m k c (Proc.devRef .tc main_v25_5) = fun _ => Scf.iv 0#32 1#32 k
  | 0 => by rw [at0_zero, entry0_ctr, Scf.iv_zero]
  | k + 1 => by
    rw [at0_succ]
    simp only [afterL_cons, afterL_nil]
    rw [step0_ctr, after_of_writes_sub b0_4 _ b0_4_writes (by decide +kernel), after_of_writes_sub b0_3 _ b0_3_writes (by decide +kernel),
      after_of_writes_sub b0_2 _ b0_2_writes (by decide +kernel), after_of_writes_sub b0_1 _ b0_1_writes (by decide +kernel),
      after_of_writes_sub b0_0 _ b0_0_writes (by decide +kernel), after_of_writes_sub cond0 _ cond0_writes (by decide +kernel),
      at0_ctr c k, Scf.iv_succ]
    rfl

theorem entry1_ctr (c : Dev nD) : entry1 m c (Proc.devRef .tc main_v80_7) = fun _ => (0#32 : BitVec 32) := by
  simp only [entry1, afterL_cons, afterL_nil]
  after_reads_simp
  rfl

theorem step1_ctr (V : Bufs) : after b1_8 V (Proc.devRef .tc main_v80_7) = addi (V (Proc.devRef .tc main_v80_7)) (constantI S_ 32 1#32) := by
  after_results
  rfl

theorem at1_ctr (c : Dev nD) : ∀ k, at1 m k c (Proc.devRef .tc main_v80_7) = fun _ => Scf.iv 0#32 1#32 k
  | 0 => by rw [at1_zero, entry1_ctr, Scf.iv_zero]
  | k + 1 => by
    rw [at1_succ]
    simp only [afterL_cons, afterL_nil]
    rw [step1_ctr, after_of_writes_sub b1_7 _ b1_7_writes (by decide +kernel), after_of_writes_sub b1_6 _ b1_6_writes (by decide +kernel),
      after_of_writes_sub b1_5 _ b1_5_writes (by decide +kernel), after_of_writes_sub b1_4 _ b1_4_writes (by decide +kernel),
      after_of_writes_sub b1_3 _ b1_3_writes (by decide +kernel), after_of_writes_sub b1_2 _ b1_2_writes (by decide +kernel),
      after_of_writes_sub b1_1 _ b1_1_writes (by decide +kernel), after_of_writes_sub b1_0 _ b1_0_writes (by decide +kernel),
      after_of_writes_sub cond1 _ cond1_writes (by decide +kernel), at1_ctr c k, Scf.iv_succ]
    rfl

/-! ## The launch: no kernel, no ticket, nothing beside the buffers but the core's empty debt -/

local notation "𝕄" => MT nD τ sig Unit (Elt F) ℕ (Option PUnit) ℕ

abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm :=
  fun j => j.elim0
abbrev noIx : GSem nD τ sig → Finset Unit := fun _ => ∅
abbrev noLvl : GSem nD τ sig → Unit → ℕ := fun _ _ => 0
abbrev Owes (c : Dev nD) : sProp 𝕄 := iprop(∃ W, owes (c : Thread nD τ) (0 : CellTallies nD τ sig Unit) W)

set_option backward.isDefEq.respectTransparency.types false in
theorem cond0_spec : LoopCond (pcfgs (F := F)) defs₀ Variants.none loops Owes (main_while0_cond (F := F)) cond0 body0I (entry0 m) 256 := by
  intro k hk c bd
  have hctr := at0_ctr m c k
  unfold at0 at hctr
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0I (entry0 m) k c) main_v25_5 HostLoop.idx0)
        (HloOp.result _ (atTrip cond0 body0I (entry0 m) k c) main_while0c_c_31 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]
  isplitl [Hh]; · iexact Hh
  iexact HR

set_option backward.isDefEq.respectTransparency.types false in
theorem cond1_spec : LoopCond (pcfgs (F := F)) defs₀ Variants.none loops Owes (main_while1_cond (F := F)) cond1 body1I (entry1 m) 256 := by
  intro k hk c bd
  have hctr := at1_ctr m c k
  unfold at1 at hctr
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1I (entry1 m) k c) main_v80_7 HostLoop.idx0)
        (HloOp.result _ (atTrip cond1 body1I (entry1 m) k c) main_while1c_c_36 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]
  isplitl [Hh]; · iexact Hh
  iexact HR

theorem body0_eq : main_while0_body (F := F) = Pipeline.chain (body0I.map fun ops => (seq ops : Prog _ PUnit)) := by
  rw [body0_chain]; rfl
theorem body1_eq : main_while1_body (F := F) = Pipeline.chain (body1I.map fun ops => (seq ops : Prog _ PUnit)) := by
  rw [body1_chain]; rfl

/-- The adjoint loop and the lines after it. -/
def segs1 : List (CSeg (pcfgs (F := F)) noAdm defs₀ Variants.none noIx noLvl loops noTk) :=
  loopSeg _ _ _ _ _ _ _ _ 1 main_while1_cond main_while1_body rfl cond1 body1I body1I_plain body1_eq 256 (entry1 m) Owes (cond1_spec m)
    :: segsOf _ _ _ _ _ _ _ _ Owes postI postI_plain (exit1 m)

/-- The whole main function. -/
def segs : List (CSeg (pcfgs (F := F)) noAdm defs₀ Variants.none noIx noLvl loops noTk) :=
  segsOf _ _ _ _ _ _ _ _ Owes preI preI_plain (launchContents m)
    ++ loopSeg _ _ _ _ _ _ _ _ 0 main_while0_cond main_while0_body rfl cond0 body0I body0I_plain body0_eq 256 (entry0 m) Owes (cond0_spec m)
      :: (segsOf _ _ _ _ _ _ _ _ Owes midI midI_plain (exit0 m) ++ segs1 m)

theorem segs_prog : (segs m).map CSeg.prog = (preI (F := F)).map (fun ops => (seq ops : Prog _ PUnit))
    ++ HostLoop.enter 0 :: (midI.map (fun ops => (seq ops : Prog _ PUnit)) ++ HostLoop.enter 1 :: postI.map fun ops => (seq ops : Prog _ PUnit)) := by
  unfold segs segs1
  rw [List.map_append, List.map_cons, List.map_append, List.map_cons, segsOf_prog, segsOf_prog, segsOf_prog]
  rfl

theorem segs_chains : CSeg.Chains (fun c => iprop(held (c : Thread nD τ) (ucRefs τ sig) (launchContents m c) ∗ Owes c)) (segs m)
    (fun c => iprop(iprop(held (c : Thread nD τ) (ucRefs τ sig) (final m c)) ∗ ∃ W, owes (c : Thread nD τ) (0 : CellTallies nD τ sig Unit) W)) := by
  unfold segs segs1
  exact CSeg.Chains.append (segsOf_chains _ _ _ _ _ _ _ _ Owes preI preI_plain _)
    ⟨fun _ => .rfl, CSeg.Chains.append (segsOf_chains _ _ _ _ _ _ _ _ Owes midI midI_plain _)
      ⟨fun _ => .rfl, segsOf_chains _ _ _ _ _ _ _ _ Owes postI postI_plain _⟩⟩

theorem main_eq (c : Dev nD) : main (F := F) c = Pipeline.chain ((segs m).map CSeg.prog) := by
  rw [segs_prog, main_items]
  rfl

/-- Every execution ends with every buffer at the fold. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noIx noLvl loops noTk m ρ main
    (segs m)
    (fun c Q => by
      rw [main_eq m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owes c))
    (Tₙ := fun c => iprop(held (c : Thread nD τ) (ucRefs τ sig) (final m c)))
    (hch := segs_chains m)
    (hinit := by
      refine Pipeline.initEach noIx noLvl fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Scan
-- ==== Proof.RVal0.lean ====
/- What the reference's host lines leave at an index: the forward loop's entry and one trip of it. -/
module

public import proofs.«01_k».proof.Proof.RRun
public import proofs.«01_k».proof.Proof.Model
public import Idealize.ShloMosaic.Lib.StableHlo.ReadAt
public import Idealize.ShloMosaic.Lib.DynamicIndex

@[expose] public section

set_option maxRecDepth 16384

noncomputable section

namespace Cert.ReferenceIdeal.Scan

open Cert.ReferenceIdeal Cert.ReferenceIdeal.Gen Cert.Scan
open Idealize.ShloMosaic Idealize.ShloMosaic.TcCoe Idealize.ShloMosaic.Tactic Idealize.SL.Sem
open Idealize.ShloMosaic.StableHlo

/-- One number per batch row, direction and place; the same at every step; a whole array. -/
abbrev A3 (x : S64x2x64.Idx → EReal) : S64x2x64.Idx → EReal := x
abbrev A4 (x : S256x64x2x64.Idx → EReal) : S256x64x2x64.Idx → EReal := x
abbrev AP (x : S256x64x256.Idx → EReal) : S256x64x256.Idx → EReal := x

/-- The slice of one step. -/
theorem slice_at (x : S256x64x2x64.Idx → EReal) (start : Fin 4 → Int) (k : Fin 256) (g : Fin 64) (d : Fin 2) (n : Fin 64)
    (h0 : start 0 = (k.val : Int)) (h1 : start 1 = 0) (h2 : start 2 = 0) (h3 : start 3 = 0) (hf hc) :
    shapeCast S64x2x64 (Host.dynamicSlice S1x64x2x64 x start hf) hc (ix3 g d n) = x (ix4 k g d n) := by
  rw [Host.dynamicSlice_eq_extractStridedSlice S1x64x2x64 x start ![k.val, 0, 0, 0] hf
    ⟨rfl, fun a => by fin_cases a <;> simp [S1x64x2x64, S256x64x2x64]⟩
    (fun a => by fin_cases a <;> simp [h0, h1, h2, h3])]
  pointwise

/-- The update of one step. -/
theorem update_at (x : S256x64x2x64.Idx → EReal) (u : S64x2x64.Idx → EReal) (start : Fin 4 → Int) (k p : Fin 256) (g : Fin 64) (d : Fin 2) (n : Fin 64)
    (h0 : start 0 = (k.val : Int)) (h1 : start 1 = 0) (h2 : start 2 = 0) (h3 : start 3 = 0) (hb hf) :
    Host.dynamicUpdateSlice x (broadcastInDim S1x64x2x64 ![1, 2, 3] hb u) start hf (ix4 p g d n)
      = if p = k then u (ix3 g d n) else x (ix4 p g d n) := by
  have c0 : Host.clampedStart S256x64x2x64 S1x64x2x64 hf.1 start 0 = k.val := by
    apply Host.clampedStart_of_le _ _ _ _ h0
    simp [S1x64x2x64, S256x64x2x64]
  have c1 : Host.clampedStart S256x64x2x64 S1x64x2x64 hf.1 start 1 = 0 := by
    apply Host.clampedStart_of_le _ _ _ _ h1
    simp [S1x64x2x64, S256x64x2x64]
  have c2 : Host.clampedStart S256x64x2x64 S1x64x2x64 hf.1 start 2 = 0 := by
    apply Host.clampedStart_of_le _ _ _ _ h2
    simp [S1x64x2x64, S256x64x2x64]
  have c3 : Host.clampedStart S256x64x2x64 S1x64x2x64 hf.1 start 3 = 0 := by
    apply Host.clampedStart_of_le _ _ _ _ h3
    simp [S1x64x2x64, S256x64x2x64]
  pointwise [c0, c1, c2, c3]
  by_cases hpk : p = k
  · subst hpk
    rw [dif_pos (by omega), if_pos rfl]
  · rw [dif_neg (by omega), if_neg hpk]

variable (V : Valuation τ sig (Elt Ideal))

/-- The word `k`. -/
abbrev word (k : ℕ) : (⟨S_, .i32⟩ : BufTy).Contents (Elt Ideal) := fun _ => BitVec.ofNat 32 k

theorem two (d : Fin 2) : d = 0 ∨ d = 1 := by omega

/-- An indexed operation's four start words. -/
abbrev starts (w : (⟨S_, .i32⟩ : BufTy).Contents (Elt Ideal)) : Fin 4 → Int := fun q =>
  ((![w, constantI S_ 32 0#32, constantI S_ 32 0#32, constantI S_ 32 0#32] : Fin 4 → (⟨S_, .i32⟩ : BufTy).Contents (Elt Ideal)) q (Shape.Idx.first h_S_)).toInt

theorem b0_0_at (k : Fin 256) (g : Fin 64) (d : Fin 2) (n : Fin 64) (hk : V (Proc.devRef .tc main_v25_5) = word k.val) :
    A3 (after b0_0 V (Proc.devRef .tc main_while0b_v109)) (ix3 g d n) = A4 (V (Proc.devRef .tc main_v25_0)) (ix4 k g d n) := by
  have h : after b0_0 V (Proc.devRef .tc main_while0b_v109) = shapeCast S64x2x64 (Host.dynamicSlice S1x64x2x64 (A4 (V (Proc.devRef .tc main_v25_0))) (starts (V (Proc.devRef .tc main_v25_5))) sliceFits_S256x64x2x64_S1x64x2x64) shapeCasts_S1x64x2x64_S64x2x64 := by
    after_results_entrywise []
  refine (congrFun h _).trans ?_
  rw [hk]
  exact slice_at _ _ k g d n (toInt_ofNat_of_lt (by omega)) rfl rfl rfl _ _

theorem b0_1_at (k : Fin 256) (g : Fin 64) (d : Fin 2) (n : Fin 64) (hk : V (Proc.devRef .tc main_v25_5) = word k.val) :
    A3 (after b0_1 V (Proc.devRef .tc main_while0b_v110)) (ix3 g d n) = A4 (V (Proc.devRef .tc main_v25_1)) (ix4 k g d n) := by
  have h : after b0_1 V (Proc.devRef .tc main_while0b_v110) = shapeCast S64x2x64 (Host.dynamicSlice S1x64x2x64 (A4 (V (Proc.devRef .tc main_v25_1))) (starts (V (Proc.devRef .tc main_v25_5))) sliceFits_S256x64x2x64_S1x64x2x64) shapeCasts_S1x64x2x64_S64x2x64 := by
    after_results_entrywise []
  refine (congrFun h _).trans ?_
  rw [hk]
  exact slice_at _ _ k g d n (toInt_ofNat_of_lt (by omega)) rfl rfl rfl _ _

theorem b0_2_v114 (x : S64x2x64.Idx) :
    A3 (after b0_2 V (Proc.devRef .tc main_while0b_v114)) x = (A3 (V (Proc.devRef .tc main_v25_2)) x * A3 (V (Proc.devRef .tc main_v25_6)) x + A3 (V (Proc.devRef .tc main_v25_3)) x * A3 (V (Proc.devRef .tc main_v25_7)) x) + A3 (V (Proc.devRef .tc main_while0b_v109)) x := by
  unfold A3
  after_reads_simp
  rfl

theorem b0_2_v118 (x : S64x2x64.Idx) :
    A3 (after b0_2 V (Proc.devRef .tc main_while0b_v118)) x = (A3 (V (Proc.devRef .tc main_v25_2)) x * A3 (V (Proc.devRef .tc main_v25_7)) x + A3 (V (Proc.devRef .tc main_v25_4)) x * A3 (V (Proc.devRef .tc main_v25_6)) x) + A3 (V (Proc.devRef .tc main_while0b_v110)) x := by
  unfold A3
  after_reads_simp
  rfl

theorem b0_3_at (k p : Fin 256) (g : Fin 64) (d : Fin 2) (n : Fin 64) (hk : V (Proc.devRef .tc main_v25_5) = word k.val) :
    A4 (after b0_3 V (Proc.devRef .tc main_while0b_v119)) (ix4 p g d n)
      = if p = k then A3 (V (Proc.devRef .tc main_v25_6)) (ix3 g d n) else A4 (V (Proc.devRef .tc main_v25_8)) (ix4 p g d n) := by
  have h : after b0_3 V (Proc.devRef .tc main_while0b_v119) = Host.dynamicUpdateSlice (A4 (V (Proc.devRef .tc main_v25_8))) (broadcastInDim S1x64x2x64 ![1, 2, 3] bcast_S64x2x64_S1x64x2x64_1_2_3 (A3 (V (Proc.devRef .tc main_v25_6)))) (starts (V (Proc.devRef .tc main_v25_5))) updateFits_S256x64x2x64_S1x64x2x64 := by
    after_results_entrywise []
  refine (congrFun h _).trans ?_
  rw [hk]
  exact update_at _ _ _ k p g d n (toInt_ofNat_of_lt (by omega)) rfl rfl rfl _ _

theorem b0_4_at (k p : Fin 256) (g : Fin 64) (d : Fin 2) (n : Fin 64) (hk : V (Proc.devRef .tc main_v25_5) = word k.val) :
    A4 (after b0_4 V (Proc.devRef .tc main_while0b_v120)) (ix4 p g d n)
      = if p = k then A3 (V (Proc.devRef .tc main_v25_7)) (ix3 g d n) else A4 (V (Proc.devRef .tc main_v25_9)) (ix4 p g d n) := by
  have h : after b0_4 V (Proc.devRef .tc main_while0b_v120) = Host.dynamicUpdateSlice (A4 (V (Proc.devRef .tc main_v25_9))) (broadcastInDim S1x64x2x64 ![1, 2, 3] bcast_S64x2x64_S1x64x2x64_1_2_3 (A3 (V (Proc.devRef .tc main_v25_7)))) (starts (V (Proc.devRef .tc main_v25_5))) updateFits_S256x64x2x64_S1x64x2x64 := by
    after_results_entrywise []
  refine (congrFun h _).trans ?_
  rw [hk]
  exact update_at _ _ _ k p g d n (toInt_ofNat_of_lt (by omega)) rfl rfl rfl _ _

theorem b0_5_v25_6 : after b0_5 V (Proc.devRef .tc main_v25_6) = V (Proc.devRef .tc main_while0b_v114) := by
  after_reads_simp
  rfl

theorem b0_5_v25_7 : after b0_5 V (Proc.devRef .tc main_v25_7) = V (Proc.devRef .tc main_while0b_v118) := by
  after_reads_simp
  rfl

theorem b0_5_v25_8 : after b0_5 V (Proc.devRef .tc main_v25_8) = V (Proc.devRef .tc main_while0b_v119) := by
  after_reads_simp
  rfl

theorem b0_5_v25_9 : after b0_5 V (Proc.devRef .tc main_v25_9) = V (Proc.devRef .tc main_while0b_v120) := by
  after_reads_simp
  rfl

theorem keep0_1 {r : Ref sig .tc} (h : r ∉ cond0_W) : after cond0 V (Proc.devRef .tc r) = V (Proc.devRef .tc r) := by
  rw [after_of_writes_sub cond0 _ cond0_writes (h)]

theorem keep0_2 {r : Ref sig .tc} (h : r ∉ cond0_W ++ b0_0_W) : after b0_0 (after cond0 V) (Proc.devRef .tc r) = V (Proc.devRef .tc r) := by
  simp only [List.mem_append, not_or] at h
  rw [after_of_writes_sub b0_0 _ b0_0_writes (h.2), after_of_writes_sub cond0 _ cond0_writes (h.1)]

theorem keep0_3 {r : Ref sig .tc} (h : r ∉ cond0_W ++ b0_0_W ++ b0_1_W) : after b0_1 (after b0_0 (after cond0 V)) (Proc.devRef .tc r) = V (Proc.devRef .tc r) := by
  simp only [List.mem_append, not_or] at h
  rw [after_of_writes_sub b0_1 _ b0_1_writes (h.2), after_of_writes_sub b0_0 _ b0_0_writes (h.1.2), after_of_writes_sub cond0 _ cond0_writes (h.1.1)]

theorem keep0_4 {r : Ref sig .tc} (h : r ∉ cond0_W ++ b0_0_W ++ b0_1_W ++ b0_2_W) : after b0_2 (after b0_1 (after b0_0 (after cond0 V))) (Proc.devRef .tc r) = V (Proc.devRef .tc r) := by
  simp only [List.mem_append, not_or] at h
  rw [after_of_writes_sub b0_2 _ b0_2_writes (h.2), after_of_writes_sub b0_1 _ b0_1_writes (h.1.2), after_of_writes_sub b0_0 _ b0_0_writes (h.1.1.2), after_of_writes_sub cond0 _ cond0_writes (h.1.1.1)]

theorem keep0_5 {r : Ref sig .tc} (h : r ∉ cond0_W ++ b0_0_W ++ b0_1_W ++ b0_2_W ++ b0_3_W) : after b0_3 (after b0_2 (after b0_1 (after b0_0 (after cond0 V)))) (Proc.devRef .tc r) = V (Proc.devRef .tc r) := by
  simp only [List.mem_append, not_or] at h
  rw [after_of_writes_sub b0_3 _ b0_3_writes (h.2), after_of_writes_sub b0_2 _ b0_2_writes (h.1.2), after_of_writes_sub b0_1 _ b0_1_writes (h.1.1.2), after_of_writes_sub b0_0 _ b0_0_writes (h.1.1.1.2), after_of_writes_sub cond0 _ cond0_writes (h.1.1.1.1)]

theorem keep0_7 {r : Ref sig .tc} (h : r ∉ cond0_W ++ b0_0_W ++ b0_1_W ++ b0_2_W ++ b0_3_W ++ b0_4_W ++ b0_5_W) : after b0_5 (after b0_4 (after b0_3 (after b0_2 (after b0_1 (after b0_0 (after cond0 V)))))) (Proc.devRef .tc r) = V (Proc.devRef .tc r) := by
  simp only [List.mem_append, not_or] at h
  rw [after_of_writes_sub b0_5 _ b0_5_writes (h.2), after_of_writes_sub b0_4 _ b0_4_writes (h.1.2), after_of_writes_sub b0_3 _ b0_3_writes (h.1.1.2), after_of_writes_sub b0_2 _ b0_2_writes (h.1.1.1.2), after_of_writes_sub b0_1 _ b0_1_writes (h.1.1.1.1.2), after_of_writes_sub b0_0 _ b0_0_writes (h.1.1.1.1.1.2), after_of_writes_sub cond0 _ cond0_writes (h.1.1.1.1.1.1)]

theorem trip0_6 (k : Fin 256) (hk : V (Proc.devRef .tc main_v25_5) = word k.val) (g : Fin 64) (d : Fin 2) (n : Fin 64) :
    A3 (afterL body0I (after cond0 V) (Proc.devRef .tc main_v25_6)) (ix3 g d n)
      = (A3 (V (Proc.devRef .tc main_v25_2)) (ix3 g d n) * A3 (V (Proc.devRef .tc main_v25_6)) (ix3 g d n) + A3 (V (Proc.devRef .tc main_v25_3)) (ix3 g d n) * A3 (V (Proc.devRef .tc main_v25_7)) (ix3 g d n)) + A4 (V (Proc.devRef .tc main_v25_0)) (ix4 k g d n) := by
  simp only [afterL_cons, afterL_nil]
  rw [b0_5_v25_6, after_of_writes_sub b0_4 _ b0_4_writes (r := main_while0b_v114) (by decide +kernel), after_of_writes_sub b0_3 _ b0_3_writes (r := main_while0b_v114) (by decide +kernel), b0_2_v114, keep0_3 V (r := main_v25_2) (by decide +kernel), keep0_3 V (r := main_v25_6) (by decide +kernel), keep0_3 V (r := main_v25_3) (by decide +kernel), keep0_3 V (r := main_v25_7) (by decide +kernel)]
  rw [after_of_writes_sub b0_1 _ b0_1_writes (r := main_while0b_v109) (by decide +kernel), b0_0_at _ k g d n (by rw [keep0_1 V (by decide +kernel)]; exact hk), keep0_1 V (r := main_v25_0) (by decide +kernel)]

theorem trip0_7 (k : Fin 256) (hk : V (Proc.devRef .tc main_v25_5) = word k.val) (g : Fin 64) (d : Fin 2) (n : Fin 64) :
    A3 (afterL body0I (after cond0 V) (Proc.devRef .tc main_v25_7)) (ix3 g d n)
      = (A3 (V (Proc.devRef .tc main_v25_2)) (ix3 g d n) * A3 (V (Proc.devRef .tc main_v25_7)) (ix3 g d n) + A3 (V (Proc.devRef .tc main_v25_4)) (ix3 g d n) * A3 (V (Proc.devRef .tc main_v25_6)) (ix3 g d n)) + A4 (V (Proc.devRef .tc main_v25_1)) (ix4 k g d n) := by
  simp only [afterL_cons, afterL_nil]
  rw [b0_5_v25_7, after_of_writes_sub b0_4 _ b0_4_writes (r := main_while0b_v118) (by decide +kernel), after_of_writes_sub b0_3 _ b0_3_writes (r := main_while0b_v118) (by decide +kernel), b0_2_v118, keep0_3 V (r := main_v25_2) (by decide +kernel), keep0_3 V (r := main_v25_7) (by decide +kernel), keep0_3 V (r := main_v25_4) (by decide +kernel), keep0_3 V (r := main_v25_6) (by decide +kernel)]
  rw [b0_1_at _ k g d n (by rw [keep0_2 V (by decide +kernel)]; exact hk), keep0_2 V (r := main_v25_1) (by decide +kernel)]

theorem trip0_8 (k : Fin 256) (hk : V (Proc.devRef .tc main_v25_5) = word k.val) (p : Fin 256) (g : Fin 64) (d : Fin 2) (n : Fin 64) :
    A4 (afterL body0I (after cond0 V) (Proc.devRef .tc main_v25_8)) (ix4 p g d n)
      = if p = k then A3 (V (Proc.devRef .tc main_v25_6)) (ix3 g d n) else A4 (V (Proc.devRef .tc main_v25_8)) (ix4 p g d n) := by
  simp only [afterL_cons, afterL_nil]
  rw [b0_5_v25_8, after_of_writes_sub b0_4 _ b0_4_writes (r := main_while0b_v119) (by decide +kernel), b0_3_at _ k p g d n (by rw [keep0_4 V (by decide +kernel)]; exact hk), keep0_4 V (r := main_v25_6) (by decide +kernel), keep0_4 V (r := main_v25_8) (by decide +kernel)]

theorem trip0_9 (k : Fin 256) (hk : V (Proc.devRef .tc main_v25_5) = word k.val) (p : Fin 256) (g : Fin 64) (d : Fin 2) (n : Fin 64) :
    A4 (afterL body0I (after cond0 V) (Proc.devRef .tc main_v25_9)) (ix4 p g d n)
      = if p = k then A3 (V (Proc.devRef .tc main_v25_7)) (ix3 g d n) else A4 (V (Proc.devRef .tc main_v25_9)) (ix4 p g d n) := by
  simp only [afterL_cons, afterL_nil]
  rw [b0_5_v25_9, b0_4_at _ k p g d n (by rw [keep0_5 V (by decide +kernel)]; exact hk), keep0_5 V (r := main_v25_7) (by decide +kernel), keep0_5 V (r := main_v25_9) (by decide +kernel)]

/-! ## The forward loop's entry -/

theorem pre_0 (k : Fin 256) (g : Fin 64) (d : Fin 2) (n : Fin 64) :
    A4 (after p0_0 V (Proc.devRef .tc main_v25_0)) (ix4 k g d n) = AP (V (Proc.devRef .tc main_arg0)) (ix3 (pos (lane 0 d n) k.val) g (lane 0 d n)) := by
  unfold A4 AP
  after_reads_simp
  simp only [id]
  pointwise
  rcases two d with rfl | rfl
  · rw [dif_pos (by decide), pos_lane0]
    after_reads_at
    exact congrArg (V (Proc.devRef .tc main_arg0)) (congrArg (ix3 k g) (Fin.ext (by simp [lane])))
  · rw [dif_neg (by decide), pos_lane1]
    after_reads_at
    exact congrArg (V (Proc.devRef .tc main_arg0)) (congrArg (ix3 k.rev g) (Fin.ext (by simp [lane]; try omega)))

theorem pre_1 (k : Fin 256) (g : Fin 64) (d : Fin 2) (n : Fin 64) :
    A4 (after p0_0 V (Proc.devRef .tc main_v25_1)) (ix4 k g d n) = AP (V (Proc.devRef .tc main_arg0)) (ix3 (pos (lane 1 d n) k.val) g (lane 1 d n)) := by
  unfold A4 AP
  after_reads_simp
  simp only [id]
  pointwise
  rcases two d with rfl | rfl
  · rw [dif_pos (by decide), pos_lane0]
    after_reads_at
    exact congrArg (V (Proc.devRef .tc main_arg0)) (congrArg (ix3 k g) (Fin.ext (by simp [lane])))
  · rw [dif_neg (by decide), pos_lane1]
    after_reads_at
    exact congrArg (V (Proc.devRef .tc main_arg0)) (congrArg (ix3 k.rev g) (Fin.ext (by simp [lane]; try omega)))

theorem pre_2 (x : S64x2x64.Idx) : A3 (after p0_0 V (Proc.devRef .tc main_v25_2)) x = A3 (V (Proc.devRef .tc main_arg1)) x := by
  unfold A3
  after_reads_simp
  simp only [id]

theorem pre_3 (x : S64x2x64.Idx) : A3 (after p0_0 V (Proc.devRef .tc main_v25_3)) x = -A3 (V (Proc.devRef .tc main_arg2)) x := by
  unfold A3
  after_reads_simp
  simp only [id]
  idx_vars x
  pointwise

theorem pre_4 (x : S64x2x64.Idx) : A3 (after p0_0 V (Proc.devRef .tc main_v25_4)) x = A3 (V (Proc.devRef .tc main_arg2)) x := by
  unfold A3
  after_reads_simp
  simp only [id]

theorem pre_6 (x : S64x2x64.Idx) : A3 (after p0_0 V (Proc.devRef .tc main_v25_6)) x = 0 := by
  unfold A3
  after_reads_simp
  simp only [id]
  idx_vars x
  pointwise

theorem pre_7 (x : S64x2x64.Idx) : A3 (after p0_0 V (Proc.devRef .tc main_v25_7)) x = 0 := by
  unfold A3
  after_reads_simp
  simp only [id]
  idx_vars x
  pointwise

theorem pre_v1 (x : S64x2x64.Idx) : A3 (after p0_0 V (Proc.devRef .tc main_v1)) x = -A3 (V (Proc.devRef .tc main_arg2)) x := by
  unfold A3
  after_reads_simp
  idx_vars x
  pointwise

theorem pre_8 (x : S256x64x2x64.Idx) : A4 (after p0_0 V (Proc.devRef .tc main_v25_8)) x = 0 := by
  unfold A4
  after_reads_simp
  simp only [id]
  idx_vars x
  pointwise

theorem pre_9 (x : S256x64x2x64.Idx) : A4 (after p0_0 V (Proc.devRef .tc main_v25_9)) x = 0 := by
  unfold A4
  after_reads_simp
  simp only [id]
  idx_vars x
  pointwise

end Cert.ReferenceIdeal.Scan
-- ==== Proof.RVal1.lean ====
/- What the reference's host lines leave at an index: the adjoint loop's entry, one trip of it, and the end. -/
module

public import proofs.«01_k».proof.Proof.RVal0
public import Idealize.ShloMosaic.Lib.StableHlo.ReadAt
public import Idealize.ShloMosaic.Lib.DynamicIndex

@[expose] public section

set_option maxRecDepth 16384

noncomputable section

namespace Cert.ReferenceIdeal.Scan

open Cert.ReferenceIdeal Cert.ReferenceIdeal.Gen Cert.Scan
open Idealize.ShloMosaic Idealize.ShloMosaic.TcCoe Idealize.ShloMosaic.Tactic Idealize.SL.Sem
open Idealize.ShloMosaic.StableHlo

variable (V : Valuation τ sig (Elt Ideal))

theorem b1_0_ctr (k : ℕ) (hk : k < 256) (h : V (Proc.devRef .tc main_v80_7) = word k) :
    after b1_0 V (Proc.devRef .tc main_while1b_v110) = word (255 - k) := by
  have e : after b1_0 V (Proc.devRef .tc main_while1b_v110) = fun x => 256#32 - (V (Proc.devRef .tc main_v80_7)) x - 1#32 := by
    after_reads_simp
    rfl
  rw [e, h]
  funext x
  show 256#32 - BitVec.ofNat 32 k - 1#32 = BitVec.ofNat 32 (255 - k)
  apply BitVec.eq_of_toNat_eq
  simp
  omega

theorem b1_1_at (k : Fin 256) (g : Fin 64) (d : Fin 2) (n : Fin 64) (hk : V (Proc.devRef .tc main_while1b_v110) = word k.val) :
    A3 (after b1_1 V (Proc.devRef .tc main_while1b_v111)) (ix3 g d n) = A4 (V (Proc.devRef .tc main_v80_0)) (ix4 k g d n) := by
  have h : after b1_1 V (Proc.devRef .tc main_while1b_v111) = shapeCast S64x2x64 (Host.dynamicSlice S1x64x2x64 (A4 (V (Proc.devRef .tc main_v80_0))) (starts (V (Proc.devRef .tc main_while1b_v110))) sliceFits_S256x64x2x64_S1x64x2x64) shapeCasts_S1x64x2x64_S64x2x64 := by
    after_results_entrywise []
  refine (congrFun h _).trans ?_
  rw [hk]
  exact slice_at _ _ k g d n (toInt_ofNat_of_lt (by omega)) rfl rfl rfl _ _

theorem b1_2_at (k : Fin 256) (g : Fin 64) (d : Fin 2) (n : Fin 64) (hk : V (Proc.devRef .tc main_while1b_v110) = word k.val) :
    A3 (after b1_2 V (Proc.devRef .tc main_while1b_v112)) (ix3 g d n) = A4 (V (Proc.devRef .tc main_v80_1)) (ix4 k g d n) := by
  have h : after b1_2 V (Proc.devRef .tc main_while1b_v112) = shapeCast S64x2x64 (Host.dynamicSlice S1x64x2x64 (A4 (V (Proc.devRef .tc main_v80_1))) (starts (V (Proc.devRef .tc main_while1b_v110))) sliceFits_S256x64x2x64_S1x64x2x64) shapeCasts_S1x64x2x64_S64x2x64 := by
    after_results_entrywise []
  refine (congrFun h _).trans ?_
  rw [hk]
  exact slice_at _ _ k g d n (toInt_ofNat_of_lt (by omega)) rfl rfl rfl _ _

theorem b1_3_at (k : Fin 256) (g : Fin 64) (d : Fin 2) (n : Fin 64) (hk : V (Proc.devRef .tc main_while1b_v110) = word k.val) :
    A3 (after b1_3 V (Proc.devRef .tc main_while1b_v113)) (ix3 g d n) = A4 (V (Proc.devRef .tc main_v80_2)) (ix4 k g d n) := by
  have h : after b1_3 V (Proc.devRef .tc main_while1b_v113) = shapeCast S64x2x64 (Host.dynamicSlice S1x64x2x64 (A4 (V (Proc.devRef .tc main_v80_2))) (starts (V (Proc.devRef .tc main_while1b_v110))) sliceFits_S256x64x2x64_S1x64x2x64) shapeCasts_S1x64x2x64_S64x2x64 := by
    after_results_entrywise []
  refine (congrFun h _).trans ?_
  rw [hk]
  exact slice_at _ _ k g d n (toInt_ofNat_of_lt (by omega)) rfl rfl rfl _ _

theorem b1_4_at (k : Fin 256) (g : Fin 64) (d : Fin 2) (n : Fin 64) (hk : V (Proc.devRef .tc main_while1b_v110) = word k.val) :
    A3 (after b1_4 V (Proc.devRef .tc main_while1b_v114)) (ix3 g d n) = A4 (V (Proc.devRef .tc main_v80_3)) (ix4 k g d n) := by
  have h : after b1_4 V (Proc.devRef .tc main_while1b_v114) = shapeCast S64x2x64 (Host.dynamicSlice S1x64x2x64 (A4 (V (Proc.devRef .tc main_v80_3))) (starts (V (Proc.devRef .tc main_while1b_v110))) sliceFits_S256x64x2x64_S1x64x2x64) shapeCasts_S1x64x2x64_S64x2x64 := by
    after_results_entrywise []
  refine (congrFun h _).trans ?_
  rw [hk]
  exact slice_at _ _ k g d n (toInt_ofNat_of_lt (by omega)) rfl rfl rfl _ _

theorem b1_5_v118 (x : S64x2x64.Idx) :
    A3 (after b1_5 V (Proc.devRef .tc main_while1b_v118)) x = A3 (V (Proc.devRef .tc main_v80_10)) x + A3 (V (Proc.devRef .tc main_v80_12)) x * A3 (V (Proc.devRef .tc main_while1b_v113)) x := by
  unfold A3
  after_reads_simp
  rfl

theorem b1_5_v124 (x : S64x2x64.Idx) :
    A3 (after b1_5 V (Proc.devRef .tc main_while1b_v124)) x = (A3 (V (Proc.devRef .tc main_while1b_v112)) x + A3 (V (Proc.devRef .tc main_v80_4)) x * A3 (V (Proc.devRef .tc main_v80_12)) x) + A3 (V (Proc.devRef .tc main_v80_5)) x * A3 (V (Proc.devRef .tc main_v80_11)) x := by
  unfold A3
  after_reads_simp
  rfl

theorem b1_5_v126 (x : S64x2x64.Idx) :
    A3 (after b1_5 V (Proc.devRef .tc main_while1b_v126)) x = A3 (V (Proc.devRef .tc main_v80_9)) x + A3 (V (Proc.devRef .tc main_v80_11)) x * A3 (V (Proc.devRef .tc main_while1b_v114)) x := by
  unfold A3
  after_reads_simp
  rfl

theorem b1_5_v128 (x : S64x2x64.Idx) :
    A3 (after b1_5 V (Proc.devRef .tc main_while1b_v128)) x = (A3 (V (Proc.devRef .tc main_while1b_v111)) x + A3 (V (Proc.devRef .tc main_v80_6)) x * A3 (V (Proc.devRef .tc main_v80_12)) x) + A3 (V (Proc.devRef .tc main_v80_4)) x * A3 (V (Proc.devRef .tc main_v80_11)) x := by
  unfold A3
  after_reads_simp
  rfl

theorem b1_5_v130 (x : S64x2x64.Idx) :
    A3 (after b1_5 V (Proc.devRef .tc main_while1b_v130)) x = (A3 (V (Proc.devRef .tc main_v80_8)) x + A3 (V (Proc.devRef .tc main_v80_12)) x * A3 (V (Proc.devRef .tc main_while1b_v114)) x) + A3 (V (Proc.devRef .tc main_v80_11)) x * A3 (V (Proc.devRef .tc main_while1b_v113)) x := by
  unfold A3
  after_reads_simp
  rfl

theorem b1_6_at (k p : Fin 256) (g : Fin 64) (d : Fin 2) (n : Fin 64) (hk : V (Proc.devRef .tc main_while1b_v110) = word k.val) :
    A4 (after b1_6 V (Proc.devRef .tc main_while1b_v131)) (ix4 p g d n)
      = if p = k then A3 (V (Proc.devRef .tc main_v80_11)) (ix3 g d n) else A4 (V (Proc.devRef .tc main_v80_13)) (ix4 p g d n) := by
  have h : after b1_6 V (Proc.devRef .tc main_while1b_v131) = Host.dynamicUpdateSlice (A4 (V (Proc.devRef .tc main_v80_13))) (broadcastInDim S1x64x2x64 ![1, 2, 3] bcast_S64x2x64_S1x64x2x64_1_2_3 (A3 (V (Proc.devRef .tc main_v80_11)))) (starts (V (Proc.devRef .tc main_while1b_v110))) updateFits_S256x64x2x64_S1x64x2x64 := by
    after_results_entrywise []
  refine (congrFun h _).trans ?_
  rw [hk]
  exact update_at _ _ _ k p g d n (toInt_ofNat_of_lt (by omega)) rfl rfl rfl _ _

theorem b1_7_at (k p : Fin 256) (g : Fin 64) (d : Fin 2) (n : Fin 64) (hk : V (Proc.devRef .tc main_while1b_v110) = word k.val) :
    A4 (after b1_7 V (Proc.devRef .tc main_while1b_v132)) (ix4 p g d n)
      = if p = k then A3 (V (Proc.devRef .tc main_v80_12)) (ix3 g d n) else A4 (V (Proc.devRef .tc main_v80_14)) (ix4 p g d n) := by
  have h : after b1_7 V (Proc.devRef .tc main_while1b_v132) = Host.dynamicUpdateSlice (A4 (V (Proc.devRef .tc main_v80_14))) (broadcastInDim S1x64x2x64 ![1, 2, 3] bcast_S64x2x64_S1x64x2x64_1_2_3 (A3 (V (Proc.devRef .tc main_v80_12)))) (starts (V (Proc.devRef .tc main_while1b_v110))) updateFits_S256x64x2x64_S1x64x2x64 := by
    after_results_entrywise []
  refine (congrFun h _).trans ?_
  rw [hk]
  exact update_at _ _ _ k p g d n (toInt_ofNat_of_lt (by omega)) rfl rfl rfl _ _

theorem b1_8_v80_8 : after b1_8 V (Proc.devRef .tc main_v80_8) = V (Proc.devRef .tc main_while1b_v130) := by
  after_reads_simp
  rfl

theorem b1_8_v80_9 : after b1_8 V (Proc.devRef .tc main_v80_9) = V (Proc.devRef .tc main_while1b_v126) := by
  after_reads_simp
  rfl

theorem b1_8_v80_10 : after b1_8 V (Proc.devRef .tc main_v80_10) = V (Proc.devRef .tc main_while1b_v118) := by
  after_reads_simp
  rfl

theorem b1_8_v80_11 : after b1_8 V (Proc.devRef .tc main_v80_11) = V (Proc.devRef .tc main_while1b_v128) := by
  after_reads_simp
  rfl

theorem b1_8_v80_12 : after b1_8 V (Proc.devRef .tc main_v80_12) = V (Proc.devRef .tc main_while1b_v124) := by
  after_reads_simp
  rfl

theorem b1_8_v80_13 : after b1_8 V (Proc.devRef .tc main_v80_13) = V (Proc.devRef .tc main_while1b_v131) := by
  after_reads_simp
  rfl

theorem b1_8_v80_14 : after b1_8 V (Proc.devRef .tc main_v80_14) = V (Proc.devRef .tc main_while1b_v132) := by
  after_reads_simp
  rfl

theorem keep1_1 {r : Ref sig .tc} (h : r ∉ cond1_W) : after cond1 V (Proc.devRef .tc r) = V (Proc.devRef .tc r) := by
  rw [after_of_writes_sub cond1 _ cond1_writes (h)]

theorem keep1_2 {r : Ref sig .tc} (h : r ∉ cond1_W ++ b1_0_W) : after b1_0 (after cond1 V) (Proc.devRef .tc r) = V (Proc.devRef .tc r) := by
  simp only [List.mem_append, not_or] at h
  rw [after_of_writes_sub b1_0 _ b1_0_writes (h.2), after_of_writes_sub cond1 _ cond1_writes (h.1)]

theorem keep1_3 {r : Ref sig .tc} (h : r ∉ cond1_W ++ b1_0_W ++ b1_1_W) : after b1_1 (after b1_0 (after cond1 V)) (Proc.devRef .tc r) = V (Proc.devRef .tc r) := by
  simp only [List.mem_append, not_or] at h
  rw [after_of_writes_sub b1_1 _ b1_1_writes (h.2), after_of_writes_sub b1_0 _ b1_0_writes (h.1.2), after_of_writes_sub cond1 _ cond1_writes (h.1.1)]

theorem keep1_4 {r : Ref sig .tc} (h : r ∉ cond1_W ++ b1_0_W ++ b1_1_W ++ b1_2_W) : after b1_2 (after b1_1 (after b1_0 (after cond1 V))) (Proc.devRef .tc r) = V (Proc.devRef .tc r) := by
  simp only [List.mem_append, not_or] at h
  rw [after_of_writes_sub b1_2 _ b1_2_writes (h.2), after_of_writes_sub b1_1 _ b1_1_writes (h.1.2), after_of_writes_sub b1_0 _ b1_0_writes (h.1.1.2), after_of_writes_sub cond1 _ cond1_writes (h.1.1.1)]

theorem keep1_5 {r : Ref sig .tc} (h : r ∉ cond1_W ++ b1_0_W ++ b1_1_W ++ b1_2_W ++ b1_3_W) : after b1_3 (after b1_2 (after b1_1 (after b1_0 (after cond1 V)))) (Proc.devRef .tc r) = V (Proc.devRef .tc r) := by
  simp only [List.mem_append, not_or] at h
  rw [after_of_writes_sub b1_3 _ b1_3_writes (h.2), after_of_writes_sub b1_2 _ b1_2_writes (h.1.2), after_of_writes_sub b1_1 _ b1_1_writes (h.1.1.2), after_of_writes_sub b1_0 _ b1_0_writes (h.1.1.1.2), after_of_writes_sub cond1 _ cond1_writes (h.1.1.1.1)]

theorem keep1_6 {r : Ref sig .tc} (h : r ∉ cond1_W ++ b1_0_W ++ b1_1_W ++ b1_2_W ++ b1_3_W ++ b1_4_W) : after b1_4 (after b1_3 (after b1_2 (after b1_1 (after b1_0 (after cond1 V))))) (Proc.devRef .tc r) = V (Proc.devRef .tc r) := by
  simp only [List.mem_append, not_or] at h
  rw [after_of_writes_sub b1_4 _ b1_4_writes (h.2), after_of_writes_sub b1_3 _ b1_3_writes (h.1.2), after_of_writes_sub b1_2 _ b1_2_writes (h.1.1.2), after_of_writes_sub b1_1 _ b1_1_writes (h.1.1.1.2), after_of_writes_sub b1_0 _ b1_0_writes (h.1.1.1.1.2), after_of_writes_sub cond1 _ cond1_writes (h.1.1.1.1.1)]

theorem keep1_7 {r : Ref sig .tc} (h : r ∉ cond1_W ++ b1_0_W ++ b1_1_W ++ b1_2_W ++ b1_3_W ++ b1_4_W ++ b1_5_W) : after b1_5 (after b1_4 (after b1_3 (after b1_2 (after b1_1 (after b1_0 (after cond1 V)))))) (Proc.devRef .tc r) = V (Proc.devRef .tc r) := by
  simp only [List.mem_append, not_or] at h
  rw [after_of_writes_sub b1_5 _ b1_5_writes (h.2), after_of_writes_sub b1_4 _ b1_4_writes (h.1.2), after_of_writes_sub b1_3 _ b1_3_writes (h.1.1.2), after_of_writes_sub b1_2 _ b1_2_writes (h.1.1.1.2), after_of_writes_sub b1_1 _ b1_1_writes (h.1.1.1.1.2), after_of_writes_sub b1_0 _ b1_0_writes (h.1.1.1.1.1.2), after_of_writes_sub cond1 _ cond1_writes (h.1.1.1.1.1.1)]

theorem keep1_8 {r : Ref sig .tc} (h : r ∉ cond1_W ++ b1_0_W ++ b1_1_W ++ b1_2_W ++ b1_3_W ++ b1_4_W ++ b1_5_W ++ b1_6_W) : after b1_6 (after b1_5 (after b1_4 (after b1_3 (after b1_2 (after b1_1 (after b1_0 (after cond1 V))))))) (Proc.devRef .tc r) = V (Proc.devRef .tc r) := by
  simp only [List.mem_append, not_or] at h
  rw [after_of_writes_sub b1_6 _ b1_6_writes (h.2), after_of_writes_sub b1_5 _ b1_5_writes (h.1.2), after_of_writes_sub b1_4 _ b1_4_writes (h.1.1.2), after_of_writes_sub b1_3 _ b1_3_writes (h.1.1.1.2), after_of_writes_sub b1_2 _ b1_2_writes (h.1.1.1.1.2), after_of_writes_sub b1_1 _ b1_1_writes (h.1.1.1.1.1.2), after_of_writes_sub b1_0 _ b1_0_writes (h.1.1.1.1.1.1.2), after_of_writes_sub cond1 _ cond1_writes (h.1.1.1.1.1.1.1)]

theorem keep1_10 {r : Ref sig .tc} (h : r ∉ cond1_W ++ b1_0_W ++ b1_1_W ++ b1_2_W ++ b1_3_W ++ b1_4_W ++ b1_5_W ++ b1_6_W ++ b1_7_W ++ b1_8_W) : after b1_8 (after b1_7 (after b1_6 (after b1_5 (after b1_4 (after b1_3 (after b1_2 (after b1_1 (after b1_0 (after cond1 V))))))))) (Proc.devRef .tc r) = V (Proc.devRef .tc r) := by
  simp only [List.mem_append, not_or] at h
  rw [after_of_writes_sub b1_8 _ b1_8_writes (h.2), after_of_writes_sub b1_7 _ b1_7_writes (h.1.2), after_of_writes_sub b1_6 _ b1_6_writes (h.1.1.2), after_of_writes_sub b1_5 _ b1_5_writes (h.1.1.1.2), after_of_writes_sub b1_4 _ b1_4_writes (h.1.1.1.1.2), after_of_writes_sub b1_3 _ b1_3_writes (h.1.1.1.1.1.2), after_of_writes_sub b1_2 _ b1_2_writes (h.1.1.1.1.1.1.2), after_of_writes_sub b1_1 _ b1_1_writes (h.1.1.1.1.1.1.1.2), after_of_writes_sub b1_0 _ b1_0_writes (h.1.1.1.1.1.1.1.1.2), after_of_writes_sub cond1 _ cond1_writes (h.1.1.1.1.1.1.1.1.1)]

theorem ctr1_2 (k : ℕ) (hk : k < 256) (h : V (Proc.devRef .tc main_v80_7) = word k) :
    after b1_0 (after cond1 V) (Proc.devRef .tc main_while1b_v110) = word (255 - k) := by
  rw [b1_0_ctr _ k hk (by rw [keep1_1 V (by decide +kernel)]; exact h)]

theorem ctr1_3 (k : ℕ) (hk : k < 256) (h : V (Proc.devRef .tc main_v80_7) = word k) :
    after b1_1 (after b1_0 (after cond1 V)) (Proc.devRef .tc main_while1b_v110) = word (255 - k) := by
  rw [after_of_writes_sub b1_1 _ b1_1_writes (r := main_while1b_v110) (by decide +kernel), b1_0_ctr _ k hk (by rw [keep1_1 V (by decide +kernel)]; exact h)]

theorem ctr1_4 (k : ℕ) (hk : k < 256) (h : V (Proc.devRef .tc main_v80_7) = word k) :
    after b1_2 (after b1_1 (after b1_0 (after cond1 V))) (Proc.devRef .tc main_while1b_v110) = word (255 - k) := by
  rw [after_of_writes_sub b1_2 _ b1_2_writes (r := main_while1b_v110) (by decide +kernel), after_of_writes_sub b1_1 _ b1_1_writes (r := main_while1b_v110) (by decide +kernel), b1_0_ctr _ k hk (by rw [keep1_1 V (by decide +kernel)]; exact h)]

theorem ctr1_5 (k : ℕ) (hk : k < 256) (h : V (Proc.devRef .tc main_v80_7) = word k) :
    after b1_3 (after b1_2 (after b1_1 (after b1_0 (after cond1 V)))) (Proc.devRef .tc main_while1b_v110) = word (255 - k) := by
  rw [after_of_writes_sub b1_3 _ b1_3_writes (r := main_while1b_v110) (by decide +kernel), after_of_writes_sub b1_2 _ b1_2_writes (r := main_while1b_v110) (by decide +kernel), after_of_writes_sub b1_1 _ b1_1_writes (r := main_while1b_v110) (by decide +kernel), b1_0_ctr _ k hk (by rw [keep1_1 V (by decide +kernel)]; exact h)]

theorem ctr1_6 (k : ℕ) (hk : k < 256) (h : V (Proc.devRef .tc main_v80_7) = word k) :
    after b1_4 (after b1_3 (after b1_2 (after b1_1 (after b1_0 (after cond1 V))))) (Proc.devRef .tc main_while1b_v110) = word (255 - k) := by
  rw [after_of_writes_sub b1_4 _ b1_4_writes (r := main_while1b_v110) (by decide +kernel), after_of_writes_sub b1_3 _ b1_3_writes (r := main_while1b_v110) (by decide +kernel), after_of_writes_sub b1_2 _ b1_2_writes (r := main_while1b_v110) (by decide +kernel), after_of_writes_sub b1_1 _ b1_1_writes (r := main_while1b_v110) (by decide +kernel), b1_0_ctr _ k hk (by rw [keep1_1 V (by decide +kernel)]; exact h)]

theorem ctr1_7 (k : ℕ) (hk : k < 256) (h : V (Proc.devRef .tc main_v80_7) = word k) :
    after b1_5 (after b1_4 (after b1_3 (after b1_2 (after b1_1 (after b1_0 (after cond1 V)))))) (Proc.devRef .tc main_while1b_v110) = word (255 - k) := by
  rw [after_of_writes_sub b1_5 _ b1_5_writes (r := main_while1b_v110) (by decide +kernel), after_of_writes_sub b1_4 _ b1_4_writes (r := main_while1b_v110) (by decide +kernel), after_of_writes_sub b1_3 _ b1_3_writes (r := main_while1b_v110) (by decide +kernel), after_of_writes_sub b1_2 _ b1_2_writes (r := main_while1b_v110) (by decide +kernel), after_of_writes_sub b1_1 _ b1_1_writes (r := main_while1b_v110) (by decide +kernel), b1_0_ctr _ k hk (by rw [keep1_1 V (by decide +kernel)]; exact h)]

theorem ctr1_8 (k : ℕ) (hk : k < 256) (h : V (Proc.devRef .tc main_v80_7) = word k) :
    after b1_6 (after b1_5 (after b1_4 (after b1_3 (after b1_2 (after b1_1 (after b1_0 (after cond1 V))))))) (Proc.devRef .tc main_while1b_v110) = word (255 - k) := by
  rw [after_of_writes_sub b1_6 _ b1_6_writes (r := main_while1b_v110) (by decide +kernel), after_of_writes_sub b1_5 _ b1_5_writes (r := main_while1b_v110) (by decide +kernel), after_of_writes_sub b1_4 _ b1_4_writes (r := main_while1b_v110) (by decide +kernel), after_of_writes_sub b1_3 _ b1_3_writes (r := main_while1b_v110) (by decide +kernel), after_of_writes_sub b1_2 _ b1_2_writes (r := main_while1b_v110) (by decide +kernel), after_of_writes_sub b1_1 _ b1_1_writes (r := main_while1b_v110) (by decide +kernel), b1_0_ctr _ k hk (by rw [keep1_1 V (by decide +kernel)]; exact h)]

theorem trip1_10 (k : ℕ) (hk : k < 256) (h : V (Proc.devRef .tc main_v80_7) = word k) (g : Fin 64) (d : Fin 2) (n : Fin 64) :
    A3 (afterL body1I (after cond1 V) (Proc.devRef .tc main_v80_10)) (ix3 g d n)
      = A3 (V (Proc.devRef .tc main_v80_10)) (ix3 g d n) + A3 (V (Proc.devRef .tc main_v80_12)) (ix3 g d n) * A4 (V (Proc.devRef .tc main_v80_2)) (ix4 (⟨255 - k, by omega⟩ : Fin 256) g d n) := by
  simp only [afterL_cons, afterL_nil]
  rw [b1_8_v80_10, after_of_writes_sub b1_7 _ b1_7_writes (r := main_while1b_v118) (by decide +kernel), after_of_writes_sub b1_6 _ b1_6_writes (r := main_while1b_v118) (by decide +kernel), b1_5_v118, keep1_6 V (r := main_v80_10) (by decide +kernel), keep1_6 V (r := main_v80_12) (by decide +kernel)]
  rw [after_of_writes_sub b1_4 _ b1_4_writes (r := main_while1b_v113) (by decide +kernel), b1_3_at _ (⟨255 - k, by omega⟩ : Fin 256) g d n (ctr1_4 V k hk h), keep1_4 V (r := main_v80_2) (by decide +kernel)]

theorem trip1_12 (k : ℕ) (hk : k < 256) (h : V (Proc.devRef .tc main_v80_7) = word k) (g : Fin 64) (d : Fin 2) (n : Fin 64) :
    A3 (afterL body1I (after cond1 V) (Proc.devRef .tc main_v80_12)) (ix3 g d n)
      = (A4 (V (Proc.devRef .tc main_v80_1)) (ix4 (⟨255 - k, by omega⟩ : Fin 256) g d n) + A3 (V (Proc.devRef .tc main_v80_4)) (ix3 g d n) * A3 (V (Proc.devRef .tc main_v80_12)) (ix3 g d n)) + A3 (V (Proc.devRef .tc main_v80_5)) (ix3 g d n) * A3 (V (Proc.devRef .tc main_v80_11)) (ix3 g d n) := by
  simp only [afterL_cons, afterL_nil]
  rw [b1_8_v80_12, after_of_writes_sub b1_7 _ b1_7_writes (r := main_while1b_v124) (by decide +kernel), after_of_writes_sub b1_6 _ b1_6_writes (r := main_while1b_v124) (by decide +kernel), b1_5_v124, keep1_6 V (r := main_v80_4) (by decide +kernel), keep1_6 V (r := main_v80_12) (by decide +kernel), keep1_6 V (r := main_v80_5) (by decide +kernel), keep1_6 V (r := main_v80_11) (by decide +kernel)]
  rw [after_of_writes_sub b1_4 _ b1_4_writes (r := main_while1b_v112) (by decide +kernel), after_of_writes_sub b1_3 _ b1_3_writes (r := main_while1b_v112) (by decide +kernel), b1_2_at _ (⟨255 - k, by omega⟩ : Fin 256) g d n (ctr1_3 V k hk h), keep1_3 V (r := main_v80_1) (by decide +kernel)]

theorem trip1_9 (k : ℕ) (hk : k < 256) (h : V (Proc.devRef .tc main_v80_7) = word k) (g : Fin 64) (d : Fin 2) (n : Fin 64) :
    A3 (afterL body1I (after cond1 V) (Proc.devRef .tc main_v80_9)) (ix3 g d n)
      = A3 (V (Proc.devRef .tc main_v80_9)) (ix3 g d n) + A3 (V (Proc.devRef .tc main_v80_11)) (ix3 g d n) * A4 (V (Proc.devRef .tc main_v80_3)) (ix4 (⟨255 - k, by omega⟩ : Fin 256) g d n) := by
  simp only [afterL_cons, afterL_nil]
  rw [b1_8_v80_9, after_of_writes_sub b1_7 _ b1_7_writes (r := main_while1b_v126) (by decide +kernel), after_of_writes_sub b1_6 _ b1_6_writes (r := main_while1b_v126) (by decide +kernel), b1_5_v126, keep1_6 V (r := main_v80_9) (by decide +kernel), keep1_6 V (r := main_v80_11) (by decide +kernel)]
  rw [b1_4_at _ (⟨255 - k, by omega⟩ : Fin 256) g d n (ctr1_5 V k hk h), keep1_5 V (r := main_v80_3) (by decide +kernel)]

theorem trip1_11 (k : ℕ) (hk : k < 256) (h : V (Proc.devRef .tc main_v80_7) = word k) (g : Fin 64) (d : Fin 2) (n : Fin 64) :
    A3 (afterL body1I (after cond1 V) (Proc.devRef .tc main_v80_11)) (ix3 g d n)
      = (A4 (V (Proc.devRef .tc main_v80_0)) (ix4 (⟨255 - k, by omega⟩ : Fin 256) g d n) + A3 (V (Proc.devRef .tc main_v80_6)) (ix3 g d n) * A3 (V (Proc.devRef .tc main_v80_12)) (ix3 g d n)) + A3 (V (Proc.devRef .tc main_v80_4)) (ix3 g d n) * A3 (V (Proc.devRef .tc main_v80_11)) (ix3 g d n) := by
  simp only [afterL_cons, afterL_nil]
  rw [b1_8_v80_11, after_of_writes_sub b1_7 _ b1_7_writes (r := main_while1b_v128) (by decide +kernel), after_of_writes_sub b1_6 _ b1_6_writes (r := main_while1b_v128) (by decide +kernel), b1_5_v128, keep1_6 V (r := main_v80_6) (by decide +kernel), keep1_6 V (r := main_v80_12) (by decide +kernel), keep1_6 V (r := main_v80_4) (by decide +kernel), keep1_6 V (r := main_v80_11) (by decide +kernel)]
  rw [after_of_writes_sub b1_4 _ b1_4_writes (r := main_while1b_v111) (by decide +kernel), after_of_writes_sub b1_3 _ b1_3_writes (r := main_while1b_v111) (by decide +kernel), after_of_writes_sub b1_2 _ b1_2_writes (r := main_while1b_v111) (by decide +kernel), b1_1_at _ (⟨255 - k, by omega⟩ : Fin 256) g d n (ctr1_2 V k hk h), keep1_2 V (r := main_v80_0) (by decide +kernel)]

theorem trip1_8 (k : ℕ) (hk : k < 256) (h : V (Proc.devRef .tc main_v80_7) = word k) (g : Fin 64) (d : Fin 2) (n : Fin 64) :
    A3 (afterL body1I (after cond1 V) (Proc.devRef .tc main_v80_8)) (ix3 g d n)
      = (A3 (V (Proc.devRef .tc main_v80_8)) (ix3 g d n) + A3 (V (Proc.devRef .tc main_v80_12)) (ix3 g d n) * A4 (V (Proc.devRef .tc main_v80_3)) (ix4 (⟨255 - k, by omega⟩ : Fin 256) g d n)) + A3 (V (Proc.devRef .tc main_v80_11)) (ix3 g d n) * A4 (V (Proc.devRef .tc main_v80_2)) (ix4 (⟨255 - k, by omega⟩ : Fin 256) g d n) := by
  simp only [afterL_cons, afterL_nil]
  rw [b1_8_v80_8, after_of_writes_sub b1_7 _ b1_7_writes (r := main_while1b_v130) (by decide +kernel), after_of_writes_sub b1_6 _ b1_6_writes (r := main_while1b_v130) (by decide +kernel), b1_5_v130, keep1_6 V (r := main_v80_8) (by decide +kernel), keep1_6 V (r := main_v80_12) (by decide +kernel), keep1_6 V (r := main_v80_11) (by decide +kernel)]
  rw [b1_4_at _ (⟨255 - k, by omega⟩ : Fin 256) g d n (ctr1_5 V k hk h), keep1_5 V (r := main_v80_3) (by decide +kernel)]
  rw [after_of_writes_sub b1_4 _ b1_4_writes (r := main_while1b_v113) (by decide +kernel), b1_3_at _ (⟨255 - k, by omega⟩ : Fin 256) g d n (ctr1_4 V k hk h), keep1_4 V (r := main_v80_2) (by decide +kernel)]

theorem trip1_13 (k : ℕ) (hk : k < 256) (h : V (Proc.devRef .tc main_v80_7) = word k) (p : Fin 256) (g : Fin 64) (d : Fin 2) (n : Fin 64) :
    A4 (afterL body1I (after cond1 V) (Proc.devRef .tc main_v80_13)) (ix4 p g d n)
      = if p = (⟨255 - k, by omega⟩ : Fin 256) then A3 (V (Proc.devRef .tc main_v80_11)) (ix3 g d n) else A4 (V (Proc.devRef .tc main_v80_13)) (ix4 p g d n) := by
  simp only [afterL_cons, afterL_nil]
  rw [b1_8_v80_13, after_of_writes_sub b1_7 _ b1_7_writes (r := main_while1b_v131) (by decide +kernel), b1_6_at _ (⟨255 - k, by omega⟩ : Fin 256) p g d n (ctr1_7 V k hk h), keep1_7 V (r := main_v80_11) (by decide +kernel), keep1_7 V (r := main_v80_13) (by decide +kernel)]

theorem trip1_14 (k : ℕ) (hk : k < 256) (h : V (Proc.devRef .tc main_v80_7) = word k) (p : Fin 256) (g : Fin 64) (d : Fin 2) (n : Fin 64) :
    A4 (afterL body1I (after cond1 V) (Proc.devRef .tc main_v80_14)) (ix4 p g d n)
      = if p = (⟨255 - k, by omega⟩ : Fin 256) then A3 (V (Proc.devRef .tc main_v80_12)) (ix3 g d n) else A4 (V (Proc.devRef .tc main_v80_14)) (ix4 p g d n) := by
  simp only [afterL_cons, afterL_nil]
  rw [b1_8_v80_14, b1_7_at _ (⟨255 - k, by omega⟩ : Fin 256) p g d n (ctr1_8 V k hk h), keep1_8 V (r := main_v80_12) (by decide +kernel), keep1_8 V (r := main_v80_14) (by decide +kernel)]

/-! ## The adjoint loop's entry -/

theorem mid_0 (k : Fin 256) (g : Fin 64) (d : Fin 2) (n : Fin 64) :
    A4 (afterL midI V (Proc.devRef .tc main_v80_0)) (ix4 k g d n) = AP (V (Proc.devRef .tc main_arg3)) (ix3 (pos (lane 0 d n) k.val) g (lane 0 d n)) := by
  unfold A4 AP
  simp only [afterL_cons, afterL_nil]
  after_reads_simp
  simp only [id]
  rcases two d with rfl | rfl
  · rw [pos_lane0]
    pointwise
    exact congrArg (V (Proc.devRef .tc main_arg3)) (congrArg (ix3 k g) (Fin.ext (by simp [lane])))
  · rw [pos_lane1]
    pointwise
    exact congrArg (V (Proc.devRef .tc main_arg3)) (congrArg (ix3 k.rev g) (Fin.ext (by simp [lane]; try omega)))

theorem mid_1 (k : Fin 256) (g : Fin 64) (d : Fin 2) (n : Fin 64) :
    A4 (afterL midI V (Proc.devRef .tc main_v80_1)) (ix4 k g d n) = AP (V (Proc.devRef .tc main_arg3)) (ix3 (pos (lane 1 d n) k.val) g (lane 1 d n)) := by
  unfold A4 AP
  simp only [afterL_cons, afterL_nil]
  after_reads_simp
  simp only [id]
  rcases two d with rfl | rfl
  · rw [pos_lane0]
    pointwise
    exact congrArg (V (Proc.devRef .tc main_arg3)) (congrArg (ix3 k g) (Fin.ext (by simp [lane])))
  · rw [pos_lane1]
    pointwise
    exact congrArg (V (Proc.devRef .tc main_arg3)) (congrArg (ix3 k.rev g) (Fin.ext (by simp [lane]; try omega)))

theorem mid_2 : afterL midI V (Proc.devRef .tc main_v80_2) = V (Proc.devRef .tc main_v25_8) := by
  simp only [afterL_cons, afterL_nil]
  after_reads_simp
  rfl

theorem mid_3 : afterL midI V (Proc.devRef .tc main_v80_3) = V (Proc.devRef .tc main_v25_9) := by
  simp only [afterL_cons, afterL_nil]
  after_reads_simp
  rfl

theorem mid_4 : afterL midI V (Proc.devRef .tc main_v80_4) = V (Proc.devRef .tc main_arg1) := by
  simp only [afterL_cons, afterL_nil]
  after_reads_simp
  rfl

theorem mid_5 : afterL midI V (Proc.devRef .tc main_v80_5) = V (Proc.devRef .tc main_v1) := by
  simp only [afterL_cons, afterL_nil]
  after_reads_simp
  rfl

theorem mid_6 : afterL midI V (Proc.devRef .tc main_v80_6) = V (Proc.devRef .tc main_arg2) := by
  simp only [afterL_cons, afterL_nil]
  after_reads_simp
  rfl

theorem mid_8 (x : S64x2x64.Idx) : A3 (afterL midI V (Proc.devRef .tc main_v80_8)) x = 0 := by
  unfold A3
  simp only [afterL_cons, afterL_nil]
  after_reads_simp
  simp only [id]
  idx_vars x
  pointwise

theorem mid_9 (x : S64x2x64.Idx) : A3 (afterL midI V (Proc.devRef .tc main_v80_9)) x = 0 := by
  unfold A3
  simp only [afterL_cons, afterL_nil]
  after_reads_simp
  simp only [id]
  idx_vars x
  pointwise

theorem mid_10 (x : S64x2x64.Idx) : A3 (afterL midI V (Proc.devRef .tc main_v80_10)) x = 0 := by
  unfold A3
  simp only [afterL_cons, afterL_nil]
  after_reads_simp
  simp only [id]
  idx_vars x
  pointwise

theorem mid_11 (x : S64x2x64.Idx) : A3 (afterL midI V (Proc.devRef .tc main_v80_11)) x = 0 := by
  unfold A3
  simp only [afterL_cons, afterL_nil]
  after_reads_simp
  simp only [id]
  idx_vars x
  pointwise

theorem mid_12 (x : S64x2x64.Idx) : A3 (afterL midI V (Proc.devRef .tc main_v80_12)) x = 0 := by
  unfold A3
  simp only [afterL_cons, afterL_nil]
  after_reads_simp
  simp only [id]
  idx_vars x
  pointwise

theorem mid_13 (x : S256x64x2x64.Idx) : A4 (afterL midI V (Proc.devRef .tc main_v80_13)) x = 0 := by
  unfold A4
  simp only [afterL_cons, afterL_nil]
  after_reads_simp
  simp only [id]
  idx_vars x
  pointwise

theorem mid_14 (x : S256x64x2x64.Idx) : A4 (afterL midI V (Proc.devRef .tc main_v80_14)) x = 0 := by
  unfold A4
  simp only [afterL_cons, afterL_nil]
  after_reads_simp
  simp only [id]
  idx_vars x
  pointwise

/-! ## The end -/

theorem post_ds (q : Fin 256) (g : Fin 64) (p d : Fin 2) (n : Fin 64) :
    AP (after p2_1 V (Proc.devRef .tc main_v108)) (ix3 q g (lane p d n))
      = if p = 0 then A4 (V (Proc.devRef .tc main_v80_13)) (ix4 (pos (lane 0 d n) q.val) g d n) else A4 (V (Proc.devRef .tc main_v80_14)) (ix4 (pos (lane 0 d n) q.val) g d n) := by
  have h1 : (lane p d n).val / 128 = p.val := by unfold lane; dsimp only; omega
  have h2 : (lane p d n).val / 64 % 2 = d.val := by unfold lane; dsimp only; omega
  have h3 : (lane p d n).val % 64 = n.val := by unfold lane; dsimp only; omega
  unfold A4 AP
  after_reads_simp
  rcases two d with rfl | rfl <;> rcases two p with rfl | rfl
  · rw [pos_lane0]
    pointwise
    simp [h1, h2, h3]
  · rw [pos_lane0]
    pointwise
    simp [h1, h2, h3]
  · rw [pos_lane1]
    pointwise
    simp [h1, h2, h3]
  · rw [pos_lane1]
    pointwise
    simp [h1, h2, h3]

theorem post_dli (x : S64x2x64.Idx) :
    A3 (after p2_1 V (Proc.devRef .tc main_v107)) x = A3 (V (Proc.devRef .tc main_v80_10)) x + -A3 (V (Proc.devRef .tc main_v80_9)) x := by
  unfold A3
  after_reads_simp
  idx_vars x
  pointwise

theorem post_dlr : after p2_1 V (Proc.devRef .tc main_v80_8) = V (Proc.devRef .tc main_v80_8) :=
  after_of_writes_sub p2_1 _ p2_1_writes (by decide +kernel)

end Cert.ReferenceIdeal.Scan
-- ==== Proof.Block0.lean ====
/- What the forward scan's body leaves in its output block: the states of the recurrence, each at its position. -/
module

public import proofs.«01_k».proof.Proof.Gen.KernelIdeal.Frame
public import proofs.«01_k».proof.Proof.Model
public import Idealize.ShloMosaic.Lib.WholeRead

@[expose] public section

set_option maxRecDepth 16384

noncomputable section

namespace Cert.KernelIdeal.Scan

open Cert.KernelIdeal Cert.KernelIdeal.Gen Cert.Scan
open Idealize.ShloMosaic Idealize.ShloMosaic.TcCoe Idealize.ShloMosaic.Tactic Idealize.SL.Sem

/-- The mask both bodies select the direction by. -/
theorem mask_apply (g : Fin 16) (l : Fin 256) : k1_pay3 (ix2 g l) = if up l then 1#1 else 0#1 := by
  pointwise [k1_pay3]
  revert l
  decide +kernel

theorem select_mask (l : Fin 256) (x y : EReal) :
    Scalar.select (if up l then 1#1 else 0#1) x y = if up l then x else y := by
  unfold Scalar.select
  cases up l <;> rfl

theorem select_apply_mask (g : Fin 16) (l : Fin 256) (x y : FVec Ideal S16x256 .f32) :
    select k1_pay3 x y (ix2 g l) = if up l then x (ix2 g l) else y (ix2 g l) := by
  rw [← select_mask, ← mask_apply g l]
  rfl

theorem dite_swap {α : Type} (f : Fin 256 → α) (l : Fin 256) :
    (if h : l.val < 128 then f ⟨128 + l.val, by omega⟩ else f ⟨l.val - 128, by omega⟩) = f (swap l) := by
  unfold swap
  split <;> rfl

/-- One step of the forward scan at an element. -/
theorem k0_pay6_apply (a b x : FVec Ideal S16x256 .f32) (p q : FVec Ideal S1x16x256 .f32) (g : Fin 16) (l : Fin 256) :
    k0_pay6 (F := Ideal) a b x p q (ix2 g l)
      = a (ix2 g l) * x (ix2 g l) + b (ix2 g l) * x (ix2 g (swap l)) + if up l then p (ix3 0 g l) else q (ix3 0 g l) := by
  have hm := mask_apply g l
  rw [← select_mask, ← hm]
  pointwise [k0_pay6, k1_pay3]
  rw [dite_swap (fun l' => x (ix2 g l'))]

theorem k0_pay1_apply (y : S16x256.Idx) : k0_pay1 (F := Ideal) y = 0 := by
  idx_vars y
  pointwise [k0_pay1]

/-- Columns of a block held whole, loaded whole. -/
theorem load_cols (m : Memref sig .tc .vmem S16x256 .f32) (h : m.IsWhole) (x : FVec Ideal S16x256 .f32) :
    View.readAt (Elt Ideal) m.view (Rect.unit (s := S16x256) ![0, 0] ![16, 256] inb_S16x256_S16x256_0_0).toLoadRect (h.unread x)
      = x := by
  funext y
  rw [h.readAt_unread]
  obtain ⟨g, l, rfl⟩ : ∃ (g : Fin 16) (l : Fin 256), y = ix2 g l := ⟨y 0, y 1, eq_ix2 y⟩
  pointwise

theorem trip_lt0 (k : Fin k0_t1_loop.trips) : k.val < 256 := Nat.lt_of_lt_of_le k.isLt k0_t1_abs.2.1

/-- One position's row of a block held whole, loaded. -/
theorem load_row {off : Fin 3 → ℕ} {p : ℕ} (e : off = ![p, 0, 0]) (hp : p < 256)
    (inb : ∀ a, off a + (![1, 16, 256] : Fin 3 → ℕ) a ≤ S256x16x256.size a)
    (m : Memref sig .tc .vmem S256x16x256 .f32) (h : m.IsWhole) (x : FVec Ideal S256x16x256 .f32) (g : Fin 16)
    (l : Fin 256) :
    View.readAt (Elt Ideal) m.view (Rect.unit (s := S256x16x256) off ![1, 16, 256] inb).toLoadRect (h.unread x) (ix3 0 g l)
      = x (ix3 ⟨p, hp⟩ g l) := by
  subst e
  rw [h.readAt_unread]
  pointwise

/-- The forward scan's inputs at batch row `g` of a block. -/
def fwdIn (s : FVec Ideal S256x16x256 .f32) (g : Fin 16) (k : ℕ) (l : Fin 256) : EReal := s (ix3 (pos l k) g l)

/-- The forward scan of a block, at batch row `g`. -/
def fwd (s : FVec Ideal S256x16x256 .f32) (a b : FVec Ideal S16x256 .f32) (g : Fin 16) (k : ℕ) (l : Fin 256) : EReal :=
  lscan (fun l => a (ix2 g l)) (fun l => b (ix2 g l)) (fwdIn s g) k l

/-- The output block: every position's state. -/
def fwdOut (s : FVec Ideal S256x16x256 .f32) (a b : FVec Ideal S16x256 .f32) (y : S256x16x256.Idx) : EReal :=
  fwd s a b (y 1) (stepAt (y 2) (y 0)) (y 2)

theorem fwdOut_up (s : FVec Ideal S256x16x256 .f32) (a b : FVec Ideal S16x256 .f32) {k : ℕ} (hk : k < 256) (g : Fin 16)
    (l : Fin 256) (hl : up l = true) : fwdOut s a b (ix3 ⟨k, hk⟩ g l) = fwd s a b g k l := by
  show fwd s a b g (stepAt l ⟨k, hk⟩) l = _
  unfold stepAt
  rw [if_pos hl]

theorem fwdOut_down (s : FVec Ideal S256x16x256 .f32) (a b : FVec Ideal S16x256 .f32) {k : ℕ} (hk : k < 256) (g : Fin 16)
    (l : Fin 256) (hl : up l = false) : fwdOut s a b (ix3 ⟨255 - k, by omega⟩ g l) = fwd s a b g k l := by
  show fwd s a b g (stepAt l ⟨255 - k, by omega⟩) l = _
  unfold stepAt
  rw [if_neg (by simp [hl])]
  congr 1
  show 255 - (255 - k) = k
  omega

section
variable (c : Dev nD) (i : grid0.Coords) (arg1 : Memref sig .tc .vmem S256x16x256 .f32) (harg1 : arg1.IsWhole)
  (arg2 : Memref sig .tc .vmem S16x256 .f32) (harg2 : arg2.IsWhole) (arg3 : Memref sig .tc .vmem S16x256 .f32)
  (harg3 : arg3.IsWhole) (arg4 : Memref sig .tc .vmem S256x16x256 .f32) (harg4 : arg4.IsWhole)
  (s : FVec Ideal S256x16x256 .f32) (a b : FVec Ideal S16x256 .f32)

/-- The state before trip `k` of the run on the block. -/
abbrev st0 (k : ℕ) := st_k0_t1 (F := Ideal) Variants.none c none i arg1 harg1 arg2 harg2 arg3 harg3 arg4 harg4
  a b (harg1.unread s) (k0_pay1 (F := Ideal)) k

theorem st0_carried (k : ℕ) (hk : k ≤ k0_t1_loop.trips) (g : Fin 16) (l : Fin 256) :
    (st0 c i arg1 harg1 arg2 harg2 arg3 harg3 arg4 harg4 s a b k).1 (ix2 g l) = fwd s a b g k l := by
  induction k generalizing l with
  | zero => exact (k0_pay1_apply (ix2 g l)).trans rfl
  | succ k ih =>
    have ih := ih (Nat.le_of_succ_le hk)
    have h := st_k0_t1_succ (F := Ideal) Variants.none c none i arg1 harg1 arg2 harg2 arg3 harg3 arg4 harg4
      a b (harg1.unread s) (k0_pay1 (F := Ideal)) ⟨k, hk⟩
    rw [st0, h]
    unfold tripR_k0_t1 trip_k0_t1
    dsimp only
    rw [k0_pay6_apply]
    have hk' : k < 256 := trip_lt0 ⟨k, hk⟩
    rw [load_row (k0_off5_eq ⟨k, hk⟩) hk',
      load_row (k0_off6_eq ⟨k, hk⟩) (show 255 - k < 256 by omega), ih, ih]
    show _ = lscan _ _ _ _ _
    rw [lscan]
    congr 1
    unfold fwdIn
    rw [pos_eq l hk']
    cases up l <;> rfl

/-- A piece agrees with `G`. -/
abbrev Agrees {sh : Shape} (G : sh.Idx → EReal) (p : View.Piece (Elt Ideal) sh .f32) : Prop :=
  ∀ x : p.1.shape.Idx, p.2 x = G (p.1.emb x)

theorem agrees_cols {off : Fin 3 → ℕ} {p o : ℕ} (e : off = ![p, 0, o]) (hp : p < 256) (ho : o + 64 ≤ 256)
    (inb : ∀ d, off d + (![1, 16, 64] : Fin 3 → ℕ) d ≤ S256x16x256.size d) (w : FVec Ideal S1x16x64 .f32)
    (G : S256x16x256.Idx → EReal)
    (H : ∀ (g : Fin 16) (j : Fin 64), w (ix3 0 g j) = G (ix3 ⟨p, hp⟩ g ⟨o + j.val, by omega⟩)) :
    Agrees G ⟨Rect.unit (s := S256x16x256) off ![1, 16, 64] inb, w⟩ := by
  subst e
  intro x
  have hx : x = ix3 (0 : Fin 1) (x 1) (x 2) := by
    refine (eq_ix3 x).trans ?_
    congr 1
    exact Subsingleton.elim _ _
  show w x = _
  rw [hx]
  refine (H (x 1) (x 2)).trans (congrArg G ?_)
  funext d
  apply Fin.ext
  fin_cases d <;> simp [ix3]

theorem st0_pieces (k : ℕ) (hk : k ≤ k0_t1_loop.trips) :
    ∀ p ∈ (st0 c i arg1 harg1 arg2 harg2 arg3 harg3 arg4 harg4 s a b k).2, Agrees (fwdOut s a b) p := by
  induction k with
  | zero => intro p hp; exact absurd hp List.not_mem_nil
  | succ k ih =>
    have ih := ih (Nat.le_of_succ_le hk)
    have h := st_k0_t1_succ (F := Ideal) Variants.none c none i arg1 harg1 arg2 harg2 arg3 harg3 arg4 harg4
      a b (harg1.unread s) (k0_pay1 (F := Ideal)) ⟨k, hk⟩
    rw [st0, h]
    intro p hp
    rcases List.mem_append.mp hp with hp | hp
    · have hk' : k < 256 := trip_lt0 ⟨k, hk⟩
      have hc := st0_carried c i arg1 harg1 arg2 harg2 arg3 harg3 arg4 harg4 s a b k (Nat.le_of_succ_le hk)
      unfold tripL_k0_t1 trip_k0_t1 at hp
      simp only [List.mem_cons, List.not_mem_nil, or_false] at hp
      rcases hp with rfl | rfl | rfl | rfl
      · refine agrees_cols (k0_off4_eq ⟨k, hk⟩) (show 255 - k < 256 by omega) (by omega) _ _ _ fun g j => ?_
        pointwise [k0_pay5]
        exact (hc _ _).trans (fwdOut_down s a b hk' g _ (by simp [up]; omega)).symm
      · refine agrees_cols (k0_off3_eq ⟨k, hk⟩) hk' (by omega) _ _ _ fun g j => ?_
        pointwise [k0_pay4]
        exact (hc _ _).trans (fwdOut_up s a b hk' g _ (by simp [up]; omega)).symm
      · refine agrees_cols (k0_off2_eq ⟨k, hk⟩) (show 255 - k < 256 by omega) (by omega) _ _ _ fun g j => ?_
        pointwise [k0_pay3]
        exact (hc _ _).trans (fwdOut_down s a b hk' g _ (by simp [up]; omega)).symm
      · refine agrees_cols (k0_off1_eq ⟨k, hk⟩) hk' (by omega) _ _ _ fun g j => ?_
        pointwise [k0_pay2]
        refine (hc _ _).trans (Eq.trans (fwdOut_up s a b hk' g _ (by simp [up]; omega)).symm ?_)
        congr 2
    · exact ih p hp

/-- The forward scan's output block. -/
theorem out0_eq : out0_A_3 (F := Ideal) c i arg1 harg1 arg2 harg2 arg3 harg3 arg4 harg4 s a b = fwdOut s a b := by
  funext y
  refine View.read_writes_apply_of_pieces _ _ (fwdOut s a b) _ ?_ y (cover0_A_3 (F := Ideal) c i arg1 harg1 arg2 harg2 arg3 harg3 arg4 harg4 s a b y)
  unfold kernelRun0_A
  try dsimp only
  sl_unfold_run_names
  rw [load_cols, load_cols]
  exact st0_pieces c i arg1 harg1 arg2 harg2 arg3 harg3 arg4 harg4 s a b _ (le_refl _)
end
end Cert.KernelIdeal.Scan
-- ==== Proof.Block1.lean ====
/- What the adjoint scan's body leaves in its three output blocks. -/
module

public import proofs.«01_k».proof.Proof.Block0

@[expose] public section

set_option maxRecDepth 16384

noncomputable section

namespace Cert.KernelIdeal.Scan

open Cert.KernelIdeal Cert.KernelIdeal.Gen Cert.Scan
open Idealize.ShloMosaic Idealize.ShloMosaic.TcCoe Idealize.ShloMosaic.Tactic Idealize.SL.Sem

theorem k1_pay4_apply (y : S16x256.Idx) : k1_pay4 (F := Ideal) y = 0 := by
  idx_vars y
  pointwise [k1_pay4]

theorem k1_pay1_eq (a : FVec Ideal S16x256 .f32) : k1_pay1 a = a := by
  funext y
  idx_vars y
  pointwise [k1_pay1]

theorem k1_pay2_eq (a : FVec Ideal S16x256 .f32) : k1_pay2 a = a := by
  funext y
  idx_vars y
  pointwise [k1_pay2]

theorem k1_pay10_apply (p q : FVec Ideal S1x16x256 .f32) (g : Fin 16) (l : Fin 256) :
    k1_pay10 (F := Ideal) k1_pay3 p q (ix2 g l) = if up l then p (ix3 0 g l) else q (ix3 0 g l) := by
  have hm := mask_apply g l
  rw [← select_mask, ← hm]
  pointwise [k1_pay10, k1_pay3]

/-- The adjoint's running sums at an element. -/
theorem k1_pay11_apply (x y : FVec Ideal S16x256 .f32) (p q : FVec Ideal S1x16x256 .f32) (g : Fin 16) (l : Fin 256) :
    k1_pay11 (F := Ideal) k1_pay3 x y p q (ix2 g l)
      = y (ix2 g l) + x (ix2 g l) * if up l then p (ix3 0 g l) else q (ix3 0 g l) := by
  rw [← k1_pay10_apply]
  pointwise [k1_pay11]

theorem k1_pay12_apply (x y : FVec Ideal S16x256 .f32) (p q : FVec Ideal S1x16x256 .f32) (g : Fin 16) (l : Fin 256) :
    k1_pay12 (F := Ideal) k1_pay3 x y p q (ix2 g l)
      = y (ix2 g l) + x (ix2 g l) * if up l then p (ix3 0 g (swap l)) else q (ix3 0 g (swap l)) := by
  rw [← up_swap, ← k1_pay10_apply]
  rw [← dite_swap (fun l' => k1_pay10 (F := Ideal) k1_pay3 p q (ix2 g l'))]
  unfold k1_pay12
  generalize k1_pay10 (F := Ideal) k1_pay3 p q = z
  pointwise

/-- One step of the adjoint scan at an element. -/
theorem k1_pay5_apply (a b x : FVec Ideal S16x256 .f32) (p q : FVec Ideal S1x16x256 .f32) (g : Fin 16) (l : Fin 256) :
    k1_pay5 (F := Ideal) (k1_pay13 a b x) p q (ix2 g l)
      = a (ix2 g l) * x (ix2 g l) + b (ix2 g l) * x (ix2 g (swap l)) + if up l then p (ix3 0 g l) else q (ix3 0 g l) := by
  have hm := mask_apply g l
  rw [← select_mask, ← hm]
  pointwise [k1_pay5, k1_pay13, k1_pay3]
  rw [dite_swap (fun l' => x (ix2 g l'))]

theorem trip_lt1 (k : Fin k1_t1_loop.trips) : k.val < 256 := Nat.lt_of_lt_of_le k.isLt k1_t1_abs.2.1

/-- The adjoint scan's inputs at batch row `g` of a block. -/
def adjIn (d : FVec Ideal S256x16x256 .f32) (g : Fin 16) (k : ℕ) (l : Fin 256) : EReal := d (ix3 (rpos l k) g l)

/-- The adjoint scan of a block, at batch row `g`. -/
def adj (d : FVec Ideal S256x16x256 .f32) (a b : FVec Ideal S16x256 .f32) (g : Fin 16) (k : ℕ) (l : Fin 256) : EReal :=
  lscan (fun l => a (ix2 g l)) (fun l => b (ix2 g l)) (adjIn d g) k l

/-- The output block: every position's adjoint. -/
def adjOut (d : FVec Ideal S256x16x256 .f32) (a b : FVec Ideal S16x256 .f32) (y : S256x16x256.Idx) : EReal :=
  adj d a b (y 1) (rstepAt (y 2) (y 0)) (y 2)

/-- The running sum of adjoint times state, lane on lane. -/
def sumA (d x : FVec Ideal S256x16x256 .f32) (a b : FVec Ideal S16x256 .f32) (g : Fin 16) (l : Fin 256) : ℕ → EReal :=
  total fun k => adj d a b g k l * adjIn x g k l

/-- The running sum of adjoint times state, lane on the other part's lane. -/
def sumB (d x : FVec Ideal S256x16x256 .f32) (a b : FVec Ideal S16x256 .f32) (g : Fin 16) (l : Fin 256) : ℕ → EReal :=
  total fun k => adj d a b g k l * adjIn x g k (swap l)

theorem adjOut_up (d : FVec Ideal S256x16x256 .f32) (a b : FVec Ideal S16x256 .f32) {k : ℕ} (hk : k < 256) (g : Fin 16)
    (l : Fin 256) (hl : up l = true) : adjOut d a b (ix3 ⟨255 - k, by omega⟩ g l) = adj d a b g k l := by
  show adj d a b g (rstepAt l ⟨255 - k, by omega⟩) l = _
  unfold rstepAt
  rw [if_pos hl]
  congr 1
  show 255 - (255 - k) = k
  omega

theorem adjOut_down (d : FVec Ideal S256x16x256 .f32) (a b : FVec Ideal S16x256 .f32) {k : ℕ} (hk : k < 256) (g : Fin 16)
    (l : Fin 256) (hl : up l = false) : adjOut d a b (ix3 ⟨k, hk⟩ g l) = adj d a b g k l := by
  show adj d a b g (rstepAt l ⟨k, hk⟩) l = _
  unfold rstepAt
  rw [if_neg (by simp [hl])]

theorem adjIn_eq (x : FVec Ideal S256x16x256 .f32) (g : Fin 16) {k : ℕ} (hk : k < 256) (l : Fin 256) :
    adjIn x g k l = if up l then x (ix3 ⟨255 - k, by omega⟩ g l) else x (ix3 ⟨k, hk⟩ g l) := by
  unfold adjIn
  rw [rpos_eq' l hk]
  cases up l <;> rfl

section
variable (c : Dev nD) (i : grid1.Coords) (arg1 : Memref sig .tc .vmem S256x16x256 .f32) (harg1 : arg1.IsWhole)
  (arg2 : Memref sig .tc .vmem S16x256 .f32) (harg2 : arg2.IsWhole) (arg3 : Memref sig .tc .vmem S16x256 .f32)
  (harg3 : arg3.IsWhole) (arg4 : Memref sig .tc .vmem S256x16x256 .f32) (harg4 : arg4.IsWhole)
  (arg5 : Memref sig .tc .vmem S256x16x256 .f32) (harg5 : arg5.IsWhole)
  (arg6 : Memref sig .tc .vmem S16x256 .f32) (harg6 : arg6.IsWhole)
  (arg7 : Memref sig .tc .vmem S16x256 .f32) (harg7 : arg7.IsWhole)
  (d x : FVec Ideal S256x16x256 .f32) (a b : FVec Ideal S16x256 .f32)

/-- The state before trip `k` of the run on the block. -/
abbrev st1 (k : ℕ) := st_k1_t1 (F := Ideal) Variants.none c none i arg1 harg1 arg2 harg2 arg3 harg3 arg4 harg4 arg5 harg5
  arg6 harg6 arg7 harg7 a b (harg1.unread d) (harg4.unread x) (k1_pay4 (F := Ideal), k1_pay4 (F := Ideal), k1_pay4 (F := Ideal)) k

theorem st1_carried (k : ℕ) (hk : k ≤ k1_t1_loop.trips) (g : Fin 16) :
    (∀ l, (st1 c i arg1 harg1 arg2 harg2 arg3 harg3 arg4 harg4 arg5 harg5 arg6 harg6 arg7 harg7 d x a b k).1.1 (ix2 g l)
        = adj d a b g k l)
    ∧ (∀ l, (st1 c i arg1 harg1 arg2 harg2 arg3 harg3 arg4 harg4 arg5 harg5 arg6 harg6 arg7 harg7 d x a b k).1.2.1 (ix2 g l)
        = sumA d x a b g l k)
    ∧ (∀ l, (st1 c i arg1 harg1 arg2 harg2 arg3 harg3 arg4 harg4 arg5 harg5 arg6 harg6 arg7 harg7 d x a b k).1.2.2 (ix2 g l)
        = sumB d x a b g l k) := by
  induction k with
  | zero => exact ⟨fun l => (k1_pay4_apply (ix2 g l)).trans rfl, fun l => (k1_pay4_apply (ix2 g l)).trans rfl,
      fun l => (k1_pay4_apply (ix2 g l)).trans rfl⟩
  | succ k ih =>
    obtain ⟨ih1, ih2, ih3⟩ := ih (Nat.le_of_succ_le hk)
    have h := st_k1_t1_succ (F := Ideal) Variants.none c none i arg1 harg1 arg2 harg2 arg3 harg3 arg4 harg4 arg5 harg5
      arg6 harg6 arg7 harg7 a b (harg1.unread d) (harg4.unread x)
      (k1_pay4 (F := Ideal), k1_pay4 (F := Ideal), k1_pay4 (F := Ideal)) ⟨k, hk⟩
    have hk' : k < 256 := trip_lt1 ⟨k, hk⟩
    rw [st1, h]
    unfold tripR_k1_t1 trip_k1_t1
    dsimp only
    sl_unfold_run_names
    dsimp only
    refine ⟨fun l => ?_, fun l => ?_, fun l => ?_⟩
    · rw [k1_pay1_eq, k1_pay2_eq, k1_pay5_apply, load_row (k1_off5_eq ⟨k, hk⟩) (show 255 - k < 256 by omega),
        load_row (k1_off6_eq ⟨k, hk⟩) hk', ih1, ih1, ← adjIn_eq d g hk' l]
      rfl
    · rw [k1_pay11_apply, load_row (k1_off5_eq ⟨k, hk⟩) (show 255 - k < 256 by omega),
        load_row (k1_off6_eq ⟨k, hk⟩) hk', ih1, ih2, ← adjIn_eq x g hk' l]
      rfl
    · rw [k1_pay12_apply, load_row (k1_off5_eq ⟨k, hk⟩) (show 255 - k < 256 by omega),
        load_row (k1_off6_eq ⟨k, hk⟩) hk', ih1, ih3, ← up_swap l, ← adjIn_eq x g hk' (swap l)]
      rfl

theorem st1_pieces (k : ℕ) (hk : k ≤ k1_t1_loop.trips) :
    ∀ p ∈ (st1 c i arg1 harg1 arg2 harg2 arg3 harg3 arg4 harg4 arg5 harg5 arg6 harg6 arg7 harg7 d x a b k).2,
      Agrees (adjOut d a b) p := by
  induction k with
  | zero => intro p hp; exact absurd hp List.not_mem_nil
  | succ k ih =>
    have ih := ih (Nat.le_of_succ_le hk)
    have h := st_k1_t1_succ (F := Ideal) Variants.none c none i arg1 harg1 arg2 harg2 arg3 harg3 arg4 harg4 arg5 harg5
      arg6 harg6 arg7 harg7 a b (harg1.unread d) (harg4.unread x)
      (k1_pay4 (F := Ideal), k1_pay4 (F := Ideal), k1_pay4 (F := Ideal)) ⟨k, hk⟩
    rw [st1, h]
    intro p hp
    rcases List.mem_append.mp hp with hp | hp
    · have hk' : k < 256 := trip_lt1 ⟨k, hk⟩
      have hc := fun g => (st1_carried c i arg1 harg1 arg2 harg2 arg3 harg3 arg4 harg4 arg5 harg5 arg6 harg6 arg7 harg7 d x
        a b k (Nat.le_of_succ_le hk) g).1
      unfold tripL_k1_t1 trip_k1_t1 at hp
      simp only [List.mem_cons, List.not_mem_nil, or_false] at hp
      rcases hp with rfl | rfl | rfl | rfl
      · refine agrees_cols (k1_off4_eq ⟨k, hk⟩) hk' (by omega) _ _ _ fun g j => ?_
        pointwise [k1_pay9]
        exact (hc _ _).trans (adjOut_down d a b hk' g _ (by simp [up]; omega)).symm
      · refine agrees_cols (k1_off3_eq ⟨k, hk⟩) (show 255 - k < 256 by omega) (by omega) _ _ _ fun g j => ?_
        pointwise [k1_pay8]
        exact (hc _ _).trans (adjOut_up d a b hk' g _ (by simp [up]; omega)).symm
      · refine agrees_cols (k1_off2_eq ⟨k, hk⟩) hk' (by omega) _ _ _ fun g j => ?_
        pointwise [k1_pay7]
        exact (hc _ _).trans (adjOut_down d a b hk' g _ (by simp [up]; omega)).symm
      · refine agrees_cols (k1_off1_eq ⟨k, hk⟩) (show 255 - k < 256 by omega) (by omega) _ _ _ fun g j => ?_
        pointwise [k1_pay6]
        refine (hc _ _).trans (Eq.trans (adjOut_up d a b hk' g _ (by simp [up]; omega)).symm ?_)
        congr 2
    · exact ih p hp

/-- The first output block: the adjoints. -/
theorem out1_4_eq : out1_A_4 (F := Ideal) c i arg1 harg1 arg2 harg2 arg3 harg3 arg4 harg4 arg5 harg5 arg6 harg6 arg7 harg7
    d a b x = adjOut d a b := by
  funext y
  refine View.read_writes_apply_of_pieces _ _ (adjOut d a b) _ ?_ y (cover1_A_4 (F := Ideal) c i arg1 harg1 arg2 harg2 arg3 harg3 arg4 harg4 arg5 harg5 arg6 harg6 arg7 harg7 d a b x y)
  unfold kernelRun1_A
  try dsimp only
  sl_unfold_run_names
  rw [load_cols, load_cols]
  exact st1_pieces c i arg1 harg1 arg2 harg2 arg3 harg3 arg4 harg4 arg5 harg5 arg6 harg6 arg7 harg7 d x a b _ (le_refl _)

theorem agrees_whole (w : FVec Ideal S16x256 .f32) (G : S16x256.Idx → EReal) (H : ∀ y, w y = G y) :
    Agrees G ⟨Rect.unit (s := S16x256) ![0, 0] ![16, 256] inb_S16x256_S16x256_0_0, w⟩ := by
  intro x
  refine (H x).trans (congrArg G ?_)
  funext d
  apply Fin.ext
  fin_cases d <;> simp

theorem trips1 : k1_t1_loop.trips = 256 := by decide +kernel

/-- The second output block: the sums lane on lane. -/
theorem out1_5_eq (g : Fin 16) (l : Fin 256) : out1_A_5 (F := Ideal) c i arg1 harg1 arg2 harg2 arg3 harg3 arg4 harg4 arg5 harg5
    arg6 harg6 arg7 harg7 d a b x (ix2 g l) = sumA d x a b g l 256 := by
  refine View.read_writes_apply_of_pieces _ _ (fun y => sumA d x a b (y 0) (y 1) 256) _ ?_ (ix2 g l)
    (cover1_A_5 (F := Ideal) c i arg1 harg1 arg2 harg2 arg3 harg3 arg4 harg4 arg5 harg5 arg6 harg6 arg7 harg7 d a b x _)
  unfold kernelRun1_A
  try dsimp only
  sl_unfold_run_names
  rw [load_cols, load_cols]
  intro p hp
  rcases List.mem_singleton.mp hp with rfl
  refine agrees_whole _ (fun y => sumA d x a b (y 0) (y 1) 256) fun y => ?_
  obtain ⟨g, l, rfl⟩ : ∃ (g : Fin 16) (l : Fin 256), y = ix2 g l := ⟨y 0, y 1, eq_ix2 y⟩
  have h := (st1_carried c i arg1 harg1 arg2 harg2 arg3 harg3 arg4 harg4 arg5 harg5 arg6 harg6 arg7 harg7 d x a b _
    (le_refl k1_t1_loop.trips) g).2.1 l
  rw [trips1] at h
  exact h

/-- The third output block: the sums on the other part's lane. -/
theorem out1_6_eq (g : Fin 16) (l : Fin 256) : out1_A_6 (F := Ideal) c i arg1 harg1 arg2 harg2 arg3 harg3 arg4 harg4 arg5 harg5
    arg6 harg6 arg7 harg7 d a b x (ix2 g l) = sumB d x a b g l 256 := by
  refine View.read_writes_apply_of_pieces _ _ (fun y => sumB d x a b (y 0) (y 1) 256) _ ?_ (ix2 g l)
    (cover1_A_6 (F := Ideal) c i arg1 harg1 arg2 harg2 arg3 harg3 arg4 harg4 arg5 harg5 arg6 harg6 arg7 harg7 d a b x _)
  unfold kernelRun1_A
  try dsimp only
  sl_unfold_run_names
  rw [load_cols, load_cols]
  intro p hp
  rcases List.mem_singleton.mp hp with rfl
  refine agrees_whole _ (fun y => sumB d x a b (y 0) (y 1) 256) fun y => ?_
  obtain ⟨g, l, rfl⟩ : ∃ (g : Fin 16) (l : Fin 256), y = ix2 g l := ⟨y 0, y 1, eq_ix2 y⟩
  have h := (st1_carried c i arg1 harg1 arg2 harg2 arg3 harg3 arg4 harg4 arg5 harg5 arg6 harg6 arg7 harg7 d x a b _
    (le_refl k1_t1_loop.trips) g).2.2 l
  rw [trips1] at h
  exact h

end

end Cert.KernelIdeal.Scan
-- ==== Proof.Arrays.lean ====
/- The scans over the whole arrays, and what each region leaves in its output arrays. -/
module

public import proofs.«01_k».proof.Proof.Block1
public import Idealize.ShloMosaic.Lib.Pipeline.ValueKit

@[expose] public section

set_option maxRecDepth 16384

noncomputable section

namespace Cert.Scan

open Idealize.ShloMosaic

/-- Positions × batch × lanes. -/
abbrev Pos : Shape := ⟨3, ![256, 64, 256]⟩
/-- Batch × lanes. -/
abbrev Col : Shape := ⟨2, ![64, 256]⟩

/-- The forward scan of whole arrays at batch row `g`. -/
def fwdAt (s : Pos.Idx → EReal) (a b : Col.Idx → EReal) (g : Fin 64) (k : ℕ) (l : Fin 256) : EReal :=
  lscan (fun l => a (ix2 g l)) (fun l => b (ix2 g l)) (fun k l => s (ix3 (pos l k) g l)) k l

/-- The adjoint scan of whole arrays at batch row `g`. -/
def adjAt (d : Pos.Idx → EReal) (a b : Col.Idx → EReal) (g : Fin 64) (k : ℕ) (l : Fin 256) : EReal :=
  lscan (fun l => a (ix2 g l)) (fun l => b (ix2 g l)) (fun k l => d (ix3 (rpos l k) g l)) k l

/-- Every position's state. -/
def fwdArr (s : Pos.Idx → EReal) (a b : Col.Idx → EReal) (y : Pos.Idx) : EReal :=
  fwdAt s a b (y 1) (stepAt (y 2) (y 0)) (y 2)

/-- Every position's adjoint. -/
def adjArr (d : Pos.Idx → EReal) (a b : Col.Idx → EReal) (y : Pos.Idx) : EReal :=
  adjAt d a b (y 1) (rstepAt (y 2) (y 0)) (y 2)

/-- Adjoint times state, summed over the steps. -/
def sumAArr (d x : Pos.Idx → EReal) (a b : Col.Idx → EReal) (y : Col.Idx) : EReal :=
  total (fun k => adjAt d a b (y 0) k (y 1) * x (ix3 (rpos (y 1) k) (y 0) (y 1))) 256

/-- Adjoint times the state's other part, summed over the steps. -/
def sumBArr (d x : Pos.Idx → EReal) (a b : Col.Idx → EReal) (y : Col.Idx) : EReal :=
  total (fun k => adjAt d a b (y 0) k (y 1) * x (ix3 (rpos (swap (y 1)) k) (y 0) (swap (y 1)))) 256

end Cert.Scan

namespace Cert.KernelIdeal.Scan

open Cert.KernelIdeal Cert.KernelIdeal.Gen Cert.Scan
open Idealize.ShloMosaic Idealize.ShloMosaic.TcCoe Idealize.ShloMosaic.Tactic Idealize.SL.Sem

variable (V : (c : Dev nD) → (b : Ref sig .tc) → Buf (Elt Ideal) ((c : Thread nD τ).loc b)) (c : Dev nD)

theorem N0 (t : Fin cfg0.grid.N) : t.val < 4 := t.isLt

/-- Batch row `g` of block `t`. -/
def row (t : Fin 4) (g : Fin 16) : Fin 64 := ⟨t.val * 16 + g.val, by omega⟩

theorem index0_0 : ∀ t : Fin grid0.N, win0_0.index t = ![0, t.val, 0] := by decide +kernel
theorem index0_1 : ∀ t : Fin grid0.N, win0_1.index t = ![t.val, 0] := by decide +kernel
theorem index0_2 : ∀ t : Fin grid0.N, win0_2.index t = ![t.val, 0] := by decide +kernel
theorem index0_3 : ∀ t : Fin grid0.N, win0_3.index t = ![0, t.val, 0] := by decide +kernel

theorem iblk0_0 (t : Fin cfg0.grid.N) (p : Fin 256) (g : Fin 16) (l : Fin 256) :
    iblk0 V c 0 t (ix3 p g l) = V c main_arg0 (ix3 p (row t g) l) := by
  blk_simp [iblk0]
  congr 1
  funext d
  apply Fin.ext
  fin_cases d <;> simp [ix3, row, index0_0]

theorem iblk0_1 (t : Fin cfg0.grid.N) (g : Fin 16) (l : Fin 256) :
    iblk0 V c 1 t (ix2 g l) = V c main_v8 (ix2 (row t g) l) := by
  blk_simp [iblk0]
  congr 1
  funext d
  apply Fin.ext
  fin_cases d <;> simp [ix2, row, index0_1]

theorem iblk0_2 (t : Fin cfg0.grid.N) (g : Fin 16) (l : Fin 256) :
    iblk0 V c 2 t (ix2 g l) = V c main_v19 (ix2 (row t g) l) := by
  blk_simp [iblk0]
  congr 1
  funext d
  apply Fin.ext
  fin_cases d <;> simp [ix2, row, index0_2]

theorem index1_0 : ∀ t : Fin grid1.N, win1_0.index t = ![0, t.val, 0] := by decide +kernel
theorem index1_1 : ∀ t : Fin grid1.N, win1_1.index t = ![t.val, 0] := by decide +kernel
theorem index1_2 : ∀ t : Fin grid1.N, win1_2.index t = ![t.val, 0] := by decide +kernel
theorem index1_3 : ∀ t : Fin grid1.N, win1_3.index t = ![0, t.val, 0] := by decide +kernel
theorem index1_4 : ∀ t : Fin grid1.N, win1_4.index t = ![0, t.val, 0] := by decide +kernel
theorem index1_5 : ∀ t : Fin grid1.N, win1_5.index t = ![t.val, 0] := by decide +kernel
theorem index1_6 : ∀ t : Fin grid1.N, win1_6.index t = ![t.val, 0] := by decide +kernel

theorem iblk1_0 (t : Fin cfg1.grid.N) (p : Fin 256) (g : Fin 16) (l : Fin 256) :
    iblk1 V c 0 t (ix3 p g l) = V c main_arg3 (ix3 p (row t g) l) := by
  blk_simp [iblk1]
  congr 1
  funext d
  apply Fin.ext
  fin_cases d <;> simp [ix3, row, index1_0]

theorem iblk1_1 (t : Fin cfg1.grid.N) (g : Fin 16) (l : Fin 256) :
    iblk1 V c 1 t (ix2 g l) = V c main_v8 (ix2 (row t g) l) := by
  blk_simp [iblk1]
  congr 1
  funext d
  apply Fin.ext
  fin_cases d <;> simp [ix2, row, index1_1]

theorem iblk1_2 (t : Fin cfg1.grid.N) (g : Fin 16) (l : Fin 256) :
    iblk1 V c 2 t (ix2 g l) = V c main_v21 (ix2 (row t g) l) := by
  blk_simp [iblk1]
  congr 1
  funext d
  apply Fin.ext
  fin_cases d <;> simp [ix2, row, index1_2]

theorem iblk1_3 (t : Fin cfg1.grid.N) (p : Fin 256) (g : Fin 16) (l : Fin 256) :
    iblk1 V c 3 t (ix3 p g l) = V c main_v20 (ix3 p (row t g) l) := by
  blk_simp [iblk1]
  congr 1
  funext d
  apply Fin.ext
  fin_cases d <;> simp [ix3, row, index1_3]

/-- What the first region leaves: the forward scan's states. -/
theorem region0 : (dat0 V c).arrAt 3 cfg0.N = fwdArr (V c main_arg0) (V c main_v8) (V c main_v19) := by
  refine (dat0 V c).arrAt_eq_of_covers 3 _ (by decide +kernel) fun t hf y => ?_
  blk_simp
  rw [after0_3]
  unfold outsAt0
  rw [out0_eq]
  obtain ⟨p, g, l, rfl⟩ : ∃ (p : Fin 256) (g : Fin 16) (l : Fin 256), y = ix3 p g l := ⟨y 0, y 1, y 2, eq_ix3 y⟩
  have he : (win0_3.blk t).view.emb (ix3 p g l) = ix3 p (row t g) l := by
    funext d
    apply Fin.ext
    blk_simp [index0_3]
    fin_cases d <;> simp [ix3, row]
  rw [he]
  show fwd _ _ _ g (stepAt l p) l = fwdAt _ _ _ (row t g) (stepAt l p) l
  unfold fwd fwdAt fwdIn
  simp only [iblk0_0, iblk0_1, iblk0_2]

theorem adj_block (t : Fin cfg1.grid.N) (g : Fin 16) (k : ℕ) (l : Fin 256) :
    adj (iblk1 V c 0 t) (iblk1 V c 1 t) (iblk1 V c 2 t) g k l
      = adjAt (V c main_arg3) (V c main_v8) (V c main_v21) (row t g) k l := by
  unfold adj adjAt adjIn
  simp only [iblk1_0, iblk1_1, iblk1_2]

/-- What the second region leaves: the adjoints, … -/
theorem region1_4 : (dat1 V c).arrAt 4 cfg1.N = adjArr (V c main_arg3) (V c main_v8) (V c main_v21) := by
  refine (dat1 V c).arrAt_eq_of_covers 4 _ (by decide +kernel) fun t hf y => ?_
  blk_simp
  rw [after1_4]
  unfold outsAt1
  dsimp only
  rw [out1_4_eq]
  obtain ⟨p, g, l, rfl⟩ : ∃ (p : Fin 256) (g : Fin 16) (l : Fin 256), y = ix3 p g l := ⟨y 0, y 1, y 2, eq_ix3 y⟩
  have he : (win1_4.blk t).view.emb (ix3 p g l) = ix3 p (row t g) l := by
    funext d
    apply Fin.ext
    blk_simp [index1_4]
    fin_cases d <;> simp [ix3, row]
  rw [he]
  exact adj_block V c t g (rstepAt l p) l

/-- … the sums of adjoint times state, … -/
theorem region1_5 : (dat1 V c).arrAt 5 cfg1.N
    = sumAArr (V c main_arg3) (V c main_v20) (V c main_v8) (V c main_v21) := by
  refine (dat1 V c).arrAt_eq_of_covers 5 _ (by decide +kernel) fun t hf y => ?_
  blk_simp
  rw [after1_5]
  unfold outsAt1
  dsimp only
  obtain ⟨g, l, rfl⟩ : ∃ (g : Fin 16) (l : Fin 256), y = ix2 g l := ⟨y 0, y 1, eq_ix2 y⟩
  have he : (win1_5.blk t).view.emb (ix2 g l) = ix2 (row t g) l := by
    funext d
    apply Fin.ext
    blk_simp [index1_5]
    fin_cases d <;> simp [ix2, row]
  rw [he]
  refine (out1_5_eq _ _ _ _ _ _ _ _ _ _ _ _ _ _ _ _ _ _ _ _ g l).trans ?_
  unfold sumA sumAArr adjIn
  simp only [adj_block, iblk1_3]
  rfl

/-- … and the sums of adjoint times the state's other part. -/
theorem region1_6 : (dat1 V c).arrAt 6 cfg1.N
    = sumBArr (V c main_arg3) (V c main_v20) (V c main_v8) (V c main_v21) := by
  refine (dat1 V c).arrAt_eq_of_covers 6 _ (by decide +kernel) fun t hf y => ?_
  blk_simp
  rw [after1_6]
  unfold outsAt1
  dsimp only
  obtain ⟨g, l, rfl⟩ : ∃ (g : Fin 16) (l : Fin 256), y = ix2 g l := ⟨y 0, y 1, eq_ix2 y⟩
  have he : (win1_6.blk t).view.emb (ix2 g l) = ix2 (row t g) l := by
    funext d
    apply Fin.ext
    blk_simp [index1_6]
    fin_cases d <;> simp [ix2, row]
  rw [he]
  refine (out1_6_eq _ _ _ _ _ _ _ _ _ _ _ _ _ _ _ _ _ _ _ _ g l).trans ?_
  unfold sumB sumBArr adjIn
  simp only [adj_block, iblk1_3]
  rfl

end Cert.KernelIdeal.Scan
-- ==== Proof.RInv.lean ====
/- The reference's two loops, step by step: the forward scan and the adjoint scan of the whole arrays. -/
module

public import proofs.«01_k».proof.Proof.RVal1
public import proofs.«01_k».proof.Proof.Arrays

@[expose] public section

set_option maxRecDepth 16384

noncomputable section

namespace Cert.ReferenceIdeal.Scan

open Cert.ReferenceIdeal Cert.ReferenceIdeal.Gen Cert.Scan
open Idealize.ShloMosaic Idealize.ShloMosaic.TcCoe Idealize.ShloMosaic.Tactic Idealize.SL.Sem
open Idealize.ShloMosaic.StableHlo

variable (m : (ℓ : Loc nD τ sig) → Buf (Elt Ideal) ℓ) (c : Dev nD)

/-- The four arguments. -/
abbrev argS : S256x64x256.Idx → EReal := launchContents m c (Proc.devRef .tc main_arg0)
abbrev argRe : S64x2x64.Idx → EReal := launchContents m c (Proc.devRef .tc main_arg1)
abbrev argIm : S64x2x64.Idx → EReal := launchContents m c (Proc.devRef .tc main_arg2)
abbrev argD : S256x64x256.Idx → EReal := launchContents m c (Proc.devRef .tc main_arg3)

theorem iv_word (k : ℕ) : Scf.iv 0#32 1#32 k = BitVec.ofNat 32 k := by
  induction k with
  | zero => rfl
  | succ k ih => rw [Scf.iv_succ, ih]; apply BitVec.eq_of_toNat_eq; simp

theorem at0_word (k : ℕ) : at0 m k c (Proc.devRef .tc main_v25_5) = word k := by rw [at0_ctr, iv_word]; rfl
theorem at1_word (k : ℕ) : at1 m k c (Proc.devRef .tc main_v80_7) = word k := by rw [at1_ctr, iv_word]; rfl

/-- What a trip leaves alone. -/
theorem body0_keep {r : Ref sig .tc} (V : Valuation τ sig (Elt Ideal)) (h : r ∉ cond0_W ++ b0_0_W ++ b0_1_W ++ b0_2_W ++ b0_3_W ++ b0_4_W ++ b0_5_W) :
    afterL body0I (after cond0 V) (Proc.devRef .tc r) = V (Proc.devRef .tc r) := by
  simp only [afterL_cons, afterL_nil]
  exact keep0_7 V h
theorem body1_keep {r : Ref sig .tc} (V : Valuation τ sig (Elt Ideal)) (h : r ∉ cond1_W ++ b1_0_W ++ b1_1_W ++ b1_2_W ++ b1_3_W ++ b1_4_W ++ b1_5_W ++ b1_6_W ++ b1_7_W ++ b1_8_W) :
    afterL body1I (after cond1 V) (Proc.devRef .tc r) = V (Proc.devRef .tc r) := by
  simp only [afterL_cons, afterL_nil]
  exact keep1_10 V h

theorem at0_keep {r : Ref sig .tc} (h : r ∉ cond0_W ++ b0_0_W ++ b0_1_W ++ b0_2_W ++ b0_3_W ++ b0_4_W ++ b0_5_W) :
    ∀ k, at0 m k c (Proc.devRef .tc r) = entry0 m c (Proc.devRef .tc r)
  | 0 => rfl
  | k + 1 => by rw [at0_succ, body0_keep _ h, at0_keep h k]
theorem at1_keep {r : Ref sig .tc} (h : r ∉ cond1_W ++ b1_0_W ++ b1_1_W ++ b1_2_W ++ b1_3_W ++ b1_4_W ++ b1_5_W ++ b1_6_W ++ b1_7_W ++ b1_8_W) :
    ∀ k, at1 m k c (Proc.devRef .tc r) = entry1 m c (Proc.devRef .tc r)
  | 0 => rfl
  | k + 1 => by rw [at1_succ, body1_keep _ h, at1_keep h k]

theorem exit0_keep {r : Ref sig .tc} (h : r ∉ cond0_W) : exit0 m c (Proc.devRef .tc r) = at0 m 256 c (Proc.devRef .tc r) :=
  after_of_writes_sub cond0 _ cond0_writes h
theorem exit1_keep {r : Ref sig .tc} (h : r ∉ cond1_W) : exit1 m c (Proc.devRef .tc r) = at1 m 256 c (Proc.devRef .tc r) :=
  after_of_writes_sub cond1 _ cond1_writes h
theorem entry0_eq : entry0 m c = after p0_0 (launchContents m c) := rfl
theorem final_eq : final m c = after p2_1 (exit1 m c) := rfl

theorem entry0_keep {r : Ref sig .tc} (h : r ∉ p0_0_W) : entry0 m c (Proc.devRef .tc r) = launchContents m c (Proc.devRef .tc r) :=
  after_of_writes_sub p0_0 _ p0_0_writes h

theorem entry1_keep {r : Ref sig .tc} (h : r ∉ p0_1_W ++ p1_0_W ++ p2_0_W) : entry1 m c (Proc.devRef .tc r) = exit0 m c (Proc.devRef .tc r) := by
  simp only [List.mem_append, not_or] at h
  unfold entry1
  simp only [afterL_cons, afterL_nil]
  rw [after_of_writes_sub p2_0 _ p2_0_writes h.2, after_of_writes_sub p1_0 _ p1_0_writes h.1.2, after_of_writes_sub p0_1 _ p0_1_writes h.1.1]

theorem at0_2 (k : ℕ) (x : S64x2x64.Idx) : A3 (at0 m k c (Proc.devRef .tc main_v25_2)) x = argRe m c x := by
  rw [at0_keep m c (by decide +kernel), entry0_eq]
  exact pre_2 _ x
theorem at0_3 (k : ℕ) (x : S64x2x64.Idx) : A3 (at0 m k c (Proc.devRef .tc main_v25_3)) x = -argIm m c x := by
  rw [at0_keep m c (by decide +kernel), entry0_eq]
  exact pre_3 _ x
theorem at0_4 (k : ℕ) (x : S64x2x64.Idx) : A3 (at0 m k c (Proc.devRef .tc main_v25_4)) x = argIm m c x := by
  rw [at0_keep m c (by decide +kernel), entry0_eq]
  exact pre_4 _ x
theorem at0_0 (k : ℕ) (p : Fin 256) (g : Fin 64) (d : Fin 2) (n : Fin 64) :
    A4 (at0 m k c (Proc.devRef .tc main_v25_0)) (ix4 p g d n) = argS m c (ix3 (pos (lane 0 d n) p.val) g (lane 0 d n)) := by
  rw [at0_keep m c (by decide +kernel), entry0_eq]
  exact pre_0 _ p g d n
theorem at0_1 (k : ℕ) (p : Fin 256) (g : Fin 64) (d : Fin 2) (n : Fin 64) :
    A4 (at0 m k c (Proc.devRef .tc main_v25_1)) (ix4 p g d n) = argS m c (ix3 (pos (lane 1 d n) p.val) g (lane 1 d n)) := by
  rw [at0_keep m c (by decide +kernel), entry0_eq]
  exact pre_1 _ p g d n

/-! ## The forward loop -/

section Fwd

variable {a b : Col.Idx → EReal}
  (ha : ∀ g p d n, a (ix2 g (lane p d n)) = argRe m c (ix3 g d n))
  (hb : ∀ g p d n, b (ix2 g (lane p d n)) = if p = 0 then -argIm m c (ix3 g d n) else argIm m c (ix3 g d n))

include ha hb in
/-- Before trip `k` the carried parts are the forward scan's state at step `k`. -/
theorem fwd_state (g : Fin 64) (d : Fin 2) (n : Fin 64) : ∀ k, k ≤ 256 →
    A3 (at0 m k c (Proc.devRef .tc main_v25_6)) (ix3 g d n) = fwdAt (argS m c) a b g k (lane 0 d n)
    ∧ A3 (at0 m k c (Proc.devRef .tc main_v25_7)) (ix3 g d n) = fwdAt (argS m c) a b g k (lane 1 d n)
  | 0, _ => ⟨by rw [at0_zero, entry0_eq]; exact pre_6 _ _, by rw [at0_zero, entry0_eq]; exact pre_7 _ _⟩
  | k + 1, hk => by
    obtain ⟨h6, h7⟩ := fwd_state g d n k (by omega)
    constructor
    · rw [at0_succ, trip0_6 _ ⟨k, by omega⟩ (at0_word m c k), h6, h7, at0_0, at0_2, at0_3]
      unfold fwdAt
      rw [lscan, swap_lane0, ha, hb, if_pos rfl]
    · rw [at0_succ, trip0_7 _ ⟨k, by omega⟩ (at0_word m c k), h6, h7, at0_1, at0_2, at0_4]
      unfold fwdAt
      rw [lscan, swap_lane1, ha, hb, if_neg (by decide)]

include ha hb in
/-- Before trip `k` the stacked states of the earlier steps are in place. -/
theorem fwd_saved (p : Fin 256) (g : Fin 64) (d : Fin 2) (n : Fin 64) : ∀ k, k ≤ 256 → p.val < k →
    A4 (at0 m k c (Proc.devRef .tc main_v25_8)) (ix4 p g d n) = fwdAt (argS m c) a b g p.val (lane 0 d n)
    ∧ A4 (at0 m k c (Proc.devRef .tc main_v25_9)) (ix4 p g d n) = fwdAt (argS m c) a b g p.val (lane 1 d n)
  | 0, _, h => absurd h (by omega)
  | k + 1, hk, hp => by
    obtain ⟨h6, h7⟩ := fwd_state m c ha hb g d n k (by omega)
    rw [at0_succ, trip0_8 _ ⟨k, by omega⟩ (at0_word m c k), trip0_9 _ ⟨k, by omega⟩ (at0_word m c k)]
    by_cases e : p = ⟨k, by omega⟩
    · rw [if_pos e, if_pos e, h6, h7, e]
      exact ⟨rfl, rfl⟩
    · rw [if_neg e, if_neg e]
      exact fwd_saved p g d n k (by omega) (by have : p.val ≠ k := fun h => e (Fin.ext h); omega)

end Fwd

/-! ## The adjoint loop -/

theorem entry1_eq : entry1 m c = afterL midI (exit0 m c) := rfl

theorem exit0_arg {r : Ref sig .tc} (h : r ∉ cond0_W ++ b0_0_W ++ b0_1_W ++ b0_2_W ++ b0_3_W ++ b0_4_W ++ b0_5_W) (h' : r ∉ cond0_W) (h'' : r ∉ p0_0_W) :
    exit0 m c (Proc.devRef .tc r) = launchContents m c (Proc.devRef .tc r) := by
  rw [exit0_keep m c h', at0_keep m c h, entry0_keep m c h'']

theorem at1_4 (k : ℕ) (x : S64x2x64.Idx) : A3 (at1 m k c (Proc.devRef .tc main_v80_4)) x = argRe m c x := by
  rw [at1_keep m c (by decide +kernel), entry1_eq, mid_4]
  rw [exit0_arg m c (r := main_arg1) (by decide +kernel) (by decide +kernel) (by decide +kernel)]
theorem at1_5 (k : ℕ) (x : S64x2x64.Idx) : A3 (at1 m k c (Proc.devRef .tc main_v80_5)) x = -argIm m c x := by
  rw [at1_keep m c (by decide +kernel), entry1_eq, mid_5]
  rw [exit0_keep m c (r := main_v1) (by decide +kernel), at0_keep m c (r := main_v1) (by decide +kernel), entry0_eq]
  exact pre_v1 _ x
theorem at1_6 (k : ℕ) (x : S64x2x64.Idx) : A3 (at1 m k c (Proc.devRef .tc main_v80_6)) x = argIm m c x := by
  rw [at1_keep m c (by decide +kernel), entry1_eq, mid_6]
  rw [exit0_arg m c (r := main_arg2) (by decide +kernel) (by decide +kernel) (by decide +kernel)]
theorem at1_0 (k : ℕ) (p : Fin 256) (g : Fin 64) (d : Fin 2) (n : Fin 64) :
    A4 (at1 m k c (Proc.devRef .tc main_v80_0)) (ix4 p g d n) = argD m c (ix3 (pos (lane 0 d n) p.val) g (lane 0 d n)) := by
  rw [at1_keep m c (by decide +kernel), entry1_eq, mid_0]
  rw [exit0_arg m c (r := main_arg3) (by decide +kernel) (by decide +kernel) (by decide +kernel)]
theorem at1_1 (k : ℕ) (p : Fin 256) (g : Fin 64) (d : Fin 2) (n : Fin 64) :
    A4 (at1 m k c (Proc.devRef .tc main_v80_1)) (ix4 p g d n) = argD m c (ix3 (pos (lane 1 d n) p.val) g (lane 1 d n)) := by
  rw [at1_keep m c (by decide +kernel), entry1_eq, mid_1]
  rw [exit0_arg m c (r := main_arg3) (by decide +kernel) (by decide +kernel) (by decide +kernel)]
theorem at1_2 (k : ℕ) : at1 m k c (Proc.devRef .tc main_v80_2) = at0 m 256 c (Proc.devRef .tc main_v25_8) := by
  rw [at1_keep m c (by decide +kernel), entry1_eq, mid_2, exit0_keep m c (by decide +kernel)]
theorem at1_3 (k : ℕ) : at1 m k c (Proc.devRef .tc main_v80_3) = at0 m 256 c (Proc.devRef .tc main_v25_9) := by
  rw [at1_keep m c (by decide +kernel), entry1_eq, mid_3, exit0_keep m c (by decide +kernel)]

section Adj

variable {a b nb : Col.Idx → EReal} {x : Pos.Idx → EReal}
  (ha : ∀ g p d n, a (ix2 g (lane p d n)) = argRe m c (ix3 g d n))
  (hb : ∀ g p d n, b (ix2 g (lane p d n)) = if p = 0 then -argIm m c (ix3 g d n) else argIm m c (ix3 g d n))
  (hnb : ∀ y, nb y = -b y)
  (hx : ∀ y, x y = fwdArr (argS m c) a b y)

include hb hnb in
theorem nb_lane (g : Fin 64) (p d : Fin 2) (n : Fin 64) :
    nb (ix2 g (lane p d n)) = if p = 0 then argIm m c (ix3 g d n) else -argIm m c (ix3 g d n) := by
  rw [hnb, hb]
  split
  · exact neg_neg _
  · rfl

theorem pos_lane_rpos (p q d : Fin 2) (n : Fin 64) {k : ℕ} (hk : k < 256) : pos (lane p d n) (255 - k) = rpos (lane q d n) k := by
  rw [rpos_eq _ hk]
  unfold pos
  rw [up_lane, up_lane]

include hx in
theorem x_at (g : Fin 64) (p : Fin 2) (d : Fin 2) (n : Fin 64) {k : ℕ} (hk : k < 256) :
    x (ix3 (rpos (lane p d n) k) g (lane p d n)) = fwdAt (argS m c) a b g (255 - k) (lane p d n) := by
  rw [hx]
  show fwdAt (argS m c) a b g (stepAt (lane p d n) (rpos (lane p d n) k)) (lane p d n) = _
  rw [rpos_eq _ hk, stepAt_pos _ (by omega)]

include ha hb hnb in
/-- Before trip `k` the carried adjoint parts are the adjoint scan's state at step `k`. -/
theorem adj_state (g : Fin 64) (d : Fin 2) (n : Fin 64) : ∀ k, k ≤ 256 →
    A3 (at1 m k c (Proc.devRef .tc main_v80_11)) (ix3 g d n) = adjAt (argD m c) a nb g k (lane 0 d n)
    ∧ A3 (at1 m k c (Proc.devRef .tc main_v80_12)) (ix3 g d n) = adjAt (argD m c) a nb g k (lane 1 d n)
  | 0, _ => ⟨by rw [at1_zero, entry1_eq]; exact mid_11 _ _, by rw [at1_zero, entry1_eq]; exact mid_12 _ _⟩
  | k + 1, hk => by
    obtain ⟨h11, h12⟩ := adj_state g d n k (by omega)
    constructor
    · rw [at1_succ, trip1_11 _ k (by omega) (at1_word m c k), h11, h12, at1_0, at1_4, at1_6]
      unfold adjAt
      rw [lscan, swap_lane0, ha, nb_lane m c hb hnb, if_pos rfl, pos_lane_rpos 0 0 d n (by omega)]
      ac_rfl
    · rw [at1_succ, trip1_12 _ k (by omega) (at1_word m c k), h11, h12, at1_1, at1_4, at1_5]
      unfold adjAt
      rw [lscan, swap_lane1, ha, nb_lane m c hb hnb, if_neg (by decide), pos_lane_rpos 1 1 d n (by omega)]
      ac_rfl

include ha hb hnb in
/-- Before trip `k` the stacked adjoints of the earlier steps are in place. -/
theorem adj_saved (p : Fin 256) (g : Fin 64) (d : Fin 2) (n : Fin 64) : ∀ k, k ≤ 256 → 255 - p.val < k →
    A4 (at1 m k c (Proc.devRef .tc main_v80_13)) (ix4 p g d n) = adjAt (argD m c) a nb g (255 - p.val) (lane 0 d n)
    ∧ A4 (at1 m k c (Proc.devRef .tc main_v80_14)) (ix4 p g d n) = adjAt (argD m c) a nb g (255 - p.val) (lane 1 d n)
  | 0, _, h => absurd h (by omega)
  | k + 1, hk, hp => by
    obtain ⟨h11, h12⟩ := adj_state m c ha hb hnb g d n k (by omega)
    rw [at1_succ, trip1_13 _ k (by omega) (at1_word m c k), trip1_14 _ k (by omega) (at1_word m c k)]
    by_cases e : p = ⟨255 - k, by omega⟩
    · rw [if_pos e, if_pos e]
      have e' : 255 - p.val = k := by rw [e]; dsimp only; omega
      rw [e']
      exact ⟨h11, h12⟩
    · rw [if_neg e, if_neg e]
      exact adj_saved p g d n k (by omega) (by
        have : p.val ≠ 255 - k := fun h => e (Fin.ext h)
        omega)

include ha hb in
theorem saved_at (g : Fin 64) (d : Fin 2) (n : Fin 64) (k : ℕ) (hk : k < 256) (i : ℕ) :
    A4 (at1 m i c (Proc.devRef .tc main_v80_2)) (ix4 ⟨255 - k, by omega⟩ g d n) = fwdAt (argS m c) a b g (255 - k) (lane 0 d n)
    ∧ A4 (at1 m i c (Proc.devRef .tc main_v80_3)) (ix4 ⟨255 - k, by omega⟩ g d n) = fwdAt (argS m c) a b g (255 - k) (lane 1 d n) := by
  rw [at1_2, at1_3]
  exact fwd_saved m c ha hb _ g d n 256 le_rfl (by dsimp only; omega)

/-- One step's term of the sums. -/
def termA (dd xx : Pos.Idx → EReal) (a nb : Col.Idx → EReal) (g : Fin 64) (l : Fin 256) (k : ℕ) : EReal :=
  adjAt dd a nb g k l * xx (ix3 (rpos l k) g l)
def termB (dd xx : Pos.Idx → EReal) (a nb : Col.Idx → EReal) (g : Fin 64) (l : Fin 256) (k : ℕ) : EReal :=
  adjAt dd a nb g k l * xx (ix3 (rpos (swap l) k) g (swap l))

include ha hb hnb hx in
/-- Before trip `k` the carried sums are the first `k` terms. -/
theorem adj_sums (g : Fin 64) (d : Fin 2) (n : Fin 64) : ∀ k, k ≤ 256 →
    A3 (at1 m k c (Proc.devRef .tc main_v80_8)) (ix3 g d n)
        = total (termA (argD m c) x a nb g (lane 0 d n)) k + total (termA (argD m c) x a nb g (lane 1 d n)) k
    ∧ A3 (at1 m k c (Proc.devRef .tc main_v80_9)) (ix3 g d n) = total (termB (argD m c) x a nb g (lane 0 d n)) k
    ∧ A3 (at1 m k c (Proc.devRef .tc main_v80_10)) (ix3 g d n) = total (termB (argD m c) x a nb g (lane 1 d n)) k
  | 0, _ => by
    rw [at1_zero, entry1_eq, mid_8, mid_9, mid_10]
    exact ⟨(add_zero _).symm, rfl, rfl⟩
  | k + 1, hk => by
    obtain ⟨h8, h9, h10⟩ := adj_sums g d n k (by omega)
    obtain ⟨h11, h12⟩ := adj_state m c ha hb hnb g d n k (by omega)
    obtain ⟨s0, s1⟩ := saved_at m c ha hb g d n k (by omega) k
    have x0 := x_at m c hx g 0 d n (k := k) (by omega)
    have x1 := x_at m c hx g 1 d n (k := k) (by omega)
    rw [at1_succ, trip1_8 _ k (by omega) (at1_word m c k), trip1_9 _ k (by omega) (at1_word m c k),
      trip1_10 _ k (by omega) (at1_word m c k), h8, h9, h10, h11, h12, s0, s1]
    simp only [total, termA, termB, swap_lane0, swap_lane1, x0, x1]
    exact ⟨by ac_rfl, trivial, trivial⟩

include ha hb hnb in
theorem ref_ds (q : Fin 256) (g : Fin 64) (p d : Fin 2) (n : Fin 64) :
    AP (final m c (Proc.devRef .tc main_v108)) (ix3 q g (lane p d n)) = adjArr (argD m c) a nb (ix3 q g (lane p d n)) := by
  rw [final_eq, post_ds, exit1_keep m c (by decide +kernel), exit1_keep m c (by decide +kernel)]
  obtain ⟨h13, h14⟩ := adj_saved m c ha hb hnb (pos (lane 0 d n) q.val) g d n 256 le_rfl (by omega)
  rw [h13, h14]
  have e : 255 - (pos (lane 0 d n) q.val).val = rstepAt (lane p d n) q := by
    rw [pos_eq _ q.isLt]
    unfold rstepAt
    rw [up_lane, up_lane]
    split
    · rfl
    · dsimp only; omega
  rw [e]
  show _ = adjAt (argD m c) a nb g (rstepAt (lane p d n) q) (lane p d n)
  rcases two p with rfl | rfl
  · rw [if_pos rfl]
  · rw [if_neg (by decide)]

include ha hb hnb hx in
theorem ref_dlr (g : Fin 64) (d : Fin 2) (n : Fin 64) :
    A3 (final m c (Proc.devRef .tc main_v80_8)) (ix3 g d n)
      = sumAArr (argD m c) x a nb (ix2 g (lane 0 d n)) + sumAArr (argD m c) x a nb (ix2 g (lane 1 d n)) := by
  rw [final_eq, post_dlr, exit1_keep m c (by decide +kernel)]
  exact (adj_sums m c ha hb hnb hx g d n 256 le_rfl).1

include ha hb hnb hx in
theorem ref_dli (g : Fin 64) (d : Fin 2) (n : Fin 64) :
    A3 (final m c (Proc.devRef .tc main_v107)) (ix3 g d n)
      = sumBArr (argD m c) x a nb (ix2 g (lane 1 d n)) + -sumBArr (argD m c) x a nb (ix2 g (lane 0 d n)) := by
  rw [final_eq, post_dli, exit1_keep m c (by decide +kernel), exit1_keep m c (by decide +kernel)]
  have h := adj_sums m c ha hb hnb hx g d n 256 le_rfl
  rw [h.2.1, h.2.2]
  rfl

end Adj

/-- The run leaves the arguments alone. -/
theorem final_arg {r : Ref sig .tc} (h0 : r ∉ cond0_W ++ b0_0_W ++ b0_1_W ++ b0_2_W ++ b0_3_W ++ b0_4_W ++ b0_5_W)
    (h1 : r ∉ cond1_W ++ b1_0_W ++ b1_1_W ++ b1_2_W ++ b1_3_W ++ b1_4_W ++ b1_5_W ++ b1_6_W ++ b1_7_W ++ b1_8_W)
    (hp : r ∉ p0_0_W) (hm : r ∉ p0_1_W ++ p1_0_W ++ p2_0_W) (hq : r ∉ p2_1_W) (hc0 : r ∉ cond0_W) (hc1 : r ∉ cond1_W) :
    final m c (Proc.devRef .tc r) = launchContents m c (Proc.devRef .tc r) := by
  rw [final_eq, after_of_writes_sub p2_1 _ p2_1_writes hq, exit1_keep m c hc1, at1_keep m c h1, entry1_keep m c hm, exit0_arg m c h0 hc0 hp]

end Cert.ReferenceIdeal.Scan
-- ==== Proof.Equal.lean ====
/- The kernel's three results are the reference's, index by index. -/
module

public import proofs.«01_k».proof.Defs
public import proofs.«01_k».proof.Proof.KRun
public import proofs.«01_k».proof.Proof.KHost
public import proofs.«01_k».proof.Proof.RInv
public import Idealize.ShloMosaic.Lib.Quiescent

@[expose] public section

set_option maxRecDepth 16384

noncomputable section

namespace Cert.KernelIdeal.Scan

open Cert.KernelIdeal Cert.KernelIdeal.Gen Cert.Scan
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The two columns, the adjoint's second column and the saved states, as the kernel's calls take them. -/
abbrev colA : Col.Idx → EReal := W1 m ρ c (Proc.devRef .tc main_v8)
abbrev colF : Col.Idx → EReal := W1 m ρ c (Proc.devRef .tc main_v19)
abbrev colN : Col.Idx → EReal := W3 m ρ c (Proc.devRef .tc main_v21)
abbrev states : Pos.Idx → EReal := W3 m ρ c (Proc.devRef .tc main_v20)
abbrev inS : Pos.Idx → EReal := m ((c : Thread nD τ).loc main_arg0)
abbrev inRe : S64x2x64.Idx → EReal := m ((c : Thread nD τ).loc main_arg1)
abbrev inIm : S64x2x64.Idx → EReal := m ((c : Thread nD τ).loc main_arg2)
abbrev inD : Pos.Idx → EReal := m ((c : Thread nD τ).loc main_arg3)

theorem colA_at (g : Fin 64) (p d : Fin 2) (n : Fin 64) : colA m ρ c (ix2 g (lane p d n)) = inRe m c (ix3 g d n) :=
  host_fa _ g p d n
theorem colF_at (g : Fin 64) (p d : Fin 2) (n : Fin 64) :
    colF m ρ c (ix2 g (lane p d n)) = if p = 0 then -inIm m c (ix3 g d n) else inIm m c (ix3 g d n) :=
  host_fb _ g p d n

theorem colN_at (y : Col.Idx) : colN m ρ c y = -colF m ρ c y := by
  refine (host_nb _ y).trans ?_
  have e : colB (W2 m ρ c) = colF m ρ c := W2_of m ρ c main_v19 (by decide +kernel)
  rw [e]

theorem states_at (y : Pos.Idx) : states m ρ c y = fwdArr (inS m c) (colA m ρ c) (colF m ρ c) y := by
  unfold states
  rw [W3_of m ρ c main_v20 (by decide +kernel)]
  have h := (W2_arr m ρ c 3).trans (region0 (V1 m ρ) c)
  have h0 : V1 m ρ c main_arg0 = m ((c : Thread nD τ).loc main_arg0) := W1_args m ρ c main_arg0 (by decide)
  rw [h0] at h
  exact congrFun h y

theorem entry_col : V3 m ρ c main_v8 = colA m ρ c := by
  show W3 m ρ c (Proc.devRef .tc main_v8) = _
  rw [W3_of m ρ c main_v8 (by decide +kernel), W2_of m ρ c main_v8 (by decide +kernel)]

theorem entry_d : V3 m ρ c main_arg3 = m ((c : Thread nD τ).loc main_arg3) := W3_args m ρ c main_arg3 (by decide)

theorem out_ds (y : Pos.Idx) : (W5 m ρ c (Proc.devRef .tc main_v22_0) : Pos.Idx → EReal) y = adjArr (inD m c) (colA m ρ c) (colN m ρ c) y := by
  rw [W5_of m ρ c main_v22_0 (by decide +kernel)]
  have h := (W4_arr m ρ c 4).trans (region1_4 (V3 m ρ) c)
  rw [entry_col, entry_d] at h
  exact congrFun h y

theorem out_a (y : Col.Idx) : sumA' (W4 m ρ c) y = sumAArr (inD m c) (states m ρ c) (colA m ρ c) (colN m ρ c) y := by
  have h := (W4_arr m ρ c 5).trans (region1_5 (V3 m ρ) c)
  rw [entry_col, entry_d] at h
  exact congrFun h y

theorem out_b (y : Col.Idx) : sumB' (W4 m ρ c) y = sumBArr (inD m c) (states m ρ c) (colA m ρ c) (colN m ρ c) y := by
  have h := (W4_arr m ρ c 6).trans (region1_6 (V3 m ρ) c)
  rw [entry_col, entry_d] at h
  exact congrFun h y

theorem out_dlr (g : Fin 64) (d : Fin 2) (n : Fin 64) : (W5 m ρ c (Proc.devRef .tc main_v54) : S64x2x64.Idx → EReal) (ix3 g d n)
    = sumAArr (inD m c) (states m ρ c) (colA m ρ c) (colN m ρ c) (ix2 g (lane 0 d n))
      + sumAArr (inD m c) (states m ρ c) (colA m ρ c) (colN m ρ c) (ix2 g (lane 1 d n)) := by
  rw [← out_a, ← out_a]
  exact host_dlr _ g d n

theorem out_dli (g : Fin 64) (d : Fin 2) (n : Fin 64) : (W5 m ρ c (Proc.devRef .tc main_v39) : S64x2x64.Idx → EReal) (ix3 g d n)
    = sumBArr (inD m c) (states m ρ c) (colA m ρ c) (colN m ρ c) (ix2 g (lane 1 d n))
      + -sumBArr (inD m c) (states m ρ c) (colA m ρ c) (colN m ρ c) (ix2 g (lane 0 d n)) := by
  rw [← out_b, ← out_b]
  exact host_dli _ g d n

end Cert.KernelIdeal.Scan

namespace Cert.Scan

open Idealize.ShloMosaic Idealize.ShloMosaic.TcCoe Idealize.ShloMosaic.Tactic Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

theorem lane_of (l : Fin 256) : ∃ (p d : Fin 2) (n : Fin 64), l = lane p d n :=
  ⟨⟨l.val / 128, by omega⟩, ⟨l.val / 64 % 2, by omega⟩, ⟨l.val % 64, by omega⟩, Fin.ext (by unfold lane; dsimp only; omega)⟩

section

variable (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h1 in
theorem ha (g : Fin 64) (p d : Fin 2) (n : Fin 64) :
    Cert.KernelIdeal.Scan.colA m ρ c (ix2 g (lane p d n)) = Cert.ReferenceIdeal.Scan.argRe m' c (ix3 g d n) := by
  rw [Cert.KernelIdeal.Scan.colA_at]
  exact (congrFun h1 _).symm

include h2 in
theorem hb (g : Fin 64) (p d : Fin 2) (n : Fin 64) :
    Cert.KernelIdeal.Scan.colF m ρ c (ix2 g (lane p d n))
      = if p = 0 then -Cert.ReferenceIdeal.Scan.argIm m' c (ix3 g d n) else Cert.ReferenceIdeal.Scan.argIm m' c (ix3 g d n) := by
  have e : Cert.ReferenceIdeal.Scan.argIm m' c = Cert.KernelIdeal.Scan.inIm m c := h2
  rw [Cert.KernelIdeal.Scan.colF_at, e]

include h0 in
theorem hx (y : Pos.Idx) : Cert.KernelIdeal.Scan.states m ρ c y
    = fwdArr (Cert.ReferenceIdeal.Scan.argS m' c) (Cert.KernelIdeal.Scan.colA m ρ c) (Cert.KernelIdeal.Scan.colF m ρ c) y := by
  have e : Cert.ReferenceIdeal.Scan.argS m' c = Cert.KernelIdeal.Scan.inS m c := h0
  rw [Cert.KernelIdeal.Scan.states_at, e]

include h1 h2 h3 in
theorem eq_ds : (Cert.ReferenceIdeal.Scan.final m' c (Proc.devRef .tc Cert.ReferenceIdeal.main_v108) : Pos.Idx → EReal)
    = Cert.KernelIdeal.Gen.W5 m ρ c (Proc.devRef .tc Cert.KernelIdeal.main_v22_0) := by
  funext y
  revert y
  show ∀ y : Pos.Idx, _
  intro y
  idx_vars y
  generalize y0 = q
  generalize y1 = g
  generalize y2 = l
  obtain ⟨p, d, n, rfl⟩ := lane_of l
  have e : Cert.ReferenceIdeal.Scan.argD m' c = Cert.KernelIdeal.Scan.inD m c := h3
  refine (Cert.ReferenceIdeal.Scan.ref_ds m' c (ha m ρ m' c h1) (hb m ρ m' c h2) (Cert.KernelIdeal.Scan.colN_at m ρ c) q g p d n).trans ?_
  rw [e]
  exact (Cert.KernelIdeal.Scan.out_ds m ρ c _).symm

include h0 h1 h2 h3 in
theorem eq_dlr : (Cert.ReferenceIdeal.Scan.final m' c (Proc.devRef .tc Cert.ReferenceIdeal.main_v80_8) : Cert.KernelIdeal.S64x2x64.Idx → EReal)
    = Cert.KernelIdeal.Gen.W5 m ρ c (Proc.devRef .tc Cert.KernelIdeal.main_v54) := by
  funext y
  revert y
  show ∀ y : Cert.KernelIdeal.S64x2x64.Idx, _
  intro y
  idx_vars y
  generalize y0 = g
  generalize y1 = d
  generalize y2 = n
  have e : Cert.ReferenceIdeal.Scan.argD m' c = Cert.KernelIdeal.Scan.inD m c := h3
  refine (Cert.ReferenceIdeal.Scan.ref_dlr m' c (ha m ρ m' c h1) (hb m ρ m' c h2) (Cert.KernelIdeal.Scan.colN_at m ρ c) (hx m ρ m' c h0) g d n).trans ?_
  rw [e]
  exact (Cert.KernelIdeal.Scan.out_dlr m ρ c g d n).symm

include h0 h1 h2 h3 in
theorem eq_dli : (Cert.ReferenceIdeal.Scan.final m' c (Proc.devRef .tc Cert.ReferenceIdeal.main_v107) : Cert.KernelIdeal.S64x2x64.Idx → EReal)
    = Cert.KernelIdeal.Gen.W5 m ρ c (Proc.devRef .tc Cert.KernelIdeal.main_v39) := by
  funext y
  revert y
  show ∀ y : Cert.KernelIdeal.S64x2x64.Idx, _
  intro y
  idx_vars y
  generalize y0 = g
  generalize y1 = d
  generalize y2 = n
  have e : Cert.ReferenceIdeal.Scan.argD m' c = Cert.KernelIdeal.Scan.inD m c := h3
  refine (Cert.ReferenceIdeal.Scan.ref_dli m' c (ha m ρ m' c h1) (hb m ρ m' c h2) (Cert.KernelIdeal.Scan.colN_at m ρ c) (hx m ρ m' c h0) g d n).trans ?_
  rw [e]
  exact (Cert.KernelIdeal.Scan.out_dli m ρ c g d n).symm

end

end Cert.Scan

namespace Cert.Proof

open Idealize.ShloMosaic Idealize.ShloMosaic.TcCoe Idealize.ShloMosaic.Tactic Idealize.SL.Sem

/-- The reference leaves its arguments as they were. -/
theorem frame_args (m : (ℓ : Loc Cert.ReferenceIdeal.nD Cert.ReferenceIdeal.τ Cert.ReferenceIdeal.sig) → Buf (Elt Ideal) ℓ) (c : Dev Cert.ReferenceIdeal.nD) :
    Cert.ReferenceIdeal.Scan.final m c (Proc.devRef .tc Cert.ReferenceIdeal.main_arg0) = m ((c.tc : Thread Cert.ReferenceIdeal.nD Cert.ReferenceIdeal.τ).loc Cert.ReferenceIdeal.main_arg0)
    ∧ Cert.ReferenceIdeal.Scan.final m c (Proc.devRef .tc Cert.ReferenceIdeal.main_arg1) = m ((c.tc : Thread Cert.ReferenceIdeal.nD Cert.ReferenceIdeal.τ).loc Cert.ReferenceIdeal.main_arg1)
    ∧ Cert.ReferenceIdeal.Scan.final m c (Proc.devRef .tc Cert.ReferenceIdeal.main_arg2) = m ((c.tc : Thread Cert.ReferenceIdeal.nD Cert.ReferenceIdeal.τ).loc Cert.ReferenceIdeal.main_arg2)
    ∧ Cert.ReferenceIdeal.Scan.final m c (Proc.devRef .tc Cert.ReferenceIdeal.main_arg3) = m ((c.tc : Thread Cert.ReferenceIdeal.nD Cert.ReferenceIdeal.τ).loc Cert.ReferenceIdeal.main_arg3) :=
  ⟨Cert.ReferenceIdeal.Scan.final_arg m c (by decide +kernel) (by decide +kernel) (by decide +kernel) (by decide +kernel) (by decide +kernel) (by decide +kernel) (by decide +kernel),
   Cert.ReferenceIdeal.Scan.final_arg m c (by decide +kernel) (by decide +kernel) (by decide +kernel) (by decide +kernel) (by decide +kernel) (by decide +kernel) (by decide +kernel),
   Cert.ReferenceIdeal.Scan.final_arg m c (by decide +kernel) (by decide +kernel) (by decide +kernel) (by decide +kernel) (by decide +kernel) (by decide +kernel) (by decide +kernel),
   Cert.ReferenceIdeal.Scan.final_arg m c (by decide +kernel) (by decide +kernel) (by decide +kernel) (by decide +kernel) (by decide +kernel) (by decide +kernel) (by decide +kernel)⟩

/-- The reference runs, leaves its arguments as they were, and has no counter to leave set. -/
theorem frame_reference : Cert.quiescent_ReferenceIdeal := fun m ρ _ =>
  (θ_run (Cert.ReferenceIdeal.defs (F := Ideal)) _ _).mono (fun r h => ⟨fun c =>
      have fr := frame_args m c
      ⟨(h c _ rfl).trans fr.1, (h c _ rfl).trans fr.2.1, (h c _ rfl).trans fr.2.2.1, (h c _ rfl).trans fr.2.2.2⟩,
      sem_eq_zero_of_no_sems rfl _⟩)
    (Cert.ReferenceIdeal.Scan.run m ρ)

/-- Equal arguments, equal results. -/
theorem equal : Cert.algebraic_KernelIdeal_ReferenceIdeal := fun m g m' g' _ hm =>
  ⟨fun c => Cert.KernelIdeal.Gen.W5 m g c (Proc.devRef .tc Cert.KernelIdeal.main_v22_0),
   fun c => Cert.KernelIdeal.Gen.W5 m g c (Proc.devRef .tc Cert.KernelIdeal.main_v54),
   fun c => Cert.KernelIdeal.Gen.W5 m g c (Proc.devRef .tc Cert.KernelIdeal.main_v39),
   (θ_run (Cert.KernelIdeal.defs (F := Ideal)) _ _).mono (fun r h c =>
      ⟨h c _ (by decide), h c _ (by decide), h c _ (by decide),
       (h c _ (by decide)).trans (Cert.KernelIdeal.Gen.W5_main_arg0 m g c), (h c _ (by decide)).trans (Cert.KernelIdeal.Gen.W5_main_arg1 m g c),
       (h c _ (by decide)).trans (Cert.KernelIdeal.Gen.W5_main_arg2 m g c), (h c _ (by decide)).trans (Cert.KernelIdeal.Gen.W5_main_arg3 m g c)⟩)
    (Cert.KernelIdeal.Scan.run_all m g),
   (θ_run (Cert.ReferenceIdeal.defs (F := Ideal)) _ _).mono (fun r h c =>
      have hc := hm c
      have fr := frame_args m' c
      ⟨(h c _ rfl).trans (Cert.Scan.eq_ds m g m' c hc.2.1 hc.2.2.1 hc.2.2.2),
       (h c _ rfl).trans (Cert.Scan.eq_dlr m g m' c hc.1 hc.2.1 hc.2.2.1 hc.2.2.2),
       (h c _ rfl).trans (Cert.Scan.eq_dli m g m' c hc.1 hc.2.1 hc.2.2.1 hc.2.2.2),
       (h c _ rfl).trans fr.1, (h c _ rfl).trans fr.2.1, (h c _ rfl).trans fr.2.2.1, (h c _ rfl).trans fr.2.2.2⟩)
    (Cert.ReferenceIdeal.Scan.run m' g')⟩

end Cert.Proof
-- ==== Proof.Sums.lean ====
/- A sum over tokens taken in two blocks. -/
module

public import Idealize.ShloMosaic.Lib.Pointwise

@[expose] public section

noncomputable section

namespace Cert.Prod

theorem zero2 : (![0, 0] : Fin 2 → Nat) = fun _ => 0 := by decide
theorem zero3 : (![0, 0, 0] : Fin 3 → Nat) = fun _ => 0 := by decide

/-- Token `r` of the block of 2048 tokens that point `n` takes: even points the first block, odd points the second. -/
def token (n : ℕ) (r : Fin 2048) : Fin 4096 := ⟨n % 2 * 2048 + r.val, by omega⟩

theorem token_even {n : ℕ} (h : n % 2 = 0) (r : Fin 2048) : token n r = Fin.castAdd 2048 r :=
  Fin.ext (by simp [token, h])

theorem token_odd {n : ℕ} (h : n % 2 = 1) (r : Fin 2048) : token n r = Fin.natAdd 2048 r :=
  Fin.ext (by simp [token, h, Nat.add_comm])

/-- The two blocks' sums, one after the other from zero, are the sum over all tokens. -/
theorem sum_blocks (f : Fin 4096 → EReal) {a b : ℕ} (ha : a % 2 = 0) (hb : b % 2 = 1) :
    0 + ∑ r, f (token a r) + ∑ r, f (token b r) = ∑ k, f k := by
  rw [zero_add]
  simp only [token_even ha, token_odd hb]
  exact (Fin.sum_univ_add (a := 2048) (b := 2048) f).symm

end Cert.Prod

end
-- ==== Proof.InDw.lean ====
/- The gradient of an input projection's weight: two blocks of tokens are summed in turn, and the array holds the
   sum over all tokens. -/
module

public import proofs.«01_k».proof.Proof.Gen.InDwIdeal.Value
public import proofs.«01_k».proof.Proof.Gen.InDwRIdeal.Run
public import proofs.«01_k».proof.Proof.Sums
public import Idealize.ShloMosaic.Lib.WholeRead
public import Idealize.ShloMosaic.Lib.Pipeline.ValueKit

@[expose] public section

set_option maxRecDepth 16384

noncomputable section

namespace Cert.InDwIdeal.Prod

open Cert.InDwIdeal Cert.InDwIdeal.Gen Cert.Prod
open Idealize.ShloMosaic Idealize.ShloMosaic.TcCoe Idealize.ShloMosaic.Tactic Idealize.SL.Sem

section Body

variable {F : FTy → Type} [FloatOps F]

/-- The first block of tokens leaves its product over zeros in the accumulator. -/
theorem first (c : Dev nD) (i : grid0.Coords) (a4 : Memref sig .tc .vmem S2048x1024 .bf16) (h4 : a4.IsWhole)
    (a5 : Memref sig .tc .vmem S1x2048x1408 .bf16) (h5 : a5.IsWhole) (a6 : Memref sig .tc .vmem S1x1024x1408 .bf16) (h6 : a6.IsWhole)
    (a7 : Memref sig .tc .vmem S1024x1408 .f32) (h7 : a7.IsWhole) (hc0 : cond0_0 i) (hc1 : ¬cond0_1 i)
    (x0 : Vec F S2048x1024 .bf16) (x1 : Vec F S1x2048x1408 .bf16) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero zero2, View.readCov_unit_zero _ zero2]
  simp only [View.readAt_eq_ld, h4.read_unread, h5.read_unread, View.ld_unit_zero (S := S2048x1024) zero2,
    View.ld_unit_zero (S := S1024x1408) zero2, View.ld_unit_zero (S := S1x2048x1408) zero3]

/-- The second block adds its product and the sum is written out. -/
theorem last (c : Dev nD) (i : grid0.Coords) (a4 : Memref sig .tc .vmem S2048x1024 .bf16) (h4 : a4.IsWhole)
    (a5 : Memref sig .tc .vmem S1x2048x1408 .bf16) (h5 : a5.IsWhole) (a6 : Memref sig .tc .vmem S1x1024x1408 .bf16) (h6 : a6.IsWhole)
    (a7 : Memref sig .tc .vmem S1024x1408 .f32) (h7 : a7.IsWhole) (hc0 : ¬cond0_0 i) (hc1 : cond0_1 i)
    (x0 : Vec F S2048x1024 .bf16) (x1 : Vec F S1x2048x1408 .bf16) (s : Vec F S1024x1408 .f32) :
    out0_B_2 c i a4 h4 a5 h5 a6 h6 a7 h7 hc0 hc1 x0 x1 s = k0_pay3 (k0_pay2 s x0 x1) := by
  unfold out0_B_2
  rw [View.read_writes_eq_canon _ _ _ (cover0_B_2 c i a4 h4 a5 h5 a6 h6 a7 h7 hc0 hc1 x0 x1 s)]
  unfold kernelRun0_B
  dsimp only
  sl_unfold_words
  rw [View.canon_unit_zero zero3, View.readCov_unit_zero _ zero2]
  simp only [View.readAt_eq_ld, h4.read_unread, h5.read_unread, h7.read_unread, View.ld_unit_zero (S := S2048x1024) zero2,
    View.ld_unit_zero (S := S1024x1408) zero2, View.ld_unit_zero (S := S1x2048x1408) zero3]

end Body

variable (m : (ℓ : Loc nD τ sig) → Buf (Elt Ideal) ℓ) (ρ : Dev nD → PrngReg) (c : Dev nD)

/-- The two arguments as extended reals. -/
abbrev inH : S4096x2048.Idx → EReal := m ((c : Thread nD τ).loc main_arg0)
abbrev inG : S4x4096x1408.Idx → EReal := m ((c : Thread nD τ).loc main_arg1)

theorem index_0 : ∀ t : Fin grid0.N, win0_0.index t = ![t.val % 2, t.val / 2 % 2] := by decide +kernel
theorem index_1 : ∀ t : Fin grid0.N, win0_1.index t = ![t.val / 4, t.val % 2, 0] := by decide +kernel
theorem index_2 : ∀ t : Fin grid0.N, win0_2.index t = ![t.val / 4, t.val / 2 % 2, 0] := by decide +kernel

theorem lt16 (t : Fin cfg0.N) : t.val < 16 := lt_of_lt_of_eq t.isLt N_0

theorem entry_0 (y : S4096x2048.Idx) : (V m c main_v0 : S4096x2048.Idx → EReal) y = inH m c y := by
  have e : V m c main_v0 = (truncf (F := Ideal) .bf16 (m ((c : Thread nD τ).loc main_arg0)) bitsLt_bf16_f32 : S4096x2048.Idx → EReal) := by
    entry_read
    rfl
  rw [e]
  rfl

theorem entry_1 (y : S4x4096x1408.Idx) : (V m c main_v1 : S4x4096x1408.Idx → EReal) y = inG m c y := by
  have e : V m c main_v1 = (truncf (F := Ideal) .bf16 (m ((c : Thread nD τ).loc main_arg1)) bitsLt_bf16_f32 : S4x4096x1408.Idx → EReal) := by
    entry_read
    rfl
  rw [e]
  rfl

theorem block_0 (t : Fin cfg0.N) (r : Fin 2048) (i : Fin 1024) :
    (iblk m c 0 t : S2048x1024.Idx → EReal) (ix2 r i) = inH m c (ix2 (token t.val r) ⟨t.val / 2 % 2 * 1024 + i.val, by omega⟩) := by
  blk_simp [iblk]
  refine Eq.trans ?_ (entry_0 m c _)
  congr 1
  funext d
  apply Fin.ext
  fin_cases d <;> simp [ix2, token, index_0]

theorem block_1 (t : Fin cfg0.N) (z : Fin 1) (r : Fin 2048) (j : Fin 1408) :
    (iblk m c 1 t : S1x2048x1408.Idx → EReal) (ix3 z r j) = inG m c (ix3 ⟨t.val / 4, by have := lt16 t; omega⟩ (token t.val r) j) := by
  blk_simp [iblk]
  refine Eq.trans ?_ (entry_1 m c _)
  congr 1
  funext d
  apply Fin.ext
  fin_cases d <;> simp [ix3, token, index_1]

/-- One block's product over what the accumulator held. -/
theorem step_at (s : Vec Ideal S1024x1408 .f32) (x0 : Vec Ideal S2048x1024 .bf16) (x1 : Vec Ideal S1x2048x1408 .bf16) (i : Fin 1024) (j : Fin 1408) :
    (k0_pay2 s x0 x1 : S1024x1408.Idx → EReal) (ix2 i j)
      = (s : S1024x1408.Idx → EReal) (ix2 i j)
        + ∑ r : Fin 2048, (x0 : S2048x1024.Idx → EReal) (ix2 r i) * (x1 : S1x2048x1408.Idx → EReal) (ix3 0 r j) := by
  pointwise [k0_pay2]

theorem zero_at (i : Fin 1024) (j : Fin 1408) : (k0_pay1 (F := Ideal) : S1024x1408.Idx → EReal) (ix2 i j) = 0 := by
  pointwise [k0_pay1]

theorem out_at (s : Vec Ideal S1024x1408 .f32) (z : Fin 1) (i : Fin 1024) (j : Fin 1408) :
    (k0_pay3 s : S1x1024x1408.Idx → EReal) (ix3 z i j) = (s : S1024x1408.Idx → EReal) (ix2 i j) := by
  pointwise [k0_pay3]

/-- The product summed over every token. -/
def whole (y : S4x2048x1408.Idx) : EReal := ∑ k : Fin 4096, inH m c (ix2 k (y 1)) * inG m c (ix3 (y 0) k (y 2))

/-- What an odd point writes back. -/
theorem written (t : Fin cfg0.N) (h1 : t.val % 2 = 1) (z : Fin 1) (i : Fin 1024) (j : Fin 1408) :
    ((outsAt0 m c t.val t.isLt).1 : S1x1024x1408.Idx → EReal) (ix3 z i j)
      = whole m c (ix3 ⟨t.val / 4, by have := lt16 t; omega⟩ ⟨t.val / 2 % 2 * 1024 + i.val, by omega⟩ j) := by
  have ht := lt16 t
  have hp : t.val - 1 < cfg0.N := lt_of_le_of_lt (Nat.sub_le _ _) t.isLt
  have e := outsAt0_A m c ⟨t.val - 1, hp⟩ (by dsimp only; omega) (by dsimp only; omega)
  dsimp only at e
  rw [outsAt0_B m c t (by omega) h1, e]
  dsimp only
  rw [last, first, out_at, step_at, step_at, zero_at]
  simp only [block_0, block_1]
  unfold whole
  refine Eq.trans ?_ (sum_blocks _ (a := t.val - 1) (b := t.val) (by omega) h1)
  congr 2 <;> refine Finset.sum_congr rfl fun r _ => ?_
  congr 2 <;> congr 1 <;> apply Fin.ext <;> dsimp only [ix2, ix3] <;> omega

theorem array : (dats m 0 c).arrAt 2 cfg0.N = whole m c := by
  refine (dats m 0 c).arrAt_eq_of_covers 2 _ (by decide +kernel) fun t hf y => ?_
  have h1 : t.val % 2 = 1 := (by decide +kernel : ∀ t : Fin cfg0.N, (cfg0.win 2).flush t = true → t.val % 2 = 1) t hf
  blk_simp
  rw [after0_2]
  idx_vars y
  refine (written m c t h1 _ _ _).trans ?_
  congr 1
  funext d
  apply Fin.ext
  fin_cases d <;> simp [ix3, index_2]

theorem run : θ_run defs (onTc (τ := τ) (main (F := Ideal))) ⟨m, fun _ => 0, ρ⟩ fun r => ∀ c : Dev nD,
    r.2.mem ((c : Thread nD τ).loc main_v2) = whole m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (array m c), (h c).2⟩) (Value.run_blocks m ρ)

end Cert.InDwIdeal.Prod

end
-- ==== Proof.InDwEq.lean ====
/- The gradient of an input projection's weight: the kernel's array is the reference's. -/
module

public import proofs.«01_k».proof.Defs
public import proofs.«01_k».proof.Proof.InDw
public import proofs.«01_k».proof.Proof.Gen.InDwRIdeal.Run
public import Idealize.ShloMosaic.Lib.Quiescent

@[expose] public section

set_option maxRecDepth 16384

noncomputable section

namespace Cert.InDwRIdeal.Prod

open Cert.InDwRIdeal Cert.InDwRIdeal.Gen Cert.InDwRIdeal.Value
open Idealize.ShloMosaic Idealize.ShloMosaic.TcCoe Idealize.ShloMosaic.Tactic

/-- The reference's term at an index. -/
theorem at_index (h : FVec Ideal S4096x2048 .f32) (g : FVec Ideal S4x4096x1408 .f32) (s : Fin 4) (i : Fin 2048) (j : Fin 1408) :
    (truncf (F := Ideal) .bf16 (transpose S4x2048x1408 [0, 2, 1]
        (Host.dotGeneral dot_S4x1408x4096_S4096x2048_S4x1408x2048_2_0_01_1_n_n none
          (transpose S4x1408x4096 [0, 2, 1] g transposes_S4x4096x1408_S4x1408x4096_0_2_1) h)
        transposes_S4x1408x2048_S4x2048x1408_0_2_1) bitsLt_bf16_f32 : S4x2048x1408.Idx → EReal) (ix3 s i j)
      = ∑ k : Fin 4096, (h : S4096x2048.Idx → EReal) (ix2 k i) * (g : S4x4096x1408.Idx → EReal) (ix3 s k j) := by
  pointwise []
  exact Finset.sum_congr rfl fun k _ => mul_comm _ _

end Cert.InDwRIdeal.Prod

namespace Cert.Proof

open Idealize.ShloMosaic Idealize.ShloMosaic.TcCoe Idealize.ShloMosaic.Tactic Idealize.SL.Sem

theorem frame_in_dw_reference : Cert.quiescent_InDwRIdeal := fun m ρ _ =>
  (θ_run (Cert.InDwRIdeal.defs (F := Ideal)) _ _).mono (fun _ h => ⟨fun c => (h c).2, sem_eq_zero_of_no_sems rfl _⟩)
    (Cert.InDwRIdeal.Value.run m ρ)

theorem equal_in_dw : Cert.algebraic_InDwIdeal_InDwRIdeal := fun m g m' g' _ hm =>
  ⟨fun c => Cert.InDwIdeal.Prod.whole m c, Cert.InDwIdeal.Prod.run m g,
   (θ_run (Cert.InDwRIdeal.defs (F := Ideal)) _ _).mono (fun r h c => ⟨(h c).1.trans (by
      rw [(hm c).1, (hm c).2]
      funext y
      revert y
      show ∀ y : Cert.InDwIdeal.S4x2048x1408.Idx, _
      intro y
      idx_vars y
      exact Cert.InDwRIdeal.Prod.at_index _ _ _ _ _), (h c).2⟩) (Cert.InDwRIdeal.Value.run m' g')⟩

end Cert.Proof

end
-- ==== Proof.DownDw.lean ====
/- The gradient of the output projection's weight: two blocks of tokens are summed in turn, and the array holds the
   sum over all tokens. -/
module

public import proofs.«01_k».proof.Proof.Gen.DownDwIdeal.Value
public import proofs.«01_k».proof.Proof.Gen.DownDwRIdeal.Run
public import proofs.«01_k».proof.Proof.Sums
public import Idealize.ShloMosaic.Lib.WholeRead
public import Idealize.ShloMosaic.Lib.Pipeline.ValueKit

@[expose] public section

set_option maxRecDepth 16384

noncomputable section

namespace Cert.DownDwIdeal.Prod

open Cert.DownDwIdeal Cert.DownDwIdeal.Gen Cert.Prod
open Idealize.ShloMosaic Idealize.ShloMosaic.TcCoe Idealize.ShloMosaic.Tactic Idealize.SL.Sem

section Body

variable {F : FTy → Type} [FloatOps F]

/-- The first block of tokens leaves its product over zeros in the accumulator. -/
theorem first (c : Dev nD) (i : grid0.Coords) (a4 : Memref sig .tc .vmem S1x2048x1408 .bf16) (h4 : a4.IsWhole)
    (a5 : Memref sig .tc .vmem S2048x1024 .bf16) (h5 : a5.IsWhole) (a6 : Memref sig .tc .vmem S1x1408x1024 .bf16) (h6 : a6.IsWhole)
    (a7 : Memref sig .tc .vmem S1408x1024 .f32) (h7 : a7.IsWhole) (hc0 : cond0_0 i) (hc1 : ¬cond0_1 i)
    (x0 : Vec F S1x2048x1408 .bf16) (x1 : Vec F S2048x1024 .bf16) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero zero2, View.readCov_unit_zero _ zero2]
  simp only [View.readAt_eq_ld, h4.read_unread, h5.read_unread, View.ld_unit_zero (S := S2048x1024) zero2,
    View.ld_unit_zero (S := S1408x1024) zero2, View.ld_unit_zero (S := S1x2048x1408) zero3]

/-- The second block adds its product and the sum is written out. -/
theorem last (c : Dev nD) (i : grid0.Coords) (a4 : Memref sig .tc .vmem S1x2048x1408 .bf16) (h4 : a4.IsWhole)
    (a5 : Memref sig .tc .vmem S2048x1024 .bf16) (h5 : a5.IsWhole) (a6 : Memref sig .tc .vmem S1x1408x1024 .bf16) (h6 : a6.IsWhole)
    (a7 : Memref sig .tc .vmem S1408x1024 .f32) (h7 : a7.IsWhole) (hc0 : ¬cond0_0 i) (hc1 : cond0_1 i)
    (x0 : Vec F S1x2048x1408 .bf16) (x1 : Vec F S2048x1024 .bf16) (s : Vec F S1408x1024 .f32) :
    out0_B_2 c i a4 h4 a5 h5 a6 h6 a7 h7 hc0 hc1 x0 x1 s = k0_pay3 (k0_pay2 s x0 x1) := by
  unfold out0_B_2
  rw [View.read_writes_eq_canon _ _ _ (cover0_B_2 c i a4 h4 a5 h5 a6 h6 a7 h7 hc0 hc1 x0 x1 s)]
  unfold kernelRun0_B
  dsimp only
  sl_unfold_words
  rw [View.canon_unit_zero zero3, View.readCov_unit_zero _ zero2]
  simp only [View.readAt_eq_ld, h4.read_unread, h5.read_unread, h7.read_unread, View.ld_unit_zero (S := S2048x1024) zero2,
    View.ld_unit_zero (S := S1408x1024) zero2, View.ld_unit_zero (S := S1x2048x1408) zero3]

end Body

variable (m : (ℓ : Loc nD τ sig) → Buf (Elt Ideal) ℓ) (ρ : Dev nD → PrngReg) (c : Dev nD)

/-- The two arguments as extended reals. -/
abbrev inA : S4x4096x1408.Idx → EReal := m ((c : Thread nD τ).loc main_arg0)
abbrev inG : S4096x2048.Idx → EReal := m ((c : Thread nD τ).loc main_arg1)

theorem index_0 : ∀ t : Fin grid0.N, win0_0.index t = ![t.val / 4, t.val % 2, 0] := by decide +kernel
theorem index_1 : ∀ t : Fin grid0.N, win0_1.index t = ![t.val % 2, t.val / 2 % 2] := by decide +kernel
theorem index_2 : ∀ t : Fin grid0.N, win0_2.index t = ![t.val / 4, 0, t.val / 2 % 2] := by decide +kernel

theorem lt16 (t : Fin cfg0.N) : t.val < 16 := lt_of_lt_of_eq t.isLt N_0

theorem entry_0 (y : S4x4096x1408.Idx) : (V m c main_v0 : S4x4096x1408.Idx → EReal) y = inA m c y := by
  have e : V m c main_v0 = (truncf (F := Ideal) .bf16 (m ((c : Thread nD τ).loc main_arg0)) bitsLt_bf16_f32 : S4x4096x1408.Idx → EReal) := by
    entry_read
    rfl
  rw [e]
  rfl

theorem entry_1 (y : S4096x2048.Idx) : (V m c main_v1 : S4096x2048.Idx → EReal) y = inG m c y := by
  have e : V m c main_v1 = (truncf (F := Ideal) .bf16 (m ((c : Thread nD τ).loc main_arg1)) bitsLt_bf16_f32 : S4096x2048.Idx → EReal) := by
    entry_read
    rfl
  rw [e]
  rfl

theorem block_0 (t : Fin cfg0.N) (z : Fin 1) (r : Fin 2048) (i : Fin 1408) :
    (iblk m c 0 t : S1x2048x1408.Idx → EReal) (ix3 z r i) = inA m c (ix3 ⟨t.val / 4, by have := lt16 t; omega⟩ (token t.val r) i) := by
  blk_simp [iblk]
  refine Eq.trans ?_ (entry_0 m c _)
  congr 1
  funext d
  apply Fin.ext
  fin_cases d <;> simp [ix3, token, index_0]

theorem block_1 (t : Fin cfg0.N) (r : Fin 2048) (j : Fin 1024) :
    (iblk m c 1 t : S2048x1024.Idx → EReal) (ix2 r j) = inG m c (ix2 (token t.val r) ⟨t.val / 2 % 2 * 1024 + j.val, by omega⟩) := by
  blk_simp [iblk]
  refine Eq.trans ?_ (entry_1 m c _)
  congr 1
  funext d
  apply Fin.ext
  fin_cases d <;> simp [ix2, token, index_1]

/-- One block's product over what the accumulator held. -/
theorem step_at (s : Vec Ideal S1408x1024 .f32) (x0 : Vec Ideal S1x2048x1408 .bf16) (x1 : Vec Ideal S2048x1024 .bf16) (i : Fin 1408) (j : Fin 1024) :
    (k0_pay2 s x0 x1 : S1408x1024.Idx → EReal) (ix2 i j)
      = (s : S1408x1024.Idx → EReal) (ix2 i j)
        + ∑ r : Fin 2048, (x0 : S1x2048x1408.Idx → EReal) (ix3 0 r i) * (x1 : S2048x1024.Idx → EReal) (ix2 r j) := by
  pointwise [k0_pay2]

theorem zero_at (i : Fin 1408) (j : Fin 1024) : (k0_pay1 (F := Ideal) : S1408x1024.Idx → EReal) (ix2 i j) = 0 := by
  pointwise [k0_pay1]

theorem out_at (s : Vec Ideal S1408x1024 .f32) (z : Fin 1) (i : Fin 1408) (j : Fin 1024) :
    (k0_pay3 s : S1x1408x1024.Idx → EReal) (ix3 z i j) = (s : S1408x1024.Idx → EReal) (ix2 i j) := by
  pointwise [k0_pay3]

/-- The product summed over every token. -/
def whole (y : S4x1408x2048.Idx) : EReal := ∑ k : Fin 4096, inA m c (ix3 (y 0) k (y 1)) * inG m c (ix2 k (y 2))

/-- What an odd point writes back. -/
theorem written (t : Fin cfg0.N) (h1 : t.val % 2 = 1) (z : Fin 1) (i : Fin 1408) (j : Fin 1024) :
    ((outsAt0 m c t.val t.isLt).1 : S1x1408x1024.Idx → EReal) (ix3 z i j)
      = whole m c (ix3 ⟨t.val / 4, by have := lt16 t; omega⟩ i ⟨t.val / 2 % 2 * 1024 + j.val, by omega⟩) := by
  have ht := lt16 t
  have hp : t.val - 1 < cfg0.N := lt_of_le_of_lt (Nat.sub_le _ _) t.isLt
  have e := outsAt0_A m c ⟨t.val - 1, hp⟩ (by dsimp only; omega) (by dsimp only; omega)
  dsimp only at e
  rw [outsAt0_B m c t (by omega) h1, e]
  dsimp only
  rw [last, first, out_at, step_at, step_at, zero_at]
  simp only [block_0, block_1]
  unfold whole
  refine Eq.trans ?_ (sum_blocks _ (a := t.val - 1) (b := t.val) (by omega) h1)
  congr 2 <;> refine Finset.sum_congr rfl fun r _ => ?_
  congr 2 <;> congr 1 <;> apply Fin.ext <;> dsimp only [ix2, ix3] <;> omega

theorem array : (dats m 0 c).arrAt 2 cfg0.N = whole m c := by
  refine (dats m 0 c).arrAt_eq_of_covers 2 _ (by decide +kernel) fun t hf y => ?_
  have h1 : t.val % 2 = 1 := (by decide +kernel : ∀ t : Fin cfg0.N, (cfg0.win 2).flush t = true → t.val % 2 = 1) t hf
  blk_simp
  rw [after0_2]
  idx_vars y
  refine (written m c t h1 _ _ _).trans ?_
  congr 1
  funext d
  apply Fin.ext
  fin_cases d <;> simp [ix3, index_2]

theorem run : θ_run defs (onTc (τ := τ) (main (F := Ideal))) ⟨m, fun _ => 0, ρ⟩ fun r => ∀ c : Dev nD,
    r.2.mem ((c : Thread nD τ).loc main_v2) = whole m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (array m c), (h c).2⟩) (Value.run_blocks m ρ)

end Cert.DownDwIdeal.Prod

end
-- ==== Proof.DownDwEq.lean ====
/- The gradient of the output projection's weight: the kernel's array is the reference's. -/
module

public import proofs.«01_k».proof.Defs
public import proofs.«01_k».proof.Proof.DownDw
public import proofs.«01_k».proof.Proof.Gen.DownDwRIdeal.Run
public import Idealize.ShloMosaic.Lib.Quiescent

@[expose] public section

set_option maxRecDepth 16384

noncomputable section

namespace Cert.DownDwRIdeal.Prod

open Cert.DownDwRIdeal Cert.DownDwRIdeal.Gen Cert.DownDwRIdeal.Value
open Idealize.ShloMosaic Idealize.ShloMosaic.TcCoe Idealize.ShloMosaic.Tactic

/-- The reference's term at an index. -/
theorem at_index (a : FVec Ideal S4x4096x1408 .f32) (g : FVec Ideal S4096x2048 .f32) (s : Fin 4) (i : Fin 1408) (j : Fin 2048) :
    (truncf (F := Ideal) .bf16 (transpose S4x1408x2048 [1, 2, 0]
        (Host.dotGeneral dot_S4096x2048_S4x4096x1408_S2048x4x1408_0_1_1_02_n_n none g a)
        transposes_S2048x4x1408_S4x1408x2048_1_2_0) bitsLt_bf16_f32 : S4x1408x2048.Idx → EReal) (ix3 s i j)
      = ∑ k : Fin 4096, (a : S4x4096x1408.Idx → EReal) (ix3 s k i) * (g : S4096x2048.Idx → EReal) (ix2 k j) := by
  pointwise []
  exact Finset.sum_congr rfl fun k _ => mul_comm _ _

end Cert.DownDwRIdeal.Prod

namespace Cert.Proof

open Idealize.ShloMosaic Idealize.ShloMosaic.TcCoe Idealize.ShloMosaic.Tactic Idealize.SL.Sem

theorem frame_down_dw_reference : Cert.quiescent_DownDwRIdeal := fun m ρ _ =>
  (θ_run (Cert.DownDwRIdeal.defs (F := Ideal)) _ _).mono (fun _ h => ⟨fun c => (h c).2, sem_eq_zero_of_no_sems rfl _⟩)
    (Cert.DownDwRIdeal.Value.run m ρ)

theorem equal_down_dw : Cert.algebraic_DownDwIdeal_DownDwRIdeal := fun m g m' g' _ hm =>
  ⟨fun c => Cert.DownDwIdeal.Prod.whole m c, Cert.DownDwIdeal.Prod.run m g,
   (θ_run (Cert.DownDwRIdeal.defs (F := Ideal)) _ _).mono (fun r h c => ⟨(h c).1.trans (by
      rw [(hm c).1, (hm c).2]
      funext y
      revert y
      show ∀ y : Cert.DownDwIdeal.S4x1408x2048.Idx, _
      intro y
      idx_vars y
      exact Cert.DownDwRIdeal.Prod.at_index _ _ _ _ _), (h c).2⟩) (Cert.DownDwRIdeal.Value.run m' g')⟩

end Cert.Proof

end
-- ==== Proof.GateDx.lean ====
/- The gradient that the gate's projection sends to its input: the four shards' products are summed in turn, and
   the array holds the sum over all hidden values. -/
module

public import proofs.«01_k».proof.Proof.Gen.GateDxIdeal.Value
public import proofs.«01_k».proof.Proof.Sums
public import Idealize.ShloMosaic.Lib.WholeRead
public import Idealize.ShloMosaic.Lib.Pipeline.ValueKit

@[expose] public section

set_option maxRecDepth 16384

noncomputable section

namespace Cert.GateDxIdeal.Prod

open Cert.GateDxIdeal Cert.GateDxIdeal.Gen Cert.Prod
open Idealize.ShloMosaic Idealize.ShloMosaic.TcCoe Idealize.ShloMosaic.Tactic Idealize.SL.Sem

section Body

variable {F : FTy → Type} [FloatOps F]

/-- The first shard leaves its product over zeros in the accumulator. -/
theorem first (c : Dev nD) (i : grid0.Coords) (a4 : Memref sig .tc .vmem S1x1024x1408 .bf16) (h4 : a4.IsWhole)
    (a5 : Memref sig .tc .vmem S1x2048x1408 .bf16) (h5 : a5.IsWhole) (a6 : Memref sig .tc .vmem S1024x2048 .f32) (h6 : a6.IsWhole)
    (a7 : Memref sig .tc .vmem S1024x2048 .f32) (h7 : a7.IsWhole) (hc0 : cond0_0 i) (hc1 : ¬cond0_1 i)
    (x0 : Vec F S1x1024x1408 .bf16) (x1 : Vec F S1x2048x1408 .bf16) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero zero2, View.readCov_unit_zero _ zero2]
  simp only [View.readAt_eq_ld, h4.read_unread, h5.read_unread, View.ld_unit_zero (S := S1x1024x1408) zero3,
    View.ld_unit_zero (S := S1x2048x1408) zero3]

/-- A shard in between adds its product. -/
theorem middle (c : Dev nD) (i : grid0.Coords) (a4 : Memref sig .tc .vmem S1x1024x1408 .bf16) (h4 : a4.IsWhole)
    (a5 : Memref sig .tc .vmem S1x2048x1408 .bf16) (h5 : a5.IsWhole) (a6 : Memref sig .tc .vmem S1024x2048 .f32) (h6 : a6.IsWhole)
    (a7 : Memref sig .tc .vmem S1024x2048 .f32) (h7 : a7.IsWhole) (hc0 : ¬cond0_0 i) (hc1 : ¬cond0_1 i)
    (x0 : Vec F S1x1024x1408 .bf16) (x1 : Vec F S1x2048x1408 .bf16) (s : Vec F S1024x2048 .f32) :
    sout0_B_0 c i a4 h4 a5 h5 a6 h6 a7 h7 hc0 hc1 x0 x1 s = k0_pay2 s x0 x1 := by
  unfold sout0_B_0
  rw [View.read_writes_eq_canon _ _ _ (scover0_B_0 c i a4 h4 a5 h5 a6 h6 a7 h7 hc0 hc1 x0 x1 s)]
  unfold kernelRun0_B
  dsimp only
  sl_unfold_words
  rw [View.canon_unit_zero zero2]
  simp only [View.readAt_eq_ld, h4.read_unread, h5.read_unread, h7.read_unread, View.ld_unit_zero (S := S1024x2048) zero2,
    View.ld_unit_zero (S := S1x1024x1408) zero3,
    View.ld_unit_zero (S := S1x2048x1408) zero3]

/-- The last shard adds its product and the sum is written out. -/
theorem last (c : Dev nD) (i : grid0.Coords) (a4 : Memref sig .tc .vmem S1x1024x1408 .bf16) (h4 : a4.IsWhole)
    (a5 : Memref sig .tc .vmem S1x2048x1408 .bf16) (h5 : a5.IsWhole) (a6 : Memref sig .tc .vmem S1024x2048 .f32) (h6 : a6.IsWhole)
    (a7 : Memref sig .tc .vmem S1024x2048 .f32) (h7 : a7.IsWhole) (hc0 : ¬cond0_0 i) (hc1 : cond0_1 i)
    (x0 : Vec F S1x1024x1408 .bf16) (x1 : Vec F S1x2048x1408 .bf16) (s : Vec F S1024x2048 .f32) :
    out0_C_2 c i a4 h4 a5 h5 a6 h6 a7 h7 hc0 hc1 x0 x1 s = k0_pay2 s x0 x1 := by
  unfold out0_C_2
  rw [View.read_writes_eq_canon _ _ _ (cover0_C_2 c i a4 h4 a5 h5 a6 h6 a7 h7 hc0 hc1 x0 x1 s)]
  unfold kernelRun0_C
  dsimp only
  sl_unfold_words
  rw [View.canon_unit_zero zero2, View.readCov_unit_zero _ zero2]
  simp only [View.readAt_eq_ld, h4.read_unread, h5.read_unread, h7.read_unread, View.ld_unit_zero (S := S1024x2048) zero2,
    View.ld_unit_zero (S := S1x1024x1408) zero3,
    View.ld_unit_zero (S := S1x2048x1408) zero3]

end Body

variable (m : (ℓ : Loc nD τ sig) → Buf (Elt Ideal) ℓ) (ρ : Dev nD → PrngReg) (c : Dev nD)

/-- The arguments as extended reals. -/
abbrev inG : S4x4096x1408.Idx → EReal := m ((c : Thread nD τ).loc main_arg0)
abbrev inW : S4x2048x1408.Idx → EReal := m ((c : Thread nD τ).loc main_arg1)

theorem ltN (t : Fin cfg0.N) : t.val < 16 := lt_of_lt_of_eq t.isLt N_0

theorem index_0 : ∀ t : Fin grid0.N, win0_0.index t = ![t.val % 4, t.val / 4, 0] := by decide +kernel
theorem index_1 : ∀ t : Fin grid0.N, win0_1.index t = ![t.val % 4, 0, 0] := by decide +kernel
theorem index_2 : ∀ t : Fin grid0.N, win0_2.index t = ![t.val / 4, 0] := by decide +kernel

theorem entry_0 (y : S4x4096x1408.Idx) : (V m c main_v0 : S4x4096x1408.Idx → EReal) y = inG m c y := by
  have e : V m c main_v0 = (truncf (F := Ideal) .bf16 (m ((c : Thread nD τ).loc main_arg0)) bitsLt_bf16_f32 : S4x4096x1408.Idx → EReal) := by
    entry_read
    rfl
  rw [e]
  rfl

theorem entry_1 (y : S4x2048x1408.Idx) : (V m c main_v1 : S4x2048x1408.Idx → EReal) y = inW m c y := by
  have e : V m c main_v1 = (truncf (F := Ideal) .bf16 (m ((c : Thread nD τ).loc main_arg1)) bitsLt_bf16_f32 : S4x2048x1408.Idx → EReal) := by
    entry_read
    rfl
  rw [e]
  rfl

/-- Row `i` of point `n`'s block of tokens. -/
def row (t : Fin cfg0.N) (i : Fin 1024) : Fin 4096 := ⟨t.val / 4 * 1024 + i.val, by have := ltN t; omega⟩

/-- The shard that point `n` takes. -/
def shard (n : ℕ) : Fin 4 := ⟨n % 4, by omega⟩

theorem block_0 (t : Fin cfg0.N) (z : Fin 1) (i : Fin 1024) (k : Fin 1408) :
    (iblk m c 0 t : S1x1024x1408.Idx → EReal) (ix3 z i k) = inG m c (ix3 (shard t.val) (row t i) k) := by
  blk_simp [iblk]
  refine Eq.trans ?_ (entry_0 m c _)
  congr 1
  funext d
  apply Fin.ext
  fin_cases d <;> simp [ix3, row, shard, index_0]

theorem block_1 (t : Fin cfg0.N) (z : Fin 1) (j : Fin 2048) (k : Fin 1408) :
    (iblk m c 1 t : S1x2048x1408.Idx → EReal) (ix3 z j k) = inW m c (ix3 (shard t.val) j k) := by
  blk_simp [iblk]
  refine Eq.trans ?_ (entry_1 m c _)
  congr 1
  funext d
  apply Fin.ext
  fin_cases d <;> simp [ix3,  shard, index_1]

/-- One shard's product over what the accumulator held. -/
theorem step_at (s : Vec Ideal S1024x2048 .f32) (x0 : Vec Ideal S1x1024x1408 .bf16) (x1 : Vec Ideal S1x2048x1408 .bf16) (i : Fin 1024) (j : Fin 2048) :
    (k0_pay2 s x0 x1 : S1024x2048.Idx → EReal) (ix2 i j)
      = (s : S1024x2048.Idx → EReal) (ix2 i j)
        + ∑ k : Fin 1408, (x0 : S1x1024x1408.Idx → EReal) (ix3 0 i k) * (x1 : S1x2048x1408.Idx → EReal) (ix3 0 j k) := by
  pointwise [k0_pay2]

theorem zero_at (i : Fin 1024) (j : Fin 2048) : (k0_pay1 (F := Ideal) : S1024x2048.Idx → EReal) (ix2 i j) = 0 := by
  pointwise [k0_pay1]

/-- One shard's product of whole arrays. -/
def part (s : Fin 4) (i : Fin 4096) (j : Fin 2048) : EReal := ∑ k : Fin 1408, inG m c (ix3 s i k) * inW m c (ix3 s j k)

/-- The product summed over every shard. -/
def whole (y : S4096x2048.Idx) : EReal := ∑ s : Fin 4, part m c s (y 0) (y 1)

theorem held_first (t : Fin cfg0.N) (h : t.val % 4 = 0) (i : Fin 1024) (j : Fin 2048) :
    ((outsAt0 m c t.val t.isLt).2 : S1024x2048.Idx → EReal) (ix2 i j) = 0 + part m c (shard t.val) (row t i) j := by
  rw [outsAt0_A m c t h (by omega)]
  dsimp only
  rw [first, step_at, zero_at]
  simp only [block_0, block_1]
  rfl

theorem held_next (t : Fin cfg0.N) (h0 : ¬t.val % 4 = 0) (h1 : ¬t.val % 4 = 3) (i : Fin 1024) (j : Fin 2048) :
    ((outsAt0 m c t.val t.isLt).2 : S1024x2048.Idx → EReal) (ix2 i j)
      = ((outsAt0 m c (t.val - 1) (lt_of_le_of_lt (Nat.sub_le _ _) t.isLt)).2 : S1024x2048.Idx → EReal) (ix2 i j)
        + part m c (shard t.val) (row t i) j := by
  rw [outsAt0_B m c t h0 h1]
  dsimp only
  rw [middle, step_at]
  simp only [block_0, block_1]
  rfl

/-- What the last of four points writes back. -/
theorem written (t : Fin cfg0.N) (h : t.val % 4 = 3) (i : Fin 1024) (j : Fin 2048) :
    ((outsAt0 m c t.val t.isLt).1 : S1024x2048.Idx → EReal) (ix2 i j) = whole m c (ix2 (row t i) j) := by
  have ht := ltN t
  have p1 : t.val - 1 < cfg0.N := lt_of_le_of_lt (Nat.sub_le _ _) t.isLt
  have p2 : t.val - 1 - 1 < cfg0.N := lt_of_le_of_lt (Nat.sub_le _ _) p1
  have p3 : t.val - 1 - 1 - 1 < cfg0.N := lt_of_le_of_lt (Nat.sub_le _ _) p2
  rw [outsAt0_C m c t (by omega) h]
  dsimp only
  rw [last, step_at]
  have e1 := held_next m c ⟨t.val - 1, p1⟩ (by dsimp only; omega) (by dsimp only; omega) i j
  have e2 := held_next m c ⟨t.val - 1 - 1, p2⟩ (by dsimp only; omega) (by dsimp only; omega) i j
  have e3 := held_first m c ⟨t.val - 1 - 1 - 1, p3⟩ (by dsimp only; omega) i j
  dsimp only at e1 e2 e3
  rw [e1, e2, e3]
  simp only [block_0, block_1]
  have s0 : shard (t.val - 1 - 1 - 1) = 0 := Fin.ext (by simp only [shard]; omega)
  have s1 : shard (t.val - 1 - 1) = 1 := Fin.ext (by simp only [shard]; omega)
  have s2 : shard (t.val - 1) = 2 := Fin.ext (by simp only [shard]; omega)
  have s3 : shard t.val = 3 := Fin.ext (by simp only [shard]; omega)
  have r1 : row ⟨t.val - 1, p1⟩ i = row t i := Fin.ext (by simp only [row]; omega)
  have r2 : row ⟨t.val - 1 - 1, p2⟩ i = row t i := Fin.ext (by simp only [row]; omega)
  have r3 : row ⟨t.val - 1 - 1 - 1, p3⟩ i = row t i := Fin.ext (by simp only [row]; omega)
  rw [s0, s1, s2, s3, r1, r2, r3, zero_add]
  unfold whole
  rw [Fin.sum_univ_four]
  rfl

theorem array : (dats m 0 c).arrAt 2 cfg0.N = whole m c := by
  refine (dats m 0 c).arrAt_eq_of_covers 2 _ (by decide +kernel) fun t hf y => ?_
  have h1 : t.val % 4 = 3 := (by decide +kernel : ∀ t : Fin cfg0.N, (cfg0.win 2).flush t = true → t.val % 4 = 3) t hf
  blk_simp
  rw [after0_2]
  idx_vars y
  refine (written m c t h1 _ _).trans ?_
  congr 1
  funext d
  apply Fin.ext
  fin_cases d <;> simp [ix2, row,  index_2]

theorem run : θ_run defs (onTc (τ := τ) (main (F := Ideal))) ⟨m, fun _ => 0, ρ⟩ fun r => ∀ c : Dev nD,
    r.2.mem ((c : Thread nD τ).loc main_v2) = whole m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (array m c), (h c).2⟩) (Value.run_blocks m ρ)

end Cert.GateDxIdeal.Prod

end
-- ==== Proof.GateDxEq.lean ====
/- The gradient that the gate's projection sends to its input: the kernel's array is the reference's. -/
module

public import proofs.«01_k».proof.Defs
public import proofs.«01_k».proof.Proof.GateDx
public import proofs.«01_k».proof.Proof.Gen.GateDxRIdeal.Run
public import Idealize.ShloMosaic.Lib.Quiescent

@[expose] public section

set_option maxRecDepth 16384

noncomputable section

namespace Cert.GateDxRIdeal.Prod

open Cert.GateDxRIdeal Cert.GateDxRIdeal.Gen Cert.GateDxRIdeal.Value
open Idealize.ShloMosaic Idealize.ShloMosaic.TcCoe Idealize.ShloMosaic.Tactic

/-- The reference's term at an index. -/
theorem at_index (g : FVec Ideal S4x4096x1408 .f32) (w : FVec Ideal S4x2048x1408 .f32) (i : Fin 4096) (j : Fin 2048) :
    (Host.dotGeneral dot_S4x1408x4096_S4x2048x1408_S4096x2048_01_02_2_1_n_n none
        (transpose S4x1408x4096 [0, 2, 1] g transposes_S4x4096x1408_S4x1408x4096_0_2_1) w : S4096x2048.Idx → EReal) (ix2 i j)
      = ∑ s : Fin 4, ∑ k : Fin 1408, (g : S4x4096x1408.Idx → EReal) (ix3 s i k) * (w : S4x2048x1408.Idx → EReal) (ix3 s j k) := by
  pointwise []

end Cert.GateDxRIdeal.Prod

namespace Cert.Proof

open Idealize.ShloMosaic Idealize.ShloMosaic.TcCoe Idealize.ShloMosaic.Tactic Idealize.SL.Sem

theorem frame_gate_dx_reference : Cert.quiescent_GateDxRIdeal := fun m ρ _ =>
  (θ_run (Cert.GateDxRIdeal.defs (F := Ideal)) _ _).mono (fun _ h => ⟨fun c => (h c).2, sem_eq_zero_of_no_sems rfl _⟩)
    (Cert.GateDxRIdeal.Value.run m ρ)

theorem equal_gate_dx : Cert.algebraic_GateDxIdeal_GateDxRIdeal := fun m g m' g' _ hm =>
  ⟨fun c => Cert.GateDxIdeal.Prod.whole m c, Cert.GateDxIdeal.Prod.run m g,
   (θ_run (Cert.GateDxRIdeal.defs (F := Ideal)) _ _).mono (fun r h c => ⟨(h c).1.trans (by
      rw [(hm c).1, (hm c).2]
      funext y
      revert y
      show ∀ y : Cert.GateDxIdeal.S4096x2048.Idx, _
      intro y
      idx_vars y
      exact Cert.GateDxRIdeal.Prod.at_index _ _ _ _), (h c).2⟩) (Cert.GateDxRIdeal.Value.run m' g')⟩

end Cert.Proof

end
-- ==== Proof.UpDx.lean ====
/- The gradient that the projection of the values multiplying the gate sends to its input, over a share given: the four shards' products are summed in turn, and
   the array holds the sum over all hidden values. -/
module

public import proofs.«01_k».proof.Proof.Gen.UpDxIdeal.Value
public import proofs.«01_k».proof.Proof.Sums
public import Idealize.ShloMosaic.Lib.WholeRead
public import Idealize.ShloMosaic.Lib.Pipeline.ValueKit

@[expose] public section

set_option maxRecDepth 16384

noncomputable section

namespace Cert.UpDxIdeal.Prod

open Cert.UpDxIdeal Cert.UpDxIdeal.Gen Cert.Prod
open Idealize.ShloMosaic Idealize.ShloMosaic.TcCoe Idealize.ShloMosaic.Tactic Idealize.SL.Sem

section Body

variable {F : FTy → Type} [FloatOps F]

/-- The first shard leaves its product over zeros in the accumulator. -/
theorem first (c : Dev nD) (i : grid0.Coords) (a4 : Memref sig .tc .vmem S1x1024x1408 .bf16) (h4 : a4.IsWhole)
    (a5 : Memref sig .tc .vmem S1x1024x1408 .bf16) (h5 : a5.IsWhole) (a : Memref sig .tc .vmem S1024x1024 .f32) (h : a.IsWhole) (a6 : Memref sig .tc .vmem S1024x1024 .f32) (h6 : a6.IsWhole)
    (a7 : Memref sig .tc .vmem S1024x1024 .f32) (h7 : a7.IsWhole) (hc0 : cond0_0 i) (hc1 : ¬cond0_1 i)
    (x0 : Vec F S1x1024x1408 .bf16) (x1 : Vec F S1x1024x1408 .bf16) (x2 : Vec F S1024x1024 .f32) :
    sout0_A_0 c i a4 h4 a5 h5 a h a6 h6 a7 h7 hc0 hc1 x0 x1 x2 = k0_pay2 k0_pay1 x0 x1 := by
  unfold sout0_A_0
  rw [View.read_writes_eq_canon _ _ _ (scover0_A_0 c i a4 h4 a5 h5 a h a6 h6 a7 h7 hc0 hc1 x0 x1 x2)]
  unfold kernelRun0_A
  dsimp only
  sl_unfold_words
  rw [View.canon_cons_unit_zero zero2, View.readCov_unit_zero _ zero2]
  simp only [View.readAt_eq_ld, h4.read_unread, h5.read_unread, View.ld_unit_zero (S := S1x1024x1408) zero3]

/-- A shard in between adds its product. -/
theorem middle (c : Dev nD) (i : grid0.Coords) (a4 : Memref sig .tc .vmem S1x1024x1408 .bf16) (h4 : a4.IsWhole)
    (a5 : Memref sig .tc .vmem S1x1024x1408 .bf16) (h5 : a5.IsWhole) (a : Memref sig .tc .vmem S1024x1024 .f32) (h : a.IsWhole) (a6 : Memref sig .tc .vmem S1024x1024 .f32) (h6 : a6.IsWhole)
    (a7 : Memref sig .tc .vmem S1024x1024 .f32) (h7 : a7.IsWhole) (hc0 : ¬cond0_0 i) (hc1 : ¬cond0_1 i)
    (x0 : Vec F S1x1024x1408 .bf16) (x1 : Vec F S1x1024x1408 .bf16) (x2 : Vec F S1024x1024 .f32) (s : Vec F S1024x1024 .f32) :
    sout0_B_0 c i a4 h4 a5 h5 a h a6 h6 a7 h7 hc0 hc1 x0 x1 x2 s = k0_pay2 s x0 x1 := by
  unfold sout0_B_0
  rw [View.read_writes_eq_canon _ _ _ (scover0_B_0 c i a4 h4 a5 h5 a h a6 h6 a7 h7 hc0 hc1 x0 x1 x2 s)]
  unfold kernelRun0_B
  dsimp only
  sl_unfold_words
  rw [View.canon_unit_zero zero2]
  simp only [View.readAt_eq_ld, h4.read_unread, h5.read_unread, h7.read_unread, View.ld_unit_zero (S := S1024x1024) zero2,
    View.ld_unit_zero (S := S1x1024x1408) zero3]

/-- The last shard adds its product and the sum is written out. -/
theorem last (c : Dev nD) (i : grid0.Coords) (a4 : Memref sig .tc .vmem S1x1024x1408 .bf16) (h4 : a4.IsWhole)
    (a5 : Memref sig .tc .vmem S1x1024x1408 .bf16) (h5 : a5.IsWhole) (a : Memref sig .tc .vmem S1024x1024 .f32) (h : a.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 : Vec F S1x1024x1408 .bf16) (x1 : Vec F S1x1024x1408 .bf16) (x2 : Vec F S1024x1024 .f32) (s : Vec F S1024x1024 .f32) :
    out0_C_3 c i a4 h4 a5 h5 a h a6 h6 a7 h7 hc0 hc1 x0 x1 x2 s = k0_pay3 (k0_pay2 s x0 x1) x2 := by
  unfold out0_C_3
  rw [View.read_writes_eq_canon _ _ _ (cover0_C_3 c i a4 h4 a5 h5 a h a6 h6 a7 h7 hc0 hc1 x0 x1 x2 s)]
  unfold kernelRun0_C
  dsimp only
  sl_unfold_words
  rw [View.canon_unit_zero zero2, View.readCov_unit_zero _ zero2]
  simp only [View.readAt_eq_ld, h4.read_unread, h5.read_unread, h.read_unread, h7.read_unread, View.ld_unit_zero (S := S1024x1024) zero2,
    View.ld_unit_zero (S := S1x1024x1408) zero3]

end Body

variable (m : (ℓ : Loc nD τ sig) → Buf (Elt Ideal) ℓ) (ρ : Dev nD → PrngReg) (c : Dev nD)

/-- The arguments as extended reals. -/
abbrev inG : S4x4096x1408.Idx → EReal := m ((c : Thread nD τ).loc main_arg0)
abbrev inW : S4x2048x1408.Idx → EReal := m ((c : Thread nD τ).loc main_arg1)
abbrev inD : S4096x2048.Idx → EReal := m ((c : Thread nD τ).loc main_arg2)

theorem ltN (t : Fin cfg0.N) : t.val < 32 := lt_of_lt_of_eq t.isLt N_0

theorem index_0 : ∀ t : Fin grid0.N, win0_0.index t = ![t.val % 4, t.val / 8, 0] := by decide +kernel
theorem index_1 : ∀ t : Fin grid0.N, win0_1.index t = ![t.val % 4, t.val / 4 % 2, 0] := by decide +kernel
theorem index_3 : ∀ t : Fin grid0.N, win0_3.index t = ![t.val / 8, t.val / 4 % 2] := by decide +kernel
theorem index_2 : ∀ t : Fin grid0.N, win0_2.index t = ![t.val / 8, t.val / 4 % 2] := by decide +kernel

theorem entry_0 (y : S4x4096x1408.Idx) : (V m c main_v0 : S4x4096x1408.Idx → EReal) y = inG m c y := by
  have e : V m c main_v0 = (truncf (F := Ideal) .bf16 (m ((c : Thread nD τ).loc main_arg0)) bitsLt_bf16_f32 : S4x4096x1408.Idx → EReal) := by
    entry_read
    rfl
  rw [e]
  rfl

theorem entry_1 (y : S4x2048x1408.Idx) : (V m c main_v1 : S4x2048x1408.Idx → EReal) y = inW m c y := by
  have e : V m c main_v1 = (truncf (F := Ideal) .bf16 (m ((c : Thread nD τ).loc main_arg1)) bitsLt_bf16_f32 : S4x2048x1408.Idx → EReal) := by
    entry_read
    rfl
  rw [e]
  rfl

/-- Row `i` of point `n`'s block of tokens, and column `j` of its block of columns. -/
def row (t : Fin cfg0.N) (i : Fin 1024) : Fin 4096 := ⟨t.val / 8 * 1024 + i.val, by have := ltN t; omega⟩
def col (t : Fin cfg0.N) (j : Fin 1024) : Fin 2048 := ⟨t.val / 4 % 2 * 1024 + j.val, by omega⟩

/-- The shard that point `n` takes. -/
def shard (n : ℕ) : Fin 4 := ⟨n % 4, by omega⟩

theorem block_0 (t : Fin cfg0.N) (z : Fin 1) (i : Fin 1024) (k : Fin 1408) :
    (iblk m c 0 t : S1x1024x1408.Idx → EReal) (ix3 z i k) = inG m c (ix3 (shard t.val) (row t i) k) := by
  blk_simp [iblk]
  refine Eq.trans ?_ (entry_0 m c _)
  congr 1
  funext d
  apply Fin.ext
  fin_cases d <;> simp [ix3, row, shard, index_0]

theorem block_1 (t : Fin cfg0.N) (z : Fin 1) (j : Fin 1024) (k : Fin 1408) :
    (iblk m c 1 t : S1x1024x1408.Idx → EReal) (ix3 z j k) = inW m c (ix3 (shard t.val) (col t j) k) := by
  blk_simp [iblk]
  refine Eq.trans ?_ (entry_1 m c _)
  congr 1
  funext d
  apply Fin.ext
  fin_cases d <;> simp [ix3, col, shard, index_1]

theorem block_2 (t : Fin cfg0.N) (i : Fin 1024) (j : Fin 1024) :
    (iblk m c 2 t : S1024x1024.Idx → EReal) (ix2 i j) = inD m c (ix2 (row t i) (col t j)) := by
  have e : (V m c main_arg2 : S4096x2048.Idx → EReal) = inD m c := V_main_arg2 m c
  blk_simp [iblk]
  refine Eq.trans ?_ (congrFun e _)
  congr 1
  funext d
  apply Fin.ext
  fin_cases d <;> simp [ix2, row, col, index_2]

/-- One shard's product over what the accumulator held. -/
theorem step_at (s : Vec Ideal S1024x1024 .f32) (x0 : Vec Ideal S1x1024x1408 .bf16) (x1 : Vec Ideal S1x1024x1408 .bf16) (i : Fin 1024) (j : Fin 1024) :
    (k0_pay2 s x0 x1 : S1024x1024.Idx → EReal) (ix2 i j)
      = (s : S1024x1024.Idx → EReal) (ix2 i j)
        + ∑ k : Fin 1408, (x0 : S1x1024x1408.Idx → EReal) (ix3 0 i k) * (x1 : S1x1024x1408.Idx → EReal) (ix3 0 j k) := by
  pointwise [k0_pay2]

theorem zero_at (i : Fin 1024) (j : Fin 1024) : (k0_pay1 (F := Ideal) : S1024x1024.Idx → EReal) (ix2 i j) = 0 := by
  pointwise [k0_pay1]

theorem sum_at (s d : Vec Ideal S1024x1024 .f32) (i j : Fin 1024) :
    (k0_pay3 s d : S1024x1024.Idx → EReal) (ix2 i j) = (s : S1024x1024.Idx → EReal) (ix2 i j) + (d : S1024x1024.Idx → EReal) (ix2 i j) := by
  pointwise [k0_pay3]

/-- One shard's product of whole arrays. -/
def part (s : Fin 4) (i : Fin 4096) (j : Fin 2048) : EReal := ∑ k : Fin 1408, inG m c (ix3 s i k) * inW m c (ix3 s j k)

/-- The product summed over every shard, over the share given. -/
def whole (y : S4096x2048.Idx) : EReal := inD m c y + ∑ s : Fin 4, part m c s (y 0) (y 1)

theorem held_first (t : Fin cfg0.N) (h : t.val % 4 = 0) (i : Fin 1024) (j : Fin 1024) :
    ((outsAt0 m c t.val t.isLt).2 : S1024x1024.Idx → EReal) (ix2 i j) = 0 + part m c (shard t.val) (row t i) (col t j) := by
  rw [outsAt0_A m c t h (by omega)]
  dsimp only
  rw [first, step_at, zero_at]
  simp only [block_0, block_1]
  rfl

theorem held_next (t : Fin cfg0.N) (h0 : ¬t.val % 4 = 0) (h1 : ¬t.val % 4 = 3) (i : Fin 1024) (j : Fin 1024) :
    ((outsAt0 m c t.val t.isLt).2 : S1024x1024.Idx → EReal) (ix2 i j)
      = ((outsAt0 m c (t.val - 1) (lt_of_le_of_lt (Nat.sub_le _ _) t.isLt)).2 : S1024x1024.Idx → EReal) (ix2 i j)
        + part m c (shard t.val) (row t i) (col t j) := by
  rw [outsAt0_B m c t h0 h1]
  dsimp only
  rw [middle, step_at]
  simp only [block_0, block_1]
  rfl

/-- What the last of four points writes back. -/
theorem written (t : Fin cfg0.N) (h : t.val % 4 = 3) (i : Fin 1024) (j : Fin 1024) :
    ((outsAt0 m c t.val t.isLt).1 : S1024x1024.Idx → EReal) (ix2 i j) = whole m c (ix2 (row t i) (col t j)) := by
  have ht := ltN t
  have p1 : t.val - 1 < cfg0.N := lt_of_le_of_lt (Nat.sub_le _ _) t.isLt
  have p2 : t.val - 1 - 1 < cfg0.N := lt_of_le_of_lt (Nat.sub_le _ _) p1
  have p3 : t.val - 1 - 1 - 1 < cfg0.N := lt_of_le_of_lt (Nat.sub_le _ _) p2
  rw [outsAt0_C m c t (by omega) h]
  dsimp only
  rw [last, sum_at, step_at]
  have e1 := held_next m c ⟨t.val - 1, p1⟩ (by dsimp only; omega) (by dsimp only; omega) i j
  have e2 := held_next m c ⟨t.val - 1 - 1, p2⟩ (by dsimp only; omega) (by dsimp only; omega) i j
  have e3 := held_first m c ⟨t.val - 1 - 1 - 1, p3⟩ (by dsimp only; omega) i j
  dsimp only at e1 e2 e3
  rw [e1, e2, e3]
  simp only [block_0, block_1, block_2]
  have s0 : shard (t.val - 1 - 1 - 1) = 0 := Fin.ext (by simp only [shard]; omega)
  have s1 : shard (t.val - 1 - 1) = 1 := Fin.ext (by simp only [shard]; omega)
  have s2 : shard (t.val - 1) = 2 := Fin.ext (by simp only [shard]; omega)
  have s3 : shard t.val = 3 := Fin.ext (by simp only [shard]; omega)
  have r1 : row ⟨t.val - 1, p1⟩ i = row t i := Fin.ext (by simp only [row]; omega)
  have r2 : row ⟨t.val - 1 - 1, p2⟩ i = row t i := Fin.ext (by simp only [row]; omega)
  have r3 : row ⟨t.val - 1 - 1 - 1, p3⟩ i = row t i := Fin.ext (by simp only [row]; omega)
  have c1 : col ⟨t.val - 1, p1⟩ j = col t j := Fin.ext (by simp only [col]; omega)
  have c2 : col ⟨t.val - 1 - 1, p2⟩ j = col t j := Fin.ext (by simp only [col]; omega)
  have c3 : col ⟨t.val - 1 - 1 - 1, p3⟩ j = col t j := Fin.ext (by simp only [col]; omega)
  rw [s0, s1, s2, s3, r1, r2, r3, c1, c2, c3, zero_add]
  unfold whole
  rw [Fin.sum_univ_four, add_comm (inD m c _)]
  rfl

theorem array : (dats m 0 c).arrAt 3 cfg0.N = whole m c := by
  refine (dats m 0 c).arrAt_eq_of_covers 3 _ (by decide +kernel) fun t hf y => ?_
  have h1 : t.val % 4 = 3 := (by decide +kernel : ∀ t : Fin cfg0.N, (cfg0.win 3).flush t = true → t.val % 4 = 3) t hf
  blk_simp
  rw [after0_3]
  idx_vars y
  refine (written m c t h1 _ _).trans ?_
  congr 1
  funext d
  apply Fin.ext
  fin_cases d <;> simp [ix2, row, col, index_3]

theorem run : θ_run defs (onTc (τ := τ) (main (F := Ideal))) ⟨m, fun _ => 0, ρ⟩ fun r => ∀ c : Dev nD,
    r.2.mem ((c : Thread nD τ).loc main_v2) = whole m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h c).1.trans (array m c), (h c).2⟩) (Value.run_blocks m ρ)

end Cert.UpDxIdeal.Prod

end
-- ==== Proof.UpDxEq.lean ====
/- The gradient that the other projection sends to its input: the kernel's array is the reference's. -/
module

public import proofs.«01_k».proof.Defs
public import proofs.«01_k».proof.Proof.UpDx
public import proofs.«01_k».proof.Proof.Gen.UpDxRIdeal.Run
public import Idealize.ShloMosaic.Lib.Quiescent

@[expose] public section

set_option maxRecDepth 16384

noncomputable section

namespace Cert.UpDxRIdeal.Prod

open Cert.UpDxRIdeal Cert.UpDxRIdeal.Gen Cert.UpDxRIdeal.Value
open Idealize.ShloMosaic Idealize.ShloMosaic.TcCoe Idealize.ShloMosaic.Tactic

/-- The reference's term at an index. -/
theorem at_index (g : FVec Ideal S4x4096x1408 .f32) (w : FVec Ideal S4x2048x1408 .f32) (d : FVec Ideal S4096x2048 .f32) (i : Fin 4096) (j : Fin 2048) :
    (addf (F := Ideal) d (Host.dotGeneral dot_S4x1408x4096_S4x2048x1408_S4096x2048_01_02_2_1_n_n none
        (transpose S4x1408x4096 [0, 2, 1] g transposes_S4x4096x1408_S4x1408x4096_0_2_1) w) : S4096x2048.Idx → EReal) (ix2 i j)
      = (d : S4096x2048.Idx → EReal) (ix2 i j) + ∑ s : Fin 4, ∑ k : Fin 1408, (g : S4x4096x1408.Idx → EReal) (ix3 s i k) * (w : S4x2048x1408.Idx → EReal) (ix3 s j k) := by
  pointwise []

end Cert.UpDxRIdeal.Prod

namespace Cert.Proof

open Idealize.ShloMosaic Idealize.ShloMosaic.TcCoe Idealize.ShloMosaic.Tactic Idealize.SL.Sem

theorem frame_up_dx_reference : Cert.quiescent_UpDxRIdeal := fun m ρ _ =>
  (θ_run (Cert.UpDxRIdeal.defs (F := Ideal)) _ _).mono (fun _ h => ⟨fun c => (h c).2, sem_eq_zero_of_no_sems rfl _⟩)
    (Cert.UpDxRIdeal.Value.run m ρ)

theorem equal_up_dx : Cert.algebraic_UpDxIdeal_UpDxRIdeal := fun m g m' g' _ hm =>
  ⟨fun c => Cert.UpDxIdeal.Prod.whole m c, Cert.UpDxIdeal.Prod.run m g,
   (θ_run (Cert.UpDxRIdeal.defs (F := Ideal)) _ _).mono (fun r h c => ⟨(h c).1.trans (by
      rw [(hm c).1, (hm c).2.1, (hm c).2.2]
      funext y
      revert y
      show ∀ y : Cert.UpDxIdeal.S4096x2048.Idx, _
      intro y
      idx_vars y
      exact Cert.UpDxRIdeal.Prod.at_index _ _ _ _ _), (h c).2⟩) (Cert.UpDxRIdeal.Value.run m' g')⟩

end Cert.Proof

end
-- ==== Proof.GluRun.lean ====
/- The kernel's run with every buffer after it named: the launch set-up of the generated frame, its last thread state
   read against the final memory. -/
module

public import proofs.«01_k».proof.Proof.Gen.GluIdeal.Frame

@[expose] public section

set_option maxRecDepth 16384

noncomputable section

namespace Cert.GluIdeal.Prod

open Cert.GluIdeal Cert.GluIdeal.Gen Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every unscoped buffer holds what the last boundary's contents say. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W8 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c b hb => h c _ (mem_uc b hb))

end Cert.GluIdeal.Prod
-- ==== Proof.SiluMath.lean ====
module

public import Idealize.ShloMosaic.Lib.Pointwise

@[expose] public section

/-! The logistic function on the extended reals, as the kernel writes it (through the hyperbolic
tangent) and as the reference writes it (through the exponential), and the derivative of
`g · logistic g` in the two forms. -/

noncomputable section

namespace Cert.Silu

open Idealize.ShloMosaic

/-- The logistic function through the exponential. -/
def logi (g : EReal) : EReal := Ideal.div 1 (1 + Ideal.exp (-g))

/-- The logistic function through the hyperbolic tangent. -/
def sigTanh (g : EReal) : EReal :=
  Ideal.ofBits FTy.f32 1056964608#32 * (Ideal.tanh (Ideal.ofBits FTy.f32 1056964608#32 * g) + 1)

theorem half : Ideal.ofBits FTy.f32 1056964608#32 = ((1 / 2 : ℝ) : EReal) := by
  simp [Ideal.ofBits, Ideal.ieee, -EReal.coe_mul]; norm_num

theorem real_logistic (r : ℝ) : 1 / 2 * (Real.tanh (1 / 2 * r) + 1) = (1 + Real.exp (-r))⁻¹ := by
  have hx : Real.exp (-r) = Real.exp (-(1 / 2 * r)) * Real.exp (-(1 / 2 * r)) := by
    rw [← Real.exp_add]; congr 1; ring
  have hy : Real.exp (1 / 2 * r) * Real.exp (-(1 / 2 * r)) = 1 := by
    rw [← Real.exp_add]; simp
  rw [Real.tanh_eq_sinh_div_cosh, Real.sinh_eq, Real.cosh_eq, hx]
  set p := Real.exp (1 / 2 * r) with hp
  set q := Real.exp (-(1 / 2 * r)) with hq
  have p0 : 0 < p := Real.exp_pos _
  have q0 : 0 < q := Real.exp_pos _
  have hs : (p + q) / 2 ≠ 0 := by positivity
  have hd : 1 + q * q ≠ 0 := by positivity
  field_simp
  nlinarith [hy]

theorem logi_coe (r : ℝ) : logi (r : EReal) = (((1 + Real.exp (-r))⁻¹ : ℝ) : EReal) := by
  have e : (1 : EReal) + Ideal.exp (-(r : EReal)) = ((1 + Real.exp (-r) : ℝ) : EReal) := by
    rw [← EReal.coe_neg]; rfl
  have h0 : (1 + Real.exp (-r) : ℝ) ≠ 0 := by positivity
  rw [logi, e, Ideal.div, if_neg (by exact_mod_cast h0), one_mul, ← EReal.coe_inv]

theorem logi_top : logi ⊤ = 1 := by
  have e : (1 : EReal) + Ideal.exp (-⊤) = 1 := by
    rw [EReal.neg_top]; show (1 : EReal) + 0 = 1; simp
  rw [logi, e, Ideal.div, if_neg one_ne_zero, one_mul]
  simpa using (EReal.coe_inv 1).symm

theorem logi_bot : logi ⊥ = 0 := by
  have e : (1 : EReal) + Ideal.exp (-⊥) = ⊤ := by
    rw [EReal.neg_bot]; show (1 : EReal) + ⊤ = ⊤; rfl
  rw [logi, e, Ideal.div, if_neg (by simp), EReal.inv_top, mul_zero]

/-- The two forms are the same function. -/
theorem sigTanh_eq (g : EReal) : sigTanh g = logi g := by
  rw [sigTanh, half]
  induction g with
  | bot =>
    rw [EReal.coe_mul_bot_of_pos (by norm_num), logi_bot]
    show _ * ((-1 : EReal) + 1) = 0
    have e : (-1 : EReal) + 1 = 0 := by
      have := congrArg (fun x : ℝ => (x : EReal)) (show (-1 : ℝ) + 1 = 0 by norm_num)
      simpa only [EReal.coe_add, EReal.coe_neg, EReal.coe_one, EReal.coe_zero] using this
    rw [e, mul_zero]
  | top =>
    rw [EReal.coe_mul_top_of_pos (by norm_num), logi_top]
    show _ * ((1 : EReal) + 1) = 1
    have := congrArg (fun x : ℝ => (x : EReal)) (show (1 / 2 : ℝ) * (1 + 1) = 1 by norm_num)
    simpa only [EReal.coe_mul, EReal.coe_add, EReal.coe_one] using this
  | coe r =>
    rw [logi_coe, ← real_logistic, ← EReal.coe_mul, Ideal.tanh_coe]
    rw [← EReal.coe_one, ← EReal.coe_add, ← EReal.coe_mul]

/-- The derivative of `g · logi g`, times a real `t`: factored and summed. -/
theorem derivative (t : ℝ) (g : EReal) :
    ((t : EReal) * logi g) * (1 + g * (1 - logi g)) = (t : EReal) * logi g + (g * (t : EReal)) * (logi g * (1 - logi g)) := by
  have e : (1 : EReal) - 1 = 0 := by
    have := congrArg (fun x : ℝ => (x : EReal)) (show (1 : ℝ) - 1 = 0 by norm_num)
    simpa only [EReal.coe_sub, EReal.coe_one, EReal.coe_zero] using this
  induction g with
  | bot => simp [logi_bot]
  | top => simp [logi_top, e]
  | coe r =>
    rw [logi_coe]
    generalize (1 + Real.exp (-r))⁻¹ = s
    simp only [← EReal.coe_one, ← EReal.coe_mul, ← EReal.coe_sub, ← EReal.coe_add]
    congr 1; ring

/-- A number that is neither infinity. -/
def Finite (x : EReal) : Prop := ∃ r : ℝ, x = r

theorem Finite.mul {x y : EReal} (hx : Finite x) (hy : Finite y) : Finite (x * y) := by
  obtain ⟨a, rfl⟩ := hx; obtain ⟨b, rfl⟩ := hy; exact ⟨a * b, (EReal.coe_mul a b).symm⟩

theorem Finite.sum {ι : Type} [Fintype ι] {f : ι → EReal} (h : ∀ i, Finite (f i)) : Finite (∑ i, f i) := by
  classical
  choose r hr using h
  refine ⟨∑ i, r i, ?_⟩
  rw [funext hr]
  induction (Finset.univ : Finset ι) using Finset.induction_on with
  | empty => simp
  | insert i s hi ih => rw [Finset.sum_insert hi, Finset.sum_insert hi, ih, EReal.coe_add]

/-- The derivative, times a number known to be real. -/
theorem derivative_finite {t : EReal} (ht : Finite t) (g : EReal) :
    (t * logi g) * (1 + g * (1 - logi g)) = t * logi g + (g * t) * (logi g * (1 - logi g)) := by
  obtain ⟨r, rfl⟩ := ht
  exact derivative r g

end Cert.Silu
end
-- ==== Proof.GluArr.lean ====
/- The feed-forward block's four calls: what each leaves in its output arrays, from the arrays it reads. -/
module

public import proofs.«01_k».proof.Proof.Gen.GluIdeal.Frame
public import proofs.«01_k».proof.Proof.SiluMath
public import proofs.«01_k».proof.Proof.Sums
public import Idealize.ShloMosaic.Lib.WholeRead
public import Idealize.ShloMosaic.Lib.Pipeline.ValueKit

@[expose] public section

set_option maxRecDepth 16384

noncomputable section

namespace Cert.GluIdeal.Prod

open Cert.GluIdeal Cert.GluIdeal.Gen Cert.Prod Cert.Silu
open Idealize.ShloMosaic Idealize.ShloMosaic.TcCoe Idealize.ShloMosaic.Tactic Idealize.SL.Sem

/-- Tokens times a shard's input weight. -/
def upProd (h : S4096x2048.Idx → EReal) (w : S4x2048x1408.Idx → EReal) (y : S4x4096x1408.Idx) : EReal :=
  ∑ k : Fin 2048, h (ix2 (y 1) k) * w (ix3 (y 0) k (y 2))

/-- Tokens times a shard's output weight transposed. -/
def downProd (d : S4096x2048.Idx → EReal) (w : S4x1408x2048.Idx → EReal) (y : S4x4096x1408.Idx) : EReal :=
  ∑ k : Fin 2048, d (ix2 (y 1) k) * w (ix3 (y 0) (y 2) k)

/-- The gate's gradient from the activation's, the gate and the other branch. -/
def gateGrad (a g u : EReal) : EReal := ((a * u) * sigTanh g) * (1 + g * (1 - sigTanh g))

/-- The activation, and the other branch's gradient. -/
def act (g u : EReal) : EReal := (g * sigTanh g) * u
def upGrad (a g : EReal) : EReal := (a * g) * sigTanh g

theorem pay0_at (x0 : Vec Ideal S1024x2048 .bf16) (x1 : Vec Ideal S1x2048x1408 .bf16) (z : Fin 1) (i : Fin 1024) (j : Fin 1408) :
    (k0_pay1 x0 x1 : S1x1024x1408.Idx → EReal) (ix3 z i j)
      = ∑ k : Fin 2048, (x0 : S1024x2048.Idx → EReal) (ix2 i k) * (x1 : S1x2048x1408.Idx → EReal) (ix3 0 k j) := by
  pointwise [k0_pay1]

theorem pay1_up_at (x0 : Vec Ideal S1024x2048 .bf16) (x1 : Vec Ideal S1x2048x1408 .bf16) (z : Fin 1) (i : Fin 1024) (j : Fin 1408) :
    (k1_pay3 x0 x1 : S1x1024x1408.Idx → EReal) (ix3 z i j)
      = ∑ k : Fin 2048, (x0 : S1024x2048.Idx → EReal) (ix2 i k) * (x1 : S1x2048x1408.Idx → EReal) (ix3 0 k j) := by
  pointwise [k1_pay3, k1_pay1]

theorem pay1_act_at (x0 : Vec Ideal S1024x2048 .bf16) (x1 : Vec Ideal S1x2048x1408 .bf16) (x2 : Vec Ideal S1x1024x1408 .bf16)
    (z : Fin 1) (i : Fin 1024) (j : Fin 1408) :
    (k1_pay2 x0 x1 x2 : S1x1024x1408.Idx → EReal) (ix3 z i j)
      = act ((x2 : S1x1024x1408.Idx → EReal) (ix3 0 i j))
        (∑ k : Fin 2048, (x0 : S1024x2048.Idx → EReal) (ix2 i k) * (x1 : S1x2048x1408.Idx → EReal) (ix3 0 k j)) := by
  unfold act sigTanh
  pointwise [k1_pay2, k1_pay1]

theorem pay2_at (x0 : Vec Ideal S1024x2048 .bf16) (x1 : Vec Ideal S1x1408x2048 .bf16) (z : Fin 1) (i : Fin 1024) (j : Fin 1408) :
    (k2_pay1 x0 x1 : S1x1024x1408.Idx → EReal) (ix3 z i j)
      = ∑ k : Fin 2048, (x0 : S1024x2048.Idx → EReal) (ix2 i k) * (x1 : S1x1408x2048.Idx → EReal) (ix3 0 j k) := by
  pointwise [k2_pay1]

theorem pay3_gate_at (a g u : Vec Ideal S1024x1408 .bf16) (i : Fin 1024) (j : Fin 1408) :
    (k3_pay4 a g u : S1024x1408.Idx → EReal) (ix2 i j)
      = gateGrad ((a : S1024x1408.Idx → EReal) (ix2 i j)) ((g : S1024x1408.Idx → EReal) (ix2 i j)) ((u : S1024x1408.Idx → EReal) (ix2 i j)) := by
  unfold gateGrad sigTanh
  pointwise [k3_pay4, k3_pay3, k3_pay2, k3_pay1]

theorem pay3_up_at (a g : Vec Ideal S1024x1408 .bf16) (i : Fin 1024) (j : Fin 1408) :
    (k3_pay5 a g : S1024x1408.Idx → EReal) (ix2 i j)
      = upGrad ((a : S1024x1408.Idx → EReal) (ix2 i j)) ((g : S1024x1408.Idx → EReal) (ix2 i j)) := by
  unfold upGrad sigTanh
  pointwise [k3_pay5, k3_pay3, k3_pay2, k3_pay1]

variable (V : (c : Dev nD) → (b : Ref sig .tc) → Buf (Elt Ideal) ((c : Thread nD τ).loc b)) (c : Dev nD)

theorem lt16 (t : Fin 16) : t.val / 4 < 4 := by omega

/-- The shard of a point, and a token of its rows. -/
def shard (t : Fin 16) : Fin 4 := ⟨t.val / 4, by omega⟩
def tok (t : Fin 16) (i : Fin 1024) : Fin 4096 := ⟨t.val % 4 * 1024 + i.val, by omega⟩
/-- A row of the flattened arrays. -/
def flat (t : Fin 16) (i : Fin 1024) : Fin 16384 := ⟨t.val * 1024 + i.val, by omega⟩

theorem index0_0 : ∀ t : Fin grid0.N, win0_0.index t = ![t.val % 4, 0] := by decide +kernel
theorem index0_1 : ∀ t : Fin grid0.N, win0_1.index t = ![t.val / 4, 0, 0] := by decide +kernel
theorem index0_2 : ∀ t : Fin grid0.N, win0_2.index t = ![t.val / 4, t.val % 4, 0] := by decide +kernel
theorem index1_0 : ∀ t : Fin grid1.N, win1_0.index t = ![t.val % 4, 0] := by decide +kernel
theorem index1_1 : ∀ t : Fin grid1.N, win1_1.index t = ![t.val / 4, 0, 0] := by decide +kernel
theorem index1_2 : ∀ t : Fin grid1.N, win1_2.index t = ![t.val / 4, t.val % 4, 0] := by decide +kernel
theorem index1_3 : ∀ t : Fin grid1.N, win1_3.index t = ![t.val / 4, t.val % 4, 0] := by decide +kernel
theorem index1_4 : ∀ t : Fin grid1.N, win1_4.index t = ![t.val / 4, t.val % 4, 0] := by decide +kernel
theorem index2_0 : ∀ t : Fin grid2.N, win2_0.index t = ![t.val % 4, 0] := by decide +kernel
theorem index2_1 : ∀ t : Fin grid2.N, win2_1.index t = ![t.val / 4, 0, 0] := by decide +kernel
theorem index2_2 : ∀ t : Fin grid2.N, win2_2.index t = ![t.val / 4, t.val % 4, 0] := by decide +kernel
theorem index3_0 : ∀ t : Fin grid3.N, win3_0.index t = ![t.val, 0] := by decide +kernel
theorem index3_1 : ∀ t : Fin grid3.N, win3_1.index t = ![t.val, 0] := by decide +kernel
theorem index3_2 : ∀ t : Fin grid3.N, win3_2.index t = ![t.val, 0] := by decide +kernel
theorem index3_3 : ∀ t : Fin grid3.N, win3_3.index t = ![t.val, 0] := by decide +kernel
theorem index3_4 : ∀ t : Fin grid3.N, win3_4.index t = ![t.val, 0] := by decide +kernel

theorem iblk0_0 (t : Fin cfg0.grid.N) (i : Fin 1024) (k : Fin 2048) : iblk0 V c 0 t (ix2 i k) = V c main_v0 (ix2 (tok t i) k) := by
  blk_simp [iblk0]
  congr 1
  funext d
  apply Fin.ext
  fin_cases d <;> simp [ix2, tok, index0_0]

theorem iblk0_1 (t : Fin cfg0.grid.N) (z : Fin 1) (k : Fin 2048) (j : Fin 1408) :
    iblk0 V c 1 t (ix3 z k j) = V c main_v2 (ix3 (shard t) k j) := by
  blk_simp [iblk0]
  congr 1
  funext d
  apply Fin.ext
  fin_cases d <;> simp [ix3, shard, index0_1]

theorem iblk1_0 (t : Fin cfg1.grid.N) (i : Fin 1024) (k : Fin 2048) : iblk1 V c 0 t (ix2 i k) = V c main_v0 (ix2 (tok t i) k) := by
  blk_simp [iblk1]
  congr 1
  funext d
  apply Fin.ext
  fin_cases d <;> simp [ix2, tok, index1_0]

theorem iblk1_1 (t : Fin cfg1.grid.N) (z : Fin 1) (k : Fin 2048) (j : Fin 1408) :
    iblk1 V c 1 t (ix3 z k j) = V c main_v3 (ix3 (shard t) k j) := by
  blk_simp [iblk1]
  congr 1
  funext d
  apply Fin.ext
  fin_cases d <;> simp [ix3, shard, index1_1]

theorem iblk1_2 (t : Fin cfg1.grid.N) (z : Fin 1) (i : Fin 1024) (j : Fin 1408) :
    iblk1 V c 2 t (ix3 z i j) = V c main_v5 (ix3 (shard t) (tok t i) j) := by
  blk_simp [iblk1]
  congr 1
  funext d
  apply Fin.ext
  fin_cases d <;> simp [ix3, shard, tok, index1_2]

theorem iblk2_0 (t : Fin cfg2.grid.N) (i : Fin 1024) (k : Fin 2048) : iblk2 V c 0 t (ix2 i k) = V c main_v1 (ix2 (tok t i) k) := by
  blk_simp [iblk2]
  congr 1
  funext d
  apply Fin.ext
  fin_cases d <;> simp [ix2, tok, index2_0]

theorem iblk2_1 (t : Fin cfg2.grid.N) (z : Fin 1) (j : Fin 1408) (k : Fin 2048) :
    iblk2 V c 1 t (ix3 z j k) = V c main_v4 (ix3 (shard t) j k) := by
  blk_simp [iblk2]
  congr 1
  funext d
  apply Fin.ext
  fin_cases d <;> simp [ix3, shard, index2_1]

theorem iblk3_0 (t : Fin cfg3.grid.N) (i : Fin 1024) (j : Fin 1408) : iblk3 V c 0 t (ix2 i j) = V c main_v10 (ix2 (flat t i) j) := by
  blk_simp [iblk3]
  congr 1
  funext d
  apply Fin.ext
  fin_cases d <;> simp [ix2, flat, index3_0]

theorem iblk3_1 (t : Fin cfg3.grid.N) (i : Fin 1024) (j : Fin 1408) : iblk3 V c 1 t (ix2 i j) = V c main_v7 (ix2 (flat t i) j) := by
  blk_simp [iblk3]
  congr 1
  funext d
  apply Fin.ext
  fin_cases d <;> simp [ix2, flat, index3_1]

theorem iblk3_2 (t : Fin cfg3.grid.N) (i : Fin 1024) (j : Fin 1408) : iblk3 V c 2 t (ix2 i j) = V c main_v8 (ix2 (flat t i) j) := by
  blk_simp [iblk3]
  congr 1
  funext d
  apply Fin.ext
  fin_cases d <;> simp [ix2, flat, index3_2]

/-- The gate. -/
theorem region0 : (dat0 V c).arrAt 2 cfg0.N = upProd (V c main_v0) (V c main_v2) := by
  refine (dat0 V c).arrAt_eq_of_covers 2 _ (by decide +kernel) fun t hf y => ?_
  blk_simp
  rw [after0_2]
  unfold out0_2
  rw [View.canon_unit_zero zero3, View.ld_unit_zero (S := S1024x2048) zero2, View.ld_unit_zero (S := S1x2048x1408) zero3]
  obtain ⟨z, i, j, rfl⟩ : ∃ (z : Fin 1) (i : Fin 1024) (j : Fin 1408), y = ix3 z i j := ⟨y 0, y 1, y 2, eq_ix3 y⟩
  have he : (win0_2.blk t).view.emb (ix3 z i j) = ix3 (shard t) (tok t i) j := by
    funext d
    apply Fin.ext
    blk_simp [index0_2]
    fin_cases d <;> simp [ix3, shard, tok]
  rw [he, pay0_at]
  simp only [iblk0_0, iblk0_1]
  rfl

/-- The other branch, … -/
theorem region1_3 : (dat1 V c).arrAt 3 cfg1.N = upProd (V c main_v0) (V c main_v3) := by
  refine (dat1 V c).arrAt_eq_of_covers 3 _ (by decide +kernel) fun t hf y => ?_
  blk_simp
  rw [after1_3]
  unfold out1_3
  rw [View.canon_unit_zero zero3, View.ld_unit_zero (S := S1024x2048) zero2, View.ld_unit_zero (S := S1x2048x1408) zero3]
  obtain ⟨z, i, j, rfl⟩ : ∃ (z : Fin 1) (i : Fin 1024) (j : Fin 1408), y = ix3 z i j := ⟨y 0, y 1, y 2, eq_ix3 y⟩
  have he : (win1_3.blk t).view.emb (ix3 z i j) = ix3 (shard t) (tok t i) j := by
    funext d
    apply Fin.ext
    blk_simp [index1_3]
    fin_cases d <;> simp [ix3, shard, tok]
  rw [he, pay1_up_at]
  simp only [iblk1_0, iblk1_1]
  rfl

/-- … and the activation. -/
theorem region1_4 : (dat1 V c).arrAt 4 cfg1.N = fun y : S4x4096x1408.Idx =>
    act (V c main_v5 y) (upProd (V c main_v0) (V c main_v3) y) := by
  refine (dat1 V c).arrAt_eq_of_covers 4 _ (by decide +kernel) fun t hf y => ?_
  blk_simp
  rw [after1_4]
  unfold out1_4
  rw [View.canon_unit_zero zero3, View.ld_unit_zero (S := S1024x2048) zero2, View.ld_unit_zero (S := S1x2048x1408) zero3,
    View.ld_unit_zero (S := S1x1024x1408) zero3]
  obtain ⟨z, i, j, rfl⟩ : ∃ (z : Fin 1) (i : Fin 1024) (j : Fin 1408), y = ix3 z i j := ⟨y 0, y 1, y 2, eq_ix3 y⟩
  have he : (win1_4.blk t).view.emb (ix3 z i j) = ix3 (shard t) (tok t i) j := by
    funext d
    apply Fin.ext
    blk_simp [index1_4]
    fin_cases d <;> simp [ix3, shard, tok]
  rw [he, pay1_act_at]
  simp only [iblk1_0, iblk1_1, iblk1_2]
  rfl

/-- The activation's gradient. -/
theorem region2 : (dat2 V c).arrAt 2 cfg2.N = downProd (V c main_v1) (V c main_v4) := by
  refine (dat2 V c).arrAt_eq_of_covers 2 _ (by decide +kernel) fun t hf y => ?_
  blk_simp
  rw [after2_2]
  unfold out2_2
  rw [View.canon_unit_zero zero3, View.ld_unit_zero (S := S1024x2048) zero2, View.ld_unit_zero (S := S1x1408x2048) zero3]
  obtain ⟨z, i, j, rfl⟩ : ∃ (z : Fin 1) (i : Fin 1024) (j : Fin 1408), y = ix3 z i j := ⟨y 0, y 1, y 2, eq_ix3 y⟩
  have he : (win2_2.blk t).view.emb (ix3 z i j) = ix3 (shard t) (tok t i) j := by
    funext d
    apply Fin.ext
    blk_simp [index2_2]
    fin_cases d <;> simp [ix3, shard, tok]
  rw [he, pay2_at]
  simp only [iblk2_0, iblk2_1]
  rfl

/-- The gate's gradient, … -/
theorem region3_3 : (dat3 V c).arrAt 3 cfg3.N = fun y : S16384x1408.Idx =>
    gateGrad (V c main_v10 y) (V c main_v7 y) (V c main_v8 y) := by
  refine (dat3 V c).arrAt_eq_of_covers 3 _ (by decide +kernel) fun t hf y => ?_
  blk_simp
  rw [after3_3]
  unfold out3_3
  rw [View.canon_unit_zero zero2]
  simp only [View.ld_unit_zero (S := S1024x1408) zero2]
  obtain ⟨i, j, rfl⟩ : ∃ (i : Fin 1024) (j : Fin 1408), y = ix2 i j := ⟨y 0, y 1, eq_ix2 y⟩
  have he : (win3_3.blk t).view.emb (ix2 i j) = ix2 (flat t i) j := by
    funext d
    apply Fin.ext
    blk_simp [index3_3]
    fin_cases d <;> simp [ix2, flat]
  rw [he, pay3_gate_at]
  simp only [iblk3_0, iblk3_1, iblk3_2]

/-- … and the other branch's. -/
theorem region3_4 : (dat3 V c).arrAt 4 cfg3.N = fun y : S16384x1408.Idx =>
    upGrad (V c main_v10 y) (V c main_v7 y) := by
  refine (dat3 V c).arrAt_eq_of_covers 4 _ (by decide +kernel) fun t hf y => ?_
  blk_simp
  rw [after3_4]
  unfold out3_4
  rw [View.canon_unit_zero zero2]
  simp only [View.ld_unit_zero (S := S1024x1408) zero2]
  obtain ⟨i, j, rfl⟩ : ∃ (i : Fin 1024) (j : Fin 1408), y = ix2 i j := ⟨y 0, y 1, eq_ix2 y⟩
  have he : (win3_4.blk t).view.emb (ix2 i j) = ix2 (flat t i) j := by
    funext d
    apply Fin.ext
    blk_simp [index3_4]
    fin_cases d <;> simp [ix2, flat]
  rw [he, pay3_up_at]
  simp only [iblk3_0, iblk3_1]

end Cert.GluIdeal.Prod

end
-- ==== Proof.GluHost.lean ====
/- What the host lines between the feed-forward block's calls hold: casts, and the shards' rows laid one after the other. -/
module

public import proofs.«01_k».proof.Proof.Gen.GluIdeal.Frame
public import Idealize.ShloMosaic.Lib.Pointwise
public import Idealize.ShloMosaic.Lib.StableHlo.ReadAt

@[expose] public section

set_option maxRecDepth 16384

noncomputable section

namespace Cert.GluIdeal.Prod

open Cert.GluIdeal Cert.GluIdeal.Gen
open Idealize.ShloMosaic Idealize.ShloMosaic.TcCoe Idealize.ShloMosaic.Tactic Idealize.SL.Sem

variable (V : Valuation τ sig (Elt Ideal))

/-- A shard's token as a row. -/
def rowOf (s : Fin 4) (i : Fin 4096) : Fin 16384 := ⟨s.val * 4096 + i.val, by omega⟩

theorem row_div (s : Fin 4) (i : Fin 4096) (h : (rowOf s i).val / 4096 < 4) : (⟨(rowOf s i).val / 4096, h⟩ : Fin 4) = s :=
  Fin.ext (by dsimp only [rowOf]; omega)

theorem row_mod (s : Fin 4) (i : Fin 4096) (h : (rowOf s i).val % 4096 < 4096) : (⟨(rowOf s i).val % 4096, h⟩ : Fin 4096) = i :=
  Fin.ext (by dsimp only [rowOf]; omega)

theorem host_h (i : Fin 4096) (k : Fin 2048) :
    StableHlo.after hostOps0 V (Proc.devRef .tc main_v0) (ix2 i k) = V (Proc.devRef .tc main_arg0) (ix2 i k) := by
  after_reads_at

theorem host_d (i : Fin 4096) (k : Fin 2048) :
    StableHlo.after hostOps0 V (Proc.devRef .tc main_v1) (ix2 i k) = V (Proc.devRef .tc main_arg4) (ix2 i k) := by
  after_reads_at

theorem host_wg (s : Fin 4) (i : Fin 2048) (k : Fin 1408) :
    StableHlo.after hostOps0 V (Proc.devRef .tc main_v2) (ix3 s i k) = V (Proc.devRef .tc main_arg1) (ix3 s i k) := by
  after_reads_at

theorem host_wu (s : Fin 4) (i : Fin 2048) (k : Fin 1408) :
    StableHlo.after hostOps0 V (Proc.devRef .tc main_v3) (ix3 s i k) = V (Proc.devRef .tc main_arg2) (ix3 s i k) := by
  after_reads_at

theorem host_wd (s : Fin 4) (i : Fin 1408) (k : Fin 2048) :
    StableHlo.after hostOps0 V (Proc.devRef .tc main_v4) (ix3 s i k) = V (Proc.devRef .tc main_arg3) (ix3 s i k) := by
  after_reads_at

theorem host_g (s : Fin 4) (i : Fin 4096) (j : Fin 1408) :
    StableHlo.after hostOps2 V (Proc.devRef .tc main_v7) (ix2 (rowOf s i) j) = V (Proc.devRef .tc main_v5) (ix3 s i j) := by
  after_reads_at
  rw [row_div, row_mod]

theorem host_u (s : Fin 4) (i : Fin 4096) (j : Fin 1408) :
    StableHlo.after hostOps2 V (Proc.devRef .tc main_v8) (ix2 (rowOf s i) j) = V (Proc.devRef .tc main_v6_0) (ix3 s i j) := by
  after_reads_at
  rw [row_div, row_mod]

theorem host_a (s : Fin 4) (i : Fin 4096) (j : Fin 1408) :
    StableHlo.after hostOps3 V (Proc.devRef .tc main_v10) (ix2 (rowOf s i) j) = V (Proc.devRef .tc main_v9) (ix3 s i j) := by
  after_reads_at
  rw [row_div, row_mod]

theorem host_act (s : Fin 4) (i : Fin 4096) (j : Fin 1408) :
    StableHlo.after hostOps4 V (Proc.devRef .tc main_v14) (ix3 s i j) = V (Proc.devRef .tc main_v6_1) (ix3 s i j) := by
  after_reads_at

theorem host_dgate (s : Fin 4) (i : Fin 4096) (j : Fin 1408) :
    StableHlo.after hostOps4 V (Proc.devRef .tc main_v15) (ix3 s i j) = V (Proc.devRef .tc main_v11_0) (ix2 (rowOf s i) j) := by
  after_reads_at
  rfl

theorem host_dup (s : Fin 4) (i : Fin 4096) (j : Fin 1408) :
    StableHlo.after hostOps4 V (Proc.devRef .tc main_v16) (ix3 s i j) = V (Proc.devRef .tc main_v11_1) (ix2 (rowOf s i) j) := by
  after_reads_at
  rfl

end Cert.GluIdeal.Prod

end
-- ==== Proof.GluOut.lean ====
/- The feed-forward block's three results, from the five arguments. -/
module

public import proofs.«01_k».proof.Proof.GluArr
public import proofs.«01_k».proof.Proof.GluHost

@[expose] public section

set_option maxRecDepth 16384

noncomputable section

namespace Cert.GluIdeal.Prod

open Cert.GluIdeal Cert.GluIdeal.Gen Cert.Silu
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The five arguments as extended reals: tokens, gate weight, other branch's weight, output weight, incoming gradient. -/
abbrev inH : S4096x2048.Idx → EReal := m ((c : Thread nD τ).loc main_arg0)
abbrev inWg : S4x2048x1408.Idx → EReal := m ((c : Thread nD τ).loc main_arg1)
abbrev inWu : S4x2048x1408.Idx → EReal := m ((c : Thread nD τ).loc main_arg2)
abbrev inWd : S4x1408x2048.Idx → EReal := m ((c : Thread nD τ).loc main_arg3)
abbrev inD : S4096x2048.Idx → EReal := m ((c : Thread nD τ).loc main_arg4)

/-- The gate, the other branch, and the activation's gradient. -/
abbrev gate : S4x4096x1408.Idx → EReal := upProd (inH m c) (inWg m c)
abbrev up : S4x4096x1408.Idx → EReal := upProd (inH m c) (inWu m c)
abbrev dact : S4x4096x1408.Idx → EReal := downProd (inD m c) (inWd m c)

theorem entry_h : (W1 m ρ c (Proc.devRef .tc main_v0) : S4096x2048.Idx → EReal) = inH m c := by
  funext y; idx_vars y; exact host_h (W0 m ρ c) _ _

theorem entry_d : (W1 m ρ c (Proc.devRef .tc main_v1) : S4096x2048.Idx → EReal) = inD m c := by
  funext y; idx_vars y; exact host_d (W0 m ρ c) _ _

theorem entry_wg : (W1 m ρ c (Proc.devRef .tc main_v2) : S4x2048x1408.Idx → EReal) = inWg m c := by
  funext y; idx_vars y; exact host_wg (W0 m ρ c) _ _ _

theorem entry_wu : (W1 m ρ c (Proc.devRef .tc main_v3) : S4x2048x1408.Idx → EReal) = inWu m c := by
  funext y; idx_vars y; exact host_wu (W0 m ρ c) _ _ _

theorem entry_wd : (W1 m ρ c (Proc.devRef .tc main_v4) : S4x1408x2048.Idx → EReal) = inWd m c := by
  funext y; idx_vars y; exact host_wd (W0 m ρ c) _ _ _

theorem gate2 : (W2 m ρ c (Proc.devRef .tc main_v5) : S4x4096x1408.Idx → EReal) = gate m c :=
  ((W2_arr m ρ c 2).trans (region0 (V1 m ρ) c)).trans (congrArg₂ upProd (entry_h m ρ c) (entry_wg m ρ c))

theorem up_mid : upProd (W2 m ρ c (Proc.devRef .tc main_v0)) (W2 m ρ c (Proc.devRef .tc main_v3)) = up m c :=
  congrArg₂ upProd ((W2_of m ρ c main_v0 (by decide +kernel)).trans (entry_h m ρ c))
    ((W2_of m ρ c main_v3 (by decide +kernel)).trans (entry_wu m ρ c))

theorem up3 : (W3 m ρ c (Proc.devRef .tc main_v6_0) : S4x4096x1408.Idx → EReal) = up m c :=
  ((W3_arr m ρ c 3).trans (region1_3 (V2 m ρ) c)).trans (up_mid m ρ c)

theorem act3 : (W3 m ρ c (Proc.devRef .tc main_v6_1) : S4x4096x1408.Idx → EReal) = fun y => act (gate m c y) (up m c y) := by
  refine ((W3_arr m ρ c 4).trans (region1_4 (V2 m ρ) c)).trans ?_
  funext y
  exact congrArg₂ act (congrFun (gate2 m ρ c) y) (congrFun (up_mid m ρ c) y)

theorem gate3 : (W3 m ρ c (Proc.devRef .tc main_v5) : S4x4096x1408.Idx → EReal) = gate m c :=
  (W3_of m ρ c main_v5 (by decide +kernel)).trans (gate2 m ρ c)

theorem gate6 (s : Fin 4) (i : Fin 4096) (j : Fin 1408) :
    (W6 m ρ c (Proc.devRef .tc main_v7) : S16384x1408.Idx → EReal) (ix2 (rowOf s i) j) = gate m c (ix3 s i j) := by
  rw [W6_of m ρ c main_v7 (by decide +kernel), W5_of m ρ c main_v7 (by decide +kernel)]
  exact (host_g (W3 m ρ c) s i j).trans (congrFun (gate3 m ρ c) _)

theorem up6 (s : Fin 4) (i : Fin 4096) (j : Fin 1408) :
    (W6 m ρ c (Proc.devRef .tc main_v8) : S16384x1408.Idx → EReal) (ix2 (rowOf s i) j) = up m c (ix3 s i j) := by
  rw [W6_of m ρ c main_v8 (by decide +kernel), W5_of m ρ c main_v8 (by decide +kernel)]
  exact (host_u (W3 m ρ c) s i j).trans (congrFun (up3 m ρ c) _)

theorem dact5 : (W5 m ρ c (Proc.devRef .tc main_v9) : S4x4096x1408.Idx → EReal) = dact m c :=
  ((W5_arr m ρ c 2).trans (region2 (V4 m ρ) c)).trans (congrArg₂ downProd
    ((W4_of m ρ c main_v1 (by decide +kernel)).trans ((W3_of m ρ c main_v1 (by decide +kernel)).trans
      ((W2_of m ρ c main_v1 (by decide +kernel)).trans (entry_d m ρ c))))
    ((W4_of m ρ c main_v4 (by decide +kernel)).trans ((W3_of m ρ c main_v4 (by decide +kernel)).trans
      ((W2_of m ρ c main_v4 (by decide +kernel)).trans (entry_wd m ρ c)))))

theorem dact6 (s : Fin 4) (i : Fin 4096) (j : Fin 1408) :
    (W6 m ρ c (Proc.devRef .tc main_v10) : S16384x1408.Idx → EReal) (ix2 (rowOf s i) j) = dact m c (ix3 s i j) :=
  (host_a (W5 m ρ c) s i j).trans (congrFun (dact5 m ρ c) _)

/-- The activation. -/
theorem out_act (s : Fin 4) (i : Fin 4096) (j : Fin 1408) :
    (W8 m ρ c (Proc.devRef .tc main_v14) : S4x4096x1408.Idx → EReal) (ix3 s i j) = act (gate m c (ix3 s i j)) (up m c (ix3 s i j)) := by
  refine (host_act (W7 m ρ c) s i j).trans ?_
  rw [W7_of m ρ c main_v6_1 (by decide +kernel), W6_of m ρ c main_v6_1 (by decide +kernel), W5_of m ρ c main_v6_1 (by decide +kernel),
    W4_of m ρ c main_v6_1 (by decide +kernel)]
  exact congrFun (act3 m ρ c) _

/-- The gate's gradient. -/
theorem out_dgate (s : Fin 4) (i : Fin 4096) (j : Fin 1408) :
    (W8 m ρ c (Proc.devRef .tc main_v15) : S4x4096x1408.Idx → EReal) (ix3 s i j)
      = gateGrad (dact m c (ix3 s i j)) (gate m c (ix3 s i j)) (up m c (ix3 s i j)) := by
  refine (host_dgate (W7 m ρ c) s i j).trans ?_
  refine (congrFun ((W7_arr m ρ c 3).trans (region3_3 (V6 m ρ) c)) _).trans ?_
  rw [← dact6 m ρ c s i j, ← gate6 m ρ c s i j, ← up6 m ρ c s i j]

/-- The other branch's gradient. -/
theorem out_dup (s : Fin 4) (i : Fin 4096) (j : Fin 1408) :
    (W8 m ρ c (Proc.devRef .tc main_v16) : S4x4096x1408.Idx → EReal) (ix3 s i j) = upGrad (dact m c (ix3 s i j)) (gate m c (ix3 s i j)) := by
  refine (host_dup (W7 m ρ c) s i j).trans ?_
  refine (congrFun ((W7_arr m ρ c 4).trans (region3_4 (V6 m ρ) c)) _).trans ?_
  rw [← dact6 m ρ c s i j, ← gate6 m ρ c s i j]

end Cert.GluIdeal.Prod

end
-- ==== Proof.GluPre.lean ====
/- What the precondition of the feed-forward block says: the tokens, the other branch's weight, the output weight and
   the incoming gradient hold real numbers. -/
module

public import proofs.«01_k».proof.Pre_finite
public import proofs.«01_k».proof.Proof.SiluMath
public import Idealize.ShloMosaic.Lib.ReduceAll

@[expose] public section

set_option maxRecDepth 16384

noncomputable section

namespace Cert.Pre_finite.Prod

open Cert.Pre_finite Cert.Silu Idealize.ShloMosaic

/-- The predicate's shape facts. -/
instance shapes : Cert.Pre_finite.Facts where
  bcast_S_S4096x2048 := by decide
  reducesTo_S4096x2048_S_d0_1 := by decide
  h_S_ := by decide
  bcast_S_S4x2048x1408 := by decide
  reducesTo_S4x2048x1408_S_d0_1_2 := by decide
  bcast_S_S4x1408x2048 := by decide
  reducesTo_S4x1408x2048_S_d0_1_2 := by decide

instance : Subsingleton S_.Idx := ⟨fun a b => funext fun d => d.elim0⟩

theorem infinity : Ideal.ofBits FTy.f32 0x7F800000#32 = ⊤ := by simp [Ideal.ofBits, Ideal.ieee]

/-- A number whose absolute value is below infinity is real. -/
theorem finite_of_abs (x : EReal) (h : Ideal.cmp .olt (max x (-x)) ⊤ = 1#1) : Finite x := by
  have hlt : max x (-x) < ⊤ := by
    by_contra hn
    rw [Ideal.cmp, decide_eq_false hn] at h
    exact absurd h (by decide)
  induction x with
  | bot => simp at hlt
  | top => simp at hlt
  | coe r => exact ⟨r, rfl⟩

variable (a0 : FVec Ideal S4096x2048 .f32) (a1 a2 : FVec Ideal S4x2048x1408 .f32) (a3 : FVec Ideal S4x1408x2048 .f32) (a4 : FVec Ideal S4096x2048 .f32)

theorem finite_all (h : fn (F := Ideal) a0 a1 a2 a3 a4 = fun _ => 1#1) :
    (∀ i, Finite (a0 i)) ∧ (∀ i, Finite (a2 i)) ∧ (∀ i, Finite (a3 i)) ∧ (∀ i, Finite (a4 i)) := by
  have e := congrFun h (Shape.Idx.first (s := S_) (by decide))
  obtain ⟨e, h4⟩ := IntOp.andi_eq_one.1 e
  obtain ⟨e, h3⟩ := IntOp.andi_eq_one.1 e
  obtain ⟨h0, h2⟩ := IntOp.andi_eq_one.1 e
  have k0 := Host.reduce_andi_all _ _ _ _ _ h0
  have k2 := Host.reduce_andi_all _ _ _ _ _ h2
  have k3 := Host.reduce_andi_all _ _ _ _ _ h3
  have k4 := Host.reduce_andi_all _ _ _ _ _ h4
  refine ⟨fun i => finite_of_abs _ ?_, fun i => finite_of_abs _ ?_, fun i => finite_of_abs _ ?_, fun i => finite_of_abs _ ?_⟩
  · rw [← infinity]; exact k0 i
  · rw [← infinity]; exact k2 i
  · rw [← infinity]; exact k3 i
  · rw [← infinity]; exact k4 i

end Cert.Pre_finite.Prod

end
-- ==== Proof.GluEq.lean ====
/- The feed-forward block: the kernel's activation and its two gradients are the reference's. -/
module

public import proofs.«01_k».proof.Defs
public import proofs.«01_k».proof.Proof.GluRun
public import proofs.«01_k».proof.Proof.GluOut
public import proofs.«01_k».proof.Proof.GluPre
public import proofs.«01_k».proof.Proof.Gen.GluRIdeal.Run
public import Idealize.ShloMosaic.Lib.Quiescent

@[expose] public section

set_option maxRecDepth 16384

noncomputable section

namespace Cert.GluRIdeal.Prod

open Cert.GluRIdeal Cert.GluRIdeal.Gen Cert.GluRIdeal.Value Cert.Silu
open Idealize.ShloMosaic Idealize.ShloMosaic.TcCoe Idealize.ShloMosaic.Tactic

variable (h d : FVec Ideal S4096x2048 .f32) (w : FVec Ideal S4x2048x1408 .f32) (v : FVec Ideal S4x1408x2048 .f32)
variable (D G U : FVec Ideal S4x4096x1408 .f32) (s : Fin 4) (i : Fin 4096) (j : Fin 1408)

/-- The reference's product of the tokens with an input weight, … -/
abbrev upTerm : FVec Ideal S4x4096x1408 .f32 := transpose S4x4096x1408 [0, 2, 1]
  (Host.dotGeneral dot_S4x2048x1408_S4096x2048_S4x1408x4096_1_1_02_0_n_n none w h) transposes_S4x1408x4096_S4x4096x1408_0_2_1

/-- … and of the incoming gradient with the output weight transposed. -/
abbrev downTerm : FVec Ideal S4x4096x1408 .f32 := transpose S4x4096x1408 [1, 0, 2]
  (Host.dotGeneral dot_S4096x2048_S4x1408x2048_S4096x4x1408_1_2_0_01_n_n none d v) transposes_S4096x4x1408_S4x4096x1408_1_0_2

/-- One everywhere, and the logistic function of an array. -/
abbrev oneTerm : FVec Ideal S4x4096x1408 .f32 := broadcastInDim S4x4096x1408 ![] bcast_S_S4x4096x1408 (constant (F := Ideal) S_ .f32 0x3F800000#32)
abbrev sigTerm : FVec Ideal S4x4096x1408 .f32 := Host.divf (F := Ideal) oneTerm (addf oneTerm (Host.exp (Host.negf G)))

theorem up_at : (upTerm h w : S4x4096x1408.Idx → EReal) (ix3 s i j)
    = ∑ k : Fin 2048, (h : S4096x2048.Idx → EReal) (ix2 i k) * (w : S4x2048x1408.Idx → EReal) (ix3 s k j) := by
  pointwise [upTerm]
  exact Finset.sum_congr rfl fun k _ => mul_comm (G := EReal) _ _

theorem down_at : (downTerm d v : S4x4096x1408.Idx → EReal) (ix3 s i j)
    = ∑ k : Fin 2048, (d : S4096x2048.Idx → EReal) (ix2 i k) * (v : S4x1408x2048.Idx → EReal) (ix3 s j k) := by
  pointwise [downTerm]

theorem act_at : (mulf (F := Ideal) (mulf G (sigTerm G)) U : S4x4096x1408.Idx → EReal) (ix3 s i j)
    = ((G (ix3 s i j) : EReal) * logi (G (ix3 s i j))) * (U (ix3 s i j) : EReal) := by
  unfold logi
  pointwise [sigTerm, oneTerm]

theorem dgate_at : (addf (F := Ideal) (mulf (mulf D U) (sigTerm G)) (mulf (mulf G (mulf D U)) (mulf (sigTerm G) (subf oneTerm (sigTerm G)))) : S4x4096x1408.Idx → EReal) (ix3 s i j)
    = ((D (ix3 s i j) : EReal) * (U (ix3 s i j) : EReal)) * logi (G (ix3 s i j))
      + ((G (ix3 s i j) : EReal) * ((D (ix3 s i j) : EReal) * (U (ix3 s i j) : EReal))) * (logi (G (ix3 s i j)) * (1 - logi (G (ix3 s i j)))) := by
  unfold logi
  pointwise [sigTerm, oneTerm]

/-- The two products, summed. -/
abbrev upSum (s : Fin 4) (i : Fin 4096) (j : Fin 1408) : EReal :=
  ∑ k : Fin 2048, (h : S4096x2048.Idx → EReal) (ix2 i k) * (w : S4x2048x1408.Idx → EReal) (ix3 s k j)
abbrev downSum (s : Fin 4) (i : Fin 4096) (j : Fin 1408) : EReal :=
  ∑ k : Fin 2048, (d : S4096x2048.Idx → EReal) (ix2 i k) * (v : S4x1408x2048.Idx → EReal) (ix3 s j k)

variable (w' : FVec Ideal S4x2048x1408 .f32)

theorem act_sum : (mulf (F := Ideal) (mulf (upTerm h w) (sigTerm (upTerm h w))) (upTerm h w') : S4x4096x1408.Idx → EReal) (ix3 s i j)
    = (upSum h w s i j * logi (upSum h w s i j)) * upSum h w' s i j :=
  (act_at _ _ s i j).trans (by rw [up_at, up_at])

theorem dup_sum : (mulf (F := Ideal) (mulf (upTerm h w) (sigTerm (upTerm h w))) (downTerm d v) : S4x4096x1408.Idx → EReal) (ix3 s i j)
    = (upSum h w s i j * logi (upSum h w s i j)) * downSum d v s i j :=
  (act_at _ _ s i j).trans (by rw [up_at, down_at])

theorem dgate_sum : (addf (F := Ideal) (mulf (mulf (downTerm d v) (upTerm h w')) (sigTerm (upTerm h w)))
      (mulf (mulf (upTerm h w) (mulf (downTerm d v) (upTerm h w'))) (mulf (sigTerm (upTerm h w)) (subf oneTerm (sigTerm (upTerm h w))))) : S4x4096x1408.Idx → EReal) (ix3 s i j)
    = (downSum d v s i j * upSum h w' s i j) * logi (upSum h w s i j)
      + (upSum h w s i j * (downSum d v s i j * upSum h w' s i j)) * (logi (upSum h w s i j) * (1 - logi (upSum h w s i j))) :=
  (dgate_at _ _ _ s i j).trans (by rw [up_at, up_at, down_at])

end Cert.GluRIdeal.Prod

namespace Cert.Proof

open Idealize.ShloMosaic Idealize.ShloMosaic.TcCoe Idealize.ShloMosaic.Tactic Idealize.SL.Sem
open Cert.Silu Cert.GluIdeal.Prod Cert.GluRIdeal.Prod

theorem frame_glu_reference : Cert.quiescent_GluRIdeal := fun m ρ _ =>
  (θ_run (Cert.GluRIdeal.defs (F := Ideal)) _ _).mono (fun _ h => ⟨fun c => (h c).2.2.2, sem_eq_zero_of_no_sems rfl _⟩)
    (Cert.GluRIdeal.Value.run m ρ)

theorem equal_glu : Cert.algebraic_GluIdeal_GluRIdeal_pre_finite := fun m g m' g' hp hm =>
  ⟨fun c => Cert.GluIdeal.Gen.W8 m g c (Proc.devRef .tc Cert.GluIdeal.main_v14),
   fun c => Cert.GluIdeal.Gen.W8 m g c (Proc.devRef .tc Cert.GluIdeal.main_v15),
   fun c => Cert.GluIdeal.Gen.W8 m g c (Proc.devRef .tc Cert.GluIdeal.main_v16),
   (θ_run (Cert.GluIdeal.defs (F := Ideal)) _ _).mono (fun r h c => ⟨h c _ (by decide), h c _ (by decide), h c _ (by decide),
       (h c _ (by decide)).trans (Cert.GluIdeal.Gen.W8_main_arg0 m g c), (h c _ (by decide)).trans (Cert.GluIdeal.Gen.W8_main_arg1 m g c),
       (h c _ (by decide)).trans (Cert.GluIdeal.Gen.W8_main_arg2 m g c), (h c _ (by decide)).trans (Cert.GluIdeal.Gen.W8_main_arg3 m g c),
       (h c _ (by decide)).trans (Cert.GluIdeal.Gen.W8_main_arg4 m g c)⟩)
     (Cert.GluIdeal.Prod.run_all m g),
   (θ_run (Cert.GluRIdeal.defs (F := Ideal)) _ _).mono (fun r h c => ⟨
      (h c).1.trans (by
        rw [(hm c).1, (hm c).2.1, (hm c).2.2.1]
        funext y
        revert y
        show ∀ y : Cert.GluIdeal.S4x4096x1408.Idx, _
        intro y
        idx_vars y
        refine (act_sum _ _ _ _ _ _).trans (Eq.trans ?_ (out_act m g c _ _ _).symm)
        rw [act, sigTanh_eq]
        rfl),
      (h c).2.1.trans (by
        rw [(hm c).1, (hm c).2.1, (hm c).2.2.1, (hm c).2.2.2.1, (hm c).2.2.2.2]
        funext y
        revert y
        show ∀ y : Cert.GluIdeal.S4x4096x1408.Idx, _
        intro y
        idx_vars y
        refine (dgate_sum _ _ _ _ _ _ _ _).trans (Eq.trans ?_ (out_dgate m g c _ _ _).symm)
        rw [gateGrad, sigTanh_eq]
        obtain ⟨h0, h2, h3, h4⟩ := Cert.Pre_finite.Prod.finite_all _ _ _ _ _ (hp c)
        exact (derivative_finite ((Finite.sum fun k => (h4 (ix2 _ k)).mul (h3 (ix3 _ _ k))).mul
          (Finite.sum fun k => (h0 (ix2 _ k)).mul (h2 (ix3 _ k _)))) _).symm),
      (h c).2.2.1.trans (by
        rw [(hm c).1, (hm c).2.1, (hm c).2.2.2.1, (hm c).2.2.2.2]
        funext y
        revert y
        show ∀ y : Cert.GluIdeal.S4x4096x1408.Idx, _
        intro y
        idx_vars y
        refine (dup_sum _ _ _ _ _ _ _).trans (Eq.trans ?_ (out_dup m g c _ _ _).symm)
        rw [upGrad, sigTanh_eq]
        exact (mul_comm (G := EReal) _ _).trans (mul_assoc (G := EReal) _ _ _).symm),
      (h c).2.2.2⟩)
     (Cert.GluRIdeal.Value.run m' g')⟩

end Cert.Proof

end
-- ==== Proof.ProjRun.lean ====
/- The kernel's run with every buffer after it named: the launch set-up of the generated frame, its last thread state
   read against the final memory. -/
module

public import proofs.«01_k».proof.Proof.Gen.ProjIdeal.Frame

@[expose] public section

set_option maxRecDepth 16384

noncomputable section

namespace Cert.ProjIdeal.Prod

open Cert.ProjIdeal Cert.ProjIdeal.Gen Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every unscoped buffer holds what the last boundary's contents say. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W6 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c b hb => h c _ (mem_uc b hb))

end Cert.ProjIdeal.Prod
-- ==== Proof.ProjArr.lean ====
/- The projections' five calls that take each product in one block: what each leaves in its output array, from the
   arrays it reads. -/
module

public import proofs.«01_k».proof.Proof.Gen.ProjIdeal.Frame
public import proofs.«01_k».proof.Proof.Sums
public import Idealize.ShloMosaic.Lib.Pointwise
public import Idealize.ShloMosaic.Lib.WholeRead
public import Idealize.ShloMosaic.Lib.Pipeline.ValueKit

@[expose] public section

set_option maxRecDepth 16384

noncomputable section

namespace Cert.ProjIdeal.Prod

open Cert.ProjIdeal Cert.ProjIdeal.Gen Cert.Prod
open Idealize.ShloMosaic Idealize.ShloMosaic.TcCoe Idealize.ShloMosaic.Tactic Idealize.SL.Sem

/-- Tokens times a part's weight. -/
def partProd (h : S4096x2048.Idx → EReal) (w : S4x2048x1024.Idx → EReal) (y : S4x4096x1024.Idx) : EReal :=
  ∑ k : Fin 2048, h (ix2 (y 1) k) * w (ix3 (y 0) k (y 2))

/-- Tokens times the gate's weight, and times its transpose. -/
def gateProd (h : S4096x1024.Idx → EReal) (w : S1024x1024.Idx → EReal) (y : S4096x1024.Idx) : EReal :=
  ∑ k : Fin 1024, h (ix2 (y 0) k) * w (ix2 k (y 1))
def gateBack (d : S4096x1024.Idx → EReal) (w : S1024x1024.Idx → EReal) (y : S4096x1024.Idx) : EReal :=
  ∑ k : Fin 1024, d (ix2 (y 0) k) * w (ix2 (y 1) k)

/-- Tokens times the output weight, and times its transpose. -/
def outProd (h : S4096x2048.Idx → EReal) (w : S2048x2048.Idx → EReal) (y : S4096x2048.Idx) : EReal :=
  ∑ k : Fin 2048, h (ix2 (y 0) k) * w (ix2 k (y 1))
def outBack (d : S4096x2048.Idx → EReal) (w : S2048x2048.Idx → EReal) (y : S4096x2048.Idx) : EReal :=
  ∑ k : Fin 2048, d (ix2 (y 0) k) * w (ix2 (y 1) k)

/-- A product with what it is added to. -/
def plus (p a : EReal) : EReal := p + a

theorem pay0_at (x0 : Vec Ideal S1024x2048 .bf16) (x1 : Vec Ideal S1x2048x1024 .bf16) (z : Fin 1) (i : Fin 1024) (j : Fin 1024) :
    (k0_pay1 x0 x1 : S1x1024x1024.Idx → EReal) (ix3 z i j)
      = ∑ k : Fin 2048, (x0 : S1024x2048.Idx → EReal) (ix2 i k) * (x1 : S1x2048x1024.Idx → EReal) (ix3 0 k j) := by
  pointwise [k0_pay1]

theorem pay1_at (x0 x1 : Vec Ideal S1024x1024 .bf16) (i : Fin 1024) (j : Fin 1024) :
    (k1_pay1 x0 x1 : S1024x1024.Idx → EReal) (ix2 i j)
      = ∑ k : Fin 1024, (x0 : S1024x1024.Idx → EReal) (ix2 i k) * (x1 : S1024x1024.Idx → EReal) (ix2 k j) := by
  pointwise [k1_pay1]

theorem pay2_at (x0 : Vec Ideal S1024x2048 .bf16) (x1 : Vec Ideal S2048x1024 .bf16) (x2 : Vec Ideal S1024x1024 .f32) (i : Fin 1024) (j : Fin 1024) :
    (k2_pay1 x0 x1 x2 : S1024x1024.Idx → EReal) (ix2 i j)
      = plus (∑ k : Fin 2048, (x0 : S1024x2048.Idx → EReal) (ix2 i k) * (x1 : S2048x1024.Idx → EReal) (ix2 k j))
        ((x2 : S1024x1024.Idx → EReal) (ix2 i j)) := by
  unfold plus
  pointwise [k2_pay1]

theorem pay3_at (x0 : Vec Ideal S1024x2048 .f32) (x1 : Vec Ideal S1024x2048 .bf16) (i : Fin 1024) (j : Fin 1024) :
    (k3_pay1 x0 x1 : S1024x1024.Idx → EReal) (ix2 i j)
      = ∑ k : Fin 2048, (x0 : S1024x2048.Idx → EReal) (ix2 i k) * (x1 : S1024x2048.Idx → EReal) (ix2 j k) := by
  pointwise [k3_pay1]

theorem pay4_at (x0 x1 : Vec Ideal S1024x1024 .bf16) (x2 : Vec Ideal S1024x1024 .f32) (i : Fin 1024) (j : Fin 1024) :
    (k4_pay1 x0 x1 x2 : S1024x1024.Idx → EReal) (ix2 i j)
      = plus (∑ k : Fin 1024, (x0 : S1024x1024.Idx → EReal) (ix2 i k) * (x1 : S1024x1024.Idx → EReal) (ix2 j k))
        ((x2 : S1024x1024.Idx → EReal) (ix2 i j)) := by
  unfold plus
  pointwise [k4_pay1]

variable (V : (c : Dev nD) → (b : Ref sig .tc) → Buf (Elt Ideal) ((c : Thread nD τ).loc b)) (c : Dev nD)

/-- The part and a token of a point of the input projection's. -/
def shard (t : Fin 16) : Fin 4 := ⟨t.val / 4, by omega⟩
def tok (t : Fin 16) (i : Fin 1024) : Fin 4096 := ⟨t.val % 4 * 1024 + i.val, by omega⟩
/-- A token of a point of the gate's. -/
def gtok (t : Fin 4) (i : Fin 1024) : Fin 4096 := ⟨t.val * 1024 + i.val, by omega⟩
/-- A token and a column of a point of the output projection's. -/
def row (t : Fin 8) (i : Fin 1024) : Fin 4096 := ⟨t.val / 2 * 1024 + i.val, by omega⟩
def col (t : Fin 8) (j : Fin 1024) : Fin 2048 := ⟨t.val % 2 * 1024 + j.val, by omega⟩

theorem index0_0 : ∀ t : Fin grid0.N, win0_0.index t = ![t.val % 4, 0] := by decide +kernel
theorem index0_1 : ∀ t : Fin grid0.N, win0_1.index t = ![t.val / 4, 0, 0] := by decide +kernel
theorem index0_2 : ∀ t : Fin grid0.N, win0_2.index t = ![t.val / 4, t.val % 4, 0] := by decide +kernel
theorem index1_0 : ∀ t : Fin grid1.N, win1_0.index t = ![t.val, 0] := by decide +kernel
theorem index1_1 : ∀ t : Fin grid1.N, win1_1.index t = ![0, 0] := by decide +kernel
theorem index1_2 : ∀ t : Fin grid1.N, win1_2.index t = ![t.val, 0] := by decide +kernel
theorem index2_0 : ∀ t : Fin grid2.N, win2_0.index t = ![t.val / 2, 0] := by decide +kernel
theorem index2_1 : ∀ t : Fin grid2.N, win2_1.index t = ![0, t.val % 2] := by decide +kernel
theorem index2_2 : ∀ t : Fin grid2.N, win2_2.index t = ![t.val / 2, t.val % 2] := by decide +kernel
theorem index2_3 : ∀ t : Fin grid2.N, win2_3.index t = ![t.val / 2, t.val % 2] := by decide +kernel
theorem index3_0 : ∀ t : Fin grid3.N, win3_0.index t = ![t.val / 2, 0] := by decide +kernel
theorem index3_1 : ∀ t : Fin grid3.N, win3_1.index t = ![t.val % 2, 0] := by decide +kernel
theorem index3_2 : ∀ t : Fin grid3.N, win3_2.index t = ![t.val / 2, t.val % 2] := by decide +kernel
theorem index4_0 : ∀ t : Fin grid4.N, win4_0.index t = ![t.val, 0] := by decide +kernel
theorem index4_1 : ∀ t : Fin grid4.N, win4_1.index t = ![0, 0] := by decide +kernel
theorem index4_2 : ∀ t : Fin grid4.N, win4_2.index t = ![t.val, 0] := by decide +kernel
theorem index4_3 : ∀ t : Fin grid4.N, win4_3.index t = ![t.val, 0] := by decide +kernel

theorem iblk0_0 (t : Fin cfg0.grid.N) (i : Fin 1024) (k : Fin 2048) : iblk0 V c 0 t (ix2 i k) = V c main_v0 (ix2 (tok t i) k) := by
  blk_simp [iblk0]
  congr 1
  funext d
  apply Fin.ext
  fin_cases d <;> simp [ix2, tok, index0_0]

theorem iblk0_1 (t : Fin cfg0.grid.N) (z : Fin 1) (k : Fin 2048) (j : Fin 1024) :
    iblk0 V c 1 t (ix3 z k j) = V c main_v1 (ix3 (shard t) k j) := by
  blk_simp [iblk0]
  congr 1
  funext d
  apply Fin.ext
  fin_cases d <;> simp [ix3, shard, index0_1]

theorem iblk1_0 (t : Fin cfg1.grid.N) (i k : Fin 1024) : iblk1 V c 0 t (ix2 i k) = V c main_v4 (ix2 (gtok t i) k) := by
  blk_simp [iblk1]
  congr 1
  funext d
  apply Fin.ext
  fin_cases d <;> simp [ix2, gtok, index1_0]

theorem iblk1_1 (t : Fin cfg1.grid.N) (k j : Fin 1024) : iblk1 V c 1 t (ix2 k j) = V c main_v5 (ix2 k j) := by
  blk_simp [iblk1]
  congr 1
  funext d
  apply Fin.ext
  fin_cases d <;> simp [ix2, index1_1]

theorem iblk2_0 (t : Fin cfg2.grid.N) (i : Fin 1024) (k : Fin 2048) : iblk2 V c 0 t (ix2 i k) = V c main_v2 (ix2 (row t i) k) := by
  blk_simp [iblk2]
  congr 1
  funext d
  apply Fin.ext
  fin_cases d <;> simp [ix2, row, index2_0]

theorem iblk2_1 (t : Fin cfg2.grid.N) (k : Fin 2048) (j : Fin 1024) : iblk2 V c 1 t (ix2 k j) = V c main_v3 (ix2 k (col t j)) := by
  blk_simp [iblk2]
  congr 1
  funext d
  apply Fin.ext
  fin_cases d <;> simp [ix2, col, index2_1]

theorem iblk2_2 (t : Fin cfg2.grid.N) (i j : Fin 1024) : iblk2 V c 2 t (ix2 i j) = V c main_arg4 (ix2 (row t i) (col t j)) := by
  blk_simp [iblk2]
  congr 1
  funext d
  apply Fin.ext
  fin_cases d <;> simp [ix2, row, col, index2_2]

theorem iblk3_0 (t : Fin cfg3.grid.N) (i : Fin 1024) (k : Fin 2048) : iblk3 V c 0 t (ix2 i k) = V c main_arg5 (ix2 (row t i) k) := by
  blk_simp [iblk3]
  congr 1
  funext d
  apply Fin.ext
  fin_cases d <;> simp [ix2, row, index3_0]

theorem iblk3_1 (t : Fin cfg3.grid.N) (j : Fin 1024) (k : Fin 2048) : iblk3 V c 1 t (ix2 j k) = V c main_v3 (ix2 (col t j) k) := by
  blk_simp [iblk3]
  congr 1
  funext d
  apply Fin.ext
  fin_cases d <;> simp [ix2, col, index3_1]

theorem iblk4_0 (t : Fin cfg4.grid.N) (i k : Fin 1024) : iblk4 V c 0 t (ix2 i k) = V c main_v6 (ix2 (gtok t i) k) := by
  blk_simp [iblk4]
  congr 1
  funext d
  apply Fin.ext
  fin_cases d <;> simp [ix2, gtok, index4_0]

theorem iblk4_1 (t : Fin cfg4.grid.N) (j k : Fin 1024) : iblk4 V c 1 t (ix2 j k) = V c main_v5 (ix2 j k) := by
  blk_simp [iblk4]
  congr 1
  funext d
  apply Fin.ext
  fin_cases d <;> simp [ix2, index4_1]

theorem iblk4_2 (t : Fin cfg4.grid.N) (i j : Fin 1024) : iblk4 V c 2 t (ix2 i j) = V c main_arg9 (ix2 (gtok t i) j) := by
  blk_simp [iblk4]
  congr 1
  funext d
  apply Fin.ext
  fin_cases d <;> simp [ix2, gtok, index4_2]

/-- The input projection. -/
theorem region0 : (dat0 V c).arrAt 2 cfg0.N = partProd (V c main_v0) (V c main_v1) := by
  refine (dat0 V c).arrAt_eq_of_covers 2 _ (by decide +kernel) fun t hf y => ?_
  blk_simp
  rw [after0_2]
  unfold out0_2
  rw [View.canon_unit_zero zero3, View.ld_unit_zero (S := S1024x2048) zero2, View.ld_unit_zero (S := S1x2048x1024) zero3]
  obtain ⟨z, i, j, rfl⟩ : ∃ (z : Fin 1) (i : Fin 1024) (j : Fin 1024), y = ix3 z i j := ⟨y 0, y 1, y 2, eq_ix3 y⟩
  have he : (win0_2.blk t).view.emb (ix3 z i j) = ix3 (shard t) (tok t i) j := by
    funext d
    apply Fin.ext
    blk_simp [index0_2]
    fin_cases d <;> simp [ix3, shard, tok]
  rw [he, pay0_at]
  simp only [iblk0_0, iblk0_1]
  rfl

/-- The gate. -/
theorem region1 : (dat1 V c).arrAt 2 cfg1.N = gateProd (V c main_v4) (V c main_v5) := by
  refine (dat1 V c).arrAt_eq_of_covers 2 _ (by decide +kernel) fun t hf y => ?_
  blk_simp
  rw [after1_2]
  unfold out1_2
  rw [View.canon_unit_zero zero2]
  simp only [View.ld_unit_zero (S := S1024x1024) zero2]
  obtain ⟨i, j, rfl⟩ : ∃ (i : Fin 1024) (j : Fin 1024), y = ix2 i j := ⟨y 0, y 1, eq_ix2 y⟩
  have he : (win1_2.blk t).view.emb (ix2 i j) = ix2 (gtok t i) j := by
    funext d
    apply Fin.ext
    blk_simp [index1_2]
    fin_cases d <;> simp [ix2, gtok]
  rw [he, pay1_at]
  simp only [iblk1_0, iblk1_1]
  rfl

/-- The output projection over what it is added to. -/
theorem region2 : (dat2 V c).arrAt 3 cfg2.N = fun y : S4096x2048.Idx =>
    plus (outProd (V c main_v2) (V c main_v3) y) (V c main_arg4 y) := by
  refine (dat2 V c).arrAt_eq_of_covers 3 _ (by decide +kernel) fun t hf y => ?_
  blk_simp
  rw [after2_3]
  unfold out2_3
  rw [View.canon_unit_zero zero2]
  simp only [View.ld_unit_zero (S := S1024x1024) zero2, View.ld_unit_zero (S := S1024x2048) zero2, View.ld_unit_zero (S := S2048x1024) zero2]
  obtain ⟨i, j, rfl⟩ : ∃ (i : Fin 1024) (j : Fin 1024), y = ix2 i j := ⟨y 0, y 1, eq_ix2 y⟩
  have he : (win2_3.blk t).view.emb (ix2 i j) = ix2 (row t i) (col t j) := by
    funext d
    apply Fin.ext
    blk_simp [index2_3]
    fin_cases d <;> simp [ix2, row, col]
  rw [he, pay2_at]
  simp only [iblk2_0, iblk2_1, iblk2_2]
  rfl

/-- The gradient it sends to its input. -/
theorem region3 : (dat3 V c).arrAt 2 cfg3.N = outBack (V c main_arg5) (V c main_v3) := by
  refine (dat3 V c).arrAt_eq_of_covers 2 _ (by decide +kernel) fun t hf y => ?_
  blk_simp
  rw [after3_2]
  unfold out3_2
  rw [View.canon_unit_zero zero2]
  simp only [View.ld_unit_zero (S := S1024x2048) zero2]
  obtain ⟨i, j, rfl⟩ : ∃ (i : Fin 1024) (j : Fin 1024), y = ix2 i j := ⟨y 0, y 1, eq_ix2 y⟩
  have he : (win3_2.blk t).view.emb (ix2 i j) = ix2 (row t i) (col t j) := by
    funext d
    apply Fin.ext
    blk_simp [index3_2]
    fin_cases d <;> simp [ix2, row, col]
  rw [he, pay3_at]
  simp only [iblk3_0, iblk3_1]
  rfl

/-- The gradient the gate sends to its input, over the share given. -/
theorem region4 : (dat4 V c).arrAt 3 cfg4.N = fun y : S4096x1024.Idx =>
    plus (gateBack (V c main_v6) (V c main_v5) y) (V c main_arg9 y) := by
  refine (dat4 V c).arrAt_eq_of_covers 3 _ (by decide +kernel) fun t hf y => ?_
  blk_simp
  rw [after4_3]
  unfold out4_3
  rw [View.canon_unit_zero zero2]
  simp only [View.ld_unit_zero (S := S1024x1024) zero2]
  obtain ⟨i, j, rfl⟩ : ∃ (i : Fin 1024) (j : Fin 1024), y = ix2 i j := ⟨y 0, y 1, eq_ix2 y⟩
  have he : (win4_3.blk t).view.emb (ix2 i j) = ix2 (gtok t i) j := by
    funext d
    apply Fin.ext
    blk_simp [index4_3]
    fin_cases d <;> simp [ix2, gtok]
  rw [he, pay4_at]
  simp only [iblk4_0, iblk4_1, iblk4_2]
  rfl

end Cert.ProjIdeal.Prod

end
-- ==== Proof.ProjOut.lean ====
/- The projections' five results, from the ten arguments. -/
module

public import proofs.«01_k».proof.Proof.ProjArr
public import Idealize.ShloMosaic.Lib.StableHlo.ReadAt

@[expose] public section

set_option maxRecDepth 16384

noncomputable section

namespace Cert.ProjIdeal.Prod

open Cert.ProjIdeal Cert.ProjIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The ten arguments as extended reals. -/
abbrev inH : S4096x2048.Idx → EReal := m ((c : Thread nD τ).loc main_arg0)
abbrev inW : S4x2048x1024.Idx → EReal := m ((c : Thread nD τ).loc main_arg1)
abbrev inY : S4096x2048.Idx → EReal := m ((c : Thread nD τ).loc main_arg2)
abbrev inO : S2048x2048.Idx → EReal := m ((c : Thread nD τ).loc main_arg3)
abbrev inX : S4096x2048.Idx → EReal := m ((c : Thread nD τ).loc main_arg4)
abbrev inD : S4096x2048.Idx → EReal := m ((c : Thread nD τ).loc main_arg5)
abbrev inS : S4096x1024.Idx → EReal := m ((c : Thread nD τ).loc main_arg6)
abbrev inG : S1024x1024.Idx → EReal := m ((c : Thread nD τ).loc main_arg7)
abbrev inA : S4096x1024.Idx → EReal := m ((c : Thread nD τ).loc main_arg8)
abbrev inK : S4096x1024.Idx → EReal := m ((c : Thread nD τ).loc main_arg9)

/-- The casts before the first call change nothing. -/
theorem entry_0 : (W1 m ρ c (Proc.devRef .tc main_v0) : S4096x2048.Idx → EReal) = inH m c := by
  funext y
  idx_vars y
  have h : StableHlo.after hostOps0 (W0 m ρ c) (Proc.devRef .tc main_v0) (ix2 y0 y1)
      = W0 m ρ c (Proc.devRef .tc main_arg0) (ix2 y0 y1) := by
    after_reads_at
  exact h

theorem entry_1 : (W1 m ρ c (Proc.devRef .tc main_v1) : S4x2048x1024.Idx → EReal) = inW m c := by
  funext y
  idx_vars y
  have h : StableHlo.after hostOps0 (W0 m ρ c) (Proc.devRef .tc main_v1) (ix3 y0 y1 y2)
      = W0 m ρ c (Proc.devRef .tc main_arg1) (ix3 y0 y1 y2) := by
    after_reads_at
  exact h

theorem entry_2 : (W1 m ρ c (Proc.devRef .tc main_v2) : S4096x2048.Idx → EReal) = inY m c := by
  funext y
  idx_vars y
  have h : StableHlo.after hostOps0 (W0 m ρ c) (Proc.devRef .tc main_v2) (ix2 y0 y1)
      = W0 m ρ c (Proc.devRef .tc main_arg2) (ix2 y0 y1) := by
    after_reads_at
  exact h

theorem entry_3 : (W1 m ρ c (Proc.devRef .tc main_v3) : S2048x2048.Idx → EReal) = inO m c := by
  funext y
  idx_vars y
  have h : StableHlo.after hostOps0 (W0 m ρ c) (Proc.devRef .tc main_v3) (ix2 y0 y1)
      = W0 m ρ c (Proc.devRef .tc main_arg3) (ix2 y0 y1) := by
    after_reads_at
  exact h

theorem entry_4 : (W1 m ρ c (Proc.devRef .tc main_v4) : S4096x1024.Idx → EReal) = inS m c := by
  funext y
  idx_vars y
  have h : StableHlo.after hostOps0 (W0 m ρ c) (Proc.devRef .tc main_v4) (ix2 y0 y1)
      = W0 m ρ c (Proc.devRef .tc main_arg6) (ix2 y0 y1) := by
    after_reads_at
  exact h

theorem entry_5 : (W1 m ρ c (Proc.devRef .tc main_v5) : S1024x1024.Idx → EReal) = inG m c := by
  funext y
  idx_vars y
  have h : StableHlo.after hostOps0 (W0 m ρ c) (Proc.devRef .tc main_v5) (ix2 y0 y1)
      = W0 m ρ c (Proc.devRef .tc main_arg7) (ix2 y0 y1) := by
    after_reads_at
  exact h

theorem entry_6 : (W1 m ρ c (Proc.devRef .tc main_v6) : S4096x1024.Idx → EReal) = inA m c := by
  funext y
  idx_vars y
  have h : StableHlo.after hostOps0 (W0 m ρ c) (Proc.devRef .tc main_v6) (ix2 y0 y1)
      = W0 m ρ c (Proc.devRef .tc main_arg8) (ix2 y0 y1) := by
    after_reads_at
  exact h

/-- The input projection. -/
theorem out_z : (W6 m ρ c (Proc.devRef .tc main_v7) : S4x4096x1024.Idx → EReal) = partProd (inH m c) (inW m c) :=
  (W6_of m ρ c main_v7 (by decide +kernel)).trans ((W5_of m ρ c main_v7 (by decide +kernel)).trans ((W4_of m ρ c main_v7 (by decide +kernel)).trans ((W3_of m ρ c main_v7 (by decide +kernel)).trans ((W2_arr m ρ c 2).trans ((region0 (V1 m ρ) c).trans (congrArg₂ partProd (entry_0 m ρ c) (entry_1 m ρ c)))))))

/-- The gate. -/
theorem out_a : (W6 m ρ c (Proc.devRef .tc main_v8) : S4096x1024.Idx → EReal) = gateProd (inS m c) (inG m c) :=
  (W6_of m ρ c main_v8 (by decide +kernel)).trans ((W5_of m ρ c main_v8 (by decide +kernel)).trans ((W4_of m ρ c main_v8 (by decide +kernel)).trans ((W3_arr m ρ c 2).trans ((region1 (V2 m ρ) c).trans (congrArg₂ gateProd ((W2_of m ρ c main_v4 (by decide +kernel)).trans (entry_4 m ρ c)) ((W2_of m ρ c main_v5 (by decide +kernel)).trans (entry_5 m ρ c)))))))

/-- The output projection over what it is added to. -/
theorem out_x : (W6 m ρ c (Proc.devRef .tc main_v9) : S4096x2048.Idx → EReal) = fun y => plus (outProd (inY m c) (inO m c) y) (inX m c y) :=
  (W6_of m ρ c main_v9 (by decide +kernel)).trans ((W5_of m ρ c main_v9 (by decide +kernel)).trans ((W4_arr m ρ c 3).trans ((region2 (V3 m ρ) c).trans (funext fun y => congrArg₂ plus (congrFun (congrArg₂ outProd ((W3_of m ρ c main_v2 (by decide +kernel)).trans ((W2_of m ρ c main_v2 (by decide +kernel)).trans (entry_2 m ρ c))) ((W3_of m ρ c main_v3 (by decide +kernel)).trans ((W2_of m ρ c main_v3 (by decide +kernel)).trans (entry_3 m ρ c)))) y) (congrFun (W3_args m ρ c main_arg4 (by decide)) y)))))

/-- The gradient the output projection sends to its input. -/
theorem out_d : (W6 m ρ c (Proc.devRef .tc main_v10) : S4096x2048.Idx → EReal) = outBack (inD m c) (inO m c) :=
  (W6_of m ρ c main_v10 (by decide +kernel)).trans ((W5_arr m ρ c 2).trans ((region3 (V4 m ρ) c).trans (congrArg₂ outBack (W4_args m ρ c main_arg5 (by decide)) ((W4_of m ρ c main_v3 (by decide +kernel)).trans ((W3_of m ρ c main_v3 (by decide +kernel)).trans ((W2_of m ρ c main_v3 (by decide +kernel)).trans (entry_3 m ρ c)))))))

/-- The gradient the gate sends to its input, over the share given. -/
theorem out_s : (W6 m ρ c (Proc.devRef .tc main_v11) : S4096x1024.Idx → EReal) = fun y => plus (gateBack (inA m c) (inG m c) y) (inK m c y) :=
  (W6_arr m ρ c 3).trans ((region4 (V5 m ρ) c).trans (funext fun y => congrArg₂ plus (congrFun (congrArg₂ gateBack ((W5_of m ρ c main_v6 (by decide +kernel)).trans ((W4_of m ρ c main_v6 (by decide +kernel)).trans ((W3_of m ρ c main_v6 (by decide +kernel)).trans ((W2_of m ρ c main_v6 (by decide +kernel)).trans (entry_6 m ρ c))))) ((W5_of m ρ c main_v5 (by decide +kernel)).trans ((W4_of m ρ c main_v5 (by decide +kernel)).trans ((W3_of m ρ c main_v5 (by decide +kernel)).trans ((W2_of m ρ c main_v5 (by decide +kernel)).trans (entry_5 m ρ c)))))) y) (congrFun (W5_args m ρ c main_arg9 (by decide)) y)))

end Cert.ProjIdeal.Prod

end
-- ==== Proof.ProjEq.lean ====
/- The projections' one-block products: the kernel's five results are the reference's. -/
module

public import proofs.«01_k».proof.Defs
public import proofs.«01_k».proof.Proof.ProjRun
public import proofs.«01_k».proof.Proof.ProjOut
public import proofs.«01_k».proof.Proof.Gen.ProjRIdeal.Run
public import Idealize.ShloMosaic.Lib.Quiescent

@[expose] public section

set_option maxRecDepth 16384

noncomputable section

namespace Cert.ProjRIdeal.Prod

open Cert.ProjRIdeal Cert.ProjRIdeal.Gen Cert.ProjRIdeal.Value Cert.ProjIdeal.Prod
open Idealize.ShloMosaic Idealize.ShloMosaic.TcCoe Idealize.ShloMosaic.Tactic

/-- The reference's five terms as the same sums. -/
theorem z_sum (h : FVec Ideal S4096x2048 .f32) (w : FVec Ideal S4x2048x1024 .f32) :
    (transpose S4x4096x1024 [0, 2, 1] (Host.dotGeneral dot_S4x2048x1024_S4096x2048_S4x1024x4096_1_1_02_0_n_n none w h)
      transposes_S4x1024x4096_S4x4096x1024_0_2_1 : S4x4096x1024.Idx → EReal) = partProd h w := by
  funext y
  idx_vars y
  unfold partProd
  pointwise []
  exact Finset.sum_congr rfl fun k _ => mul_comm (G := EReal) _ _

theorem a_sum (h : FVec Ideal S4096x1024 .f32) (w : FVec Ideal S1024x1024 .f32) :
    (Host.dotGeneral dot_S4096x1024_S1024x1024_S4096x1024_1_0_0_1_n_n none h w : S4096x1024.Idx → EReal) = gateProd h w := by
  funext y
  idx_vars y
  unfold gateProd
  pointwise []

theorem x_sum (h : FVec Ideal S4096x2048 .f32) (w : FVec Ideal S2048x2048 .f32) (x : FVec Ideal S4096x2048 .f32) :
    (addf (F := Ideal) x (Host.dotGeneral dot_S4096x2048_S2048x2048_S4096x2048_1_0_0_1_n_n none h w) : S4096x2048.Idx → EReal)
      = fun y => plus (outProd h w y) (x y) := by
  funext y
  idx_vars y
  unfold plus outProd
  pointwise []
  exact add_comm (G := EReal) _ _

theorem d_sum (d : FVec Ideal S4096x2048 .f32) (w : FVec Ideal S2048x2048 .f32) :
    (truncf (F := Ideal) .bf16 (Host.dotGeneral dot_S4096x2048_S2048x2048_S4096x2048_1_1_0_0_n_n none d w) bitsLt_bf16_f32
      : S4096x2048.Idx → EReal) = outBack d w := by
  funext y
  idx_vars y
  unfold outBack
  pointwise []

theorem s_sum (d : FVec Ideal S4096x1024 .f32) (w : FVec Ideal S1024x1024 .f32) (x : FVec Ideal S4096x1024 .f32) :
    (addf (F := Ideal) x (Host.dotGeneral dot_S4096x1024_S1024x1024_S4096x1024_1_1_0_0_n_n none d w) : S4096x1024.Idx → EReal)
      = fun y => plus (gateBack d w y) (x y) := by
  funext y
  idx_vars y
  unfold plus gateBack
  pointwise []
  exact add_comm (G := EReal) _ _

end Cert.ProjRIdeal.Prod

namespace Cert.Proof

open Idealize.ShloMosaic Idealize.ShloMosaic.TcCoe Idealize.ShloMosaic.Tactic Idealize.SL.Sem
open Cert.ProjIdeal.Prod Cert.ProjRIdeal.Prod

theorem frame_proj_reference : Cert.quiescent_ProjRIdeal := fun m ρ _ =>
  (θ_run (Cert.ProjRIdeal.defs (F := Ideal)) _ _).mono (fun _ h => ⟨fun c => (h c).2.2.2.2.2, sem_eq_zero_of_no_sems rfl _⟩)
    (Cert.ProjRIdeal.Value.run m ρ)

theorem equal_proj : Cert.algebraic_ProjIdeal_ProjRIdeal := fun m g m' g' _ hm =>
  ⟨fun c => Cert.ProjIdeal.Gen.W6 m g c (Proc.devRef .tc Cert.ProjIdeal.main_v7),
   fun c => Cert.ProjIdeal.Gen.W6 m g c (Proc.devRef .tc Cert.ProjIdeal.main_v8),
   fun c => Cert.ProjIdeal.Gen.W6 m g c (Proc.devRef .tc Cert.ProjIdeal.main_v9),
   fun c => Cert.ProjIdeal.Gen.W6 m g c (Proc.devRef .tc Cert.ProjIdeal.main_v10),
   fun c => Cert.ProjIdeal.Gen.W6 m g c (Proc.devRef .tc Cert.ProjIdeal.main_v11),
   (θ_run (Cert.ProjIdeal.defs (F := Ideal)) _ _).mono (fun r h c => ⟨h c _ (by decide), h c _ (by decide), h c _ (by decide), h c _ (by decide), h c _ (by decide),
       (h c _ (by decide)).trans (Cert.ProjIdeal.Gen.W6_main_arg0 m g c),
       (h c _ (by decide)).trans (Cert.ProjIdeal.Gen.W6_main_arg1 m g c),
       (h c _ (by decide)).trans (Cert.ProjIdeal.Gen.W6_main_arg2 m g c),
       (h c _ (by decide)).trans (Cert.ProjIdeal.Gen.W6_main_arg3 m g c),
       (h c _ (by decide)).trans (Cert.ProjIdeal.Gen.W6_main_arg4 m g c),
       (h c _ (by decide)).trans (Cert.ProjIdeal.Gen.W6_main_arg5 m g c),
       (h c _ (by decide)).trans (Cert.ProjIdeal.Gen.W6_main_arg6 m g c),
       (h c _ (by decide)).trans (Cert.ProjIdeal.Gen.W6_main_arg7 m g c),
       (h c _ (by decide)).trans (Cert.ProjIdeal.Gen.W6_main_arg8 m g c),
       (h c _ (by decide)).trans (Cert.ProjIdeal.Gen.W6_main_arg9 m g c)⟩)
     (Cert.ProjIdeal.Prod.run_all m g),
   (θ_run (Cert.ProjRIdeal.defs (F := Ideal)) _ _).mono (fun r h c => ⟨
      (h c).1.trans (by
        rw [(hm c).1, (hm c).2.1]
        exact (z_sum _ _).trans (out_z m g c).symm),
      (h c).2.1.trans (by
        rw [(hm c).2.2.2.2.2.2.1, (hm c).2.2.2.2.2.2.2.1]
        exact (a_sum _ _).trans (out_a m g c).symm),
      (h c).2.2.1.trans (by
        rw [(hm c).2.2.1, (hm c).2.2.2.1, (hm c).2.2.2.2.1]
        exact (x_sum _ _ _).trans (out_x m g c).symm),
      (h c).2.2.2.1.trans (by
        rw [(hm c).2.2.2.1, (hm c).2.2.2.2.2.1]
        exact (d_sum _ _).trans (out_d m g c).symm),
      (h c).2.2.2.2.1.trans (by
        rw [(hm c).2.2.2.2.2.2.2.1, (hm c).2.2.2.2.2.2.2.2.1, (hm c).2.2.2.2.2.2.2.2.2]
        exact (s_sum _ _ _).trans (out_s m g c).symm),
      (h c).2.2.2.2.2⟩)
     (Cert.ProjRIdeal.Value.run m' g')⟩

end Cert.Proof

end
-- ==== Proof.ProjInDw.lean ====
/- The gradient of the mixer's input projection's weight: two blocks of tokens are summed in turn, and the array holds the
   sum over all tokens. -/
module

public import proofs.«01_k».proof.Proof.Gen.ProjInDwIdeal.Value
public import proofs.«01_k».proof.Proof.Gen.ProjInDwRIdeal.Run
public import proofs.«01_k».proof.Proof.Sums
public import Idealize.ShloMosaic.Lib.WholeRead
public import Idealize.ShloMosaic.Lib.Pipeline.ValueKit

@[expose] public section

set_option maxRecDepth 16384

noncomputable section

namespace Cert.ProjInDwIdeal.Prod

open Cert.ProjInDwIdeal Cert.ProjInDwIdeal.Gen Cert.Prod
open Idealize.ShloMosaic Idealize.ShloMosaic.TcCoe Idealize.ShloMosaic.Tactic Idealize.SL.Sem

section Body

variable {F : FTy → Type} [FloatOps F]

/-- The first block of tokens leaves its product over zeros in the accumulator. -/
theorem first (c : Dev nD) (i : grid0.Coords) (a4 : Memref sig .tc .vmem S2048x1024 .bf16) (h4 : a4.IsWhole)
    (a5 : Memref sig .tc .vmem S1x2048x1024 .bf16) (h5 : a5.IsWhole) (a6 : Memref sig .tc .vmem S1x1024x1024 .bf16) (h6 : a6.IsWhole)
    (a7 : Memref sig .tc .vmem S1024x1024 .f32) (h7 : a7.IsWhole) (hc0 : cond0_0 i) (hc1 : ¬cond0_1 i)
    (x0 : Vec F S2048x1024 .bf16) (x1 : Vec F S1x2048x1024 .bf16) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero zero2, View.readCov_unit_zero _ zero2]
  simp only [View.readAt_eq_ld, h4.read_unread, h5.read_unread, View.ld_unit_zero (S := S2048x1024) zero2,
    View.ld_unit_zero (S := S1024x1024) zero2, View.ld_unit_zero (S := S1x2048x1024) zero3]

/-- The second block adds its product and the sum is written out. -/
theorem last (c : Dev nD) (i : grid0.Coords) (a4 : Memref sig .tc .vmem S2048x1024 .bf16) (h4 : a4.IsWhole)
    (a5 : Memref sig .tc .vmem S1x2048x1024 .bf16) (h5 : a5.IsWhole) (a6 : Memref sig .tc .vmem S1x1024x1024 .bf16) (h6 : a6.IsWhole)
    (a7 : Memref sig .tc .vmem S1024x1024 .f32) (h7 : a7.IsWhole) (hc0 : ¬cond0_0 i) (hc1 : cond0_1 i)
    (x0 : Vec F S2048x1024 .bf16) (x1 : Vec F S1x2048x1024 .bf16) (s : Vec F S1024x1024 .f32) :
    out0_B_2 c i a4 h4 a5 h5 a6 h6 a7 h7 hc0 hc1 x0 x1 s = k0_pay3 (k0_pay2 s x0 x1) := by
  unfold out0_B_2
  rw [View.read_writes_eq_canon _ _ _ (cover0_B_2 c i a4 h4 a5 h5 a6 h6 a7 h7 hc0 hc1 x0 x1 s)]
  unfold kernelRun0_B
  dsimp only
  sl_unfold_words
  rw [View.canon_unit_zero zero3, View.readCov_unit_zero _ zero2]
  simp only [View.readAt_eq_ld, h4.read_unread, h5.read_unread, h7.read_unread, View.ld_unit_zero (S := S2048x1024) zero2,
    View.ld_unit_zero (S := S1024x1024) zero2, View.ld_unit_zero (S := S1x2048x1024) zero3]

end Body

variable (m : (ℓ : Loc nD τ sig) → Buf (Elt Ideal) ℓ) (ρ : Dev nD → PrngReg) (c : Dev nD)

/-- The two arguments as extended reals. -/
abbrev inH : S4096x2048.Idx → EReal := m ((c : Thread nD τ).loc main_arg0)
abbrev inG : S4x4096x1024.Idx → EReal := m ((c : Thread nD τ).loc main_arg1)

theorem index_0 : ∀ t : Fin grid0.N, win0_0.index t = ![t.val % 2, t.val / 2 % 2] := by decide +kernel
theorem index_1 : ∀ t : Fin grid0.N, win0_1.index t = ![t.val / 4, t.val % 2, 0] := by decide +kernel
theorem index_2 : ∀ t : Fin grid0.N, win0_2.index t = ![t.val / 4, t.val / 2 % 2, 0] := by decide +kernel

theorem lt16 (t : Fin cfg0.N) : t.val < 16 := lt_of_lt_of_eq t.isLt N_0

theorem entry_0 (y : S4096x2048.Idx) : (V m c main_v0 : S4096x2048.Idx → EReal) y = inH m c y := by
  have e : V m c main_v0 = (truncf (F := Ideal) .bf16 (m ((c : Thread nD τ).loc main_arg0)) bitsLt_bf16_f32 : S4096x2048.Idx → EReal) := by
    entry_read
    rfl
  rw [e]
  rfl

theorem entry_1 (y : S4x4096x1024.Idx) : (V m c main_v1 : S4x4096x1024.Idx → EReal) y = inG m c y := by
  have e : V m c main_v1 = (truncf (F := Ideal) .bf16 (m ((c : Thread nD τ).loc main_arg1)) bitsLt_bf16_f32 : S4x4096x1024.Idx → EReal) := by
    entry_read
    rfl
  rw [e]
  rfl

theorem block_0 (t : Fin cfg0.N) (r : Fin 2048) (i : Fin 1024) :
    (iblk m c 0 t : S2048x1024.Idx → EReal) (ix2 r i) = inH m c (ix2 (token t.val r) ⟨t.val / 2 % 2 * 1024 + i.val, by omega⟩) := by
  blk_simp [iblk]
  refine Eq.trans ?_ (entry_0 m c _)
  congr 1
  funext d
  apply Fin.ext
  fin_cases d <;> simp [ix2, token, index_0]

theorem block_1 (t : Fin cfg0.N) (z : Fin 1) (r : Fin 2048) (j : Fin 1024) :
    (iblk m c 1 t : S1x2048x1024.Idx → EReal) (ix3 z r j) = inG m c (ix3 ⟨t.val / 4, by have := lt16 t; omega⟩ (token t.val r) j) := by
  blk_simp [iblk]
  refine Eq.trans ?_ (entry_1 m c _)
  congr 1
  funext d
  apply Fin.ext
  fin_cases d <;> simp [ix3, token, index_1]

/-- One block's product over what the accumulator held. -/
theorem step_at (s : Vec Ideal S1024x1024 .f32) (x0 : Vec Ideal S2048x1024 .bf16) (x1 : Vec Ideal S1x2048x1024 .bf16) (i : Fin 1024) (j : Fin 1024) :
    (k0_pay2 s x0 x1 : S1024x1024.Idx → EReal) (ix2 i j)
      = (s : S1024x1024.Idx → EReal) (ix2 i j)
        + ∑ r : Fin 2048, (x0 : S2048x1024.Idx → EReal) (ix2 r i) * (x1 : S1x2048x1024.Idx → EReal) (ix3 0 r j) := by
  pointwise [k0_pay2]

theorem zero_at (i : Fin 1024) (j : Fin 1024) : (k0_pay1 (F := Ideal) : S1024x1024.Idx → EReal) (ix2 i j) = 0 := by
  pointwise [k0_pay1]

theorem out_at (s : Vec Ideal S1024x1024 .f32) (z : Fin 1) (i : Fin 1024) (j : Fin 1024) :
    (k0_pay3 s : S1x1024x1024.Idx → EReal) (ix3 z i j) = (s : S1024x1024.Idx → EReal) (ix2 i j) := by
  pointwise [k0_pay3]

/-- The product summed over every token. -/
def whole (y : S4x2048x1024.Idx) : EReal := ∑ k : Fin 4096, inH m c (ix2 k (y 1)) * inG m c (ix3 (y 0) k (y 2))

/-- What an odd point writes back. -/
theorem written (t : Fin cfg0.N) (h1 : t.val % 2 = 1) (z : Fin 1) (i : Fin 1024) (j : Fin 1024) :
    ((outsAt0 m c t.val t.isLt).1 : S1x1024x1024.Idx → EReal) (ix3 z i j)
      = whole m c (ix3 ⟨t.val / 4, by have := lt16 t; omega⟩ ⟨t.val / 2 % 2 * 1024 + i.val, by omega⟩ j) := by
  have ht := lt16 t
  have hp : t.val - 1 < cfg0.N := lt_of_le_of_lt (Nat.sub_le _ _) t.isLt
  have e := outsAt0_A m c ⟨t.val - 1, hp⟩ (by dsimp only; omega) (by dsimp only; omega)
  dsimp only at e
  rw [outsAt0_B m c t (by omega) h1, e]
  dsimp only
  rw [last, first, out_at, step_at, step_at, zero_at]
  simp only [block_0, block_1]
  unfold whole
  refine Eq.trans ?_ (sum_blocks _ (a := t.val - 1) (b := t.val) (by omega) h1)
  congr 2 <;> refine Finset.sum_congr rfl fun r _ => ?_
  congr 2 <;> congr 1 <;> apply Fin.ext <;> dsimp only [ix2, ix3] <;> omega

theorem array : (dats m 0 c).arrAt 2 cfg0.N = whole m c := by
  refine (dats m 0 c).arrAt_eq_of_covers 2 _ (by decide +kernel) fun t hf y => ?_
  have h1 : t.val % 2 = 1 := (by decide +kernel : ∀ t : Fin cfg0.N, (cfg0.win 2).flush t = true → t.val % 2 = 1) t hf
  blk_simp
  rw [after0_2]
  idx_vars y
  refine (written m c t h1 _ _ _).trans ?_
  congr 1
  funext d
  apply Fin.ext
  fin_cases d <;> simp [ix3, index_2]

theorem run : θ_run defs (onTc (τ := τ) (main (F := Ideal))) ⟨m, fun _ => 0, ρ⟩ fun r => ∀ c : Dev nD,
    r.2.mem ((c : Thread nD τ).loc main_v2) = whole m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (array m c), (h c).2⟩) (Value.run_blocks m ρ)

end Cert.ProjInDwIdeal.Prod

end
-- ==== Proof.ProjInDwEq.lean ====
/- The gradient of the mixer's input projection's weight: the kernel's array is the reference's. -/
module

public import proofs.«01_k».proof.Defs
public import proofs.«01_k».proof.Proof.ProjInDw
public import proofs.«01_k».proof.Proof.Gen.ProjInDwRIdeal.Run
public import Idealize.ShloMosaic.Lib.Quiescent

@[expose] public section

set_option maxRecDepth 16384

noncomputable section

namespace Cert.ProjInDwRIdeal.Prod

open Cert.ProjInDwRIdeal Cert.ProjInDwRIdeal.Gen Cert.ProjInDwRIdeal.Value
open Idealize.ShloMosaic Idealize.ShloMosaic.TcCoe Idealize.ShloMosaic.Tactic

/-- The reference's term at an index. -/
theorem at_index (h : FVec Ideal S4096x2048 .f32) (g : FVec Ideal S4x4096x1024 .f32) (s : Fin 4) (i : Fin 2048) (j : Fin 1024) :
    (truncf (F := Ideal) .bf16 (transpose S4x2048x1024 [0, 2, 1]
        (Host.dotGeneral dot_S4x1024x4096_S4096x2048_S4x1024x2048_2_0_01_1_n_n none
          (transpose S4x1024x4096 [0, 2, 1] g transposes_S4x4096x1024_S4x1024x4096_0_2_1) h)
        transposes_S4x1024x2048_S4x2048x1024_0_2_1) bitsLt_bf16_f32 : S4x2048x1024.Idx → EReal) (ix3 s i j)
      = ∑ k : Fin 4096, (h : S4096x2048.Idx → EReal) (ix2 k i) * (g : S4x4096x1024.Idx → EReal) (ix3 s k j) := by
  pointwise []
  exact Finset.sum_congr rfl fun k _ => mul_comm _ _

end Cert.ProjInDwRIdeal.Prod

namespace Cert.Proof

open Idealize.ShloMosaic Idealize.ShloMosaic.TcCoe Idealize.ShloMosaic.Tactic Idealize.SL.Sem

theorem frame_proj_in_dw_reference : Cert.quiescent_ProjInDwRIdeal := fun m ρ _ =>
  (θ_run (Cert.ProjInDwRIdeal.defs (F := Ideal)) _ _).mono (fun _ h => ⟨fun c => (h c).2, sem_eq_zero_of_no_sems rfl _⟩)
    (Cert.ProjInDwRIdeal.Value.run m ρ)

theorem equal_proj_in_dw : Cert.algebraic_ProjInDwIdeal_ProjInDwRIdeal := fun m g m' g' _ hm =>
  ⟨fun c => Cert.ProjInDwIdeal.Prod.whole m c, Cert.ProjInDwIdeal.Prod.run m g,
   (θ_run (Cert.ProjInDwRIdeal.defs (F := Ideal)) _ _).mono (fun r h c => ⟨(h c).1.trans (by
      rw [(hm c).1, (hm c).2]
      funext y
      revert y
      show ∀ y : Cert.ProjInDwIdeal.S4x2048x1024.Idx, _
      intro y
      idx_vars y
      exact Cert.ProjInDwRIdeal.Prod.at_index _ _ _ _ _), (h c).2⟩) (Cert.ProjInDwRIdeal.Value.run m' g')⟩

end Cert.Proof

end
-- ==== Proof.ProjInDx.lean ====
/- The gradient that the mixer's input projection sends to its input: the four parts' products are summed in turn, and
   the array holds the sum over all of them. -/
module

public import proofs.«01_k».proof.Proof.Gen.ProjInDxIdeal.Value
public import proofs.«01_k».proof.Proof.Sums
public import Idealize.ShloMosaic.Lib.WholeRead
public import Idealize.ShloMosaic.Lib.Pipeline.ValueKit

@[expose] public section

set_option maxRecDepth 16384

noncomputable section

namespace Cert.ProjInDxIdeal.Prod

open Cert.ProjInDxIdeal Cert.ProjInDxIdeal.Gen Cert.Prod
open Idealize.ShloMosaic Idealize.ShloMosaic.TcCoe Idealize.ShloMosaic.Tactic Idealize.SL.Sem

section Body

variable {F : FTy → Type} [FloatOps F]

/-- The first shard leaves its product over zeros in the accumulator. -/
theorem first (c : Dev nD) (i : grid0.Coords) (a4 : Memref sig .tc .vmem S1x1024x1024 .bf16) (h4 : a4.IsWhole)
    (a5 : Memref sig .tc .vmem S1x1024x1024 .bf16) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i)
    (x0 : Vec F S1x1024x1024 .bf16) (x1 : Vec F S1x1024x1024 .bf16) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero zero2, View.readCov_unit_zero _ zero2]
  simp only [View.readAt_eq_ld, h4.read_unread, h5.read_unread, View.ld_unit_zero (S := S1x1024x1024) zero3]

/-- A shard in between adds its product. -/
theorem middle (c : Dev nD) (i : grid0.Coords) (a4 : Memref sig .tc .vmem S1x1024x1024 .bf16) (h4 : a4.IsWhole)
    (a5 : Memref sig .tc .vmem S1x1024x1024 .bf16) (h5 : a5.IsWhole) (a6 : Memref sig .tc .vmem S1024x1024 .f32) (h6 : a6.IsWhole)
    (a7 : Memref sig .tc .vmem S1024x1024 .f32) (h7 : a7.IsWhole) (hc0 : ¬cond0_0 i) (hc1 : ¬cond0_1 i)
    (x0 : Vec F S1x1024x1024 .bf16) (x1 : Vec F S1x1024x1024 .bf16) (s : Vec F S1024x1024 .f32) :
    sout0_B_0 c i a4 h4 a5 h5 a6 h6 a7 h7 hc0 hc1 x0 x1 s = k0_pay2 s x0 x1 := by
  unfold sout0_B_0
  rw [View.read_writes_eq_canon _ _ _ (scover0_B_0 c i a4 h4 a5 h5 a6 h6 a7 h7 hc0 hc1 x0 x1 s)]
  unfold kernelRun0_B
  dsimp only
  sl_unfold_words
  rw [View.canon_unit_zero zero2]
  simp only [View.readAt_eq_ld, h4.read_unread, h5.read_unread, h7.read_unread, View.ld_unit_zero (S := S1024x1024) zero2,
    View.ld_unit_zero (S := S1x1024x1024) zero3]

/-- The last shard adds its product and the sum is written out. -/
theorem last (c : Dev nD) (i : grid0.Coords) (a4 : Memref sig .tc .vmem S1x1024x1024 .bf16) (h4 : a4.IsWhole)
    (a5 : Memref sig .tc .vmem S1x1024x1024 .bf16) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 : Vec F S1x1024x1024 .bf16) (x1 : Vec F S1x1024x1024 .bf16) (s : Vec F S1024x1024 .f32) :
    out0_C_2 c i a4 h4 a5 h5 a6 h6 a7 h7 hc0 hc1 x0 x1 s = k0_pay2 s x0 x1 := by
  unfold out0_C_2
  rw [View.read_writes_eq_canon _ _ _ (cover0_C_2 c i a4 h4 a5 h5 a6 h6 a7 h7 hc0 hc1 x0 x1 s)]
  unfold kernelRun0_C
  dsimp only
  sl_unfold_words
  rw [View.canon_unit_zero zero2, View.readCov_unit_zero _ zero2]
  simp only [View.readAt_eq_ld, h4.read_unread, h5.read_unread, h7.read_unread, View.ld_unit_zero (S := S1024x1024) zero2,
    View.ld_unit_zero (S := S1x1024x1024) zero3]

end Body

variable (m : (ℓ : Loc nD τ sig) → Buf (Elt Ideal) ℓ) (ρ : Dev nD → PrngReg) (c : Dev nD)

/-- The arguments as extended reals. -/
abbrev inG : S4x4096x1024.Idx → EReal := m ((c : Thread nD τ).loc main_arg0)
abbrev inW : S4x2048x1024.Idx → EReal := m ((c : Thread nD τ).loc main_arg1)

theorem ltN (t : Fin cfg0.N) : t.val < 32 := lt_of_lt_of_eq t.isLt N_0

theorem index_0 : ∀ t : Fin grid0.N, win0_0.index t = ![t.val % 4, t.val / 8, 0] := by decide +kernel
theorem index_1 : ∀ t : Fin grid0.N, win0_1.index t = ![t.val % 4, t.val / 4 % 2, 0] := by decide +kernel
theorem index_2 : ∀ t : Fin grid0.N, win0_2.index t = ![t.val / 8, t.val / 4 % 2] := by decide +kernel

theorem entry_0 (y : S4x4096x1024.Idx) : (V m c main_v0 : S4x4096x1024.Idx → EReal) y = inG m c y := by
  have e : V m c main_v0 = (truncf (F := Ideal) .bf16 (m ((c : Thread nD τ).loc main_arg0)) bitsLt_bf16_f32 : S4x4096x1024.Idx → EReal) := by
    entry_read
    rfl
  rw [e]
  rfl

theorem entry_1 (y : S4x2048x1024.Idx) : (V m c main_v1 : S4x2048x1024.Idx → EReal) y = inW m c y := by
  have e : V m c main_v1 = (truncf (F := Ideal) .bf16 (m ((c : Thread nD τ).loc main_arg1)) bitsLt_bf16_f32 : S4x2048x1024.Idx → EReal) := by
    entry_read
    rfl
  rw [e]
  rfl

/-- Row `i` of point `n`'s block of tokens, and column `j` of its block of columns. -/
def row (t : Fin cfg0.N) (i : Fin 1024) : Fin 4096 := ⟨t.val / 8 * 1024 + i.val, by have := ltN t; omega⟩
def col (t : Fin cfg0.N) (j : Fin 1024) : Fin 2048 := ⟨t.val / 4 % 2 * 1024 + j.val, by omega⟩

/-- The shard that point `n` takes. -/
def shard (n : ℕ) : Fin 4 := ⟨n % 4, by omega⟩

theorem block_0 (t : Fin cfg0.N) (z : Fin 1) (i : Fin 1024) (k : Fin 1024) :
    (iblk m c 0 t : S1x1024x1024.Idx → EReal) (ix3 z i k) = inG m c (ix3 (shard t.val) (row t i) k) := by
  blk_simp [iblk]
  refine Eq.trans ?_ (entry_0 m c _)
  congr 1
  funext d
  apply Fin.ext
  fin_cases d <;> simp [ix3, row, shard, index_0]

theorem block_1 (t : Fin cfg0.N) (z : Fin 1) (j : Fin 1024) (k : Fin 1024) :
    (iblk m c 1 t : S1x1024x1024.Idx → EReal) (ix3 z j k) = inW m c (ix3 (shard t.val) (col t j) k) := by
  blk_simp [iblk]
  refine Eq.trans ?_ (entry_1 m c _)
  congr 1
  funext d
  apply Fin.ext
  fin_cases d <;> simp [ix3, col, shard, index_1]

/-- One shard's product over what the accumulator held. -/
theorem step_at (s : Vec Ideal S1024x1024 .f32) (x0 : Vec Ideal S1x1024x1024 .bf16) (x1 : Vec Ideal S1x1024x1024 .bf16) (i : Fin 1024) (j : Fin 1024) :
    (k0_pay2 s x0 x1 : S1024x1024.Idx → EReal) (ix2 i j)
      = (s : S1024x1024.Idx → EReal) (ix2 i j)
        + ∑ k : Fin 1024, (x0 : S1x1024x1024.Idx → EReal) (ix3 0 i k) * (x1 : S1x1024x1024.Idx → EReal) (ix3 0 j k) := by
  pointwise [k0_pay2]

theorem zero_at (i : Fin 1024) (j : Fin 1024) : (k0_pay1 (F := Ideal) : S1024x1024.Idx → EReal) (ix2 i j) = 0 := by
  pointwise [k0_pay1]

/-- One shard's product of whole arrays. -/
def part (s : Fin 4) (i : Fin 4096) (j : Fin 2048) : EReal := ∑ k : Fin 1024, inG m c (ix3 s i k) * inW m c (ix3 s j k)

/-- The product summed over every shard. -/
def whole (y : S4096x2048.Idx) : EReal := ∑ s : Fin 4, part m c s (y 0) (y 1)

theorem held_first (t : Fin cfg0.N) (h : t.val % 4 = 0) (i : Fin 1024) (j : Fin 1024) :
    ((outsAt0 m c t.val t.isLt).2 : S1024x1024.Idx → EReal) (ix2 i j) = 0 + part m c (shard t.val) (row t i) (col t j) := by
  rw [outsAt0_A m c t h (by omega)]
  dsimp only
  rw [first, step_at, zero_at]
  simp only [block_0, block_1]
  rfl

theorem held_next (t : Fin cfg0.N) (h0 : ¬t.val % 4 = 0) (h1 : ¬t.val % 4 = 3) (i : Fin 1024) (j : Fin 1024) :
    ((outsAt0 m c t.val t.isLt).2 : S1024x1024.Idx → EReal) (ix2 i j)
      = ((outsAt0 m c (t.val - 1) (lt_of_le_of_lt (Nat.sub_le _ _) t.isLt)).2 : S1024x1024.Idx → EReal) (ix2 i j)
        + part m c (shard t.val) (row t i) (col t j) := by
  rw [outsAt0_B m c t h0 h1]
  dsimp only
  rw [middle, step_at]
  simp only [block_0, block_1]
  rfl

/-- What the last of four points writes back. -/
theorem written (t : Fin cfg0.N) (h : t.val % 4 = 3) (i : Fin 1024) (j : Fin 1024) :
    ((outsAt0 m c t.val t.isLt).1 : S1024x1024.Idx → EReal) (ix2 i j) = whole m c (ix2 (row t i) (col t j)) := by
  have ht := ltN t
  have p1 : t.val - 1 < cfg0.N := lt_of_le_of_lt (Nat.sub_le _ _) t.isLt
  have p2 : t.val - 1 - 1 < cfg0.N := lt_of_le_of_lt (Nat.sub_le _ _) p1
  have p3 : t.val - 1 - 1 - 1 < cfg0.N := lt_of_le_of_lt (Nat.sub_le _ _) p2
  rw [outsAt0_C m c t (by omega) h]
  dsimp only
  rw [last, step_at]
  have e1 := held_next m c ⟨t.val - 1, p1⟩ (by dsimp only; omega) (by dsimp only; omega) i j
  have e2 := held_next m c ⟨t.val - 1 - 1, p2⟩ (by dsimp only; omega) (by dsimp only; omega) i j
  have e3 := held_first m c ⟨t.val - 1 - 1 - 1, p3⟩ (by dsimp only; omega) i j
  dsimp only at e1 e2 e3
  rw [e1, e2, e3]
  simp only [block_0, block_1]
  have s0 : shard (t.val - 1 - 1 - 1) = 0 := Fin.ext (by simp only [shard]; omega)
  have s1 : shard (t.val - 1 - 1) = 1 := Fin.ext (by simp only [shard]; omega)
  have s2 : shard (t.val - 1) = 2 := Fin.ext (by simp only [shard]; omega)
  have s3 : shard t.val = 3 := Fin.ext (by simp only [shard]; omega)
  have r1 : row ⟨t.val - 1, p1⟩ i = row t i := Fin.ext (by simp only [row]; omega)
  have r2 : row ⟨t.val - 1 - 1, p2⟩ i = row t i := Fin.ext (by simp only [row]; omega)
  have r3 : row ⟨t.val - 1 - 1 - 1, p3⟩ i = row t i := Fin.ext (by simp only [row]; omega)
  have c1 : col ⟨t.val - 1, p1⟩ j = col t j := Fin.ext (by simp only [col]; omega)
  have c2 : col ⟨t.val - 1 - 1, p2⟩ j = col t j := Fin.ext (by simp only [col]; omega)
  have c3 : col ⟨t.val - 1 - 1 - 1, p3⟩ j = col t j := Fin.ext (by simp only [col]; omega)
  rw [s0, s1, s2, s3, r1, r2, r3, c1, c2, c3, zero_add]
  unfold whole
  rw [Fin.sum_univ_four]
  rfl

theorem array : (dats m 0 c).arrAt 2 cfg0.N = whole m c := by
  refine (dats m 0 c).arrAt_eq_of_covers 2 _ (by decide +kernel) fun t hf y => ?_
  have h1 : t.val % 4 = 3 := (by decide +kernel : ∀ t : Fin cfg0.N, (cfg0.win 2).flush t = true → t.val % 4 = 3) t hf
  blk_simp
  rw [after0_2]
  idx_vars y
  refine (written m c t h1 _ _).trans ?_
  congr 1
  funext d
  apply Fin.ext
  fin_cases d <;> simp [ix2, row, col, index_2]

theorem run : θ_run defs (onTc (τ := τ) (main (F := Ideal))) ⟨m, fun _ => 0, ρ⟩ fun r => ∀ c : Dev nD,
    r.2.mem ((c : Thread nD τ).loc main_v2) = whole m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (array m c), (h c).2⟩) (Value.run_blocks m ρ)

end Cert.ProjInDxIdeal.Prod

end
-- ==== Proof.ProjInDxEq.lean ====
/- The gradient that the mixer's input projection sends to its input: the kernel's array is the reference's. -/
module

public import proofs.«01_k».proof.Defs
public import proofs.«01_k».proof.Proof.ProjInDx
public import proofs.«01_k».proof.Proof.Gen.ProjInDxRIdeal.Run
public import Idealize.ShloMosaic.Lib.Quiescent

@[expose] public section

set_option maxRecDepth 16384

noncomputable section

namespace Cert.ProjInDxRIdeal.Prod

open Cert.ProjInDxRIdeal Cert.ProjInDxRIdeal.Gen Cert.ProjInDxRIdeal.Value
open Idealize.ShloMosaic Idealize.ShloMosaic.TcCoe Idealize.ShloMosaic.Tactic

/-- The reference's term at an index. -/
theorem at_index (g : FVec Ideal S4x4096x1024 .f32) (w : FVec Ideal S4x2048x1024 .f32) (i : Fin 4096) (j : Fin 2048) :
    (Host.dotGeneral dot_S4x1024x4096_S4x2048x1024_S4096x2048_01_02_2_1_n_n none
        (transpose S4x1024x4096 [0, 2, 1] g transposes_S4x4096x1024_S4x1024x4096_0_2_1) w : S4096x2048.Idx → EReal) (ix2 i j)
      = ∑ s : Fin 4, ∑ k : Fin 1024, (g : S4x4096x1024.Idx → EReal) (ix3 s i k) * (w : S4x2048x1024.Idx → EReal) (ix3 s j k) := by
  pointwise []

end Cert.ProjInDxRIdeal.Prod

namespace Cert.Proof

open Idealize.ShloMosaic Idealize.ShloMosaic.TcCoe Idealize.ShloMosaic.Tactic Idealize.SL.Sem

theorem frame_proj_in_dx_reference : Cert.quiescent_ProjInDxRIdeal := fun m ρ _ =>
  (θ_run (Cert.ProjInDxRIdeal.defs (F := Ideal)) _ _).mono (fun _ h => ⟨fun c => (h c).2, sem_eq_zero_of_no_sems rfl _⟩)
    (Cert.ProjInDxRIdeal.Value.run m ρ)

theorem equal_proj_in_dx : Cert.algebraic_ProjInDxIdeal_ProjInDxRIdeal := fun m g m' g' _ hm =>
  ⟨fun c => Cert.ProjInDxIdeal.Prod.whole m c, Cert.ProjInDxIdeal.Prod.run m g,
   (θ_run (Cert.ProjInDxRIdeal.defs (F := Ideal)) _ _).mono (fun r h c => ⟨(h c).1.trans (by
      rw [(hm c).1, (hm c).2]
      funext y
      revert y
      show ∀ y : Cert.ProjInDxIdeal.S4096x2048.Idx, _
      intro y
      idx_vars y
      exact Cert.ProjInDxRIdeal.Prod.at_index _ _ _ _), (h c).2⟩) (Cert.ProjInDxRIdeal.Value.run m' g')⟩

end Cert.Proof

end
-- ==== Proof.ProjOutDw.lean ====
/- The gradient of the mixer's output projection's weight: two blocks of tokens are summed in turn, and the array holds the
   sum over all tokens. -/
module

public import proofs.«01_k».proof.Proof.Gen.ProjOutDwIdeal.Value
public import proofs.«01_k».proof.Proof.Gen.ProjOutDwRIdeal.Run
public import proofs.«01_k».proof.Proof.Sums
public import Idealize.ShloMosaic.Lib.WholeRead
public import Idealize.ShloMosaic.Lib.Pipeline.ValueKit

@[expose] public section

set_option maxRecDepth 16384

noncomputable section

namespace Cert.ProjOutDwIdeal.Prod

open Cert.ProjOutDwIdeal Cert.ProjOutDwIdeal.Gen Cert.Prod
open Idealize.ShloMosaic Idealize.ShloMosaic.TcCoe Idealize.ShloMosaic.Tactic Idealize.SL.Sem

section Body

variable {F : FTy → Type} [FloatOps F]

/-- The first block of tokens leaves its product over zeros in the accumulator. -/
theorem first (c : Dev nD) (i : grid0.Coords) (a4 : Memref sig .tc .vmem S2048x1024 .bf16) (h4 : a4.IsWhole)
    (a5 : Memref sig .tc .vmem S2048x1024 .f32) (h5 : a5.IsWhole) (a6 : Memref sig .tc .vmem S1024x1024 .bf16) (h6 : a6.IsWhole)
    (a7 : Memref sig .tc .vmem S1024x1024 .f32) (h7 : a7.IsWhole) (hc0 : cond0_0 i) (hc1 : ¬cond0_1 i)
    (x0 : Vec F S2048x1024 .bf16) (x1 : Vec F S2048x1024 .f32) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero zero2, View.readCov_unit_zero _ zero2]
  simp only [View.readAt_eq_ld, h4.read_unread, h5.read_unread, View.ld_unit_zero (S := S2048x1024) zero2,
    View.ld_unit_zero (S := S1024x1024) zero2]

/-- The second block adds its product and the sum is written out. -/
theorem last (c : Dev nD) (i : grid0.Coords) (a4 : Memref sig .tc .vmem S2048x1024 .bf16) (h4 : a4.IsWhole)
    (a5 : Memref sig .tc .vmem S2048x1024 .f32) (h5 : a5.IsWhole) (a6 : Memref sig .tc .vmem S1024x1024 .bf16) (h6 : a6.IsWhole)
    (a7 : Memref sig .tc .vmem S1024x1024 .f32) (h7 : a7.IsWhole) (hc0 : ¬cond0_0 i) (hc1 : cond0_1 i)
    (x0 : Vec F S2048x1024 .bf16) (x1 : Vec F S2048x1024 .f32) (s : Vec F S1024x1024 .f32) :
    out0_B_2 c i a4 h4 a5 h5 a6 h6 a7 h7 hc0 hc1 x0 x1 s = k0_pay3 (k0_pay2 s x0 x1) := by
  unfold out0_B_2
  rw [View.read_writes_eq_canon _ _ _ (cover0_B_2 c i a4 h4 a5 h5 a6 h6 a7 h7 hc0 hc1 x0 x1 s)]
  unfold kernelRun0_B
  dsimp only
  sl_unfold_words
  rw [View.canon_unit_zero zero2, View.readCov_unit_zero _ zero2]
  simp only [View.readAt_eq_ld, h4.read_unread, h5.read_unread, h7.read_unread, View.ld_unit_zero (S := S2048x1024) zero2,
    View.ld_unit_zero (S := S1024x1024) zero2]

end Body

variable (m : (ℓ : Loc nD τ sig) → Buf (Elt Ideal) ℓ) (ρ : Dev nD → PrngReg) (c : Dev nD)

/-- The two arguments as extended reals. -/
abbrev inH : S4096x2048.Idx → EReal := m ((c : Thread nD τ).loc main_arg0)
abbrev inG : S4096x2048.Idx → EReal := m ((c : Thread nD τ).loc main_arg1)

theorem index_0 : ∀ t : Fin grid0.N, win0_0.index t = ![t.val % 2, t.val / 4] := by decide +kernel
theorem index_1 : ∀ t : Fin grid0.N, win0_1.index t = ![t.val % 2, t.val / 2 % 2] := by decide +kernel
theorem index_2 : ∀ t : Fin grid0.N, win0_2.index t = ![t.val / 4, t.val / 2 % 2] := by decide +kernel

theorem lt8 (t : Fin cfg0.N) : t.val < 8 := lt_of_lt_of_eq t.isLt N_0

theorem entry_0 (y : S4096x2048.Idx) : (V m c main_v0 : S4096x2048.Idx → EReal) y = inH m c y := by
  have e : V m c main_v0 = (truncf (F := Ideal) .bf16 (m ((c : Thread nD τ).loc main_arg0)) bitsLt_bf16_f32 : S4096x2048.Idx → EReal) := by
    entry_read
    rfl
  rw [e]
  rfl

/-- Row `i` and column `j` of the weight, in point `t`'s block. -/
def row (t : Fin cfg0.N) (i : Fin 1024) : Fin 2048 := ⟨t.val / 4 * 1024 + i.val, by have := lt8 t; omega⟩
def col (t : Fin cfg0.N) (j : Fin 1024) : Fin 2048 := ⟨t.val / 2 % 2 * 1024 + j.val, by omega⟩

theorem block_0 (t : Fin cfg0.N) (r : Fin 2048) (i : Fin 1024) :
    (iblk m c 0 t : S2048x1024.Idx → EReal) (ix2 r i) = inH m c (ix2 (token t.val r) (row t i)) := by
  blk_simp [iblk]
  refine Eq.trans ?_ (entry_0 m c _)
  congr 1
  funext d
  apply Fin.ext
  fin_cases d <;> simp [ix2, token, row, index_0]

theorem block_1 (t : Fin cfg0.N) (r : Fin 2048) (j : Fin 1024) :
    (iblk m c 1 t : S2048x1024.Idx → EReal) (ix2 r j) = inG m c (ix2 (token t.val r) (col t j)) := by
  have e : (V m c main_arg1 : S4096x2048.Idx → EReal) = inG m c := V_main_arg1 m c
  blk_simp [iblk]
  refine Eq.trans ?_ (congrFun e _)
  congr 1
  funext d
  apply Fin.ext
  fin_cases d <;> simp [ix2, token, col, index_1]

/-- One block's product over what the accumulator held. -/
theorem step_at (s : Vec Ideal S1024x1024 .f32) (x0 : Vec Ideal S2048x1024 .bf16) (x1 : Vec Ideal S2048x1024 .f32) (i : Fin 1024) (j : Fin 1024) :
    (k0_pay2 s x0 x1 : S1024x1024.Idx → EReal) (ix2 i j)
      = (s : S1024x1024.Idx → EReal) (ix2 i j)
        + ∑ r : Fin 2048, (x0 : S2048x1024.Idx → EReal) (ix2 r i) * (x1 : S2048x1024.Idx → EReal) (ix2 r j) := by
  pointwise [k0_pay2]

theorem zero_at (i : Fin 1024) (j : Fin 1024) : (k0_pay1 (F := Ideal) : S1024x1024.Idx → EReal) (ix2 i j) = 0 := by
  pointwise [k0_pay1]

theorem out_at (s : Vec Ideal S1024x1024 .f32) (i : Fin 1024) (j : Fin 1024) :
    (k0_pay3 s : S1024x1024.Idx → EReal) (ix2 i j) = (s : S1024x1024.Idx → EReal) (ix2 i j) := by
  pointwise [k0_pay3]

/-- The product summed over every token. -/
def whole (y : S2048x2048.Idx) : EReal := ∑ k : Fin 4096, inH m c (ix2 k (y 0)) * inG m c (ix2 k (y 1))

/-- What an odd point writes back. -/
theorem written (t : Fin cfg0.N) (h1 : t.val % 2 = 1) (i : Fin 1024) (j : Fin 1024) :
    ((outsAt0 m c t.val t.isLt).1 : S1024x1024.Idx → EReal) (ix2 i j) = whole m c (ix2 (row t i) (col t j)) := by
  have ht := lt8 t
  have hp : t.val - 1 < cfg0.N := lt_of_le_of_lt (Nat.sub_le _ _) t.isLt
  have e := outsAt0_A m c ⟨t.val - 1, hp⟩ (by dsimp only; omega) (by dsimp only; omega)
  dsimp only at e
  rw [outsAt0_B m c t (by omega) h1, e]
  dsimp only
  rw [last, first, out_at, step_at, step_at, zero_at]
  simp only [block_0, block_1]
  unfold whole
  refine Eq.trans ?_ (sum_blocks _ (a := t.val - 1) (b := t.val) (by omega) h1)
  congr 2 <;> refine Finset.sum_congr rfl fun r _ => ?_
  congr 2 <;> congr 1 <;> apply Fin.ext <;> dsimp only [ix2, row, col] <;> omega

theorem array : (dats m 0 c).arrAt 2 cfg0.N = whole m c := by
  refine (dats m 0 c).arrAt_eq_of_covers 2 _ (by decide +kernel) fun t hf y => ?_
  have h1 : t.val % 2 = 1 := (by decide +kernel : ∀ t : Fin cfg0.N, (cfg0.win 2).flush t = true → t.val % 2 = 1) t hf
  blk_simp
  rw [after0_2]
  idx_vars y
  refine (written m c t h1 _ _).trans ?_
  congr 1
  funext d
  apply Fin.ext
  fin_cases d <;> simp [ix2, row, col, index_2]

theorem run : θ_run defs (onTc (τ := τ) (main (F := Ideal))) ⟨m, fun _ => 0, ρ⟩ fun r => ∀ c : Dev nD,
    r.2.mem ((c : Thread nD τ).loc main_v1) = whole m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (array m c), (h c).2⟩) (Value.run_blocks m ρ)

end Cert.ProjOutDwIdeal.Prod

end
-- ==== Proof.ProjOutDwEq.lean ====
/- The gradient of the mixer's output projection's weight: the kernel's array is the reference's. -/
module

public import proofs.«01_k».proof.Defs
public import proofs.«01_k».proof.Proof.ProjOutDw
public import proofs.«01_k».proof.Proof.Gen.ProjOutDwRIdeal.Run
public import Idealize.ShloMosaic.Lib.Quiescent

@[expose] public section

set_option maxRecDepth 16384

noncomputable section

namespace Cert.ProjOutDwRIdeal.Prod

open Cert.ProjOutDwRIdeal Cert.ProjOutDwRIdeal.Gen Cert.ProjOutDwRIdeal.Value
open Idealize.ShloMosaic Idealize.ShloMosaic.TcCoe Idealize.ShloMosaic.Tactic

/-- The reference's term at an index. -/
theorem at_index (h g : FVec Ideal S4096x2048 .f32) (i j : Fin 2048) :
    (truncf (F := Ideal) .bf16 (transpose S2048x2048 [1, 0]
        (Host.dotGeneral dot_S4096x2048_S4096x2048_S2048x2048_0_0_1_1_n_n none g h) transposes_S2048x2048_S2048x2048_1_0)
        bitsLt_bf16_f32 : S2048x2048.Idx → EReal) (ix2 i j)
      = ∑ k : Fin 4096, (h : S4096x2048.Idx → EReal) (ix2 k i) * (g : S4096x2048.Idx → EReal) (ix2 k j) := by
  pointwise []
  exact Finset.sum_congr rfl fun k _ => mul_comm _ _

end Cert.ProjOutDwRIdeal.Prod

namespace Cert.Proof

open Idealize.ShloMosaic Idealize.ShloMosaic.TcCoe Idealize.ShloMosaic.Tactic Idealize.SL.Sem

theorem frame_proj_out_dw_reference : Cert.quiescent_ProjOutDwRIdeal := fun m ρ _ =>
  (θ_run (Cert.ProjOutDwRIdeal.defs (F := Ideal)) _ _).mono (fun _ h => ⟨fun c => (h c).2, sem_eq_zero_of_no_sems rfl _⟩)
    (Cert.ProjOutDwRIdeal.Value.run m ρ)

theorem equal_proj_out_dw : Cert.algebraic_ProjOutDwIdeal_ProjOutDwRIdeal := fun m g m' g' _ hm =>
  ⟨fun c => Cert.ProjOutDwIdeal.Prod.whole m c, Cert.ProjOutDwIdeal.Prod.run m g,
   (θ_run (Cert.ProjOutDwRIdeal.defs (F := Ideal)) _ _).mono (fun r h c => ⟨(h c).1.trans (by
      rw [(hm c).1, (hm c).2]
      funext y
      revert y
      show ∀ y : Cert.ProjOutDwIdeal.S2048x2048.Idx, _
      intro y
      idx_vars y
      exact Cert.ProjOutDwRIdeal.Prod.at_index _ _ _ _), (h c).2⟩) (Cert.ProjOutDwRIdeal.Value.run m' g')⟩

end Cert.Proof

end
-- ==== Proof.ProjGluDw.lean ====
/- The gradient of the mixer's gate's weight: two blocks of tokens are summed in turn, and the array holds the
   sum over all tokens. -/
module

public import proofs.«01_k».proof.Proof.Gen.ProjGluDwIdeal.Value
public import proofs.«01_k».proof.Proof.Gen.ProjGluDwRIdeal.Run
public import proofs.«01_k».proof.Proof.Sums
public import Idealize.ShloMosaic.Lib.WholeRead
public import Idealize.ShloMosaic.Lib.Pipeline.ValueKit

@[expose] public section

set_option maxRecDepth 16384

noncomputable section

namespace Cert.ProjGluDwIdeal.Prod

open Cert.ProjGluDwIdeal Cert.ProjGluDwIdeal.Gen Cert.Prod
open Idealize.ShloMosaic Idealize.ShloMosaic.TcCoe Idealize.ShloMosaic.Tactic Idealize.SL.Sem

section Body

variable {F : FTy → Type} [FloatOps F]

/-- The first block of tokens leaves its product over zeros in the accumulator. -/
theorem first (c : Dev nD) (i : grid0.Coords) (a4 : Memref sig .tc .vmem S2048x1024 .bf16) (h4 : a4.IsWhole)
    (a5 : Memref sig .tc .vmem S2048x1024 .bf16) (h5 : a5.IsWhole) (a6 : Memref sig .tc .vmem S1024x1024 .bf16) (h6 : a6.IsWhole)
    (a7 : Memref sig .tc .vmem S1024x1024 .f32) (h7 : a7.IsWhole) (hc0 : cond0_0 i) (hc1 : ¬cond0_1 i)
    (x0 : Vec F S2048x1024 .bf16) (x1 : Vec F S2048x1024 .bf16) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero zero2, View.readCov_unit_zero _ zero2]
  simp only [View.readAt_eq_ld, h4.read_unread, h5.read_unread, View.ld_unit_zero (S := S2048x1024) zero2,
    View.ld_unit_zero (S := S1024x1024) zero2]

/-- The second block adds its product and the sum is written out. -/
theorem last (c : Dev nD) (i : grid0.Coords) (a4 : Memref sig .tc .vmem S2048x1024 .bf16) (h4 : a4.IsWhole)
    (a5 : Memref sig .tc .vmem S2048x1024 .bf16) (h5 : a5.IsWhole) (a6 : Memref sig .tc .vmem S1024x1024 .bf16) (h6 : a6.IsWhole)
    (a7 : Memref sig .tc .vmem S1024x1024 .f32) (h7 : a7.IsWhole) (hc0 : ¬cond0_0 i) (hc1 : cond0_1 i)
    (x0 : Vec F S2048x1024 .bf16) (x1 : Vec F S2048x1024 .bf16) (s : Vec F S1024x1024 .f32) :
    out0_B_2 c i a4 h4 a5 h5 a6 h6 a7 h7 hc0 hc1 x0 x1 s = k0_pay3 (k0_pay2 s x0 x1) := by
  unfold out0_B_2
  rw [View.read_writes_eq_canon _ _ _ (cover0_B_2 c i a4 h4 a5 h5 a6 h6 a7 h7 hc0 hc1 x0 x1 s)]
  unfold kernelRun0_B
  dsimp only
  sl_unfold_words
  rw [View.canon_unit_zero zero2, View.readCov_unit_zero _ zero2]
  simp only [View.readAt_eq_ld, h4.read_unread, h5.read_unread, h7.read_unread, View.ld_unit_zero (S := S2048x1024) zero2,
    View.ld_unit_zero (S := S1024x1024) zero2]

end Body

variable (m : (ℓ : Loc nD τ sig) → Buf (Elt Ideal) ℓ) (ρ : Dev nD → PrngReg) (c : Dev nD)

/-- The two arguments as extended reals. -/
abbrev inH : S4096x1024.Idx → EReal := m ((c : Thread nD τ).loc main_arg0)
abbrev inG : S4096x1024.Idx → EReal := m ((c : Thread nD τ).loc main_arg1)

theorem index_0 : ∀ t : Fin grid0.N, win0_0.index t = ![t.val % 2, 0] := by decide +kernel
theorem index_1 : ∀ t : Fin grid0.N, win0_1.index t = ![t.val % 2, 0] := by decide +kernel
theorem index_2 : ∀ t : Fin grid0.N, win0_2.index t = ![0, 0] := by decide +kernel

theorem lt2 (t : Fin cfg0.N) : t.val < 2 := lt_of_lt_of_eq t.isLt N_0

theorem entry_0 (y : S4096x1024.Idx) : (V m c main_v0 : S4096x1024.Idx → EReal) y = inH m c y := by
  have e : V m c main_v0 = (truncf (F := Ideal) .bf16 (m ((c : Thread nD τ).loc main_arg0)) bitsLt_bf16_f32 : S4096x1024.Idx → EReal) := by
    entry_read
    rfl
  rw [e]
  rfl

theorem entry_1 (y : S4096x1024.Idx) : (V m c main_v1 : S4096x1024.Idx → EReal) y = inG m c y := by
  have e : V m c main_v1 = (truncf (F := Ideal) .bf16 (m ((c : Thread nD τ).loc main_arg1)) bitsLt_bf16_f32 : S4096x1024.Idx → EReal) := by
    entry_read
    rfl
  rw [e]
  rfl

theorem block_0 (t : Fin cfg0.N) (r : Fin 2048) (i : Fin 1024) :
    (iblk m c 0 t : S2048x1024.Idx → EReal) (ix2 r i) = inH m c (ix2 (token t.val r) i) := by
  blk_simp [iblk]
  refine Eq.trans ?_ (entry_0 m c _)
  congr 1
  funext d
  apply Fin.ext
  fin_cases d <;> simp [ix2, token, index_0]

theorem block_1 (t : Fin cfg0.N) (r : Fin 2048) (j : Fin 1024) :
    (iblk m c 1 t : S2048x1024.Idx → EReal) (ix2 r j) = inG m c (ix2 (token t.val r) j) := by
  blk_simp [iblk]
  refine Eq.trans ?_ (entry_1 m c _)
  congr 1
  funext d
  apply Fin.ext
  fin_cases d <;> simp [ix2, token, index_1]

/-- One block's product over what the accumulator held. -/
theorem step_at (s : Vec Ideal S1024x1024 .f32) (x0 : Vec Ideal S2048x1024 .bf16) (x1 : Vec Ideal S2048x1024 .bf16) (i : Fin 1024) (j : Fin 1024) :
    (k0_pay2 s x0 x1 : S1024x1024.Idx → EReal) (ix2 i j)
      = (s : S1024x1024.Idx → EReal) (ix2 i j)
        + ∑ r : Fin 2048, (x0 : S2048x1024.Idx → EReal) (ix2 r i) * (x1 : S2048x1024.Idx → EReal) (ix2 r j) := by
  pointwise [k0_pay2]

theorem zero_at (i : Fin 1024) (j : Fin 1024) : (k0_pay1 (F := Ideal) : S1024x1024.Idx → EReal) (ix2 i j) = 0 := by
  pointwise [k0_pay1]

theorem out_at (s : Vec Ideal S1024x1024 .f32) (i : Fin 1024) (j : Fin 1024) :
    (k0_pay3 s : S1024x1024.Idx → EReal) (ix2 i j) = (s : S1024x1024.Idx → EReal) (ix2 i j) := by
  pointwise [k0_pay3]

/-- The product summed over every token. -/
def whole (y : S1024x1024.Idx) : EReal := ∑ k : Fin 4096, inH m c (ix2 k (y 0)) * inG m c (ix2 k (y 1))

/-- What an odd point writes back. -/
theorem written (t : Fin cfg0.N) (h1 : t.val % 2 = 1) (i : Fin 1024) (j : Fin 1024) :
    ((outsAt0 m c t.val t.isLt).1 : S1024x1024.Idx → EReal) (ix2 i j) = whole m c (ix2 i j) := by
  have ht := lt2 t
  have hp : t.val - 1 < cfg0.N := lt_of_le_of_lt (Nat.sub_le _ _) t.isLt
  have e := outsAt0_A m c ⟨t.val - 1, hp⟩ (by dsimp only; omega) (by dsimp only; omega)
  dsimp only at e
  rw [outsAt0_B m c t (by omega) h1, e]
  dsimp only
  rw [last, first, out_at, step_at, step_at, zero_at]
  simp only [block_0, block_1]
  unfold whole
  refine Eq.trans ?_ (sum_blocks _ (a := t.val - 1) (b := t.val) (by omega) h1)
  congr 2 <;> refine Finset.sum_congr rfl fun r _ => ?_

theorem array : (dats m 0 c).arrAt 2 cfg0.N = whole m c := by
  refine (dats m 0 c).arrAt_eq_of_covers 2 _ (by decide +kernel) fun t hf y => ?_
  have h1 : t.val % 2 = 1 := (by decide +kernel : ∀ t : Fin cfg0.N, (cfg0.win 2).flush t = true → t.val % 2 = 1) t hf
  blk_simp
  rw [after0_2]
  idx_vars y
  refine (written m c t h1 _ _).trans ?_
  congr 1
  funext d
  apply Fin.ext
  fin_cases d <;> simp [ix2, index_2]

theorem run : θ_run defs (onTc (τ := τ) (main (F := Ideal))) ⟨m, fun _ => 0, ρ⟩ fun r => ∀ c : Dev nD,
    r.2.mem ((c : Thread nD τ).loc main_v2) = whole m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (array m c), (h c).2⟩) (Value.run_blocks m ρ)

end Cert.ProjGluDwIdeal.Prod

end
-- ==== Proof.ProjGluDwEq.lean ====
/- The gradient of the mixer's gate's weight: the kernel's array is the reference's. -/
module

public import proofs.«01_k».proof.Defs
public import proofs.«01_k».proof.Proof.ProjGluDw
public import proofs.«01_k».proof.Proof.Gen.ProjGluDwRIdeal.Run
public import Idealize.ShloMosaic.Lib.Quiescent

@[expose] public section

set_option maxRecDepth 16384

noncomputable section

namespace Cert.ProjGluDwRIdeal.Prod

open Cert.ProjGluDwRIdeal Cert.ProjGluDwRIdeal.Gen Cert.ProjGluDwRIdeal.Value
open Idealize.ShloMosaic Idealize.ShloMosaic.TcCoe Idealize.ShloMosaic.Tactic

/-- The reference's term at an index. -/
theorem at_index (h g : FVec Ideal S4096x1024 .f32) (i j : Fin 1024) :
    (truncf (F := Ideal) .bf16 (transpose S1024x1024 [1, 0]
        (Host.dotGeneral dot_S4096x1024_S4096x1024_S1024x1024_0_0_1_1_n_n none g h) transposes_S1024x1024_S1024x1024_1_0)
        bitsLt_bf16_f32 : S1024x1024.Idx → EReal) (ix2 i j)
      = ∑ k : Fin 4096, (h : S4096x1024.Idx → EReal) (ix2 k i) * (g : S4096x1024.Idx → EReal) (ix2 k j) := by
  pointwise []
  exact Finset.sum_congr rfl fun k _ => mul_comm _ _

end Cert.ProjGluDwRIdeal.Prod

namespace Cert.Proof

open Idealize.ShloMosaic Idealize.ShloMosaic.TcCoe Idealize.ShloMosaic.Tactic Idealize.SL.Sem

theorem frame_proj_glu_dw_reference : Cert.quiescent_ProjGluDwRIdeal := fun m ρ _ =>
  (θ_run (Cert.ProjGluDwRIdeal.defs (F := Ideal)) _ _).mono (fun _ h => ⟨fun c => (h c).2, sem_eq_zero_of_no_sems rfl _⟩)
    (Cert.ProjGluDwRIdeal.Value.run m ρ)

theorem equal_proj_glu_dw : Cert.algebraic_ProjGluDwIdeal_ProjGluDwRIdeal := fun m g m' g' _ hm =>
  ⟨fun c => Cert.ProjGluDwIdeal.Prod.whole m c, Cert.ProjGluDwIdeal.Prod.run m g,
   (θ_run (Cert.ProjGluDwRIdeal.defs (F := Ideal)) _ _).mono (fun r h c => ⟨(h c).1.trans (by
      rw [(hm c).1, (hm c).2]
      funext y
      revert y
      show ∀ y : Cert.ProjGluDwIdeal.S1024x1024.Idx, _
      intro y
      idx_vars y
      exact Cert.ProjGluDwRIdeal.Prod.at_index _ _ _ _), (h c).2⟩) (Cert.ProjGluDwRIdeal.Value.run m' g')⟩

end Cert.Proof

end
-- ==== Proof.LossMath.lean ====
/- Sums over tokens taken in groups of eight rows, and a positive constant taken out of a sum. -/
module

public import Idealize.ShloMosaic.Lib.Pointwise

@[expose] public section

noncomputable section

namespace Cert.LossMath

/-- A finite constant that is not negative goes out of a sum. -/
theorem sum_mul {ι : Type} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih => rw [Finset.sum_insert hi, Finset.sum_insert hi, ← ih, EReal.right_distrib_of_nonneg_of_ne_top h0 ht]

/-- Token `g` of those that row `r` of the squares sums: each block of 1024 tokens has eight rows, and a row takes every
    eighth token. -/
def member (r : Fin 32) (g : Fin 128) : Fin 4096 := ⟨r.val / 8 * 1024 + (g.val * 8 + r.val % 8), by omega⟩

/-- The rows' sums are the sum over all tokens. -/
theorem sum_groups (f : Fin 4096 → EReal) : ∑ r : Fin 32, ∑ g : Fin 128, f (member r g) = ∑ i, f i := by
  rw [← Fintype.sum_prod_type' (f := fun r g => f (member r g))]
  refine Finset.sum_nbij' (fun p => member p.1 p.2)
    (fun i => (⟨i.val / 1024 * 8 + i.val % 8, by omega⟩, ⟨i.val % 1024 / 8, by omega⟩))
    (fun _ _ => Finset.mem_univ _) (fun _ _ => Finset.mem_univ _) ?_ ?_ (fun _ _ => rfl)
  · rintro ⟨r, g⟩ -
    refine Prod.ext (Fin.ext ?_) (Fin.ext ?_)
    · simp only [member]; omega
    · simp only [member]; omega
  · intro i _
    apply Fin.ext
    simp only [member]
    omega

/-- Half of the sum over the groups divided by the width is half of the sum of the tokens' means. -/
theorem half_mean (D : Fin 4096 → Fin 2048 → EReal) {a b : EReal} (h0 : 0 ≤ b) (ht : b ≠ ⊤) :
    (a * ∑ r : Fin 32, ∑ j : Fin 2048, ∑ g : Fin 128, D (member r g) j) * b = a * ∑ i : Fin 4096, (∑ j : Fin 2048, D i j) * b := by
  rw [mul_assoc (G := EReal), ← sum_mul Finset.univ _ h0 ht, ← sum_groups fun i => ∑ j, D i j]
  congr 2
  exact Finset.sum_congr rfl fun r _ => Finset.sum_comm

open Idealize.ShloMosaic

/-- The constants: a half, two, the width and one over it. -/
theorem half : Ideal.ofBits FTy.f32 1056964608#32 = ((1 / 2 : ℝ) : EReal) := by
  simp [Ideal.ofBits, Ideal.ieee, -EReal.coe_mul]; norm_num
theorem two : Ideal.ofBits FTy.f32 1073741824#32 = ((2 : ℝ) : EReal) := by
  simp [Ideal.ofBits, Ideal.ieee, -EReal.coe_mul]; norm_num
theorem width : Ideal.ofBits FTy.f32 1157627904#32 = ((2048 : ℝ) : EReal) := by
  simp [Ideal.ofBits, Ideal.ieee, -EReal.coe_mul]; norm_num
theorem over_width : Ideal.ofBits FTy.f32 973078528#32 = ((1 / 2048 : ℝ) : EReal) := by
  simp [Ideal.ofBits, Ideal.ieee, -EReal.coe_mul]; norm_num

/-- Division by the width. -/
theorem div_width (x : EReal) : Ideal.div x (Ideal.ofBits FTy.f32 1157627904#32) = x * ((1 / 2048 : ℝ) : EReal) := by
  rw [width, Ideal.div_coe (by norm_num)]

/-- Half of twice a difference over the width. -/
theorem half_twice (d : EReal) :
    Ideal.div (Ideal.ofBits FTy.f32 1056964608#32) (Ideal.ofBits FTy.f32 1157627904#32) * (Ideal.ofBits FTy.f32 1073741824#32 * d)
      = d * Ideal.ofBits FTy.f32 973078528#32 := by
  rw [div_width, half, two, over_width, ← mul_assoc (G := EReal), ← EReal.coe_mul, ← EReal.coe_mul, mul_comm (G := EReal)]
  norm_num

/-- The two ways to the loss. -/
theorem same_loss (D : Fin 4096 → Fin 2048 → EReal) :
    Ideal.div (Ideal.ofBits FTy.f32 1056964608#32 * ∑ r : Fin 32, ∑ j : Fin 2048, ∑ g : Fin 128, D (member r g) j) (Ideal.ofBits FTy.f32 1157627904#32)
      = Ideal.ofBits FTy.f32 1056964608#32 * ∑ i : Fin 4096, Ideal.div (∑ j : Fin 2048, D i j) (Ideal.ofBits FTy.f32 1157627904#32) := by
  simp only [div_width]
  exact half_mean D (by exact_mod_cast (by norm_num : (0 : ℝ) ≤ 1 / 2048)) (EReal.coe_ne_top _)

end Cert.LossMath

end
-- ==== Proof.Loss.lean ====
/- The feed-forward output projection with the loss: the four shards' products are summed in turn, and at the last the
   difference from the target gives the loss's gradient and the squares summed in groups of rows. -/
module

public import proofs.«01_k».proof.Proof.Gen.LossIdeal.Frame
public import proofs.«01_k».proof.Proof.Sums
public import proofs.«01_k».proof.Proof.LossMath
public import Idealize.ShloMosaic.Lib.WholeRead
public import Idealize.ShloMosaic.Lib.Pipeline.ValueKit

@[expose] public section

set_option maxRecDepth 16384

noncomputable section

namespace Cert.LossIdeal.Prod

open Cert.LossIdeal Cert.LossIdeal.Gen Cert.Prod Cert.LossMath
open Idealize.ShloMosaic Idealize.ShloMosaic.TcCoe Idealize.ShloMosaic.Tactic Idealize.SL.Sem

section Body

variable {F : FTy → Type} [FloatOps F]
variable (c : Dev nD) (i : grid0.Coords) (a3 : Memref sig .tc .vmem S1x1024x1408 .bf16) (h3 : a3.IsWhole)
  (a4 : Memref sig .tc .vmem S1x1408x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S8x1024 .f32) (h9 : a9.IsWhole)
  (a10 : Memref sig .tc .vmem S1024x1024 .f32) (h10 : a10.IsWhole)
  (x0 : Vec F S1x1024x1408 .bf16) (x1 : Vec F S1x1408x1024 .bf16) (x2 x3 s : Vec F S1024x1024 .f32)

/-- The first shard leaves its product over zeros in the accumulator. -/
theorem first (hc0 : cond0_0 i) (hc1 : ¬cond0_1 i) :
    sout0_A_0 c i a3 h3 a4 h4 a5 h5 a6 h6 a7 h7 a8 h8 a9 h9 a10 h10 hc0 hc1 x0 x1 x2 x3 = k0_pay2 k0_pay1 x0 x1 := by
  unfold sout0_A_0
  rw [View.read_writes_eq_canon _ _ _ (scover0_A_0 c i a3 h3 a4 h4 a5 h5 a6 h6 a7 h7 a8 h8 a9 h9 a10 h10 hc0 hc1 x0 x1 x2 x3)]
  unfold kernelRun0_A
  dsimp only
  sl_unfold_words
  rw [View.canon_cons_unit_zero zero2, View.readCov_unit_zero _ zero2]
  simp only [View.readAt_eq_ld, h3.read_unread, h4.read_unread, View.ld_unit_zero (S := S1x1024x1408) zero3,
    View.ld_unit_zero (S := S1x1408x1024) zero3]

/-- A shard in between adds its product. -/
theorem middle (hc0 : ¬cond0_0 i) (hc1 : ¬cond0_1 i) :
    sout0_B_0 c i a3 h3 a4 h4 a5 h5 a6 h6 a7 h7 a8 h8 a9 h9 a10 h10 hc0 hc1 x0 x1 x2 x3 s = k0_pay2 s x0 x1 := by
  unfold sout0_B_0
  rw [View.read_writes_eq_canon _ _ _ (scover0_B_0 c i a3 h3 a4 h4 a5 h5 a6 h6 a7 h7 a8 h8 a9 h9 a10 h10 hc0 hc1 x0 x1 x2 x3 s)]
  unfold kernelRun0_B
  dsimp only
  sl_unfold_words
  rw [View.canon_unit_zero zero2]
  simp only [View.readAt_eq_ld, h3.read_unread, h4.read_unread, h10.read_unread, View.ld_unit_zero (S := S1024x1024) zero2,
    View.ld_unit_zero (S := S1x1024x1408) zero3, View.ld_unit_zero (S := S1x1408x1024) zero3]

/-- The last shard adds its product; the gradient is written out, … -/
theorem last_4 (hc0 : ¬cond0_0 i) (hc1 : cond0_1 i) :
    out0_C_4 c i a3 h3 a4 h4 a5 h5 a6 h6 a7 h7 a8 h8 a9 h9 a10 h10 hc0 hc1 x0 x1 x2 x3 s = k0_pay4 (k0_pay2 s x0 x1) x2 x3 := by
  unfold out0_C_4
  rw [View.read_writes_eq_canon _ _ _ (cover0_C_4 c i a3 h3 a4 h4 a5 h5 a6 h6 a7 h7 a8 h8 a9 h9 a10 h10 hc0 hc1 x0 x1 x2 x3 s)]
  unfold kernelRun0_C
  dsimp only
  sl_unfold_words
  rw [View.canon_unit_zero zero2, View.readCov_unit_zero _ zero2]
  simp only [View.readAt_eq_ld, h3.read_unread, h4.read_unread, h5.read_unread, h6.read_unread, h10.read_unread,
    View.ld_unit_zero (S := S1024x1024) zero2, View.ld_unit_zero (S := S1x1024x1408) zero3,
    View.ld_unit_zero (S := S1x1408x1024) zero3]

/-- … its copy, … -/
theorem last_5 (hc0 : ¬cond0_0 i) (hc1 : cond0_1 i) :
    out0_C_5 c i a3 h3 a4 h4 a5 h5 a6 h6 a7 h7 a8 h8 a9 h9 a10 h10 hc0 hc1 x0 x1 x2 x3 s = k0_pay5 (k0_pay2 s x0 x1) x2 x3 := by
  unfold out0_C_5
  rw [View.read_writes_eq_canon _ _ _ (cover0_C_5 c i a3 h3 a4 h4 a5 h5 a6 h6 a7 h7 a8 h8 a9 h9 a10 h10 hc0 hc1 x0 x1 x2 x3 s)]
  unfold kernelRun0_C
  dsimp only
  sl_unfold_words
  rw [View.canon_unit_zero zero2, View.readCov_unit_zero _ zero2]
  simp only [View.readAt_eq_ld, h3.read_unread, h4.read_unread, h5.read_unread, h6.read_unread, h10.read_unread,
    View.ld_unit_zero (S := S1024x1024) zero2, View.ld_unit_zero (S := S1x1024x1408) zero3,
    View.ld_unit_zero (S := S1x1408x1024) zero3]

/-- … and the squares, summed over every eighth row. -/
theorem last_6 (hc0 : ¬cond0_0 i) (hc1 : cond0_1 i) :
    out0_C_6 c i a3 h3 a4 h4 a5 h5 a6 h6 a7 h7 a8 h8 a9 h9 a10 h10 hc0 hc1 x0 x1 x2 x3 s = k0_pay6 (k0_pay2 s x0 x1) x2 x3 := by
  unfold out0_C_6
  rw [View.read_writes_eq_canon _ _ _ (cover0_C_6 c i a3 h3 a4 h4 a5 h5 a6 h6 a7 h7 a8 h8 a9 h9 a10 h10 hc0 hc1 x0 x1 x2 x3 s)]
  unfold kernelRun0_C
  dsimp only
  sl_unfold_words
  rw [View.canon_unit_zero zero2, View.readCov_unit_zero _ zero2]
  simp only [View.readAt_eq_ld, h3.read_unread, h4.read_unread, h5.read_unread, h6.read_unread, h10.read_unread,
    View.ld_unit_zero (S := S1024x1024) zero2, View.ld_unit_zero (S := S1x1024x1408) zero3,
    View.ld_unit_zero (S := S1x1408x1024) zero3]

end Body

variable (m : (ℓ : Loc nD τ sig) → Buf (Elt Ideal) ℓ) (ρ : Dev nD → PrngReg) (c : Dev nD)

/-- The arguments as extended reals. -/
abbrev inA : S4x4096x1408.Idx → EReal := m ((c : Thread nD τ).loc main_arg0)
abbrev inW : S4x1408x2048.Idx → EReal := m ((c : Thread nD τ).loc main_arg1)
abbrev inX : S4096x2048.Idx → EReal := m ((c : Thread nD τ).loc main_arg2)
abbrev inT : S4096x2048.Idx → EReal := m ((c : Thread nD τ).loc main_arg3)

theorem ltN (t : Fin cfg0.N) : t.val < 32 := lt_of_lt_of_eq t.isLt N_0

theorem index_0 : ∀ t : Fin grid0.N, win0_0.index t = ![t.val % 4, t.val / 8, 0] := by decide +kernel
theorem index_1 : ∀ t : Fin grid0.N, win0_1.index t = ![t.val % 4, 0, t.val / 4 % 2] := by decide +kernel
theorem index_2 : ∀ t : Fin grid0.N, win0_2.index t = ![t.val / 8, t.val / 4 % 2] := by decide +kernel
theorem index_3 : ∀ t : Fin grid0.N, win0_3.index t = ![t.val / 8, t.val / 4 % 2] := by decide +kernel
theorem index_4 : ∀ t : Fin grid0.N, win0_4.index t = ![t.val / 8, t.val / 4 % 2] := by decide +kernel
theorem index_5 : ∀ t : Fin grid0.N, win0_5.index t = ![t.val / 8, t.val / 4 % 2] := by decide +kernel
theorem index_6 : ∀ t : Fin grid0.N, win0_6.index t = ![t.val / 8, t.val / 4 % 2] := by decide +kernel

theorem entry_0 (y : S4x4096x1408.Idx) : (V m c main_v0 : S4x4096x1408.Idx → EReal) y = inA m c y := by
  have e : V m c main_v0 = (truncf (F := Ideal) .bf16 (m ((c : Thread nD τ).loc main_arg0)) bitsLt_bf16_f32 : S4x4096x1408.Idx → EReal) := by
    entry_read
    rfl
  rw [e]
  rfl

theorem entry_1 (y : S4x1408x2048.Idx) : (V m c main_v1 : S4x1408x2048.Idx → EReal) y = inW m c y := by
  have e : V m c main_v1 = (truncf (F := Ideal) .bf16 (m ((c : Thread nD τ).loc main_arg1)) bitsLt_bf16_f32 : S4x1408x2048.Idx → EReal) := by
    entry_read
    rfl
  rw [e]
  rfl

/-- Row `i` and column `j` of a point's blocks of tokens and of channels, and the shard it takes. -/
def row (t : Fin cfg0.N) (i : Fin 1024) : Fin 4096 := ⟨t.val / 8 * 1024 + i.val, by have := ltN t; omega⟩
def col (t : Fin cfg0.N) (j : Fin 1024) : Fin 2048 := ⟨t.val / 4 % 2 * 1024 + j.val, by omega⟩
def shard (n : ℕ) : Fin 4 := ⟨n % 4, by omega⟩

theorem block_0 (t : Fin cfg0.N) (z : Fin 1) (i : Fin 1024) (k : Fin 1408) :
    (iblk m c 0 t : S1x1024x1408.Idx → EReal) (ix3 z i k) = inA m c (ix3 (shard t.val) (row t i) k) := by
  blk_simp [iblk]
  refine Eq.trans ?_ (entry_0 m c _)
  congr 1
  funext d
  apply Fin.ext
  fin_cases d <;> simp [ix3, row, shard, index_0]

theorem block_1 (t : Fin cfg0.N) (z : Fin 1) (k : Fin 1408) (j : Fin 1024) :
    (iblk m c 1 t : S1x1408x1024.Idx → EReal) (ix3 z k j) = inW m c (ix3 (shard t.val) k (col t j)) := by
  blk_simp [iblk]
  refine Eq.trans ?_ (entry_1 m c _)
  congr 1
  funext d
  apply Fin.ext
  fin_cases d <;> simp [ix3, col, shard, index_1]

theorem block_2 (t : Fin cfg0.N) (i j : Fin 1024) :
    (iblk m c 2 t : S1024x1024.Idx → EReal) (ix2 i j) = inX m c (ix2 (row t i) (col t j)) := by
  blk_simp [iblk]
  refine Eq.trans ?_ (congrFun (V_main_arg2 m c) _)
  congr 1
  funext d
  apply Fin.ext
  fin_cases d <;> simp [ix2, row, col, index_2]

theorem block_3 (t : Fin cfg0.N) (i j : Fin 1024) :
    (iblk m c 3 t : S1024x1024.Idx → EReal) (ix2 i j) = inT m c (ix2 (row t i) (col t j)) := by
  blk_simp [iblk]
  refine Eq.trans ?_ (congrFun (V_main_arg3 m c) _)
  congr 1
  funext d
  apply Fin.ext
  fin_cases d <;> simp [ix2, row, col, index_3]

/-- One shard's product over what the accumulator held. -/
theorem step_at (s : Vec Ideal S1024x1024 .f32) (x0 : Vec Ideal S1x1024x1408 .bf16) (x1 : Vec Ideal S1x1408x1024 .bf16) (i : Fin 1024) (j : Fin 1024) :
    (k0_pay2 s x0 x1 : S1024x1024.Idx → EReal) (ix2 i j)
      = (s : S1024x1024.Idx → EReal) (ix2 i j)
        + ∑ k : Fin 1408, (x0 : S1x1024x1408.Idx → EReal) (ix3 0 i k) * (x1 : S1x1408x1024.Idx → EReal) (ix3 0 k j) := by
  pointwise [k0_pay2]

theorem zero_at (i : Fin 1024) (j : Fin 1024) : (k0_pay1 (F := Ideal) : S1024x1024.Idx → EReal) (ix2 i j) = 0 := by
  pointwise [k0_pay1]

/-- One over the width. -/
def scale : EReal := Scalar.ofBits (F := Ideal) .f32 0x3A000000#32

/-- The difference of a product with its residual from the target. -/
def off (p x t : EReal) : EReal := p + x - t

theorem diff_at (p x t : Vec Ideal S1024x1024 .f32) (i j : Fin 1024) : (k0_pay3 p x t : S1024x1024.Idx → EReal) (ix2 i j)
    = off ((p : S1024x1024.Idx → EReal) (ix2 i j)) ((x : S1024x1024.Idx → EReal) (ix2 i j)) ((t : S1024x1024.Idx → EReal) (ix2 i j)) := by
  unfold off
  pointwise [k0_pay3]

theorem grad_at (p x t : Vec Ideal S1024x1024 .f32) (i j : Fin 1024) : (k0_pay4 p x t : S1024x1024.Idx → EReal) (ix2 i j)
    = (k0_pay3 p x t : S1024x1024.Idx → EReal) (ix2 i j) * scale := by
  unfold scale
  pointwise [k0_pay4]

theorem copy_at (p x t : Vec Ideal S1024x1024 .f32) (i j : Fin 1024) : (k0_pay5 p x t : S1024x1024.Idx → EReal) (ix2 i j)
    = (k0_pay4 p x t : S1024x1024.Idx → EReal) (ix2 i j) := by
  pointwise [k0_pay5]

/-- Row `g` of those that row `r` of a block's squares sums. -/
def inner (r : Fin 8) (g : Fin 128) : Fin 1024 := ⟨g.val * 8 + r.val, by omega⟩

theorem square_at (p x t : Vec Ideal S1024x1024 .f32) (r : Fin 8) (j : Fin 1024) : (k0_pay6 p x t : S8x1024.Idx → EReal) (ix2 r j)
    = ∑ g : Fin 128, (k0_pay3 p x t : S1024x1024.Idx → EReal) (ix2 (inner r g) j) * (k0_pay3 p x t : S1024x1024.Idx → EReal) (ix2 (inner r g) j) := by
  pointwise [k0_pay6]
  rfl

/-- One shard's product of whole arrays, and the product summed over every shard. -/
def part (s : Fin 4) (i : Fin 4096) (j : Fin 2048) : EReal := ∑ k : Fin 1408, inA m c (ix3 s i k) * inW m c (ix3 s k j)
def whole (i : Fin 4096) (j : Fin 2048) : EReal := ∑ s : Fin 4, part m c s i j

/-- The difference from the target, and the three arrays that the call leaves. -/
def diff (i : Fin 4096) (j : Fin 2048) : EReal := off (whole m c i j) (inX m c (ix2 i j)) (inT m c (ix2 i j))
def grad (y : S4096x2048.Idx) : EReal := diff m c (y 0) (y 1) * scale
def squares (y : S32x2048.Idx) : EReal := ∑ g : Fin 128, diff m c (member (y 0) g) (y 1) * diff m c (member (y 0) g) (y 1)

theorem held_first (t : Fin cfg0.N) (h : t.val % 4 = 0) (i : Fin 1024) (j : Fin 1024) :
    ((outsAt0 m c t.val t.isLt).2.2.2 : S1024x1024.Idx → EReal) (ix2 i j) = 0 + part m c (shard t.val) (row t i) (col t j) := by
  rw [outsAt0_A m c t h (by omega)]
  dsimp only
  rw [first, step_at, zero_at]
  simp only [block_0, block_1]
  rfl

theorem held_next (t : Fin cfg0.N) (h0 : ¬t.val % 4 = 0) (h1 : ¬t.val % 4 = 3) (i : Fin 1024) (j : Fin 1024) :
    ((outsAt0 m c t.val t.isLt).2.2.2 : S1024x1024.Idx → EReal) (ix2 i j)
      = ((outsAt0 m c (t.val - 1) (lt_of_le_of_lt (Nat.sub_le _ _) t.isLt)).2.2.2 : S1024x1024.Idx → EReal) (ix2 i j)
        + part m c (shard t.val) (row t i) (col t j) := by
  rw [outsAt0_B m c t h0 h1]
  dsimp only
  rw [middle, step_at]
  simp only [block_0, block_1]
  rfl

/-- At the last of four points the accumulator with that point's product is the whole product. -/
theorem total (t : Fin cfg0.N) (h : t.val % 4 = 3) (i : Fin 1024) (j : Fin 1024) :
    (k0_pay2 (outsAt0 m c (t.val - 1) (lt_of_le_of_lt (Nat.sub_le _ _) t.isLt)).2.2.2 (iblk m c 0 t) (iblk m c 1 t) : S1024x1024.Idx → EReal) (ix2 i j)
      = whole m c (row t i) (col t j) := by
  have ht := ltN t
  have p1 : t.val - 1 < cfg0.N := lt_of_le_of_lt (Nat.sub_le _ _) t.isLt
  have p2 : t.val - 1 - 1 < cfg0.N := lt_of_le_of_lt (Nat.sub_le _ _) p1
  have p3 : t.val - 1 - 1 - 1 < cfg0.N := lt_of_le_of_lt (Nat.sub_le _ _) p2
  rw [step_at]
  have e1 := held_next m c ⟨t.val - 1, p1⟩ (by dsimp only; omega) (by dsimp only; omega) i j
  have e2 := held_next m c ⟨t.val - 1 - 1, p2⟩ (by dsimp only; omega) (by dsimp only; omega) i j
  have e3 := held_first m c ⟨t.val - 1 - 1 - 1, p3⟩ (by dsimp only; omega) i j
  dsimp only at e1 e2 e3
  rw [e1, e2, e3]
  simp only [block_0, block_1]
  have s0 : shard (t.val - 1 - 1 - 1) = 0 := Fin.ext (by simp only [shard]; omega)
  have s1 : shard (t.val - 1 - 1) = 1 := Fin.ext (by simp only [shard]; omega)
  have s2 : shard (t.val - 1) = 2 := Fin.ext (by simp only [shard]; omega)
  have s3 : shard t.val = 3 := Fin.ext (by simp only [shard]; omega)
  have r1 : row ⟨t.val - 1, p1⟩ i = row t i := Fin.ext (by simp only [row]; omega)
  have r2 : row ⟨t.val - 1 - 1, p2⟩ i = row t i := Fin.ext (by simp only [row]; omega)
  have r3 : row ⟨t.val - 1 - 1 - 1, p3⟩ i = row t i := Fin.ext (by simp only [row]; omega)
  have c1 : col ⟨t.val - 1, p1⟩ j = col t j := Fin.ext (by simp only [col]; omega)
  have c2 : col ⟨t.val - 1 - 1, p2⟩ j = col t j := Fin.ext (by simp only [col]; omega)
  have c3 : col ⟨t.val - 1 - 1 - 1, p3⟩ j = col t j := Fin.ext (by simp only [col]; omega)
  rw [s0, s1, s2, s3, r1, r2, r3, c1, c2, c3, zero_add]
  unfold whole
  rw [Fin.sum_univ_four]
  rfl

/-- The difference at the last of four points. -/
theorem total_diff (t : Fin cfg0.N) (h : t.val % 4 = 3) (i : Fin 1024) (j : Fin 1024) :
    (k0_pay3 (k0_pay2 (outsAt0 m c (t.val - 1) (lt_of_le_of_lt (Nat.sub_le _ _) t.isLt)).2.2.2 (iblk m c 0 t) (iblk m c 1 t)) (iblk m c 2 t) (iblk m c 3 t)
        : S1024x1024.Idx → EReal) (ix2 i j)
      = diff m c (row t i) (col t j) := by
  rw [diff_at, total m c t h, block_2, block_3]
  rfl

theorem written_4 (t : Fin cfg0.N) (h : t.val % 4 = 3) (i j : Fin 1024) :
    ((outsAt0 m c t.val t.isLt).1 : S1024x1024.Idx → EReal) (ix2 i j) = grad m c (ix2 (row t i) (col t j)) := by
  rw [outsAt0_C m c t (by omega) h]
  dsimp only
  rw [last_4, grad_at, total_diff m c t h]
  rfl

theorem written_5 (t : Fin cfg0.N) (h : t.val % 4 = 3) (i j : Fin 1024) :
    ((outsAt0 m c t.val t.isLt).2.1 : S1024x1024.Idx → EReal) (ix2 i j) = grad m c (ix2 (row t i) (col t j)) := by
  rw [outsAt0_C m c t (by omega) h]
  dsimp only
  rw [last_5, copy_at, grad_at, total_diff m c t h]
  rfl

/-- Row `r` of a point's squares. -/
def srow (t : Fin cfg0.N) (r : Fin 8) : Fin 32 := ⟨t.val / 8 * 8 + r.val, by have := ltN t; omega⟩

theorem written_6 (t : Fin cfg0.N) (h : t.val % 4 = 3) (r : Fin 8) (j : Fin 1024) :
    ((outsAt0 m c t.val t.isLt).2.2.1 : S8x1024.Idx → EReal) (ix2 r j) = squares m c (ix2 (srow t r) (col t j)) := by
  rw [outsAt0_C m c t (by omega) h]
  dsimp only
  rw [last_6, square_at]
  refine Finset.sum_congr rfl fun g _ => ?_
  rw [total_diff m c t h]
  have e : row t (inner r g) = member (srow t r) g := Fin.ext (by simp only [row, inner, member, srow]; omega)
  rw [e]
  rfl

theorem array_4 : (dats m 0 c).arrAt 4 cfg0.N = grad m c := by
  refine (dats m 0 c).arrAt_eq_of_covers 4 _ (by decide +kernel) fun t hf y => ?_
  have h1 : t.val % 4 = 3 := (flush0_4 t).mp hf
  blk_simp
  rw [after0_4]
  idx_vars y
  refine (written_4 m c t h1 _ _).trans ?_
  congr 1
  funext d
  apply Fin.ext
  fin_cases d <;> simp [ix2, row, col, index_4]

theorem array_5 : (dats m 0 c).arrAt 5 cfg0.N = grad m c := by
  refine (dats m 0 c).arrAt_eq_of_covers 5 _ (by decide +kernel) fun t hf y => ?_
  have h1 : t.val % 4 = 3 := (flush0_5 t).mp hf
  blk_simp
  rw [after0_5]
  idx_vars y
  refine (written_5 m c t h1 _ _).trans ?_
  congr 1
  funext d
  apply Fin.ext
  fin_cases d <;> simp [ix2, row, col, index_5]

theorem array_6 : (dats m 0 c).arrAt 6 cfg0.N = squares m c := by
  refine (dats m 0 c).arrAt_eq_of_covers 6 _ (by decide +kernel) fun t hf y => ?_
  have h1 : t.val % 4 = 3 := (flush0_6 t).mp hf
  blk_simp
  rw [after0_6]
  idx_vars y
  refine (written_6 m c t h1 _ _).trans ?_
  congr 1
  funext d
  apply Fin.ext
  fin_cases d <;> simp [ix2, srow, col, index_6]

/-- The loss from the squares. -/
abbrev lossOf (q : FVec Ideal S32x2048 .f32) : FVec Ideal S_ .f32 :=
  Host.divf (F := Ideal) (mulf (constant (F := Ideal) S_ .f32 0x3F000000#32)
    (Host.reduceAdd q (constant (F := Ideal) S_ .f32 0x00000000#32) reducesTo_S32x2048_S_d0_1 h_S_)) (constant (F := Ideal) S_ .f32 0x45000000#32)

theorem arr_inj : Function.Injective (Pipeline.arrRef spec0) := by decide

theorem tail_of (W : Valuation τ sig (Elt Ideal)) :
    StableHlo.after hostOps1 W (Proc.devRef .tc main_v5) = lossOf (W (Proc.devRef .tc main_v2_2)) := by
  after_results

theorem run : θ_run defs (onTc (τ := τ) (main (F := Ideal))) ⟨m, fun _ => 0, ρ⟩ fun r => ∀ c : Dev nD,
    r.2.mem ((c : Thread nD τ).loc main_v5) = lossOf (squares m c)
    ∧ r.2.mem ((c : Thread nD τ).loc main_v2_0) = grad m c
    ∧ r.2.mem ((c : Thread nD τ).loc main_v2_1) = grad m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c =>
    ⟨((h c).2 main_v5 (Pipeline.mem_restRefs_of main_v5 (by decide) (by decide))).trans
        ((tail_of _).trans (congrArg lossOf ((Pipeline.withArrays_arr spec0 arr_inj c (V0 m c) (fun w => (dats m 0 c).arrAt w cfg0.N) 6).trans (array_6 m c)))),
      ((h c).1 4).trans (array_4 m c), ((h c).1 5).trans (array_5 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.LossIdeal.Prod

end
-- ==== Proof.LossEq.lean ====
/- The output projection with the loss: the kernel's loss and its gradient are the reference's. -/
module

public import proofs.«01_k».proof.Defs
public import proofs.«01_k».proof.Proof.Loss
public import proofs.«01_k».proof.Proof.Gen.LossRIdeal.Run
public import Idealize.ShloMosaic.Lib.Quiescent

@[expose] public section

set_option maxRecDepth 16384

noncomputable section

namespace Cert.LossRIdeal.Prod

open Cert.LossRIdeal Cert.LossRIdeal.Gen Cert.LossRIdeal.Value Cert.LossIdeal.Prod Cert.LossMath
open Idealize.ShloMosaic Idealize.ShloMosaic.TcCoe Idealize.ShloMosaic.Tactic

variable (a : FVec Ideal S4x4096x1408 .f32) (w : FVec Ideal S4x1408x2048 .f32) (x t D : FVec Ideal S4096x2048 .f32)

/-- The reference's difference from the target, … -/
abbrev offTerm : FVec Ideal S4096x2048 .f32 :=
  subf (F := Ideal) (addf x (Host.dotGeneral dot_S4x4096x1408_S4x1408x2048_S4096x2048_20_10_1_2_n_n none a w)) t

/-- … its gradient of the loss and its loss, from that difference. -/
abbrev gradTerm : FVec Ideal S4096x2048 .f32 :=
  mulf (F := Ideal) (broadcastInDim S4096x2048 ![0] bcast_S4096_S4096x2048_0 (Host.divf (broadcastInDim S4096 ![] bcast_S_S4096
      (mulf (constant S_ .f32 0x3F000000#32) (constant S_ .f32 0x3F800000#32))) (broadcastInDim S4096 ![] bcast_S_S4096 (constant S_ .f32 0x45000000#32))))
    (mulf (broadcastInDim S4096x2048 ![] bcast_S_S4096x2048 (constant S_ .f32 0x40000000#32)) D)

abbrev lossTerm : FVec Ideal S_ .f32 :=
  mulf (F := Ideal) (constant S_ .f32 0x3F000000#32) (Host.reduceAdd (Host.divf (Host.reduceAdd (mulf D D) (constant S_ .f32 0x00000000#32)
    reducesTo_S4096x2048_S4096_d1 h_S_) (broadcastInDim S4096 ![] bcast_S_S4096 (constant S_ .f32 0x45000000#32))) (constant S_ .f32 0x00000000#32)
    reducesTo_S4096_S_d0 h_S_)

theorem off_at (i : Fin 4096) (j : Fin 2048) : (offTerm a w x t : S4096x2048.Idx → EReal) (ix2 i j)
    = off (∑ s : Fin 4, ∑ k : Fin 1408, (a : S4x4096x1408.Idx → EReal) (ix3 s i k) * (w : S4x1408x2048.Idx → EReal) (ix3 s k j))
      ((x : S4096x2048.Idx → EReal) (ix2 i j)) ((t : S4096x2048.Idx → EReal) (ix2 i j)) := by
  unfold off
  pointwise [offTerm]
  rw [Finset.sum_comm, add_comm (G := EReal)]

theorem grad_at (i : Fin 4096) (j : Fin 2048) : (gradTerm D : S4096x2048.Idx → EReal) (ix2 i j)
    = (D : S4096x2048.Idx → EReal) (ix2 i j) * scale := by
  unfold scale
  pointwise [gradTerm]
  exact half_twice _

/-- The difference over whole arrays, and its square. -/
abbrev offs (i : Fin 4096) (j : Fin 2048) : EReal :=
  off (∑ s : Fin 4, ∑ k : Fin 1408, (a : S4x4096x1408.Idx → EReal) (ix3 s i k) * (w : S4x1408x2048.Idx → EReal) (ix3 s k j))
    ((x : S4096x2048.Idx → EReal) (ix2 i j)) ((t : S4096x2048.Idx → EReal) (ix2 i j))

theorem grad_sum (i : Fin 4096) (j : Fin 2048) : (gradTerm (offTerm a w x t) : S4096x2048.Idx → EReal) (ix2 i j) = offs a w x t i j * scale :=
  (grad_at _ i j).trans (by rw [off_at])

theorem loss_at (y : S_.Idx) : (lossTerm D : S_.Idx → EReal) y
    = Ideal.ofBits FTy.f32 1056964608#32 * ∑ i : Fin 4096, Ideal.div (∑ j : Fin 2048,
      (D : S4096x2048.Idx → EReal) (ix2 i j) * (D : S4096x2048.Idx → EReal) (ix2 i j)) (Ideal.ofBits FTy.f32 1157627904#32) := by
  pointwise [lossTerm]

theorem loss_sum (y : S_.Idx) : (lossTerm (offTerm a w x t) : S_.Idx → EReal) y
    = Ideal.ofBits FTy.f32 1056964608#32 * ∑ i : Fin 4096, Ideal.div (∑ j : Fin 2048, offs a w x t i j * offs a w x t i j)
      (Ideal.ofBits FTy.f32 1157627904#32) :=
  (loss_at _ y).trans (by simp only [off_at])

/-- The kernel's last line. -/
theorem of_squares (y : S_.Idx) (q : FVec Ideal Cert.LossIdeal.S32x2048 .f32) : (lossOf q : S_.Idx → EReal) y
    = Ideal.div (Ideal.ofBits FTy.f32 1056964608#32 * ∑ r : Fin 32, ∑ j : Fin 2048, (q : Cert.LossIdeal.S32x2048.Idx → EReal) (ix2 r j))
      (Ideal.ofBits FTy.f32 1157627904#32) := by
  pointwise [lossOf]

end Cert.LossRIdeal.Prod

namespace Cert.Proof

open Idealize.ShloMosaic Idealize.ShloMosaic.TcCoe Idealize.ShloMosaic.Tactic Idealize.SL.Sem
open Cert.LossIdeal.Prod Cert.LossRIdeal.Prod Cert.LossMath

theorem frame_loss_reference : Cert.quiescent_LossRIdeal := fun m ρ _ =>
  (θ_run (Cert.LossRIdeal.defs (F := Ideal)) _ _).mono (fun _ h => ⟨fun c => (h c).2.2.2, sem_eq_zero_of_no_sems rfl _⟩)
    (Cert.LossRIdeal.Value.run m ρ)

variable (m : (ℓ : Loc Cert.LossIdeal.nD Cert.LossIdeal.τ Cert.LossIdeal.sig) → Buf (Elt Ideal) ℓ) (c : Dev Cert.LossIdeal.nD)

theorem same_diff (i : Fin 4096) (j : Fin 2048) : offs (inA m c) (inW m c) (inX m c) (inT m c) i j = diff m c i j := rfl

theorem grad_eq : (gradTerm (offTerm (inA m c) (inW m c) (inX m c) (inT m c)) : Cert.LossIdeal.S4096x2048.Idx → EReal) = grad m c := by
  funext y
  idx_vars y
  refine (grad_sum _ _ _ _ _ _).trans ?_
  rw [same_diff]
  rfl

theorem squares_at (r : Fin 32) (j : Fin 2048) : squares m c (ix2 r j) = ∑ g : Fin 128, diff m c (member r g) j * diff m c (member r g) j := rfl

theorem loss_eq : (lossTerm (offTerm (inA m c) (inW m c) (inX m c) (inT m c)) : Cert.LossIdeal.S_.Idx → EReal) = lossOf (squares m c) := by
  funext y
  refine (loss_sum _ _ _ _ y).trans (Eq.trans ?_ (of_squares y _).symm)
  simp only [same_diff, squares_at]
  exact (same_loss fun i j => diff m c i j * diff m c i j).symm

theorem equal_loss : Cert.algebraic_LossIdeal_LossRIdeal := fun m g m' g' _ hm =>
  ⟨fun c => lossOf (squares m c), fun c => grad m c, fun c => grad m c, run m g,
   (θ_run (Cert.LossRIdeal.defs (F := Ideal)) _ _).mono (fun r h c => ⟨
      (h c).1.trans (by
        rw [(hm c).1, (hm c).2.1, (hm c).2.2.1, (hm c).2.2.2]
        exact loss_eq m c),
      (h c).2.1.trans (by
        rw [(hm c).1, (hm c).2.1, (hm c).2.2.1, (hm c).2.2.2]
        exact grad_eq m c),
      (h c).2.2.1.trans (by
        rw [(hm c).1, (hm c).2.1, (hm c).2.2.1, (hm c).2.2.2]
        exact grad_eq m c),
      (h c).2.2.2⟩)
     (Cert.LossRIdeal.Value.run m' g')⟩

end Cert.Proof

end
-- ==== Proof.NormMath.lean ====
/- The derivative of the root-mean-square norm: the reciprocal root is finite and not negative, its cube is its quotient
   by the mean square, and so the two ways to write the derivative agree for all extended reals. -/
module

public import proofs.«01_k».proof.Proof.LossMath

@[expose] public section

noncomputable section

namespace Cert.NormMath

open Idealize.ShloMosaic Cert.LossMath

/-- The constants: the small number under the root and minus a half. -/
abbrev eps : EReal := Ideal.ofBits FTy.f32 897988541#32

theorem eps_pos : ∃ e : ℝ, 0 < e ∧ eps = (e : EReal) := by
  refine ⟨8796093 / 2 ^ 43, by norm_num, ?_⟩
  simp [eps, Ideal.ofBits, Ideal.ieee, -EReal.coe_mul]; norm_num

theorem minus_half : Ideal.ofBits FTy.f32 3204448256#32 = ((-(1 / 2) : ℝ) : EReal) := by
  simp [Ideal.ofBits, Ideal.ieee, -EReal.coe_mul]; norm_num

/-- A width: to divide by it is to multiply by a positive real number. -/
def Width (w : EReal) : Prop := ∃ b : ℝ, 0 < b ∧ ∀ q : EReal, Ideal.div q w = q * (b : EReal)

theorem width_2048 : Width (Ideal.ofBits FTy.f32 1157627904#32) := ⟨1 / 2048, by norm_num, div_width⟩

theorem width_1024 : Width (Ideal.ofBits FTy.f32 1149239296#32) := by
  have e : Ideal.ofBits FTy.f32 1149239296#32 = ((1024 : ℝ) : EReal) := by
    simp [Ideal.ofBits, Ideal.ieee, -EReal.coe_mul]; norm_num
  refine ⟨1 / 1024, by norm_num, fun q => ?_⟩
  rw [e, Ideal.div, if_neg (by norm_num), ← EReal.coe_inv, one_div]

variable {w : EReal}

/-- The mean square of a row of width `w` with the small number, from the sum of the squares. -/
def ms (w q : EReal) : EReal := Ideal.div q w + eps

theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- The mean square is a positive real number or infinite. -/
theorem ms_cases (hw : Width w) {q : EReal} (h : 0 ≤ q) : (∃ v : ℝ, 0 < v ∧ ms w q = (v : EReal)) ∨ ms w q = ⊤ := by
  obtain ⟨e, he, ee⟩ := eps_pos
  obtain ⟨b, hb, eb⟩ := hw
  unfold ms
  rw [eb, ee]
  induction q using EReal.rec with
  | bot => exact absurd h (by simp)
  | top =>
    right
    rw [EReal.top_mul_coe_of_pos hb]
    exact EReal.top_add_coe e
  | coe a =>
    left
    have ha : 0 ≤ a := by exact_mod_cast h
    exact ⟨a * b + e, by positivity, by rw [← EReal.coe_mul, ← EReal.coe_add]⟩

theorem inv_nonneg (hw : Width w) {q : EReal} (h : 0 ≤ q) : 0 ≤ Ideal.rsqrt (ms w q) := by
  rcases ms_cases hw h with ⟨v, hv, e⟩ | e
  · rw [e, Ideal.rsqrt_coe, if_neg hv.not_gt, if_neg hv.ne']
    exact_mod_cast _root_.inv_nonneg.mpr (Real.sqrt_nonneg v)
  · rw [e]; simp

theorem inv_finite (hw : Width w) {q : EReal} (h : 0 ≤ q) : Ideal.rsqrt (ms w q) ≠ ⊤ := by
  rcases ms_cases hw h with ⟨v, hv, e⟩ | e
  · rw [e, Ideal.rsqrt_coe, if_neg hv.not_gt, if_neg hv.ne']
    exact EReal.coe_ne_top _
  · rw [e]; simp

theorem cube (hw : Width w) {q : EReal} (h : 0 ≤ q) :
    Ideal.rsqrt (ms w q) * Ideal.rsqrt (ms w q) * Ideal.rsqrt (ms w q) = Ideal.div (Ideal.rsqrt (ms w q)) (ms w q) := by
  rcases ms_cases hw h with ⟨v, hv, e⟩ | e
  · rw [e, Ideal.rsqrt_coe, if_neg hv.not_gt, if_neg hv.ne', Ideal.div_coe hv.ne', ← EReal.coe_mul, ← EReal.coe_mul, ← EReal.coe_mul]
    congr 1
    have hs : Real.sqrt v * Real.sqrt v = v := Real.mul_self_sqrt hv.le
    have hp : 0 < Real.sqrt v := Real.sqrt_pos.mpr hv
    rw [← mul_inv, hs]
    ring
  · rw [e]; simp [Ideal.div]

/-- Twice minus a half of a number is its opposite. -/
theorem halves (p : EReal) : ((-(1 / 2) : ℝ) : EReal) * p + ((-(1 / 2) : ℝ) : EReal) * p = -p := by
  induction p using EReal.rec with
  | bot => rw [EReal.coe_mul_bot_of_neg (by norm_num)]; rfl
  | top => rw [EReal.coe_mul_top_of_neg (by norm_num)]; rfl
  | coe a => rw [← EReal.coe_mul, ← EReal.coe_add, ← EReal.coe_neg]; congr 1; ring

/-- The gradient with respect to one entry `x`, to which `d` came back through the gain: the kernel's form and the reference's. -/
def kernelForm (w res x gd s r : EReal) : EReal := res + r * (gd - x * r * Ideal.div s w)
def back (w s r v : EReal) : EReal := Ideal.div (s * (Ideal.ofBits FTy.f32 3204448256#32 * Ideal.div r v)) w
def referenceForm (w res x gd s r v : EReal) : EReal := res + gd * r + x * back w s r v + back w s r v * x

theorem same_form (hw : Width w) (res x gd s r v : EReal) (h0 : 0 ≤ r) (ht : r ≠ ⊤) (h3 : r * r * r = Ideal.div r v) :
    kernelForm w res x gd (s * r) r = referenceForm w res x gd s r v := by
  obtain ⟨b, -, eb⟩ := hw
  unfold kernelForm referenceForm back
  rw [eb, eb, minus_half, ← h3, sub_eq_add_neg, EReal.left_distrib_of_nonneg_of_ne_top h0 ht, mul_neg,
    add_assoc, add_assoc, mul_comm r gd]
  congr 2
  rw [mul_comm _ x, ← halves]
  have e : r * (x * r * (s * r * (b : EReal))) = x * (s * (r * r * r) * (b : EReal)) := by ac_rfl
  have e2 : x * (s * (((-(1 / 2) : ℝ) : EReal) * (r * r * r)) * (b : EReal))
      = ((-(1 / 2) : ℝ) : EReal) * (x * (s * (r * r * r) * (b : EReal))) := by ac_rfl
  rw [e, e2]

/-- Over a row: `r` is the reciprocal root of the row's mean square. -/
theorem same_row {n : ℕ} (hw : Width w) (res : EReal) (X GD : Fin n → EReal) (j : Fin n) :
    kernelForm w res (X j) (GD j) (∑ k, X k * Ideal.rsqrt (ms w (∑ l, X l * X l)) * GD k) (Ideal.rsqrt (ms w (∑ l, X l * X l)))
      = referenceForm w res (X j) (GD j) (∑ k, X k * GD k) (Ideal.rsqrt (ms w (∑ l, X l * X l))) (ms w (∑ l, X l * X l)) := by
  have hq : 0 ≤ ∑ l, X l * X l := Finset.sum_nonneg fun l _ => square_nonneg (X l)
  rw [← same_form hw _ _ _ _ _ _ (inv_nonneg hw hq) (inv_finite hw hq) (cube hw hq), sum_mul _ _ (inv_nonneg hw hq) (inv_finite hw hq)]
  congr 1
  exact Finset.sum_congr rfl fun k _ => mul_right_comm _ _ _

/-- Token `g` of those that row `r` of the gain's partial sums takes from block `s`. -/
def member (s : ℕ) (r : Fin 8) (g : Fin 64) : Fin 4096 := ⟨(s * 512 + (g.val * 8 + r.val)) % 4096, by omega⟩

/-- The blocks' partial sums add to the sum over all tokens. -/
theorem sum_blocks (f : Fin 4096 → EReal) : ∑ r : Fin 8, ∑ s ∈ Finset.range 8, ∑ g : Fin 64, f (member s r g) = ∑ i, f i := by
  have e : ∀ r : Fin 8, ∑ s ∈ Finset.range 8, ∑ g : Fin 64, f (member s r g) = ∑ s : Fin 8, ∑ g : Fin 64, f (member s.val r g) :=
    fun r => Finset.sum_range (n := 8) fun s => ∑ g : Fin 64, f (member s r g)
  simp only [e]
  simp only [← Fintype.sum_prod_type']
  refine Finset.sum_nbij' (fun p => member p.2.1.val p.1 p.2.2)
    (fun i => (⟨i.val % 8, by omega⟩, ⟨i.val / 512, by omega⟩, ⟨i.val % 512 / 8, by omega⟩))
    (fun _ _ => Finset.mem_univ _) (fun _ _ => Finset.mem_univ _) ?_ ?_ (fun _ _ => rfl)
  · rintro ⟨r, s, g⟩ -
    refine Prod.ext (Fin.ext ?_) (Prod.ext (Fin.ext ?_) (Fin.ext ?_))
    · simp only [member]; omega
    · simp only [member]; omega
    · simp only [member]; omega
  · intro i _
    apply Fin.ext
    simp only [member]
    omega

end Cert.NormMath

end
-- ==== Proof.Norm.lean ====
/- The gradient of the root-mean-square norm added to the gradient that goes past it, block of tokens by block, and the
   gradient of the norm's gain, summed over the blocks in turn. -/
module

public import proofs.«01_k».proof.Proof.Gen.NormBwdIdeal.Frame
public import proofs.«01_k».proof.Proof.Sums
public import proofs.«01_k».proof.Proof.NormMath
public import Idealize.ShloMosaic.Lib.WholeRead
public import Idealize.ShloMosaic.Lib.Pipeline.ValueKit

@[expose] public section

set_option maxRecDepth 16384

noncomputable section

namespace Cert.NormBwdIdeal.Prod

open Cert.NormBwdIdeal Cert.NormBwdIdeal.Gen Cert.Prod Cert.NormMath
open Idealize.ShloMosaic Idealize.ShloMosaic.TcCoe Idealize.ShloMosaic.Tactic Idealize.SL.Sem

section Body

variable {F : FTy → Type} [FloatOps F]
variable (c : Dev nD) (i : grid0.Coords) (a1 : Memref sig .tc .vmem S512x2048 .f32) (h1 : a1.IsWhole)
  (a2 : Memref sig .tc .vmem S1x2048 .f32) (h2 : a2.IsWhole) (a3 : Memref sig .tc .vmem S512x2048 .f32) (h3 : a3.IsWhole)
  (a4 : Memref sig .tc .vmem S512x2048 .f32) (h4 : a4.IsWhole) (a5 : Memref sig .tc .vmem S512x2048 .f32) (h5 : a5.IsWhole)
  (a6 : Memref sig .tc .vmem S8x2048 .f32) (h6 : a6.IsWhole)
  (x0 : Vec F S512x2048 .f32) (x1 : Vec F S1x2048 .f32) (x2 x3 : Vec F S512x2048 .f32) (s : Vec F S8x2048 .f32)

/-- The first block writes its gradient … -/
theorem first_4 (hc0 : cond0_0 i) (hc1 : ¬cond0_1 i) :
    out0_A_4 c i a1 h1 a2 h2 a3 h3 a4 h4 a5 h5 a6 h6 hc0 hc1 x0 x1 x2 x3 = k0_pay4 x0 x1 x2 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_unit_zero zero2]
  simp only [View.readAt_eq_ld, h1.read_unread, h2.read_unread, h3.read_unread, h4.read_unread,
    View.ld_unit_zero (S := S512x2048) zero2, View.ld_unit_zero (S := S1x2048) zero2]

/-- … and its partial sums of the gain's gradient. -/
theorem first_5 (hc0 : cond0_0 i) (hc1 : ¬cond0_1 i) :
    out0_A_5 c i a1 h1 a2 h2 a3 h3 a4 h4 a5 h5 a6 h6 hc0 hc1 x0 x1 x2 x3 = k0_pay5 x0 x2 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  sl_unfold_words
  rw [View.canon_unit_zero zero2]
  simp only [View.readAt_eq_ld, h1.read_unread, h3.read_unread, View.ld_unit_zero (S := S512x2048) zero2]

/-- A later block writes its gradient … -/
theorem next_4 (hc0 : ¬cond0_0 i) (hc1 : cond0_1 i) :
    out0_B_4 c i a1 h1 a2 h2 a3 h3 a4 h4 a5 h5 a6 h6 hc0 hc1 x0 x1 x2 x3 s = k0_pay4 x0 x1 x2 x3 := by
  unfold out0_B_4
  rw [View.read_writes_eq_canon _ _ _ (cover0_B_4 c i a1 h1 a2 h2 a3 h3 a4 h4 a5 h5 a6 h6 hc0 hc1 x0 x1 x2 x3 s)]
  unfold kernelRun0_B
  dsimp only
  sl_unfold_words
  rw [View.canon_unit_zero zero2]
  simp only [View.readAt_eq_ld, h1.read_unread, h2.read_unread, h3.read_unread, h4.read_unread,
    View.ld_unit_zero (S := S512x2048) zero2, View.ld_unit_zero (S := S1x2048) zero2]

/-- … and adds its partial sums to those before. -/
theorem next_5 (hc0 : ¬cond0_0 i) (hc1 : cond0_1 i) :
    out0_B_5 c i a1 h1 a2 h2 a3 h3 a4 h4 a5 h5 a6 h6 hc0 hc1 x0 x1 x2 x3 s = k0_pay1 (k0_pay5 x0 x2) s := by
  unfold out0_B_5
  rw [View.read_writes_eq_canon _ _ _ (cover0_B_5 c i a1 h1 a2 h2 a3 h3 a4 h4 a5 h5 a6 h6 hc0 hc1 x0 x1 x2 x3 s)]
  unfold kernelRun0_B
  dsimp only
  sl_unfold_words
  rw [View.canon_unit_zero zero2]
  simp only [View.readAt_eq_ld, h1.read_unread, h3.read_unread, h6.read_unread, View.ld_unit_zero (S := S512x2048) zero2,
    View.ld_unit_zero (S := S8x2048) zero2]

end Body

variable (m : (ℓ : Loc nD τ sig) → Buf (Elt Ideal) ℓ) (ρ : Dev nD → PrngReg) (c : Dev nD)

/-- The arguments as extended reals. -/
abbrev inX : S4096x2048.Idx → EReal := m ((c : Thread nD τ).loc main_arg0)
abbrev inG : S2048.Idx → EReal := m ((c : Thread nD τ).loc main_arg1)
abbrev inD : S4096x2048.Idx → EReal := m ((c : Thread nD τ).loc main_arg2)
abbrev inR : S4096x2048.Idx → EReal := m ((c : Thread nD τ).loc main_arg3)

theorem ltN (t : Fin cfg0.N) : t.val < 8 := lt_of_lt_of_eq t.isLt N_0

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![t.val, 0] := by decide +kernel
theorem index_5 : ∀ t : Fin grid0.N, win0_5.index t = ![0, 0] := by decide +kernel

theorem entry_1 (z : Fin 1) (j : Fin 2048) : (V m c main_v0 : S1x2048.Idx → EReal) (ix2 z j) = inG m c (ix1 j) := by
  have e : V m c main_v0 = (shapeCast S1x2048 (m ((c : Thread nD τ).loc main_arg1)) shapeCasts_S2048_S1x2048 : S1x2048.Idx → EReal) := by
    entry_read
    rfl
  rw [e]
  pointwise

/-- Row `i` of a point's block of tokens. -/
def row (n : ℕ) (i : Fin 512) : Fin 4096 := ⟨(n * 512 + i.val) % 4096, by omega⟩

theorem block_0 (t : Fin cfg0.N) (i : Fin 512) (j : Fin 2048) :
    (iblk m c 0 t : S512x2048.Idx → EReal) (ix2 i j) = inX m c (ix2 (row t.val i) j) := by
  have := ltN t
  blk_simp [iblk]
  refine Eq.trans ?_ (congrFun (V_main_arg0 m c) _)
  congr 1
  funext d
  apply Fin.ext
  fin_cases d <;> simp [ix2, row, index_0]; omega

theorem block_1 (t : Fin cfg0.N) (z : Fin 1) (j : Fin 2048) :
    (iblk m c 1 t : S1x2048.Idx → EReal) (ix2 z j) = inG m c (ix1 j) := by
  blk_simp [iblk]
  refine Eq.trans ?_ (entry_1 m c z j)
  congr 1
  funext d
  apply Fin.ext
  fin_cases d <;> simp [ix2, index_1]

theorem block_2 (t : Fin cfg0.N) (i : Fin 512) (j : Fin 2048) :
    (iblk m c 2 t : S512x2048.Idx → EReal) (ix2 i j) = inD m c (ix2 (row t.val i) j) := by
  have := ltN t
  blk_simp [iblk]
  refine Eq.trans ?_ (congrFun (V_main_arg2 m c) _)
  congr 1
  funext d
  apply Fin.ext
  fin_cases d <;> simp [ix2, row, index_2]; omega

theorem block_3 (t : Fin cfg0.N) (i : Fin 512) (j : Fin 2048) :
    (iblk m c 3 t : S512x2048.Idx → EReal) (ix2 i j) = inR m c (ix2 (row t.val i) j) := by
  have := ltN t
  blk_simp [iblk]
  refine Eq.trans ?_ (congrFun (V_main_arg3 m c) _)
  congr 1
  funext d
  apply Fin.ext
  fin_cases d <;> simp [ix2, row, index_3]; omega

/-- The width of a row. -/
def width : EReal := Ideal.ofBits FTy.f32 1157627904#32

section Values

variable (x d e : Vec Ideal S512x2048 .f32) (g : Vec Ideal S1x2048 .f32) (s v : Vec Ideal S8x2048 .f32)

/-- The reciprocal root of a row's mean square, … -/
theorem inv_at (i : Fin 512) (z : Fin 1) : (k0_pay2 x : S512x1.Idx → EReal) (ix2 i z)
    = Ideal.rsqrt (ms width (∑ l : Fin 2048, (x : S512x2048.Idx → EReal) (ix2 i l) * (x : S512x2048.Idx → EReal) (ix2 i l))) := by
  unfold ms width
  pointwise [k0_pay2]

/-- … the normed entry, … -/
theorem normed_at (i : Fin 512) (j : Fin 2048) : (k0_pay3 x : S512x2048.Idx → EReal) (ix2 i j)
    = (x : S512x2048.Idx → EReal) (ix2 i j)
      * Ideal.rsqrt (ms width (∑ l : Fin 2048, (x : S512x2048.Idx → EReal) (ix2 i l) * (x : S512x2048.Idx → EReal) (ix2 i l))) := by
  rw [← inv_at x i 0]
  pointwise [k0_pay3]

/-- … the gradient, … -/
theorem grad_at (i : Fin 512) (j : Fin 2048) : (k0_pay4 x g d e : S512x2048.Idx → EReal) (ix2 i j)
    = kernelForm width ((e : S512x2048.Idx → EReal) (ix2 i j)) ((x : S512x2048.Idx → EReal) (ix2 i j))
      ((g : S1x2048.Idx → EReal) (ix2 0 j) * (d : S512x2048.Idx → EReal) (ix2 i j))
      (∑ k : Fin 2048, (k0_pay3 x : S512x2048.Idx → EReal) (ix2 i k) * ((g : S1x2048.Idx → EReal) (ix2 0 k) * (d : S512x2048.Idx → EReal) (ix2 i k)))
      (Ideal.rsqrt (ms width (∑ l : Fin 2048, (x : S512x2048.Idx → EReal) (ix2 i l) * (x : S512x2048.Idx → EReal) (ix2 i l)))) := by
  unfold kernelForm
  rw [← normed_at x i j, ← inv_at x i 0]
  unfold width
  pointwise [k0_pay4]

/-- Row `g` of those that row `r` of a block's partial sums takes. -/
def inner (r : Fin 8) (g : Fin 64) : Fin 512 := ⟨g.val * 8 + r.val, by omega⟩

/-- … and the partial sums. -/
theorem gain_at (r : Fin 8) (j : Fin 2048) : (k0_pay5 x d : S8x2048.Idx → EReal) (ix2 r j)
    = ∑ g : Fin 64, (d : S512x2048.Idx → EReal) (ix2 (inner r g) j) * (k0_pay3 x : S512x2048.Idx → EReal) (ix2 (inner r g) j) := by
  pointwise [k0_pay5]
  rfl

theorem add_at (r : Fin 8) (j : Fin 2048) : (k0_pay1 v s : S8x2048.Idx → EReal) (ix2 r j)
    = (s : S8x2048.Idx → EReal) (ix2 r j) + (v : S8x2048.Idx → EReal) (ix2 r j) := by
  pointwise [k0_pay1]

end Values

/-- The reciprocal root of a token's mean square, and what the call leaves: the gradient, and the partial sums of the gain's. -/
def inv (i : Fin 4096) : EReal := Ideal.rsqrt (ms width (∑ l : Fin 2048, inX m c (ix2 i l) * inX m c (ix2 i l)))
def grad (y : S4096x2048.Idx) : EReal :=
  kernelForm width (inR m c (ix2 (y 0) (y 1))) (inX m c (ix2 (y 0) (y 1))) (inG m c (ix1 (y 1)) * inD m c (ix2 (y 0) (y 1)))
    (∑ k : Fin 2048, inX m c (ix2 (y 0) k) * inv m c (y 0) * (inG m c (ix1 k) * inD m c (ix2 (y 0) k))) (inv m c (y 0))
def term (i : Fin 4096) (j : Fin 2048) : EReal := inD m c (ix2 i j) * (inX m c (ix2 i j) * inv m c i)
def tile (n : ℕ) (r : Fin 8) (j : Fin 2048) : EReal := ∑ g : Fin 64, term m c (member n r g) j
def gains (y : S8x2048.Idx) : EReal := ∑ n ∈ Finset.range 8, tile m c n (y 0) (y 1)

theorem row_inner (n : ℕ) (r : Fin 8) (g : Fin 64) : row n (inner r g) = member n r g := rfl

theorem block_grad (t : Fin cfg0.N) (i : Fin 512) (j : Fin 2048) :
    (k0_pay4 (iblk m c 0 t) (iblk m c 1 t) (iblk m c 2 t) (iblk m c 3 t) : S512x2048.Idx → EReal) (ix2 i j)
      = grad m c (ix2 (row t.val i) j) := by
  rw [grad_at]
  simp only [normed_at, block_0, block_1, block_2, block_3]
  rfl

theorem block_gain (t : Fin cfg0.N) (r : Fin 8) (j : Fin 2048) :
    (k0_pay5 (iblk m c 0 t) (iblk m c 2 t) : S8x2048.Idx → EReal) (ix2 r j) = tile m c t.val r j := by
  rw [gain_at]
  simp only [normed_at, block_0, block_2, row_inner]
  rfl

theorem written_4 (t : Fin cfg0.N) (i : Fin 512) (j : Fin 2048) :
    ((outsAt0 m c t.val t.isLt).1 : S512x2048.Idx → EReal) (ix2 i j) = grad m c (ix2 (row t.val i) j) := by
  have ht := ltN t
  by_cases h : t.val = 0
  · rw [outsAt0_A m c t (by omega) (by omega)]
    dsimp only
    rw [first_4, block_grad]
  · rw [outsAt0_B m c t (by omega) (by omega)]
    dsimp only
    rw [next_4, block_grad]

/-- After a point the second array holds the sums over the blocks so far. -/
theorem held (r : Fin 8) (j : Fin 2048) : ∀ (n : ℕ) (hn : n < cfg0.N),
    ((outsAt0 m c n hn).2 : S8x2048.Idx → EReal) (ix2 r j) = ∑ k ∈ Finset.range (n + 1), tile m c k r j
  | 0, hn => by
    have e := outsAt0_A m c ⟨0, hn⟩ rfl (by simp)
    dsimp only at e
    rw [e]
    dsimp only
    rw [first_5, block_gain]
    simp
  | n + 1, hn => by
    have ht := ltN ⟨n + 1, hn⟩
    have e := outsAt0_B m c ⟨n + 1, hn⟩ (by dsimp only at ht ⊢; omega) (by simp)
    dsimp only at e
    rw [e]
    dsimp only
    rw [next_5, add_at, block_gain, Finset.sum_range_succ]
    exact congrArg (· + _) (held r j n (Nat.lt_of_succ_lt hn))

theorem array_4 : (dats m 0 c).arrAt 4 cfg0.N = grad m c := by
  refine (dats m 0 c).arrAt_eq_of_covers 4 _ (by decide +kernel) fun t hf y => ?_
  have ht := ltN t
  blk_simp
  rw [after0_4]
  idx_vars y
  refine (written_4 m c t _ _).trans ?_
  congr 1
  funext d
  apply Fin.ext
  fin_cases d <;> simp [ix2, row, index_4]; omega

theorem array_5 : (dats m 0 c).arrAt 5 cfg0.N = gains m c := by
  refine (dats m 0 c).arrAt_eq_of_covers 5 _ (by decide +kernel) fun t hf y => ?_
  have h1 : t.val % 8 = 7 := (flush0_5 t).mp hf
  have ht := ltN t
  have e : t.val + 1 = 8 := by omega
  blk_simp
  rw [after0_5]
  idx_vars y
  refine (held m c _ _ t.val t.isLt).trans ?_
  rw [e]
  refine Eq.trans (b := gains m c (ix2 _ _)) rfl ?_
  congr 1
  funext d
  apply Fin.ext
  fin_cases d <;> simp [ix2, index_5]

/-- The gain's gradient from the partial sums. -/
abbrev gainOf (q : FVec Ideal S8x2048 .f32) : FVec Ideal S2048 .f32 :=
  Host.reduceAdd q (constant (F := Ideal) S_ .f32 0x00000000#32) reducesTo_S8x2048_S2048_d0 h_S_

theorem arr_inj : Function.Injective (Pipeline.arrRef spec0) := by decide

theorem tail_of (W : Valuation τ sig (Elt Ideal)) :
    StableHlo.after hostOps1 W (Proc.devRef .tc main_v2) = gainOf (W (Proc.devRef .tc main_v1_1)) := by
  after_results

theorem run : θ_run defs (onTc (τ := τ) (main (F := Ideal))) ⟨m, fun _ => 0, ρ⟩ fun r => ∀ c : Dev nD,
    r.2.mem ((c : Thread nD τ).loc main_v1_0) = grad m c
    ∧ r.2.mem ((c : Thread nD τ).loc main_v2) = gainOf (gains m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c =>
    ⟨((h c).1 4).trans (array_4 m c),
      ((h c).2 main_v2 (Pipeline.mem_restRefs_of main_v2 (by decide) (by decide))).trans
        ((tail_of _).trans (congrArg gainOf ((Pipeline.withArrays_arr spec0 arr_inj c (V0 m c) (fun w => (dats m 0 c).arrAt w cfg0.N) 5).trans (array_5 m c)))),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.NormBwdIdeal.Prod

end
-- ==== Proof.NormBwdEq.lean ====
/- The gradient of the root-mean-square norm, and of its gain: the kernel's are the reference's, of any arguments. -/
module

public import proofs.«01_k».proof.Defs
public import proofs.«01_k».proof.Proof.Norm
public import proofs.«01_k».proof.Proof.Gen.NormBwdRIdeal.Run
public import Idealize.ShloMosaic.Lib.Quiescent

@[expose] public section

set_option maxRecDepth 16384

noncomputable section

namespace Cert.NormBwdRIdeal.Prod

open Cert.NormBwdRIdeal Cert.NormBwdRIdeal.Gen Cert.NormBwdRIdeal.Value Cert.NormBwdIdeal.Prod Cert.NormMath
open Idealize.ShloMosaic Idealize.ShloMosaic.TcCoe Idealize.ShloMosaic.Tactic

variable (x d e G B : FVec Ideal S4096x2048 .f32) (g : FVec Ideal S2048 .f32) (q : FVec Ideal S4096x1 .f32)

/-- The reference's mean squares, … -/
abbrev meansTerm : FVec Ideal S4096x1 .f32 :=
  addf (F := Ideal) (Host.divf (broadcastInDim S4096x1 ![0] bcast_S4096_S4096x1_0 (Host.reduceAdd (mulf x x) (constant S_ .f32 0x00000000#32)
    reducesTo_S4096x2048_S4096_d1 h_S_)) (broadcastInDim S4096x1 ![] bcast_S_S4096x1 (constant S_ .f32 0x45000000#32)))
    (broadcastInDim S4096x1 ![] bcast_S_S4096x1 (constant S_ .f32 0x358637BD#32))

/-- … the gradient of what the gain multiplies, … -/
abbrev gainedTerm : FVec Ideal S4096x2048 .f32 :=
  mulf (F := Ideal) d (broadcastInDim S4096x2048 ![0, 1] bcast_S1x2048_S4096x2048_0_1 (broadcastInDim S1x2048 ![1] bcast_S2048_S1x2048_1 g))

/-- … what comes back through the mean square, … -/
abbrev backTerm : FVec Ideal S4096x2048 .f32 :=
  broadcastInDim S4096x2048 ![0] bcast_S4096_S4096x2048_0 (Host.reduceAdd (F := Ideal) (Host.divf (mulf (shapeCast _ (Host.reduceAdd (mulf x G)
    (constant S_ .f32 0x00000000#32) reducesTo_S4096x2048_S4096_d1 h_S_) shapeCasts_S4096_S4096x1)
    (mulf (broadcastInDim S4096x1 ![] bcast_S_S4096x1 (constant S_ .f32 0xBF000000#32)) (Host.divf (Host.rsqrt q) q)))
    (broadcastInDim S4096x1 ![] bcast_S_S4096x1 (constant S_ .f32 0x45000000#32))) (constant S_ .f32 0x00000000#32) reducesTo_S4096x1_S4096_d1 h_S_)

/-- … the gradient of the argument … -/
abbrev gradTerm : FVec Ideal S4096x2048 .f32 :=
  addf (F := Ideal) (addf (addf e (mulf G (broadcastInDim S4096x2048 ![0, 1] bcast_S4096x1_S4096x2048_0_1 (Host.rsqrt q)))) (mulf x B)) (mulf B x)

/-- … and of the gain. -/
abbrev gainTerm : FVec Ideal S2048 .f32 :=
  Host.reduceAdd (F := Ideal) (shapeCast _ (Host.reduceAdd (mulf (mulf x (broadcastInDim S4096x2048 ![0, 1] bcast_S4096x1_S4096x2048_0_1
    (Host.rsqrt q))) d) (constant S_ .f32 0x00000000#32) reducesTo_S4096x2048_S2048_d0 h_S_) shapeCasts_S2048_S1x2048)
    (constant S_ .f32 0x00000000#32) reducesTo_S1x2048_S2048_d0 h_S_

theorem means_at (i : Fin 4096) (z : Fin 1) : (meansTerm x : S4096x1.Idx → EReal) (ix2 i z)
    = ms width (∑ l : Fin 2048, (x : S4096x2048.Idx → EReal) (ix2 i l) * (x : S4096x2048.Idx → EReal) (ix2 i l)) := by
  unfold ms width
  pointwise [meansTerm]

theorem gained_at (i : Fin 4096) (j : Fin 2048) : (gainedTerm d g : S4096x2048.Idx → EReal) (ix2 i j)
    = (d : S4096x2048.Idx → EReal) (ix2 i j) * (g : S2048.Idx → EReal) (ix1 j) := by
  pointwise [gainedTerm]

theorem back_at (i : Fin 4096) (j : Fin 2048) : (backTerm x G q : S4096x2048.Idx → EReal) (ix2 i j)
    = back width (∑ k : Fin 2048, (x : S4096x2048.Idx → EReal) (ix2 i k) * (G : S4096x2048.Idx → EReal) (ix2 i k))
      (Ideal.rsqrt ((q : S4096x1.Idx → EReal) (ix2 i 0))) ((q : S4096x1.Idx → EReal) (ix2 i 0)) := by
  unfold back width
  pointwise [backTerm]
  exact Fin.sum_univ_one _

theorem grad_at (i : Fin 4096) (j : Fin 2048) : (gradTerm x e G B q : S4096x2048.Idx → EReal) (ix2 i j)
    = (e : S4096x2048.Idx → EReal) (ix2 i j)
      + (G : S4096x2048.Idx → EReal) (ix2 i j) * Ideal.rsqrt ((q : S4096x1.Idx → EReal) (ix2 i 0))
      + (x : S4096x2048.Idx → EReal) (ix2 i j) * (B : S4096x2048.Idx → EReal) (ix2 i j)
      + (B : S4096x2048.Idx → EReal) (ix2 i j) * (x : S4096x2048.Idx → EReal) (ix2 i j) := by
  pointwise [gradTerm]

theorem gain_sum (j : Fin 2048) : (gainTerm x d q : S2048.Idx → EReal) (ix1 j)
    = ∑ i : Fin 4096, (x : S4096x2048.Idx → EReal) (ix2 i j) * Ideal.rsqrt ((q : S4096x1.Idx → EReal) (ix2 i 0))
      * (d : S4096x2048.Idx → EReal) (ix2 i j) := by
  pointwise [gainTerm]
  exact Fin.sum_univ_one _

theorem grad_form (i : Fin 4096) (j : Fin 2048) :
    (gradTerm x e (gainedTerm d g) (backTerm x (gainedTerm d g) (meansTerm x)) (meansTerm x) : S4096x2048.Idx → EReal) (ix2 i j)
      = referenceForm width ((e : S4096x2048.Idx → EReal) (ix2 i j)) ((x : S4096x2048.Idx → EReal) (ix2 i j))
        ((d : S4096x2048.Idx → EReal) (ix2 i j) * (g : S2048.Idx → EReal) (ix1 j))
        (∑ k : Fin 2048, (x : S4096x2048.Idx → EReal) (ix2 i k) * ((d : S4096x2048.Idx → EReal) (ix2 i k) * (g : S2048.Idx → EReal) (ix1 k)))
        (Ideal.rsqrt (ms width (∑ l : Fin 2048, (x : S4096x2048.Idx → EReal) (ix2 i l) * (x : S4096x2048.Idx → EReal) (ix2 i l))))
        (ms width (∑ l : Fin 2048, (x : S4096x2048.Idx → EReal) (ix2 i l) * (x : S4096x2048.Idx → EReal) (ix2 i l))) := by
  refine (grad_at _ _ _ _ _ i j).trans ?_
  rw [back_at, means_at, gained_at]
  simp only [gained_at]
  rfl

theorem gain_form (j : Fin 2048) : (gainTerm x d (meansTerm x) : S2048.Idx → EReal) (ix1 j)
    = ∑ i : Fin 4096, (x : S4096x2048.Idx → EReal) (ix2 i j)
      * Ideal.rsqrt (ms width (∑ l : Fin 2048, (x : S4096x2048.Idx → EReal) (ix2 i l) * (x : S4096x2048.Idx → EReal) (ix2 i l)))
      * (d : S4096x2048.Idx → EReal) (ix2 i j) :=
  (gain_sum _ _ _ j).trans (by simp only [means_at])

/-- The kernel's last line. -/
theorem of_gains (q : FVec Ideal Cert.NormBwdIdeal.S8x2048 .f32) (j : Fin 2048) : (gainOf q : S2048.Idx → EReal) (ix1 j)
    = ∑ r : Fin 8, (q : Cert.NormBwdIdeal.S8x2048.Idx → EReal) (ix2 r j) := by
  pointwise [gainOf]

end Cert.NormBwdRIdeal.Prod

namespace Cert.Proof

open Idealize.ShloMosaic Idealize.ShloMosaic.TcCoe Idealize.ShloMosaic.Tactic Idealize.SL.Sem
open Cert.NormBwdIdeal.Prod Cert.NormBwdRIdeal.Prod Cert.NormMath

theorem frame_norm_bwd_reference : Cert.quiescent_NormBwdRIdeal := fun m ρ _ =>
  (θ_run (Cert.NormBwdRIdeal.defs (F := Ideal)) _ _).mono (fun _ h => ⟨fun c => (h c).2.2, sem_eq_zero_of_no_sems rfl _⟩)
    (Cert.NormBwdRIdeal.Value.run m ρ)

variable (m : (ℓ : Loc Cert.NormBwdIdeal.nD Cert.NormBwdIdeal.τ Cert.NormBwdIdeal.sig) → Buf (Elt Ideal) ℓ) (c : Dev Cert.NormBwdIdeal.nD)

theorem norm_grad_at (i : Fin 4096) (j : Fin 2048) : grad m c (ix2 i j)
    = referenceForm width (inR m c (ix2 i j)) (inX m c (ix2 i j)) (inD m c (ix2 i j) * inG m c (ix1 j))
      (∑ k : Fin 2048, inX m c (ix2 i k) * (inD m c (ix2 i k) * inG m c (ix1 k)))
      (Ideal.rsqrt (ms width (∑ l : Fin 2048, inX m c (ix2 i l) * inX m c (ix2 i l))))
      (ms width (∑ l : Fin 2048, inX m c (ix2 i l) * inX m c (ix2 i l))) := by
  refine Eq.trans ?_ (same_row width_2048 (inR m c (ix2 i j)) (fun k => inX m c (ix2 i k)) (fun k => inD m c (ix2 i k) * inG m c (ix1 k)) j)
  simp only [mul_comm (inD m c _)]
  rfl

theorem norm_grad_eq : (gradTerm (inX m c) (inR m c) (gainedTerm (inD m c) (inG m c))
    (backTerm (inX m c) (gainedTerm (inD m c) (inG m c)) (meansTerm (inX m c))) (meansTerm (inX m c)) : Cert.NormBwdIdeal.S4096x2048.Idx → EReal)
      = grad m c := by
  funext y
  idx_vars y
  exact (grad_form _ _ _ _ _ _).trans (norm_grad_at m c _ _).symm

theorem gains_at (r : Fin 8) (j : Fin 2048) :
    gains m c (ix2 r j) = ∑ s ∈ Finset.range 8, ∑ g : Fin 64, term m c (member s r g) j := rfl

theorem norm_gain_eq : (gainTerm (inX m c) (inD m c) (meansTerm (inX m c)) : Cert.NormBwdIdeal.S2048.Idx → EReal) = gainOf (gains m c) := by
  funext y
  idx_vars y
  refine (gain_form _ _ _).trans (Eq.trans ?_ (of_gains _ _).symm)
  simp only [gains_at]
  rw [sum_blocks fun i => term m c i _]
  exact Finset.sum_congr rfl fun i _ => mul_comm _ _

theorem equal_norm_bwd : Cert.algebraic_NormBwdIdeal_NormBwdRIdeal := fun m g m' g' _ hm =>
  ⟨fun c => grad m c, fun c => gainOf (gains m c), run m g,
   (θ_run (Cert.NormBwdRIdeal.defs (F := Ideal)) _ _).mono (fun r h c => ⟨
      (h c).1.trans (by
        rw [(hm c).1, (hm c).2.1, (hm c).2.2.1, (hm c).2.2.2]
        exact norm_grad_eq m c),
      (h c).2.1.trans (by
        rw [(hm c).1, (hm c).2.2.1]
        exact norm_gain_eq m c),
      (h c).2.2⟩)
     (Cert.NormBwdRIdeal.Value.run m' g')⟩

end Cert.Proof

end
-- ==== Proof.MixMath.lean ====
/- The derivative of the mixer's end, row by row: two halves with a root-mean-square norm each, the second of the gated
   values. -/
module

public import proofs.«01_k».proof.Proof.NormMath
public import proofs.«01_k».proof.Proof.SiluMath

@[expose] public section

noncomputable section

namespace Cert.MixMath

open Idealize.ShloMosaic Cert.NormMath Cert.Silu

/-- The width of a half. -/
def width : EReal := Ideal.ofBits FTy.f32 1149239296#32

/-- Of a row `x`: the reciprocal root of the mean square, the gradient of an entry (`g` the gain, `d` the gradient that
    comes back), and the entry's share of the gain's gradient. -/
def rinv (x : Fin 1024 → EReal) : EReal := Ideal.rsqrt (ms width (∑ l, x l * x l))
def dnorm (x g d : Fin 1024 → EReal) (j : Fin 1024) : EReal :=
  rinv x * (g j * d j - x j * rinv x * Ideal.div (∑ k, x k * rinv x * (g k * d k)) width)
def dgain (x d : Fin 1024 → EReal) (j : Fin 1024) : EReal := d j * (x j * rinv x)

/-- What comes back through the mean square in the reference. -/
def through (x g d : Fin 1024 → EReal) : EReal :=
  back width (∑ k, x k * (d k * g k)) (rinv x) (ms width (∑ l, x l * x l))

theorem dnorm_eq (x g d : Fin 1024 → EReal) (j : Fin 1024) :
    dnorm x g d j = d j * g j * rinv x + x j * through x g d + through x g d * x j := by
  have h := same_row (w := width) width_1024 0 x (fun k => d k * g k) j
  unfold kernelForm referenceForm at h
  rw [zero_add, zero_add] at h
  refine Eq.trans ?_ h
  unfold dnorm rinv
  simp only [mul_comm (g _)]

/-- The Gaussian unit as the kernel writes it, and as the reference does. -/
def gelu (x : EReal) : EReal :=
  Ideal.ofBits FTy.f32 1056964608#32 * x
    * (1 + Ideal.tanh (Ideal.ofBits FTy.f32 1061962282#32 * (x + Ideal.ofBits FTy.f32 1027024659#32 * x * x * x)))

theorem gelu_eq (x : EReal) : x * (Ideal.ofBits FTy.f32 1056964608#32
    * (1 + Ideal.tanh (Ideal.ofBits FTy.f32 1061962282#32 * (x + Ideal.ofBits FTy.f32 1027024659#32 * (x * x * x))))) = gelu x := by
  have h : Ideal.ofBits FTy.f32 1027024659#32 * x * x * x = Ideal.ofBits FTy.f32 1027024659#32 * (x * x * x) := by
    simp only [mul_assoc (G := EReal)]
  unfold gelu
  rw [h, ← mul_assoc (G := EReal), mul_comm (G := EReal) x]

/-- The gate: the logistic function of a sum. -/
def gate (a b : EReal) : EReal := sigTanh (a + b)

/-- The gradient before the gate, the two ways. -/
def dgate (dz y s : EReal) : EReal := dz * y * s * (1 - s)

theorem dgate_eq (dz y s : EReal) : y * dz * (s * (1 - s)) = dgate dz y s := by
  unfold dgate
  rw [mul_comm (G := EReal) y, ← mul_assoc (G := EReal)]

/-- A gain's partial sums over the blocks. -/
def tile (T : Fin 4096 → Fin 1024 → EReal) (n : ℕ) (r : Fin 8) (j : Fin 1024) : EReal := ∑ g : Fin 64, T (member n r g) j
def sums (T : Fin 4096 → Fin 1024 → EReal) (r : Fin 8) (j : Fin 1024) : EReal := ∑ n ∈ Finset.range 8, tile T n r j

theorem sums_all (T : Fin 4096 → Fin 1024 → EReal) (j : Fin 1024) : ∑ r : Fin 8, sums T r j = ∑ i, T i j :=
  sum_blocks fun i => T i j

end Cert.MixMath

end
-- ==== Proof.Mix.lean ====
/- The derivative of the mixer's end, block of tokens by block: the gradients of the two normed halves, of the gate, and
   those of the two gains and of the gate's bias, summed over the blocks in turn. -/
module

public import proofs.«01_k».proof.Proof.Gen.MixBwdIdeal.Frame
public import proofs.«01_k».proof.Proof.Sums
public import proofs.«01_k».proof.Proof.MixMath
public import Idealize.ShloMosaic.Lib.WholeRead
public import Idealize.ShloMosaic.Lib.Pipeline.ValueKit

@[expose] public section

set_option maxRecDepth 16384

noncomputable section

namespace Cert.MixBwdIdeal.Prod

open Cert.MixBwdIdeal Cert.MixBwdIdeal.Gen Cert.Prod Cert.NormMath Cert.MixMath
open Idealize.ShloMosaic Idealize.ShloMosaic.TcCoe Idealize.ShloMosaic.Tactic Idealize.SL.Sem

section Body

variable {F : FTy → Type} [FloatOps F]
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S1x1024 .f32) (h5 : a5.IsWhole)
  (a6 : Memref sig .tc .vmem S1x1024 .f32) (h6 : a6.IsWhole) (a7 : Memref sig .tc .vmem S512x1024 .bf16) (h7 : a7.IsWhole)
  (a8 : Memref sig .tc .vmem S512x1024 .bf16) (h8 : a8.IsWhole) (a9 : Memref sig .tc .vmem S512x1024 .f32) (h9 : a9.IsWhole)
  (a10 : Memref sig .tc .vmem S512x1024 .bf16) (h10 : a10.IsWhole) (a11 : Memref sig .tc .vmem S512x1024 .f32) (h11 : a11.IsWhole)
  (a12 : Memref sig .tc .vmem S8x1024 .f32) (h12 : a12.IsWhole) (a13 : Memref sig .tc .vmem S8x1024 .f32) (h13 : a13.IsWhole)
  (a14 : Memref sig .tc .vmem S8x1024 .f32) (h14 : a14.IsWhole)
  (x0 x1 x2 : Vec F S512x1024 .f32) (x3 x4 x5 : Vec F S1x1024 .f32) (x6 x7 : Vec F S512x1024 .bf16) (s11 s12 s13 : Vec F S8x1024 .f32)

/-- The first block writes its gradients and its partial sums … -/
theorem first_8 (hc0 : cond0_0 i) (hc1 : ¬cond0_1 i) (hc2 : cond0_2 i) (hc3 : ¬cond0_3 i) (hc4 : cond0_4 i) (hc5 : ¬cond0_5 i) :
    out0_A_8 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 = k0_pay8 x0 x4 x6 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

theorem first_9 (hc0 : cond0_0 i) (hc1 : ¬cond0_1 i) (hc2 : cond0_2 i) (hc3 : ¬cond0_3 i) (hc4 : cond0_4 i) (hc5 : ¬cond0_5 i) :
    out0_A_9 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 = k0_pay20 (k0_pay11 x2 (k0_pay2 x3)) (k0_pay17 x1 x2 (k0_pay2 x3) (k0_pay3 x5) (k0_pay5 x7)) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

theorem first_10 (hc0 : cond0_0 i) (hc1 : ¬cond0_1 i) (hc2 : cond0_2 i) (hc3 : ¬cond0_3 i) (hc4 : cond0_4 i) (hc5 : ¬cond0_5 i) :
    out0_A_10 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 = k0_pay19 (k0_pay11 x2 (k0_pay2 x3)) (k0_pay15 x1 x2 (k0_pay2 x3) (k0_pay3 x5) (k0_pay5 x7)) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

theorem first_11 (hc0 : cond0_0 i) (hc1 : ¬cond0_1 i) (hc2 : cond0_2 i) (hc3 : ¬cond0_3 i) (hc4 : cond0_4 i) (hc5 : ¬cond0_5 i) :
    out0_A_11 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 = k0_pay21 (k0_pay9 x0 x6) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

theorem first_12 (hc0 : cond0_0 i) (hc1 : ¬cond0_1 i) (hc2 : cond0_2 i) (hc3 : ¬cond0_3 i) (hc4 : cond0_4 i) (hc5 : ¬cond0_5 i) :
    out0_A_12 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 = k0_pay23 (k0_pay16 x1 x2 (k0_pay2 x3) (k0_pay5 x7)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

theorem first_13 (hc0 : cond0_0 i) (hc1 : ¬cond0_1 i) (hc2 : cond0_2 i) (hc3 : ¬cond0_3 i) (hc4 : cond0_4 i) (hc5 : ¬cond0_5 i) :
    out0_A_13 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 = k0_pay25 (k0_pay11 x2 (k0_pay2 x3)) (k0_pay17 x1 x2 (k0_pay2 x3) (k0_pay3 x5) (k0_pay5 x7)) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7)]
  unfold kernelRun0_A
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

/-- … and a later block writes its gradients and adds its partial sums to those before. -/
theorem next_8 (hc0 : ¬cond0_0 i) (hc1 : cond0_1 i) (hc2 : ¬cond0_2 i) (hc3 : cond0_3 i) (hc4 : ¬cond0_4 i) (hc5 : cond0_5 i) :
    out0_B_8 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13 = k0_pay8 x0 x4 x6 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13)]
  unfold kernelRun0_B
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

theorem next_9 (hc0 : ¬cond0_0 i) (hc1 : cond0_1 i) (hc2 : ¬cond0_2 i) (hc3 : cond0_3 i) (hc4 : ¬cond0_4 i) (hc5 : cond0_5 i) :
    out0_B_9 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13 = k0_pay20 (k0_pay11 x2 (k0_pay2 x3)) (k0_pay17 x1 x2 (k0_pay2 x3) (k0_pay3 x5) (k0_pay5 x7)) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13)]
  unfold kernelRun0_B
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

theorem next_10 (hc0 : ¬cond0_0 i) (hc1 : cond0_1 i) (hc2 : ¬cond0_2 i) (hc3 : cond0_3 i) (hc4 : ¬cond0_4 i) (hc5 : cond0_5 i) :
    out0_B_10 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13 = k0_pay19 (k0_pay11 x2 (k0_pay2 x3)) (k0_pay15 x1 x2 (k0_pay2 x3) (k0_pay3 x5) (k0_pay5 x7)) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13)]
  unfold kernelRun0_B
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2]

theorem next_11 (hc0 : ¬cond0_0 i) (hc1 : cond0_1 i) (hc2 : ¬cond0_2 i) (hc3 : cond0_3 i) (hc4 : ¬cond0_4 i) (hc5 : cond0_5 i) :
    out0_B_11 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13 = k0_pay22 (k0_pay9 x0 x6) s11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13)]
  unfold kernelRun0_B
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2, h12.read_unread, View.ld_unit_zero (S := S8x1024) zero2]

theorem next_12 (hc0 : ¬cond0_0 i) (hc1 : cond0_1 i) (hc2 : ¬cond0_2 i) (hc3 : cond0_3 i) (hc4 : ¬cond0_4 i) (hc5 : cond0_5 i) :
    out0_B_12 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13 = k0_pay24 (k0_pay16 x1 x2 (k0_pay2 x3) (k0_pay5 x7)) s12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13)]
  unfold kernelRun0_B
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2, h13.read_unread, View.ld_unit_zero (S := S8x1024) zero2]

theorem next_13 (hc0 : ¬cond0_0 i) (hc1 : cond0_1 i) (hc2 : ¬cond0_2 i) (hc3 : cond0_3 i) (hc4 : ¬cond0_4 i) (hc5 : cond0_5 i) :
    out0_B_13 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13 = k0_pay1 (k0_pay25 (k0_pay11 x2 (k0_pay2 x3)) (k0_pay17 x1 x2 (k0_pay2 x3) (k0_pay3 x5) (k0_pay5 x7))) s13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc0 hc1 hc2 hc3 hc4 hc5 x0 x1 x2 x3 x4 x5 x6 x7 s11 s12 s13)]
  unfold kernelRun0_B
  dsimp only
  sl_unfold_words
  rw [View.canon_unit_zero zero2]
  simp only [View.readAt_eq_ld, h1.read_unread, h2.read_unread, h3.read_unread, h4.read_unread, h5.read_unread, h6.read_unread, h7.read_unread,
    h8.read_unread,
    View.ld_unit_zero (S := S512x1024) zero2, View.ld_unit_zero (S := S1x1024) zero2, h14.read_unread, View.ld_unit_zero (S := S8x1024) zero2]

end Body

variable (m : (ℓ : Loc nD τ sig) → Buf (Elt Ideal) ℓ) (ρ : Dev nD → PrngReg) (c : Dev nD)

/-- The arguments as extended reals. -/
abbrev inA : S4096x1024.Idx → EReal := m ((c : Thread nD τ).loc main_arg0)
abbrev inY : S4096x1024.Idx → EReal := m ((c : Thread nD τ).loc main_arg1)
abbrev inL : S4096x1024.Idx → EReal := m ((c : Thread nD τ).loc main_arg2)
abbrev inB : S1024.Idx → EReal := m ((c : Thread nD τ).loc main_arg3)
abbrev inG : S1024.Idx → EReal := m ((c : Thread nD τ).loc main_arg4)
abbrev inH : S1024.Idx → EReal := m ((c : Thread nD τ).loc main_arg5)
abbrev inD : S4096x2048.Idx → EReal := m ((c : Thread nD τ).loc main_arg6)

theorem ltN (t : Fin cfg0.N) : t.val < 8 := lt_of_lt_of_eq t.isLt N_0

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![t.val, 0] := by decide +kernel
theorem index_7 : ∀ t : Fin grid0.N, win0_7.index t = ![t.val, 1] := by decide +kernel
theorem index_8 : ∀ t : Fin grid0.N, win0_8.index t = ![t.val, 0] := by decide +kernel
theorem index_9 : ∀ t : Fin grid0.N, win0_9.index t = ![t.val, 0] := by decide +kernel
theorem index_10 : ∀ t : Fin grid0.N, win0_10.index t = ![t.val, 0] := by decide +kernel
theorem index_11 : ∀ t : Fin grid0.N, win0_11.index t = ![0, 0] := by decide +kernel
theorem index_12 : ∀ t : Fin grid0.N, win0_12.index t = ![0, 0] := by decide +kernel
theorem index_13 : ∀ t : Fin grid0.N, win0_13.index t = ![0, 0] := by decide +kernel

theorem entry_3 (z : Fin 1) (j : Fin 1024) : (V m c main_v2 : S1x1024.Idx → EReal) (ix2 z j) = inB m c (ix1 j) := by
  have e : V m c main_v2 = (shapeCast S1x1024 (m ((c : Thread nD τ).loc main_arg3)) shapeCasts_S1024_S1x1024 : S1x1024.Idx → EReal) := by
    entry_read
    rfl
  rw [e]
  pointwise

theorem entry_4 (z : Fin 1) (j : Fin 1024) : (V m c main_v0 : S1x1024.Idx → EReal) (ix2 z j) = inG m c (ix1 j) := by
  have e : V m c main_v0 = (shapeCast S1x1024 (m ((c : Thread nD τ).loc main_arg4)) shapeCasts_S1024_S1x1024 : S1x1024.Idx → EReal) := by
    entry_read
    rfl
  rw [e]
  pointwise

theorem entry_5 (z : Fin 1) (j : Fin 1024) : (V m c main_v1 : S1x1024.Idx → EReal) (ix2 z j) = inH m c (ix1 j) := by
  have e : V m c main_v1 = (shapeCast S1x1024 (m ((c : Thread nD τ).loc main_arg5)) shapeCasts_S1024_S1x1024 : S1x1024.Idx → EReal) := by
    entry_read
    rfl
  rw [e]
  pointwise

theorem entry_6 (y : S4096x2048.Idx) : (V m c main_v3 : S4096x2048.Idx → EReal) y = inD m c y := by
  have e : V m c main_v3 = (truncf (F := Ideal) .bf16 (m ((c : Thread nD τ).loc main_arg6)) bitsLt_bf16_f32 : S4096x2048.Idx → EReal) := by
    entry_read
    rfl
  rw [e]
  rfl

/-- Row `i` of a point's block of tokens, and a column of each half. -/
def row (n : ℕ) (i : Fin 512) : Fin 4096 := ⟨(n * 512 + i.val) % 4096, by omega⟩
def low (j : Fin 1024) : Fin 2048 := ⟨j.val, by omega⟩
def high (j : Fin 1024) : Fin 2048 := ⟨1024 + j.val, by omega⟩

theorem block_0 (t : Fin cfg0.N) (i : Fin 512) (j : Fin 1024) :
    (iblk m c 0 t : S512x1024.Idx → EReal) (ix2 i j) = inA m c (ix2 (row t.val i) j) := by
  have := ltN t
  blk_simp [iblk]
  refine Eq.trans ?_ (congrFun (V_main_arg0 m c) _)
  congr 1
  funext d
  apply Fin.ext
  fin_cases d <;> simp [ix2, row, index_0]; omega

theorem block_1 (t : Fin cfg0.N) (i : Fin 512) (j : Fin 1024) :
    (iblk m c 1 t : S512x1024.Idx → EReal) (ix2 i j) = inY m c (ix2 (row t.val i) j) := by
  have := ltN t
  blk_simp [iblk]
  refine Eq.trans ?_ (congrFun (V_main_arg1 m c) _)
  congr 1
  funext d
  apply Fin.ext
  fin_cases d <;> simp [ix2, row, index_1]; omega

theorem block_2 (t : Fin cfg0.N) (i : Fin 512) (j : Fin 1024) :
    (iblk m c 2 t : S512x1024.Idx → EReal) (ix2 i j) = inL m c (ix2 (row t.val i) j) := by
  have := ltN t
  blk_simp [iblk]
  refine Eq.trans ?_ (congrFun (V_main_arg2 m c) _)
  congr 1
  funext d
  apply Fin.ext
  fin_cases d <;> simp [ix2, row, index_2]; omega

theorem block_3 (t : Fin cfg0.N) (z : Fin 1) (j : Fin 1024) :
    (iblk m c 3 t : S1x1024.Idx → EReal) (ix2 z j) = inB m c (ix1 j) := by
  blk_simp [iblk]
  refine Eq.trans ?_ (entry_3 m c z j)
  congr 1
  funext d
  apply Fin.ext
  fin_cases d <;> simp [ix2, index_3]

theorem block_4 (t : Fin cfg0.N) (z : Fin 1) (j : Fin 1024) :
    (iblk m c 4 t : S1x1024.Idx → EReal) (ix2 z j) = inG m c (ix1 j) := by
  blk_simp [iblk]
  refine Eq.trans ?_ (entry_4 m c z j)
  congr 1
  funext d
  apply Fin.ext
  fin_cases d <;> simp [ix2, index_4]

theorem block_5 (t : Fin cfg0.N) (z : Fin 1) (j : Fin 1024) :
    (iblk m c 5 t : S1x1024.Idx → EReal) (ix2 z j) = inH m c (ix1 j) := by
  blk_simp [iblk]
  refine Eq.trans ?_ (entry_5 m c z j)
  congr 1
  funext d
  apply Fin.ext
  fin_cases d <;> simp [ix2, index_5]

theorem block_6 (t : Fin cfg0.N) (i : Fin 512) (j : Fin 1024) :
    (iblk m c 6 t : S512x1024.Idx → EReal) (ix2 i j) = inD m c (ix2 (row t.val i) (low j)) := by
  have := ltN t
  blk_simp [iblk]
  refine Eq.trans ?_ (entry_6 m c _)
  congr 1
  funext d
  apply Fin.ext
  fin_cases d <;> simp [ix2, row, low, index_6]; omega

theorem block_7 (t : Fin cfg0.N) (i : Fin 512) (j : Fin 1024) :
    (iblk m c 7 t : S512x1024.Idx → EReal) (ix2 i j) = inD m c (ix2 (row t.val i) (high j)) := by
  have := ltN t
  blk_simp [iblk]
  refine Eq.trans ?_ (entry_6 m c _)
  congr 1
  funext d
  apply Fin.ext
  fin_cases d <;> simp [ix2, row, high, index_7]; omega

section Values

variable (x y l : Vec Ideal S512x1024 .f32) (d : Vec Ideal S512x1024 .bf16) (e p q : FVec Ideal S512x1024 .f32)
  (g b : Vec Ideal S1x1024 .f32) (h k : FVec Ideal S1x1024 .f32) (s v : Vec Ideal S8x1024 .f32)

theorem copy_2 (z : Fin 1) (j : Fin 1024) : (k0_pay2 b : S1x1024.Idx → EReal) (ix2 z j) = (b : S1x1024.Idx → EReal) (ix2 z j) := by
  pointwise [k0_pay2]
theorem copy_3 (z : Fin 1) (j : Fin 1024) : (k0_pay3 b : S1x1024.Idx → EReal) (ix2 z j) = (b : S1x1024.Idx → EReal) (ix2 z j) := by
  pointwise [k0_pay3]
theorem copy_4 (i : Fin 512) (j : Fin 1024) : (k0_pay4 d : S512x1024.Idx → EReal) (ix2 i j) = (d : S512x1024.Idx → EReal) (ix2 i j) := by
  pointwise [k0_pay4]
theorem copy_5 (i : Fin 512) (j : Fin 1024) : (k0_pay5 d : S512x1024.Idx → EReal) (ix2 i j) = (d : S512x1024.Idx → EReal) (ix2 i j) := by
  pointwise [k0_pay5]

/-- The first half: the reciprocal root of a row's mean square, … -/
theorem inv_at (i : Fin 512) (z : Fin 1) :
    (k0_pay6 x : S512x1.Idx → EReal) (ix2 i z) = rinv (fun l => (x : S512x1024.Idx → EReal) (ix2 i l)) := by
  unfold rinv ms width
  pointwise [k0_pay6]

/-- … the normed entry, … -/
theorem normed_at (i : Fin 512) (j : Fin 1024) : (k0_pay7 x : S512x1024.Idx → EReal) (ix2 i j)
    = (x : S512x1024.Idx → EReal) (ix2 i j) * rinv (fun l => (x : S512x1024.Idx → EReal) (ix2 i l)) := by
  rw [← inv_at x i 0]
  pointwise [k0_pay7]

/-- … the gradient … -/
theorem grad_parts (i : Fin 512) (j : Fin 1024) : (k0_pay8 x g d : S512x1024.Idx → EReal) (ix2 i j)
    = (k0_pay6 x : S512x1.Idx → EReal) (ix2 i 0) * ((g : S1x1024.Idx → EReal) (ix2 0 j) * (k0_pay4 d : S512x1024.Idx → EReal) (ix2 i j)
      - (k0_pay7 x : S512x1024.Idx → EReal) (ix2 i j) * Ideal.div (∑ n : Fin 1024, (k0_pay7 x : S512x1024.Idx → EReal) (ix2 i n)
        * ((g : S1x1024.Idx → EReal) (ix2 0 n) * (k0_pay4 d : S512x1024.Idx → EReal) (ix2 i n))) (Ideal.ofBits FTy.f32 1149239296#32)) := by
  pointwise [k0_pay8]

theorem grad_at (i : Fin 512) (j : Fin 1024) : (k0_pay8 x g d : S512x1024.Idx → EReal) (ix2 i j)
    = dnorm (fun l => (x : S512x1024.Idx → EReal) (ix2 i l)) (fun l => (g : S1x1024.Idx → EReal) (ix2 0 l))
      (fun l => (d : S512x1024.Idx → EReal) (ix2 i l)) j := by
  rw [grad_parts]
  simp only [inv_at, normed_at, copy_4]
  rfl

/-- … and the share of the gain's. -/
theorem gain_at (i : Fin 512) (j : Fin 1024) : (k0_pay9 x d : S512x1024.Idx → EReal) (ix2 i j)
    = dgain (fun l => (x : S512x1024.Idx → EReal) (ix2 i l)) (fun l => (d : S512x1024.Idx → EReal) (ix2 i l)) j := by
  refine Eq.trans (b := (k0_pay4 d : S512x1024.Idx → EReal) (ix2 i j) * (k0_pay7 x : S512x1024.Idx → EReal) (ix2 i j)) ?_ ?_
  · pointwise [k0_pay9]
  · rw [copy_4, normed_at]
    rfl

/-- The second half: the unit, … -/
theorem gelu_at (i : Fin 512) (j : Fin 1024) :
    (k0_pay10 y : S512x1024.Idx → EReal) (ix2 i j) = gelu ((y : S512x1024.Idx → EReal) (ix2 i j)) := by
  unfold gelu
  pointwise [k0_pay10]

/-- … the gate, … -/
theorem gate_at (i : Fin 512) (j : Fin 1024) : (k0_pay11 l h : S512x1024.Idx → EReal) (ix2 i j)
    = gate ((l : S512x1024.Idx → EReal) (ix2 i j)) ((h : S1x1024.Idx → EReal) (ix2 0 j)) := by
  unfold gate Cert.Silu.sigTanh
  pointwise [k0_pay11]

/-- … their product, … -/
theorem gated_parts (i : Fin 512) (j : Fin 1024) : (k0_pay12 y l h : S512x1024.Idx → EReal) (ix2 i j)
    = (k0_pay10 y : S512x1024.Idx → EReal) (ix2 i j) * (k0_pay11 l h : S512x1024.Idx → EReal) (ix2 i j) := by
  pointwise [k0_pay12]

/-- … its norm, … -/
theorem inv2_at (i : Fin 512) (z : Fin 1) : (k0_pay13 y l h : S512x1.Idx → EReal) (ix2 i z)
    = rinv (fun n => (k0_pay12 y l h : S512x1024.Idx → EReal) (ix2 i n)) := by
  unfold rinv ms width
  pointwise [k0_pay13]

theorem normed2_at (i : Fin 512) (j : Fin 1024) : (k0_pay14 y l h : S512x1024.Idx → EReal) (ix2 i j)
    = (k0_pay12 y l h : S512x1024.Idx → EReal) (ix2 i j) * rinv (fun n => (k0_pay12 y l h : S512x1024.Idx → EReal) (ix2 i n)) := by
  rw [← inv2_at y l h i 0]
  pointwise [k0_pay14]

/-- … the norm's gradient … -/
theorem grad2_parts (i : Fin 512) (j : Fin 1024) : (k0_pay15 y l h k e : S512x1024.Idx → EReal) (ix2 i j)
    = (k0_pay13 y l h : S512x1.Idx → EReal) (ix2 i 0) * ((k : S1x1024.Idx → EReal) (ix2 0 j) * (e : S512x1024.Idx → EReal) (ix2 i j)
      - (k0_pay14 y l h : S512x1024.Idx → EReal) (ix2 i j) * Ideal.div (∑ n : Fin 1024, (k0_pay14 y l h : S512x1024.Idx → EReal) (ix2 i n)
        * ((k : S1x1024.Idx → EReal) (ix2 0 n) * (e : S512x1024.Idx → EReal) (ix2 i n))) (Ideal.ofBits FTy.f32 1149239296#32)) := by
  pointwise [k0_pay15]

theorem grad2_at (i : Fin 512) (j : Fin 1024) : (k0_pay15 y l h k e : S512x1024.Idx → EReal) (ix2 i j)
    = dnorm (fun n => (k0_pay12 y l h : S512x1024.Idx → EReal) (ix2 i n)) (fun n => (k : S1x1024.Idx → EReal) (ix2 0 n))
      (fun n => (e : S512x1024.Idx → EReal) (ix2 i n)) j := by
  rw [grad2_parts]
  simp only [inv2_at, normed2_at]
  rfl

/-- … and the share of its gain's, … -/
theorem gain2_at (i : Fin 512) (j : Fin 1024) : (k0_pay16 y l h e : S512x1024.Idx → EReal) (ix2 i j)
    = dgain (fun n => (k0_pay12 y l h : S512x1024.Idx → EReal) (ix2 i n)) (fun n => (e : S512x1024.Idx → EReal) (ix2 i n)) j := by
  refine Eq.trans (b := (e : S512x1024.Idx → EReal) (ix2 i j) * (k0_pay14 y l h : S512x1024.Idx → EReal) (ix2 i j)) ?_ ?_
  · pointwise [k0_pay16]
  · rw [normed2_at]
    rfl

/-- … and what goes back to the gate and to the unit. -/
theorem both_at (i : Fin 512) (j : Fin 1024) : (k0_pay17 y l h k e : S512x1024.Idx → EReal) (ix2 i j)
    = (k0_pay15 y l h k e : S512x1024.Idx → EReal) (ix2 i j) * (k0_pay10 y : S512x1024.Idx → EReal) (ix2 i j)
      * (k0_pay11 l h : S512x1024.Idx → EReal) (ix2 i j) := by
  pointwise [k0_pay17]

theorem dgate_at (i : Fin 512) (j : Fin 1024) : (k0_pay18 p q : S512x1024.Idx → EReal) (ix2 i j)
    = (q : S512x1024.Idx → EReal) (ix2 i j) * (1 - (p : S512x1024.Idx → EReal) (ix2 i j)) := by
  pointwise [k0_pay18]

theorem dunit_at (i : Fin 512) (j : Fin 1024) : (k0_pay19 p q : S512x1024.Idx → EReal) (ix2 i j)
    = (q : S512x1024.Idx → EReal) (ix2 i j) * (p : S512x1024.Idx → EReal) (ix2 i j) := by
  pointwise [k0_pay19]

theorem short_at (i : Fin 512) (j : Fin 1024) :
    (k0_pay20 p q : S512x1024.Idx → EReal) (ix2 i j) = (k0_pay18 p q : S512x1024.Idx → EReal) (ix2 i j) := by
  pointwise [k0_pay20]

/-- Row `g` of those that row `r` of a block's partial sums takes. -/
def inner (r : Fin 8) (g : Fin 64) : Fin 512 := ⟨g.val * 8 + r.val, by omega⟩

theorem sum_21 (r : Fin 8) (j : Fin 1024) :
    (k0_pay21 p : S8x1024.Idx → EReal) (ix2 r j) = ∑ g : Fin 64, (p : S512x1024.Idx → EReal) (ix2 (inner r g) j) := by
  pointwise [k0_pay21]
  rfl

theorem sum_23 (r : Fin 8) (j : Fin 1024) :
    (k0_pay23 p : S8x1024.Idx → EReal) (ix2 r j) = ∑ g : Fin 64, (p : S512x1024.Idx → EReal) (ix2 (inner r g) j) := by
  pointwise [k0_pay23]
  rfl

theorem sum_25 (r : Fin 8) (j : Fin 1024) :
    (k0_pay25 p q : S8x1024.Idx → EReal) (ix2 r j) = ∑ g : Fin 64, (k0_pay18 p q : S512x1024.Idx → EReal) (ix2 (inner r g) j) := by
  pointwise [k0_pay25]
  rfl

theorem add_22 (r : Fin 8) (j : Fin 1024) : (k0_pay22 p s : S8x1024.Idx → EReal) (ix2 r j)
    = (s : S8x1024.Idx → EReal) (ix2 r j) + (k0_pay21 p : S8x1024.Idx → EReal) (ix2 r j) := by
  pointwise [k0_pay22]

theorem add_24 (r : Fin 8) (j : Fin 1024) : (k0_pay24 p s : S8x1024.Idx → EReal) (ix2 r j)
    = (s : S8x1024.Idx → EReal) (ix2 r j) + (k0_pay23 p : S8x1024.Idx → EReal) (ix2 r j) := by
  pointwise [k0_pay24]

theorem add_1 (r : Fin 8) (j : Fin 1024) : (k0_pay1 v s : S8x1024.Idx → EReal) (ix2 r j)
    = (s : S8x1024.Idx → EReal) (ix2 r j) + (v : S8x1024.Idx → EReal) (ix2 r j) := by
  pointwise [k0_pay1]

end Values

/-- Of a token: the first half, the unit, the gate and the gated values. -/
def rowA (i : Fin 4096) (j : Fin 1024) : EReal := inA m c (ix2 i j)
def unit (i : Fin 4096) (j : Fin 1024) : EReal := gelu (inY m c (ix2 i j))
def open_ (i : Fin 4096) (j : Fin 1024) : EReal := gate (inL m c (ix2 i j)) (inB m c (ix1 j))
def gated (i : Fin 4096) (j : Fin 1024) : EReal := unit m c i j * open_ m c i j

/-- The gradients that come back, and the gains. -/
def lowD (i : Fin 4096) (j : Fin 1024) : EReal := inD m c (ix2 i (low j))
def highD (i : Fin 4096) (j : Fin 1024) : EReal := inD m c (ix2 i (high j))
def gainG (j : Fin 1024) : EReal := inG m c (ix1 j)
def gainH (j : Fin 1024) : EReal := inH m c (ix1 j)

/-- What the call leaves: the gradients, entry by entry, … -/
def firstE (i : Fin 4096) (j : Fin 1024) : EReal := dnorm (rowA m c i) (gainG m c) (lowD m c i) j
def secondE (i : Fin 4096) (j : Fin 1024) : EReal := dnorm (gated m c i) (gainH m c) (highD m c i) j
def gateE (i : Fin 4096) (j : Fin 1024) : EReal := dgate (secondE m c i j) (unit m c i j) (open_ m c i j)
def unitE (i : Fin 4096) (j : Fin 1024) : EReal := secondE m c i j * open_ m c i j

/-- … and the terms of the gains' gradients. -/
def termG (i : Fin 4096) (j : Fin 1024) : EReal := dgain (rowA m c i) (lowD m c i) j
def termH (i : Fin 4096) (j : Fin 1024) : EReal := dgain (gated m c i) (highD m c i) j

def whole (f : Fin 4096 → Fin 1024 → EReal) (y : S4096x1024.Idx) : EReal := f (y 0) (y 1)
def partials (f : Fin 4096 → Fin 1024 → EReal) (y : S8x1024.Idx) : EReal := sums f (y 0) (y 1)

theorem row_inner (n : ℕ) (r : Fin 8) (g : Fin 64) : row n (inner r g) = member n r g := rfl

section Blocks

variable (t : Fin cfg0.N) (i : Fin 512) (r : Fin 8) (j : Fin 1024)

/-- A block's gate, gated values and gradients, as the body has them. -/
abbrev gateB : FVec Ideal S512x1024 .f32 := k0_pay11 (iblk m c 2 t) (k0_pay2 (iblk m c 3 t))
abbrev gatedB : FVec Ideal S512x1024 .f32 := k0_pay12 (iblk m c 1 t) (iblk m c 2 t) (k0_pay2 (iblk m c 3 t))
abbrev normB : FVec Ideal S512x1024 .f32 :=
  k0_pay15 (iblk m c 1 t) (iblk m c 2 t) (k0_pay2 (iblk m c 3 t)) (k0_pay3 (iblk m c 5 t)) (k0_pay5 (iblk m c 7 t))
abbrev bothB : FVec Ideal S512x1024 .f32 :=
  k0_pay17 (iblk m c 1 t) (iblk m c 2 t) (k0_pay2 (iblk m c 3 t)) (k0_pay3 (iblk m c 5 t)) (k0_pay5 (iblk m c 7 t))
abbrev shareB : FVec Ideal S512x1024 .f32 :=
  k0_pay16 (iblk m c 1 t) (iblk m c 2 t) (k0_pay2 (iblk m c 3 t)) (k0_pay5 (iblk m c 7 t))

theorem block_first :
    (k0_pay8 (iblk m c 0 t) (iblk m c 4 t) (iblk m c 6 t) : S512x1024.Idx → EReal) (ix2 i j) = firstE m c (row t.val i) j := by
  rw [grad_at]
  simp only [block_0, block_4, block_6]
  rfl

theorem block_termG :
    (k0_pay9 (iblk m c 0 t) (iblk m c 6 t) : S512x1024.Idx → EReal) (ix2 i j) = termG m c (row t.val i) j := by
  rw [gain_at]
  simp only [block_0, block_6]
  rfl

theorem block_unit : (k0_pay10 (iblk m c 1 t) : S512x1024.Idx → EReal) (ix2 i j) = unit m c (row t.val i) j := by
  rw [gelu_at, block_1]
  rfl

theorem block_gate : (gateB m c t : S512x1024.Idx → EReal) (ix2 i j) = open_ m c (row t.val i) j := by
  refine (gate_at _ _ i j).trans ?_
  rw [block_2, copy_2, block_3]
  rfl

theorem block_gated : (gatedB m c t : S512x1024.Idx → EReal) (ix2 i j) = gated m c (row t.val i) j := by
  refine (gated_parts _ _ _ i j).trans ?_
  rw [block_unit]
  exact congrArg _ (block_gate m c t i j)

theorem block_norm : (normB m c t : S512x1024.Idx → EReal) (ix2 i j) = secondE m c (row t.val i) j := by
  refine (grad2_at _ _ _ _ _ i j).trans ?_
  simp only [block_gated, copy_3, copy_5, block_5, block_7]
  rfl

theorem block_termH : (shareB m c t : S512x1024.Idx → EReal) (ix2 i j) = termH m c (row t.val i) j := by
  refine (gain2_at _ _ _ _ i j).trans ?_
  simp only [block_gated, copy_5, block_7]
  rfl

theorem block_both : (bothB m c t : S512x1024.Idx → EReal) (ix2 i j)
    = secondE m c (row t.val i) j * unit m c (row t.val i) j * open_ m c (row t.val i) j := by
  refine (both_at _ _ _ _ _ i j).trans ?_
  rw [block_unit]
  exact congrArg₂ (fun p q => p * unit m c (row t.val i) j * q) (block_norm m c t i j) (block_gate m c t i j)

theorem block_dgate : (k0_pay18 (gateB m c t) (bothB m c t) : S512x1024.Idx → EReal) (ix2 i j) = gateE m c (row t.val i) j := by
  rw [dgate_at, block_both, block_gate]
  rfl

theorem block_short : (k0_pay20 (gateB m c t) (bothB m c t) : S512x1024.Idx → EReal) (ix2 i j) = gateE m c (row t.val i) j := by
  rw [short_at, block_dgate]

theorem block_dunit : (k0_pay19 (gateB m c t) (normB m c t) : S512x1024.Idx → EReal) (ix2 i j) = unitE m c (row t.val i) j := by
  rw [dunit_at, block_norm, block_gate]
  rfl

theorem block_21 :
    (k0_pay21 (k0_pay9 (iblk m c 0 t) (iblk m c 6 t)) : S8x1024.Idx → EReal) (ix2 r j) = tile (termG m c) t.val r j := by
  rw [sum_21]
  simp only [block_termG, row_inner]
  rfl

theorem block_23 : (k0_pay23 (shareB m c t) : S8x1024.Idx → EReal) (ix2 r j) = tile (termH m c) t.val r j := by
  rw [sum_23]
  simp only [block_termH, row_inner]
  rfl

theorem block_25 : (k0_pay25 (gateB m c t) (bothB m c t) : S8x1024.Idx → EReal) (ix2 r j) = tile (gateE m c) t.val r j := by
  rw [sum_25]
  simp only [block_dgate, row_inner]
  rfl

end Blocks

theorem written_8 (t : Fin cfg0.N) (i : Fin 512) (j : Fin 1024) :
    ((outsAt0 m c t.val t.isLt).1 : S512x1024.Idx → EReal) (ix2 i j) = firstE m c (row t.val i) j := by
  have ht := ltN t
  by_cases h : t.val = 0
  · rw [outsAt0_A m c t (by omega) (by omega) (by omega) (by omega) (by omega) (by omega)]
    dsimp only
    rw [first_8]
    exact block_first m c t i j
  · rw [outsAt0_B m c t (by omega) (by omega) (by omega) (by omega) (by omega) (by omega)]
    dsimp only
    rw [next_8]
    exact block_first m c t i j

theorem written_9 (t : Fin cfg0.N) (i : Fin 512) (j : Fin 1024) :
    ((outsAt0 m c t.val t.isLt).2.1 : S512x1024.Idx → EReal) (ix2 i j) = gateE m c (row t.val i) j := by
  have ht := ltN t
  by_cases h : t.val = 0
  · rw [outsAt0_A m c t (by omega) (by omega) (by omega) (by omega) (by omega) (by omega)]
    dsimp only
    rw [first_9]
    exact block_short m c t i j
  · rw [outsAt0_B m c t (by omega) (by omega) (by omega) (by omega) (by omega) (by omega)]
    dsimp only
    rw [next_9]
    exact block_short m c t i j

theorem written_10 (t : Fin cfg0.N) (i : Fin 512) (j : Fin 1024) :
    ((outsAt0 m c t.val t.isLt).2.2.1 : S512x1024.Idx → EReal) (ix2 i j) = unitE m c (row t.val i) j := by
  have ht := ltN t
  by_cases h : t.val = 0
  · rw [outsAt0_A m c t (by omega) (by omega) (by omega) (by omega) (by omega) (by omega)]
    dsimp only
    rw [first_10]
    exact block_dunit m c t i j
  · rw [outsAt0_B m c t (by omega) (by omega) (by omega) (by omega) (by omega) (by omega)]
    dsimp only
    rw [next_10]
    exact block_dunit m c t i j

/-- After a point the array holds the sums over the blocks so far. -/
theorem held_11 (r : Fin 8) (j : Fin 1024) : ∀ (n : ℕ) (hn : n < cfg0.N),
    ((outsAt0 m c n hn).2.2.2.1 : S8x1024.Idx → EReal) (ix2 r j) = ∑ k ∈ Finset.range (n + 1), tile (termG m c) k r j
  | 0, hn => by
    have e := outsAt0_A m c ⟨0, hn⟩ rfl (by simp) rfl (by simp) rfl (by simp)
    dsimp only at e
    rw [e]
    dsimp only
    rw [first_11]
    exact (block_21 m c ⟨0, hn⟩ r j).trans (by simp)
  | n + 1, hn => by
    have ht := ltN ⟨n + 1, hn⟩
    have h : ¬(n + 1) % 8 = 0 := by dsimp only at ht; omega
    have e := outsAt0_B m c ⟨n + 1, hn⟩ h (by simp) h (by simp) h (by simp)
    dsimp only at e
    rw [e]
    dsimp only
    rw [next_11, add_22, Finset.sum_range_succ]
    exact congrArg₂ (· + ·) (held_11 r j n (Nat.lt_of_succ_lt hn)) (block_21 m c ⟨n + 1, hn⟩ r j)

/-- After a point the array holds the sums over the blocks so far. -/
theorem held_12 (r : Fin 8) (j : Fin 1024) : ∀ (n : ℕ) (hn : n < cfg0.N),
    ((outsAt0 m c n hn).2.2.2.2.1 : S8x1024.Idx → EReal) (ix2 r j) = ∑ k ∈ Finset.range (n + 1), tile (termH m c) k r j
  | 0, hn => by
    have e := outsAt0_A m c ⟨0, hn⟩ rfl (by simp) rfl (by simp) rfl (by simp)
    dsimp only at e
    rw [e]
    dsimp only
    rw [first_12]
    exact (block_23 m c ⟨0, hn⟩ r j).trans (by simp)
  | n + 1, hn => by
    have ht := ltN ⟨n + 1, hn⟩
    have h : ¬(n + 1) % 8 = 0 := by dsimp only at ht; omega
    have e := outsAt0_B m c ⟨n + 1, hn⟩ h (by simp) h (by simp) h (by simp)
    dsimp only at e
    rw [e]
    dsimp only
    rw [next_12, add_24, Finset.sum_range_succ]
    exact congrArg₂ (· + ·) (held_12 r j n (Nat.lt_of_succ_lt hn)) (block_23 m c ⟨n + 1, hn⟩ r j)

/-- After a point the array holds the sums over the blocks so far. -/
theorem held_13 (r : Fin 8) (j : Fin 1024) : ∀ (n : ℕ) (hn : n < cfg0.N),
    ((outsAt0 m c n hn).2.2.2.2.2 : S8x1024.Idx → EReal) (ix2 r j) = ∑ k ∈ Finset.range (n + 1), tile (gateE m c) k r j
  | 0, hn => by
    have e := outsAt0_A m c ⟨0, hn⟩ rfl (by simp) rfl (by simp) rfl (by simp)
    dsimp only at e
    rw [e]
    dsimp only
    rw [first_13]
    exact (block_25 m c ⟨0, hn⟩ r j).trans (by simp)
  | n + 1, hn => by
    have ht := ltN ⟨n + 1, hn⟩
    have h : ¬(n + 1) % 8 = 0 := by dsimp only at ht; omega
    have e := outsAt0_B m c ⟨n + 1, hn⟩ h (by simp) h (by simp) h (by simp)
    dsimp only at e
    rw [e]
    dsimp only
    rw [next_13, add_1, Finset.sum_range_succ]
    exact congrArg₂ (· + ·) (held_13 r j n (Nat.lt_of_succ_lt hn)) (block_25 m c ⟨n + 1, hn⟩ r j)

theorem array_8 : (dats m 0 c).arrAt 8 cfg0.N = whole (firstE m c) := by
  refine (dats m 0 c).arrAt_eq_of_covers 8 _ (by decide +kernel) fun t hf y => ?_
  have ht := ltN t
  blk_simp
  rw [after0_8]
  idx_vars y
  refine (written_8 m c t _ _).trans ?_
  refine Eq.trans (b := whole (firstE m c) (ix2 _ _)) rfl ?_
  congr 1
  funext d
  apply Fin.ext
  fin_cases d <;> simp [ix2, row, index_8]; omega

theorem array_9 : (dats m 0 c).arrAt 9 cfg0.N = whole (gateE m c) := by
  refine (dats m 0 c).arrAt_eq_of_covers 9 _ (by decide +kernel) fun t hf y => ?_
  have ht := ltN t
  blk_simp
  rw [after0_9]
  idx_vars y
  refine (written_9 m c t _ _).trans ?_
  refine Eq.trans (b := whole (gateE m c) (ix2 _ _)) rfl ?_
  congr 1
  funext d
  apply Fin.ext
  fin_cases d <;> simp [ix2, row, index_9]; omega

theorem array_10 : (dats m 0 c).arrAt 10 cfg0.N = whole (unitE m c) := by
  refine (dats m 0 c).arrAt_eq_of_covers 10 _ (by decide +kernel) fun t hf y => ?_
  have ht := ltN t
  blk_simp
  rw [after0_10]
  idx_vars y
  refine (written_10 m c t _ _).trans ?_
  refine Eq.trans (b := whole (unitE m c) (ix2 _ _)) rfl ?_
  congr 1
  funext d
  apply Fin.ext
  fin_cases d <;> simp [ix2, row, index_10]; omega

theorem array_11 : (dats m 0 c).arrAt 11 cfg0.N = partials (termG m c) := by
  refine (dats m 0 c).arrAt_eq_of_covers 11 _ (by decide +kernel) fun t hf y => ?_
  have h1 : t.val % 8 = 7 := (flush0_11 t).mp hf
  have ht := ltN t
  have e : t.val + 1 = 8 := by omega
  blk_simp
  rw [after0_11]
  idx_vars y
  refine (held_11 m c _ _ t.val t.isLt).trans ?_
  rw [e]
  refine Eq.trans (b := partials (termG m c) (ix2 _ _)) rfl ?_
  congr 1
  funext d
  apply Fin.ext
  fin_cases d <;> simp [ix2, index_11]

theorem array_12 : (dats m 0 c).arrAt 12 cfg0.N = partials (termH m c) := by
  refine (dats m 0 c).arrAt_eq_of_covers 12 _ (by decide +kernel) fun t hf y => ?_
  have h1 : t.val % 8 = 7 := (flush0_12 t).mp hf
  have ht := ltN t
  have e : t.val + 1 = 8 := by omega
  blk_simp
  rw [after0_12]
  idx_vars y
  refine (held_12 m c _ _ t.val t.isLt).trans ?_
  rw [e]
  refine Eq.trans (b := partials (termH m c) (ix2 _ _)) rfl ?_
  congr 1
  funext d
  apply Fin.ext
  fin_cases d <;> simp [ix2, index_12]

theorem array_13 : (dats m 0 c).arrAt 13 cfg0.N = partials (gateE m c) := by
  refine (dats m 0 c).arrAt_eq_of_covers 13 _ (by decide +kernel) fun t hf y => ?_
  have h1 : t.val % 8 = 7 := (flush0_13 t).mp hf
  have ht := ltN t
  have e : t.val + 1 = 8 := by omega
  blk_simp
  rw [after0_13]
  idx_vars y
  refine (held_13 m c _ _ t.val t.isLt).trans ?_
  rw [e]
  refine Eq.trans (b := partials (gateE m c) (ix2 _ _)) rfl ?_
  congr 1
  funext d
  apply Fin.ext
  fin_cases d <;> simp [ix2, index_13]

/-- A gain's gradient from its partial sums. -/
abbrev gainOf (q : FVec Ideal S8x1024 .f32) : FVec Ideal S1024 .f32 :=
  Host.reduceAdd q (constant (F := Ideal) S_ .f32 0x00000000#32) reducesTo_S8x1024_S1024_d0 h_S_

/-- Only the two windows on the gradient that comes back share an array, and they read it as it was. -/
theorem shared : ∀ w w' : Fin cfg0.W, w ≠ w' → Pipeline.arrRef spec0 w = Pipeline.arrRef spec0 w' → w = 6 ∨ w = 7 := by decide

theorem read_arr (w : Fin cfg0.W) : Pipeline.withArrays spec0 c (V0 m c) (fun w => (dats m 0 c).arrAt w cfg0.N)
    (Proc.devRef .tc (Pipeline.arrRef spec0 w)) = (dats m 0 c).arrAt w cfg0.N := by
  refine Pipeline.withArrays_arr_shared spec0 c (V0 m c) (fun w => (dats m 0 c).arrAt w cfg0.N) (fun w w' h e => ?_) w
  rcases shared w w' h e with rfl | rfl
  · exact ((dats m 0 c).arrAt_in 6 rfl _).trans (A_eq m c 6)
  · exact ((dats m 0 c).arrAt_in 7 rfl _).trans (A_eq m c 7)

theorem tail_5 (W : Valuation τ sig (Elt Ideal)) :
    StableHlo.after hostOps1 W (Proc.devRef .tc main_v5) = gainOf (W (Proc.devRef .tc main_v4_3)) := by
  after_results
theorem tail_6 (W : Valuation τ sig (Elt Ideal)) :
    StableHlo.after hostOps1 W (Proc.devRef .tc main_v6) = gainOf (W (Proc.devRef .tc main_v4_4)) := by
  after_results
theorem tail_7 (W : Valuation τ sig (Elt Ideal)) :
    StableHlo.after hostOps1 W (Proc.devRef .tc main_v7) = gainOf (W (Proc.devRef .tc main_v4_5)) := by
  after_results

theorem run : θ_run defs (onTc (τ := τ) (main (F := Ideal))) ⟨m, fun _ => 0, ρ⟩ fun r => ∀ c : Dev nD,
    r.2.mem ((c : Thread nD τ).loc main_v4_0) = whole (firstE m c)
    ∧ r.2.mem ((c : Thread nD τ).loc main_v4_1) = whole (gateE m c)
    ∧ r.2.mem ((c : Thread nD τ).loc main_v4_2) = whole (unitE m c)
    ∧ r.2.mem ((c : Thread nD τ).loc main_v5) = gainOf (partials (termG m c))
    ∧ r.2.mem ((c : Thread nD τ).loc main_v6) = gainOf (partials (termH m c))
    ∧ r.2.mem ((c : Thread nD τ).loc main_v7) = gainOf (partials (gateE m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c =>
    ⟨((h c).1 8).trans (array_8 m c), ((h c).1 9).trans (array_9 m c), ((h c).1 10).trans (array_10 m c),
      ((h c).2 main_v5 (Pipeline.mem_restRefs_of main_v5 (by decide) (by decide))).trans
        ((tail_5 _).trans (congrArg gainOf ((read_arr m c 11).trans (array_11 m c)))),
      ((h c).2 main_v6 (Pipeline.mem_restRefs_of main_v6 (by decide) (by decide))).trans
        ((tail_6 _).trans (congrArg gainOf ((read_arr m c 12).trans (array_12 m c)))),
      ((h c).2 main_v7 (Pipeline.mem_restRefs_of main_v7 (by decide) (by decide))).trans
        ((tail_7 _).trans (congrArg gainOf ((read_arr m c 13).trans (array_13 m c)))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.MixBwdIdeal.Prod

end
-- ==== Proof.MixBwdEq.lean ====
/- The derivative of the mixer's end: the kernel's gradients are the reference's, of any arguments. -/
module

public import proofs.«01_k».proof.Defs
public import proofs.«01_k».proof.Proof.Mix
public import proofs.«01_k».proof.Proof.Gen.MixBwdRIdeal.Run
public import Idealize.ShloMosaic.Lib.Quiescent

@[expose] public section

set_option maxRecDepth 16384

noncomputable section

namespace Cert.MixBwdRIdeal.Prod

open Cert.MixBwdRIdeal Cert.MixBwdRIdeal.Gen Cert.MixBwdRIdeal.Value Cert.MixBwdIdeal.Prod Cert.NormMath Cert.MixMath
open Idealize.ShloMosaic Idealize.ShloMosaic.TcCoe Idealize.ShloMosaic.Tactic

variable (x y l d G B s t : FVec Ideal S4096x1024 .f32) (D : FVec Ideal S4096x2048 .f32) (g b : FVec Ideal S1024 .f32)
  (q : FVec Ideal S4096x1 .f32)

/-- The two halves of the gradient that comes back, … -/
abbrev lowTerm : FVec Ideal S4096x1024 .f32 := extractStridedSlice S4096x1024 ![0, 0] D slices_S4096x2048_S4096x1024_0_0
abbrev highTerm : FVec Ideal S4096x1024 .f32 := extractStridedSlice S4096x1024 ![0, 1024] D slices_S4096x2048_S4096x1024_0_1024

/-- … the reference's mean squares, … -/
abbrev meansTerm : FVec Ideal S4096x1 .f32 :=
  addf (F := Ideal) (Host.divf (broadcastInDim S4096x1 ![0] bcast_S4096_S4096x1_0 (Host.reduceAdd (mulf x x) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

/-- … the gradient of what the gain multiplies, … -/
abbrev gainedTerm : FVec Ideal S4096x1024 .f32 :=
  mulf (F := Ideal) d (broadcastInDim S4096x1024 ![0, 1] bcast_S1x1024_S4096x1024_0_1 (broadcastInDim S1x1024 ![1] bcast_S1024_S1x1024_1 g))

/-- … what comes back through the mean square, … -/
abbrev backTerm : FVec Ideal S4096x1024 .f32 :=
  broadcastInDim S4096x1024 ![0] bcast_S4096_S4096x1024_0 (Host.reduceAdd (F := Ideal) (Host.divf (mulf (shapeCast _ (Host.reduceAdd (mulf x G)
    (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt q) q)))
    (broadcastInDim S4096x1 ![] bcast_S_S4096x1 (constant S_ .f32 0x44800000#32))) (constant S_ .f32 0x00000000#32) reducesTo_S4096x1_S4096_d1 h_S_)

/-- … the gradient of the norm's argument, … -/
abbrev gradTerm : FVec Ideal S4096x1024 .f32 :=
  addf (F := Ideal) (addf (mulf G (broadcastInDim S4096x1024 ![0, 1] bcast_S4096x1_S4096x1024_0_1 (Host.rsqrt q))) (mulf x B)) (mulf B x)
abbrev normTerm : FVec Ideal S4096x1024 .f32 :=
  gradTerm x (gainedTerm d g) (backTerm x (gainedTerm d g) (meansTerm x)) (meansTerm x)

/-- … the sum over the tokens, and with it the gradient of the gain, … -/
abbrev sumTerm : FVec Ideal S1024 .f32 :=
  Host.reduceAdd (F := Ideal) (shapeCast _ (Host.reduceAdd x (constant S_ .f32 0x00000000#32) reducesTo_S4096x1024_S1024_d0 h_S_)
    shapeCasts_S1024_S1x1024) (constant S_ .f32 0x00000000#32) reducesTo_S1x1024_S1024_d0 h_S_
abbrev shareTerm : FVec Ideal S4096x1024 .f32 :=
  mulf (F := Ideal) (mulf x (broadcastInDim S4096x1024 ![0, 1] bcast_S4096x1_S4096x1024_0_1 (Host.rsqrt q))) d

/-- … the unit and the gate, … -/
abbrev unitTerm : FVec Ideal S4096x1024 .f32 :=
  mulf (F := Ideal) y (mulf (broadcastInDim S4096x1024 ![] bcast_S_S4096x1024 (constant S_ .f32 0x3F000000#32))
    (addf (broadcastInDim S4096x1024 ![] bcast_S_S4096x1024 (constant S_ .f32 0x3F800000#32))
      (Host.tanh (mulf (broadcastInDim S4096x1024 ![] bcast_S_S4096x1024 (constant S_ .f32 0x3F4C422A#32))
        (addf y (mulf (broadcastInDim S4096x1024 ![] bcast_S_S4096x1024 (constant S_ .f32 0x3D372713#32)) (mulf (mulf y y) y)))))))
abbrev openTerm : FVec Ideal S4096x1024 .f32 :=
  Host.divf (F := Ideal) (broadcastInDim S4096x1024 ![] bcast_S_S4096x1024 (constant S_ .f32 0x3F800000#32))
    (addf (broadcastInDim S4096x1024 ![] bcast_S_S4096x1024 (constant S_ .f32 0x3F800000#32)) (Host.exp (Host.negf (addf l
      (broadcastInDim S4096x1024 ![0, 1] bcast_S1x1024_S4096x1024_0_1 (broadcastInDim S1x1024 ![1] bcast_S1024_S1x1024_1 b))))))
abbrev gatedTerm : FVec Ideal S4096x1024 .f32 := mulf (F := Ideal) (unitTerm y) (openTerm l b)

/-- … and the gradient before the gate. -/
abbrev dgateTerm : FVec Ideal S4096x1024 .f32 :=
  mulf (F := Ideal) (mulf y G) (mulf s (subf (broadcastInDim S4096x1024 ![] bcast_S_S4096x1024 (constant S_ .f32 0x3F800000#32)) s))

section Entries

variable (i : Fin 4096) (j : Fin 1024)

theorem low_at : (lowTerm D : S4096x1024.Idx → EReal) (ix2 i j) = (D : S4096x2048.Idx → EReal) (ix2 i (low j)) := by
  show (D : S4096x2048.Idx → EReal) _ = _
  congr 1
  funext a
  apply Fin.ext
  fin_cases a <;> simp [ix2, low]

theorem high_at : (highTerm D : S4096x1024.Idx → EReal) (ix2 i j) = (D : S4096x2048.Idx → EReal) (ix2 i (high j)) := by
  show (D : S4096x2048.Idx → EReal) _ = _
  congr 1
  funext a
  apply Fin.ext
  fin_cases a <;> simp [ix2, high]

theorem means_at (z : Fin 1) : (meansTerm x : S4096x1.Idx → EReal) (ix2 i z)
    = ms width (∑ l : Fin 1024, (x : S4096x1024.Idx → EReal) (ix2 i l) * (x : S4096x1024.Idx → EReal) (ix2 i l)) := by
  unfold ms width
  pointwise [meansTerm]

theorem gained_at : (gainedTerm d g : S4096x1024.Idx → EReal) (ix2 i j)
    = (d : S4096x1024.Idx → EReal) (ix2 i j) * (g : S1024.Idx → EReal) (ix1 j) := by
  pointwise [gainedTerm]

theorem back_at : (backTerm x G q : S4096x1024.Idx → EReal) (ix2 i j)
    = back width (∑ k : Fin 1024, (x : S4096x1024.Idx → EReal) (ix2 i k) * (G : S4096x1024.Idx → EReal) (ix2 i k))
      (Ideal.rsqrt ((q : S4096x1.Idx → EReal) (ix2 i 0))) ((q : S4096x1.Idx → EReal) (ix2 i 0)) := by
  unfold back width
  pointwise [backTerm]
  exact Fin.sum_univ_one _

theorem grad_parts : (gradTerm x G B q : S4096x1024.Idx → EReal) (ix2 i j)
    = (G : S4096x1024.Idx → EReal) (ix2 i j) * Ideal.rsqrt ((q : S4096x1.Idx → EReal) (ix2 i 0))
      + (x : S4096x1024.Idx → EReal) (ix2 i j) * (B : S4096x1024.Idx → EReal) (ix2 i j)
      + (B : S4096x1024.Idx → EReal) (ix2 i j) * (x : S4096x1024.Idx → EReal) (ix2 i j) := by
  pointwise [gradTerm]

theorem norm_at : (normTerm x d g : S4096x1024.Idx → EReal) (ix2 i j)
    = dnorm (fun k => (x : S4096x1024.Idx → EReal) (ix2 i k)) (fun k => (g : S1024.Idx → EReal) (ix1 k))
      (fun k => (d : S4096x1024.Idx → EReal) (ix2 i k)) j := by
  rw [dnorm_eq]
  refine (grad_parts _ _ _ _ i j).trans ?_
  rw [back_at, means_at, gained_at]
  simp only [gained_at]
  rfl

theorem share_parts : (shareTerm x d q : S4096x1024.Idx → EReal) (ix2 i j)
    = (x : S4096x1024.Idx → EReal) (ix2 i j) * Ideal.rsqrt ((q : S4096x1.Idx → EReal) (ix2 i 0)) * (d : S4096x1024.Idx → EReal) (ix2 i j) := by
  pointwise [shareTerm]

theorem share_at : (shareTerm x d (meansTerm x) : S4096x1024.Idx → EReal) (ix2 i j)
    = dgain (fun k => (x : S4096x1024.Idx → EReal) (ix2 i k)) (fun k => (d : S4096x1024.Idx → EReal) (ix2 i k)) j := by
  refine (share_parts _ _ _ i j).trans ?_
  rw [means_at]
  exact mul_comm (G := EReal) _ _

theorem sum_at : (sumTerm x : S1024.Idx → EReal) (ix1 j) = ∑ i : Fin 4096, (x : S4096x1024.Idx → EReal) (ix2 i j) := by
  pointwise [sumTerm]
  exact Fin.sum_univ_one _

theorem unit_at : (unitTerm y : S4096x1024.Idx → EReal) (ix2 i j) = gelu ((y : S4096x1024.Idx → EReal) (ix2 i j)) := by
  rw [← gelu_eq]
  pointwise [unitTerm]

theorem open_at : (openTerm l b : S4096x1024.Idx → EReal) (ix2 i j)
    = gate ((l : S4096x1024.Idx → EReal) (ix2 i j)) ((b : S1024.Idx → EReal) (ix1 j)) := by
  unfold gate
  rw [Cert.Silu.sigTanh_eq]
  unfold Cert.Silu.logi
  pointwise [openTerm]

theorem gated_at : (gatedTerm y l b : S4096x1024.Idx → EReal) (ix2 i j)
    = gelu ((y : S4096x1024.Idx → EReal) (ix2 i j)) * gate ((l : S4096x1024.Idx → EReal) (ix2 i j)) ((b : S1024.Idx → EReal) (ix1 j)) := by
  rw [← unit_at y, ← open_at l b]
  rfl

theorem dgate_at : (dgateTerm y G s : S4096x1024.Idx → EReal) (ix2 i j)
    = dgate ((G : S4096x1024.Idx → EReal) (ix2 i j)) ((y : S4096x1024.Idx → EReal) (ix2 i j)) ((s : S4096x1024.Idx → EReal) (ix2 i j)) := by
  rw [← dgate_eq]
  pointwise [dgateTerm]

/-- The kernel's last lines. -/
theorem of_gains (f : Fin 4096 → Fin 1024 → EReal) :
    (gainOf (partials f) : S1024.Idx → EReal) (ix1 j) = ∑ i : Fin 4096, f i j := by
  rw [← sums_all]
  have h (q : FVec Ideal Cert.MixBwdIdeal.S8x1024 .f32) : (gainOf q : S1024.Idx → EReal) (ix1 j)
      = ∑ r : Fin 8, (q : Cert.MixBwdIdeal.S8x1024.Idx → EReal) (ix2 r j) := by
    pointwise [gainOf]
  exact h _

end Entries

end Cert.MixBwdRIdeal.Prod

namespace Cert.Proof

open Idealize.ShloMosaic Idealize.ShloMosaic.TcCoe Idealize.ShloMosaic.Tactic Idealize.SL.Sem
open Cert.MixBwdIdeal.Prod Cert.MixBwdRIdeal.Prod Cert.NormMath Cert.MixMath

theorem frame_mix_bwd_reference : Cert.quiescent_MixBwdRIdeal := fun m ρ _ =>
  (θ_run (Cert.MixBwdRIdeal.defs (F := Ideal)) _ _).mono
    (fun _ h => ⟨fun c => (h c).2.2.2.2.2.2, sem_eq_zero_of_no_sems rfl _⟩) (Cert.MixBwdRIdeal.Value.run m ρ)

variable (m : (ℓ : Loc Cert.MixBwdIdeal.nD Cert.MixBwdIdeal.τ Cert.MixBwdIdeal.sig) → Buf (Elt Ideal) ℓ) (c : Dev Cert.MixBwdIdeal.nD)

/-- The reference's arrays, of the arguments. -/
abbrev gatedR : FVec Ideal Cert.MixBwdRIdeal.S4096x1024 .f32 := gatedTerm (inY m c) (inL m c) (inB m c)
abbrev secondR : FVec Ideal Cert.MixBwdRIdeal.S4096x1024 .f32 := normTerm (gatedR m c) (highTerm (inD m c)) (inH m c)
abbrev gateR : FVec Ideal Cert.MixBwdRIdeal.S4096x1024 .f32 := dgateTerm (unitTerm (inY m c)) (secondR m c) (openTerm (inL m c) (inB m c))
abbrev firstR : FVec Ideal Cert.MixBwdRIdeal.S4096x1024 .f32 := normTerm (inA m c) (lowTerm (inD m c)) (inG m c)

section Entries

variable (i : Fin 4096) (j : Fin 1024)

theorem mix_first_at : (firstR m c : Cert.MixBwdRIdeal.S4096x1024.Idx → EReal) (ix2 i j) = firstE m c i j := by
  refine (norm_at _ _ _ i j).trans ?_
  simp only [low_at]
  rfl

theorem mix_second_at : (secondR m c : Cert.MixBwdRIdeal.S4096x1024.Idx → EReal) (ix2 i j) = secondE m c i j := by
  refine (norm_at _ _ _ i j).trans ?_
  simp only [high_at, gated_at]
  rfl

theorem mix_gate_at : (gateR m c : Cert.MixBwdRIdeal.S4096x1024.Idx → EReal) (ix2 i j) = gateE m c i j := by
  refine (Cert.MixBwdRIdeal.Prod.dgate_at _ _ _ i j).trans ?_
  rw [mix_second_at, unit_at, open_at]
  rfl

theorem mix_unit_at :
    (mulf (F := Ideal) (secondR m c) (openTerm (inL m c) (inB m c)) : Cert.MixBwdRIdeal.S4096x1024.Idx → EReal) (ix2 i j) = unitE m c i j := by
  refine Eq.trans (b := (secondR m c : Cert.MixBwdRIdeal.S4096x1024.Idx → EReal) (ix2 i j)
    * (openTerm (inL m c) (inB m c) : Cert.MixBwdRIdeal.S4096x1024.Idx → EReal) (ix2 i j)) rfl ?_
  rw [mix_second_at, open_at]
  rfl

theorem mix_termG_at :
    (shareTerm (inA m c) (lowTerm (inD m c)) (meansTerm (inA m c)) : Cert.MixBwdRIdeal.S4096x1024.Idx → EReal) (ix2 i j) = termG m c i j := by
  refine (share_at _ _ i j).trans ?_
  simp only [low_at]
  rfl

theorem mix_termH_at :
    (shareTerm (gatedR m c) (highTerm (inD m c)) (meansTerm (gatedR m c)) : Cert.MixBwdRIdeal.S4096x1024.Idx → EReal) (ix2 i j) = termH m c i j := by
  refine (share_at _ _ i j).trans ?_
  simp only [high_at, gated_at]
  rfl

end Entries

theorem mix_first : (firstR m c : Cert.MixBwdRIdeal.S4096x1024.Idx → EReal) = whole (firstE m c) := by
  funext y
  idx_vars y
  exact mix_first_at m c _ _

theorem mix_gate : (truncf (F := Ideal) .bf16 (gateR m c) Cert.MixBwdRIdeal.Gen.bitsLt_bf16_f32 : Cert.MixBwdRIdeal.S4096x1024.Idx → EReal)
    = whole (gateE m c) := by
  funext y
  idx_vars y
  exact mix_gate_at m c _ _

theorem mix_unit : (mulf (F := Ideal) (secondR m c) (openTerm (inL m c) (inB m c)) : Cert.MixBwdRIdeal.S4096x1024.Idx → EReal)
    = whole (unitE m c) := by
  funext y
  idx_vars y
  exact mix_unit_at m c _ _

theorem mix_sum (x : FVec Ideal Cert.MixBwdRIdeal.S4096x1024 .f32) (f : Fin 4096 → Fin 1024 → EReal)
    (h : ∀ i j, (x : Cert.MixBwdRIdeal.S4096x1024.Idx → EReal) (ix2 i j) = f i j) :
    (sumTerm x : Cert.MixBwdRIdeal.S1024.Idx → EReal) = gainOf (partials f) := by
  funext y
  idx_vars y
  refine (sum_at _ _).trans (Eq.trans ?_ (of_gains _ _).symm)
  exact Finset.sum_congr rfl fun i _ => h i _

theorem mix_gainG : (sumTerm (shareTerm (inA m c) (lowTerm (inD m c)) (meansTerm (inA m c))) : Cert.MixBwdRIdeal.S1024.Idx → EReal)
    = gainOf (partials (termG m c)) := mix_sum _ _ (mix_termG_at m c)
theorem mix_gainH : (sumTerm (shareTerm (gatedR m c) (highTerm (inD m c)) (meansTerm (gatedR m c))) : Cert.MixBwdRIdeal.S1024.Idx → EReal)
    = gainOf (partials (termH m c)) := mix_sum _ _ (mix_termH_at m c)
theorem mix_bias : (sumTerm (gateR m c) : Cert.MixBwdRIdeal.S1024.Idx → EReal) = gainOf (partials (gateE m c)) :=
  mix_sum _ _ (mix_gate_at m c)

theorem equal_mix_bwd : Cert.algebraic_MixBwdIdeal_MixBwdRIdeal := fun m g m' g' _ hm =>
  ⟨fun c => whole (firstE m c), fun c => whole (gateE m c), fun c => whole (unitE m c), fun c => gainOf (partials (termG m c)),
   fun c => gainOf (partials (termH m c)), fun c => gainOf (partials (gateE m c)), run m g,
   (θ_run (Cert.MixBwdRIdeal.defs (F := Ideal)) _ _).mono (fun r h c => ⟨
      (h c).1.trans (by
        unfold Cert.MixBwdRIdeal.Value.res_main_v106
        rw [(hm c).1, (hm c).2.2.2.2.1, (hm c).2.2.2.2.2.2]
        exact mix_first m c),
      (h c).2.1.trans (by
        unfold Cert.MixBwdRIdeal.Value.res_main_v107
        rw [(hm c).2.1, (hm c).2.2.1, (hm c).2.2.2.1, (hm c).2.2.2.2.2.1, (hm c).2.2.2.2.2.2]
        exact mix_gate m c),
      (h c).2.2.1.trans (by
        unfold Cert.MixBwdRIdeal.Value.res_main_v82
        rw [(hm c).2.1, (hm c).2.2.1, (hm c).2.2.2.1, (hm c).2.2.2.2.2.1, (hm c).2.2.2.2.2.2]
        exact mix_unit m c),
      (h c).2.2.2.1.trans (by
        rw [(hm c).1, (hm c).2.2.2.2.2.2]
        exact mix_gainG m c),
      (h c).2.2.2.2.1.trans (by
        rw [(hm c).2.1, (hm c).2.2.1, (hm c).2.2.2.1, (hm c).2.2.2.2.2.2]
        exact mix_gainH m c),
      (h c).2.2.2.2.2.1.trans (by
        unfold Cert.MixBwdRIdeal.Value.res_main_v86
        rw [(hm c).2.1, (hm c).2.2.1, (hm c).2.2.2.1, (hm c).2.2.2.2.2.1, (hm c).2.2.2.2.2.2]
        exact mix_bias m c),
      (h c).2.2.2.2.2.2⟩)
     (Cert.MixBwdRIdeal.Value.run m' g')⟩

end Cert.Proof

end
-- ==== Proof.S5MmRun.lean ====
/- The kernel's run with every buffer after it named: the launch set-up of the generated frame, its last thread state
   read against the final memory. -/
module

public import proofs.«01_k».proof.Proof.Gen.S5MmIdeal.Frame

@[expose] public section

set_option maxRecDepth 16384

noncomputable section

namespace Cert.S5MmIdeal.Prod

open Cert.S5MmIdeal Cert.S5MmIdeal.Gen Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every unscoped buffer holds what the last boundary's contents say. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c b hb => h c _ (mem_uc b hb))

end Cert.S5MmIdeal.Prod
-- ==== Proof.S5MmBlock.lean ====
/- The S5 core's products, block by block: sixteen groups' tiles of a block are the products of its groups. -/
module

public import proofs.«01_k».proof.Proof.Gen.S5MmIdeal.Frame
public import Idealize.ShloMosaic.Lib.Pointwise
public import Idealize.ShloMosaic.Lib.WholeRead
public import Idealize.ShloMosaic.Lib.Pipeline.ValueKit

@[expose] public section

set_option maxRecDepth 16384

noncomputable section

namespace Cert.S5MmIdeal.Prod

open Cert.S5MmIdeal Cert.S5MmIdeal.Gen
open Idealize.ShloMosaic Idealize.ShloMosaic.TcCoe Idealize.ShloMosaic.Tactic Idealize.SL.Sem

/-- A block's column: its group and its place in the group; and the column of a place of a group. -/
def grp (q : Fin 4096) : Fin 16 := ⟨q.val / 256, by omega⟩
def off (q : Fin 4096) : Fin 256 := ⟨q.val % 256, by omega⟩
def pos (e : Fin 16) (k : Fin 256) : Fin 4096 := ⟨e.val * 256 + k.val, by omega⟩

theorem grp_pos (e : Fin 16) (k : Fin 256) : grp (pos e k) = e := Fin.ext (by simp only [grp, pos]; omega)
theorem off_pos (e : Fin 16) (k : Fin 256) : off (pos e k) = k := Fin.ext (by simp only [off, pos]; omega)

/-- A group's rows times its matrix, times the matrix's transpose, and the transpose of rows times rows. -/
def nn (a : S256x4096.Idx → EReal) (w : S16x256x256.Idx → EReal) (y : S256x4096.Idx) : EReal :=
  ∑ k : Fin 256, a (ix2 (y 0) (pos (grp (y 1)) k)) * w (ix3 (grp (y 1)) k (off (y 1)))
def nt (a : S256x4096.Idx → EReal) (w : S16x256x256.Idx → EReal) (y : S256x4096.Idx) : EReal :=
  ∑ k : Fin 256, a (ix2 (y 0) (pos (grp (y 1)) k)) * w (ix3 (grp (y 1)) (off (y 1)) k)
def tn (a b : S256x4096.Idx → EReal) (y : S16x256x256.Idx) : EReal :=
  ∑ k : Fin 256, a (ix2 k (pos (y 0) (y 1))) * b (ix2 k (pos (y 0) (y 2)))

/-- A product with what it is added to. -/
def plus (p a : EReal) : EReal := p + a

theorem col_inb (e : Fin 16) : ∀ a, (![0, e.val * 256] : Fin 2 → Nat) a + S256x256.size a ≤ S256x4096.size a := by
  revert e; decide
theorem mat_inb (e : Fin 16) : ∀ a, (![e.val, 0, 0] : Fin 3 → Nat) a + S1x256x256.size a ≤ S16x256x256.size a := by
  revert e; decide

/-- A group's columns of a block, and its matrix. -/
abbrev cols (e : Fin 16) : Rect S256x4096 := Rect.unit (s := S256x4096) ![0, e.val * 256] S256x256.size (col_inb e)
abbrev mat (e : Fin 16) : Rect S16x256x256 := Rect.unit (s := S16x256x256) ![e.val, 0, 0] S1x256x256.size (mat_inb e)

theorem cols_emb (e : Fin 16) (i j : Fin 256) : (cols e).emb (ix2 i j) = ix2 i (pos e j) := by
  funext d
  apply Fin.ext
  blk_simp
  fin_cases d <;> simp [ix2, pos]

theorem mat_emb (e : Fin 16) (z : Fin 1) (i j : Fin 256) : (mat e).emb (ix3 z i j) = ix3 e i j := by
  funext d
  apply Fin.ext
  blk_simp
  fin_cases d <;> simp [ix3]

theorem ld_cols {e : EltTy} (x : Vec Ideal S256x4096 e) (g : Fin 16) (i j : Fin 256) :
    View.ld x (cols g) (ix2 i j) = x (ix2 i (pos g j)) := congrArg x (cols_emb g i j)
theorem ld_mat {e : EltTy} (x : Vec Ideal S16x256x256 e) (g : Fin 16) (z : Fin 1) (i j : Fin 256) :
    View.ld x (mat g) (ix3 z i j) = x (ix3 g i j) := congrArg x (mat_emb g z i j)

theorem pay0_at (x0 : Vec Ideal S256x256 .bf16) (x1 : Vec Ideal S1x256x256 .bf16) (i j : Fin 256) :
    (k0_pay1 x0 x1 : S256x256.Idx → EReal) (ix2 i j)
      = (∑ k : Fin 256, (x0 : S256x256.Idx → EReal) (ix2 i k) * (x1 : S1x256x256.Idx → EReal) (ix3 0 k j)) := by
  pointwise [k0_pay1]

theorem tile0 (x0 : Vec Ideal S256x4096 .bf16) (x1 : Vec Ideal S16x256x256 .bf16) (e : Fin 16) (x : S256x256.Idx) :
    (k0_pay1 (View.ld x0 (cols e)) (View.ld x1 (mat e)) : S256x256.Idx → EReal) x = nn x0 x1 ((cols e).emb x) := by
  obtain ⟨i, j, rfl⟩ : ∃ (i j : Fin 256), x = ix2 i j := ⟨x 0, x 1, eq_ix2 x⟩
  rw [cols_emb, pay0_at]
  unfold nn
  refine Finset.sum_congr rfl fun k _ => ?_
  rw [ld_cols, ld_mat]
  show _ = x0 (ix2 i (pos (grp (pos e j)) k)) * x1 (ix3 (grp (pos e j)) k (off (pos e j)))
  rw [grp_pos, off_pos]

/-- Rows times a matrix: what the call leaves in a block. -/
theorem block0 (x0 : Vec Ideal S256x4096 .bf16) (x1 : Vec Ideal S16x256x256 .bf16) (y : S256x4096.Idx) :
    (out0_2 x0 x1 : S256x4096.Idx → EReal) y = nn x0 x1 y := by
  unfold out0_2
  refine View.canon_apply_of_pieces (Val := Elt Ideal) (nn x0 x1) _ ?_ y (cover0_2 _ _ _ _ _ _ _ _ _ _ _ _ _ _ _ _ y)
  exact List.forall_mem_cons.2 ⟨tile0 x0 x1 15, List.forall_mem_cons.2 ⟨tile0 x0 x1 14, List.forall_mem_cons.2 ⟨tile0 x0 x1 13, List.forall_mem_cons.2 ⟨tile0 x0 x1 12, List.forall_mem_cons.2 ⟨tile0 x0 x1 11, List.forall_mem_cons.2 ⟨tile0 x0 x1 10, List.forall_mem_cons.2 ⟨tile0 x0 x1 9, List.forall_mem_cons.2 ⟨tile0 x0 x1 8, List.forall_mem_cons.2 ⟨tile0 x0 x1 7, List.forall_mem_cons.2 ⟨tile0 x0 x1 6, List.forall_mem_cons.2 ⟨tile0 x0 x1 5, List.forall_mem_cons.2 ⟨tile0 x0 x1 4, List.forall_mem_cons.2 ⟨tile0 x0 x1 3, List.forall_mem_cons.2 ⟨tile0 x0 x1 2, List.forall_mem_cons.2 ⟨tile0 x0 x1 1, List.forall_mem_cons.2 ⟨tile0 x0 x1 0, List.forall_mem_nil _⟩⟩⟩⟩⟩⟩⟩⟩⟩⟩⟩⟩⟩⟩⟩⟩

theorem pay1_at (x0 : Vec Ideal S256x256 .bf16) (x1 : Vec Ideal S1x256x256 .bf16) (i j : Fin 256) :
    (k1_pay1 x0 x1 : S256x256.Idx → EReal) (ix2 i j)
      = (∑ k : Fin 256, (x0 : S256x256.Idx → EReal) (ix2 i k) * (x1 : S1x256x256.Idx → EReal) (ix3 0 j k)) := by
  pointwise [k1_pay1]

theorem tile1 (x0 : Vec Ideal S256x4096 .bf16) (x1 : Vec Ideal S16x256x256 .bf16) (e : Fin 16) (x : S256x256.Idx) :
    (k1_pay1 (View.ld x0 (cols e)) (View.ld x1 (mat e)) : S256x256.Idx → EReal) x = nt x0 x1 ((cols e).emb x) := by
  obtain ⟨i, j, rfl⟩ : ∃ (i j : Fin 256), x = ix2 i j := ⟨x 0, x 1, eq_ix2 x⟩
  rw [cols_emb, pay1_at]
  unfold nt
  refine Finset.sum_congr rfl fun k _ => ?_
  rw [ld_cols, ld_mat]
  show _ = x0 (ix2 i (pos (grp (pos e j)) k)) * x1 (ix3 (grp (pos e j)) (off (pos e j)) k)
  rw [grp_pos, off_pos]

/-- Rows times a matrix's transpose: what the call leaves in a block. -/
theorem block1 (x0 : Vec Ideal S256x4096 .bf16) (x1 : Vec Ideal S16x256x256 .bf16) (y : S256x4096.Idx) :
    (out1_2 x0 x1 : S256x4096.Idx → EReal) y = nt x0 x1 y := by
  unfold out1_2
  refine View.canon_apply_of_pieces (Val := Elt Ideal) (nt x0 x1) _ ?_ y (cover1_2 _ _ _ _ _ _ _ _ _ _ _ _ _ _ _ _ y)
  exact List.forall_mem_cons.2 ⟨tile1 x0 x1 15, List.forall_mem_cons.2 ⟨tile1 x0 x1 14, List.forall_mem_cons.2 ⟨tile1 x0 x1 13, List.forall_mem_cons.2 ⟨tile1 x0 x1 12, List.forall_mem_cons.2 ⟨tile1 x0 x1 11, List.forall_mem_cons.2 ⟨tile1 x0 x1 10, List.forall_mem_cons.2 ⟨tile1 x0 x1 9, List.forall_mem_cons.2 ⟨tile1 x0 x1 8, List.forall_mem_cons.2 ⟨tile1 x0 x1 7, List.forall_mem_cons.2 ⟨tile1 x0 x1 6, List.forall_mem_cons.2 ⟨tile1 x0 x1 5, List.forall_mem_cons.2 ⟨tile1 x0 x1 4, List.forall_mem_cons.2 ⟨tile1 x0 x1 3, List.forall_mem_cons.2 ⟨tile1 x0 x1 2, List.forall_mem_cons.2 ⟨tile1 x0 x1 1, List.forall_mem_cons.2 ⟨tile1 x0 x1 0, List.forall_mem_nil _⟩⟩⟩⟩⟩⟩⟩⟩⟩⟩⟩⟩⟩⟩⟩⟩

theorem pay2_at (x0 : Vec Ideal S256x256 .f32) (x1 : Vec Ideal S1x256x256 .bf16) (x2 : Vec Ideal S256x256 .f32) (i j : Fin 256) :
    (k2_pay3 x0 x1 x2 : S256x256.Idx → EReal) (ix2 i j)
      = plus (∑ k : Fin 256, (x0 : S256x256.Idx → EReal) (ix2 i k) * (x1 : S1x256x256.Idx → EReal) (ix3 0 j k)) ((x2 : S256x256.Idx → EReal) (ix2 i j)) := by
  unfold plus
  pointwise [k2_pay3]

theorem tile2 (x0 : Vec Ideal S256x4096 .f32) (x1 : Vec Ideal S16x256x256 .bf16) (x2 : Vec Ideal S256x4096 .f32) (e : Fin 16) (x : S256x256.Idx) :
    (k2_pay3 (View.ld x0 (cols e)) (View.ld x1 (mat e)) (View.ld x2 (cols e)) : S256x256.Idx → EReal) x = plus (nt x0 x1 ((cols e).emb x)) (x2 ((cols e).emb x)) := by
  obtain ⟨i, j, rfl⟩ : ∃ (i j : Fin 256), x = ix2 i j := ⟨x 0, x 1, eq_ix2 x⟩
  rw [cols_emb, pay2_at]
  unfold nt
  rw [ld_cols x2]
  refine congrArg (plus · _) ?_
  refine Finset.sum_congr rfl fun k _ => ?_
  rw [ld_cols, ld_mat]
  show _ = x0 (ix2 i (pos (grp (pos e j)) k)) * x1 (ix3 (grp (pos e j)) (off (pos e j)) k)
  rw [grp_pos, off_pos]

/-- The same over what it is added to: what the call leaves in a block. -/
theorem block2 (x0 : Vec Ideal S256x4096 .f32) (x1 : Vec Ideal S16x256x256 .bf16) (x2 : Vec Ideal S256x4096 .f32) (y : S256x4096.Idx) :
    (out2_3 x0 x1 x2 : S256x4096.Idx → EReal) y = (fun z => plus (nt x0 x1 z) (x2 z)) y := by
  unfold out2_3
  refine View.canon_apply_of_pieces (Val := Elt Ideal) (fun z => plus (nt x0 x1 z) (x2 z)) _ ?_ y (cover2_3 _ _ _ _ _ _ _ _ _ _ _ _ _ _ _ _ y)
  exact List.forall_mem_cons.2 ⟨tile2 x0 x1 x2 15, List.forall_mem_cons.2 ⟨tile2 x0 x1 x2 14, List.forall_mem_cons.2 ⟨tile2 x0 x1 x2 13, List.forall_mem_cons.2 ⟨tile2 x0 x1 x2 12, List.forall_mem_cons.2 ⟨tile2 x0 x1 x2 11, List.forall_mem_cons.2 ⟨tile2 x0 x1 x2 10, List.forall_mem_cons.2 ⟨tile2 x0 x1 x2 9, List.forall_mem_cons.2 ⟨tile2 x0 x1 x2 8, List.forall_mem_cons.2 ⟨tile2 x0 x1 x2 7, List.forall_mem_cons.2 ⟨tile2 x0 x1 x2 6, List.forall_mem_cons.2 ⟨tile2 x0 x1 x2 5, List.forall_mem_cons.2 ⟨tile2 x0 x1 x2 4, List.forall_mem_cons.2 ⟨tile2 x0 x1 x2 3, List.forall_mem_cons.2 ⟨tile2 x0 x1 x2 2, List.forall_mem_cons.2 ⟨tile2 x0 x1 x2 1, List.forall_mem_cons.2 ⟨tile2 x0 x1 x2 0, List.forall_mem_nil _⟩⟩⟩⟩⟩⟩⟩⟩⟩⟩⟩⟩⟩⟩⟩⟩

theorem pay3_at (x0 : Vec Ideal S256x256 .bf16) (x1 : Vec Ideal S256x256 .bf16) (z : Fin 1) (i j : Fin 256) :
    (k3_pay3 x0 x1 : S1x256x256.Idx → EReal) (ix3 z i j)
      = ∑ k : Fin 256, (x0 : S256x256.Idx → EReal) (ix2 k i) * (x1 : S256x256.Idx → EReal) (ix2 k j) := by
  pointwise [k3_pay3]

theorem tile3 (x0 : Vec Ideal S256x4096 .bf16) (x1 : Vec Ideal S256x4096 .bf16) (e : Fin 16) (x : S1x256x256.Idx) :
    (k3_pay3 (View.ld x0 (cols e)) (View.ld x1 (cols e)) : S1x256x256.Idx → EReal) x = tn x0 x1 ((mat e).emb x) := by
  obtain ⟨z, i, j, rfl⟩ : ∃ (z : Fin 1) (i j : Fin 256), x = ix3 z i j := ⟨x 0, x 1, x 2, eq_ix3 x⟩
  rw [mat_emb, pay3_at]
  unfold tn
  refine Finset.sum_congr rfl fun k _ => ?_
  rw [ld_cols, ld_cols]
  rfl

/-- Transposed rows times rows: what the call leaves in a block. -/
theorem block3 (x0 : Vec Ideal S256x4096 .bf16) (x1 : Vec Ideal S256x4096 .bf16) (y : S16x256x256.Idx) :
    (out3_2 x0 x1 : S16x256x256.Idx → EReal) y = tn x0 x1 y := by
  unfold out3_2
  refine View.canon_apply_of_pieces (Val := Elt Ideal) (tn x0 x1) _ ?_ y (cover3_2 _ _ _ _ _ _ _ _ _ _ _ _ _ _ _ _ y)
  exact List.forall_mem_cons.2 ⟨tile3 x0 x1 15, List.forall_mem_cons.2 ⟨tile3 x0 x1 14, List.forall_mem_cons.2 ⟨tile3 x0 x1 13, List.forall_mem_cons.2 ⟨tile3 x0 x1 12, List.forall_mem_cons.2 ⟨tile3 x0 x1 11, List.forall_mem_cons.2 ⟨tile3 x0 x1 10, List.forall_mem_cons.2 ⟨tile3 x0 x1 9, List.forall_mem_cons.2 ⟨tile3 x0 x1 8, List.forall_mem_cons.2 ⟨tile3 x0 x1 7, List.forall_mem_cons.2 ⟨tile3 x0 x1 6, List.forall_mem_cons.2 ⟨tile3 x0 x1 5, List.forall_mem_cons.2 ⟨tile3 x0 x1 4, List.forall_mem_cons.2 ⟨tile3 x0 x1 3, List.forall_mem_cons.2 ⟨tile3 x0 x1 2, List.forall_mem_cons.2 ⟨tile3 x0 x1 1, List.forall_mem_cons.2 ⟨tile3 x0 x1 0, List.forall_mem_nil _⟩⟩⟩⟩⟩⟩⟩⟩⟩⟩⟩⟩⟩⟩⟩⟩

theorem pay4_at (x0 : Vec Ideal S256x256 .bf16) (x1 : Vec Ideal S256x256 .f32) (z : Fin 1) (i j : Fin 256) :
    (k4_pay3 x0 x1 : S1x256x256.Idx → EReal) (ix3 z i j)
      = ∑ k : Fin 256, (x0 : S256x256.Idx → EReal) (ix2 k i) * (x1 : S256x256.Idx → EReal) (ix2 k j) := by
  pointwise [k4_pay3]

theorem tile4 (x0 : Vec Ideal S256x4096 .bf16) (x1 : Vec Ideal S256x4096 .f32) (e : Fin 16) (x : S1x256x256.Idx) :
    (k4_pay3 (View.ld x0 (cols e)) (View.ld x1 (cols e)) : S1x256x256.Idx → EReal) x = tn x0 x1 ((mat e).emb x) := by
  obtain ⟨z, i, j, rfl⟩ : ∃ (z : Fin 1) (i j : Fin 256), x = ix3 z i j := ⟨x 0, x 1, x 2, eq_ix3 x⟩
  rw [mat_emb, pay4_at]
  unfold tn
  refine Finset.sum_congr rfl fun k _ => ?_
  rw [ld_cols, ld_cols]
  rfl

/-- The same, the right rows given at full width: what the call leaves in a block. -/
theorem block4 (x0 : Vec Ideal S256x4096 .bf16) (x1 : Vec Ideal S256x4096 .f32) (y : S16x256x256.Idx) :
    (out4_2 x0 x1 : S16x256x256.Idx → EReal) y = tn x0 x1 y := by
  unfold out4_2
  refine View.canon_apply_of_pieces (Val := Elt Ideal) (tn x0 x1) _ ?_ y (cover4_2 _ _ _ _ _ _ _ _ _ _ _ _ _ _ _ _ y)
  exact List.forall_mem_cons.2 ⟨tile4 x0 x1 15, List.forall_mem_cons.2 ⟨tile4 x0 x1 14, List.forall_mem_cons.2 ⟨tile4 x0 x1 13, List.forall_mem_cons.2 ⟨tile4 x0 x1 12, List.forall_mem_cons.2 ⟨tile4 x0 x1 11, List.forall_mem_cons.2 ⟨tile4 x0 x1 10, List.forall_mem_cons.2 ⟨tile4 x0 x1 9, List.forall_mem_cons.2 ⟨tile4 x0 x1 8, List.forall_mem_cons.2 ⟨tile4 x0 x1 7, List.forall_mem_cons.2 ⟨tile4 x0 x1 6, List.forall_mem_cons.2 ⟨tile4 x0 x1 5, List.forall_mem_cons.2 ⟨tile4 x0 x1 4, List.forall_mem_cons.2 ⟨tile4 x0 x1 3, List.forall_mem_cons.2 ⟨tile4 x0 x1 2, List.forall_mem_cons.2 ⟨tile4 x0 x1 1, List.forall_mem_cons.2 ⟨tile4 x0 x1 0, List.forall_mem_nil _⟩⟩⟩⟩⟩⟩⟩⟩⟩⟩⟩⟩⟩⟩⟩⟩

theorem pay5_at (x0 : Vec Ideal S256x256 .bf16) (x1 : Vec Ideal S256x256 .f32) (z : Fin 1) (i j : Fin 256) :
    (k5_pay3 x0 x1 : S1x256x256.Idx → EReal) (ix3 z i j)
      = ∑ k : Fin 256, (x0 : S256x256.Idx → EReal) (ix2 k i) * (x1 : S256x256.Idx → EReal) (ix2 k j) := by
  pointwise [k5_pay3]

theorem tile5 (x0 : Vec Ideal S256x4096 .bf16) (x1 : Vec Ideal S256x4096 .f32) (e : Fin 16) (x : S1x256x256.Idx) :
    (k5_pay3 (View.ld x0 (cols e)) (View.ld x1 (cols e)) : S1x256x256.Idx → EReal) x = tn x0 x1 ((mat e).emb x) := by
  obtain ⟨z, i, j, rfl⟩ : ∃ (z : Fin 1) (i j : Fin 256), x = ix3 z i j := ⟨x 0, x 1, x 2, eq_ix3 x⟩
  rw [mat_emb, pay5_at]
  unfold tn
  refine Finset.sum_congr rfl fun k _ => ?_
  rw [ld_cols, ld_cols]
  rfl

/-- The same for the third gradient: what the call leaves in a block. -/
theorem block5 (x0 : Vec Ideal S256x4096 .bf16) (x1 : Vec Ideal S256x4096 .f32) (y : S16x256x256.Idx) :
    (out5_2 x0 x1 : S16x256x256.Idx → EReal) y = tn x0 x1 y := by
  unfold out5_2
  refine View.canon_apply_of_pieces (Val := Elt Ideal) (tn x0 x1) _ ?_ y (cover5_2 _ _ _ _ _ _ _ _ _ _ _ _ _ _ _ _ y)
  exact List.forall_mem_cons.2 ⟨tile5 x0 x1 15, List.forall_mem_cons.2 ⟨tile5 x0 x1 14, List.forall_mem_cons.2 ⟨tile5 x0 x1 13, List.forall_mem_cons.2 ⟨tile5 x0 x1 12, List.forall_mem_cons.2 ⟨tile5 x0 x1 11, List.forall_mem_cons.2 ⟨tile5 x0 x1 10, List.forall_mem_cons.2 ⟨tile5 x0 x1 9, List.forall_mem_cons.2 ⟨tile5 x0 x1 8, List.forall_mem_cons.2 ⟨tile5 x0 x1 7, List.forall_mem_cons.2 ⟨tile5 x0 x1 6, List.forall_mem_cons.2 ⟨tile5 x0 x1 5, List.forall_mem_cons.2 ⟨tile5 x0 x1 4, List.forall_mem_cons.2 ⟨tile5 x0 x1 3, List.forall_mem_cons.2 ⟨tile5 x0 x1 2, List.forall_mem_cons.2 ⟨tile5 x0 x1 1, List.forall_mem_cons.2 ⟨tile5 x0 x1 0, List.forall_mem_nil _⟩⟩⟩⟩⟩⟩⟩⟩⟩⟩⟩⟩⟩⟩⟩⟩

end Cert.S5MmIdeal.Prod

end
-- ==== Proof.S5MmArr.lean ====
/- The S5 core's six products: what each call leaves in its output array, from the arrays it reads. -/
module

public import proofs.«01_k».proof.Proof.S5MmBlock
public import Idealize.ShloMosaic.Lib.WholeRead
public import Idealize.ShloMosaic.Lib.Pipeline.ValueKit

@[expose] public section

set_option maxRecDepth 16384

noncomputable section

namespace Cert.S5MmIdeal.Prod

open Cert.S5MmIdeal Cert.S5MmIdeal.Gen
open Idealize.ShloMosaic Idealize.ShloMosaic.TcCoe Idealize.ShloMosaic.Tactic Idealize.SL.Sem

/-- A column of the whole array: its group and its place in the group; and the column of a place of a group. -/
def group (q : Fin 16384) : Fin 64 := ⟨q.val / 256, by omega⟩
def place (q : Fin 16384) : Fin 256 := ⟨q.val % 256, by omega⟩
def chan (g : Fin 64) (k : Fin 256) : Fin 16384 := ⟨g.val * 256 + k.val, by omega⟩

/-- The column and the group that point `t`'s block holds at a column and a group of the block. -/
def colAt (t : Fin 4) (q : Fin 4096) : Fin 16384 := ⟨t.val * 4096 + q.val, by omega⟩
def grpAt (t : Fin 4) (e : Fin 16) : Fin 64 := ⟨t.val * 16 + e.val, by omega⟩

theorem group_colAt (t : Fin 4) (q : Fin 4096) : group (colAt t q) = grpAt t (grp q) :=
  Fin.ext (by simp only [group, colAt, grpAt, grp]; omega)
theorem place_colAt (t : Fin 4) (q : Fin 4096) : place (colAt t q) = off q :=
  Fin.ext (by simp only [place, colAt, off]; omega)
theorem colAt_pos (t : Fin 4) (e : Fin 16) (k : Fin 256) : colAt t (pos e k) = chan (grpAt t e) k :=
  Fin.ext (by simp only [colAt, pos, chan, grpAt]; omega)

/-- Each group's rows times its matrix, times the matrix's transpose, and its transposed rows times its rows. -/
def rowsMat (a : S256x16384.Idx → EReal) (w : S64x256x256.Idx → EReal) (y : S256x16384.Idx) : EReal :=
  ∑ k : Fin 256, a (ix2 (y 0) (chan (group (y 1)) k)) * w (ix3 (group (y 1)) k (place (y 1)))
def rowsMatT (a : S256x16384.Idx → EReal) (w : S64x256x256.Idx → EReal) (y : S256x16384.Idx) : EReal :=
  ∑ k : Fin 256, a (ix2 (y 0) (chan (group (y 1)) k)) * w (ix3 (group (y 1)) (place (y 1)) k)
def rowsRows (a b : S256x16384.Idx → EReal) (y : S64x256x256.Idx) : EReal :=
  ∑ k : Fin 256, a (ix2 k (chan (y 0) (y 1))) * b (ix2 k (chan (y 0) (y 2)))

/-- A block's products are the arrays' at its columns and groups. -/
theorem nn_eq {a : S256x4096.Idx → EReal} {w : S16x256x256.Idx → EReal} {A : S256x16384.Idx → EReal} {W : S64x256x256.Idx → EReal}
    (t : Fin 4) (ha : ∀ i q, a (ix2 i q) = A (ix2 i (colAt t q))) (hw : ∀ e i j, w (ix3 e i j) = W (ix3 (grpAt t e) i j))
    (i : Fin 256) (q : Fin 4096) : nn a w (ix2 i q) = rowsMat A W (ix2 i (colAt t q)) := by
  show ∑ k : Fin 256, a (ix2 i (pos (grp q) k)) * w (ix3 (grp q) k (off q))
    = ∑ k : Fin 256, A (ix2 i (chan (group (colAt t q)) k)) * W (ix3 (group (colAt t q)) k (place (colAt t q)))
  simp only [ha, hw, group_colAt, place_colAt, colAt_pos]

theorem nt_eq {a : S256x4096.Idx → EReal} {w : S16x256x256.Idx → EReal} {A : S256x16384.Idx → EReal} {W : S64x256x256.Idx → EReal}
    (t : Fin 4) (ha : ∀ i q, a (ix2 i q) = A (ix2 i (colAt t q))) (hw : ∀ e i j, w (ix3 e i j) = W (ix3 (grpAt t e) i j))
    (i : Fin 256) (q : Fin 4096) : nt a w (ix2 i q) = rowsMatT A W (ix2 i (colAt t q)) := by
  show ∑ k : Fin 256, a (ix2 i (pos (grp q) k)) * w (ix3 (grp q) (off q) k)
    = ∑ k : Fin 256, A (ix2 i (chan (group (colAt t q)) k)) * W (ix3 (group (colAt t q)) (place (colAt t q)) k)
  simp only [ha, hw, group_colAt, place_colAt, colAt_pos]

theorem tn_eq {a b : S256x4096.Idx → EReal} {A B : S256x16384.Idx → EReal}
    (t : Fin 4) (ha : ∀ i q, a (ix2 i q) = A (ix2 i (colAt t q))) (hb : ∀ i q, b (ix2 i q) = B (ix2 i (colAt t q)))
    (e : Fin 16) (i j : Fin 256) : tn a b (ix3 e i j) = rowsRows A B (ix3 (grpAt t e) i j) := by
  show ∑ k : Fin 256, a (ix2 k (pos e i)) * b (ix2 k (pos e j))
    = ∑ k : Fin 256, A (ix2 k (chan (grpAt t e) i)) * B (ix2 k (chan (grpAt t e) j))
  simp only [ha, hb, colAt_pos]

variable (V : (c : Dev nD) → (b : Ref sig .tc) → Buf (Elt Ideal) ((c : Thread nD τ).loc b)) (c : Dev nD)

theorem index0_0 : ∀ t : Fin grid0.N, win0_0.index t = ![0, t.val] := by decide +kernel
theorem index0_1 : ∀ t : Fin grid0.N, win0_1.index t = ![t.val, 0, 0] := by decide +kernel
theorem index0_2 : ∀ t : Fin grid0.N, win0_2.index t = ![0, t.val] := by decide +kernel
theorem index1_0 : ∀ t : Fin grid1.N, win1_0.index t = ![0, t.val] := by decide +kernel
theorem index1_1 : ∀ t : Fin grid1.N, win1_1.index t = ![t.val, 0, 0] := by decide +kernel
theorem index1_2 : ∀ t : Fin grid1.N, win1_2.index t = ![0, t.val] := by decide +kernel
theorem index2_0 : ∀ t : Fin grid2.N, win2_0.index t = ![0, t.val] := by decide +kernel
theorem index2_1 : ∀ t : Fin grid2.N, win2_1.index t = ![t.val, 0, 0] := by decide +kernel
theorem index2_2 : ∀ t : Fin grid2.N, win2_2.index t = ![0, t.val] := by decide +kernel
theorem index2_3 : ∀ t : Fin grid2.N, win2_3.index t = ![0, t.val] := by decide +kernel
theorem index3_0 : ∀ t : Fin grid3.N, win3_0.index t = ![0, t.val] := by decide +kernel
theorem index3_1 : ∀ t : Fin grid3.N, win3_1.index t = ![0, t.val] := by decide +kernel
theorem index3_2 : ∀ t : Fin grid3.N, win3_2.index t = ![t.val, 0, 0] := by decide +kernel
theorem index4_0 : ∀ t : Fin grid4.N, win4_0.index t = ![0, t.val] := by decide +kernel
theorem index4_1 : ∀ t : Fin grid4.N, win4_1.index t = ![0, t.val] := by decide +kernel
theorem index4_2 : ∀ t : Fin grid4.N, win4_2.index t = ![t.val, 0, 0] := by decide +kernel
theorem index5_0 : ∀ t : Fin grid5.N, win5_0.index t = ![0, t.val] := by decide +kernel
theorem index5_1 : ∀ t : Fin grid5.N, win5_1.index t = ![0, t.val] := by decide +kernel
theorem index5_2 : ∀ t : Fin grid5.N, win5_2.index t = ![t.val, 0, 0] := by decide +kernel

theorem iblk0_0 (t : Fin cfg0.grid.N) (i : Fin 256) (q : Fin 4096) : iblk0 V c 0 t (ix2 i q) = V c main_v4 (ix2 i (colAt t q)) := by
  blk_simp [iblk0]
  congr 1
  funext d
  apply Fin.ext
  fin_cases d <;> simp [ix2, colAt, index0_0]

theorem iblk0_1 (t : Fin cfg0.grid.N) (e : Fin 16) (i j : Fin 256) : iblk0 V c 1 t (ix3 e i j) = V c main_v3 (ix3 (grpAt t e) i j) := by
  blk_simp [iblk0]
  congr 1
  funext d
  apply Fin.ext
  fin_cases d <;> simp [ix3, grpAt, index0_1]

theorem iblk1_0 (t : Fin cfg1.grid.N) (i : Fin 256) (q : Fin 4096) : iblk1 V c 0 t (ix2 i q) = V c main_v4 (ix2 i (colAt t q)) := by
  blk_simp [iblk1]
  congr 1
  funext d
  apply Fin.ext
  fin_cases d <;> simp [ix2, colAt, index1_0]

theorem iblk1_1 (t : Fin cfg1.grid.N) (e : Fin 16) (i j : Fin 256) : iblk1 V c 1 t (ix3 e i j) = V c main_v1 (ix3 (grpAt t e) i j) := by
  blk_simp [iblk1]
  congr 1
  funext d
  apply Fin.ext
  fin_cases d <;> simp [ix3, grpAt, index1_1]

theorem iblk2_0 (t : Fin cfg2.grid.N) (i : Fin 256) (q : Fin 4096) : iblk2 V c 0 t (ix2 i q) = V c main_arg6 (ix2 i (colAt t q)) := by
  blk_simp [iblk2]
  congr 1
  funext d
  apply Fin.ext
  fin_cases d <;> simp [ix2, colAt, index2_0]

theorem iblk2_1 (t : Fin cfg2.grid.N) (e : Fin 16) (i j : Fin 256) : iblk2 V c 1 t (ix3 e i j) = V c main_v2 (ix3 (grpAt t e) i j) := by
  blk_simp [iblk2]
  congr 1
  funext d
  apply Fin.ext
  fin_cases d <;> simp [ix3, grpAt, index2_1]

theorem iblk2_2 (t : Fin cfg2.grid.N) (i : Fin 256) (q : Fin 4096) : iblk2 V c 2 t (ix2 i q) = V c main_v6 (ix2 i (colAt t q)) := by
  blk_simp [iblk2]
  congr 1
  funext d
  apply Fin.ext
  fin_cases d <;> simp [ix2, colAt, index2_2]

theorem iblk3_0 (t : Fin cfg3.grid.N) (i : Fin 256) (q : Fin 4096) : iblk3 V c 0 t (ix2 i q) = V c main_v0 (ix2 i (colAt t q)) := by
  blk_simp [iblk3]
  congr 1
  funext d
  apply Fin.ext
  fin_cases d <;> simp [ix2, colAt, index3_0]

theorem iblk3_1 (t : Fin cfg3.grid.N) (i : Fin 256) (q : Fin 4096) : iblk3 V c 1 t (ix2 i q) = V c main_v4 (ix2 i (colAt t q)) := by
  blk_simp [iblk3]
  congr 1
  funext d
  apply Fin.ext
  fin_cases d <;> simp [ix2, colAt, index3_1]

theorem iblk4_0 (t : Fin cfg4.grid.N) (i : Fin 256) (q : Fin 4096) : iblk4 V c 0 t (ix2 i q) = V c main_v0 (ix2 i (colAt t q)) := by
  blk_simp [iblk4]
  congr 1
  funext d
  apply Fin.ext
  fin_cases d <;> simp [ix2, colAt, index4_0]

theorem iblk4_1 (t : Fin cfg4.grid.N) (i : Fin 256) (q : Fin 4096) : iblk4 V c 1 t (ix2 i q) = V c main_arg6 (ix2 i (colAt t q)) := by
  blk_simp [iblk4]
  congr 1
  funext d
  apply Fin.ext
  fin_cases d <;> simp [ix2, colAt, index4_1]

theorem iblk5_0 (t : Fin cfg5.grid.N) (i : Fin 256) (q : Fin 4096) : iblk5 V c 0 t (ix2 i q) = V c main_v4 (ix2 i (colAt t q)) := by
  blk_simp [iblk5]
  congr 1
  funext d
  apply Fin.ext
  fin_cases d <;> simp [ix2, colAt, index5_0]

theorem iblk5_1 (t : Fin cfg5.grid.N) (i : Fin 256) (q : Fin 4096) : iblk5 V c 1 t (ix2 i q) = V c main_arg1 (ix2 i (colAt t q)) := by
  blk_simp [iblk5]
  congr 1
  funext d
  apply Fin.ext
  fin_cases d <;> simp [ix2, colAt, index5_1]

/-- The gradient the state products send to their states. -/
theorem region0 : (dat0 V c).arrAt 2 cfg0.N = rowsMat (V c main_v4) (V c main_v3) := by
  refine (dat0 V c).arrAt_eq_of_covers 2 _ (by decide +kernel) fun t hf y => ?_
  blk_simp
  rw [after0_2]
  obtain ⟨i, q, rfl⟩ : ∃ (i : Fin 256) (q : Fin 4096), y = ix2 i q := ⟨y 0, y 1, eq_ix2 y⟩
  have he : (win0_2.blk t).view.emb (ix2 i q) = ix2 i (colAt t q) := by
    funext d
    apply Fin.ext
    blk_simp [index0_2]
    fin_cases d <;> simp [ix2, colAt]
  rw [he]
  exact (block0 _ _ _).trans (nn_eq t (iblk0_0 V c t) (iblk0_1 V c t) i q)

/-- The intra-chunk products' share of the gradient of their input. -/
theorem region1 : (dat1 V c).arrAt 2 cfg1.N = rowsMatT (V c main_v4) (V c main_v1) := by
  refine (dat1 V c).arrAt_eq_of_covers 2 _ (by decide +kernel) fun t hf y => ?_
  blk_simp
  rw [after1_2]
  obtain ⟨i, q, rfl⟩ : ∃ (i : Fin 256) (q : Fin 4096), y = ix2 i q := ⟨y 0, y 1, eq_ix2 y⟩
  have he : (win1_2.blk t).view.emb (ix2 i q) = ix2 i (colAt t q) := by
    funext d
    apply Fin.ext
    blk_simp [index1_2]
    fin_cases d <;> simp [ix2, colAt]
  rw [he]
  exact (block1 _ _ _).trans (nt_eq t (iblk1_0 V c t) (iblk1_1 V c t) i q)

/-- The gradient of the input, over that share. -/
theorem region2 : (dat2 V c).arrAt 3 cfg2.N = fun y : S256x16384.Idx =>
    plus (rowsMatT (V c main_arg6) (V c main_v2) y) (V c main_v6 y) := by
  refine (dat2 V c).arrAt_eq_of_covers 3 _ (by decide +kernel) fun t hf y => ?_
  blk_simp
  rw [after2_3]
  obtain ⟨i, q, rfl⟩ : ∃ (i : Fin 256) (q : Fin 4096), y = ix2 i q := ⟨y 0, y 1, eq_ix2 y⟩
  have he : (win2_3.blk t).view.emb (ix2 i q) = ix2 i (colAt t q) := by
    funext d
    apply Fin.ext
    blk_simp [index2_3]
    fin_cases d <;> simp [ix2, colAt]
  rw [he]
  exact (block2 _ _ _ _).trans (congrArg₂ plus (nt_eq t (iblk2_0 V c t) (iblk2_1 V c t) i q) (iblk2_2 V c t i q))

/-- The gradient of the intra-chunk matrices. -/
theorem region3 : (dat3 V c).arrAt 2 cfg3.N = rowsRows (V c main_v0) (V c main_v4) := by
  refine (dat3 V c).arrAt_eq_of_covers 2 _ (by decide +kernel) fun t hf y => ?_
  blk_simp
  rw [after3_2]
  obtain ⟨e, i, j, rfl⟩ : ∃ (e : Fin 16) (i j : Fin 256), y = ix3 e i j := ⟨y 0, y 1, y 2, eq_ix3 y⟩
  have he : (win3_2.blk t).view.emb (ix3 e i j) = ix3 (grpAt t e) i j := by
    funext d
    apply Fin.ext
    blk_simp [index3_2]
    fin_cases d <;> simp [ix3, grpAt]
  rw [he]
  exact (block3 _ _ _).trans (tn_eq t (iblk3_0 V c t) (iblk3_1 V c t) e i j)

/-- The gradient of the matrices into the state. -/
theorem region4 : (dat4 V c).arrAt 2 cfg4.N = rowsRows (V c main_v0) (V c main_arg6) := by
  refine (dat4 V c).arrAt_eq_of_covers 2 _ (by decide +kernel) fun t hf y => ?_
  blk_simp
  rw [after4_2]
  obtain ⟨e, i, j, rfl⟩ : ∃ (e : Fin 16) (i j : Fin 256), y = ix3 e i j := ⟨y 0, y 1, y 2, eq_ix3 y⟩
  have he : (win4_2.blk t).view.emb (ix3 e i j) = ix3 (grpAt t e) i j := by
    funext d
    apply Fin.ext
    blk_simp [index4_2]
    fin_cases d <;> simp [ix3, grpAt]
  rw [he]
  exact (block4 _ _ _).trans (tn_eq t (iblk4_0 V c t) (iblk4_1 V c t) e i j)

/-- The gradient of the matrices out of the state. -/
theorem region5 : (dat5 V c).arrAt 2 cfg5.N = rowsRows (V c main_v4) (V c main_arg1) := by
  refine (dat5 V c).arrAt_eq_of_covers 2 _ (by decide +kernel) fun t hf y => ?_
  blk_simp
  rw [after5_2]
  obtain ⟨e, i, j, rfl⟩ : ∃ (e : Fin 16) (i j : Fin 256), y = ix3 e i j := ⟨y 0, y 1, y 2, eq_ix3 y⟩
  have he : (win5_2.blk t).view.emb (ix3 e i j) = ix3 (grpAt t e) i j := by
    funext d
    apply Fin.ext
    blk_simp [index5_2]
    fin_cases d <;> simp [ix3, grpAt]
  rw [he]
  exact (block5 _ _ _).trans (tn_eq t (iblk5_0 V c t) (iblk5_1 V c t) e i j)

end Cert.S5MmIdeal.Prod

end
-- ==== Proof.S5MmOut.lean ====
/- The S5 products' five results, from the seven arguments. -/
module

public import proofs.«01_k».proof.Proof.S5MmArr
public import Idealize.ShloMosaic.Lib.StableHlo.ReadAt

@[expose] public section

set_option maxRecDepth 16384

noncomputable section

namespace Cert.S5MmIdeal.Prod

open Cert.S5MmIdeal Cert.S5MmIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The seven arguments as extended reals. -/
abbrev inU : S256x16384.Idx → EReal := m ((c : Thread nD τ).loc main_arg0)
abbrev inX : S256x16384.Idx → EReal := m ((c : Thread nD τ).loc main_arg1)
abbrev inM : S64x256x256.Idx → EReal := m ((c : Thread nD τ).loc main_arg2)
abbrev inS : S64x256x256.Idx → EReal := m ((c : Thread nD τ).loc main_arg3)
abbrev inW : S64x256x256.Idx → EReal := m ((c : Thread nD τ).loc main_arg4)
abbrev inD : S256x16384.Idx → EReal := m ((c : Thread nD τ).loc main_arg5)
abbrev inE : S256x16384.Idx → EReal := m ((c : Thread nD τ).loc main_arg6)

/-- The casts before the first call change nothing. -/
theorem entry_0 : (W1 m ρ c (Proc.devRef .tc main_v0) : S256x16384.Idx → EReal) = inU m c := by
  funext y
  idx_vars y
  have h : StableHlo.after hostOps0 (W0 m ρ c) (Proc.devRef .tc main_v0) (ix2 y0 y1)
      = W0 m ρ c (Proc.devRef .tc main_arg0) (ix2 y0 y1) := by
    after_reads_at
  exact h

theorem entry_1 : (W1 m ρ c (Proc.devRef .tc main_v1) : S64x256x256.Idx → EReal) = inM m c := by
  funext y
  idx_vars y
  have h : StableHlo.after hostOps0 (W0 m ρ c) (Proc.devRef .tc main_v1) (ix3 y0 y1 y2)
      = W0 m ρ c (Proc.devRef .tc main_arg2) (ix3 y0 y1 y2) := by
    after_reads_at
  exact h

theorem entry_2 : (W1 m ρ c (Proc.devRef .tc main_v2) : S64x256x256.Idx → EReal) = inS m c := by
  funext y
  idx_vars y
  have h : StableHlo.after hostOps0 (W0 m ρ c) (Proc.devRef .tc main_v2) (ix3 y0 y1 y2)
      = W0 m ρ c (Proc.devRef .tc main_arg3) (ix3 y0 y1 y2) := by
    after_reads_at
  exact h

theorem entry_3 : (W1 m ρ c (Proc.devRef .tc main_v3) : S64x256x256.Idx → EReal) = inW m c := by
  funext y
  idx_vars y
  have h : StableHlo.after hostOps0 (W0 m ρ c) (Proc.devRef .tc main_v3) (ix3 y0 y1 y2)
      = W0 m ρ c (Proc.devRef .tc main_arg4) (ix3 y0 y1 y2) := by
    after_reads_at
  exact h

theorem entry_4 : (W1 m ρ c (Proc.devRef .tc main_v4) : S256x16384.Idx → EReal) = inD m c := by
  funext y
  idx_vars y
  have h : StableHlo.after hostOps0 (W0 m ρ c) (Proc.devRef .tc main_v4) (ix2 y0 y1)
      = W0 m ρ c (Proc.devRef .tc main_arg5) (ix2 y0 y1) := by
    after_reads_at
  exact h

/-- The gradient the state products send to their states. -/
theorem res0 : (W2 m ρ c (Proc.devRef .tc main_v5) : S256x16384.Idx → EReal) = rowsMat (inD m c) (inW m c) :=
  (W2_arr m ρ c 2).trans ((region0 (V1 m ρ) c).trans (congrArg₂ rowsMat (entry_4 m ρ c) (entry_3 m ρ c)))

/-- The intra-chunk products' share of the gradient of their input. -/
theorem res1 : (W3 m ρ c (Proc.devRef .tc main_v6) : S256x16384.Idx → EReal) = rowsMatT (inD m c) (inM m c) :=
  (W3_arr m ρ c 2).trans ((region1 (V2 m ρ) c).trans (congrArg₂ rowsMatT ((W2_of m ρ c main_v4 (by decide +kernel)).trans (entry_4 m ρ c)) ((W2_of m ρ c main_v1 (by decide +kernel)).trans (entry_1 m ρ c))))

/-- The gradient of the input, over that share. -/
theorem res2 : (W4 m ρ c (Proc.devRef .tc main_v7) : S256x16384.Idx → EReal) = fun y => plus (rowsMatT (inE m c) (inS m c) y) (rowsMatT (inD m c) (inM m c) y) :=
  (W4_arr m ρ c 3).trans ((region2 (V3 m ρ) c).trans (funext fun y => congrArg₂ plus (congrFun (congrArg₂ rowsMatT (W3_args m ρ c main_arg6 (by decide)) ((W3_of m ρ c main_v2 (by decide +kernel)).trans ((W2_of m ρ c main_v2 (by decide +kernel)).trans (entry_2 m ρ c)))) y) (congrFun (res1 m ρ c) y)))

/-- The gradient of the intra-chunk matrices. -/
theorem res3 : (W5 m ρ c (Proc.devRef .tc main_v8) : S64x256x256.Idx → EReal) = rowsRows (inU m c) (inD m c) :=
  (W5_arr m ρ c 2).trans ((region3 (V4 m ρ) c).trans (congrArg₂ rowsRows ((W4_of m ρ c main_v0 (by decide +kernel)).trans ((W3_of m ρ c main_v0 (by decide +kernel)).trans ((W2_of m ρ c main_v0 (by decide +kernel)).trans (entry_0 m ρ c)))) ((W4_of m ρ c main_v4 (by decide +kernel)).trans ((W3_of m ρ c main_v4 (by decide +kernel)).trans ((W2_of m ρ c main_v4 (by decide +kernel)).trans (entry_4 m ρ c))))))

/-- The gradient of the matrices into the state. -/
theorem res4 : (W6 m ρ c (Proc.devRef .tc main_v9) : S64x256x256.Idx → EReal) = rowsRows (inU m c) (inE m c) :=
  (W6_arr m ρ c 2).trans ((region4 (V5 m ρ) c).trans (congrArg₂ rowsRows ((W5_of m ρ c main_v0 (by decide +kernel)).trans ((W4_of m ρ c main_v0 (by decide +kernel)).trans ((W3_of m ρ c main_v0 (by decide +kernel)).trans ((W2_of m ρ c main_v0 (by decide +kernel)).trans (entry_0 m ρ c))))) (W5_args m ρ c main_arg6 (by decide))))

/-- The gradient of the matrices out of the state. -/
theorem res5 : (W7 m ρ c (Proc.devRef .tc main_v10) : S64x256x256.Idx → EReal) = rowsRows (inD m c) (inX m c) :=
  (W7_arr m ρ c 2).trans ((region5 (V6 m ρ) c).trans (congrArg₂ rowsRows ((W6_of m ρ c main_v4 (by decide +kernel)).trans ((W5_of m ρ c main_v4 (by decide +kernel)).trans ((W4_of m ρ c main_v4 (by decide +kernel)).trans ((W3_of m ρ c main_v4 (by decide +kernel)).trans ((W2_of m ρ c main_v4 (by decide +kernel)).trans (entry_4 m ρ c)))))) (W6_args m ρ c main_arg1 (by decide))))

theorem out0 : (W7 m ρ c (Proc.devRef .tc main_v5) : S256x16384.Idx → EReal) = rowsMat (inD m c) (inW m c) :=
  ((W7_of m ρ c main_v5 (by decide +kernel)).trans ((W6_of m ρ c main_v5 (by decide +kernel)).trans ((W5_of m ρ c main_v5 (by decide +kernel)).trans ((W4_of m ρ c main_v5 (by decide +kernel)).trans ((W3_of m ρ c main_v5 (by decide +kernel)).trans (res0 m ρ c))))))

theorem out2 : (W7 m ρ c (Proc.devRef .tc main_v7) : S256x16384.Idx → EReal) = fun y => plus (rowsMatT (inE m c) (inS m c) y) (rowsMatT (inD m c) (inM m c) y) :=
  ((W7_of m ρ c main_v7 (by decide +kernel)).trans ((W6_of m ρ c main_v7 (by decide +kernel)).trans ((W5_of m ρ c main_v7 (by decide +kernel)).trans (res2 m ρ c))))

theorem out3 : (W7 m ρ c (Proc.devRef .tc main_v8) : S64x256x256.Idx → EReal) = rowsRows (inU m c) (inD m c) :=
  ((W7_of m ρ c main_v8 (by decide +kernel)).trans ((W6_of m ρ c main_v8 (by decide +kernel)).trans (res3 m ρ c)))

theorem out4 : (W7 m ρ c (Proc.devRef .tc main_v9) : S64x256x256.Idx → EReal) = rowsRows (inU m c) (inE m c) :=
  ((W7_of m ρ c main_v9 (by decide +kernel)).trans (res4 m ρ c))

theorem out5 : (W7 m ρ c (Proc.devRef .tc main_v10) : S64x256x256.Idx → EReal) = rowsRows (inD m c) (inX m c) :=
  (res5 m ρ c)

end Cert.S5MmIdeal.Prod

end
-- ==== Proof.S5MmEq.lean ====
/- The S5 core's products: the kernel's five results are the reference's. -/
module

public import proofs.«01_k».proof.Defs
public import proofs.«01_k».proof.Proof.S5MmRun
public import proofs.«01_k».proof.Proof.S5MmOut
public import proofs.«01_k».proof.Proof.Gen.S5MmRIdeal.Run
public import Idealize.ShloMosaic.Lib.Quiescent

@[expose] public section

set_option maxRecDepth 16384

noncomputable section

namespace Cert.S5MmRIdeal.Prod

open Cert.S5MmRIdeal Cert.S5MmRIdeal.Gen Cert.S5MmRIdeal.Value Cert.S5MmIdeal.Prod
open Idealize.ShloMosaic Idealize.ShloMosaic.TcCoe Idealize.ShloMosaic.Tactic

/-- An array's groups as the middle axis, and as the first. -/
abbrev mid (a : FVec Ideal S256x16384 .f32) : FVec Ideal S256x64x256 .f32 := shapeCast _ a shapeCasts_S256x16384_S256x64x256
abbrev first (a : FVec Ideal S256x16384 .f32) : FVec Ideal S64x256x256 .f32 :=
  transpose S64x256x256 [1, 2, 0] (mid a) transposes_S256x64x256_S64x256x256_1_2_0

/-- The reference's terms as the same sums. -/
theorem mat_sum (a : FVec Ideal S256x16384 .f32) (w : FVec Ideal S64x256x256 .f32) :
    (shapeCast _ (transpose S256x64x256 [1, 0, 2] (Host.dotGeneral dot_S64x256x256_S64x256x256_S64x256x256_1_1_2_2_0_0 none (first a) w)
      transposes_S64x256x256_S256x64x256_1_0_2) shapeCasts_S256x64x256_S256x16384 : S256x16384.Idx → EReal) = rowsMat a w := by
  funext y
  idx_vars y
  unfold rowsMat
  pointwise [mid, first]
  rfl

theorem du_sum (e d : FVec Ideal S256x16384 .f32) (w v : FVec Ideal S64x256x256 .f32) :
    (truncf (F := Ideal) .bf16 (shapeCast _ (addf
      (transpose S256x64x256 [1, 0, 2] (Host.dotGeneral dot_S64x256x256_S64x256x256_S64x256x256_1_2_2_1_0_0 none (first e) w)
        transposes_S64x256x256_S256x64x256_1_0_2)
      (transpose S256x64x256 [1, 0, 2] (Host.dotGeneral dot_S64x256x256_S64x256x256_S64x256x256_1_2_2_1_0_0 none (first d) v)
        transposes_S64x256x256_S256x64x256_1_0_2)) shapeCasts_S256x64x256_S256x16384) bitsLt_bf16_f32 : S256x16384.Idx → EReal)
      = fun y => plus (rowsMatT e w y) (rowsMatT d v y) := by
  funext y
  idx_vars y
  unfold plus rowsMatT
  pointwise [mid, first]
  rfl

theorem rows_sum (a b : FVec Ideal S256x16384 .f32) :
    (Host.dotGeneral dot_S64x256x256_S256x64x256_S64x256x256_2_0_1_2_0_1 none (first a) (mid b) : S64x256x256.Idx → EReal)
      = rowsRows a b := by
  funext y
  idx_vars y
  unfold rowsRows
  pointwise [mid, first]
  rfl

theorem rows_sum_t (a b : FVec Ideal S256x16384 .f32) :
    (transpose S64x256x256 [0, 2, 1] (Host.dotGeneral dot_S64x256x256_S256x64x256_S64x256x256_2_0_1_2_0_1 none (first a) (mid b))
      transposes_S64x256x256_S64x256x256_0_2_1 : S64x256x256.Idx → EReal) = rowsRows b a := by
  funext y
  idx_vars y
  unfold rowsRows
  pointwise [mid, first]
  exact Finset.sum_congr rfl fun k _ => mul_comm (G := EReal) _ _

end Cert.S5MmRIdeal.Prod

namespace Cert.Proof

open Idealize.ShloMosaic Idealize.ShloMosaic.TcCoe Idealize.ShloMosaic.Tactic Idealize.SL.Sem
open Cert.S5MmIdeal.Prod Cert.S5MmRIdeal.Prod

theorem frame_s5_products_reference : Cert.quiescent_S5MmRIdeal := fun m ρ _ =>
  (θ_run (Cert.S5MmRIdeal.defs (F := Ideal)) _ _).mono (fun _ h => ⟨fun c => (h c).2.2.2.2.2, sem_eq_zero_of_no_sems rfl _⟩)
    (Cert.S5MmRIdeal.Value.run m ρ)

theorem equal_s5_products : Cert.algebraic_S5MmIdeal_S5MmRIdeal := fun m g m' g' _ hm =>
  ⟨fun c => Cert.S5MmIdeal.Gen.W7 m g c (Proc.devRef .tc Cert.S5MmIdeal.main_v5),
   fun c => Cert.S5MmIdeal.Gen.W7 m g c (Proc.devRef .tc Cert.S5MmIdeal.main_v7),
   fun c => Cert.S5MmIdeal.Gen.W7 m g c (Proc.devRef .tc Cert.S5MmIdeal.main_v8),
   fun c => Cert.S5MmIdeal.Gen.W7 m g c (Proc.devRef .tc Cert.S5MmIdeal.main_v9),
   fun c => Cert.S5MmIdeal.Gen.W7 m g c (Proc.devRef .tc Cert.S5MmIdeal.main_v10),
   (θ_run (Cert.S5MmIdeal.defs (F := Ideal)) _ _).mono (fun r h c => ⟨h c _ (by decide), h c _ (by decide), h c _ (by decide), h c _ (by decide), h c _ (by decide),
       (h c _ (by decide)).trans (Cert.S5MmIdeal.Gen.W7_main_arg0 m g c),
       (h c _ (by decide)).trans (Cert.S5MmIdeal.Gen.W7_main_arg1 m g c),
       (h c _ (by decide)).trans (Cert.S5MmIdeal.Gen.W7_main_arg2 m g c),
       (h c _ (by decide)).trans (Cert.S5MmIdeal.Gen.W7_main_arg3 m g c),
       (h c _ (by decide)).trans (Cert.S5MmIdeal.Gen.W7_main_arg4 m g c),
       (h c _ (by decide)).trans (Cert.S5MmIdeal.Gen.W7_main_arg5 m g c),
       (h c _ (by decide)).trans (Cert.S5MmIdeal.Gen.W7_main_arg6 m g c)⟩)
     (Cert.S5MmIdeal.Prod.run_all m g),
   (θ_run (Cert.S5MmRIdeal.defs (F := Ideal)) _ _).mono (fun r h c => ⟨
      (h c).1.trans (by
        rw [(hm c).2.2.2.2.2.1, (hm c).2.2.2.2.1]
        exact (mat_sum _ _).trans (out0 m g c).symm),
      (h c).2.1.trans (by
        rw [(hm c).2.2.2.2.2.2, (hm c).2.2.2.2.2.1, (hm c).2.2.2.1, (hm c).2.2.1]
        exact (du_sum _ _ _ _).trans (out2 m g c).symm),
      (h c).2.2.1.trans (by
        rw [(hm c).2.2.2.2.2.1, (hm c).1]
        exact (rows_sum_t _ _).trans (out3 m g c).symm),
      (h c).2.2.2.1.trans (by
        rw [(hm c).2.2.2.2.2.2, (hm c).1]
        exact (rows_sum_t _ _).trans (out4 m g c).symm),
      (h c).2.2.2.2.1.trans (by
        rw [(hm c).2.2.2.2.2.1, (hm c).2.1]
        exact (rows_sum _ _).trans (out5 m g c).symm),
      (h c).2.2.2.2.2⟩)
     (Cert.S5MmRIdeal.Value.run m' g')⟩

end Cert.Proof

end
-- ==== Proof.S5FwdRun.lean ====
/- The kernel's run with every buffer after it named: the launch set-up of the generated frame, its last thread state
   read against the final memory. -/
module

public import proofs.«01_k».proof.Proof.Gen.S5FwdIdeal.Frame

@[expose] public section

set_option maxRecDepth 16384

noncomputable section

namespace Cert.S5FwdIdeal.Prod

open Cert.S5FwdIdeal Cert.S5FwdIdeal.Gen Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every unscoped buffer holds what the last boundary's contents say. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ (mem_uc b hb))

end Cert.S5FwdIdeal.Prod
-- ==== Proof.S5FwdBlock.lean ====
/- The S5 core's forward products, block by block: sixteen groups' tiles of a block are the products of its groups. -/
module

public import proofs.«01_k».proof.Proof.Gen.S5FwdIdeal.Frame
public import Idealize.ShloMosaic.Lib.Pointwise
public import Idealize.ShloMosaic.Lib.WholeRead
public import Idealize.ShloMosaic.Lib.Pipeline.ValueKit

@[expose] public section

set_option maxRecDepth 16384

noncomputable section

namespace Cert.S5FwdIdeal.Prod

open Cert.S5FwdIdeal Cert.S5FwdIdeal.Gen
open Idealize.ShloMosaic Idealize.ShloMosaic.TcCoe Idealize.ShloMosaic.Tactic Idealize.SL.Sem

/-- A block's column: its group and its place in the group; and the column of a place of a group. -/
def grp (q : Fin 4096) : Fin 16 := ⟨q.val / 256, by omega⟩
def off (q : Fin 4096) : Fin 256 := ⟨q.val % 256, by omega⟩
def pos (e : Fin 16) (k : Fin 256) : Fin 4096 := ⟨e.val * 256 + k.val, by omega⟩

theorem grp_pos (e : Fin 16) (k : Fin 256) : grp (pos e k) = e := Fin.ext (by simp only [grp, pos]; omega)
theorem off_pos (e : Fin 16) (k : Fin 256) : off (pos e k) = k := Fin.ext (by simp only [off, pos]; omega)

/-- A group's rows times its matrix, and times the matrix's transpose. -/
def nn (a : S256x4096.Idx → EReal) (w : S16x256x256.Idx → EReal) (y : S256x4096.Idx) : EReal :=
  ∑ k : Fin 256, a (ix2 (y 0) (pos (grp (y 1)) k)) * w (ix3 (grp (y 1)) k (off (y 1)))
def nt (a : S256x4096.Idx → EReal) (w : S16x256x256.Idx → EReal) (y : S256x4096.Idx) : EReal :=
  ∑ k : Fin 256, a (ix2 (y 0) (pos (grp (y 1)) k)) * w (ix3 (grp (y 1)) (off (y 1)) k)

/-- A product with what it is added to. -/
def plus (p a : EReal) : EReal := p + a

theorem col_inb (e : Fin 16) : ∀ a, (![0, e.val * 256] : Fin 2 → Nat) a + S256x256.size a ≤ S256x4096.size a := by
  revert e; decide
theorem mat_inb (e : Fin 16) : ∀ a, (![e.val, 0, 0] : Fin 3 → Nat) a + S1x256x256.size a ≤ S16x256x256.size a := by
  revert e; decide

/-- A group's columns of a block, and its matrix. -/
abbrev cols (e : Fin 16) : Rect S256x4096 := Rect.unit (s := S256x4096) ![0, e.val * 256] S256x256.size (col_inb e)
abbrev mat (e : Fin 16) : Rect S16x256x256 := Rect.unit (s := S16x256x256) ![e.val, 0, 0] S1x256x256.size (mat_inb e)

theorem cols_emb (e : Fin 16) (i j : Fin 256) : (cols e).emb (ix2 i j) = ix2 i (pos e j) := by
  funext d
  apply Fin.ext
  blk_simp
  fin_cases d <;> simp [ix2, pos]

theorem mat_emb (e : Fin 16) (z : Fin 1) (i j : Fin 256) : (mat e).emb (ix3 z i j) = ix3 e i j := by
  funext d
  apply Fin.ext
  blk_simp
  fin_cases d <;> simp [ix3]

theorem ld_cols {e : EltTy} (x : Vec Ideal S256x4096 e) (g : Fin 16) (i j : Fin 256) :
    View.ld x (cols g) (ix2 i j) = x (ix2 i (pos g j)) := congrArg x (cols_emb g i j)
theorem ld_mat {e : EltTy} (x : Vec Ideal S16x256x256 e) (g : Fin 16) (z : Fin 1) (i j : Fin 256) :
    View.ld x (mat g) (ix3 z i j) = x (ix3 g i j) := congrArg x (mat_emb g z i j)

theorem pay0_at (x0 : Vec Ideal S256x256 .bf16) (x1 : Vec Ideal S1x256x256 .bf16) (i j : Fin 256) :
    (k0_pay1 x0 x1 : S256x256.Idx → EReal) (ix2 i j)
      = (∑ k : Fin 256, (x0 : S256x256.Idx → EReal) (ix2 i k) * (x1 : S1x256x256.Idx → EReal) (ix3 0 k j)) := by
  pointwise [k0_pay1]

theorem tile0 (x0 : Vec Ideal S256x4096 .bf16) (x1 : Vec Ideal S16x256x256 .bf16) (e : Fin 16) (x : S256x256.Idx) :
    (k0_pay1 (View.ld x0 (cols e)) (View.ld x1 (mat e)) : S256x256.Idx → EReal) x = nn x0 x1 ((cols e).emb x) := by
  obtain ⟨i, j, rfl⟩ : ∃ (i j : Fin 256), x = ix2 i j := ⟨x 0, x 1, eq_ix2 x⟩
  rw [cols_emb, pay0_at]
  unfold nn
  refine Finset.sum_congr rfl fun k _ => ?_
  rw [ld_cols, ld_mat]
  show _ = x0 (ix2 i (pos (grp (pos e j)) k)) * x1 (ix3 (grp (pos e j)) k (off (pos e j)))
  rw [grp_pos, off_pos]

/-- Rows times a matrix: what the call leaves in a block. -/
theorem block0 (x0 : Vec Ideal S256x4096 .bf16) (x1 : Vec Ideal S16x256x256 .bf16) (y : S256x4096.Idx) :
    (out0_2 x0 x1 : S256x4096.Idx → EReal) y = nn x0 x1 y := by
  unfold out0_2
  refine View.canon_apply_of_pieces (Val := Elt Ideal) (nn x0 x1) _ ?_ y (cover0_2 _ _ _ _ _ _ _ _ _ _ _ _ _ _ _ _ y)
  exact List.forall_mem_cons.2 ⟨tile0 x0 x1 15, List.forall_mem_cons.2 ⟨tile0 x0 x1 14, List.forall_mem_cons.2 ⟨tile0 x0 x1 13, List.forall_mem_cons.2 ⟨tile0 x0 x1 12, List.forall_mem_cons.2 ⟨tile0 x0 x1 11, List.forall_mem_cons.2 ⟨tile0 x0 x1 10, List.forall_mem_cons.2 ⟨tile0 x0 x1 9, List.forall_mem_cons.2 ⟨tile0 x0 x1 8, List.forall_mem_cons.2 ⟨tile0 x0 x1 7, List.forall_mem_cons.2 ⟨tile0 x0 x1 6, List.forall_mem_cons.2 ⟨tile0 x0 x1 5, List.forall_mem_cons.2 ⟨tile0 x0 x1 4, List.forall_mem_cons.2 ⟨tile0 x0 x1 3, List.forall_mem_cons.2 ⟨tile0 x0 x1 2, List.forall_mem_cons.2 ⟨tile0 x0 x1 1, List.forall_mem_cons.2 ⟨tile0 x0 x1 0, List.forall_mem_nil _⟩⟩⟩⟩⟩⟩⟩⟩⟩⟩⟩⟩⟩⟩⟩⟩

theorem pay1_at (x0 : Vec Ideal S256x256 .bf16) (x1 : Vec Ideal S1x256x256 .bf16) (i j : Fin 256) :
    (k1_pay1 x0 x1 : S256x256.Idx → EReal) (ix2 i j)
      = (∑ k : Fin 256, (x0 : S256x256.Idx → EReal) (ix2 i k) * (x1 : S1x256x256.Idx → EReal) (ix3 0 k j)) := by
  pointwise [k1_pay1]

theorem tile1 (x0 : Vec Ideal S256x4096 .bf16) (x1 : Vec Ideal S16x256x256 .bf16) (e : Fin 16) (x : S256x256.Idx) :
    (k1_pay1 (View.ld x0 (cols e)) (View.ld x1 (mat e)) : S256x256.Idx → EReal) x = nn x0 x1 ((cols e).emb x) := by
  obtain ⟨i, j, rfl⟩ : ∃ (i j : Fin 256), x = ix2 i j := ⟨x 0, x 1, eq_ix2 x⟩
  rw [cols_emb, pay1_at]
  unfold nn
  refine Finset.sum_congr rfl fun k _ => ?_
  rw [ld_cols, ld_mat]
  show _ = x0 (ix2 i (pos (grp (pos e j)) k)) * x1 (ix3 (grp (pos e j)) k (off (pos e j)))
  rw [grp_pos, off_pos]

/-- The same with the state matrix: what the call leaves in a block. -/
theorem block1 (x0 : Vec Ideal S256x4096 .bf16) (x1 : Vec Ideal S16x256x256 .bf16) (y : S256x4096.Idx) :
    (out1_2 x0 x1 : S256x4096.Idx → EReal) y = nn x0 x1 y := by
  unfold out1_2
  refine View.canon_apply_of_pieces (Val := Elt Ideal) (nn x0 x1) _ ?_ y (cover1_2 _ _ _ _ _ _ _ _ _ _ _ _ _ _ _ _ y)
  exact List.forall_mem_cons.2 ⟨tile1 x0 x1 15, List.forall_mem_cons.2 ⟨tile1 x0 x1 14, List.forall_mem_cons.2 ⟨tile1 x0 x1 13, List.forall_mem_cons.2 ⟨tile1 x0 x1 12, List.forall_mem_cons.2 ⟨tile1 x0 x1 11, List.forall_mem_cons.2 ⟨tile1 x0 x1 10, List.forall_mem_cons.2 ⟨tile1 x0 x1 9, List.forall_mem_cons.2 ⟨tile1 x0 x1 8, List.forall_mem_cons.2 ⟨tile1 x0 x1 7, List.forall_mem_cons.2 ⟨tile1 x0 x1 6, List.forall_mem_cons.2 ⟨tile1 x0 x1 5, List.forall_mem_cons.2 ⟨tile1 x0 x1 4, List.forall_mem_cons.2 ⟨tile1 x0 x1 3, List.forall_mem_cons.2 ⟨tile1 x0 x1 2, List.forall_mem_cons.2 ⟨tile1 x0 x1 1, List.forall_mem_cons.2 ⟨tile1 x0 x1 0, List.forall_mem_nil _⟩⟩⟩⟩⟩⟩⟩⟩⟩⟩⟩⟩⟩⟩⟩⟩

theorem pay2_at (x0 : Vec Ideal S256x256 .f32) (x1 : Vec Ideal S1x256x256 .bf16) (x2 : Vec Ideal S256x256 .f32) (i j : Fin 256) :
    (k2_pay3 x0 x1 x2 : S256x256.Idx → EReal) (ix2 i j)
      = plus (∑ k : Fin 256, (x0 : S256x256.Idx → EReal) (ix2 i k) * (x1 : S1x256x256.Idx → EReal) (ix3 0 j k)) ((x2 : S256x256.Idx → EReal) (ix2 i j)) := by
  unfold plus
  pointwise [k2_pay3]

theorem tile2 (x0 : Vec Ideal S256x4096 .f32) (x1 : Vec Ideal S16x256x256 .bf16) (x2 : Vec Ideal S256x4096 .f32) (e : Fin 16) (x : S256x256.Idx) :
    (k2_pay3 (View.ld x0 (cols e)) (View.ld x1 (mat e)) (View.ld x2 (cols e)) : S256x256.Idx → EReal) x = plus (nt x0 x1 ((cols e).emb x)) (x2 ((cols e).emb x)) := by
  obtain ⟨i, j, rfl⟩ : ∃ (i j : Fin 256), x = ix2 i j := ⟨x 0, x 1, eq_ix2 x⟩
  rw [cols_emb, pay2_at]
  unfold nt
  rw [ld_cols x2]
  refine congrArg (plus · _) ?_
  refine Finset.sum_congr rfl fun k _ => ?_
  rw [ld_cols, ld_mat]
  show _ = x0 (ix2 i (pos (grp (pos e j)) k)) * x1 (ix3 (grp (pos e j)) (off (pos e j)) k)
  rw [grp_pos, off_pos]

/-- Rows times a matrix's transpose, over what it is added to: what the call leaves in a block. -/
theorem block2 (x0 : Vec Ideal S256x4096 .f32) (x1 : Vec Ideal S16x256x256 .bf16) (x2 : Vec Ideal S256x4096 .f32) (y : S256x4096.Idx) :
    (out2_3 x0 x1 x2 : S256x4096.Idx → EReal) y = (fun z => plus (nt x0 x1 z) (x2 z)) y := by
  unfold out2_3
  refine View.canon_apply_of_pieces (Val := Elt Ideal) (fun z => plus (nt x0 x1 z) (x2 z)) _ ?_ y (cover2_3 _ _ _ _ _ _ _ _ _ _ _ _ _ _ _ _ y)
  exact List.forall_mem_cons.2 ⟨tile2 x0 x1 x2 15, List.forall_mem_cons.2 ⟨tile2 x0 x1 x2 14, List.forall_mem_cons.2 ⟨tile2 x0 x1 x2 13, List.forall_mem_cons.2 ⟨tile2 x0 x1 x2 12, List.forall_mem_cons.2 ⟨tile2 x0 x1 x2 11, List.forall_mem_cons.2 ⟨tile2 x0 x1 x2 10, List.forall_mem_cons.2 ⟨tile2 x0 x1 x2 9, List.forall_mem_cons.2 ⟨tile2 x0 x1 x2 8, List.forall_mem_cons.2 ⟨tile2 x0 x1 x2 7, List.forall_mem_cons.2 ⟨tile2 x0 x1 x2 6, List.forall_mem_cons.2 ⟨tile2 x0 x1 x2 5, List.forall_mem_cons.2 ⟨tile2 x0 x1 x2 4, List.forall_mem_cons.2 ⟨tile2 x0 x1 x2 3, List.forall_mem_cons.2 ⟨tile2 x0 x1 x2 2, List.forall_mem_cons.2 ⟨tile2 x0 x1 x2 1, List.forall_mem_cons.2 ⟨tile2 x0 x1 x2 0, List.forall_mem_nil _⟩⟩⟩⟩⟩⟩⟩⟩⟩⟩⟩⟩⟩⟩⟩⟩

end Cert.S5FwdIdeal.Prod

end
-- ==== Proof.S5FwdArr.lean ====
/- The S5 core's three forward products: what each call leaves in its output array, from the arrays it reads. -/
module

public import proofs.«01_k».proof.Proof.S5FwdBlock
public import Idealize.ShloMosaic.Lib.WholeRead
public import Idealize.ShloMosaic.Lib.Pipeline.ValueKit

@[expose] public section

set_option maxRecDepth 16384

noncomputable section

namespace Cert.S5FwdIdeal.Prod

open Cert.S5FwdIdeal Cert.S5FwdIdeal.Gen
open Idealize.ShloMosaic Idealize.ShloMosaic.TcCoe Idealize.ShloMosaic.Tactic Idealize.SL.Sem

/-- A column of the whole array: its group and its place in the group; and the column of a place of a group. -/
def group (q : Fin 16384) : Fin 64 := ⟨q.val / 256, by omega⟩
def place (q : Fin 16384) : Fin 256 := ⟨q.val % 256, by omega⟩
def chan (g : Fin 64) (k : Fin 256) : Fin 16384 := ⟨g.val * 256 + k.val, by omega⟩

/-- The column and the group that point `t`'s block holds at a column and a group of the block. -/
def colAt (t : Fin 4) (q : Fin 4096) : Fin 16384 := ⟨t.val * 4096 + q.val, by omega⟩
def grpAt (t : Fin 4) (e : Fin 16) : Fin 64 := ⟨t.val * 16 + e.val, by omega⟩

theorem group_colAt (t : Fin 4) (q : Fin 4096) : group (colAt t q) = grpAt t (grp q) :=
  Fin.ext (by simp only [group, colAt, grpAt, grp]; omega)
theorem place_colAt (t : Fin 4) (q : Fin 4096) : place (colAt t q) = off q :=
  Fin.ext (by simp only [place, colAt, off]; omega)
theorem colAt_pos (t : Fin 4) (e : Fin 16) (k : Fin 256) : colAt t (pos e k) = chan (grpAt t e) k :=
  Fin.ext (by simp only [colAt, pos, chan, grpAt]; omega)

/-- Each group's rows times its matrix, and times the matrix's transpose. -/
def rowsMat (a : S256x16384.Idx → EReal) (w : S64x256x256.Idx → EReal) (y : S256x16384.Idx) : EReal :=
  ∑ k : Fin 256, a (ix2 (y 0) (chan (group (y 1)) k)) * w (ix3 (group (y 1)) k (place (y 1)))
def rowsMatT (a : S256x16384.Idx → EReal) (w : S64x256x256.Idx → EReal) (y : S256x16384.Idx) : EReal :=
  ∑ k : Fin 256, a (ix2 (y 0) (chan (group (y 1)) k)) * w (ix3 (group (y 1)) (place (y 1)) k)

/-- A block's products are the arrays' at its columns and groups. -/
theorem nn_eq {a : S256x4096.Idx → EReal} {w : S16x256x256.Idx → EReal} {A : S256x16384.Idx → EReal} {W : S64x256x256.Idx → EReal}
    (t : Fin 4) (ha : ∀ i q, a (ix2 i q) = A (ix2 i (colAt t q))) (hw : ∀ e i j, w (ix3 e i j) = W (ix3 (grpAt t e) i j))
    (i : Fin 256) (q : Fin 4096) : nn a w (ix2 i q) = rowsMat A W (ix2 i (colAt t q)) := by
  show ∑ k : Fin 256, a (ix2 i (pos (grp q) k)) * w (ix3 (grp q) k (off q))
    = ∑ k : Fin 256, A (ix2 i (chan (group (colAt t q)) k)) * W (ix3 (group (colAt t q)) k (place (colAt t q)))
  simp only [ha, hw, group_colAt, place_colAt, colAt_pos]

theorem nt_eq {a : S256x4096.Idx → EReal} {w : S16x256x256.Idx → EReal} {A : S256x16384.Idx → EReal} {W : S64x256x256.Idx → EReal}
    (t : Fin 4) (ha : ∀ i q, a (ix2 i q) = A (ix2 i (colAt t q))) (hw : ∀ e i j, w (ix3 e i j) = W (ix3 (grpAt t e) i j))
    (i : Fin 256) (q : Fin 4096) : nt a w (ix2 i q) = rowsMatT A W (ix2 i (colAt t q)) := by
  show ∑ k : Fin 256, a (ix2 i (pos (grp q) k)) * w (ix3 (grp q) (off q) k)
    = ∑ k : Fin 256, A (ix2 i (chan (group (colAt t q)) k)) * W (ix3 (group (colAt t q)) (place (colAt t q)) k)
  simp only [ha, hw, group_colAt, place_colAt, colAt_pos]

variable (V : (c : Dev nD) → (b : Ref sig .tc) → Buf (Elt Ideal) ((c : Thread nD τ).loc b)) (c : Dev nD)

theorem index0_0 : ∀ t : Fin grid0.N, win0_0.index t = ![0, t.val] := by decide +kernel
theorem index0_1 : ∀ t : Fin grid0.N, win0_1.index t = ![t.val, 0, 0] := by decide +kernel
theorem index0_2 : ∀ t : Fin grid0.N, win0_2.index t = ![0, t.val] := by decide +kernel
theorem index1_0 : ∀ t : Fin grid1.N, win1_0.index t = ![0, t.val] := by decide +kernel
theorem index1_1 : ∀ t : Fin grid1.N, win1_1.index t = ![t.val, 0, 0] := by decide +kernel
theorem index1_2 : ∀ t : Fin grid1.N, win1_2.index t = ![0, t.val] := by decide +kernel
theorem index2_0 : ∀ t : Fin grid2.N, win2_0.index t = ![0, t.val] := by decide +kernel
theorem index2_1 : ∀ t : Fin grid2.N, win2_1.index t = ![t.val, 0, 0] := by decide +kernel
theorem index2_2 : ∀ t : Fin grid2.N, win2_2.index t = ![0, t.val] := by decide +kernel
theorem index2_3 : ∀ t : Fin grid2.N, win2_3.index t = ![0, t.val] := by decide +kernel

theorem iblk0_0 (t : Fin cfg0.grid.N) (i : Fin 256) (q : Fin 4096) : iblk0 V c 0 t (ix2 i q) = V c main_v0 (ix2 i (colAt t q)) := by
  blk_simp [iblk0]
  congr 1
  funext d
  apply Fin.ext
  fin_cases d <;> simp [ix2, colAt, index0_0]

theorem iblk0_1 (t : Fin cfg0.grid.N) (e : Fin 16) (i j : Fin 256) : iblk0 V c 1 t (ix3 e i j) = V c main_v1 (ix3 (grpAt t e) i j) := by
  blk_simp [iblk0]
  congr 1
  funext d
  apply Fin.ext
  fin_cases d <;> simp [ix3, grpAt, index0_1]

theorem iblk1_0 (t : Fin cfg1.grid.N) (i : Fin 256) (q : Fin 4096) : iblk1 V c 0 t (ix2 i q) = V c main_v0 (ix2 i (colAt t q)) := by
  blk_simp [iblk1]
  congr 1
  funext d
  apply Fin.ext
  fin_cases d <;> simp [ix2, colAt, index1_0]

theorem iblk1_1 (t : Fin cfg1.grid.N) (e : Fin 16) (i j : Fin 256) : iblk1 V c 1 t (ix3 e i j) = V c main_v2 (ix3 (grpAt t e) i j) := by
  blk_simp [iblk1]
  congr 1
  funext d
  apply Fin.ext
  fin_cases d <;> simp [ix3, grpAt, index1_1]

theorem iblk2_0 (t : Fin cfg2.grid.N) (i : Fin 256) (q : Fin 4096) : iblk2 V c 0 t (ix2 i q) = V c main_arg1 (ix2 i (colAt t q)) := by
  blk_simp [iblk2]
  congr 1
  funext d
  apply Fin.ext
  fin_cases d <;> simp [ix2, colAt, index2_0]

theorem iblk2_1 (t : Fin cfg2.grid.N) (e : Fin 16) (i j : Fin 256) : iblk2 V c 1 t (ix3 e i j) = V c main_v3 (ix3 (grpAt t e) i j) := by
  blk_simp [iblk2]
  congr 1
  funext d
  apply Fin.ext
  fin_cases d <;> simp [ix3, grpAt, index2_1]

theorem iblk2_2 (t : Fin cfg2.grid.N) (i : Fin 256) (q : Fin 4096) : iblk2 V c 2 t (ix2 i q) = V c main_v4 (ix2 i (colAt t q)) := by
  blk_simp [iblk2]
  congr 1
  funext d
  apply Fin.ext
  fin_cases d <;> simp [ix2, colAt, index2_2]

/-- The input times the matrices within a chunk. -/
theorem region0 : (dat0 V c).arrAt 2 cfg0.N = rowsMat (V c main_v0) (V c main_v1) := by
  refine (dat0 V c).arrAt_eq_of_covers 2 _ (by decide +kernel) fun t hf y => ?_
  blk_simp
  rw [after0_2]
  obtain ⟨i, q, rfl⟩ : ∃ (i : Fin 256) (q : Fin 4096), y = ix2 i q := ⟨y 0, y 1, eq_ix2 y⟩
  have he : (win0_2.blk t).view.emb (ix2 i q) = ix2 i (colAt t q) := by
    funext d
    apply Fin.ext
    blk_simp [index0_2]
    fin_cases d <;> simp [ix2, colAt]
  rw [he]
  exact (block0 _ _ _).trans (nn_eq t (iblk0_0 V c t) (iblk0_1 V c t) i q)

/-- The chunk sums. -/
theorem region1 : (dat1 V c).arrAt 2 cfg1.N = rowsMat (V c main_v0) (V c main_v2) := by
  refine (dat1 V c).arrAt_eq_of_covers 2 _ (by decide +kernel) fun t hf y => ?_
  blk_simp
  rw [after1_2]
  obtain ⟨i, q, rfl⟩ : ∃ (i : Fin 256) (q : Fin 4096), y = ix2 i q := ⟨y 0, y 1, eq_ix2 y⟩
  have he : (win1_2.blk t).view.emb (ix2 i q) = ix2 i (colAt t q) := by
    funext d
    apply Fin.ext
    blk_simp [index1_2]
    fin_cases d <;> simp [ix2, colAt]
  rw [he]
  exact (block1 _ _ _).trans (nn_eq t (iblk1_0 V c t) (iblk1_1 V c t) i q)

/-- The states times the output matrices, over the first product. -/
theorem region2 : (dat2 V c).arrAt 3 cfg2.N = fun y : S256x16384.Idx =>
    plus (rowsMatT (V c main_arg1) (V c main_v3) y) (V c main_v4 y) := by
  refine (dat2 V c).arrAt_eq_of_covers 3 _ (by decide +kernel) fun t hf y => ?_
  blk_simp
  rw [after2_3]
  obtain ⟨i, q, rfl⟩ : ∃ (i : Fin 256) (q : Fin 4096), y = ix2 i q := ⟨y 0, y 1, eq_ix2 y⟩
  have he : (win2_3.blk t).view.emb (ix2 i q) = ix2 i (colAt t q) := by
    funext d
    apply Fin.ext
    blk_simp [index2_3]
    fin_cases d <;> simp [ix2, colAt]
  rw [he]
  exact (block2 _ _ _ _).trans (congrArg₂ plus (nt_eq t (iblk2_0 V c t) (iblk2_1 V c t) i q) (iblk2_2 V c t i q))

end Cert.S5FwdIdeal.Prod

end
-- ==== Proof.S5FwdOut.lean ====
/- The forward products' two results, from the five arguments. -/
module

public import proofs.«01_k».proof.Proof.S5FwdArr
public import Idealize.ShloMosaic.Lib.StableHlo.ReadAt

@[expose] public section

set_option maxRecDepth 16384

noncomputable section

namespace Cert.S5FwdIdeal.Prod

open Cert.S5FwdIdeal Cert.S5FwdIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The five arguments as extended reals. -/
abbrev inU : S256x16384.Idx → EReal := m ((c : Thread nD τ).loc main_arg0)
abbrev inX : S256x16384.Idx → EReal := m ((c : Thread nD τ).loc main_arg1)
abbrev inM : S64x256x256.Idx → EReal := m ((c : Thread nD τ).loc main_arg2)
abbrev inS : S64x256x256.Idx → EReal := m ((c : Thread nD τ).loc main_arg3)
abbrev inW : S64x256x256.Idx → EReal := m ((c : Thread nD τ).loc main_arg4)

/-- The casts before the first call change nothing. -/
theorem entry_0 : (W1 m ρ c (Proc.devRef .tc main_v0) : S256x16384.Idx → EReal) = inU m c := by
  funext y
  idx_vars y
  have h : StableHlo.after hostOps0 (W0 m ρ c) (Proc.devRef .tc main_v0) (ix2 y0 y1)
      = W0 m ρ c (Proc.devRef .tc main_arg0) (ix2 y0 y1) := by
    after_reads_at
  exact h

theorem entry_1 : (W1 m ρ c (Proc.devRef .tc main_v1) : S64x256x256.Idx → EReal) = inM m c := by
  funext y
  idx_vars y
  have h : StableHlo.after hostOps0 (W0 m ρ c) (Proc.devRef .tc main_v1) (ix3 y0 y1 y2)
      = W0 m ρ c (Proc.devRef .tc main_arg2) (ix3 y0 y1 y2) := by
    after_reads_at
  exact h

theorem entry_2 : (W1 m ρ c (Proc.devRef .tc main_v2) : S64x256x256.Idx → EReal) = inS m c := by
  funext y
  idx_vars y
  have h : StableHlo.after hostOps0 (W0 m ρ c) (Proc.devRef .tc main_v2) (ix3 y0 y1 y2)
      = W0 m ρ c (Proc.devRef .tc main_arg3) (ix3 y0 y1 y2) := by
    after_reads_at
  exact h

theorem entry_3 : (W1 m ρ c (Proc.devRef .tc main_v3) : S64x256x256.Idx → EReal) = inW m c := by
  funext y
  idx_vars y
  have h : StableHlo.after hostOps0 (W0 m ρ c) (Proc.devRef .tc main_v3) (ix3 y0 y1 y2)
      = W0 m ρ c (Proc.devRef .tc main_arg4) (ix3 y0 y1 y2) := by
    after_reads_at
  exact h

/-- The input times the matrices within a chunk. -/
theorem res0 : (W2 m ρ c (Proc.devRef .tc main_v4) : S256x16384.Idx → EReal) = rowsMat (inU m c) (inM m c) :=
  (W2_arr m ρ c 2).trans ((region0 (V1 m ρ) c).trans (congrArg₂ rowsMat (entry_0 m ρ c) (entry_1 m ρ c)))

/-- The chunk sums. -/
theorem res1 : (W3 m ρ c (Proc.devRef .tc main_v5) : S256x16384.Idx → EReal) = rowsMat (inU m c) (inS m c) :=
  (W3_arr m ρ c 2).trans ((region1 (V2 m ρ) c).trans (congrArg₂ rowsMat ((W2_of m ρ c main_v0 (by decide +kernel)).trans (entry_0 m ρ c)) ((W2_of m ρ c main_v2 (by decide +kernel)).trans (entry_2 m ρ c))))

/-- The states times the output matrices, over the first product. -/
theorem res2 : (W4 m ρ c (Proc.devRef .tc main_v6) : S256x16384.Idx → EReal) = fun y => plus (rowsMatT (inX m c) (inW m c) y) (rowsMat (inU m c) (inM m c) y) :=
  (W4_arr m ρ c 3).trans ((region2 (V3 m ρ) c).trans (funext fun y => congrArg₂ plus (congrFun (congrArg₂ rowsMatT (W3_args m ρ c main_arg1 (by decide)) ((W3_of m ρ c main_v3 (by decide +kernel)).trans ((W2_of m ρ c main_v3 (by decide +kernel)).trans (entry_3 m ρ c)))) y) (congrFun ((W3_of m ρ c main_v4 (by decide +kernel)).trans (res0 m ρ c)) y)))

theorem out1 : (W4 m ρ c (Proc.devRef .tc main_v5) : S256x16384.Idx → EReal) = rowsMat (inU m c) (inS m c) :=
  ((W4_of m ρ c main_v5 (by decide +kernel)).trans (res1 m ρ c))

theorem out2 : (W4 m ρ c (Proc.devRef .tc main_v6) : S256x16384.Idx → EReal) = fun y => plus (rowsMatT (inX m c) (inW m c) y) (rowsMat (inU m c) (inM m c) y) :=
  (res2 m ρ c)

end Cert.S5FwdIdeal.Prod

end
-- ==== Proof.S5FwdEq.lean ====
/- The S5 core's forward products: the kernel's two results are the reference's. -/
module

public import proofs.«01_k».proof.Defs
public import proofs.«01_k».proof.Proof.S5FwdRun
public import proofs.«01_k».proof.Proof.S5FwdOut
public import proofs.«01_k».proof.Proof.Gen.S5FwdRIdeal.Run
public import Idealize.ShloMosaic.Lib.Quiescent

@[expose] public section

set_option maxRecDepth 16384

noncomputable section

namespace Cert.S5FwdRIdeal.Prod

open Cert.S5FwdRIdeal Cert.S5FwdRIdeal.Gen Cert.S5FwdRIdeal.Value Cert.S5FwdIdeal.Prod
open Idealize.ShloMosaic Idealize.ShloMosaic.TcCoe Idealize.ShloMosaic.Tactic

/-- An array's groups as the middle axis. -/
abbrev mid (a : FVec Ideal S256x16384 .f32) : FVec Ideal S256x64x256 .f32 := shapeCast _ a shapeCasts_S256x16384_S256x64x256

/-- The reference's terms as the same sums. -/
theorem state_sum (a : FVec Ideal S256x16384 .f32) (w : FVec Ideal S64x256x256 .f32) :
    (shapeCast _ (transpose S256x64x256 [2, 0, 1] (Host.dotGeneral dot_S64x256x256_S256x64x256_S64x256x256_1_2_2_0_0_1 none w (mid a))
      transposes_S64x256x256_S256x64x256_2_0_1) shapeCasts_S256x64x256_S256x16384 : S256x16384.Idx → EReal) = rowsMat a w := by
  funext y
  idx_vars y
  unfold rowsMat
  pointwise [mid]
  exact Finset.sum_congr rfl fun k _ => mul_comm (G := EReal) _ _

theorem out_sum (a x : FVec Ideal S256x16384 .f32) (w v : FVec Ideal S64x256x256 .f32) :
    (truncf (F := Ideal) .bf16 (shapeCast _ (addf
      (transpose S256x64x256 [2, 0, 1] (Host.dotGeneral dot_S64x256x256_S256x64x256_S64x256x256_1_2_2_0_0_1 none w (mid a))
        transposes_S64x256x256_S256x64x256_2_0_1)
      (transpose S256x64x256 [2, 0, 1] (Host.dotGeneral dot_S64x256x256_S256x64x256_S64x256x256_2_2_1_0_0_1 none v (mid x))
        transposes_S64x256x256_S256x64x256_2_0_1)) shapeCasts_S256x64x256_S256x16384) bitsLt_bf16_f32 : S256x16384.Idx → EReal)
      = fun y => plus (rowsMatT x v y) (rowsMat a w y) := by
  funext y
  idx_vars y
  unfold plus rowsMatT rowsMat
  pointwise [mid]
  exact (add_comm (G := EReal) _ _).trans (congrArg₂ (· + ·) (Finset.sum_congr rfl fun k _ => mul_comm (G := EReal) _ _)
    (Finset.sum_congr rfl fun k _ => mul_comm (G := EReal) _ _))

end Cert.S5FwdRIdeal.Prod

namespace Cert.Proof

open Idealize.ShloMosaic Idealize.ShloMosaic.TcCoe Idealize.ShloMosaic.Tactic Idealize.SL.Sem
open Cert.S5FwdIdeal.Prod Cert.S5FwdRIdeal.Prod

theorem frame_s5_outputs_reference : Cert.quiescent_S5FwdRIdeal := fun m ρ _ =>
  (θ_run (Cert.S5FwdRIdeal.defs (F := Ideal)) _ _).mono (fun _ h => ⟨fun c => (h c).2.2, sem_eq_zero_of_no_sems rfl _⟩)
    (Cert.S5FwdRIdeal.Value.run m ρ)

theorem equal_s5_outputs : Cert.algebraic_S5FwdIdeal_S5FwdRIdeal := fun m g m' g' _ hm =>
  ⟨fun c => Cert.S5FwdIdeal.Gen.W4 m g c (Proc.devRef .tc Cert.S5FwdIdeal.main_v6),
   fun c => Cert.S5FwdIdeal.Gen.W4 m g c (Proc.devRef .tc Cert.S5FwdIdeal.main_v5),
   (θ_run (Cert.S5FwdIdeal.defs (F := Ideal)) _ _).mono (fun r h c => ⟨h c _ (by decide), h c _ (by decide),
       (h c _ (by decide)).trans (Cert.S5FwdIdeal.Gen.W4_main_arg0 m g c),
       (h c _ (by decide)).trans (Cert.S5FwdIdeal.Gen.W4_main_arg1 m g c),
       (h c _ (by decide)).trans (Cert.S5FwdIdeal.Gen.W4_main_arg2 m g c),
       (h c _ (by decide)).trans (Cert.S5FwdIdeal.Gen.W4_main_arg3 m g c),
       (h c _ (by decide)).trans (Cert.S5FwdIdeal.Gen.W4_main_arg4 m g c)⟩)
     (Cert.S5FwdIdeal.Prod.run_all m g),
   (θ_run (Cert.S5FwdRIdeal.defs (F := Ideal)) _ _).mono (fun r h c => ⟨
      (h c).1.trans (by
        rw [(hm c).1, (hm c).2.1, (hm c).2.2.1, (hm c).2.2.2.2]
        exact (out_sum _ _ _ _).trans (out2 m g c).symm),
      (h c).2.1.trans (by
        rw [(hm c).1, (hm c).2.2.2.1]
        exact (state_sum _ _).trans (out1 m g c).symm),
      (h c).2.2⟩)
     (Cert.S5FwdRIdeal.Value.run m' g')⟩

end Cert.Proof

end
-- ==== Proof.lean ====
/- The certificate: the kernel's two readings and the reference run and leave their arguments alone, and the kernel's
   results over the extended reals are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InDw.Frame
public import proofs.«01_k».proof.Proof.Gen.InDwIdeal.Frame
public import proofs.«01_k».proof.Proof.Gen.InDwIdeal.Value
public import proofs.«01_k».proof.Proof.Gen.InDwRIdeal.Run
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRIdeal.Run
public import proofs.«01_k».proof.Proof.Gen.GateDx.Frame
public import proofs.«01_k».proof.Proof.Gen.GateDxIdeal.Frame
public import proofs.«01_k».proof.Proof.Gen.GateDxIdeal.Value
public import proofs.«01_k».proof.Proof.Gen.GateDxRIdeal.Run
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRIdeal.Run
public import proofs.«01_k».proof.Proof.Gen.Glu.Frame
public import proofs.«01_k».proof.Proof.Gen.GluIdeal.Frame
public import proofs.«01_k».proof.Proof.Gen.GluRIdeal.Run
public import proofs.«01_k».proof.Proof.Gen.Proj.Frame
public import proofs.«01_k».proof.Proof.Gen.ProjIdeal.Frame
public import proofs.«01_k».proof.Proof.Gen.ProjRIdeal.Run
public import proofs.«01_k».proof.Proof.Gen.ProjInDw.Frame
public import proofs.«01_k».proof.Proof.Gen.ProjInDwIdeal.Frame
public import proofs.«01_k».proof.Proof.Gen.ProjInDwIdeal.Value
public import proofs.«01_k».proof.Proof.Gen.ProjInDwRIdeal.Run
public import proofs.«01_k».proof.Proof.Gen.ProjInDx.Frame
public import proofs.«01_k».proof.Proof.Gen.ProjInDxIdeal.Frame
public import proofs.«01_k».proof.Proof.Gen.ProjInDxIdeal.Value
public import proofs.«01_k».proof.Proof.Gen.ProjInDxRIdeal.Run
public import proofs.«01_k».proof.Proof.Gen.ProjOutDw.Frame
public import proofs.«01_k».proof.Proof.Gen.ProjOutDwIdeal.Frame
public import proofs.«01_k».proof.Proof.Gen.ProjOutDwIdeal.Value
public import proofs.«01_k».proof.Proof.Gen.ProjOutDwRIdeal.Run
public import proofs.«01_k».proof.Proof.Gen.ProjGluDw.Frame
public import proofs.«01_k».proof.Proof.Gen.ProjGluDwIdeal.Frame
public import proofs.«01_k».proof.Proof.Gen.ProjGluDwIdeal.Value
public import proofs.«01_k».proof.Proof.Gen.ProjGluDwRIdeal.Run
public import proofs.«01_k».proof.Proof.Gen.Loss.Frame
public import proofs.«01_k».proof.Proof.Gen.LossIdeal.Frame
public import proofs.«01_k».proof.Proof.Gen.LossRIdeal.Run
public import proofs.«01_k».proof.Proof.Equal
public import proofs.«01_k».proof.Proof.InDwEq
public import proofs.«01_k».proof.Proof.DownDwEq
public import proofs.«01_k».proof.Proof.GateDxEq
public import proofs.«01_k».proof.Proof.UpDxEq
public import proofs.«01_k».proof.Proof.GluEq
public import proofs.«01_k».proof.Proof.ProjEq
public import proofs.«01_k».proof.Proof.ProjInDwEq
public import proofs.«01_k».proof.Proof.ProjInDxEq
public import proofs.«01_k».proof.Proof.ProjOutDwEq
public import proofs.«01_k».proof.Proof.ProjGluDwEq
public import proofs.«01_k».proof.Proof.LossEq
public import proofs.«01_k».proof.Proof.NormBwdEq
public import proofs.«01_k».proof.Proof.MixBwdEq
public import proofs.«01_k».proof.Proof.S5MmEq
public import proofs.«01_k».proof.Proof.S5FwdEq
public import proofs.«01_k».proof.Proof.Gen.NormBwd.Frame
public import proofs.«01_k».proof.Proof.Gen.MixBwd.Frame
public import proofs.«01_k».proof.Proof.Gen.S5Mm.Frame
public import proofs.«01_k».proof.Proof.Gen.S5MmIdeal.Frame
public import proofs.«01_k».proof.Proof.Gen.S5MmRIdeal.Run
public import proofs.«01_k».proof.Proof.Gen.S5Fwd.Frame
public import proofs.«01_k».proof.Proof.Gen.S5FwdIdeal.Frame
public import proofs.«01_k».proof.Proof.Gen.S5FwdRIdeal.Run
public import proofs.«01_k».proof.Proof.Gen.MixBwdIdeal.Frame
public import proofs.«01_k».proof.Proof.Gen.MixBwdRIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.InDw.Gen.facts, Cert.InDwIdeal.Gen.facts, Cert.InDwRIdeal.Gen.facts,
  Cert.DownDw.Gen.facts, Cert.DownDwIdeal.Gen.facts, Cert.DownDwRIdeal.Gen.facts,
  Cert.GateDx.Gen.facts, Cert.GateDxIdeal.Gen.facts, Cert.GateDxRIdeal.Gen.facts,
  Cert.UpDx.Gen.facts, Cert.UpDxIdeal.Gen.facts, Cert.UpDxRIdeal.Gen.facts,
  Cert.Glu.Gen.facts, Cert.GluIdeal.Gen.facts, Cert.GluRIdeal.Gen.facts,
  Cert.Proj.Gen.facts, Cert.ProjIdeal.Gen.facts, Cert.ProjRIdeal.Gen.facts,
  Cert.ProjInDw.Gen.facts, Cert.ProjInDwIdeal.Gen.facts, Cert.ProjInDwRIdeal.Gen.facts,
  Cert.ProjInDx.Gen.facts, Cert.ProjInDxIdeal.Gen.facts, Cert.ProjInDxRIdeal.Gen.facts,
  Cert.ProjOutDw.Gen.facts, Cert.ProjOutDwIdeal.Gen.facts, Cert.ProjOutDwRIdeal.Gen.facts,
  Cert.ProjGluDw.Gen.facts, Cert.ProjGluDwIdeal.Gen.facts, Cert.ProjGluDwRIdeal.Gen.facts,
  Cert.Loss.Gen.facts, Cert.LossIdeal.Gen.facts, Cert.LossRIdeal.Gen.facts,
  Cert.NormBwd.Gen.facts, Cert.NormBwdIdeal.Gen.facts, Cert.NormBwdRIdeal.Gen.facts,
  Cert.MixBwd.Gen.facts, Cert.MixBwdIdeal.Gen.facts, Cert.MixBwdRIdeal.Gen.facts,
  Cert.S5Mm.Gen.facts, Cert.S5MmIdeal.Gen.facts, Cert.S5MmRIdeal.Gen.facts,
  Cert.S5Fwd.Gen.facts, Cert.S5FwdIdeal.Gen.facts, Cert.S5FwdRIdeal.Gen.facts,
  Cert.Pre_finite.Prod.shapes,
  fun m ρ _ => Cert.Kernel.Gen.frame m ρ, fun m ρ _ => Cert.KernelIdeal.Gen.frame m ρ, frame_reference,
  fun m ρ _ => Cert.InDw.Gen.frame m ρ, fun m ρ _ => Cert.InDwIdeal.Gen.frame m ρ, frame_in_dw_reference,
  fun m ρ _ => Cert.DownDw.Gen.frame m ρ, fun m ρ _ => Cert.DownDwIdeal.Gen.frame m ρ, frame_down_dw_reference,
  fun m ρ _ => Cert.GateDx.Gen.frame m ρ, fun m ρ _ => Cert.GateDxIdeal.Gen.frame m ρ, frame_gate_dx_reference,
  fun m ρ _ => Cert.UpDx.Gen.frame m ρ, fun m ρ _ => Cert.UpDxIdeal.Gen.frame m ρ, frame_up_dx_reference,
  fun m ρ _ => Cert.Glu.Gen.frame m ρ, fun m ρ _ => Cert.GluIdeal.Gen.frame m ρ, fun m ρ _ => Cert.GluIdeal.Gen.frame m ρ,
  frame_glu_reference, fun m ρ _ => frame_glu_reference m ρ trivial,
  fun m ρ _ => Cert.Proj.Gen.frame m ρ, fun m ρ _ => Cert.ProjIdeal.Gen.frame m ρ, frame_proj_reference,
  fun m ρ _ => Cert.ProjInDw.Gen.frame m ρ, fun m ρ _ => Cert.ProjInDwIdeal.Gen.frame m ρ, frame_proj_in_dw_reference,
  fun m ρ _ => Cert.ProjInDx.Gen.frame m ρ, fun m ρ _ => Cert.ProjInDxIdeal.Gen.frame m ρ, frame_proj_in_dx_reference,
  fun m ρ _ => Cert.ProjOutDw.Gen.frame m ρ, fun m ρ _ => Cert.ProjOutDwIdeal.Gen.frame m ρ, frame_proj_out_dw_reference,
  fun m ρ _ => Cert.ProjGluDw.Gen.frame m ρ, fun m ρ _ => Cert.ProjGluDwIdeal.Gen.frame m ρ, frame_proj_glu_dw_reference,
  fun m ρ _ => Cert.Loss.Gen.frame m ρ, fun m ρ _ => Cert.LossIdeal.Gen.frame m ρ, frame_loss_reference,
  fun m ρ _ => Cert.NormBwd.Gen.frame m ρ, fun m ρ _ => Cert.NormBwdIdeal.Gen.frame m ρ, frame_norm_bwd_reference,
  fun m ρ _ => Cert.MixBwd.Gen.frame m ρ, fun m ρ _ => Cert.MixBwdIdeal.Gen.frame m ρ, frame_mix_bwd_reference,
  fun m ρ _ => Cert.S5Mm.Gen.frame m ρ, fun m ρ _ => Cert.S5MmIdeal.Gen.frame m ρ, frame_s5_products_reference,
  fun m ρ _ => Cert.S5Fwd.Gen.frame m ρ, fun m ρ _ => Cert.S5FwdIdeal.Gen.frame m ρ, frame_s5_outputs_reference,
  trivial, equal, trivial, equal_in_dw, trivial, equal_down_dw, trivial, equal_gate_dx, trivial, equal_up_dx,
  trivial, equal_glu,
  trivial, equal_proj, trivial, equal_proj_in_dw, trivial, equal_proj_in_dx,
  trivial, equal_proj_out_dw, trivial, equal_proj_glu_dw, trivial, equal_loss, trivial, equal_norm_bwd,
  trivial, equal_mix_bwd, trivial, equal_s5_products, trivial, equal_s5_outputs⟩

end Cert.Proof

end
